-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnKernelIdeal_finite2 [hPre_finite2 : Cert.Pre_finite2.Facts] (m : (ℓ : Loc Cert.FfnKernelIdeal.nD Cert.FfnKernelIdeal.τ Cert.FfnKernelIdeal.sig) → Buf (Elt Ideal) ℓ) : Prop :=
  ∀ c : Dev Cert.FfnKernelIdeal.nD,
    (Cert.Pre_finite2.fn (F := Ideal) (m ((c.tc : Thread Cert.FfnKernelIdeal.nD Cert.FfnKernelIdeal.τ).loc Cert.FfnKernelIdeal.main_arg0)) (m ((c.tc : Thread Cert.FfnKernelIdeal.nD Cert.FfnKernelIdeal.τ).loc Cert.FfnKernelIdeal.main_arg1)) (m ((c.tc : Thread Cert.FfnKernelIdeal.nD Cert.FfnKernelIdeal.τ).loc Cert.FfnKernelIdeal.main_arg2)) (m ((c.tc : Thread Cert.FfnKernelIdeal.nD Cert.FfnKernelIdeal.τ).loc Cert.FfnKernelIdeal.main_arg3))) = (fun _ => 1#1)

def Pre_FfnReferenceIdeal (m : (ℓ : Loc Cert.FfnReferenceIdeal.nD Cert.FfnReferenceIdeal.τ Cert.FfnReferenceIdeal.sig) → Buf (Elt Ideal) ℓ) : Prop :=
  True

def Pre_FfnReferenceIdeal_finite2 [hPre_finite2 : Cert.Pre_finite2.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_finite2.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3))) = (fun _ => 1#1)

def Pre_LinKernel (m : (ℓ : Loc Cert.LinKernel.nD Cert.LinKernel.τ Cert.LinKernel.sig) → Buf (Elt Bits) ℓ) : Prop :=
  True

def Pre_LinKernelIdeal (m : (ℓ : Loc Cert.LinKernelIdeal.nD Cert.LinKernelIdeal.τ Cert.LinKernelIdeal.sig) → Buf (Elt Ideal) ℓ) : Prop :=
  True

def Pre_LinReferenceIdeal (m : (ℓ : Loc Cert.LinReferenceIdeal.nD Cert.LinReferenceIdeal.τ Cert.LinReferenceIdeal.sig) → Buf (Elt Ideal) ℓ) : Prop :=
  True

def Pre_OptKernel (m : (ℓ : Loc Cert.OptKernel.nD Cert.OptKernel.τ Cert.OptKernel.sig) → Buf (Elt Bits) ℓ) : Prop :=
  True

def Pre_OptKernelIdeal (m : (ℓ : Loc Cert.OptKernelIdeal.nD Cert.OptKernelIdeal.τ Cert.OptKernelIdeal.sig) → Buf (Elt Ideal) ℓ) : Prop :=
  True

def Pre_OptReferenceIdeal (m : (ℓ : Loc Cert.OptReferenceIdeal.nD Cert.OptReferenceIdeal.τ Cert.OptReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnKernelIdeal_pre_finite2 [hFfnKernelIdeal : Cert.FfnKernelIdeal.Facts] [hPre_finite2 : Cert.Pre_finite2.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal_finite2 m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_FfnReferenceIdeal_pre_finite2 [hFfnReferenceIdeal : Cert.FfnReferenceIdeal.Facts] [hPre_finite2 : Cert.Pre_finite2.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal_finite2 m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_LinKernel [hLinKernel : Cert.LinKernel.Facts] : Prop :=
  ∀ (m : (ℓ : Loc Cert.LinKernel.nD Cert.LinKernel.τ Cert.LinKernel.sig) → Buf (Elt Bits) ℓ) (g : Dev Cert.LinKernel.nD → PrngReg), Pre_LinKernel m →
    θ_run (Cert.LinKernel.defs (F := Bits)) (onTc (τ := Cert.LinKernel.τ) (Cert.LinKernel.main (F := Bits))) ⟨m, fun _ => 0, g⟩ (fun r => (∀ c : Dev Cert.LinKernel.nD,
      r.2.mem ((c.tc : Thread Cert.LinKernel.nD Cert.LinKernel.τ).loc Cert.LinKernel.main_arg0) = m ((c.tc : Thread Cert.LinKernel.nD Cert.LinKernel.τ).loc Cert.LinKernel.main_arg0)
      ∧ r.2.mem ((c.tc : Thread Cert.LinKernel.nD Cert.LinKernel.τ).loc Cert.LinKernel.main_arg1) = m ((c.tc : Thread Cert.LinKernel.nD Cert.LinKernel.τ).loc Cert.LinKernel.main_arg1)
      ∧ r.2.mem ((c.tc : Thread Cert.LinKernel.nD Cert.LinKernel.τ).loc Cert.LinKernel.main_arg2) = m ((c.tc : Thread Cert.LinKernel.nD Cert.LinKernel.τ).loc Cert.LinKernel.main_arg2)
      ∧ r.2.mem ((c.tc : Thread Cert.LinKernel.nD Cert.LinKernel.τ).loc Cert.LinKernel.main_arg3) = m ((c.tc : Thread Cert.LinKernel.nD Cert.LinKernel.τ).loc Cert.LinKernel.main_arg3)
      ∧ r.2.mem ((c.tc : Thread Cert.LinKernel.nD Cert.LinKernel.τ).loc Cert.LinKernel.main_arg4) = m ((c.tc : Thread Cert.LinKernel.nD Cert.LinKernel.τ).loc Cert.LinKernel.main_arg4)
      ∧ r.2.mem ((c.tc : Thread Cert.LinKernel.nD Cert.LinKernel.τ).loc Cert.LinKernel.main_arg5) = m ((c.tc : Thread Cert.LinKernel.nD Cert.LinKernel.τ).loc Cert.LinKernel.main_arg5)
      ∧ r.2.mem ((c.tc : Thread Cert.LinKernel.nD Cert.LinKernel.τ).loc Cert.LinKernel.main_arg6) = m ((c.tc : Thread Cert.LinKernel.nD Cert.LinKernel.τ).loc Cert.LinKernel.main_arg6)
      ∧ r.2.mem ((c.tc : Thread Cert.LinKernel.nD Cert.LinKernel.τ).loc Cert.LinKernel.main_arg7) = m ((c.tc : Thread Cert.LinKernel.nD Cert.LinKernel.τ).loc Cert.LinKernel.main_arg7)
      ∧ r.2.mem ((c.tc : Thread Cert.LinKernel.nD Cert.LinKernel.τ).loc Cert.LinKernel.main_arg8) = m ((c.tc : Thread Cert.LinKernel.nD Cert.LinKernel.τ).loc Cert.LinKernel.main_arg8)
      ∧ r.2.mem ((c.tc : Thread Cert.LinKernel.nD Cert.LinKernel.τ).loc Cert.LinKernel.main_arg9) = m ((c.tc : Thread Cert.LinKernel.nD Cert.LinKernel.τ).loc Cert.LinKernel.main_arg9)
      ∧ r.2.mem ((c.tc : Thread Cert.LinKernel.nD Cert.LinKernel.τ).loc Cert.LinKernel.main_arg10) = m ((c.tc : Thread Cert.LinKernel.nD Cert.LinKernel.τ).loc Cert.LinKernel.main_arg10)
      ∧ r.2.mem ((c.tc : Thread Cert.LinKernel.nD Cert.LinKernel.τ).loc Cert.LinKernel.main_arg11) = m ((c.tc : Thread Cert.LinKernel.nD Cert.LinKernel.τ).loc Cert.LinKernel.main_arg11))
      ∧ r.2.sem = fun _ => 0)

def quiescent_LinKernelIdeal [hLinKernelIdeal : Cert.LinKernelIdeal.Facts] : Prop :=
  ∀ (m : (ℓ : Loc Cert.LinKernelIdeal.nD Cert.LinKernelIdeal.τ Cert.LinKernelIdeal.sig) → Buf (Elt Ideal) ℓ) (g : Dev Cert.LinKernelIdeal.nD → PrngReg), Pre_LinKernelIdeal m →
    θ_run (Cert.LinKernelIdeal.defs (F := Ideal)) (onTc (τ := Cert.LinKernelIdeal.τ) (Cert.LinKernelIdeal.main (F := Ideal))) ⟨m, fun _ => 0, g⟩ (fun r => (∀ c : Dev Cert.LinKernelIdeal.nD,
      r.2.mem ((c.tc : Thread Cert.LinKernelIdeal.nD Cert.LinKernelIdeal.τ).loc Cert.LinKernelIdeal.main_arg0) = m ((c.tc : Thread Cert.LinKernelIdeal.nD Cert.LinKernelIdeal.τ).loc Cert.LinKernelIdeal.main_arg0)
      ∧ r.2.mem ((c.tc : Thread Cert.LinKernelIdeal.nD Cert.LinKernelIdeal.τ).loc Cert.LinKernelIdeal.main_arg1) = m ((c.tc : Thread Cert.LinKernelIdeal.nD Cert.LinKernelIdeal.τ).loc Cert.LinKernelIdeal.main_arg1)
      ∧ r.2.mem ((c.tc : Thread Cert.LinKernelIdeal.nD Cert.LinKernelIdeal.τ).loc Cert.LinKernelIdeal.main_arg2) = m ((c.tc : Thread Cert.LinKernelIdeal.nD Cert.LinKernelIdeal.τ).loc Cert.LinKernelIdeal.main_arg2)
      ∧ r.2.mem ((c.tc : Thread Cert.LinKernelIdeal.nD Cert.LinKernelIdeal.τ).loc Cert.LinKernelIdeal.main_arg3) = m ((c.tc : Thread Cert.LinKernelIdeal.nD Cert.LinKernelIdeal.τ).loc Cert.LinKernelIdeal.main_arg3)
      ∧ r.2.mem ((c.tc : Thread Cert.LinKernelIdeal.nD Cert.LinKernelIdeal.τ).loc Cert.LinKernelIdeal.main_arg4) = m ((c.tc : Thread Cert.LinKernelIdeal.nD Cert.LinKernelIdeal.τ).loc Cert.LinKernelIdeal.main_arg4)
      ∧ r.2.mem ((c.tc : Thread Cert.LinKernelIdeal.nD Cert.LinKernelIdeal.τ).loc Cert.LinKernelIdeal.main_arg5) = m ((c.tc : Thread Cert.LinKernelIdeal.nD Cert.LinKernelIdeal.τ).loc Cert.LinKernelIdeal.main_arg5)
      ∧ r.2.mem ((c.tc : Thread Cert.LinKernelIdeal.nD Cert.LinKernelIdeal.τ).loc Cert.LinKernelIdeal.main_arg6) = m ((c.tc : Thread Cert.LinKernelIdeal.nD Cert.LinKernelIdeal.τ).loc Cert.LinKernelIdeal.main_arg6)
      ∧ r.2.mem ((c.tc : Thread Cert.LinKernelIdeal.nD Cert.LinKernelIdeal.τ).loc Cert.LinKernelIdeal.main_arg7) = m ((c.tc : Thread Cert.LinKernelIdeal.nD Cert.LinKernelIdeal.τ).loc Cert.LinKernelIdeal.main_arg7)
      ∧ r.2.mem ((c.tc : Thread Cert.LinKernelIdeal.nD Cert.LinKernelIdeal.τ).loc Cert.LinKernelIdeal.main_arg8) = m ((c.tc : Thread Cert.LinKernelIdeal.nD Cert.LinKernelIdeal.τ).loc Cert.LinKernelIdeal.main_arg8)
      ∧ r.2.mem ((c.tc : Thread Cert.LinKernelIdeal.nD Cert.LinKernelIdeal.τ).loc Cert.LinKernelIdeal.main_arg9) = m ((c.tc : Thread Cert.LinKernelIdeal.nD Cert.LinKernelIdeal.τ).loc Cert.LinKernelIdeal.main_arg9)
      ∧ r.2.mem ((c.tc : Thread Cert.LinKernelIdeal.nD Cert.LinKernelIdeal.τ).loc Cert.LinKernelIdeal.main_arg10) = m ((c.tc : Thread Cert.LinKernelIdeal.nD Cert.LinKernelIdeal.τ).loc Cert.LinKernelIdeal.main_arg10)
      ∧ r.2.mem ((c.tc : Thread Cert.LinKernelIdeal.nD Cert.LinKernelIdeal.τ).loc Cert.LinKernelIdeal.main_arg11) = m ((c.tc : Thread Cert.LinKernelIdeal.nD Cert.LinKernelIdeal.τ).loc Cert.LinKernelIdeal.main_arg11))
      ∧ r.2.sem = fun _ => 0)

def quiescent_LinReferenceIdeal [hLinReferenceIdeal : Cert.LinReferenceIdeal.Facts] : Prop :=
  ∀ (m : (ℓ : Loc Cert.LinReferenceIdeal.nD Cert.LinReferenceIdeal.τ Cert.LinReferenceIdeal.sig) → Buf (Elt Ideal) ℓ) (g : Dev Cert.LinReferenceIdeal.nD → PrngReg), Pre_LinReferenceIdeal m →
    θ_run (Cert.LinReferenceIdeal.defs (F := Ideal)) (onTc (τ := Cert.LinReferenceIdeal.τ) (Cert.LinReferenceIdeal.main (F := Ideal))) ⟨m, fun _ => 0, g⟩ (fun r => (∀ c : Dev Cert.LinReferenceIdeal.nD,
      r.2.mem ((c.tc : Thread Cert.LinReferenceIdeal.nD Cert.LinReferenceIdeal.τ).loc Cert.LinReferenceIdeal.main_arg0) = m ((c.tc : Thread Cert.LinReferenceIdeal.nD Cert.LinReferenceIdeal.τ).loc Cert.LinReferenceIdeal.main_arg0)
      ∧ r.2.mem ((c.tc : Thread Cert.LinReferenceIdeal.nD Cert.LinReferenceIdeal.τ).loc Cert.LinReferenceIdeal.main_arg1) = m ((c.tc : Thread Cert.LinReferenceIdeal.nD Cert.LinReferenceIdeal.τ).loc Cert.LinReferenceIdeal.main_arg1)
      ∧ r.2.mem ((c.tc : Thread Cert.LinReferenceIdeal.nD Cert.LinReferenceIdeal.τ).loc Cert.LinReferenceIdeal.main_arg2) = m ((c.tc : Thread Cert.LinReferenceIdeal.nD Cert.LinReferenceIdeal.τ).loc Cert.LinReferenceIdeal.main_arg2)
      ∧ r.2.mem ((c.tc : Thread Cert.LinReferenceIdeal.nD Cert.LinReferenceIdeal.τ).loc Cert.LinReferenceIdeal.main_arg3) = m ((c.tc : Thread Cert.LinReferenceIdeal.nD Cert.LinReferenceIdeal.τ).loc Cert.LinReferenceIdeal.main_arg3)
      ∧ r.2.mem ((c.tc : Thread Cert.LinReferenceIdeal.nD Cert.LinReferenceIdeal.τ).loc Cert.LinReferenceIdeal.main_arg4) = m ((c.tc : Thread Cert.LinReferenceIdeal.nD Cert.LinReferenceIdeal.τ).loc Cert.LinReferenceIdeal.main_arg4)
      ∧ r.2.mem ((c.tc : Thread Cert.LinReferenceIdeal.nD Cert.LinReferenceIdeal.τ).loc Cert.LinReferenceIdeal.main_arg5) = m ((c.tc : Thread Cert.LinReferenceIdeal.nD Cert.LinReferenceIdeal.τ).loc Cert.LinReferenceIdeal.main_arg5)
      ∧ r.2.mem ((c.tc : Thread Cert.LinReferenceIdeal.nD Cert.LinReferenceIdeal.τ).loc Cert.LinReferenceIdeal.main_arg6) = m ((c.tc : Thread Cert.LinReferenceIdeal.nD Cert.LinReferenceIdeal.τ).loc Cert.LinReferenceIdeal.main_arg6)
      ∧ r.2.mem ((c.tc : Thread Cert.LinReferenceIdeal.nD Cert.LinReferenceIdeal.τ).loc Cert.LinReferenceIdeal.main_arg7) = m ((c.tc : Thread Cert.LinReferenceIdeal.nD Cert.LinReferenceIdeal.τ).loc Cert.LinReferenceIdeal.main_arg7)
      ∧ r.2.mem ((c.tc : Thread Cert.LinReferenceIdeal.nD Cert.LinReferenceIdeal.τ).loc Cert.LinReferenceIdeal.main_arg8) = m ((c.tc : Thread Cert.LinReferenceIdeal.nD Cert.LinReferenceIdeal.τ).loc Cert.LinReferenceIdeal.main_arg8)
      ∧ r.2.mem ((c.tc : Thread Cert.LinReferenceIdeal.nD Cert.LinReferenceIdeal.τ).loc Cert.LinReferenceIdeal.main_arg9) = m ((c.tc : Thread Cert.LinReferenceIdeal.nD Cert.LinReferenceIdeal.τ).loc Cert.LinReferenceIdeal.main_arg9)
      ∧ r.2.mem ((c.tc : Thread Cert.LinReferenceIdeal.nD Cert.LinReferenceIdeal.τ).loc Cert.LinReferenceIdeal.main_arg10) = m ((c.tc : Thread Cert.LinReferenceIdeal.nD Cert.LinReferenceIdeal.τ).loc Cert.LinReferenceIdeal.main_arg10)
      ∧ r.2.mem ((c.tc : Thread Cert.LinReferenceIdeal.nD Cert.LinReferenceIdeal.τ).loc Cert.LinReferenceIdeal.main_arg11) = m ((c.tc : Thread Cert.LinReferenceIdeal.nD Cert.LinReferenceIdeal.τ).loc Cert.LinReferenceIdeal.main_arg11))
      ∧ r.2.sem = fun _ => 0)

def quiescent_OptKernel [hOptKernel : Cert.OptKernel.Facts] : Prop :=
  ∀ (m : (ℓ : Loc Cert.OptKernel.nD Cert.OptKernel.τ Cert.OptKernel.sig) → Buf (Elt Bits) ℓ) (g : Dev Cert.OptKernel.nD → PrngReg), Pre_OptKernel m →
    θ_run (Cert.OptKernel.defs (F := Bits)) (onTc (τ := Cert.OptKernel.τ) (Cert.OptKernel.main (F := Bits))) ⟨m, fun _ => 0, g⟩ (fun r => (∀ c : Dev Cert.OptKernel.nD,
      r.2.mem ((c.tc : Thread Cert.OptKernel.nD Cert.OptKernel.τ).loc Cert.OptKernel.main_arg0) = m ((c.tc : Thread Cert.OptKernel.nD Cert.OptKernel.τ).loc Cert.OptKernel.main_arg0)
      ∧ r.2.mem ((c.tc : Thread Cert.OptKernel.nD Cert.OptKernel.τ).loc Cert.OptKernel.main_arg1) = m ((c.tc : Thread Cert.OptKernel.nD Cert.OptKernel.τ).loc Cert.OptKernel.main_arg1)
      ∧ r.2.mem ((c.tc : Thread Cert.OptKernel.nD Cert.OptKernel.τ).loc Cert.OptKernel.main_arg2) = m ((c.tc : Thread Cert.OptKernel.nD Cert.OptKernel.τ).loc Cert.OptKernel.main_arg2)
      ∧ r.2.mem ((c.tc : Thread Cert.OptKernel.nD Cert.OptKernel.τ).loc Cert.OptKernel.main_arg3) = m ((c.tc : Thread Cert.OptKernel.nD Cert.OptKernel.τ).loc Cert.OptKernel.main_arg3)
      ∧ r.2.mem ((c.tc : Thread Cert.OptKernel.nD Cert.OptKernel.τ).loc Cert.OptKernel.main_arg4) = m ((c.tc : Thread Cert.OptKernel.nD Cert.OptKernel.τ).loc Cert.OptKernel.main_arg4)
      ∧ r.2.mem ((c.tc : Thread Cert.OptKernel.nD Cert.OptKernel.τ).loc Cert.OptKernel.main_arg5) = m ((c.tc : Thread Cert.OptKernel.nD Cert.OptKernel.τ).loc Cert.OptKernel.main_arg5)
      ∧ r.2.mem ((c.tc : Thread Cert.OptKernel.nD Cert.OptKernel.τ).loc Cert.OptKernel.main_arg6) = m ((c.tc : Thread Cert.OptKernel.nD Cert.OptKernel.τ).loc Cert.OptKernel.main_arg6)
      ∧ r.2.mem ((c.tc : Thread Cert.OptKernel.nD Cert.OptKernel.τ).loc Cert.OptKernel.main_arg7) = m ((c.tc : Thread Cert.OptKernel.nD Cert.OptKernel.τ).loc Cert.OptKernel.main_arg7)
      ∧ r.2.mem ((c.tc : Thread Cert.OptKernel.nD Cert.OptKernel.τ).loc Cert.OptKernel.main_arg8) = m ((c.tc : Thread Cert.OptKernel.nD Cert.OptKernel.τ).loc Cert.OptKernel.main_arg8)
      ∧ r.2.mem ((c.tc : Thread Cert.OptKernel.nD Cert.OptKernel.τ).loc Cert.OptKernel.main_arg9) = m ((c.tc : Thread Cert.OptKernel.nD Cert.OptKernel.τ).loc Cert.OptKernel.main_arg9)
      ∧ r.2.mem ((c.tc : Thread Cert.OptKernel.nD Cert.OptKernel.τ).loc Cert.OptKernel.main_arg10) = m ((c.tc : Thread Cert.OptKernel.nD Cert.OptKernel.τ).loc Cert.OptKernel.main_arg10)
      ∧ r.2.mem ((c.tc : Thread Cert.OptKernel.nD Cert.OptKernel.τ).loc Cert.OptKernel.main_arg11) = m ((c.tc : Thread Cert.OptKernel.nD Cert.OptKernel.τ).loc Cert.OptKernel.main_arg11)
      ∧ r.2.mem ((c.tc : Thread Cert.OptKernel.nD Cert.OptKernel.τ).loc Cert.OptKernel.main_arg12) = m ((c.tc : Thread Cert.OptKernel.nD Cert.OptKernel.τ).loc Cert.OptKernel.main_arg12)
      ∧ r.2.mem ((c.tc : Thread Cert.OptKernel.nD Cert.OptKernel.τ).loc Cert.OptKernel.main_arg13) = m ((c.tc : Thread Cert.OptKernel.nD Cert.OptKernel.τ).loc Cert.OptKernel.main_arg13)
      ∧ r.2.mem ((c.tc : Thread Cert.OptKernel.nD Cert.OptKernel.τ).loc Cert.OptKernel.main_arg14) = m ((c.tc : Thread Cert.OptKernel.nD Cert.OptKernel.τ).loc Cert.OptKernel.main_arg14)
      ∧ r.2.mem ((c.tc : Thread Cert.OptKernel.nD Cert.OptKernel.τ).loc Cert.OptKernel.main_arg15) = m ((c.tc : Thread Cert.OptKernel.nD Cert.OptKernel.τ).loc Cert.OptKernel.main_arg15)
      ∧ r.2.mem ((c.tc : Thread Cert.OptKernel.nD Cert.OptKernel.τ).loc Cert.OptKernel.main_arg16) = m ((c.tc : Thread Cert.OptKernel.nD Cert.OptKernel.τ).loc Cert.OptKernel.main_arg16)
      ∧ r.2.mem ((c.tc : Thread Cert.OptKernel.nD Cert.OptKernel.τ).loc Cert.OptKernel.main_arg17) = m ((c.tc : Thread Cert.OptKernel.nD Cert.OptKernel.τ).loc Cert.OptKernel.main_arg17)
      ∧ r.2.mem ((c.tc : Thread Cert.OptKernel.nD Cert.OptKernel.τ).loc Cert.OptKernel.main_arg18) = m ((c.tc : Thread Cert.OptKernel.nD Cert.OptKernel.τ).loc Cert.OptKernel.main_arg18)
      ∧ r.2.mem ((c.tc : Thread Cert.OptKernel.nD Cert.OptKernel.τ).loc Cert.OptKernel.main_arg19) = m ((c.tc : Thread Cert.OptKernel.nD Cert.OptKernel.τ).loc Cert.OptKernel.main_arg19)
      ∧ r.2.mem ((c.tc : Thread Cert.OptKernel.nD Cert.OptKernel.τ).loc Cert.OptKernel.main_arg20) = m ((c.tc : Thread Cert.OptKernel.nD Cert.OptKernel.τ).loc Cert.OptKernel.main_arg20)
      ∧ r.2.mem ((c.tc : Thread Cert.OptKernel.nD Cert.OptKernel.τ).loc Cert.OptKernel.main_arg21) = m ((c.tc : Thread Cert.OptKernel.nD Cert.OptKernel.τ).loc Cert.OptKernel.main_arg21)
      ∧ r.2.mem ((c.tc : Thread Cert.OptKernel.nD Cert.OptKernel.τ).loc Cert.OptKernel.main_arg22) = m ((c.tc : Thread Cert.OptKernel.nD Cert.OptKernel.τ).loc Cert.OptKernel.main_arg22)
      ∧ r.2.mem ((c.tc : Thread Cert.OptKernel.nD Cert.OptKernel.τ).loc Cert.OptKernel.main_arg23) = m ((c.tc : Thread Cert.OptKernel.nD Cert.OptKernel.τ).loc Cert.OptKernel.main_arg23))
      ∧ r.2.sem = fun _ => 0)

def quiescent_OptKernelIdeal [hOptKernelIdeal : Cert.OptKernelIdeal.Facts] : Prop :=
  ∀ (m : (ℓ : Loc Cert.OptKernelIdeal.nD Cert.OptKernelIdeal.τ Cert.OptKernelIdeal.sig) → Buf (Elt Ideal) ℓ) (g : Dev Cert.OptKernelIdeal.nD → PrngReg), Pre_OptKernelIdeal m →
    θ_run (Cert.OptKernelIdeal.defs (F := Ideal)) (onTc (τ := Cert.OptKernelIdeal.τ) (Cert.OptKernelIdeal.main (F := Ideal))) ⟨m, fun _ => 0, g⟩ (fun r => (∀ c : Dev Cert.OptKernelIdeal.nD,
      r.2.mem ((c.tc : Thread Cert.OptKernelIdeal.nD Cert.OptKernelIdeal.τ).loc Cert.OptKernelIdeal.main_arg0) = m ((c.tc : Thread Cert.OptKernelIdeal.nD Cert.OptKernelIdeal.τ).loc Cert.OptKernelIdeal.main_arg0)
      ∧ r.2.mem ((c.tc : Thread Cert.OptKernelIdeal.nD Cert.OptKernelIdeal.τ).loc Cert.OptKernelIdeal.main_arg1) = m ((c.tc : Thread Cert.OptKernelIdeal.nD Cert.OptKernelIdeal.τ).loc Cert.OptKernelIdeal.main_arg1)
      ∧ r.2.mem ((c.tc : Thread Cert.OptKernelIdeal.nD Cert.OptKernelIdeal.τ).loc Cert.OptKernelIdeal.main_arg2) = m ((c.tc : Thread Cert.OptKernelIdeal.nD Cert.OptKernelIdeal.τ).loc Cert.OptKernelIdeal.main_arg2)
      ∧ r.2.mem ((c.tc : Thread Cert.OptKernelIdeal.nD Cert.OptKernelIdeal.τ).loc Cert.OptKernelIdeal.main_arg3) = m ((c.tc : Thread Cert.OptKernelIdeal.nD Cert.OptKernelIdeal.τ).loc Cert.OptKernelIdeal.main_arg3)
      ∧ r.2.mem ((c.tc : Thread Cert.OptKernelIdeal.nD Cert.OptKernelIdeal.τ).loc Cert.OptKernelIdeal.main_arg4) = m ((c.tc : Thread Cert.OptKernelIdeal.nD Cert.OptKernelIdeal.τ).loc Cert.OptKernelIdeal.main_arg4)
      ∧ r.2.mem ((c.tc : Thread Cert.OptKernelIdeal.nD Cert.OptKernelIdeal.τ).loc Cert.OptKernelIdeal.main_arg5) = m ((c.tc : Thread Cert.OptKernelIdeal.nD Cert.OptKernelIdeal.τ).loc Cert.OptKernelIdeal.main_arg5)
      ∧ r.2.mem ((c.tc : Thread Cert.OptKernelIdeal.nD Cert.OptKernelIdeal.τ).loc Cert.OptKernelIdeal.main_arg6) = m ((c.tc : Thread Cert.OptKernelIdeal.nD Cert.OptKernelIdeal.τ).loc Cert.OptKernelIdeal.main_arg6)
      ∧ r.2.mem ((c.tc : Thread Cert.OptKernelIdeal.nD Cert.OptKernelIdeal.τ).loc Cert.OptKernelIdeal.main_arg7) = m ((c.tc : Thread Cert.OptKernelIdeal.nD Cert.OptKernelIdeal.τ).loc Cert.OptKernelIdeal.main_arg7)
      ∧ r.2.mem ((c.tc : Thread Cert.OptKernelIdeal.nD Cert.OptKernelIdeal.τ).loc Cert.OptKernelIdeal.main_arg8) = m ((c.tc : Thread Cert.OptKernelIdeal.nD Cert.OptKernelIdeal.τ).loc Cert.OptKernelIdeal.main_arg8)
      ∧ r.2.mem ((c.tc : Thread Cert.OptKernelIdeal.nD Cert.OptKernelIdeal.τ).loc Cert.OptKernelIdeal.main_arg9) = m ((c.tc : Thread Cert.OptKernelIdeal.nD Cert.OptKernelIdeal.τ).loc Cert.OptKernelIdeal.main_arg9)
      ∧ r.2.mem ((c.tc : Thread Cert.OptKernelIdeal.nD Cert.OptKernelIdeal.τ).loc Cert.OptKernelIdeal.main_arg10) = m ((c.tc : Thread Cert.OptKernelIdeal.nD Cert.OptKernelIdeal.τ).loc Cert.OptKernelIdeal.main_arg10)
      ∧ r.2.mem ((c.tc : Thread Cert.OptKernelIdeal.nD Cert.OptKernelIdeal.τ).loc Cert.OptKernelIdeal.main_arg11) = m ((c.tc : Thread Cert.OptKernelIdeal.nD Cert.OptKernelIdeal.τ).loc Cert.OptKernelIdeal.main_arg11)
      ∧ r.2.mem ((c.tc : Thread Cert.OptKernelIdeal.nD Cert.OptKernelIdeal.τ).loc Cert.OptKernelIdeal.main_arg12) = m ((c.tc : Thread Cert.OptKernelIdeal.nD Cert.OptKernelIdeal.τ).loc Cert.OptKernelIdeal.main_arg12)
      ∧ r.2.mem ((c.tc : Thread Cert.OptKernelIdeal.nD Cert.OptKernelIdeal.τ).loc Cert.OptKernelIdeal.main_arg13) = m ((c.tc : Thread Cert.OptKernelIdeal.nD Cert.OptKernelIdeal.τ).loc Cert.OptKernelIdeal.main_arg13)
      ∧ r.2.mem ((c.tc : Thread Cert.OptKernelIdeal.nD Cert.OptKernelIdeal.τ).loc Cert.OptKernelIdeal.main_arg14) = m ((c.tc : Thread Cert.OptKernelIdeal.nD Cert.OptKernelIdeal.τ).loc Cert.OptKernelIdeal.main_arg14)
      ∧ r.2.mem ((c.tc : Thread Cert.OptKernelIdeal.nD Cert.OptKernelIdeal.τ).loc Cert.OptKernelIdeal.main_arg15) = m ((c.tc : Thread Cert.OptKernelIdeal.nD Cert.OptKernelIdeal.τ).loc Cert.OptKernelIdeal.main_arg15)
      ∧ r.2.mem ((c.tc : Thread Cert.OptKernelIdeal.nD Cert.OptKernelIdeal.τ).loc Cert.OptKernelIdeal.main_arg16) = m ((c.tc : Thread Cert.OptKernelIdeal.nD Cert.OptKernelIdeal.τ).loc Cert.OptKernelIdeal.main_arg16)
      ∧ r.2.mem ((c.tc : Thread Cert.OptKernelIdeal.nD Cert.OptKernelIdeal.τ).loc Cert.OptKernelIdeal.main_arg17) = m ((c.tc : Thread Cert.OptKernelIdeal.nD Cert.OptKernelIdeal.τ).loc Cert.OptKernelIdeal.main_arg17)
      ∧ r.2.mem ((c.tc : Thread Cert.OptKernelIdeal.nD Cert.OptKernelIdeal.τ).loc Cert.OptKernelIdeal.main_arg18) = m ((c.tc : Thread Cert.OptKernelIdeal.nD Cert.OptKernelIdeal.τ).loc Cert.OptKernelIdeal.main_arg18)
      ∧ r.2.mem ((c.tc : Thread Cert.OptKernelIdeal.nD Cert.OptKernelIdeal.τ).loc Cert.OptKernelIdeal.main_arg19) = m ((c.tc : Thread Cert.OptKernelIdeal.nD Cert.OptKernelIdeal.τ).loc Cert.OptKernelIdeal.main_arg19)
      ∧ r.2.mem ((c.tc : Thread Cert.OptKernelIdeal.nD Cert.OptKernelIdeal.τ).loc Cert.OptKernelIdeal.main_arg20) = m ((c.tc : Thread Cert.OptKernelIdeal.nD Cert.OptKernelIdeal.τ).loc Cert.OptKernelIdeal.main_arg20)
      ∧ r.2.mem ((c.tc : Thread Cert.OptKernelIdeal.nD Cert.OptKernelIdeal.τ).loc Cert.OptKernelIdeal.main_arg21) = m ((c.tc : Thread Cert.OptKernelIdeal.nD Cert.OptKernelIdeal.τ).loc Cert.OptKernelIdeal.main_arg21)
      ∧ r.2.mem ((c.tc : Thread Cert.OptKernelIdeal.nD Cert.OptKernelIdeal.τ).loc Cert.OptKernelIdeal.main_arg22) = m ((c.tc : Thread Cert.OptKernelIdeal.nD Cert.OptKernelIdeal.τ).loc Cert.OptKernelIdeal.main_arg22)
      ∧ r.2.mem ((c.tc : Thread Cert.OptKernelIdeal.nD Cert.OptKernelIdeal.τ).loc Cert.OptKernelIdeal.main_arg23) = m ((c.tc : Thread Cert.OptKernelIdeal.nD Cert.OptKernelIdeal.τ).loc Cert.OptKernelIdeal.main_arg23))
      ∧ r.2.sem = fun _ => 0)

def quiescent_OptReferenceIdeal [hOptReferenceIdeal : Cert.OptReferenceIdeal.Facts] : Prop :=
  ∀ (m : (ℓ : Loc Cert.OptReferenceIdeal.nD Cert.OptReferenceIdeal.τ Cert.OptReferenceIdeal.sig) → Buf (Elt Ideal) ℓ) (g : Dev Cert.OptReferenceIdeal.nD → PrngReg), Pre_OptReferenceIdeal m →
    θ_run (Cert.OptReferenceIdeal.defs (F := Ideal)) (onTc (τ := Cert.OptReferenceIdeal.τ) (Cert.OptReferenceIdeal.main (F := Ideal))) ⟨m, fun _ => 0, g⟩ (fun r => (∀ c : Dev Cert.OptReferenceIdeal.nD,
      r.2.mem ((c.tc : Thread Cert.OptReferenceIdeal.nD Cert.OptReferenceIdeal.τ).loc Cert.OptReferenceIdeal.main_arg0) = m ((c.tc : Thread Cert.OptReferenceIdeal.nD Cert.OptReferenceIdeal.τ).loc Cert.OptReferenceIdeal.main_arg0)
      ∧ r.2.mem ((c.tc : Thread Cert.OptReferenceIdeal.nD Cert.OptReferenceIdeal.τ).loc Cert.OptReferenceIdeal.main_arg1) = m ((c.tc : Thread Cert.OptReferenceIdeal.nD Cert.OptReferenceIdeal.τ).loc Cert.OptReferenceIdeal.main_arg1)
      ∧ r.2.mem ((c.tc : Thread Cert.OptReferenceIdeal.nD Cert.OptReferenceIdeal.τ).loc Cert.OptReferenceIdeal.main_arg2) = m ((c.tc : Thread Cert.OptReferenceIdeal.nD Cert.OptReferenceIdeal.τ).loc Cert.OptReferenceIdeal.main_arg2)
      ∧ r.2.mem ((c.tc : Thread Cert.OptReferenceIdeal.nD Cert.OptReferenceIdeal.τ).loc Cert.OptReferenceIdeal.main_arg3) = m ((c.tc : Thread Cert.OptReferenceIdeal.nD Cert.OptReferenceIdeal.τ).loc Cert.OptReferenceIdeal.main_arg3)
      ∧ r.2.mem ((c.tc : Thread Cert.OptReferenceIdeal.nD Cert.OptReferenceIdeal.τ).loc Cert.OptReferenceIdeal.main_arg4) = m ((c.tc : Thread Cert.OptReferenceIdeal.nD Cert.OptReferenceIdeal.τ).loc Cert.OptReferenceIdeal.main_arg4)
      ∧ r.2.mem ((c.tc : Thread Cert.OptReferenceIdeal.nD Cert.OptReferenceIdeal.τ).loc Cert.OptReferenceIdeal.main_arg5) = m ((c.tc : Thread Cert.OptReferenceIdeal.nD Cert.OptReferenceIdeal.τ).loc Cert.OptReferenceIdeal.main_arg5)
      ∧ r.2.mem ((c.tc : Thread Cert.OptReferenceIdeal.nD Cert.OptReferenceIdeal.τ).loc Cert.OptReferenceIdeal.main_arg6) = m ((c.tc : Thread Cert.OptReferenceIdeal.nD Cert.OptReferenceIdeal.τ).loc Cert.OptReferenceIdeal.main_arg6)
      ∧ r.2.mem ((c.tc : Thread Cert.OptReferenceIdeal.nD Cert.OptReferenceIdeal.τ).loc Cert.OptReferenceIdeal.main_arg7) = m ((c.tc : Thread Cert.OptReferenceIdeal.nD Cert.OptReferenceIdeal.τ).loc Cert.OptReferenceIdeal.main_arg7)
      ∧ r.2.mem ((c.tc : Thread Cert.OptReferenceIdeal.nD Cert.OptReferenceIdeal.τ).loc Cert.OptReferenceIdeal.main_arg8) = m ((c.tc : Thread Cert.OptReferenceIdeal.nD Cert.OptReferenceIdeal.τ).loc Cert.OptReferenceIdeal.main_arg8)
      ∧ r.2.mem ((c.tc : Thread Cert.OptReferenceIdeal.nD Cert.OptReferenceIdeal.τ).loc Cert.OptReferenceIdeal.main_arg9) = m ((c.tc : Thread Cert.OptReferenceIdeal.nD Cert.OptReferenceIdeal.τ).loc Cert.OptReferenceIdeal.main_arg9)
      ∧ r.2.mem ((c.tc : Thread Cert.OptReferenceIdeal.nD Cert.OptReferenceIdeal.τ).loc Cert.OptReferenceIdeal.main_arg10) = m ((c.tc : Thread Cert.OptReferenceIdeal.nD Cert.OptReferenceIdeal.τ).loc Cert.OptReferenceIdeal.main_arg10)
      ∧ r.2.mem ((c.tc : Thread Cert.OptReferenceIdeal.nD Cert.OptReferenceIdeal.τ).loc Cert.OptReferenceIdeal.main_arg11) = m ((c.tc : Thread Cert.OptReferenceIdeal.nD Cert.OptReferenceIdeal.τ).loc Cert.OptReferenceIdeal.main_arg11)
      ∧ r.2.mem ((c.tc : Thread Cert.OptReferenceIdeal.nD Cert.OptReferenceIdeal.τ).loc Cert.OptReferenceIdeal.main_arg12) = m ((c.tc : Thread Cert.OptReferenceIdeal.nD Cert.OptReferenceIdeal.τ).loc Cert.OptReferenceIdeal.main_arg12)
      ∧ r.2.mem ((c.tc : Thread Cert.OptReferenceIdeal.nD Cert.OptReferenceIdeal.τ).loc Cert.OptReferenceIdeal.main_arg13) = m ((c.tc : Thread Cert.OptReferenceIdeal.nD Cert.OptReferenceIdeal.τ).loc Cert.OptReferenceIdeal.main_arg13)
      ∧ r.2.mem ((c.tc : Thread Cert.OptReferenceIdeal.nD Cert.OptReferenceIdeal.τ).loc Cert.OptReferenceIdeal.main_arg14) = m ((c.tc : Thread Cert.OptReferenceIdeal.nD Cert.OptReferenceIdeal.τ).loc Cert.OptReferenceIdeal.main_arg14)
      ∧ r.2.mem ((c.tc : Thread Cert.OptReferenceIdeal.nD Cert.OptReferenceIdeal.τ).loc Cert.OptReferenceIdeal.main_arg15) = m ((c.tc : Thread Cert.OptReferenceIdeal.nD Cert.OptReferenceIdeal.τ).loc Cert.OptReferenceIdeal.main_arg15)
      ∧ r.2.mem ((c.tc : Thread Cert.OptReferenceIdeal.nD Cert.OptReferenceIdeal.τ).loc Cert.OptReferenceIdeal.main_arg16) = m ((c.tc : Thread Cert.OptReferenceIdeal.nD Cert.OptReferenceIdeal.τ).loc Cert.OptReferenceIdeal.main_arg16)
      ∧ r.2.mem ((c.tc : Thread Cert.OptReferenceIdeal.nD Cert.OptReferenceIdeal.τ).loc Cert.OptReferenceIdeal.main_arg17) = m ((c.tc : Thread Cert.OptReferenceIdeal.nD Cert.OptReferenceIdeal.τ).loc Cert.OptReferenceIdeal.main_arg17)
      ∧ r.2.mem ((c.tc : Thread Cert.OptReferenceIdeal.nD Cert.OptReferenceIdeal.τ).loc Cert.OptReferenceIdeal.main_arg18) = m ((c.tc : Thread Cert.OptReferenceIdeal.nD Cert.OptReferenceIdeal.τ).loc Cert.OptReferenceIdeal.main_arg18)
      ∧ r.2.mem ((c.tc : Thread Cert.OptReferenceIdeal.nD Cert.OptReferenceIdeal.τ).loc Cert.OptReferenceIdeal.main_arg19) = m ((c.tc : Thread Cert.OptReferenceIdeal.nD Cert.OptReferenceIdeal.τ).loc Cert.OptReferenceIdeal.main_arg19)
      ∧ r.2.mem ((c.tc : Thread Cert.OptReferenceIdeal.nD Cert.OptReferenceIdeal.τ).loc Cert.OptReferenceIdeal.main_arg20) = m ((c.tc : Thread Cert.OptReferenceIdeal.nD Cert.OptReferenceIdeal.τ).loc Cert.OptReferenceIdeal.main_arg20)
      ∧ r.2.mem ((c.tc : Thread Cert.OptReferenceIdeal.nD Cert.OptReferenceIdeal.τ).loc Cert.OptReferenceIdeal.main_arg21) = m ((c.tc : Thread Cert.OptReferenceIdeal.nD Cert.OptReferenceIdeal.τ).loc Cert.OptReferenceIdeal.main_arg21)
      ∧ r.2.mem ((c.tc : Thread Cert.OptReferenceIdeal.nD Cert.OptReferenceIdeal.τ).loc Cert.OptReferenceIdeal.main_arg22) = m ((c.tc : Thread Cert.OptReferenceIdeal.nD Cert.OptReferenceIdeal.τ).loc Cert.OptReferenceIdeal.main_arg22)
      ∧ r.2.mem ((c.tc : Thread Cert.OptReferenceIdeal.nD Cert.OptReferenceIdeal.τ).loc Cert.OptReferenceIdeal.main_arg23) = m ((c.tc : Thread Cert.OptReferenceIdeal.nD Cert.OptReferenceIdeal.τ).loc Cert.OptReferenceIdeal.main_arg23))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)) (v3 : (c : Dev Cert.KernelIdeal.nD) → Buf (Elt Ideal) ((c.tc : Thread Cert.KernelIdeal.nD Cert.KernelIdeal.τ).loc Cert.KernelIdeal.main_v24_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_v24_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v86) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_FfnKernel_FfnKernelIdeal : Prop :=
  True

def algebraic_FfnKernelIdeal_FfnReferenceIdeal_pre_finite2 [hFfnKernelIdeal : Cert.FfnKernelIdeal.Facts] [hFfnReferenceIdeal : Cert.FfnReferenceIdeal.Facts] [hPre_finite2 : Cert.Pre_finite2.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal_finite2 m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)) →
    ∃ (v0 : (c : Dev Cert.FfnKernelIdeal.nD) → Buf (Elt Ideal) ((c.tc : Thread Cert.FfnKernelIdeal.nD Cert.FfnKernelIdeal.τ).loc Cert.FfnKernelIdeal.main_v2)) (v1 : (c : Dev Cert.FfnKernelIdeal.nD) → Buf (Elt Ideal) ((c.tc : Thread Cert.FfnKernelIdeal.nD Cert.FfnKernelIdeal.τ).loc Cert.FfnKernelIdeal.main_v6)) (v2 : (c : Dev Cert.FfnKernelIdeal.nD) → Buf (Elt Ideal) ((c.tc : Thread Cert.FfnKernelIdeal.nD Cert.FfnKernelIdeal.τ).loc Cert.FfnKernelIdeal.main_v4)) (v3 : (c : Dev Cert.FfnKernelIdeal.nD) → Buf (Elt Ideal) ((c.tc : Thread Cert.FfnKernelIdeal.nD Cert.FfnKernelIdeal.τ).loc Cert.FfnKernelIdeal.main_v7)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v2) = v0 c
          ∧ r.2.mem ((c.tc : Thread Cert.FfnKernelIdeal.nD Cert.FfnKernelIdeal.τ).loc Cert.FfnKernelIdeal.main_v6) = v1 c
          ∧ r.2.mem ((c.tc : Thread Cert.FfnKernelIdeal.nD Cert.FfnKernelIdeal.τ).loc Cert.FfnKernelIdeal.main_v4) = v2 c
          ∧ r.2.mem ((c.tc : Thread Cert.FfnKernelIdeal.nD Cert.FfnKernelIdeal.τ).loc Cert.FfnKernelIdeal.main_v7) = v3 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_v23) = v1 c
          ∧ r.2.mem ((c.tc : Thread Cert.FfnReferenceIdeal.nD Cert.FfnReferenceIdeal.τ).loc Cert.FfnReferenceIdeal.main_v24) = v2 c
          ∧ r.2.mem ((c.tc : Thread Cert.FfnReferenceIdeal.nD Cert.FfnReferenceIdeal.τ).loc Cert.FfnReferenceIdeal.main_v25) = v3 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_LinKernel_LinKernelIdeal : Prop :=
  True

def algebraic_LinKernelIdeal_LinReferenceIdeal [hLinKernelIdeal : Cert.LinKernelIdeal.Facts] [hLinReferenceIdeal : Cert.LinReferenceIdeal.Facts] : Prop :=
  ∀ (m : (ℓ : Loc Cert.LinKernelIdeal.nD Cert.LinKernelIdeal.τ Cert.LinKernelIdeal.sig) → Buf (Elt Ideal) ℓ) (g : Dev Cert.LinKernelIdeal.nD → PrngReg)
    (m' : (ℓ : Loc Cert.LinReferenceIdeal.nD Cert.LinReferenceIdeal.τ Cert.LinReferenceIdeal.sig) → Buf (Elt Ideal) ℓ) (g' : Dev Cert.LinReferenceIdeal.nD → PrngReg), Pre_LinKernelIdeal m →
    (∀ c : Dev Cert.LinKernelIdeal.nD,
      m' ((c.tc : Thread Cert.LinReferenceIdeal.nD Cert.LinReferenceIdeal.τ).loc Cert.LinReferenceIdeal.main_arg0) = m ((c.tc : Thread Cert.LinKernelIdeal.nD Cert.LinKernelIdeal.τ).loc Cert.LinKernelIdeal.main_arg0)
      ∧ m' ((c.tc : Thread Cert.LinReferenceIdeal.nD Cert.LinReferenceIdeal.τ).loc Cert.LinReferenceIdeal.main_arg1) = m ((c.tc : Thread Cert.LinKernelIdeal.nD Cert.LinKernelIdeal.τ).loc Cert.LinKernelIdeal.main_arg1)
      ∧ m' ((c.tc : Thread Cert.LinReferenceIdeal.nD Cert.LinReferenceIdeal.τ).loc Cert.LinReferenceIdeal.main_arg2) = m ((c.tc : Thread Cert.LinKernelIdeal.nD Cert.LinKernelIdeal.τ).loc Cert.LinKernelIdeal.main_arg2)
      ∧ m' ((c.tc : Thread Cert.LinReferenceIdeal.nD Cert.LinReferenceIdeal.τ).loc Cert.LinReferenceIdeal.main_arg3) = m ((c.tc : Thread Cert.LinKernelIdeal.nD Cert.LinKernelIdeal.τ).loc Cert.LinKernelIdeal.main_arg3)
      ∧ m' ((c.tc : Thread Cert.LinReferenceIdeal.nD Cert.LinReferenceIdeal.τ).loc Cert.LinReferenceIdeal.main_arg4) = m ((c.tc : Thread Cert.LinKernelIdeal.nD Cert.LinKernelIdeal.τ).loc Cert.LinKernelIdeal.main_arg4)
      ∧ m' ((c.tc : Thread Cert.LinReferenceIdeal.nD Cert.LinReferenceIdeal.τ).loc Cert.LinReferenceIdeal.main_arg5) = m ((c.tc : Thread Cert.LinKernelIdeal.nD Cert.LinKernelIdeal.τ).loc Cert.LinKernelIdeal.main_arg5)
      ∧ m' ((c.tc : Thread Cert.LinReferenceIdeal.nD Cert.LinReferenceIdeal.τ).loc Cert.LinReferenceIdeal.main_arg6) = m ((c.tc : Thread Cert.LinKernelIdeal.nD Cert.LinKernelIdeal.τ).loc Cert.LinKernelIdeal.main_arg6)
      ∧ m' ((c.tc : Thread Cert.LinReferenceIdeal.nD Cert.LinReferenceIdeal.τ).loc Cert.LinReferenceIdeal.main_arg7) = m ((c.tc : Thread Cert.LinKernelIdeal.nD Cert.LinKernelIdeal.τ).loc Cert.LinKernelIdeal.main_arg7)
      ∧ m' ((c.tc : Thread Cert.LinReferenceIdeal.nD Cert.LinReferenceIdeal.τ).loc Cert.LinReferenceIdeal.main_arg8) = m ((c.tc : Thread Cert.LinKernelIdeal.nD Cert.LinKernelIdeal.τ).loc Cert.LinKernelIdeal.main_arg8)
      ∧ m' ((c.tc : Thread Cert.LinReferenceIdeal.nD Cert.LinReferenceIdeal.τ).loc Cert.LinReferenceIdeal.main_arg9) = m ((c.tc : Thread Cert.LinKernelIdeal.nD Cert.LinKernelIdeal.τ).loc Cert.LinKernelIdeal.main_arg9)
      ∧ m' ((c.tc : Thread Cert.LinReferenceIdeal.nD Cert.LinReferenceIdeal.τ).loc Cert.LinReferenceIdeal.main_arg10) = m ((c.tc : Thread Cert.LinKernelIdeal.nD Cert.LinKernelIdeal.τ).loc Cert.LinKernelIdeal.main_arg10)
      ∧ m' ((c.tc : Thread Cert.LinReferenceIdeal.nD Cert.LinReferenceIdeal.τ).loc Cert.LinReferenceIdeal.main_arg11) = m ((c.tc : Thread Cert.LinKernelIdeal.nD Cert.LinKernelIdeal.τ).loc Cert.LinKernelIdeal.main_arg11)) →
    ∃ (v0 : (c : Dev Cert.LinKernelIdeal.nD) → Buf (Elt Ideal) ((c.tc : Thread Cert.LinKernelIdeal.nD Cert.LinKernelIdeal.τ).loc Cert.LinKernelIdeal.main_v0)) (v1 : (c : Dev Cert.LinKernelIdeal.nD) → Buf (Elt Ideal) ((c.tc : Thread Cert.LinKernelIdeal.nD Cert.LinKernelIdeal.τ).loc Cert.LinKernelIdeal.main_v1)) (v2 : (c : Dev Cert.LinKernelIdeal.nD) → Buf (Elt Ideal) ((c.tc : Thread Cert.LinKernelIdeal.nD Cert.LinKernelIdeal.τ).loc Cert.LinKernelIdeal.main_v2)) (v3 : (c : Dev Cert.LinKernelIdeal.nD) → Buf (Elt Ideal) ((c.tc : Thread Cert.LinKernelIdeal.nD Cert.LinKernelIdeal.τ).loc Cert.LinKernelIdeal.main_v3)) (v4 : (c : Dev Cert.LinKernelIdeal.nD) → Buf (Elt Ideal) ((c.tc : Thread Cert.LinKernelIdeal.nD Cert.LinKernelIdeal.τ).loc Cert.LinKernelIdeal.main_v4)) (v5 : (c : Dev Cert.LinKernelIdeal.nD) → Buf (Elt Ideal) ((c.tc : Thread Cert.LinKernelIdeal.nD Cert.LinKernelIdeal.τ).loc Cert.LinKernelIdeal.main_v5)) (v6 : (c : Dev Cert.LinKernelIdeal.nD) → Buf (Elt Ideal) ((c.tc : Thread Cert.LinKernelIdeal.nD Cert.LinKernelIdeal.τ).loc Cert.LinKernelIdeal.main_v6)) (v7 : (c : Dev Cert.LinKernelIdeal.nD) → Buf (Elt Ideal) ((c.tc : Thread Cert.LinKernelIdeal.nD Cert.LinKernelIdeal.τ).loc Cert.LinKernelIdeal.main_v7)) (v8 : (c : Dev Cert.LinKernelIdeal.nD) → Buf (Elt Ideal) ((c.tc : Thread Cert.LinKernelIdeal.nD Cert.LinKernelIdeal.τ).loc Cert.LinKernelIdeal.main_v8)) (v9 : (c : Dev Cert.LinKernelIdeal.nD) → Buf (Elt Ideal) ((c.tc : Thread Cert.LinKernelIdeal.nD Cert.LinKernelIdeal.τ).loc Cert.LinKernelIdeal.main_v9)) (v10 : (c : Dev Cert.LinKernelIdeal.nD) → Buf (Elt Ideal) ((c.tc : Thread Cert.LinKernelIdeal.nD Cert.LinKernelIdeal.τ).loc Cert.LinKernelIdeal.main_v10)) (v11 : (c : Dev Cert.LinKernelIdeal.nD) → Buf (Elt Ideal) ((c.tc : Thread Cert.LinKernelIdeal.nD Cert.LinKernelIdeal.τ).loc Cert.LinKernelIdeal.main_v11)),
      θ_run (Cert.LinKernelIdeal.defs (F := Ideal)) (onTc (τ := Cert.LinKernelIdeal.τ) (Cert.LinKernelIdeal.main (F := Ideal))) ⟨m, fun _ => 0, g⟩ (fun r => ∀ c : Dev Cert.LinKernelIdeal.nD,
          r.2.mem ((c.tc : Thread Cert.LinKernelIdeal.nD Cert.LinKernelIdeal.τ).loc Cert.LinKernelIdeal.main_v0) = v0 c
          ∧ r.2.mem ((c.tc : Thread Cert.LinKernelIdeal.nD Cert.LinKernelIdeal.τ).loc Cert.LinKernelIdeal.main_v1) = v1 c
          ∧ r.2.mem ((c.tc : Thread Cert.LinKernelIdeal.nD Cert.LinKernelIdeal.τ).loc Cert.LinKernelIdeal.main_v2) = v2 c
          ∧ r.2.mem ((c.tc : Thread Cert.LinKernelIdeal.nD Cert.LinKernelIdeal.τ).loc Cert.LinKernelIdeal.main_v3) = v3 c
          ∧ r.2.mem ((c.tc : Thread Cert.LinKernelIdeal.nD Cert.LinKernelIdeal.τ).loc Cert.LinKernelIdeal.main_v4) = v4 c
          ∧ r.2.mem ((c.tc : Thread Cert.LinKernelIdeal.nD Cert.LinKernelIdeal.τ).loc Cert.LinKernelIdeal.main_v5) = v5 c
          ∧ r.2.mem ((c.tc : Thread Cert.LinKernelIdeal.nD Cert.LinKernelIdeal.τ).loc Cert.LinKernelIdeal.main_v6) = v6 c
          ∧ r.2.mem ((c.tc : Thread Cert.LinKernelIdeal.nD Cert.LinKernelIdeal.τ).loc Cert.LinKernelIdeal.main_v7) = v7 c
          ∧ r.2.mem ((c.tc : Thread Cert.LinKernelIdeal.nD Cert.LinKernelIdeal.τ).loc Cert.LinKernelIdeal.main_v8) = v8 c
          ∧ r.2.mem ((c.tc : Thread Cert.LinKernelIdeal.nD Cert.LinKernelIdeal.τ).loc Cert.LinKernelIdeal.main_v9) = v9 c
          ∧ r.2.mem ((c.tc : Thread Cert.LinKernelIdeal.nD Cert.LinKernelIdeal.τ).loc Cert.LinKernelIdeal.main_v10) = v10 c
          ∧ r.2.mem ((c.tc : Thread Cert.LinKernelIdeal.nD Cert.LinKernelIdeal.τ).loc Cert.LinKernelIdeal.main_v11) = v11 c
          ∧ r.2.mem ((c.tc : Thread Cert.LinKernelIdeal.nD Cert.LinKernelIdeal.τ).loc Cert.LinKernelIdeal.main_arg0) = m ((c.tc : Thread Cert.LinKernelIdeal.nD Cert.LinKernelIdeal.τ).loc Cert.LinKernelIdeal.main_arg0)
          ∧ r.2.mem ((c.tc : Thread Cert.LinKernelIdeal.nD Cert.LinKernelIdeal.τ).loc Cert.LinKernelIdeal.main_arg1) = m ((c.tc : Thread Cert.LinKernelIdeal.nD Cert.LinKernelIdeal.τ).loc Cert.LinKernelIdeal.main_arg1)
          ∧ r.2.mem ((c.tc : Thread Cert.LinKernelIdeal.nD Cert.LinKernelIdeal.τ).loc Cert.LinKernelIdeal.main_arg2) = m ((c.tc : Thread Cert.LinKernelIdeal.nD Cert.LinKernelIdeal.τ).loc Cert.LinKernelIdeal.main_arg2)
          ∧ r.2.mem ((c.tc : Thread Cert.LinKernelIdeal.nD Cert.LinKernelIdeal.τ).loc Cert.LinKernelIdeal.main_arg3) = m ((c.tc : Thread Cert.LinKernelIdeal.nD Cert.LinKernelIdeal.τ).loc Cert.LinKernelIdeal.main_arg3)
          ∧ r.2.mem ((c.tc : Thread Cert.LinKernelIdeal.nD Cert.LinKernelIdeal.τ).loc Cert.LinKernelIdeal.main_arg4) = m ((c.tc : Thread Cert.LinKernelIdeal.nD Cert.LinKernelIdeal.τ).loc Cert.LinKernelIdeal.main_arg4)
          ∧ r.2.mem ((c.tc : Thread Cert.LinKernelIdeal.nD Cert.LinKernelIdeal.τ).loc Cert.LinKernelIdeal.main_arg5) = m ((c.tc : Thread Cert.LinKernelIdeal.nD Cert.LinKernelIdeal.τ).loc Cert.LinKernelIdeal.main_arg5)
          ∧ r.2.mem ((c.tc : Thread Cert.LinKernelIdeal.nD Cert.LinKernelIdeal.τ).loc Cert.LinKernelIdeal.main_arg6) = m ((c.tc : Thread Cert.LinKernelIdeal.nD Cert.LinKernelIdeal.τ).loc Cert.LinKernelIdeal.main_arg6)
          ∧ r.2.mem ((c.tc : Thread Cert.LinKernelIdeal.nD Cert.LinKernelIdeal.τ).loc Cert.LinKernelIdeal.main_arg7) = m ((c.tc : Thread Cert.LinKernelIdeal.nD Cert.LinKernelIdeal.τ).loc Cert.LinKernelIdeal.main_arg7)
          ∧ r.2.mem ((c.tc : Thread Cert.LinKernelIdeal.nD Cert.LinKernelIdeal.τ).loc Cert.LinKernelIdeal.main_arg8) = m ((c.tc : Thread Cert.LinKernelIdeal.nD Cert.LinKernelIdeal.τ).loc Cert.LinKernelIdeal.main_arg8)
          ∧ r.2.mem ((c.tc : Thread Cert.LinKernelIdeal.nD Cert.LinKernelIdeal.τ).loc Cert.LinKernelIdeal.main_arg9) = m ((c.tc : Thread Cert.LinKernelIdeal.nD Cert.LinKernelIdeal.τ).loc Cert.LinKernelIdeal.main_arg9)
          ∧ r.2.mem ((c.tc : Thread Cert.LinKernelIdeal.nD Cert.LinKernelIdeal.τ).loc Cert.LinKernelIdeal.main_arg10) = m ((c.tc : Thread Cert.LinKernelIdeal.nD Cert.LinKernelIdeal.τ).loc Cert.LinKernelIdeal.main_arg10)
          ∧ r.2.mem ((c.tc : Thread Cert.LinKernelIdeal.nD Cert.LinKernelIdeal.τ).loc Cert.LinKernelIdeal.main_arg11) = m ((c.tc : Thread Cert.LinKernelIdeal.nD Cert.LinKernelIdeal.τ).loc Cert.LinKernelIdeal.main_arg11))
      ∧ θ_run (Cert.LinReferenceIdeal.defs (F := Ideal)) (onTc (τ := Cert.LinReferenceIdeal.τ) (Cert.LinReferenceIdeal.main (F := Ideal))) ⟨m', fun _ => 0, g'⟩ (fun r => ∀ c : Dev Cert.LinReferenceIdeal.nD,
          r.2.mem ((c.tc : Thread Cert.LinReferenceIdeal.nD Cert.LinReferenceIdeal.τ).loc Cert.LinReferenceIdeal.main_v32) = v0 c
          ∧ r.2.mem ((c.tc : Thread Cert.LinReferenceIdeal.nD Cert.LinReferenceIdeal.τ).loc Cert.LinReferenceIdeal.main_v33) = v1 c
          ∧ r.2.mem ((c.tc : Thread Cert.LinReferenceIdeal.nD Cert.LinReferenceIdeal.τ).loc Cert.LinReferenceIdeal.main_v34) = v2 c
          ∧ r.2.mem ((c.tc : Thread Cert.LinReferenceIdeal.nD Cert.LinReferenceIdeal.τ).loc Cert.LinReferenceIdeal.main_v35) = v3 c
          ∧ r.2.mem ((c.tc : Thread Cert.LinReferenceIdeal.nD Cert.LinReferenceIdeal.τ).loc Cert.LinReferenceIdeal.main_v13) = v4 c
          ∧ r.2.mem ((c.tc : Thread Cert.LinReferenceIdeal.nD Cert.LinReferenceIdeal.τ).loc Cert.LinReferenceIdeal.main_v36) = v5 c
          ∧ r.2.mem ((c.tc : Thread Cert.LinReferenceIdeal.nD Cert.LinReferenceIdeal.τ).loc Cert.LinReferenceIdeal.main_v16) = v6 c
          ∧ r.2.mem ((c.tc : Thread Cert.LinReferenceIdeal.nD Cert.LinReferenceIdeal.τ).loc Cert.LinReferenceIdeal.main_v37) = v7 c
          ∧ r.2.mem ((c.tc : Thread Cert.LinReferenceIdeal.nD Cert.LinReferenceIdeal.τ).loc Cert.LinReferenceIdeal.main_v38) = v8 c
          ∧ r.2.mem ((c.tc : Thread Cert.LinReferenceIdeal.nD Cert.LinReferenceIdeal.τ).loc Cert.LinReferenceIdeal.main_v23) = v9 c
          ∧ r.2.mem ((c.tc : Thread Cert.LinReferenceIdeal.nD Cert.LinReferenceIdeal.τ).loc Cert.LinReferenceIdeal.main_v39) = v10 c
          ∧ r.2.mem ((c.tc : Thread Cert.LinReferenceIdeal.nD Cert.LinReferenceIdeal.τ).loc Cert.LinReferenceIdeal.main_v26) = v11 c
          ∧ r.2.mem ((c.tc : Thread Cert.LinReferenceIdeal.nD Cert.LinReferenceIdeal.τ).loc Cert.LinReferenceIdeal.main_arg0) = m' ((c.tc : Thread Cert.LinReferenceIdeal.nD Cert.LinReferenceIdeal.τ).loc Cert.LinReferenceIdeal.main_arg0)
          ∧ r.2.mem ((c.tc : Thread Cert.LinReferenceIdeal.nD Cert.LinReferenceIdeal.τ).loc Cert.LinReferenceIdeal.main_arg1) = m' ((c.tc : Thread Cert.LinReferenceIdeal.nD Cert.LinReferenceIdeal.τ).loc Cert.LinReferenceIdeal.main_arg1)
          ∧ r.2.mem ((c.tc : Thread Cert.LinReferenceIdeal.nD Cert.LinReferenceIdeal.τ).loc Cert.LinReferenceIdeal.main_arg2) = m' ((c.tc : Thread Cert.LinReferenceIdeal.nD Cert.LinReferenceIdeal.τ).loc Cert.LinReferenceIdeal.main_arg2)
          ∧ r.2.mem ((c.tc : Thread Cert.LinReferenceIdeal.nD Cert.LinReferenceIdeal.τ).loc Cert.LinReferenceIdeal.main_arg3) = m' ((c.tc : Thread Cert.LinReferenceIdeal.nD Cert.LinReferenceIdeal.τ).loc Cert.LinReferenceIdeal.main_arg3)
          ∧ r.2.mem ((c.tc : Thread Cert.LinReferenceIdeal.nD Cert.LinReferenceIdeal.τ).loc Cert.LinReferenceIdeal.main_arg4) = m' ((c.tc : Thread Cert.LinReferenceIdeal.nD Cert.LinReferenceIdeal.τ).loc Cert.LinReferenceIdeal.main_arg4)
          ∧ r.2.mem ((c.tc : Thread Cert.LinReferenceIdeal.nD Cert.LinReferenceIdeal.τ).loc Cert.LinReferenceIdeal.main_arg5) = m' ((c.tc : Thread Cert.LinReferenceIdeal.nD Cert.LinReferenceIdeal.τ).loc Cert.LinReferenceIdeal.main_arg5)
          ∧ r.2.mem ((c.tc : Thread Cert.LinReferenceIdeal.nD Cert.LinReferenceIdeal.τ).loc Cert.LinReferenceIdeal.main_arg6) = m' ((c.tc : Thread Cert.LinReferenceIdeal.nD Cert.LinReferenceIdeal.τ).loc Cert.LinReferenceIdeal.main_arg6)
          ∧ r.2.mem ((c.tc : Thread Cert.LinReferenceIdeal.nD Cert.LinReferenceIdeal.τ).loc Cert.LinReferenceIdeal.main_arg7) = m' ((c.tc : Thread Cert.LinReferenceIdeal.nD Cert.LinReferenceIdeal.τ).loc Cert.LinReferenceIdeal.main_arg7)
          ∧ r.2.mem ((c.tc : Thread Cert.LinReferenceIdeal.nD Cert.LinReferenceIdeal.τ).loc Cert.LinReferenceIdeal.main_arg8) = m' ((c.tc : Thread Cert.LinReferenceIdeal.nD Cert.LinReferenceIdeal.τ).loc Cert.LinReferenceIdeal.main_arg8)
          ∧ r.2.mem ((c.tc : Thread Cert.LinReferenceIdeal.nD Cert.LinReferenceIdeal.τ).loc Cert.LinReferenceIdeal.main_arg9) = m' ((c.tc : Thread Cert.LinReferenceIdeal.nD Cert.LinReferenceIdeal.τ).loc Cert.LinReferenceIdeal.main_arg9)
          ∧ r.2.mem ((c.tc : Thread Cert.LinReferenceIdeal.nD Cert.LinReferenceIdeal.τ).loc Cert.LinReferenceIdeal.main_arg10) = m' ((c.tc : Thread Cert.LinReferenceIdeal.nD Cert.LinReferenceIdeal.τ).loc Cert.LinReferenceIdeal.main_arg10)
          ∧ r.2.mem ((c.tc : Thread Cert.LinReferenceIdeal.nD Cert.LinReferenceIdeal.τ).loc Cert.LinReferenceIdeal.main_arg11) = m' ((c.tc : Thread Cert.LinReferenceIdeal.nD Cert.LinReferenceIdeal.τ).loc Cert.LinReferenceIdeal.main_arg11))

def preserves_OptKernel_OptKernelIdeal : Prop :=
  True

def algebraic_OptKernelIdeal_OptReferenceIdeal [hOptKernelIdeal : Cert.OptKernelIdeal.Facts] [hOptReferenceIdeal : Cert.OptReferenceIdeal.Facts] : Prop :=
  ∀ (m : (ℓ : Loc Cert.OptKernelIdeal.nD Cert.OptKernelIdeal.τ Cert.OptKernelIdeal.sig) → Buf (Elt Ideal) ℓ) (g : Dev Cert.OptKernelIdeal.nD → PrngReg)
    (m' : (ℓ : Loc Cert.OptReferenceIdeal.nD Cert.OptReferenceIdeal.τ Cert.OptReferenceIdeal.sig) → Buf (Elt Ideal) ℓ) (g' : Dev Cert.OptReferenceIdeal.nD → PrngReg), Pre_OptKernelIdeal m →
    (∀ c : Dev Cert.OptKernelIdeal.nD,
      m' ((c.tc : Thread Cert.OptReferenceIdeal.nD Cert.OptReferenceIdeal.τ).loc Cert.OptReferenceIdeal.main_arg0) = m ((c.tc : Thread Cert.OptKernelIdeal.nD Cert.OptKernelIdeal.τ).loc Cert.OptKernelIdeal.main_arg0)
      ∧ m' ((c.tc : Thread Cert.OptReferenceIdeal.nD Cert.OptReferenceIdeal.τ).loc Cert.OptReferenceIdeal.main_arg1) = m ((c.tc : Thread Cert.OptKernelIdeal.nD Cert.OptKernelIdeal.τ).loc Cert.OptKernelIdeal.main_arg1)
      ∧ m' ((c.tc : Thread Cert.OptReferenceIdeal.nD Cert.OptReferenceIdeal.τ).loc Cert.OptReferenceIdeal.main_arg2) = m ((c.tc : Thread Cert.OptKernelIdeal.nD Cert.OptKernelIdeal.τ).loc Cert.OptKernelIdeal.main_arg2)
      ∧ m' ((c.tc : Thread Cert.OptReferenceIdeal.nD Cert.OptReferenceIdeal.τ).loc Cert.OptReferenceIdeal.main_arg3) = m ((c.tc : Thread Cert.OptKernelIdeal.nD Cert.OptKernelIdeal.τ).loc Cert.OptKernelIdeal.main_arg3)
      ∧ m' ((c.tc : Thread Cert.OptReferenceIdeal.nD Cert.OptReferenceIdeal.τ).loc Cert.OptReferenceIdeal.main_arg4) = m ((c.tc : Thread Cert.OptKernelIdeal.nD Cert.OptKernelIdeal.τ).loc Cert.OptKernelIdeal.main_arg4)
      ∧ m' ((c.tc : Thread Cert.OptReferenceIdeal.nD Cert.OptReferenceIdeal.τ).loc Cert.OptReferenceIdeal.main_arg5) = m ((c.tc : Thread Cert.OptKernelIdeal.nD Cert.OptKernelIdeal.τ).loc Cert.OptKernelIdeal.main_arg5)
      ∧ m' ((c.tc : Thread Cert.OptReferenceIdeal.nD Cert.OptReferenceIdeal.τ).loc Cert.OptReferenceIdeal.main_arg6) = m ((c.tc : Thread Cert.OptKernelIdeal.nD Cert.OptKernelIdeal.τ).loc Cert.OptKernelIdeal.main_arg6)
      ∧ m' ((c.tc : Thread Cert.OptReferenceIdeal.nD Cert.OptReferenceIdeal.τ).loc Cert.OptReferenceIdeal.main_arg7) = m ((c.tc : Thread Cert.OptKernelIdeal.nD Cert.OptKernelIdeal.τ).loc Cert.OptKernelIdeal.main_arg7)
      ∧ m' ((c.tc : Thread Cert.OptReferenceIdeal.nD Cert.OptReferenceIdeal.τ).loc Cert.OptReferenceIdeal.main_arg8) = m ((c.tc : Thread Cert.OptKernelIdeal.nD Cert.OptKernelIdeal.τ).loc Cert.OptKernelIdeal.main_arg8)
      ∧ m' ((c.tc : Thread Cert.OptReferenceIdeal.nD Cert.OptReferenceIdeal.τ).loc Cert.OptReferenceIdeal.main_arg9) = m ((c.tc : Thread Cert.OptKernelIdeal.nD Cert.OptKernelIdeal.τ).loc Cert.OptKernelIdeal.main_arg9)
      ∧ m' ((c.tc : Thread Cert.OptReferenceIdeal.nD Cert.OptReferenceIdeal.τ).loc Cert.OptReferenceIdeal.main_arg10) = m ((c.tc : Thread Cert.OptKernelIdeal.nD Cert.OptKernelIdeal.τ).loc Cert.OptKernelIdeal.main_arg10)
      ∧ m' ((c.tc : Thread Cert.OptReferenceIdeal.nD Cert.OptReferenceIdeal.τ).loc Cert.OptReferenceIdeal.main_arg11) = m ((c.tc : Thread Cert.OptKernelIdeal.nD Cert.OptKernelIdeal.τ).loc Cert.OptKernelIdeal.main_arg11)
      ∧ m' ((c.tc : Thread Cert.OptReferenceIdeal.nD Cert.OptReferenceIdeal.τ).loc Cert.OptReferenceIdeal.main_arg12) = m ((c.tc : Thread Cert.OptKernelIdeal.nD Cert.OptKernelIdeal.τ).loc Cert.OptKernelIdeal.main_arg12)
      ∧ m' ((c.tc : Thread Cert.OptReferenceIdeal.nD Cert.OptReferenceIdeal.τ).loc Cert.OptReferenceIdeal.main_arg13) = m ((c.tc : Thread Cert.OptKernelIdeal.nD Cert.OptKernelIdeal.τ).loc Cert.OptKernelIdeal.main_arg13)
      ∧ m' ((c.tc : Thread Cert.OptReferenceIdeal.nD Cert.OptReferenceIdeal.τ).loc Cert.OptReferenceIdeal.main_arg14) = m ((c.tc : Thread Cert.OptKernelIdeal.nD Cert.OptKernelIdeal.τ).loc Cert.OptKernelIdeal.main_arg14)
      ∧ m' ((c.tc : Thread Cert.OptReferenceIdeal.nD Cert.OptReferenceIdeal.τ).loc Cert.OptReferenceIdeal.main_arg15) = m ((c.tc : Thread Cert.OptKernelIdeal.nD Cert.OptKernelIdeal.τ).loc Cert.OptKernelIdeal.main_arg15)
      ∧ m' ((c.tc : Thread Cert.OptReferenceIdeal.nD Cert.OptReferenceIdeal.τ).loc Cert.OptReferenceIdeal.main_arg16) = m ((c.tc : Thread Cert.OptKernelIdeal.nD Cert.OptKernelIdeal.τ).loc Cert.OptKernelIdeal.main_arg16)
      ∧ m' ((c.tc : Thread Cert.OptReferenceIdeal.nD Cert.OptReferenceIdeal.τ).loc Cert.OptReferenceIdeal.main_arg17) = m ((c.tc : Thread Cert.OptKernelIdeal.nD Cert.OptKernelIdeal.τ).loc Cert.OptKernelIdeal.main_arg17)
      ∧ m' ((c.tc : Thread Cert.OptReferenceIdeal.nD Cert.OptReferenceIdeal.τ).loc Cert.OptReferenceIdeal.main_arg18) = m ((c.tc : Thread Cert.OptKernelIdeal.nD Cert.OptKernelIdeal.τ).loc Cert.OptKernelIdeal.main_arg18)
      ∧ m' ((c.tc : Thread Cert.OptReferenceIdeal.nD Cert.OptReferenceIdeal.τ).loc Cert.OptReferenceIdeal.main_arg19) = m ((c.tc : Thread Cert.OptKernelIdeal.nD Cert.OptKernelIdeal.τ).loc Cert.OptKernelIdeal.main_arg19)
      ∧ m' ((c.tc : Thread Cert.OptReferenceIdeal.nD Cert.OptReferenceIdeal.τ).loc Cert.OptReferenceIdeal.main_arg20) = m ((c.tc : Thread Cert.OptKernelIdeal.nD Cert.OptKernelIdeal.τ).loc Cert.OptKernelIdeal.main_arg20)
      ∧ m' ((c.tc : Thread Cert.OptReferenceIdeal.nD Cert.OptReferenceIdeal.τ).loc Cert.OptReferenceIdeal.main_arg21) = m ((c.tc : Thread Cert.OptKernelIdeal.nD Cert.OptKernelIdeal.τ).loc Cert.OptKernelIdeal.main_arg21)
      ∧ m' ((c.tc : Thread Cert.OptReferenceIdeal.nD Cert.OptReferenceIdeal.τ).loc Cert.OptReferenceIdeal.main_arg22) = m ((c.tc : Thread Cert.OptKernelIdeal.nD Cert.OptKernelIdeal.τ).loc Cert.OptKernelIdeal.main_arg22)
      ∧ m' ((c.tc : Thread Cert.OptReferenceIdeal.nD Cert.OptReferenceIdeal.τ).loc Cert.OptReferenceIdeal.main_arg23) = m ((c.tc : Thread Cert.OptKernelIdeal.nD Cert.OptKernelIdeal.τ).loc Cert.OptKernelIdeal.main_arg23)) →
    ∃ (v0 : (c : Dev Cert.OptKernelIdeal.nD) → Buf (Elt Ideal) ((c.tc : Thread Cert.OptKernelIdeal.nD Cert.OptKernelIdeal.τ).loc Cert.OptKernelIdeal.main_v0_0)) (v1 : (c : Dev Cert.OptKernelIdeal.nD) → Buf (Elt Ideal) ((c.tc : Thread Cert.OptKernelIdeal.nD Cert.OptKernelIdeal.τ).loc Cert.OptKernelIdeal.main_v0_1)) (v2 : (c : Dev Cert.OptKernelIdeal.nD) → Buf (Elt Ideal) ((c.tc : Thread Cert.OptKernelIdeal.nD Cert.OptKernelIdeal.τ).loc Cert.OptKernelIdeal.main_v0_2)) (v3 : (c : Dev Cert.OptKernelIdeal.nD) → Buf (Elt Ideal) ((c.tc : Thread Cert.OptKernelIdeal.nD Cert.OptKernelIdeal.τ).loc Cert.OptKernelIdeal.main_v1_0)) (v4 : (c : Dev Cert.OptKernelIdeal.nD) → Buf (Elt Ideal) ((c.tc : Thread Cert.OptKernelIdeal.nD Cert.OptKernelIdeal.τ).loc Cert.OptKernelIdeal.main_v1_1)) (v5 : (c : Dev Cert.OptKernelIdeal.nD) → Buf (Elt Ideal) ((c.tc : Thread Cert.OptKernelIdeal.nD Cert.OptKernelIdeal.τ).loc Cert.OptKernelIdeal.main_v1_2)) (v6 : (c : Dev Cert.OptKernelIdeal.nD) → Buf (Elt Ideal) ((c.tc : Thread Cert.OptKernelIdeal.nD Cert.OptKernelIdeal.τ).loc Cert.OptKernelIdeal.main_v2_0)) (v7 : (c : Dev Cert.OptKernelIdeal.nD) → Buf (Elt Ideal) ((c.tc : Thread Cert.OptKernelIdeal.nD Cert.OptKernelIdeal.τ).loc Cert.OptKernelIdeal.main_v2_1)) (v8 : (c : Dev Cert.OptKernelIdeal.nD) → Buf (Elt Ideal) ((c.tc : Thread Cert.OptKernelIdeal.nD Cert.OptKernelIdeal.τ).loc Cert.OptKernelIdeal.main_v2_2)) (v9 : (c : Dev Cert.OptKernelIdeal.nD) → Buf (Elt Ideal) ((c.tc : Thread Cert.OptKernelIdeal.nD Cert.OptKernelIdeal.τ).loc Cert.OptKernelIdeal.main_v3_0)) (v10 : (c : Dev Cert.OptKernelIdeal.nD) → Buf (Elt Ideal) ((c.tc : Thread Cert.OptKernelIdeal.nD Cert.OptKernelIdeal.τ).loc Cert.OptKernelIdeal.main_v3_1)) (v11 : (c : Dev Cert.OptKernelIdeal.nD) → Buf (Elt Ideal) ((c.tc : Thread Cert.OptKernelIdeal.nD Cert.OptKernelIdeal.τ).loc Cert.OptKernelIdeal.main_v3_2)) (v12 : (c : Dev Cert.OptKernelIdeal.nD) → Buf (Elt Ideal) ((c.tc : Thread Cert.OptKernelIdeal.nD Cert.OptKernelIdeal.τ).loc Cert.OptKernelIdeal.main_v4_0)) (v13 : (c : Dev Cert.OptKernelIdeal.nD) → Buf (Elt Ideal) ((c.tc : Thread Cert.OptKernelIdeal.nD Cert.OptKernelIdeal.τ).loc Cert.OptKernelIdeal.main_v4_1)) (v14 : (c : Dev Cert.OptKernelIdeal.nD) → Buf (Elt Ideal) ((c.tc : Thread Cert.OptKernelIdeal.nD Cert.OptKernelIdeal.τ).loc Cert.OptKernelIdeal.main_v4_2)) (v15 : (c : Dev Cert.OptKernelIdeal.nD) → Buf (Elt Ideal) ((c.tc : Thread Cert.OptKernelIdeal.nD Cert.OptKernelIdeal.τ).loc Cert.OptKernelIdeal.main_v5_0)) (v16 : (c : Dev Cert.OptKernelIdeal.nD) → Buf (Elt Ideal) ((c.tc : Thread Cert.OptKernelIdeal.nD Cert.OptKernelIdeal.τ).loc Cert.OptKernelIdeal.main_v5_1)) (v17 : (c : Dev Cert.OptKernelIdeal.nD) → Buf (Elt Ideal) ((c.tc : Thread Cert.OptKernelIdeal.nD Cert.OptKernelIdeal.τ).loc Cert.OptKernelIdeal.main_v5_2)),
      θ_run (Cert.OptKernelIdeal.defs (F := Ideal)) (onTc (τ := Cert.OptKernelIdeal.τ) (Cert.OptKernelIdeal.main (F := Ideal))) ⟨m, fun _ => 0, g⟩ (fun r => ∀ c : Dev Cert.OptKernelIdeal.nD,
          r.2.mem ((c.tc : Thread Cert.OptKernelIdeal.nD Cert.OptKernelIdeal.τ).loc Cert.OptKernelIdeal.main_v0_0) = v0 c
          ∧ r.2.mem ((c.tc : Thread Cert.OptKernelIdeal.nD Cert.OptKernelIdeal.τ).loc Cert.OptKernelIdeal.main_v0_1) = v1 c
          ∧ r.2.mem ((c.tc : Thread Cert.OptKernelIdeal.nD Cert.OptKernelIdeal.τ).loc Cert.OptKernelIdeal.main_v0_2) = v2 c
          ∧ r.2.mem ((c.tc : Thread Cert.OptKernelIdeal.nD Cert.OptKernelIdeal.τ).loc Cert.OptKernelIdeal.main_v1_0) = v3 c
          ∧ r.2.mem ((c.tc : Thread Cert.OptKernelIdeal.nD Cert.OptKernelIdeal.τ).loc Cert.OptKernelIdeal.main_v1_1) = v4 c
          ∧ r.2.mem ((c.tc : Thread Cert.OptKernelIdeal.nD Cert.OptKernelIdeal.τ).loc Cert.OptKernelIdeal.main_v1_2) = v5 c
          ∧ r.2.mem ((c.tc : Thread Cert.OptKernelIdeal.nD Cert.OptKernelIdeal.τ).loc Cert.OptKernelIdeal.main_v2_0) = v6 c
          ∧ r.2.mem ((c.tc : Thread Cert.OptKernelIdeal.nD Cert.OptKernelIdeal.τ).loc Cert.OptKernelIdeal.main_v2_1) = v7 c
          ∧ r.2.mem ((c.tc : Thread Cert.OptKernelIdeal.nD Cert.OptKernelIdeal.τ).loc Cert.OptKernelIdeal.main_v2_2) = v8 c
          ∧ r.2.mem ((c.tc : Thread Cert.OptKernelIdeal.nD Cert.OptKernelIdeal.τ).loc Cert.OptKernelIdeal.main_v3_0) = v9 c
          ∧ r.2.mem ((c.tc : Thread Cert.OptKernelIdeal.nD Cert.OptKernelIdeal.τ).loc Cert.OptKernelIdeal.main_v3_1) = v10 c
          ∧ r.2.mem ((c.tc : Thread Cert.OptKernelIdeal.nD Cert.OptKernelIdeal.τ).loc Cert.OptKernelIdeal.main_v3_2) = v11 c
          ∧ r.2.mem ((c.tc : Thread Cert.OptKernelIdeal.nD Cert.OptKernelIdeal.τ).loc Cert.OptKernelIdeal.main_v4_0) = v12 c
          ∧ r.2.mem ((c.tc : Thread Cert.OptKernelIdeal.nD Cert.OptKernelIdeal.τ).loc Cert.OptKernelIdeal.main_v4_1) = v13 c
          ∧ r.2.mem ((c.tc : Thread Cert.OptKernelIdeal.nD Cert.OptKernelIdeal.τ).loc Cert.OptKernelIdeal.main_v4_2) = v14 c
          ∧ r.2.mem ((c.tc : Thread Cert.OptKernelIdeal.nD Cert.OptKernelIdeal.τ).loc Cert.OptKernelIdeal.main_v5_0) = v15 c
          ∧ r.2.mem ((c.tc : Thread Cert.OptKernelIdeal.nD Cert.OptKernelIdeal.τ).loc Cert.OptKernelIdeal.main_v5_1) = v16 c
          ∧ r.2.mem ((c.tc : Thread Cert.OptKernelIdeal.nD Cert.OptKernelIdeal.τ).loc Cert.OptKernelIdeal.main_v5_2) = v17 c
          ∧ r.2.mem ((c.tc : Thread Cert.OptKernelIdeal.nD Cert.OptKernelIdeal.τ).loc Cert.OptKernelIdeal.main_arg0) = m ((c.tc : Thread Cert.OptKernelIdeal.nD Cert.OptKernelIdeal.τ).loc Cert.OptKernelIdeal.main_arg0)
          ∧ r.2.mem ((c.tc : Thread Cert.OptKernelIdeal.nD Cert.OptKernelIdeal.τ).loc Cert.OptKernelIdeal.main_arg1) = m ((c.tc : Thread Cert.OptKernelIdeal.nD Cert.OptKernelIdeal.τ).loc Cert.OptKernelIdeal.main_arg1)
          ∧ r.2.mem ((c.tc : Thread Cert.OptKernelIdeal.nD Cert.OptKernelIdeal.τ).loc Cert.OptKernelIdeal.main_arg2) = m ((c.tc : Thread Cert.OptKernelIdeal.nD Cert.OptKernelIdeal.τ).loc Cert.OptKernelIdeal.main_arg2)
          ∧ r.2.mem ((c.tc : Thread Cert.OptKernelIdeal.nD Cert.OptKernelIdeal.τ).loc Cert.OptKernelIdeal.main_arg3) = m ((c.tc : Thread Cert.OptKernelIdeal.nD Cert.OptKernelIdeal.τ).loc Cert.OptKernelIdeal.main_arg3)
          ∧ r.2.mem ((c.tc : Thread Cert.OptKernelIdeal.nD Cert.OptKernelIdeal.τ).loc Cert.OptKernelIdeal.main_arg4) = m ((c.tc : Thread Cert.OptKernelIdeal.nD Cert.OptKernelIdeal.τ).loc Cert.OptKernelIdeal.main_arg4)
          ∧ r.2.mem ((c.tc : Thread Cert.OptKernelIdeal.nD Cert.OptKernelIdeal.τ).loc Cert.OptKernelIdeal.main_arg5) = m ((c.tc : Thread Cert.OptKernelIdeal.nD Cert.OptKernelIdeal.τ).loc Cert.OptKernelIdeal.main_arg5)
          ∧ r.2.mem ((c.tc : Thread Cert.OptKernelIdeal.nD Cert.OptKernelIdeal.τ).loc Cert.OptKernelIdeal.main_arg6) = m ((c.tc : Thread Cert.OptKernelIdeal.nD Cert.OptKernelIdeal.τ).loc Cert.OptKernelIdeal.main_arg6)
          ∧ r.2.mem ((c.tc : Thread Cert.OptKernelIdeal.nD Cert.OptKernelIdeal.τ).loc Cert.OptKernelIdeal.main_arg7) = m ((c.tc : Thread Cert.OptKernelIdeal.nD Cert.OptKernelIdeal.τ).loc Cert.OptKernelIdeal.main_arg7)
          ∧ r.2.mem ((c.tc : Thread Cert.OptKernelIdeal.nD Cert.OptKernelIdeal.τ).loc Cert.OptKernelIdeal.main_arg8) = m ((c.tc : Thread Cert.OptKernelIdeal.nD Cert.OptKernelIdeal.τ).loc Cert.OptKernelIdeal.main_arg8)
          ∧ r.2.mem ((c.tc : Thread Cert.OptKernelIdeal.nD Cert.OptKernelIdeal.τ).loc Cert.OptKernelIdeal.main_arg9) = m ((c.tc : Thread Cert.OptKernelIdeal.nD Cert.OptKernelIdeal.τ).loc Cert.OptKernelIdeal.main_arg9)
          ∧ r.2.mem ((c.tc : Thread Cert.OptKernelIdeal.nD Cert.OptKernelIdeal.τ).loc Cert.OptKernelIdeal.main_arg10) = m ((c.tc : Thread Cert.OptKernelIdeal.nD Cert.OptKernelIdeal.τ).loc Cert.OptKernelIdeal.main_arg10)
          ∧ r.2.mem ((c.tc : Thread Cert.OptKernelIdeal.nD Cert.OptKernelIdeal.τ).loc Cert.OptKernelIdeal.main_arg11) = m ((c.tc : Thread Cert.OptKernelIdeal.nD Cert.OptKernelIdeal.τ).loc Cert.OptKernelIdeal.main_arg11)
          ∧ r.2.mem ((c.tc : Thread Cert.OptKernelIdeal.nD Cert.OptKernelIdeal.τ).loc Cert.OptKernelIdeal.main_arg12) = m ((c.tc : Thread Cert.OptKernelIdeal.nD Cert.OptKernelIdeal.τ).loc Cert.OptKernelIdeal.main_arg12)
          ∧ r.2.mem ((c.tc : Thread Cert.OptKernelIdeal.nD Cert.OptKernelIdeal.τ).loc Cert.OptKernelIdeal.main_arg13) = m ((c.tc : Thread Cert.OptKernelIdeal.nD Cert.OptKernelIdeal.τ).loc Cert.OptKernelIdeal.main_arg13)
          ∧ r.2.mem ((c.tc : Thread Cert.OptKernelIdeal.nD Cert.OptKernelIdeal.τ).loc Cert.OptKernelIdeal.main_arg14) = m ((c.tc : Thread Cert.OptKernelIdeal.nD Cert.OptKernelIdeal.τ).loc Cert.OptKernelIdeal.main_arg14)
          ∧ r.2.mem ((c.tc : Thread Cert.OptKernelIdeal.nD Cert.OptKernelIdeal.τ).loc Cert.OptKernelIdeal.main_arg15) = m ((c.tc : Thread Cert.OptKernelIdeal.nD Cert.OptKernelIdeal.τ).loc Cert.OptKernelIdeal.main_arg15)
          ∧ r.2.mem ((c.tc : Thread Cert.OptKernelIdeal.nD Cert.OptKernelIdeal.τ).loc Cert.OptKernelIdeal.main_arg16) = m ((c.tc : Thread Cert.OptKernelIdeal.nD Cert.OptKernelIdeal.τ).loc Cert.OptKernelIdeal.main_arg16)
          ∧ r.2.mem ((c.tc : Thread Cert.OptKernelIdeal.nD Cert.OptKernelIdeal.τ).loc Cert.OptKernelIdeal.main_arg17) = m ((c.tc : Thread Cert.OptKernelIdeal.nD Cert.OptKernelIdeal.τ).loc Cert.OptKernelIdeal.main_arg17)
          ∧ r.2.mem ((c.tc : Thread Cert.OptKernelIdeal.nD Cert.OptKernelIdeal.τ).loc Cert.OptKernelIdeal.main_arg18) = m ((c.tc : Thread Cert.OptKernelIdeal.nD Cert.OptKernelIdeal.τ).loc Cert.OptKernelIdeal.main_arg18)
          ∧ r.2.mem ((c.tc : Thread Cert.OptKernelIdeal.nD Cert.OptKernelIdeal.τ).loc Cert.OptKernelIdeal.main_arg19) = m ((c.tc : Thread Cert.OptKernelIdeal.nD Cert.OptKernelIdeal.τ).loc Cert.OptKernelIdeal.main_arg19)
          ∧ r.2.mem ((c.tc : Thread Cert.OptKernelIdeal.nD Cert.OptKernelIdeal.τ).loc Cert.OptKernelIdeal.main_arg20) = m ((c.tc : Thread Cert.OptKernelIdeal.nD Cert.OptKernelIdeal.τ).loc Cert.OptKernelIdeal.main_arg20)
          ∧ r.2.mem ((c.tc : Thread Cert.OptKernelIdeal.nD Cert.OptKernelIdeal.τ).loc Cert.OptKernelIdeal.main_arg21) = m ((c.tc : Thread Cert.OptKernelIdeal.nD Cert.OptKernelIdeal.τ).loc Cert.OptKernelIdeal.main_arg21)
          ∧ r.2.mem ((c.tc : Thread Cert.OptKernelIdeal.nD Cert.OptKernelIdeal.τ).loc Cert.OptKernelIdeal.main_arg22) = m ((c.tc : Thread Cert.OptKernelIdeal.nD Cert.OptKernelIdeal.τ).loc Cert.OptKernelIdeal.main_arg22)
          ∧ r.2.mem ((c.tc : Thread Cert.OptKernelIdeal.nD Cert.OptKernelIdeal.τ).loc Cert.OptKernelIdeal.main_arg23) = m ((c.tc : Thread Cert.OptKernelIdeal.nD Cert.OptKernelIdeal.τ).loc Cert.OptKernelIdeal.main_arg23))
      ∧ θ_run (Cert.OptReferenceIdeal.defs (F := Ideal)) (onTc (τ := Cert.OptReferenceIdeal.τ) (Cert.OptReferenceIdeal.main (F := Ideal))) ⟨m', fun _ => 0, g'⟩ (fun r => ∀ c : Dev Cert.OptReferenceIdeal.nD,
          r.2.mem ((c.tc : Thread Cert.OptReferenceIdeal.nD Cert.OptReferenceIdeal.τ).loc Cert.OptReferenceIdeal.main_v23) = v0 c
          ∧ r.2.mem ((c.tc : Thread Cert.OptReferenceIdeal.nD Cert.OptReferenceIdeal.τ).loc Cert.OptReferenceIdeal.main_v4) = v1 c
          ∧ r.2.mem ((c.tc : Thread Cert.OptReferenceIdeal.nD Cert.OptReferenceIdeal.τ).loc Cert.OptReferenceIdeal.main_v10) = v2 c
          ∧ r.2.mem ((c.tc : Thread Cert.OptReferenceIdeal.nD Cert.OptReferenceIdeal.τ).loc Cert.OptReferenceIdeal.main_v47) = v3 c
          ∧ r.2.mem ((c.tc : Thread Cert.OptReferenceIdeal.nD Cert.OptReferenceIdeal.τ).loc Cert.OptReferenceIdeal.main_v28) = v4 c
          ∧ r.2.mem ((c.tc : Thread Cert.OptReferenceIdeal.nD Cert.OptReferenceIdeal.τ).loc Cert.OptReferenceIdeal.main_v34) = v5 c
          ∧ r.2.mem ((c.tc : Thread Cert.OptReferenceIdeal.nD Cert.OptReferenceIdeal.τ).loc Cert.OptReferenceIdeal.main_v71) = v6 c
          ∧ r.2.mem ((c.tc : Thread Cert.OptReferenceIdeal.nD Cert.OptReferenceIdeal.τ).loc Cert.OptReferenceIdeal.main_v52) = v7 c
          ∧ r.2.mem ((c.tc : Thread Cert.OptReferenceIdeal.nD Cert.OptReferenceIdeal.τ).loc Cert.OptReferenceIdeal.main_v58) = v8 c
          ∧ r.2.mem ((c.tc : Thread Cert.OptReferenceIdeal.nD Cert.OptReferenceIdeal.τ).loc Cert.OptReferenceIdeal.main_v95) = v9 c
          ∧ r.2.mem ((c.tc : Thread Cert.OptReferenceIdeal.nD Cert.OptReferenceIdeal.τ).loc Cert.OptReferenceIdeal.main_v76) = v10 c
          ∧ r.2.mem ((c.tc : Thread Cert.OptReferenceIdeal.nD Cert.OptReferenceIdeal.τ).loc Cert.OptReferenceIdeal.main_v82) = v11 c
          ∧ r.2.mem ((c.tc : Thread Cert.OptReferenceIdeal.nD Cert.OptReferenceIdeal.τ).loc Cert.OptReferenceIdeal.main_v119) = v12 c
          ∧ r.2.mem ((c.tc : Thread Cert.OptReferenceIdeal.nD Cert.OptReferenceIdeal.τ).loc Cert.OptReferenceIdeal.main_v100) = v13 c
          ∧ r.2.mem ((c.tc : Thread Cert.OptReferenceIdeal.nD Cert.OptReferenceIdeal.τ).loc Cert.OptReferenceIdeal.main_v106) = v14 c
          ∧ r.2.mem ((c.tc : Thread Cert.OptReferenceIdeal.nD Cert.OptReferenceIdeal.τ).loc Cert.OptReferenceIdeal.main_v143) = v15 c
          ∧ r.2.mem ((c.tc : Thread Cert.OptReferenceIdeal.nD Cert.OptReferenceIdeal.τ).loc Cert.OptReferenceIdeal.main_v124) = v16 c
          ∧ r.2.mem ((c.tc : Thread Cert.OptReferenceIdeal.nD Cert.OptReferenceIdeal.τ).loc Cert.OptReferenceIdeal.main_v130) = v17 c
          ∧ r.2.mem ((c.tc : Thread Cert.OptReferenceIdeal.nD Cert.OptReferenceIdeal.τ).loc Cert.OptReferenceIdeal.main_arg0) = m' ((c.tc : Thread Cert.OptReferenceIdeal.nD Cert.OptReferenceIdeal.τ).loc Cert.OptReferenceIdeal.main_arg0)
          ∧ r.2.mem ((c.tc : Thread Cert.OptReferenceIdeal.nD Cert.OptReferenceIdeal.τ).loc Cert.OptReferenceIdeal.main_arg1) = m' ((c.tc : Thread Cert.OptReferenceIdeal.nD Cert.OptReferenceIdeal.τ).loc Cert.OptReferenceIdeal.main_arg1)
          ∧ r.2.mem ((c.tc : Thread Cert.OptReferenceIdeal.nD Cert.OptReferenceIdeal.τ).loc Cert.OptReferenceIdeal.main_arg2) = m' ((c.tc : Thread Cert.OptReferenceIdeal.nD Cert.OptReferenceIdeal.τ).loc Cert.OptReferenceIdeal.main_arg2)
          ∧ r.2.mem ((c.tc : Thread Cert.OptReferenceIdeal.nD Cert.OptReferenceIdeal.τ).loc Cert.OptReferenceIdeal.main_arg3) = m' ((c.tc : Thread Cert.OptReferenceIdeal.nD Cert.OptReferenceIdeal.τ).loc Cert.OptReferenceIdeal.main_arg3)
          ∧ r.2.mem ((c.tc : Thread Cert.OptReferenceIdeal.nD Cert.OptReferenceIdeal.τ).loc Cert.OptReferenceIdeal.main_arg4) = m' ((c.tc : Thread Cert.OptReferenceIdeal.nD Cert.OptReferenceIdeal.τ).loc Cert.OptReferenceIdeal.main_arg4)
          ∧ r.2.mem ((c.tc : Thread Cert.OptReferenceIdeal.nD Cert.OptReferenceIdeal.τ).loc Cert.OptReferenceIdeal.main_arg5) = m' ((c.tc : Thread Cert.OptReferenceIdeal.nD Cert.OptReferenceIdeal.τ).loc Cert.OptReferenceIdeal.main_arg5)
          ∧ r.2.mem ((c.tc : Thread Cert.OptReferenceIdeal.nD Cert.OptReferenceIdeal.τ).loc Cert.OptReferenceIdeal.main_arg6) = m' ((c.tc : Thread Cert.OptReferenceIdeal.nD Cert.OptReferenceIdeal.τ).loc Cert.OptReferenceIdeal.main_arg6)
          ∧ r.2.mem ((c.tc : Thread Cert.OptReferenceIdeal.nD Cert.OptReferenceIdeal.τ).loc Cert.OptReferenceIdeal.main_arg7) = m' ((c.tc : Thread Cert.OptReferenceIdeal.nD Cert.OptReferenceIdeal.τ).loc Cert.OptReferenceIdeal.main_arg7)
          ∧ r.2.mem ((c.tc : Thread Cert.OptReferenceIdeal.nD Cert.OptReferenceIdeal.τ).loc Cert.OptReferenceIdeal.main_arg8) = m' ((c.tc : Thread Cert.OptReferenceIdeal.nD Cert.OptReferenceIdeal.τ).loc Cert.OptReferenceIdeal.main_arg8)
          ∧ r.2.mem ((c.tc : Thread Cert.OptReferenceIdeal.nD Cert.OptReferenceIdeal.τ).loc Cert.OptReferenceIdeal.main_arg9) = m' ((c.tc : Thread Cert.OptReferenceIdeal.nD Cert.OptReferenceIdeal.τ).loc Cert.OptReferenceIdeal.main_arg9)
          ∧ r.2.mem ((c.tc : Thread Cert.OptReferenceIdeal.nD Cert.OptReferenceIdeal.τ).loc Cert.OptReferenceIdeal.main_arg10) = m' ((c.tc : Thread Cert.OptReferenceIdeal.nD Cert.OptReferenceIdeal.τ).loc Cert.OptReferenceIdeal.main_arg10)
          ∧ r.2.mem ((c.tc : Thread Cert.OptReferenceIdeal.nD Cert.OptReferenceIdeal.τ).loc Cert.OptReferenceIdeal.main_arg11) = m' ((c.tc : Thread Cert.OptReferenceIdeal.nD Cert.OptReferenceIdeal.τ).loc Cert.OptReferenceIdeal.main_arg11)
          ∧ r.2.mem ((c.tc : Thread Cert.OptReferenceIdeal.nD Cert.OptReferenceIdeal.τ).loc Cert.OptReferenceIdeal.main_arg12) = m' ((c.tc : Thread Cert.OptReferenceIdeal.nD Cert.OptReferenceIdeal.τ).loc Cert.OptReferenceIdeal.main_arg12)
          ∧ r.2.mem ((c.tc : Thread Cert.OptReferenceIdeal.nD Cert.OptReferenceIdeal.τ).loc Cert.OptReferenceIdeal.main_arg13) = m' ((c.tc : Thread Cert.OptReferenceIdeal.nD Cert.OptReferenceIdeal.τ).loc Cert.OptReferenceIdeal.main_arg13)
          ∧ r.2.mem ((c.tc : Thread Cert.OptReferenceIdeal.nD Cert.OptReferenceIdeal.τ).loc Cert.OptReferenceIdeal.main_arg14) = m' ((c.tc : Thread Cert.OptReferenceIdeal.nD Cert.OptReferenceIdeal.τ).loc Cert.OptReferenceIdeal.main_arg14)
          ∧ r.2.mem ((c.tc : Thread Cert.OptReferenceIdeal.nD Cert.OptReferenceIdeal.τ).loc Cert.OptReferenceIdeal.main_arg15) = m' ((c.tc : Thread Cert.OptReferenceIdeal.nD Cert.OptReferenceIdeal.τ).loc Cert.OptReferenceIdeal.main_arg15)
          ∧ r.2.mem ((c.tc : Thread Cert.OptReferenceIdeal.nD Cert.OptReferenceIdeal.τ).loc Cert.OptReferenceIdeal.main_arg16) = m' ((c.tc : Thread Cert.OptReferenceIdeal.nD Cert.OptReferenceIdeal.τ).loc Cert.OptReferenceIdeal.main_arg16)
          ∧ r.2.mem ((c.tc : Thread Cert.OptReferenceIdeal.nD Cert.OptReferenceIdeal.τ).loc Cert.OptReferenceIdeal.main_arg17) = m' ((c.tc : Thread Cert.OptReferenceIdeal.nD Cert.OptReferenceIdeal.τ).loc Cert.OptReferenceIdeal.main_arg17)
          ∧ r.2.mem ((c.tc : Thread Cert.OptReferenceIdeal.nD Cert.OptReferenceIdeal.τ).loc Cert.OptReferenceIdeal.main_arg18) = m' ((c.tc : Thread Cert.OptReferenceIdeal.nD Cert.OptReferenceIdeal.τ).loc Cert.OptReferenceIdeal.main_arg18)
          ∧ r.2.mem ((c.tc : Thread Cert.OptReferenceIdeal.nD Cert.OptReferenceIdeal.τ).loc Cert.OptReferenceIdeal.main_arg19) = m' ((c.tc : Thread Cert.OptReferenceIdeal.nD Cert.OptReferenceIdeal.τ).loc Cert.OptReferenceIdeal.main_arg19)
          ∧ r.2.mem ((c.tc : Thread Cert.OptReferenceIdeal.nD Cert.OptReferenceIdeal.τ).loc Cert.OptReferenceIdeal.main_arg20) = m' ((c.tc : Thread Cert.OptReferenceIdeal.nD Cert.OptReferenceIdeal.τ).loc Cert.OptReferenceIdeal.main_arg20)
          ∧ r.2.mem ((c.tc : Thread Cert.OptReferenceIdeal.nD Cert.OptReferenceIdeal.τ).loc Cert.OptReferenceIdeal.main_arg21) = m' ((c.tc : Thread Cert.OptReferenceIdeal.nD Cert.OptReferenceIdeal.τ).loc Cert.OptReferenceIdeal.main_arg21)
          ∧ r.2.mem ((c.tc : Thread Cert.OptReferenceIdeal.nD Cert.OptReferenceIdeal.τ).loc Cert.OptReferenceIdeal.main_arg22) = m' ((c.tc : Thread Cert.OptReferenceIdeal.nD Cert.OptReferenceIdeal.τ).loc Cert.OptReferenceIdeal.main_arg22)
          ∧ r.2.mem ((c.tc : Thread Cert.OptReferenceIdeal.nD Cert.OptReferenceIdeal.τ).loc Cert.OptReferenceIdeal.main_arg23) = m' ((c.tc : Thread Cert.OptReferenceIdeal.nD Cert.OptReferenceIdeal.τ).loc Cert.OptReferenceIdeal.main_arg23))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hLinKernel : Cert.LinKernel.Facts) (hLinKernelIdeal : Cert.LinKernelIdeal.Facts) (hLinReferenceIdeal : Cert.LinReferenceIdeal.Facts) (hOptKernel : Cert.OptKernel.Facts) (hOptKernelIdeal : Cert.OptKernelIdeal.Facts) (hOptReferenceIdeal : Cert.OptReferenceIdeal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnKernel (hFfnKernel := hFfnKernel)
    ∧ quiescent_FfnKernelIdeal (hFfnKernelIdeal := hFfnKernelIdeal)
    ∧ quiescent_FfnKernelIdeal_pre_finite2 (hFfnKernelIdeal := hFfnKernelIdeal) (hPre_finite2 := hPre_finite2)
    ∧ quiescent_FfnReferenceIdeal (hFfnReferenceIdeal := hFfnReferenceIdeal)
    ∧ quiescent_FfnReferenceIdeal_pre_finite2 (hFfnReferenceIdeal := hFfnReferenceIdeal) (hPre_finite2 := hPre_finite2)
    ∧ quiescent_LinKernel (hLinKernel := hLinKernel)
    ∧ quiescent_LinKernelIdeal (hLinKernelIdeal := hLinKernelIdeal)
    ∧ quiescent_LinReferenceIdeal (hLinReferenceIdeal := hLinReferenceIdeal)
    ∧ quiescent_OptKernel (hOptKernel := hOptKernel)
    ∧ quiescent_OptKernelIdeal (hOptKernelIdeal := hOptKernelIdeal)
    ∧ quiescent_OptReferenceIdeal (hOptReferenceIdeal := hOptReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnKernel_FfnKernelIdeal
    ∧ algebraic_FfnKernelIdeal_FfnReferenceIdeal_pre_finite2 (hFfnKernelIdeal := hFfnKernelIdeal) (hFfnReferenceIdeal := hFfnReferenceIdeal) (hPre_finite2 := hPre_finite2)
    ∧ preserves_LinKernel_LinKernelIdeal
    ∧ algebraic_LinKernelIdeal_LinReferenceIdeal (hLinKernelIdeal := hLinKernelIdeal) (hLinReferenceIdeal := hLinReferenceIdeal)
    ∧ preserves_OptKernel_OptKernelIdeal
    ∧ algebraic_OptKernelIdeal_OptReferenceIdeal (hOptKernelIdeal := hOptKernelIdeal) (hOptReferenceIdeal := hOptReferenceIdeal)
-- ==== Pre_finite.lean ====
abbrev S8x2048x64 : Shape := ⟨3, ![8, 2048, 64]⟩
abbrev S8x2048 : Shape := ⟨2, ![8, 2048]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048 : S_.BroadcastsInDim S8x2048 (![] : Fin 0 → Fin S8x2048.rank)
  reducesTo_S8x2048_S_d0_1 : S8x2048.ReducesTo [0, 1] S_

variable [Facts]

def fn_part1 {F : FTy → Type} [FloatOps F] (main_arg4 : FVec F S8x2048x64 .bf16) (main_v13 : IVec S_ 1) (main_v16 : IVec S8x2048 1) : IVec S_ 1 :=
  let main_c_5 : IVec S_ 1 := constantI S_ 1 1#1
  let main_v17 : IVec S_ 1 := (fun x v => Host.reduce IntOp.andi x v reducesTo_S8x2048_S_d0_1 h_S_) main_v16 main_c_5
  let main_v18 : IVec S_ 1 := andi main_v13 main_v17
  let main_v19 : FVec F S8x2048x64 .bf16 := subf main_arg4 main_arg4
  let main_cst_6 : FVec F S_ .bf16 := constant S_ .bf16 0x0000#16
  let main_v20 : FVec F S8x2048x64 .bf16 := broadcastInDim S8x2048x64 ![] bcast_S_S8x2048x64 main_cst_6
  let main_v21 : IVec S8x2048x64 1 := cmpf .oeq main_v19 main_v20
  let main_c_7 : IVec S_ 1 := constantI S_ 1 1#1
  let main_v22 : IVec S_ 1 := (fun x v => Host.reduce IntOp.andi x v reducesTo_S8x2048x64_S_d0_1_2 h_S_) main_v21 main_c_7
  let main_v23 : IVec S_ 1 := andi main_v18 main_v22
  main_v23

def fn {F : FTy → Type} [FloatOps F] (main_arg0 : FVec F S8x2048x64 .bf16) (main_arg1 : FVec F S8x2048x64 .bf16) (main_arg2 : FVec F S8x2048x64 .bf16) (main_arg3 : FVec F S8x2048 .f32) (main_arg4 : FVec F S8x2048x64 .bf16) : IVec S_ 1 :=
  let main_v0 : FVec F S8x2048x64 .bf16 := subf main_arg0 main_arg0
  let main_cst : FVec F S_ .bf16 := constant S_ .bf16 0x0000#16
  let main_v1 : FVec F S8x2048x64 .bf16 := broadcastInDim S8x2048x64 ![] bcast_S_S8x2048x64 main_cst
  let main_v2 : IVec S8x2048x64 1 := cmpf .oeq main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .bf16 := subf main_arg1 main_arg1
  let main_cst_0 : FVec F S_ .bf16 := constant S_ .bf16 0x0000#16
  let main_v5 : FVec F S8x2048x64 .bf16 := broadcastInDim S8x2048x64 ![] bcast_S_S8x2048x64 main_cst_0
  let main_v6 : IVec S8x2048x64 1 := cmpf .oeq main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x2048x64 .bf16 := subf main_arg2 main_arg2
  let main_cst_2 : FVec F S_ .bf16 := constant S_ .bf16 0x0000#16
  let main_v10 : FVec F S8x2048x64 .bf16 := broadcastInDim S8x2048x64 ![] bcast_S_S8x2048x64 main_cst_2
  let main_v11 : IVec S8x2048x64 1 := cmpf .oeq main_v9 main_v10
  let main_c_3 : IVec S_ 1 := constantI S_ 1 1#1
  let main_v12 : IVec S_ 1 := (fun x v => Host.reduce IntOp.andi x v reducesTo_S8x2048x64_S_d0_1_2 h_S_) main_v11 main_c_3
  let main_v13 : IVec S_ 1 := andi main_v8 main_v12
  let main_v14 : FVec F S8x2048 .f32 := subf main_arg3 main_arg3
  let main_cst_4 : FVec F S_ .f32 := constant S_ .f32 0x00000000#32
  let main_v15 : FVec F S8x2048 .f32 := broadcastInDim S8x2048 ![] bcast_S_S8x2048 main_cst_4
  let main_v16 : IVec S8x2048 1 := cmpf .oeq main_v14 main_v15
  fn_part1 (F := F) main_arg4 main_v13 main_v16
-- ==== Pre_finite2.lean ====
abbrev S2048x1024 : Shape := ⟨2, ![2048, 1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x1024 .bf16) (main_arg1 : FVec F S1024x5632 .bf16) (main_arg2 : FVec F S2816x1024 .bf16) (main_arg3 : FVec F S2048x1024 .bf16) : IVec S_ 1 :=
  let main_v0 : FVec F S2048x1024 .bf16 := subf main_arg0 main_arg0
  let main_cst : FVec F S_ .bf16 := constant S_ .bf16 0x0000#16
  let main_v1 : FVec F S2048x1024 .bf16 := broadcastInDim S2048x1024 ![] bcast_S_S2048x1024 main_cst
  let main_v2 : IVec S2048x1024 1 := cmpf .oeq main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x5632 .bf16 := subf main_arg1 main_arg1
  let main_cst_0 : FVec F S_ .bf16 := constant S_ .bf16 0x0000#16
  let main_v5 : FVec F S1024x5632 .bf16 := broadcastInDim S1024x5632 ![] bcast_S_S1024x5632 main_cst_0
  let main_v6 : IVec S1024x5632 1 := cmpf .oeq main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .bf16 := subf main_arg2 main_arg2
  let main_cst_2 : FVec F S_ .bf16 := constant S_ .bf16 0x0000#16
  let main_v10 : FVec F S2816x1024 .bf16 := broadcastInDim S2816x1024 ![] bcast_S_S2816x1024 main_cst_2
  let main_v11 : IVec S2816x1024 1 := cmpf .oeq main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2048x1024 .bf16 := subf main_arg3 main_arg3
  let main_cst_4 : FVec F S_ .bf16 := constant S_ .bf16 0x0000#16
  let main_v15 : FVec F S2048x1024 .bf16 := broadcastInDim S2048x1024 ![] bcast_S_S2048x1024 main_cst_4
  let main_v16 : IVec S2048x1024 1 := cmpf .oeq main_v14 main_v15
  fn_part1 (F := F) main_v13 main_v16
-- ==== Kernel.lean ====
abbrev S8x2048x64 : Shape := ⟨3, ![8, 2048, 64]⟩
abbrev S8x2048 : Shape := ⟨2, ![8, 2048]⟩
abbrev S8x2048x2048 : Shape := ⟨3, ![8, 2048, 2048]⟩
abbrev S_ : Shape := ⟨0, ![]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x2048x1 : Shape := ⟨3, ![8, 2048, 1]⟩
abbrev S1x2048x64 : Shape := ⟨3, ![1, 2048, 64]⟩
abbrev S1x2048x1 : Shape := ⟨3, ![1, 2048, 1]⟩
abbrev S1x1x2048 : Shape := ⟨3, ![1, 1, 2048]⟩
abbrev S2048x64 : Shape := ⟨2, ![2048, 64]⟩
abbrev S1x256x64 : Shape := ⟨3, ![1, 256, 64]⟩
abbrev S256x64 : Shape := ⟨2, ![256, 64]⟩
abbrev S1x256x1 : Shape := ⟨3, ![1, 256, 1]⟩
abbrev S256x1 : Shape := ⟨2, ![256, 1]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x512x64 : Shape := ⟨3, ![1, 512, 64]⟩
abbrev S512x64 : Shape := ⟨2, ![512, 64]⟩
abbrev S256x512 : Shape := ⟨2, ![256, 512]⟩
abbrev S1x1x512 : Shape := ⟨3, ![1, 1, 512]⟩
abbrev S1x512 : Shape := ⟨2, ![1, 512]⟩
abbrev S512 : Shape := ⟨1, ![512]⟩
abbrev S1x768x64 : Shape := ⟨3, ![1, 768, 64]⟩
abbrev S768x64 : Shape := ⟨2, ![768, 64]⟩
abbrev S256x768 : Shape := ⟨2, ![256, 768]⟩
abbrev S1x1x768 : Shape := ⟨3, ![1, 1, 768]⟩
abbrev S1x768 : Shape := ⟨2, ![1, 768]⟩
abbrev S768 : Shape := ⟨1, ![768]⟩
abbrev S1x1024x64 : Shape := ⟨3, ![1, 1024, 64]⟩
abbrev S1024x64 : Shape := ⟨2, ![1024, 64]⟩
abbrev S256x1024 : Shape := ⟨2, ![256, 1024]⟩
abbrev S1x1x1024 : Shape := ⟨3, ![1, 1, 1024]⟩
abbrev S1x1024 : Shape := ⟨2, ![1, 1024]⟩
abbrev S1024 : Shape := ⟨1, ![1024]⟩
abbrev S1x1280x64 : Shape := ⟨3, ![1, 1280, 64]⟩
abbrev S1280x64 : Shape := ⟨2, ![1280, 64]⟩
abbrev S256x1280 : Shape := ⟨2, ![256, 1280]⟩
abbrev S1x1x1280 : Shape := ⟨3, ![1, 1, 1280]⟩
abbrev S1x1280 : Shape := ⟨2, ![1, 1280]⟩
abbrev S1280 : Shape := ⟨1, ![1280]⟩
abbrev S1x1536x64 : Shape := ⟨3, ![1, 1536, 64]⟩
abbrev S1536x64 : Shape := ⟨2, ![1536, 64]⟩
abbrev S256x1536 : Shape := ⟨2, ![256, 1536]⟩
abbrev S1x1x1536 : Shape := ⟨3, ![1, 1, 1536]⟩
abbrev S1x1536 : Shape := ⟨2, ![1, 1536]⟩
abbrev S1536 : Shape := ⟨1, ![1536]⟩
abbrev S1x1792x64 : Shape := ⟨3, ![1, 1792, 64]⟩
abbrev S1792x64 : Shape := ⟨2, ![1792, 64]⟩
abbrev S256x1792 : Shape := ⟨2, ![256, 1792]⟩
abbrev S1x1x1792 : Shape := ⟨3, ![1, 1, 1792]⟩
abbrev S1x1792 : Shape := ⟨2, ![1, 1792]⟩
abbrev S1792 : Shape := ⟨1, ![1792]⟩

abbrev nBuf : Space → Nat
  | .hbm => 40
  | .vmem => 20
  | .smem => 0
  | _ => 0

abbrev bufTy : (tb : Table) → Fin (tcTables nBuf tb) → BufTy
  | .hbm, ⟨0, _⟩ => ⟨S8x2048x64, .bf16⟩
  | .hbm, ⟨1, _⟩ => ⟨S8x2048x64, .bf16⟩
  | .hbm, ⟨2, _⟩ => ⟨S8x2048x64, .bf16⟩
  | .hbm, ⟨3, _⟩ => ⟨S8x2048, .f32⟩
  | .hbm, ⟨4, _⟩ => ⟨S8x2048x64, .bf16⟩
  | .hbm, ⟨5, _⟩ => ⟨S8x2048x2048, .f32⟩
  | .hbm, ⟨6, _⟩ => ⟨S_, .f32⟩
  | .hbm, ⟨7, _⟩ => ⟨S8x2048x2048, .f32⟩
  | .hbm, ⟨8, _⟩ => ⟨S8x2048x2048, .f32⟩
  | .hbm, ⟨9, _⟩ => ⟨S8x1x2048, .f32⟩
  | .hbm, ⟨10, _⟩ => ⟨S8x2048x2048, .f32⟩
  | .hbm, ⟨11, _⟩ => ⟨S8x2048x2048, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .f32⟩
  | .hbm, ⟨20, _⟩ => ⟨S_, .f32⟩
  | .hbm, ⟨21, _⟩ => ⟨S8x2048x2048, .i1⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S8x2048x1, .f32⟩
  | .hbm, ⟨34, _⟩ => ⟨S8x2048x1, .f32⟩
  | .hbm, ⟨35, _⟩ => ⟨S8x1x2048, .f32⟩
  | .hbm, ⟨36, _⟩ => ⟨S8x2048x64, .bf16⟩
  | .hbm, ⟨37, _⟩ => ⟨S8x2048x64, .f32⟩
  | .hbm, ⟨38, _⟩ => ⟨S8x2048x64, .f32⟩
  | .hbm, ⟨39, _⟩ => ⟨S8x1x2048, .f32⟩
  | .local _ .vmem, ⟨0, _⟩ => ⟨S1x2048x64, .bf16⟩
  | .local _ .vmem, ⟨1, _⟩ => ⟨S1x2048x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x2048x64, .bf16⟩
  | .local _ .vmem, ⟨7, _⟩ => ⟨S1x2048x64, .bf16⟩
  | .local _ .vmem, ⟨8, _⟩ => ⟨S1x2048x1, .f32⟩
  | .local _ .vmem, ⟨9, _⟩ => ⟨S1x2048x1, .f32⟩
  | .local _ .vmem, ⟨10, _⟩ => ⟨S1x1x2048, .f32⟩
  | .local _ .vmem, ⟨11, _⟩ => ⟨S1x1x2048, .f32⟩
  | .local _ .vmem, ⟨12, _⟩ => ⟨S1x2048x64, .bf16⟩
  | .local _ .vmem, ⟨13, _⟩ => ⟨S1x2048x64, .bf16⟩
  | .local _ .vmem, ⟨14, _⟩ => ⟨S1x2048x64, .f32⟩
  | .local _ .vmem, ⟨15, _⟩ => ⟨S1x2048x64, .f32⟩
  | .local _ .vmem, ⟨16, _⟩ => ⟨S1x2048x64, .f32⟩
  | .local _ .vmem, ⟨17, _⟩ => ⟨S1x2048x64, .f32⟩
  | .local _ .vmem, ⟨18, _⟩ => ⟨S1x1x2048, .f32⟩
  | .local _ .vmem, ⟨19, _⟩ => ⟨S1x1x2048, .f32⟩
  | _, _ => ⟨S8x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2048x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8x2048x64 : Shape := ⟨3, ![8, 2048, 64]⟩
abbrev S8x2048 : Shape := ⟨2, ![8, 2048]⟩
abbrev S8x2048x2048 : Shape := ⟨3, ![8, 2048, 2048]⟩
abbrev S_ : Shape := ⟨0, ![]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x64x2048 : Shape := ⟨3, ![8, 64, 2048]⟩

abbrev nBuf : Space → Nat
  | .hbm => 120
  | .vmem => 0
  | .smem => 0
  | _ => 0

abbrev bufTy : (tb : Table) → Fin (tcTables nBuf tb) → BufTy
  | .hbm, ⟨0, _⟩ => ⟨S8x2048x64, .bf16⟩
  | .hbm, ⟨1, _⟩ => ⟨S8x2048x64, .bf16⟩
  | .hbm, ⟨2, _⟩ => ⟨S8x2048x64, .bf16⟩
  | .hbm, ⟨3, _⟩ => ⟨S8x2048, .f32⟩
  | .hbm, ⟨4, _⟩ => ⟨S8x2048x64, .bf16⟩
  | .hbm, ⟨5, _⟩ => ⟨S8x2048x64, .f32⟩
  | .hbm, ⟨6, _⟩ => ⟨S8x2048x64, .f32⟩
  | .hbm, ⟨7, _⟩ => ⟨S8x2048x64, .bf16⟩
  | .hbm, ⟨8, _⟩ => ⟨S8x2048x64, .bf16⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x1x2048, .f32⟩
  | .hbm, ⟨17, _⟩ => ⟨S8x2048x2048, .f32⟩
  | .hbm, ⟨18, _⟩ => ⟨S8x2048x2048, .f32⟩
  | .hbm, ⟨19, _⟩ => ⟨S2048, .i32⟩
  | .hbm, ⟨20, _⟩ => ⟨S2048x1, .i32⟩
  | .hbm, ⟨21, _⟩ => ⟨S2048, .i32⟩
  | .hbm, ⟨22, _⟩ => ⟨S1x2048, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S8x2048x2048, .i1⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048x2048, .f32⟩
  | .hbm, ⟨33, _⟩ => ⟨S_, .f32⟩
  | .hbm, ⟨34, _⟩ => ⟨S8x2048, .f32⟩
  | .hbm, ⟨35, _⟩ => ⟨S8x2048x1, .f32⟩
  | .hbm, ⟨36, _⟩ => ⟨S8x2048x2048, .f32⟩
  | .hbm, ⟨37, _⟩ => ⟨S8x2048x2048, .i1⟩
  | .hbm, ⟨38, _⟩ => ⟨S8x2048x2048, .f32⟩
  | .hbm, ⟨39, _⟩ => ⟨S_, .f32⟩
  | .hbm, ⟨40, _⟩ => ⟨S8x2048, .f32⟩
  | .hbm, ⟨41, _⟩ => ⟨S_, .f32⟩
  | .hbm, ⟨42, _⟩ => ⟨S8x2048, .f32⟩
  | .hbm, ⟨43, _⟩ => ⟨S8x2048, .f32⟩
  | .hbm, ⟨44, _⟩ => ⟨S_, .f32⟩
  | .hbm, ⟨45, _⟩ => ⟨S8x2048, .f32⟩
  | .hbm, ⟨46, _⟩ => ⟨S8x2048, .i1⟩
  | .hbm, ⟨47, _⟩ => ⟨S_, .f32⟩
  | .hbm, ⟨48, _⟩ => ⟨S8x2048, .f32⟩
  | .hbm, ⟨49, _⟩ => ⟨S8x2048, .i1⟩
  | .hbm, ⟨50, _⟩ => ⟨S_, .f32⟩
  | .hbm, ⟨51, _⟩ => ⟨S8x2048, .f32⟩
  | .hbm, ⟨52, _⟩ => ⟨S_, .f32⟩
  | .hbm, ⟨53, _⟩ => ⟨S8x2048, .f32⟩
  | .hbm, ⟨54, _⟩ => ⟨S_, .f32⟩
  | .hbm, ⟨55, _⟩ => ⟨S8x2048, .f32⟩
  | .hbm, ⟨56, _⟩ => ⟨S8x2048, .f32⟩
  | .hbm, ⟨57, _⟩ => ⟨S8x2048, .f32⟩
  | .hbm, ⟨58, _⟩ => ⟨S8x2048x1, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S8x2048x2048, .f32⟩
  | .hbm, ⟨66, _⟩ => ⟨S8x2048x2048, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x2048, .bf16⟩
  | .hbm, ⟨72, _⟩ => ⟨S8x2048x64, .f32⟩
  | .hbm, ⟨73, _⟩ => ⟨S8x2048x64, .bf16⟩
  | .hbm, ⟨74, _⟩ => ⟨S8x2048x64, .f32⟩
  | .hbm, ⟨75, _⟩ => ⟨S8x64x2048, .f32⟩
  | .hbm, ⟨76, _⟩ => ⟨S8x2048x64, .f32⟩
  | .hbm, ⟨77, _⟩ => ⟨S8x2048x64, .bf16⟩
  | .hbm, ⟨78, _⟩ => ⟨S8x2048x2048, .f32⟩
  | .hbm, ⟨79, _⟩ => ⟨S8x2048x2048, .bf16⟩
  | .hbm, ⟨80, _⟩ => ⟨S8x2048x2048, .f32⟩
  | .hbm, ⟨81, _⟩ => ⟨S8x2048x2048, .f32⟩
  | .hbm, ⟨82, _⟩ => ⟨S8x2048x2048, .f32⟩
  | .hbm, ⟨83, _⟩ => ⟨S8x2048x2048, .f32⟩
  | .hbm, ⟨84, _⟩ => ⟨S_, .f32⟩
  | .hbm, ⟨85, _⟩ => ⟨S8x2048, .f32⟩
  | .hbm, ⟨86, _⟩ => ⟨S8x2048x1, .f32⟩
  | .hbm, ⟨87, _⟩ => ⟨S8x2048x1, .f32⟩
  | .hbm, ⟨88, _⟩ => ⟨S8x2048x2048, .f32⟩
  | .hbm, ⟨89, _⟩ => ⟨S8x2048x2048, .f32⟩
  | .hbm, ⟨90, _⟩ => ⟨S_, .f32⟩
  | .hbm, ⟨91, _⟩ => ⟨S8x2048, .f32⟩
  | .hbm, ⟨92, _⟩ => ⟨S8x2048x2048, .f32⟩
  | .hbm, ⟨93, _⟩ => ⟨S8x2048x2048, .f32⟩
  | .hbm, ⟨94, _⟩ => ⟨S8x2048x2048, .f32⟩
  | .hbm, ⟨95, _⟩ => ⟨S_, .f32⟩
  | .hbm, ⟨96, _⟩ => ⟨S8x2048x2048, .f32⟩
  | .hbm, ⟨97, _⟩ => ⟨S8x2048x2048, .f32⟩
  | .hbm, ⟨98, _⟩ => ⟨S8x2048x2048, .f32⟩
  | .hbm, ⟨99, _⟩ => ⟨S_, .f32⟩
  | .hbm, ⟨100, _⟩ => ⟨S8x2048, .f32⟩
  | .hbm, ⟨101, _⟩ => ⟨S8x1x2048, .f32⟩
  | .hbm, ⟨102, _⟩ => ⟨S_, .f32⟩
  | .hbm, ⟨103, _⟩ => ⟨S8x2048, .f32⟩
  | .hbm, ⟨104, _⟩ => ⟨S_, .f32⟩
  | .hbm, ⟨105, _⟩ => ⟨S8x2048, .f32⟩
  | .hbm, ⟨106, _⟩ => ⟨S8x2048x1, .f32⟩
  | .hbm, ⟨107, _⟩ => ⟨S_, .f32⟩
  | .hbm, ⟨108, _⟩ => ⟨S8x2048, .f32⟩
  | .hbm, ⟨109, _⟩ => ⟨S8x2048, .f32⟩
  | .hbm, ⟨110, _⟩ => ⟨S_, .f32⟩
  | .hbm, ⟨111, _⟩ => ⟨S8x2048x2048, .f32⟩
  | .hbm, ⟨112, _⟩ => ⟨S8x2048x2048, .f32⟩
  | .hbm, ⟨113, _⟩ => ⟨S8x2048x64, .f32⟩
  | .hbm, ⟨114, _⟩ => ⟨S8x2048x64, .bf16⟩
  | .hbm, ⟨115, _⟩ => ⟨S8x2048x64, .f32⟩
  | .hbm, ⟨116, _⟩ => ⟨S8x2048x64, .bf16⟩
  | .hbm, ⟨117, _⟩ => ⟨S8x2048x64, .f32⟩
  | .hbm, ⟨118, _⟩ => ⟨S8x2048x64, .f32⟩
  | .hbm, ⟨119, _⟩ => ⟨S8x1x2048, .f32⟩
  | _, _ => ⟨S8x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_12 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_call1_cst : Ref sig .tc := ⟨.hbm, 95, rfl⟩
abbrev main_call1_v0 : Ref sig .tc := ⟨.hbm, 96, rfl⟩
abbrev main_v71 : Ref sig .tc := ⟨.hbm, 97, rfl⟩
abbrev main_v72 : Ref sig .tc := ⟨.hbm, 98, rfl⟩
abbrev main_cst_13 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_cst_15 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_cst_17 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩

abbrev nD : Nat := 1
abbrev τ : Topo := Topo.v7x

variable {F : FTy → Type} [FloatOps F]

def κ : String → Option EReal := fun
  | "mask" => some ⊥
  | _ => none
-- ==== FfnKernel.lean ====
abbrev S2048x1024 : Shape := ⟨2, ![2048, 1024]⟩
abbrev S1024x5632 : Shape := ⟨2, ![1024, 5632]⟩
abbrev S2816x1024 : Shape := ⟨2, ![2816, 1024]⟩
abbrev S2048x5632 : Shape := ⟨2, ![2048, 5632]⟩
abbrev S1024x512 : Shape := ⟨2, ![1024, 512]⟩
abbrev S2048x512 : Shape := ⟨2, ![2048, 512]⟩
abbrev S2048x2816 : Shape := ⟨2, ![2048, 2816]⟩
abbrev S256x5632 : Shape := ⟨2, ![256, 5632]⟩
abbrev S256x2816 : Shape := ⟨2, ![256, 2816]⟩
abbrev S1024x2816 : Shape := ⟨2, ![1024, 2816]⟩
abbrev S2816x512 : Shape := ⟨2, ![2816, 512]⟩
abbrev S256x1024 : Shape := ⟨2, ![256, 1024]⟩
abbrev S2048x256 : Shape := ⟨2, ![2048, 256]⟩
abbrev S512x5632 : Shape := ⟨2, ![512, 5632]⟩
abbrev S512x512 : Shape := ⟨2, ![512, 512]⟩
abbrev S4x2x512x1408 : Shape := ⟨4, ![4, 2, 512, 1408]⟩
abbrev S2048x1408 : Shape := ⟨2, ![2048, 1408]⟩
abbrev S1x1x512x1408 : Shape := ⟨4, ![1, 1, 512, 1408]⟩
abbrev S512x1408 : Shape := ⟨2, ![512, 1408]⟩

abbrev nBuf : Space → Nat
  | .hbm => 12
  | .vmem => 43
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2816x1024, .bf16⟩
  | .hbm, ⟨3, _⟩ => ⟨S2048x1024, .bf16⟩
  | .hbm, ⟨4, _⟩ => ⟨S2048x5632, .bf16⟩
  | .hbm, ⟨5, _⟩ => ⟨S2048x2816, .bf16⟩
  | .hbm, ⟨6, _⟩ => ⟨S2048x1024, .bf16⟩
  | .hbm, ⟨7, _⟩ => ⟨S2048x2816, .bf16⟩
  | .hbm, ⟨8, _⟩ => ⟨S2816x1024, .bf16⟩
  | .hbm, ⟨9, _⟩ => ⟨S2048x5632, .bf16⟩
  | .hbm, ⟨10, _⟩ => ⟨S2048x1024, .bf16⟩
  | .hbm, ⟨11, _⟩ => ⟨S4x2x512x1408, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | .local _ .vmem, ⟨5, _⟩ => ⟨S256x5632, .bf16⟩
  | .local _ .vmem, ⟨6, _⟩ => ⟨S256x5632, .bf16⟩
  | .local _ .vmem, ⟨7, _⟩ => ⟨S256x2816, .bf16⟩
  | .local _ .vmem, ⟨8, _⟩ => ⟨S256x2816, .bf16⟩
  | .local _ .vmem, ⟨9, _⟩ => ⟨S1024x2816, .bf16⟩
  | .local _ .vmem, ⟨10, _⟩ => ⟨S1024x2816, .bf16⟩
  | .local _ .vmem, ⟨11, _⟩ => ⟨S2816x512, .bf16⟩
  | .local _ .vmem, ⟨12, _⟩ => ⟨S2816x512, .bf16⟩
  | .local _ .vmem, ⟨13, _⟩ => ⟨S1024x512, .bf16⟩
  | .local _ .vmem, ⟨14, _⟩ => ⟨S1024x512, .bf16⟩
  | .local _ .vmem, ⟨15, _⟩ => ⟨S2048x1024, .bf16⟩
  | .local _ .vmem, ⟨16, _⟩ => ⟨S256x1024, .bf16⟩
  | .local _ .vmem, ⟨17, _⟩ => ⟨S256x1024, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x1024, .bf16⟩
  | .local _ .vmem, ⟨23, _⟩ => ⟨S256x1024, .bf16⟩
  | .local _ .vmem, ⟨24, _⟩ => ⟨S256x1024, .bf16⟩
  | .local _ .vmem, ⟨25, _⟩ => ⟨S256x5632, .bf16⟩
  | .local _ .vmem, ⟨26, _⟩ => ⟨S256x5632, .bf16⟩
  | .local _ .vmem, ⟨27, _⟩ => ⟨S256x2816, .bf16⟩
  | .local _ .vmem, ⟨28, _⟩ => ⟨S256x2816, .bf16⟩
  | .local _ .vmem, ⟨29, _⟩ => ⟨S256x5632, .bf16⟩
  | .local _ .vmem, ⟨30, _⟩ => ⟨S256x5632, .bf16⟩
  | .local _ .vmem, ⟨31, _⟩ => ⟨S512x5632, .bf16⟩
  | .local _ .vmem, ⟨32, _⟩ => ⟨S512x5632, .bf16⟩
  | .local _ .vmem, ⟨33, _⟩ => ⟨S512x5632, .bf16⟩
  | .local _ .vmem, ⟨34, _⟩ => ⟨S512x5632, .bf16⟩
  | .local _ .vmem, ⟨35, _⟩ => ⟨S512x512, .bf16⟩
  | .local _ .vmem, ⟨36, _⟩ => ⟨S512x512, .bf16⟩
  | .local _ .vmem, ⟨37, _⟩ => ⟨S2048x512, .bf16⟩
  | .local _ .vmem, ⟨38, _⟩ => ⟨S2048x512, .bf16⟩
  | .local _ .vmem, ⟨39, _⟩ => ⟨S2048x1408, .bf16⟩
  | .local _ .vmem, ⟨40, _⟩ => ⟨S2048x1408, .bf16⟩
  | .local _ .vmem, ⟨41, _⟩ => ⟨S1x1x512x1408, .bf16⟩
  | .local _ .vmem, ⟨42, _⟩ => ⟨S1x1x512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg1_0 : Ref sig .tc := ⟨.vmem, 16, rfl⟩
abbrev cc3_stg1_1 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg2_1 : Ref sig .tc := ⟨.vmem, 30, rfl⟩
abbrev cc6_stg0_0 : Ref sig .tc := ⟨.vmem, 31, rfl⟩
abbrev cc6_stg0_1 : Ref sig .tc := ⟨.vmem, 32, rfl⟩
abbrev cc6_stg1_0 : Ref sig .tc := ⟨.vmem, 33, rfl⟩
abbrev cc6_stg1_1 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem2_1 : DmaSem sig := 14
abbrev cc3_sem0_0 : DmaSem sig := 15
abbrev cc3_sem1_0 : DmaSem sig := 16
abbrev cc3_sem1_1 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem2_1 : DmaSem sig := 30
abbrev cc6_sem0_0 : DmaSem sig := 31
abbrev cc6_sem0_1 : DmaSem sig := 32
abbrev cc6_sem1_0 : DmaSem sig := 33
abbrev cc6_sem1_1 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S2816x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 11], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2048x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![11, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S2048x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S2048x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S256x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x5632 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x2816 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x5632 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨2, ![4, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x5632 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S512x5632 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S512x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![2, 4], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage7_0 : Fin 2 → Memref sig .tc .vmem S2048x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S2048x1408 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1x1x512x1408 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]
-- ==== FfnReferenceIdeal.lean ====
abbrev S2048x1024 : Shape := ⟨2, ![2048, 1024]⟩
abbrev S1024x5632 : Shape := ⟨2, ![1024, 5632]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩
abbrev S1024x2816 : Shape := ⟨2, ![1024, 2816]⟩
abbrev S5632x1024 : Shape := ⟨2, ![5632, 1024]⟩
abbrev S2x512x4x1408 : Shape := ⟨4, ![2, 512, 4, 1408]⟩
abbrev S4x2x512x1408 : Shape := ⟨4, ![4, 2, 512, 1408]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2816x1024, .bf16⟩
  | .hbm, ⟨3, _⟩ => ⟨S2048x1024, .bf16⟩
  | .hbm, ⟨4, _⟩ => ⟨S2048x1024, .f32⟩
  | .hbm, ⟨5, _⟩ => ⟨S1024x5632, .f32⟩
  | .hbm, ⟨6, _⟩ => ⟨S2816x1024, .f32⟩
  | .hbm, ⟨7, _⟩ => ⟨S2048x1024, .f32⟩
  | .hbm, ⟨8, _⟩ => ⟨S2048x5632, .f32⟩
  | .hbm, ⟨9, _⟩ => ⟨S2048x2816, .f32⟩
  | .hbm, ⟨10, _⟩ => ⟨S2048x2816, .f32⟩
  | .hbm, ⟨11, _⟩ => ⟨S2048x2816, .f32⟩
  | .hbm, ⟨12, _⟩ => ⟨S2048x2816, .f32⟩
  | .hbm, ⟨13, _⟩ => ⟨S_, .f32⟩
  | .hbm, ⟨14, _⟩ => ⟨S2048x2816, .f32⟩
  | .hbm, ⟨15, _⟩ => ⟨S2048x2816, .f32⟩
  | .hbm, ⟨16, _⟩ => ⟨S_, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x1024, .f32⟩
  | .hbm, ⟨26, _⟩ => ⟨S1024x2816, .f32⟩
  | .hbm, ⟨27, _⟩ => ⟨S2816x1024, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S2048x2816, .f32⟩
  | .hbm, ⟨35, _⟩ => ⟨S2048x5632, .f32⟩
  | .hbm, ⟨36, _⟩ => ⟨S5632x1024, .f32⟩
  | .hbm, ⟨37, _⟩ => ⟨S1024x5632, .f32⟩
  | .hbm, ⟨38, _⟩ => ⟨S2048x1024, .f32⟩
  | .hbm, ⟨39, _⟩ => ⟨S2x512x4x1408, .f32⟩
  | .hbm, ⟨40, _⟩ => ⟨S4x2x512x1408, .f32⟩
  | .hbm, ⟨41, _⟩ => ⟨S2048x1024, .bf16⟩
  | .hbm, ⟨42, _⟩ => ⟨S2048x1024, .bf16⟩
  | .hbm, ⟨43, _⟩ => ⟨S2816x1024, .bf16⟩
  | .hbm, ⟨44, _⟩ => ⟨S4x2x512x1408, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_v7_2 : Ref sig .tc := ⟨.hbm, 18, rfl⟩
abbrev main_call0_cst_1 : Ref sig .tc := ⟨.hbm, 19, rfl⟩
abbrev main_call0_v6 : Ref sig .tc := ⟨.hbm, 20, rfl⟩
abbrev main_call0_v7 : Ref sig .tc := ⟨.hbm, 21, rfl⟩
abbrev main_v7_1 : Ref sig .tc := ⟨.hbm, 22, rfl⟩
abbrev main_v7_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]
-- ==== LinKernel.lean ====
abbrev S2048x1024 : Shape := ⟨2, ![2048, 1024]⟩
abbrev S1024x1024 : Shape := ⟨2, ![1024, 1024]⟩
abbrev S256x1024 : Shape := ⟨2, ![256, 1024]⟩
abbrev S1024x2048 : Shape := ⟨2, ![1024, 2048]⟩
abbrev S256x2048 : Shape := ⟨2, ![256, 2048]⟩
abbrev S2048x2048 : Shape := ⟨2, ![2048, 2048]⟩
abbrev S1024x3200 : Shape := ⟨2, ![1024, 3200]⟩
abbrev S2048x3200 : Shape := ⟨2, ![2048, 3200]⟩
abbrev S1024x512 : Shape := ⟨2, ![1024, 512]⟩
abbrev S2048x512 : Shape := ⟨2, ![2048, 512]⟩
abbrev S512x1024 : Shape := ⟨2, ![512, 1024]⟩
abbrev S256x512 : Shape := ⟨2, ![256, 512]⟩
abbrev S512x2048 : Shape := ⟨2, ![512, 2048]⟩
abbrev S4x2x512x512 : Shape := ⟨4, ![4, 2, 512, 512]⟩
abbrev S1x1x512x512 : Shape := ⟨4, ![1, 1, 512, 512]⟩
abbrev S512x512 : Shape := ⟨2, ![512, 512]⟩
abbrev S1024x640 : Shape := ⟨2, ![1024, 640]⟩
abbrev S2048x640 : Shape := ⟨2, ![2048, 640]⟩
abbrev S512x3200 : Shape := ⟨2, ![512, 3200]⟩

abbrev nBuf : Space → Nat
  | .hbm => 24
  | .vmem => 62
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S256x1024, .bf16⟩
  | .hbm, ⟨4, _⟩ => ⟨S1024x2048, .bf16⟩
  | .hbm, ⟨5, _⟩ => ⟨S256x2048, .bf16⟩
  | .hbm, ⟨6, _⟩ => ⟨S2048x1024, .bf16⟩
  | .hbm, ⟨7, _⟩ => ⟨S1024x2048, .bf16⟩
  | .hbm, ⟨8, _⟩ => ⟨S2048x2048, .bf16⟩
  | .hbm, ⟨9, _⟩ => ⟨S2048x1024, .bf16⟩
  | .hbm, ⟨10, _⟩ => ⟨S1024x3200, .bf16⟩
  | .hbm, ⟨11, _⟩ => ⟨S2048x3200, .bf16⟩
  | .hbm, ⟨12, _⟩ => ⟨S2048x1024, .bf16⟩
  | .hbm, ⟨13, _⟩ => ⟨S2048x1024, .bf16⟩
  | .hbm, ⟨14, _⟩ => ⟨S1024x1024, .bf16⟩
  | .hbm, ⟨15, _⟩ => ⟨S256x2048, .bf16⟩
  | .hbm, ⟨16, _⟩ => ⟨S256x1024, .f32⟩
  | .hbm, ⟨17, _⟩ => ⟨S4x2x512x512, .bf16⟩
  | .hbm, ⟨18, _⟩ => ⟨S2048x2048, .f32⟩
  | .hbm, ⟨19, _⟩ => ⟨S2048x1024, .bf16⟩
  | .hbm, ⟨20, _⟩ => ⟨S4x2x512x512, .bf16⟩
  | .hbm, ⟨21, _⟩ => ⟨S2048x3200, .f32⟩
  | .hbm, ⟨22, _⟩ => ⟨S2048x1024, .bf16⟩
  | .hbm, ⟨23, _⟩ => ⟨S1024x3200, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | .local _ .vmem, ⟨5, _⟩ => ⟨S2048x1024, .bf16⟩
  | .local _ .vmem, ⟨6, _⟩ => ⟨S512x1024, .bf16⟩
  | .local _ .vmem, ⟨7, _⟩ => ⟨S512x1024, .bf16⟩
  | .local _ .vmem, ⟨8, _⟩ => ⟨S2048x512, .bf16⟩
  | .local _ .vmem, ⟨9, _⟩ => ⟨S2048x512, .bf16⟩
  | .local _ .vmem, ⟨10, _⟩ => ⟨S2048x1024, .bf16⟩
  | .local _ .vmem, ⟨11, _⟩ => ⟨S2048x1024, .bf16⟩
  | .local _ .vmem, ⟨12, _⟩ => ⟨S1024x1024, .bf16⟩
  | .local _ .vmem, ⟨13, _⟩ => ⟨S256x1024, .bf16⟩
  | .local _ .vmem, ⟨14, _⟩ => ⟨S1024x512, .bf16⟩
  | .local _ .vmem, ⟨15, _⟩ => ⟨S1024x512, .bf16⟩
  | .local _ .vmem, ⟨16, _⟩ => ⟨S256x512, .bf16⟩
  | .local _ .vmem, ⟨17, _⟩ => ⟨S256x512, .bf16⟩
  | .local _ .vmem, ⟨18, _⟩ => ⟨S256x2048, .bf16⟩
  | .local _ .vmem, ⟨19, _⟩ => ⟨S512x2048, .bf16⟩
  | .local _ .vmem, ⟨20, _⟩ => ⟨S512x2048, .bf16⟩
  | .local _ .vmem, ⟨21, _⟩ => ⟨S256x512, .f32⟩
  | .local _ .vmem, ⟨22, _⟩ => ⟨S256x512, .f32⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S256x512, .bf16⟩
  | .local _ .vmem, ⟨27, _⟩ => ⟨S1x1x512x512, .bf16⟩
  | .local _ .vmem, ⟨28, _⟩ => ⟨S1x1x512x512, .bf16⟩
  | .local _ .vmem, ⟨29, _⟩ => ⟨S2048x1024, .bf16⟩
  | .local _ .vmem, ⟨30, _⟩ => ⟨S1024x512, .bf16⟩
  | .local _ .vmem, ⟨31, _⟩ => ⟨S1024x512, .bf16⟩
  | .local _ .vmem, ⟨32, _⟩ => ⟨S2048x512, .f32⟩
  | .local _ .vmem, ⟨33, _⟩ => ⟨S2048x512, .f32⟩
  | .local _ .vmem, ⟨34, _⟩ => ⟨S1024x2048, .bf16⟩
  | .local _ .vmem, ⟨35, _⟩ => ⟨S1024x2048, .bf16⟩
  | .local _ .vmem, ⟨36, _⟩ => ⟨S512x2048, .bf16⟩
  | .local _ .vmem, ⟨37, _⟩ => ⟨S512x2048, .bf16⟩
  | .local _ .vmem, ⟨38, _⟩ => ⟨S1024x512, .bf16⟩
  | .local _ .vmem, ⟨39, _⟩ => ⟨S1024x512, .bf16⟩
  | .local _ .vmem, ⟨40, _⟩ => ⟨S2048x512, .bf16⟩
  | .local _ .vmem, ⟨41, _⟩ => ⟨S2048x512, .bf16⟩
  | .local _ .vmem, ⟨42, _⟩ => ⟨S2048x512, .bf16⟩
  | .local _ .vmem, ⟨43, _⟩ => ⟨S2048x512, .bf16⟩
  | .local _ .vmem, ⟨44, _⟩ => ⟨S1x1x512x512, .bf16⟩
  | .local _ .vmem, ⟨45, _⟩ => ⟨S1x1x512x512, .bf16⟩
  | .local _ .vmem, ⟨46, _⟩ => ⟨S2048x1024, .bf16⟩
  | .local _ .vmem, ⟨47, _⟩ => ⟨S1024x640, .bf16⟩
  | .local _ .vmem, ⟨48, _⟩ => ⟨S1024x640, .bf16⟩
  | .local _ .vmem, ⟨49, _⟩ => ⟨S2048x640, .f32⟩
  | .local _ .vmem, ⟨50, _⟩ => ⟨S2048x640, .f32⟩
  | .local _ .vmem, ⟨51, _⟩ => ⟨S1024x3200, .bf16⟩
  | .local _ .vmem, ⟨52, _⟩ => ⟨S1024x3200, .bf16⟩
  | .local _ .vmem, ⟨53, _⟩ => ⟨S512x3200, .bf16⟩
  | .local _ .vmem, ⟨54, _⟩ => ⟨S512x3200, .bf16⟩
  | .local _ .vmem, ⟨55, _⟩ => ⟨S1024x512, .bf16⟩
  | .local _ .vmem, ⟨56, _⟩ => ⟨S1024x512, .bf16⟩
  | .local _ .vmem, ⟨57, _⟩ => ⟨S2048x1024, .bf16⟩
  | .local _ .vmem, ⟨58, _⟩ => ⟨S2048x640, .bf16⟩
  | .local _ .vmem, ⟨59, _⟩ => ⟨S2048x640, .bf16⟩
  | .local _ .vmem, ⟨60, _⟩ => ⟨S1024x640, .f32⟩
  | .local _ .vmem, ⟨61, _⟩ => ⟨S1024x640, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg2_0 : Ref sig .tc := ⟨.vmem, 12, rfl⟩
abbrev cc3_stg0_0 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc4_stg0_0 : Ref sig .tc := ⟨.vmem, 18, rfl⟩
abbrev cc4_stg1_0 : Ref sig .tc := ⟨.vmem, 19, rfl⟩
abbrev cc4_stg1_1 : Ref sig .tc := ⟨.vmem, 20, rfl⟩
abbrev cc4_stg2_0 : Ref sig .tc := ⟨.vmem, 21, rfl⟩
abbrev cc4_stg2_1 : Ref sig .tc := ⟨.vmem, 22, rfl⟩
abbrev cc5_stg0_0 : Ref sig .tc := ⟨.vmem, 23, rfl⟩
abbrev cc5_stg0_1 : Ref sig .tc := ⟨.vmem, 24, rfl⟩
abbrev cc5_stg1_0 : Ref sig .tc := ⟨.vmem, 25, rfl⟩
abbrev cc5_stg1_1 : Ref sig .tc := ⟨.vmem, 26, rfl⟩
abbrev cc5_stg2_0 : Ref sig .tc := ⟨.vmem, 27, rfl⟩
abbrev cc5_stg2_1 : Ref sig .tc := ⟨.vmem, 28, rfl⟩
abbrev cc6_stg0_0 : Ref sig .tc := ⟨.vmem, 29, rfl⟩
abbrev cc6_stg1_0 : Ref sig .tc := ⟨.vmem, 30, rfl⟩
abbrev cc6_stg1_1 : Ref sig .tc := ⟨.vmem, 31, rfl⟩
abbrev cc6_stg2_0 : Ref sig .tc := ⟨.vmem, 32, rfl⟩
abbrev cc6_stg2_1 : Ref sig .tc := ⟨.vmem, 33, rfl⟩
abbrev cc7_stg0_0 : Ref sig .tc := ⟨.vmem, 34, rfl⟩
abbrev cc7_stg0_1 : Ref sig .tc := ⟨.vmem, 35, rfl⟩
abbrev cc7_stg1_0 : Ref sig .tc := ⟨.vmem, 36, rfl⟩
abbrev cc7_stg1_1 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg1_1 : Ref sig .tc := ⟨.vmem, 43, rfl⟩
abbrev cc8_stg2_0 : Ref sig .tc := ⟨.vmem, 44, rfl⟩
abbrev cc8_stg2_1 : Ref sig .tc := ⟨.vmem, 45, rfl⟩
abbrev cc9_stg0_0 : Ref sig .tc := ⟨.vmem, 46, rfl⟩
abbrev cc9_stg1_0 : Ref sig .tc := ⟨.vmem, 47, rfl⟩
abbrev cc9_stg1_1 : Ref sig .tc := ⟨.vmem, 48, rfl⟩
abbrev cc9_stg2_0 : Ref sig .tc := ⟨.vmem, 49, rfl⟩
abbrev cc9_stg2_1 : Ref sig .tc := ⟨.vmem, 50, rfl⟩
abbrev cc10_stg0_0 : Ref sig .tc := ⟨.vmem, 51, rfl⟩
abbrev cc10_stg0_1 : Ref sig .tc := ⟨.vmem, 52, rfl⟩
abbrev cc10_stg1_0 : Ref sig .tc := ⟨.vmem, 53, rfl⟩
abbrev cc10_stg1_1 : Ref sig .tc := ⟨.vmem, 54, rfl⟩
abbrev cc10_stg2_0 : Ref sig .tc := ⟨.vmem, 55, rfl⟩
abbrev cc10_stg2_1 : Ref sig .tc := ⟨.vmem, 56, rfl⟩
abbrev cc11_stg0_0 : Ref sig .tc := ⟨.vmem, 57, rfl⟩
abbrev cc11_stg1_0 : Ref sig .tc := ⟨.vmem, 58, rfl⟩
abbrev cc11_stg1_1 : Ref sig .tc := ⟨.vmem, 59, rfl⟩
abbrev cc11_stg2_0 : Ref sig .tc := ⟨.vmem, 60, rfl⟩
abbrev cc11_stg2_1 : Ref sig .tc := ⟨.vmem, 61, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem1_0 : DmaSem sig := 11
abbrev cc2_sem2_0 : DmaSem sig := 12
abbrev cc3_sem0_0 : DmaSem sig := 13
abbrev cc3_sem1_0 : DmaSem sig := 14
abbrev cc3_sem1_1 : DmaSem sig := 15
abbrev cc3_sem2_0 : DmaSem sig := 16
abbrev cc3_sem2_1 : DmaSem sig := 17
abbrev cc4_sem0_0 : DmaSem sig := 18
abbrev cc4_sem1_0 : DmaSem sig := 19
abbrev cc4_sem1_1 : DmaSem sig := 20
abbrev cc4_sem2_0 : DmaSem sig := 21
abbrev cc4_sem2_1 : DmaSem sig := 22
abbrev cc5_sem0_0 : DmaSem sig := 23
abbrev cc5_sem0_1 : DmaSem sig := 24
abbrev cc5_sem1_0 : DmaSem sig := 25
abbrev cc5_sem1_1 : DmaSem sig := 26
abbrev cc5_sem2_0 : DmaSem sig := 27
abbrev cc5_sem2_1 : DmaSem sig := 28
abbrev cc6_sem0_0 : DmaSem sig := 29
abbrev cc6_sem1_0 : DmaSem sig := 30
abbrev cc6_sem1_1 : DmaSem sig := 31
abbrev cc6_sem2_0 : DmaSem sig := 32
abbrev cc6_sem2_1 : DmaSem sig := 33
abbrev cc7_sem0_0 : DmaSem sig := 34
abbrev cc7_sem0_1 : DmaSem sig := 35
abbrev cc7_sem1_0 : DmaSem sig := 36
abbrev cc7_sem1_1 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem1_1 : DmaSem sig := 43
abbrev cc8_sem2_0 : DmaSem sig := 44
abbrev cc8_sem2_1 : DmaSem sig := 45
abbrev cc9_sem0_0 : DmaSem sig := 46
abbrev cc9_sem1_0 : DmaSem sig := 47
abbrev cc9_sem1_1 : DmaSem sig := 48
abbrev cc9_sem2_0 : DmaSem sig := 49
abbrev cc9_sem2_1 : DmaSem sig := 50
abbrev cc10_sem0_0 : DmaSem sig := 51
abbrev cc10_sem0_1 : DmaSem sig := 52
abbrev cc10_sem1_0 : DmaSem sig := 53
abbrev cc10_sem1_1 : DmaSem sig := 54
abbrev cc10_sem2_0 : DmaSem sig := 55
abbrev cc10_sem2_1 : DmaSem sig := 56
abbrev cc11_sem0_0 : DmaSem sig := 57
abbrev cc11_sem1_0 : DmaSem sig := 58
abbrev cc11_sem1_1 : DmaSem sig := 59
abbrev cc11_sem2_0 : DmaSem sig := 60
abbrev cc11_sem2_1 : DmaSem sig := 61

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S2048x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 1 → Memref sig .tc .vmem S2048x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1024x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, true]

abbrev grid3 : Pipeline.Grid := ⟨2, ![1, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S256x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S1024x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S256x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S256x2048 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S512x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S256x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![2, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage5_0 : Fin 2 → Memref sig .tc .vmem S256x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S256x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1x512x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S2048x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S1024x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S2048x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![2, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1024x2048 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S512x2048 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x512 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![2, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage8_0 : Fin 2 → Memref sig .tc .vmem S2048x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S2048x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1x1x512x512 .bf16 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![1, 5], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 1 → Memref sig .tc .vmem S2048x1024 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true, false]

abbrev stage9_1 : Fin 2 → Memref sig .tc .vmem S1024x640 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S2048x640 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]

abbrev grid10 : Pipeline.Grid := ⟨2, ![2, 2], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S1024x3200 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S512x3200 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![false, true]

abbrev stage10_2 : Fin 2 → Memref sig .tc .vmem S1024x512 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true, true]

abbrev grid11 : Pipeline.Grid := ⟨2, ![1, 5], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 1 → Memref sig .tc .vmem S2048x1024 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true, false]

abbrev stage11_1 : Fin 2 → Memref sig .tc .vmem S2048x640 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S1024x640 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true, true]
-- ==== LinReferenceIdeal.lean ====
abbrev S2048x1024 : Shape := ⟨2, ![2048, 1024]⟩
abbrev S1024x1024 : Shape := ⟨2, ![1024, 1024]⟩
abbrev S256x1024 : Shape := ⟨2, ![256, 1024]⟩
abbrev S1024x2048 : Shape := ⟨2, ![1024, 2048]⟩
abbrev S256x2048 : Shape := ⟨2, ![256, 2048]⟩
abbrev S2048x2048 : Shape := ⟨2, ![2048, 2048]⟩
abbrev S1024x3200 : Shape := ⟨2, ![1024, 3200]⟩
abbrev S2048x3200 : Shape := ⟨2, ![2048, 3200]⟩
abbrev S3200x1024 : Shape := ⟨2, ![3200, 1024]⟩
abbrev S2x512x4x512 : Shape := ⟨4, ![2, 512, 4, 512]⟩
abbrev S4x2x512x512 : Shape := ⟨4, ![4, 2, 512, 512]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .hbm, ⟨3, _⟩ => ⟨S256x1024, .bf16⟩
  | .hbm, ⟨4, _⟩ => ⟨S1024x2048, .bf16⟩
  | .hbm, ⟨5, _⟩ => ⟨S256x2048, .bf16⟩
  | .hbm, ⟨6, _⟩ => ⟨S2048x1024, .bf16⟩
  | .hbm, ⟨7, _⟩ => ⟨S1024x2048, .bf16⟩
  | .hbm, ⟨8, _⟩ => ⟨S2048x2048, .bf16⟩
  | .hbm, ⟨9, _⟩ => ⟨S2048x1024, .bf16⟩
  | .hbm, ⟨10, _⟩ => ⟨S1024x3200, .bf16⟩
  | .hbm, ⟨11, _⟩ => ⟨S2048x3200, .bf16⟩
  | .hbm, ⟨12, _⟩ => ⟨S2048x1024, .f32⟩
  | .hbm, ⟨13, _⟩ => ⟨S1024x1024, .f32⟩
  | .hbm, ⟨14, _⟩ => ⟨S2048x1024, .f32⟩
  | .hbm, ⟨15, _⟩ => ⟨S2048x1024, .f32⟩
  | .hbm, ⟨16, _⟩ => ⟨S1024x1024, .f32⟩
  | .hbm, ⟨17, _⟩ => ⟨S1024x1024, .f32⟩
  | .hbm, ⟨18, _⟩ => ⟨S2048x1024, .f32⟩
  | .hbm, ⟨19, _⟩ => ⟨S256x1024, .f32⟩
  | .hbm, ⟨20, _⟩ => ⟨S1024x2048, .f32⟩
  | .hbm, ⟨21, _⟩ => ⟨S256x2048, .f32⟩
  | .hbm, ⟨22, _⟩ => ⟨S256x2048, .f32⟩
  | .hbm, ⟨23, _⟩ => ⟨S2048x1024, .f32⟩
  | .hbm, ⟨24, _⟩ => ⟨S1024x2048, .f32⟩
  | .hbm, ⟨25, _⟩ => ⟨S256x1024, .f32⟩
  | .hbm, ⟨26, _⟩ => ⟨S2048x1024, .f32⟩
  | .hbm, ⟨27, _⟩ => ⟨S1024x2048, .f32⟩
  | .hbm, ⟨28, _⟩ => ⟨S2048x2048, .f32⟩
  | .hbm, ⟨29, _⟩ => ⟨S2048x2048, .f32⟩
  | .hbm, ⟨30, _⟩ => ⟨S2048x1024, .f32⟩
  | .hbm, ⟨31, _⟩ => ⟨S1024x2048, .f32⟩
  | .hbm, ⟨32, _⟩ => ⟨S2048x1024, .f32⟩
  | .hbm, ⟨33, _⟩ => ⟨S2048x1024, .f32⟩
  | .hbm, ⟨34, _⟩ => ⟨S1024x3200, .f32⟩
  | .hbm, ⟨35, _⟩ => ⟨S2048x3200, .f32⟩
  | .hbm, ⟨36, _⟩ => ⟨S2048x3200, .f32⟩
  | .hbm, ⟨37, _⟩ => ⟨S3200x1024, .f32⟩
  | .hbm, ⟨38, _⟩ => ⟨S1024x3200, .f32⟩
  | .hbm, ⟨39, _⟩ => ⟨S2048x1024, .f32⟩
  | .hbm, ⟨40, _⟩ => ⟨S2x512x4x512, .f32⟩
  | .hbm, ⟨41, _⟩ => ⟨S4x2x512x512, .f32⟩
  | .hbm, ⟨42, _⟩ => ⟨S2x512x4x512, .f32⟩
  | .hbm, ⟨43, _⟩ => ⟨S4x2x512x512, .f32⟩
  | .hbm, ⟨44, _⟩ => ⟨S2048x1024, .bf16⟩
  | .hbm, ⟨45, _⟩ => ⟨S2048x1024, .bf16⟩
  | .hbm, ⟨46, _⟩ => ⟨S1024x1024, .bf16⟩
  | .hbm, ⟨47, _⟩ => ⟨S256x2048, .bf16⟩
  | .hbm, ⟨48, _⟩ => ⟨S4x2x512x512, .bf16⟩
  | .hbm, ⟨49, _⟩ => ⟨S2048x1024, .bf16⟩
  | .hbm, ⟨50, _⟩ => ⟨S4x2x512x512, .bf16⟩
  | .hbm, ⟨51, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩

abbrev nD : Nat := 1
abbrev τ : Topo := Topo.v7x

variable {F : FTy → Type} [FloatOps F]
-- ==== OptKernel.lean ====
abbrev S1024x1024 : Shape := ⟨2, ![1024, 1024]⟩
abbrev S4096x512 : Shape := ⟨2, ![4096, 512]⟩
abbrev S4096x1408 : Shape := ⟨2, ![4096, 1408]⟩
abbrev S2816x1024 : Shape := ⟨2, ![2816, 1024]⟩
abbrev S512x1024 : Shape := ⟨2, ![512, 1024]⟩
abbrev S512x256 : Shape := ⟨2, ![512, 256]⟩
abbrev S256x1024 : Shape := ⟨2, ![256, 1024]⟩
abbrev S256x512 : Shape := ⟨2, ![256, 512]⟩
abbrev S256x1408 : Shape := ⟨2, ![256, 1408]⟩
abbrev S256x256 : Shape := ⟨2, ![256, 256]⟩

abbrev nBuf : Space → Nat
  | .hbm => 48
  | .vmem => 96
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x1408, .f32⟩
  | .hbm, ⟨9, _⟩ => ⟨S4096x1408, .f32⟩
  | .hbm, ⟨10, _⟩ => ⟨S4096x1408, .f32⟩
  | .hbm, ⟨11, _⟩ => ⟨S4096x1408, .f32⟩
  | .hbm, ⟨12, _⟩ => ⟨S2816x1024, .f32⟩
  | .hbm, ⟨13, _⟩ => ⟨S2816x1024, .f32⟩
  | .hbm, ⟨14, _⟩ => ⟨S2816x1024, .f32⟩
  | .hbm, ⟨15, _⟩ => ⟨S2816x1024, .f32⟩
  | .hbm, ⟨16, _⟩ => ⟨S512x1024, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x256, .f32⟩
  | .hbm, ⟨21, _⟩ => ⟨S512x256, .f32⟩
  | .hbm, ⟨22, _⟩ => ⟨S512x256, .f32⟩
  | .hbm, ⟨23, _⟩ => ⟨S512x256, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x1408, .f32⟩
  | .hbm, ⟨33, _⟩ => ⟨S4096x1408, .f32⟩
  | .hbm, ⟨34, _⟩ => ⟨S4096x1408, .f32⟩
  | .hbm, ⟨35, _⟩ => ⟨S4096x1408, .f32⟩
  | .hbm, ⟨36, _⟩ => ⟨S2816x1024, .f32⟩
  | .hbm, ⟨37, _⟩ => ⟨S2816x1024, .f32⟩
  | .hbm, ⟨38, _⟩ => ⟨S2816x1024, .f32⟩
  | .hbm, ⟨39, _⟩ => ⟨S2816x1024, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S512x1024, .f32⟩
  | .hbm, ⟨44, _⟩ => ⟨S512x256, .f32⟩
  | .hbm, ⟨45, _⟩ => ⟨S512x256, .f32⟩
  | .hbm, ⟨46, _⟩ => ⟨S512x256, .f32⟩
  | .hbm, ⟨47, _⟩ => ⟨S512x256, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x512, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x1408, .f32⟩
  | .local _ .vmem, ⟨33, _⟩ => ⟨S256x1408, .f32⟩
  | .local _ .vmem, ⟨34, _⟩ => ⟨S256x1408, .f32⟩
  | .local _ .vmem, ⟨35, _⟩ => ⟨S256x1408, .f32⟩
  | .local _ .vmem, ⟨36, _⟩ => ⟨S256x1408, .f32⟩
  | .local _ .vmem, ⟨37, _⟩ => ⟨S256x1408, .f32⟩
  | .local _ .vmem, ⟨38, _⟩ => ⟨S256x1408, .f32⟩
  | .local _ .vmem, ⟨39, _⟩ => ⟨S256x1408, .f32⟩
  | .local _ .vmem, ⟨40, _⟩ => ⟨S256x1408, .f32⟩
  | .local _ .vmem, ⟨41, _⟩ => ⟨S256x1408, .f32⟩
  | .local _ .vmem, ⟨42, _⟩ => ⟨S256x1408, .f32⟩
  | .local _ .vmem, ⟨43, _⟩ => ⟨S256x1408, .f32⟩
  | .local _ .vmem, ⟨44, _⟩ => ⟨S256x1408, .f32⟩
  | .local _ .vmem, ⟨45, _⟩ => ⟨S256x1408, .f32⟩
  | .local _ .vmem, ⟨46, _⟩ => ⟨S256x1408, .f32⟩
  | .local _ .vmem, ⟨47, _⟩ => ⟨S256x1408, .f32⟩
  | .local _ .vmem, ⟨48, _⟩ => ⟨S256x1024, .f32⟩
  | .local _ .vmem, ⟨49, _⟩ => ⟨S256x1024, .f32⟩
  | .local _ .vmem, ⟨50, _⟩ => ⟨S256x1024, .f32⟩
  | .local _ .vmem, ⟨51, _⟩ => ⟨S256x1024, .f32⟩
  | .local _ .vmem, ⟨52, _⟩ => ⟨S256x1024, .f32⟩
  | .local _ .vmem, ⟨53, _⟩ => ⟨S256x1024, .f32⟩
  | .local _ .vmem, ⟨54, _⟩ => ⟨S256x1024, .f32⟩
  | .local _ .vmem, ⟨55, _⟩ => ⟨S256x1024, .f32⟩
  | .local _ .vmem, ⟨56, _⟩ => ⟨S256x1024, .f32⟩
  | .local _ .vmem, ⟨57, _⟩ => ⟨S256x1024, .f32⟩
  | .local _ .vmem, ⟨58, _⟩ => ⟨S256x1024, .f32⟩
  | .local _ .vmem, ⟨59, _⟩ => ⟨S256x1024, .f32⟩
  | .local _ .vmem, ⟨60, _⟩ => ⟨S256x1024, .f32⟩
  | .local _ .vmem, ⟨61, _⟩ => ⟨S256x1024, .f32⟩
  | .local _ .vmem, ⟨62, _⟩ => ⟨S256x1024, .f32⟩
  | .local _ .vmem, ⟨63, _⟩ => ⟨S256x1024, .f32⟩
  | .local _ .vmem, ⟨64, _⟩ => ⟨S256x1024, .f32⟩
  | .local _ .vmem, ⟨65, _⟩ => ⟨S256x1024, .f32⟩
  | .local _ .vmem, ⟨66, _⟩ => ⟨S256x1024, .f32⟩
  | .local _ .vmem, ⟨67, _⟩ => ⟨S256x1024, .f32⟩
  | .local _ .vmem, ⟨68, _⟩ => ⟨S256x1024, .f32⟩
  | .local _ .vmem, ⟨69, _⟩ => ⟨S256x1024, .f32⟩
  | .local _ .vmem, ⟨70, _⟩ => ⟨S256x1024, .f32⟩
  | .local _ .vmem, ⟨71, _⟩ => ⟨S256x1024, .f32⟩
  | .local _ .vmem, ⟨72, _⟩ => ⟨S256x1024, .f32⟩
  | .local _ .vmem, ⟨73, _⟩ => ⟨S256x1024, .f32⟩
  | .local _ .vmem, ⟨74, _⟩ => ⟨S256x1024, .f32⟩
  | .local _ .vmem, ⟨75, _⟩ => ⟨S256x1024, .f32⟩
  | .local _ .vmem, ⟨76, _⟩ => ⟨S256x1024, .f32⟩
  | .local _ .vmem, ⟨77, _⟩ => ⟨S256x1024, .f32⟩
  | .local _ .vmem, ⟨78, _⟩ => ⟨S256x1024, .f32⟩
  | .local _ .vmem, ⟨79, _⟩ => ⟨S256x1024, .f32⟩
  | .local _ .vmem, ⟨80, _⟩ => ⟨S256x256, .f32⟩
  | .local _ .vmem, ⟨81, _⟩ => ⟨S256x256, .f32⟩
  | .local _ .vmem, ⟨82, _⟩ => ⟨S256x256, .f32⟩
  | .local _ .vmem, ⟨83, _⟩ => ⟨S256x256, .f32⟩
  | .local _ .vmem, ⟨84, _⟩ => ⟨S256x256, .f32⟩
  | .local _ .vmem, ⟨85, _⟩ => ⟨S256x256, .f32⟩
  | .local _ .vmem, ⟨86, _⟩ => ⟨S256x256, .f32⟩
  | .local _ .vmem, ⟨87, _⟩ => ⟨S256x256, .f32⟩
  | .local _ .vmem, ⟨88, _⟩ => ⟨S256x256, .f32⟩
  | .local _ .vmem, ⟨89, _⟩ => ⟨S256x256, .f32⟩
  | .local _ .vmem, ⟨90, _⟩ => ⟨S256x256, .f32⟩
  | .local _ .vmem, ⟨91, _⟩ => ⟨S256x256, .f32⟩
  | .local _ .vmem, ⟨92, _⟩ => ⟨S256x256, .f32⟩
  | .local _ .vmem, ⟨93, _⟩ => ⟨S256x256, .f32⟩
  | .local _ .vmem, ⟨94, _⟩ => ⟨S256x256, .f32⟩
  | .local _ .vmem, ⟨95, _⟩ => ⟨S256x256, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev main_v0_3 : Ref sig .tc := ⟨.hbm, 27, rfl⟩
abbrev main_v1_0 : Ref sig .tc := ⟨.hbm, 28, rfl⟩
abbrev main_v1_1 : Ref sig .tc := ⟨.hbm, 29, rfl⟩
abbrev main_v1_2 : Ref sig .tc := ⟨.hbm, 30, rfl⟩
abbrev main_v1_3 : Ref sig .tc := ⟨.hbm, 31, rfl⟩
abbrev main_v2_0 : Ref sig .tc := ⟨.hbm, 32, rfl⟩
abbrev main_v2_1 : Ref sig .tc := ⟨.hbm, 33, rfl⟩
abbrev main_v2_2 : Ref sig .tc := ⟨.hbm, 34, rfl⟩
abbrev main_v2_3 : Ref sig .tc := ⟨.hbm, 35, rfl⟩
abbrev main_v3_0 : Ref sig .tc := ⟨.hbm, 36, rfl⟩
abbrev main_v3_1 : Ref sig .tc := ⟨.hbm, 37, rfl⟩
abbrev main_v3_2 : Ref sig .tc := ⟨.hbm, 38, rfl⟩
abbrev main_v3_3 : Ref sig .tc := ⟨.hbm, 39, rfl⟩
abbrev main_v4_0 : Ref sig .tc := ⟨.hbm, 40, rfl⟩
abbrev main_v4_1 : Ref sig .tc := ⟨.hbm, 41, rfl⟩
abbrev main_v4_2 : Ref sig .tc := ⟨.hbm, 42, rfl⟩
abbrev main_v4_3 : Ref sig .tc := ⟨.hbm, 43, rfl⟩
abbrev main_v5_0 : Ref sig .tc := ⟨.hbm, 44, rfl⟩
abbrev main_v5_1 : Ref sig .tc := ⟨.hbm, 45, rfl⟩
abbrev main_v5_2 : Ref sig .tc := ⟨.hbm, 46, rfl⟩
abbrev main_v5_3 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg5_1 : Ref sig .tc := ⟨.vmem, 43, rfl⟩
abbrev cc2_stg6_0 : Ref sig .tc := ⟨.vmem, 44, rfl⟩
abbrev cc2_stg6_1 : Ref sig .tc := ⟨.vmem, 45, rfl⟩
abbrev cc2_stg7_0 : Ref sig .tc := ⟨.vmem, 46, rfl⟩
abbrev cc2_stg7_1 : Ref sig .tc := ⟨.vmem, 47, rfl⟩
abbrev cc3_stg0_0 : Ref sig .tc := ⟨.vmem, 48, rfl⟩
abbrev cc3_stg0_1 : Ref sig .tc := ⟨.vmem, 49, rfl⟩
abbrev cc3_stg1_0 : Ref sig .tc := ⟨.vmem, 50, rfl⟩
abbrev cc3_stg1_1 : Ref sig .tc := ⟨.vmem, 51, rfl⟩
abbrev cc3_stg2_0 : Ref sig .tc := ⟨.vmem, 52, rfl⟩
abbrev cc3_stg2_1 : Ref sig .tc := ⟨.vmem, 53, rfl⟩
abbrev cc3_stg3_0 : Ref sig .tc := ⟨.vmem, 54, rfl⟩
abbrev cc3_stg3_1 : Ref sig .tc := ⟨.vmem, 55, rfl⟩
abbrev cc3_stg4_0 : Ref sig .tc := ⟨.vmem, 56, rfl⟩
abbrev cc3_stg4_1 : Ref sig .tc := ⟨.vmem, 57, rfl⟩
abbrev cc3_stg5_0 : Ref sig .tc := ⟨.vmem, 58, rfl⟩
abbrev cc3_stg5_1 : Ref sig .tc := ⟨.vmem, 59, rfl⟩
abbrev cc3_stg6_0 : Ref sig .tc := ⟨.vmem, 60, rfl⟩
abbrev cc3_stg6_1 : Ref sig .tc := ⟨.vmem, 61, rfl⟩
abbrev cc3_stg7_0 : Ref sig .tc := ⟨.vmem, 62, rfl⟩
abbrev cc3_stg7_1 : Ref sig .tc := ⟨.vmem, 63, rfl⟩
abbrev cc4_stg0_0 : Ref sig .tc := ⟨.vmem, 64, rfl⟩
abbrev cc4_stg0_1 : Ref sig .tc := ⟨.vmem, 65, rfl⟩
abbrev cc4_stg1_0 : Ref sig .tc := ⟨.vmem, 66, rfl⟩
abbrev cc4_stg1_1 : Ref sig .tc := ⟨.vmem, 67, rfl⟩
abbrev cc4_stg2_0 : Ref sig .tc := ⟨.vmem, 68, rfl⟩
abbrev cc4_stg2_1 : Ref sig .tc := ⟨.vmem, 69, rfl⟩
abbrev cc4_stg3_0 : Ref sig .tc := ⟨.vmem, 70, rfl⟩
abbrev cc4_stg3_1 : Ref sig .tc := ⟨.vmem, 71, rfl⟩
abbrev cc4_stg4_0 : Ref sig .tc := ⟨.vmem, 72, rfl⟩
abbrev cc4_stg4_1 : Ref sig .tc := ⟨.vmem, 73, rfl⟩
abbrev cc4_stg5_0 : Ref sig .tc := ⟨.vmem, 74, rfl⟩
abbrev cc4_stg5_1 : Ref sig .tc := ⟨.vmem, 75, rfl⟩
abbrev cc4_stg6_0 : Ref sig .tc := ⟨.vmem, 76, rfl⟩
abbrev cc4_stg6_1 : Ref sig .tc := ⟨.vmem, 77, rfl⟩
abbrev cc4_stg7_0 : Ref sig .tc := ⟨.vmem, 78, rfl⟩
abbrev cc4_stg7_1 : Ref sig .tc := ⟨.vmem, 79, rfl⟩
abbrev cc5_stg0_0 : Ref sig .tc := ⟨.vmem, 80, rfl⟩
abbrev cc5_stg0_1 : Ref sig .tc := ⟨.vmem, 81, rfl⟩
abbrev cc5_stg1_0 : Ref sig .tc := ⟨.vmem, 82, rfl⟩
abbrev cc5_stg1_1 : Ref sig .tc := ⟨.vmem, 83, rfl⟩
abbrev cc5_stg2_0 : Ref sig .tc := ⟨.vmem, 84, rfl⟩
abbrev cc5_stg2_1 : Ref sig .tc := ⟨.vmem, 85, rfl⟩
abbrev cc5_stg3_0 : Ref sig .tc := ⟨.vmem, 86, rfl⟩
abbrev cc5_stg3_1 : Ref sig .tc := ⟨.vmem, 87, rfl⟩
abbrev cc5_stg4_0 : Ref sig .tc := ⟨.vmem, 88, rfl⟩
abbrev cc5_stg4_1 : Ref sig .tc := ⟨.vmem, 89, rfl⟩
abbrev cc5_stg5_0 : Ref sig .tc := ⟨.vmem, 90, rfl⟩
abbrev cc5_stg5_1 : Ref sig .tc := ⟨.vmem, 91, rfl⟩
abbrev cc5_stg6_0 : Ref sig .tc := ⟨.vmem, 92, rfl⟩
abbrev cc5_stg6_1 : Ref sig .tc := ⟨.vmem, 93, rfl⟩
abbrev cc5_stg7_0 : Ref sig .tc := ⟨.vmem, 94, rfl⟩
abbrev cc5_stg7_1 : Ref sig .tc := ⟨.vmem, 95, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem2_1 : DmaSem sig := 37
abbrev cc2_sem3_0 : DmaSem sig := 38
abbrev cc2_sem3_1 : DmaSem sig := 39
abbrev cc2_sem4_0 : DmaSem sig := 40
abbrev cc2_sem4_1 : DmaSem sig := 41
abbrev cc2_sem5_0 : DmaSem sig := 42
abbrev cc2_sem5_1 : DmaSem sig := 43
abbrev cc2_sem6_0 : DmaSem sig := 44
abbrev cc2_sem6_1 : DmaSem sig := 45
abbrev cc2_sem7_0 : DmaSem sig := 46
abbrev cc2_sem7_1 : DmaSem sig := 47
abbrev cc3_sem0_0 : DmaSem sig := 48
abbrev cc3_sem0_1 : DmaSem sig := 49
abbrev cc3_sem1_0 : DmaSem sig := 50
abbrev cc3_sem1_1 : DmaSem sig := 51
abbrev cc3_sem2_0 : DmaSem sig := 52
abbrev cc3_sem2_1 : DmaSem sig := 53
abbrev cc3_sem3_0 : DmaSem sig := 54
abbrev cc3_sem3_1 : DmaSem sig := 55
abbrev cc3_sem4_0 : DmaSem sig := 56
abbrev cc3_sem4_1 : DmaSem sig := 57
abbrev cc3_sem5_0 : DmaSem sig := 58
abbrev cc3_sem5_1 : DmaSem sig := 59
abbrev cc3_sem6_0 : DmaSem sig := 60
abbrev cc3_sem6_1 : DmaSem sig := 61
abbrev cc3_sem7_0 : DmaSem sig := 62
abbrev cc3_sem7_1 : DmaSem sig := 63
abbrev cc4_sem0_0 : DmaSem sig := 64
abbrev cc4_sem0_1 : DmaSem sig := 65
abbrev cc4_sem1_0 : DmaSem sig := 66
abbrev cc4_sem1_1 : DmaSem sig := 67
abbrev cc4_sem2_0 : DmaSem sig := 68
abbrev cc4_sem2_1 : DmaSem sig := 69
abbrev cc4_sem3_0 : DmaSem sig := 70
abbrev cc4_sem3_1 : DmaSem sig := 71
abbrev cc4_sem4_0 : DmaSem sig := 72
abbrev cc4_sem4_1 : DmaSem sig := 73
abbrev cc4_sem5_0 : DmaSem sig := 74
abbrev cc4_sem5_1 : DmaSem sig := 75
abbrev cc4_sem6_0 : DmaSem sig := 76
abbrev cc4_sem6_1 : DmaSem sig := 77
abbrev cc4_sem7_0 : DmaSem sig := 78
abbrev cc4_sem7_1 : DmaSem sig := 79
abbrev cc5_sem0_0 : DmaSem sig := 80
abbrev cc5_sem0_1 : DmaSem sig := 81
abbrev cc5_sem1_0 : DmaSem sig := 82
abbrev cc5_sem1_1 : DmaSem sig := 83
abbrev cc5_sem2_0 : DmaSem sig := 84
abbrev cc5_sem2_1 : DmaSem sig := 85
abbrev cc5_sem3_0 : DmaSem sig := 86
abbrev cc5_sem3_1 : DmaSem sig := 87
abbrev cc5_sem4_0 : DmaSem sig := 88
abbrev cc5_sem4_1 : DmaSem sig := 89
abbrev cc5_sem5_0 : DmaSem sig := 90
abbrev cc5_sem5_1 : DmaSem sig := 91
abbrev cc5_sem6_0 : DmaSem sig := 92
abbrev cc5_sem6_1 : DmaSem sig := 93
abbrev cc5_sem7_0 : DmaSem sig := 94
abbrev cc5_sem7_1 : DmaSem sig := 95

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S256x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1408 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1408 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S256x1408 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1408 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x1408 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x1408 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1408 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S256x1408 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![11], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S256x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S256x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S256x1024 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x1024 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![2], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S256x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S256x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S256x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S256x1024 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S256x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 2 → Memref sig .tc .vmem S256x1024 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S256x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S256x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S256x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S256x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S256x256 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev stage5_5 : Fin 2 → Memref sig .tc .vmem S256x256 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S256x256 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev stage5_7 : Fin 2 → Memref sig .tc .vmem S256x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]
-- ==== OptReferenceIdeal.lean ====
abbrev S1024x1024 : Shape := ⟨2, ![1024, 1024]⟩
abbrev S4096x512 : Shape := ⟨2, ![4096, 512]⟩
abbrev S4096x1408 : Shape := ⟨2, ![4096, 1408]⟩
abbrev S2816x1024 : Shape := ⟨2, ![2816, 1024]⟩
abbrev S512x1024 : Shape := ⟨2, ![512, 1024]⟩
abbrev S512x256 : Shape := ⟨2, ![512, 256]⟩
abbrev S_ : Shape := ⟨0, ![]⟩

abbrev nBuf : Space → Nat
  | .hbm => 222
  | .vmem => 0
  | .smem => 0
  | _ => 0

abbrev hbmTy0_0 (i : Nat) : BufTy := match i % 128 with
  | 0 => ⟨S1024x1024, .f32⟩
  | 1 => ⟨S1024x1024, .f32⟩
  | 2 => ⟨S1024x1024, .f32⟩
  | 3 => ⟨S1024x1024, .f32⟩
  | 4 => ⟨S4096x512, .f32⟩
  | 5 => ⟨S4096x512, .f32⟩
  | 6 => ⟨S4096x512, .f32⟩
  | 7 => ⟨S4096x512, .f32⟩
  | 8 => ⟨S4096x1408, .f32⟩
  | 9 => ⟨S4096x1408, .f32⟩
  | 10 => ⟨S4096x1408, .f32⟩
  | 11 => ⟨S4096x1408, .f32⟩
  | 12 => ⟨S2816x1024, .f32⟩
  | 13 => ⟨S2816x1024, .f32⟩
  | 14 => ⟨S2816x1024, .f32⟩
  | 15 => ⟨S2816x1024, .f32⟩
  | 16 => ⟨S512x1024, .f32⟩
  | 17 => ⟨S512x1024, .f32⟩
  | 18 => ⟨S512x1024, .f32⟩
  | 19 => ⟨S512x1024, .f32⟩
  | 20 => ⟨S512x256, .f32⟩
  | 21 => ⟨S512x256, .f32⟩
  | 22 => ⟨S512x256, .f32⟩
  | 23 => ⟨S512x256, .f32⟩
  | 24 => ⟨S_, .f32⟩
  | 25 => ⟨S1024x1024, .f32⟩
  | 26 => ⟨S1024x1024, .f32⟩
  | 27 => ⟨S_, .f32⟩
  | 28 => ⟨S1024x1024, .f32⟩
  | 29 => ⟨S1024x1024, .f32⟩
  | 30 => ⟨S1024x1024, .f32⟩
  | 31 => ⟨S_, .f32⟩
  | 32 => ⟨S1024x1024, .f32⟩
  | 33 => ⟨S1024x1024, .f32⟩
  | 34 => ⟨S1024x1024, .f32⟩
  | 35 => ⟨S_, .f32⟩
  | 36 => ⟨S1024x1024, .f32⟩
  | 37 => ⟨S1024x1024, .f32⟩
  | 38 => ⟨S1024x1024, .f32⟩
  | 39 => ⟨S_, .f32⟩
  | 40 => ⟨S1024x1024, .f32⟩
  | 41 => ⟨S1024x1024, .f32⟩
  | 42 => ⟨S_, .f32⟩
  | 43 => ⟨S1024x1024, .f32⟩
  | 44 => ⟨S1024x1024, .f32⟩
  | 45 => ⟨S1024x1024, .f32⟩
  | 46 => ⟨S_, .f32⟩
  | 47 => ⟨S1024x1024, .f32⟩
  | 48 => ⟨S1024x1024, .f32⟩
  | 49 => ⟨S1024x1024, .f32⟩
  | 50 => ⟨S_, .f32⟩
  | 51 => ⟨S1024x1024, .f32⟩
  | 52 => ⟨S1024x1024, .f32⟩
  | 53 => ⟨S1024x1024, .f32⟩
  | 54 => ⟨S_, .f32⟩
  | 55 => ⟨S1024x1024, .f32⟩
  | 56 => ⟨S1024x1024, .f32⟩
  | 57 => ⟨S_, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S4096x512, .f32⟩
  | 68 => ⟨S_, .f32⟩
  | 69 => ⟨S4096x512, .f32⟩
  | 70 => ⟨S4096x512, .f32⟩
  | 71 => ⟨S4096x512, .f32⟩
  | 72 => ⟨S_, .f32⟩
  | 73 => ⟨S4096x512, .f32⟩
  | 74 => ⟨S4096x512, .f32⟩
  | 75 => ⟨S_, .f32⟩
  | 76 => ⟨S4096x512, .f32⟩
  | 77 => ⟨S4096x512, .f32⟩
  | 78 => ⟨S4096x512, .f32⟩
  | 79 => ⟨S_, .f32⟩
  | 80 => ⟨S4096x512, .f32⟩
  | 81 => ⟨S4096x512, .f32⟩
  | 82 => ⟨S4096x512, .f32⟩
  | 83 => ⟨S_, .f32⟩
  | 84 => ⟨S4096x512, .f32⟩
  | 85 => ⟨S4096x512, .f32⟩
  | 86 => ⟨S4096x512, .f32⟩
  | 87 => ⟨S_, .f32⟩
  | 88 => ⟨S4096x512, .f32⟩
  | 89 => ⟨S4096x512, .f32⟩
  | 90 => ⟨S_, .f32⟩
  | 91 => ⟨S4096x1408, .f32⟩
  | 92 => ⟨S4096x1408, .f32⟩
  | 93 => ⟨S_, .f32⟩
  | 94 => ⟨S4096x1408, .f32⟩
  | 95 => ⟨S4096x1408, .f32⟩
  | 96 => ⟨S4096x1408, .f32⟩
  | 97 => ⟨S_, .f32⟩
  | 98 => ⟨S4096x1408, .f32⟩
  | 99 => ⟨S4096x1408, .f32⟩
  | 100 => ⟨S4096x1408, .f32⟩
  | 101 => ⟨S_, .f32⟩
  | 102 => ⟨S4096x1408, .f32⟩
  | 103 => ⟨S4096x1408, .f32⟩
  | 104 => ⟨S4096x1408, .f32⟩
  | 105 => ⟨S_, .f32⟩
  | 106 => ⟨S4096x1408, .f32⟩
  | 107 => ⟨S4096x1408, .f32⟩
  | 108 => ⟨S_, .f32⟩
  | 109 => ⟨S4096x1408, .f32⟩
  | 110 => ⟨S4096x1408, .f32⟩
  | 111 => ⟨S4096x1408, .f32⟩
  | 112 => ⟨S_, .f32⟩
  | 113 => ⟨S4096x1408, .f32⟩
  | 114 => ⟨S4096x1408, .f32⟩
  | 115 => ⟨S4096x1408, .f32⟩
  | 116 => ⟨S_, .f32⟩
  | 117 => ⟨S4096x1408, .f32⟩
  | 118 => ⟨S4096x1408, .f32⟩
  | 119 => ⟨S4096x1408, .f32⟩
  | 120 => ⟨S_, .f32⟩
  | 121 => ⟨S4096x1408, .f32⟩
  | 122 => ⟨S4096x1408, .f32⟩
  | 123 => ⟨S_, .f32⟩
  | 124 => ⟨S2816x1024, .f32⟩
  | 125 => ⟨S2816x1024, .f32⟩
  | 126 => ⟨S_, .f32⟩
  | 127 => ⟨S2816x1024, .f32⟩
  | _ => ⟨S1024x1024, .f32⟩

abbrev hbmTy0_1 (i : Nat) : BufTy := match i % 128 with
  | 0 => ⟨S2816x1024, .f32⟩
  | 1 => ⟨S2816x1024, .f32⟩
  | 2 => ⟨S_, .f32⟩
  | 3 => ⟨S2816x1024, .f32⟩
  | 4 => ⟨S2816x1024, .f32⟩
  | 5 => ⟨S2816x1024, .f32⟩
  | 6 => ⟨S_, .f32⟩
  | 7 => ⟨S2816x1024, .f32⟩
  | 8 => ⟨S2816x1024, .f32⟩
  | 9 => ⟨S2816x1024, .f32⟩
  | 10 => ⟨S_, .f32⟩
  | 11 => ⟨S2816x1024, .f32⟩
  | 12 => ⟨S2816x1024, .f32⟩
  | 13 => ⟨S_, .f32⟩
  | 14 => ⟨S2816x1024, .f32⟩
  | 15 => ⟨S2816x1024, .f32⟩
  | 16 => ⟨S2816x1024, .f32⟩
  | 17 => ⟨S_, .f32⟩
  | 18 => ⟨S2816x1024, .f32⟩
  | 19 => ⟨S2816x1024, .f32⟩
  | 20 => ⟨S2816x1024, .f32⟩
  | 21 => ⟨S_, .f32⟩
  | 22 => ⟨S2816x1024, .f32⟩
  | 23 => ⟨S2816x1024, .f32⟩
  | 24 => ⟨S2816x1024, .f32⟩
  | 25 => ⟨S_, .f32⟩
  | 26 => ⟨S2816x1024, .f32⟩
  | 27 => ⟨S2816x1024, .f32⟩
  | 28 => ⟨S_, .f32⟩
  | 29 => ⟨S512x1024, .f32⟩
  | 30 => ⟨S512x1024, .f32⟩
  | 31 => ⟨S_, .f32⟩
  | 32 => ⟨S512x1024, .f32⟩
  | 33 => ⟨S512x1024, .f32⟩
  | 34 => ⟨S512x1024, .f32⟩
  | 35 => ⟨S_, .f32⟩
  | 36 => ⟨S512x1024, .f32⟩
  | 37 => ⟨S512x1024, .f32⟩
  | 38 => ⟨S512x1024, .f32⟩
  | 39 => ⟨S_, .f32⟩
  | 40 => ⟨S512x1024, .f32⟩
  | 41 => ⟨S512x1024, .f32⟩
  | 42 => ⟨S512x1024, .f32⟩
  | 43 => ⟨S_, .f32⟩
  | 44 => ⟨S512x1024, .f32⟩
  | 45 => ⟨S512x1024, .f32⟩
  | 46 => ⟨S_, .f32⟩
  | 47 => ⟨S512x1024, .f32⟩
  | 48 => ⟨S512x1024, .f32⟩
  | 49 => ⟨S512x1024, .f32⟩
  | 50 => ⟨S_, .f32⟩
  | 51 => ⟨S512x1024, .f32⟩
  | 52 => ⟨S512x1024, .f32⟩
  | 53 => ⟨S512x1024, .f32⟩
  | 54 => ⟨S_, .f32⟩
  | 55 => ⟨S512x1024, .f32⟩
  | 56 => ⟨S512x1024, .f32⟩
  | 57 => ⟨S512x1024, .f32⟩
  | 58 => ⟨S_, .f32⟩
  | 59 => ⟨S512x1024, .f32⟩
  | 60 => ⟨S512x1024, .f32⟩
  | 61 => ⟨S_, .f32⟩
  | 62 => ⟨S512x256, .f32⟩
  | 63 => ⟨S512x256, .f32⟩
  | 64 => ⟨S_, .f32⟩
  | 65 => ⟨S512x256, .f32⟩
  | 66 => ⟨S512x256, .f32⟩
  | 67 => ⟨S512x256, .f32⟩
  | 68 => ⟨S_, .f32⟩
  | 69 => ⟨S512x256, .f32⟩
  | 70 => ⟨S512x256, .f32⟩
  | 71 => ⟨S512x256, .f32⟩
  | 72 => ⟨S_, .f32⟩
  | 73 => ⟨S512x256, .f32⟩
  | 74 => ⟨S512x256, .f32⟩
  | 75 => ⟨S512x256, .f32⟩
  | 76 => ⟨S_, .f32⟩
  | 77 => ⟨S512x256, .f32⟩
  | 78 => ⟨S512x256, .f32⟩
  | 79 => ⟨S_, .f32⟩
  | 80 => ⟨S512x256, .f32⟩
  | 81 => ⟨S512x256, .f32⟩
  | 82 => ⟨S512x256, .f32⟩
  | 83 => ⟨S_, .f32⟩
  | 84 => ⟨S512x256, .f32⟩
  | 85 => ⟨S512x256, .f32⟩
  | 86 => ⟨S512x256, .f32⟩
  | 87 => ⟨S_, .f32⟩
  | 88 => ⟨S512x256, .f32⟩
  | 89 => ⟨S512x256, .f32⟩
  | 90 => ⟨S512x256, .f32⟩
  | 91 => ⟨S_, .f32⟩
  | 92 => ⟨S512x256, .f32⟩
  | 93 => ⟨S512x256, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_cst : Ref sig .tc := ⟨.hbm, 24, rfl⟩
abbrev main_v0 : Ref sig .tc := ⟨.hbm, 25, rfl⟩
abbrev main_v1 : Ref sig .tc := ⟨.hbm, 26, rfl⟩
abbrev main_cst_0 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst_1 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_3 : Ref sig .tc := ⟨.hbm, 39, rfl⟩
abbrev main_v11 : Ref sig .tc := ⟨.hbm, 40, rfl⟩
abbrev main_v12 : Ref sig .tc := ⟨.hbm, 41, rfl⟩
abbrev main_cst_4 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_5 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_6 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_7 : Ref sig .tc := ⟨.hbm, 54, rfl⟩
abbrev main_v22 : Ref sig .tc := ⟨.hbm, 55, rfl⟩
abbrev main_v23 : Ref sig .tc := ⟨.hbm, 56, rfl⟩
abbrev main_cst_8 : Ref sig .tc := ⟨.hbm, 57, rfl⟩
abbrev main_v24 : Ref sig .tc := ⟨.hbm, 58, rfl⟩
abbrev main_v25 : Ref sig .tc := ⟨.hbm, 59, rfl⟩
abbrev main_cst_9 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_10 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_11 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_12 : Ref sig .tc := ⟨.hbm, 72, rfl⟩
abbrev main_v35 : Ref sig .tc := ⟨.hbm, 73, rfl⟩
abbrev main_v36 : Ref sig .tc := ⟨.hbm, 74, rfl⟩
abbrev main_cst_13 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_14 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_15 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_cst_16 : Ref sig .tc := ⟨.hbm, 87, rfl⟩
abbrev main_v46 : Ref sig .tc := ⟨.hbm, 88, rfl⟩
abbrev main_v47 : Ref sig .tc := ⟨.hbm, 89, rfl⟩
abbrev main_cst_17 : Ref sig .tc := ⟨.hbm, 90, rfl⟩
abbrev main_v48 : Ref sig .tc := ⟨.hbm, 91, rfl⟩
abbrev main_v49 : Ref sig .tc := ⟨.hbm, 92, rfl⟩
abbrev main_cst_18 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_cst_19 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_cst_20 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_cst_21 : Ref sig .tc := ⟨.hbm, 105, rfl⟩
abbrev main_v59 : Ref sig .tc := ⟨.hbm, 106, rfl⟩
abbrev main_v60 : Ref sig .tc := ⟨.hbm, 107, rfl⟩
abbrev main_cst_22 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_cst_23 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_cst_24 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_cst_25 : Ref sig .tc := ⟨.hbm, 120, rfl⟩
abbrev main_v70 : Ref sig .tc := ⟨.hbm, 121, rfl⟩
abbrev main_v71 : Ref sig .tc := ⟨.hbm, 122, rfl⟩
abbrev main_cst_26 : Ref sig .tc := ⟨.hbm, 123, rfl⟩
abbrev main_v72 : Ref sig .tc := ⟨.hbm, 124, rfl⟩
abbrev main_v73 : Ref sig .tc := ⟨.hbm, 125, rfl⟩
abbrev main_cst_27 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_cst_28 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_cst_29 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_cst_30 : Ref sig .tc := ⟨.hbm, 138, rfl⟩
abbrev main_v83 : Ref sig .tc := ⟨.hbm, 139, rfl⟩
abbrev main_v84 : Ref sig .tc := ⟨.hbm, 140, rfl⟩
abbrev main_cst_31 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_cst_32 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_cst_33 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_34 : Ref sig .tc := ⟨.hbm, 153, rfl⟩
abbrev main_v94 : Ref sig .tc := ⟨.hbm, 154, rfl⟩
abbrev main_v95 : Ref sig .tc := ⟨.hbm, 155, rfl⟩
abbrev main_cst_35 : Ref sig .tc := ⟨.hbm, 156, rfl⟩
abbrev main_v96 : Ref sig .tc := ⟨.hbm, 157, rfl⟩
abbrev main_v97 : Ref sig .tc := ⟨.hbm, 158, rfl⟩
abbrev main_cst_36 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_cst_37 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_cst_38 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_cst_39 : Ref sig .tc := ⟨.hbm, 171, rfl⟩
abbrev main_v107 : Ref sig .tc := ⟨.hbm, 172, rfl⟩
abbrev main_v108 : Ref sig .tc := ⟨.hbm, 173, rfl⟩
abbrev main_cst_40 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_cst_41 : Ref sig .tc := ⟨.hbm, 178, rfl⟩
abbrev main_v112 : Ref sig .tc := ⟨.hbm, 179, rfl⟩
abbrev main_v113 : Ref sig .tc := ⟨.hbm, 180, rfl⟩
abbrev main_v114 : Ref sig .tc := ⟨.hbm, 181, rfl⟩
abbrev main_cst_42 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_cst_43 : Ref sig .tc := ⟨.hbm, 186, rfl⟩
abbrev main_v118 : Ref sig .tc := ⟨.hbm, 187, rfl⟩
abbrev main_v119 : Ref sig .tc := ⟨.hbm, 188, rfl⟩
abbrev main_cst_44 : Ref sig .tc := ⟨.hbm, 189, rfl⟩
abbrev main_v120 : Ref sig .tc := ⟨.hbm, 190, rfl⟩
abbrev main_v121 : Ref sig .tc := ⟨.hbm, 191, rfl⟩
abbrev main_cst_45 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_cst_46 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_cst_47 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_cst_48 : Ref sig .tc := ⟨.hbm, 204, rfl⟩
abbrev main_v131 : Ref sig .tc := ⟨.hbm, 205, rfl⟩
abbrev main_v132 : Ref sig .tc := ⟨.hbm, 206, rfl⟩
abbrev main_cst_49 : Ref sig .tc := ⟨.hbm, 207, rfl⟩
abbrev main_v133 : Ref sig .tc := ⟨.hbm, 208, rfl⟩
abbrev main_v134 : Ref sig .tc := ⟨.hbm, 209, rfl⟩
abbrev main_v135 : Ref sig .tc := ⟨.hbm, 210, rfl⟩
abbrev main_cst_50 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_cst_51 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_cst_52 : Ref sig .tc := ⟨.hbm, 219, rfl⟩
abbrev main_v142 : Ref sig .tc := ⟨.hbm, 220, rfl⟩
abbrev main_v143 : Ref sig .tc := ⟨.hbm, 221, rfl⟩

abbrev nD : Nat := 1
abbrev τ : Topo := Topo.v7x

variable {F : FTy → Type} [FloatOps F]
-- ==== Proof.Block.lean ====
/- The kernel's arithmetic on one block of 256 queries and one span of `n` keys, as tensor terms over any floats and any span
   length: `n = 256` is the span on the diagonal, `n = 256·i` the span of all the keys before block `i`. The kernel's body is these terms,
   once for each of its eight blocks of queries. -/
module

public import proofs.«01_k».proof.Proof.Gen.KernelIdeal
public import Idealize.ShloMosaic.PureOps.Dims

@[expose] public section

noncomputable section

namespace Fox

open Idealize.ShloMosaic Cert.KernelIdeal

/-- What the operations on a span of `n` keys ask of its shapes. -/
structure Span (n : ℕ) : Prop where
  keys : (⟨3, ![1, n, 64]⟩ : Shape).ShapeCasts ⟨2, ![n, 64]⟩
  keys' : (⟨2, ![n, 64]⟩ : Shape).ShapeCasts ⟨3, ![1, n, 64]⟩
  gate : (⟨3, ![1, 1, n]⟩ : Shape).ShapeCasts ⟨2, ![1, n]⟩
  gate' : (⟨2, ![1, n]⟩ : Shape).ShapeCasts ⟨3, ![1, 1, n]⟩
  overRows : (⟨2, ![1, n]⟩ : Shape).Broadcasts ⟨2, ![256, n]⟩
  overKeys : (⟨2, ![256, 1]⟩ : Shape).Broadcasts ⟨2, ![256, n]⟩
  sumKeys : (⟨2, ![256, n]⟩ : Shape).Reduces [1] ⟨1, ![256]⟩
  sumRows : (⟨2, ![256, n]⟩ : Shape).Reduces [0] ⟨1, ![n]⟩
  asRow : (⟨1, ![n]⟩ : Shape).ShapeCasts ⟨2, ![1, n]⟩
  tn : DotDims.WF ⟨2, ![256, n]⟩ ⟨2, ![256, 64]⟩ ⟨2, ![n, 64]⟩ [0] [0] [1] [1] [] []

theorem rowCast : (⟨3, ![1, 256, 1]⟩ : Shape).ShapeCasts ⟨2, ![256, 1]⟩ := by decide
theorem colCast : (⟨1, ![256]⟩ : Shape).ShapeCasts ⟨2, ![256, 1]⟩ := by decide
theorem iotaRows : (⟨2, ![256, 256]⟩ : Shape).Iotas .tc 32 [0] := by decide
theorem iotaCols : (⟨2, ![256, 256]⟩ : Shape).Iotas .tc 32 [1] := by decide
theorem narrow : FTy.bits .bf16 < FTy.bits .f32 := by decide

/-- The product that contracts the rows of both operands. -/
def rowsDims {n : ℕ} (h : Span n) : DotDims ⟨2, ![256, n]⟩ ⟨2, ![256, 64]⟩ ⟨2, ![n, 64]⟩ where
  lhsContracting := [0]
  rhsContracting := [0]
  lhsNonContracting := [1]
  rhsNonContracting := [1]
  lhsBatch := []
  rhsBatch := []
  wf := h.tn

variable {F : FTy → Type} [FloatOps F] [Named F]

abbrev M2 (F : FTy → Type) (a b : ℕ) (φ : FTy) := FVec F ⟨2, ![a, b]⟩ φ
abbrev M3 (F : FTy → Type) (b c : ℕ) (φ : FTy) := FVec F ⟨3, ![1, b, c]⟩ φ

/-- A zero accumulator. -/
abbrev zeros (a b : ℕ) : M2 F a b .f32 := constant ⟨2, ![a, b]⟩ .f32 0x00000000#32

/-- The block's queries, scaled. -/
def qScaled (h : Span 256) (q : M3 F 256 64 .bf16) : M2 F 256 64 .bf16 :=
  mulf (shapeCast _ q h.keys) (broadcast _ (Scalar.ofBits .bf16 0x3E00#16))

variable {n : ℕ} (h : Span n)

/-- The scores. -/
def logits (qs : M2 F 256 64 .bf16) (k : M3 F n 64 .bf16) (c : M3 F 1 n .f32) : M2 F 256 n .f32 :=
  subf (FloatOps.matmul (DotDims.transposedRhs 256 64 n) none qs (shapeCast _ k h.keys) (zeros 256 n))
    (broadcastTo _ (shapeCast ⟨2, ![1, n]⟩ c h.gate) h.overRows)

/-- The scores on the diagonal span, masked above the diagonal. -/
def masked (s : M2 F 256 256 .f32) : M2 F 256 256 .f32 :=
  select (cmpi .sge (iota .tc _ 32 [0] iotaRows) (iota .tc _ 32 [1] iotaCols)) s (broadcast _ (Named.named κ "mask" 0xF149F2CA#32))

/-- The weights. -/
def weights (s : M2 F 256 n .f32) (l : M3 F 256 1 .f32) : M2 F 256 n .f32 :=
  exp (subf s (broadcastTo _ (shapeCast ⟨2, ![256, 1]⟩ l rowCast) h.overKeys))

/-- The weights' cotangents. -/
def dweights (h1 : Span 256) (d : M3 F 256 64 .bf16) (v : M3 F n 64 .bf16) : M2 F 256 n .f32 :=
  FloatOps.matmul (DotDims.transposedRhs 256 64 n) none (shapeCast ⟨2, ![256, 64]⟩ d h1.keys) (shapeCast _ v h.keys) (zeros 256 n)

/-- The span's part of a row's sum. -/
def partDot (dp p : M2 F 256 n .f32) : M2 F 256 1 .f32 :=
  shapeCast _ (multiReduction .add [1] ⟨1, ![256]⟩ (mulf dp p) 0x00000000#32 h.sumKeys (.inl rfl) rfl) colCast

/-- The row sums of the first block, which has the diagonal span alone, and of a later block. -/
def dot1 (x : M2 F 256 1 .f32) : M2 F 256 1 .f32 := addf (broadcast _ (Scalar.ofBits .f32 0x00000000#32)) x
def dot2 (x y : M2 F 256 1 .f32) : M2 F 256 1 .f32 := addf (dot1 x) y

/-- The scores' cotangents. -/
def dlogits (p dp : M2 F 256 n .f32) (r : M2 F 256 1 .f32) : M2 F 256 n .f32 :=
  mulf p (subf dp (broadcastTo _ r h.overKeys))

/-- The span's part of the queries' gradient. -/
def partQ (ds : M2 F 256 n .f32) (k : M3 F n 64 .bf16) : M2 F 256 64 .f32 :=
  FloatOps.matmul (DotDims.plain 256 n 64) none (truncf .bf16 ds narrow) (shapeCast ⟨2, ![n, 64]⟩ k h.keys) (zeros 256 64)

/-- The queries' gradient as it is stored. -/
def outQ (h : Span 256) (x : M2 F 256 64 .f32) : M3 F 256 64 .bf16 :=
  shapeCast _ (truncf .bf16 (mulf x (broadcast _ (Scalar.ofBits .f32 0x3E000000#32))) narrow) h.keys'
def sumQ1 (x : M2 F 256 64 .f32) : M2 F 256 64 .f32 := addf (broadcast _ (Scalar.ofBits .f32 0x00000000#32)) x
def sumQ2 (x y : M2 F 256 64 .f32) : M2 F 256 64 .f32 := addf (sumQ1 x) y

/-- What the block adds to a span of the keys' gradient; with the weights and the output's cotangents, of the values' gradient. -/
def addRows (w : M2 F 256 n .f32) (x : M2 F 256 64 .bf16) (old : M3 F n 64 .f32) : M3 F n 64 .f32 :=
  shapeCast _ (addf (shapeCast ⟨2, ![n, 64]⟩ old h.keys) (FloatOps.matmul (rowsDims h) none (truncf .bf16 w narrow) x (zeros n 64))) h.keys'

/-- What the block takes from a span of the gate sums' gradient. -/
def subRows (ds : M2 F 256 n .f32) (old : M3 F 1 n .f32) : M3 F 1 n .f32 :=
  shapeCast _ (subf (shapeCast ⟨2, ![1, n]⟩ old h.gate)
    (shapeCast _ (multiReduction .add [0] ⟨1, ![n]⟩ ds 0x00000000#32 h.sumRows (.inl rfl) rfl) h.asRow)) h.gate'

end Fox

end
-- ==== Proof.Pair.lean ====
/- A block's weights and scores' cotangents from its loaded operands: on the diagonal span and on the span before it. -/
module

public import proofs.«01_k».proof.Proof.Block

@[expose] public section

noncomputable section

namespace Fox

open Idealize.ShloMosaic Cert.KernelIdeal

variable {F : FTy → Type} [FloatOps F] [Named F] {n : ℕ}

/-- The weights of the block's own keys, and of `n` keys before it. -/
def pDiag (h1 : Span 256) (q : M3 F 256 64 .bf16) (l : M3 F 256 1 .f32) (k : M3 F 256 64 .bf16) (c : M3 F 1 256 .f32) : M2 F 256 256 .f32 :=
  weights h1 (masked (logits h1 (qScaled h1 q) k c)) l
def pRest (h1 : Span 256) (h : Span n) (q : M3 F 256 64 .bf16) (l : M3 F 256 1 .f32) (k : M3 F n 64 .bf16) (c : M3 F 1 n .f32) : M2 F 256 n .f32 :=
  weights h (logits h (qScaled h1 q) k c) l

/-- The first block, which has its own keys alone. -/
def dsFirst (h1 : Span 256) (q d : M3 F 256 64 .bf16) (l : M3 F 256 1 .f32) (k v : M3 F 256 64 .bf16) (c : M3 F 1 256 .f32) : M2 F 256 256 .f32 :=
  dlogits h1 (pDiag h1 q l k c) (dweights h1 h1 d v) (dot1 (partDot h1 (dweights h1 h1 d v) (pDiag h1 q l k c)))

/-- A later block's row sums. -/
def dots (h1 : Span 256) (h : Span n) (q d : M3 F 256 64 .bf16) (l : M3 F 256 1 .f32) (k v : M3 F 256 64 .bf16) (c : M3 F 1 256 .f32)
    (k' v' : M3 F n 64 .bf16) (c' : M3 F 1 n .f32) : M2 F 256 1 .f32 :=
  dot2 (partDot h1 (dweights h1 h1 d v) (pDiag h1 q l k c)) (partDot h (dweights h h1 d v') (pRest h1 h q l k' c'))

/-- The scores' cotangents at its own keys and at the keys before it. -/
def dsDiag (h1 : Span 256) (h : Span n) (q d : M3 F 256 64 .bf16) (l : M3 F 256 1 .f32) (k v : M3 F 256 64 .bf16) (c : M3 F 1 256 .f32)
    (k' v' : M3 F n 64 .bf16) (c' : M3 F 1 n .f32) : M2 F 256 256 .f32 :=
  dlogits h1 (pDiag h1 q l k c) (dweights h1 h1 d v) (dots h1 h q d l k v c k' v' c')
def dsRest (h1 : Span 256) (h : Span n) (q d : M3 F 256 64 .bf16) (l : M3 F 256 1 .f32) (k v : M3 F 256 64 .bf16) (c : M3 F 1 256 .f32)
    (k' v' : M3 F n 64 .bf16) (c' : M3 F 1 n .f32) : M2 F 256 n .f32 :=
  dlogits h (pRest h1 h q l k' c') (dweights h h1 d v') (dots h1 h q d l k v c k' v' c')

end Fox

end
-- ==== Proof.Run.lean ====
/- What the kernel's body leaves in its output windows, as the lists of its stores: each store's payload is a term of Proof/Block.lean at
   the body's loads. -/
module

public import proofs.«01_k».proof.Proof.Pair
public import proofs.«01_k».proof.Proof.Gen.KernelIdeal.Frame

@[expose] public section

set_option maxRecDepth 16384

noncomputable section

namespace Fox

open Idealize.ShloMosaic Cert.KernelIdeal Cert.KernelIdeal.Gen Cert.KernelIdeal.Gen.kernelRun0_A

variable {F : FTy → Type} [FloatOps F] [Named F]

theorem span256 : Span 256 := ⟨by decide, by decide, by decide, by decide, by decide, by decide, by decide, by decide, by decide, by decide⟩
theorem span512 : Span 512 := ⟨by decide, by decide, by decide, by decide, by decide, by decide, by decide, by decide, by decide, by decide⟩
theorem span768 : Span 768 := ⟨by decide, by decide, by decide, by decide, by decide, by decide, by decide, by decide, by decide, by decide⟩
theorem span1024 : Span 1024 := ⟨by decide, by decide, by decide, by decide, by decide, by decide, by decide, by decide, by decide, by decide⟩
theorem span1280 : Span 1280 := ⟨by decide, by decide, by decide, by decide, by decide, by decide, by decide, by decide, by decide, by decide⟩
theorem span1536 : Span 1536 := ⟨by decide, by decide, by decide, by decide, by decide, by decide, by decide, by decide, by decide, by decide⟩
theorem span1792 : Span 1792 := ⟨by decide, by decide, by decide, by decide, by decide, by decide, by decide, by decide, by decide, by decide⟩

/-- A load of a box of a whole input window. -/
abbrev rd {s : Shape} {e : EltTy} (a : Memref sig .tc .vmem s e) (ha : a.IsWhole) (x : Vec F s e) (off size : Fin s.rank → ℕ)
    (hb : ∀ ax, off ax + size ax ≤ s.size ax) : (⟨s.rank, size⟩ : Shape).Idx → Elt F e :=
  View.readAt (Elt F) a.view (Rect.unit off size hb).toLoadRect (ha.unread x)

variable (c : Dev nD) (i : grid0.Coords)
  (arg1 : Memref sig .tc .vmem S1x2048x64 .bf16) (harg1 : arg1.IsWhole) (arg2 : Memref sig .tc .vmem S1x2048x64 .bf16) (harg2 : arg2.IsWhole)
  (arg3 : Memref sig .tc .vmem S1x2048x64 .bf16) (harg3 : arg3.IsWhole) (arg4 : Memref sig .tc .vmem S1x2048x64 .bf16) (harg4 : arg4.IsWhole)
  (arg5 : Memref sig .tc .vmem S1x2048x1 .f32) (harg5 : arg5.IsWhole) (arg6 : Memref sig .tc .vmem S1x1x2048 .f32) (harg6 : arg6.IsWhole)
  (arg7 : Memref sig .tc .vmem S1x2048x64 .bf16) (harg7 : arg7.IsWhole) (arg8 : Memref sig .tc .vmem S1x2048x64 .f32) (harg8 : arg8.IsWhole)
  (arg9 : Memref sig .tc .vmem S1x2048x64 .f32) (harg9 : arg9.IsWhole) (arg10 : Memref sig .tc .vmem S1x1x2048 .f32) (harg10 : arg10.IsWhole)
  (x0 x1 x2 x3 : Vec F S1x2048x64 .bf16) (x4 : Vec F S1x2048x1 .f32) (x5 : Vec F S1x1x2048 .f32)

abbrev p0 := pDiag span256 (rd arg1 harg1 x0 ![0, 0, 0] ![1, 256, 64] (by decide)) (rd arg5 harg5 x4 ![0, 0, 0] ![1, 256, 1] (by decide)) (rd arg2 harg2 x1 ![0, 0, 0] ![1, 256, 64] (by decide)) (rd arg6 harg6 x5 ![0, 0, 0] ![1, 1, 256] (by decide))
abbrev ds0 := dsFirst span256 (rd arg1 harg1 x0 ![0, 0, 0] ![1, 256, 64] (by decide)) (rd arg4 harg4 x3 ![0, 0, 0] ![1, 256, 64] (by decide)) (rd arg5 harg5 x4 ![0, 0, 0] ![1, 256, 1] (by decide)) (rd arg2 harg2 x1 ![0, 0, 0] ![1, 256, 64] (by decide)) (rd arg3 harg3 x2 ![0, 0, 0] ![1, 256, 64] (by decide)) (rd arg6 harg6 x5 ![0, 0, 0] ![1, 1, 256] (by decide))
abbrev qs0 := qScaled span256 (rd arg1 harg1 x0 ![0, 0, 0] ![1, 256, 64] (by decide))
abbrev do0 := (shapeCast ⟨2, ![256, 64]⟩ (rd arg4 harg4 x3 ![0, 0, 0] ![1, 256, 64] (by decide)) span256.keys : M2 F 256 64 .bf16)

abbrev p1 := pDiag span256 (rd arg1 harg1 x0 ![0, 256, 0] ![1, 256, 64] (by decide)) (rd arg5 harg5 x4 ![0, 256, 0] ![1, 256, 1] (by decide)) (rd arg2 harg2 x1 ![0, 256, 0] ![1, 256, 64] (by decide)) (rd arg6 harg6 x5 ![0, 0, 256] ![1, 1, 256] (by decide))
abbrev p1r := pRest span256 span256 (rd arg1 harg1 x0 ![0, 256, 0] ![1, 256, 64] (by decide)) (rd arg5 harg5 x4 ![0, 256, 0] ![1, 256, 1] (by decide)) (rd arg2 harg2 x1 ![0, 0, 0] ![1, 256, 64] (by decide)) (rd arg6 harg6 x5 ![0, 0, 0] ![1, 1, 256] (by decide))
abbrev ds1 := dsDiag span256 span256 (rd arg1 harg1 x0 ![0, 256, 0] ![1, 256, 64] (by decide)) (rd arg4 harg4 x3 ![0, 256, 0] ![1, 256, 64] (by decide)) (rd arg5 harg5 x4 ![0, 256, 0] ![1, 256, 1] (by decide)) (rd arg2 harg2 x1 ![0, 256, 0] ![1, 256, 64] (by decide)) (rd arg3 harg3 x2 ![0, 256, 0] ![1, 256, 64] (by decide)) (rd arg6 harg6 x5 ![0, 0, 256] ![1, 1, 256] (by decide)) (rd arg2 harg2 x1 ![0, 0, 0] ![1, 256, 64] (by decide)) (rd arg3 harg3 x2 ![0, 0, 0] ![1, 256, 64] (by decide)) (rd arg6 harg6 x5 ![0, 0, 0] ![1, 1, 256] (by decide))
abbrev ds1r := dsRest span256 span256 (rd arg1 harg1 x0 ![0, 256, 0] ![1, 256, 64] (by decide)) (rd arg4 harg4 x3 ![0, 256, 0] ![1, 256, 64] (by decide)) (rd arg5 harg5 x4 ![0, 256, 0] ![1, 256, 1] (by decide)) (rd arg2 harg2 x1 ![0, 256, 0] ![1, 256, 64] (by decide)) (rd arg3 harg3 x2 ![0, 256, 0] ![1, 256, 64] (by decide)) (rd arg6 harg6 x5 ![0, 0, 256] ![1, 1, 256] (by decide)) (rd arg2 harg2 x1 ![0, 0, 0] ![1, 256, 64] (by decide)) (rd arg3 harg3 x2 ![0, 0, 0] ![1, 256, 64] (by decide)) (rd arg6 harg6 x5 ![0, 0, 0] ![1, 1, 256] (by decide))
abbrev qs1 := qScaled span256 (rd arg1 harg1 x0 ![0, 256, 0] ![1, 256, 64] (by decide))
abbrev do1 := (shapeCast ⟨2, ![256, 64]⟩ (rd arg4 harg4 x3 ![0, 256, 0] ![1, 256, 64] (by decide)) span256.keys : M2 F 256 64 .bf16)

abbrev p2 := pDiag span256 (rd arg1 harg1 x0 ![0, 512, 0] ![1, 256, 64] (by decide)) (rd arg5 harg5 x4 ![0, 512, 0] ![1, 256, 1] (by decide)) (rd arg2 harg2 x1 ![0, 512, 0] ![1, 256, 64] (by decide)) (rd arg6 harg6 x5 ![0, 0, 512] ![1, 1, 256] (by decide))
abbrev p2r := pRest span256 span512 (rd arg1 harg1 x0 ![0, 512, 0] ![1, 256, 64] (by decide)) (rd arg5 harg5 x4 ![0, 512, 0] ![1, 256, 1] (by decide)) (rd arg2 harg2 x1 ![0, 0, 0] ![1, 512, 64] (by decide)) (rd arg6 harg6 x5 ![0, 0, 0] ![1, 1, 512] (by decide))
abbrev ds2 := dsDiag span256 span512 (rd arg1 harg1 x0 ![0, 512, 0] ![1, 256, 64] (by decide)) (rd arg4 harg4 x3 ![0, 512, 0] ![1, 256, 64] (by decide)) (rd arg5 harg5 x4 ![0, 512, 0] ![1, 256, 1] (by decide)) (rd arg2 harg2 x1 ![0, 512, 0] ![1, 256, 64] (by decide)) (rd arg3 harg3 x2 ![0, 512, 0] ![1, 256, 64] (by decide)) (rd arg6 harg6 x5 ![0, 0, 512] ![1, 1, 256] (by decide)) (rd arg2 harg2 x1 ![0, 0, 0] ![1, 512, 64] (by decide)) (rd arg3 harg3 x2 ![0, 0, 0] ![1, 512, 64] (by decide)) (rd arg6 harg6 x5 ![0, 0, 0] ![1, 1, 512] (by decide))
abbrev ds2r := dsRest span256 span512 (rd arg1 harg1 x0 ![0, 512, 0] ![1, 256, 64] (by decide)) (rd arg4 harg4 x3 ![0, 512, 0] ![1, 256, 64] (by decide)) (rd arg5 harg5 x4 ![0, 512, 0] ![1, 256, 1] (by decide)) (rd arg2 harg2 x1 ![0, 512, 0] ![1, 256, 64] (by decide)) (rd arg3 harg3 x2 ![0, 512, 0] ![1, 256, 64] (by decide)) (rd arg6 harg6 x5 ![0, 0, 512] ![1, 1, 256] (by decide)) (rd arg2 harg2 x1 ![0, 0, 0] ![1, 512, 64] (by decide)) (rd arg3 harg3 x2 ![0, 0, 0] ![1, 512, 64] (by decide)) (rd arg6 harg6 x5 ![0, 0, 0] ![1, 1, 512] (by decide))
abbrev qs2 := qScaled span256 (rd arg1 harg1 x0 ![0, 512, 0] ![1, 256, 64] (by decide))
abbrev do2 := (shapeCast ⟨2, ![256, 64]⟩ (rd arg4 harg4 x3 ![0, 512, 0] ![1, 256, 64] (by decide)) span256.keys : M2 F 256 64 .bf16)

abbrev p3 := pDiag span256 (rd arg1 harg1 x0 ![0, 768, 0] ![1, 256, 64] (by decide)) (rd arg5 harg5 x4 ![0, 768, 0] ![1, 256, 1] (by decide)) (rd arg2 harg2 x1 ![0, 768, 0] ![1, 256, 64] (by decide)) (rd arg6 harg6 x5 ![0, 0, 768] ![1, 1, 256] (by decide))
abbrev p3r := pRest span256 span768 (rd arg1 harg1 x0 ![0, 768, 0] ![1, 256, 64] (by decide)) (rd arg5 harg5 x4 ![0, 768, 0] ![1, 256, 1] (by decide)) (rd arg2 harg2 x1 ![0, 0, 0] ![1, 768, 64] (by decide)) (rd arg6 harg6 x5 ![0, 0, 0] ![1, 1, 768] (by decide))
abbrev ds3 := dsDiag span256 span768 (rd arg1 harg1 x0 ![0, 768, 0] ![1, 256, 64] (by decide)) (rd arg4 harg4 x3 ![0, 768, 0] ![1, 256, 64] (by decide)) (rd arg5 harg5 x4 ![0, 768, 0] ![1, 256, 1] (by decide)) (rd arg2 harg2 x1 ![0, 768, 0] ![1, 256, 64] (by decide)) (rd arg3 harg3 x2 ![0, 768, 0] ![1, 256, 64] (by decide)) (rd arg6 harg6 x5 ![0, 0, 768] ![1, 1, 256] (by decide)) (rd arg2 harg2 x1 ![0, 0, 0] ![1, 768, 64] (by decide)) (rd arg3 harg3 x2 ![0, 0, 0] ![1, 768, 64] (by decide)) (rd arg6 harg6 x5 ![0, 0, 0] ![1, 1, 768] (by decide))
abbrev ds3r := dsRest span256 span768 (rd arg1 harg1 x0 ![0, 768, 0] ![1, 256, 64] (by decide)) (rd arg4 harg4 x3 ![0, 768, 0] ![1, 256, 64] (by decide)) (rd arg5 harg5 x4 ![0, 768, 0] ![1, 256, 1] (by decide)) (rd arg2 harg2 x1 ![0, 768, 0] ![1, 256, 64] (by decide)) (rd arg3 harg3 x2 ![0, 768, 0] ![1, 256, 64] (by decide)) (rd arg6 harg6 x5 ![0, 0, 768] ![1, 1, 256] (by decide)) (rd arg2 harg2 x1 ![0, 0, 0] ![1, 768, 64] (by decide)) (rd arg3 harg3 x2 ![0, 0, 0] ![1, 768, 64] (by decide)) (rd arg6 harg6 x5 ![0, 0, 0] ![1, 1, 768] (by decide))
abbrev qs3 := qScaled span256 (rd arg1 harg1 x0 ![0, 768, 0] ![1, 256, 64] (by decide))
abbrev do3 := (shapeCast ⟨2, ![256, 64]⟩ (rd arg4 harg4 x3 ![0, 768, 0] ![1, 256, 64] (by decide)) span256.keys : M2 F 256 64 .bf16)

abbrev p4 := pDiag span256 (rd arg1 harg1 x0 ![0, 1024, 0] ![1, 256, 64] (by decide)) (rd arg5 harg5 x4 ![0, 1024, 0] ![1, 256, 1] (by decide)) (rd arg2 harg2 x1 ![0, 1024, 0] ![1, 256, 64] (by decide)) (rd arg6 harg6 x5 ![0, 0, 1024] ![1, 1, 256] (by decide))
abbrev p4r := pRest span256 span1024 (rd arg1 harg1 x0 ![0, 1024, 0] ![1, 256, 64] (by decide)) (rd arg5 harg5 x4 ![0, 1024, 0] ![1, 256, 1] (by decide)) (rd arg2 harg2 x1 ![0, 0, 0] ![1, 1024, 64] (by decide)) (rd arg6 harg6 x5 ![0, 0, 0] ![1, 1, 1024] (by decide))
abbrev ds4 := dsDiag span256 span1024 (rd arg1 harg1 x0 ![0, 1024, 0] ![1, 256, 64] (by decide)) (rd arg4 harg4 x3 ![0, 1024, 0] ![1, 256, 64] (by decide)) (rd arg5 harg5 x4 ![0, 1024, 0] ![1, 256, 1] (by decide)) (rd arg2 harg2 x1 ![0, 1024, 0] ![1, 256, 64] (by decide)) (rd arg3 harg3 x2 ![0, 1024, 0] ![1, 256, 64] (by decide)) (rd arg6 harg6 x5 ![0, 0, 1024] ![1, 1, 256] (by decide)) (rd arg2 harg2 x1 ![0, 0, 0] ![1, 1024, 64] (by decide)) (rd arg3 harg3 x2 ![0, 0, 0] ![1, 1024, 64] (by decide)) (rd arg6 harg6 x5 ![0, 0, 0] ![1, 1, 1024] (by decide))
abbrev ds4r := dsRest span256 span1024 (rd arg1 harg1 x0 ![0, 1024, 0] ![1, 256, 64] (by decide)) (rd arg4 harg4 x3 ![0, 1024, 0] ![1, 256, 64] (by decide)) (rd arg5 harg5 x4 ![0, 1024, 0] ![1, 256, 1] (by decide)) (rd arg2 harg2 x1 ![0, 1024, 0] ![1, 256, 64] (by decide)) (rd arg3 harg3 x2 ![0, 1024, 0] ![1, 256, 64] (by decide)) (rd arg6 harg6 x5 ![0, 0, 1024] ![1, 1, 256] (by decide)) (rd arg2 harg2 x1 ![0, 0, 0] ![1, 1024, 64] (by decide)) (rd arg3 harg3 x2 ![0, 0, 0] ![1, 1024, 64] (by decide)) (rd arg6 harg6 x5 ![0, 0, 0] ![1, 1, 1024] (by decide))
abbrev qs4 := qScaled span256 (rd arg1 harg1 x0 ![0, 1024, 0] ![1, 256, 64] (by decide))
abbrev do4 := (shapeCast ⟨2, ![256, 64]⟩ (rd arg4 harg4 x3 ![0, 1024, 0] ![1, 256, 64] (by decide)) span256.keys : M2 F 256 64 .bf16)

abbrev p5 := pDiag span256 (rd arg1 harg1 x0 ![0, 1280, 0] ![1, 256, 64] (by decide)) (rd arg5 harg5 x4 ![0, 1280, 0] ![1, 256, 1] (by decide)) (rd arg2 harg2 x1 ![0, 1280, 0] ![1, 256, 64] (by decide)) (rd arg6 harg6 x5 ![0, 0, 1280] ![1, 1, 256] (by decide))
abbrev p5r := pRest span256 span1280 (rd arg1 harg1 x0 ![0, 1280, 0] ![1, 256, 64] (by decide)) (rd arg5 harg5 x4 ![0, 1280, 0] ![1, 256, 1] (by decide)) (rd arg2 harg2 x1 ![0, 0, 0] ![1, 1280, 64] (by decide)) (rd arg6 harg6 x5 ![0, 0, 0] ![1, 1, 1280] (by decide))
abbrev ds5 := dsDiag span256 span1280 (rd arg1 harg1 x0 ![0, 1280, 0] ![1, 256, 64] (by decide)) (rd arg4 harg4 x3 ![0, 1280, 0] ![1, 256, 64] (by decide)) (rd arg5 harg5 x4 ![0, 1280, 0] ![1, 256, 1] (by decide)) (rd arg2 harg2 x1 ![0, 1280, 0] ![1, 256, 64] (by decide)) (rd arg3 harg3 x2 ![0, 1280, 0] ![1, 256, 64] (by decide)) (rd arg6 harg6 x5 ![0, 0, 1280] ![1, 1, 256] (by decide)) (rd arg2 harg2 x1 ![0, 0, 0] ![1, 1280, 64] (by decide)) (rd arg3 harg3 x2 ![0, 0, 0] ![1, 1280, 64] (by decide)) (rd arg6 harg6 x5 ![0, 0, 0] ![1, 1, 1280] (by decide))
abbrev ds5r := dsRest span256 span1280 (rd arg1 harg1 x0 ![0, 1280, 0] ![1, 256, 64] (by decide)) (rd arg4 harg4 x3 ![0, 1280, 0] ![1, 256, 64] (by decide)) (rd arg5 harg5 x4 ![0, 1280, 0] ![1, 256, 1] (by decide)) (rd arg2 harg2 x1 ![0, 1280, 0] ![1, 256, 64] (by decide)) (rd arg3 harg3 x2 ![0, 1280, 0] ![1, 256, 64] (by decide)) (rd arg6 harg6 x5 ![0, 0, 1280] ![1, 1, 256] (by decide)) (rd arg2 harg2 x1 ![0, 0, 0] ![1, 1280, 64] (by decide)) (rd arg3 harg3 x2 ![0, 0, 0] ![1, 1280, 64] (by decide)) (rd arg6 harg6 x5 ![0, 0, 0] ![1, 1, 1280] (by decide))
abbrev qs5 := qScaled span256 (rd arg1 harg1 x0 ![0, 1280, 0] ![1, 256, 64] (by decide))
abbrev do5 := (shapeCast ⟨2, ![256, 64]⟩ (rd arg4 harg4 x3 ![0, 1280, 0] ![1, 256, 64] (by decide)) span256.keys : M2 F 256 64 .bf16)

abbrev p6 := pDiag span256 (rd arg1 harg1 x0 ![0, 1536, 0] ![1, 256, 64] (by decide)) (rd arg5 harg5 x4 ![0, 1536, 0] ![1, 256, 1] (by decide)) (rd arg2 harg2 x1 ![0, 1536, 0] ![1, 256, 64] (by decide)) (rd arg6 harg6 x5 ![0, 0, 1536] ![1, 1, 256] (by decide))
abbrev p6r := pRest span256 span1536 (rd arg1 harg1 x0 ![0, 1536, 0] ![1, 256, 64] (by decide)) (rd arg5 harg5 x4 ![0, 1536, 0] ![1, 256, 1] (by decide)) (rd arg2 harg2 x1 ![0, 0, 0] ![1, 1536, 64] (by decide)) (rd arg6 harg6 x5 ![0, 0, 0] ![1, 1, 1536] (by decide))
abbrev ds6 := dsDiag span256 span1536 (rd arg1 harg1 x0 ![0, 1536, 0] ![1, 256, 64] (by decide)) (rd arg4 harg4 x3 ![0, 1536, 0] ![1, 256, 64] (by decide)) (rd arg5 harg5 x4 ![0, 1536, 0] ![1, 256, 1] (by decide)) (rd arg2 harg2 x1 ![0, 1536, 0] ![1, 256, 64] (by decide)) (rd arg3 harg3 x2 ![0, 1536, 0] ![1, 256, 64] (by decide)) (rd arg6 harg6 x5 ![0, 0, 1536] ![1, 1, 256] (by decide)) (rd arg2 harg2 x1 ![0, 0, 0] ![1, 1536, 64] (by decide)) (rd arg3 harg3 x2 ![0, 0, 0] ![1, 1536, 64] (by decide)) (rd arg6 harg6 x5 ![0, 0, 0] ![1, 1, 1536] (by decide))
abbrev ds6r := dsRest span256 span1536 (rd arg1 harg1 x0 ![0, 1536, 0] ![1, 256, 64] (by decide)) (rd arg4 harg4 x3 ![0, 1536, 0] ![1, 256, 64] (by decide)) (rd arg5 harg5 x4 ![0, 1536, 0] ![1, 256, 1] (by decide)) (rd arg2 harg2 x1 ![0, 1536, 0] ![1, 256, 64] (by decide)) (rd arg3 harg3 x2 ![0, 1536, 0] ![1, 256, 64] (by decide)) (rd arg6 harg6 x5 ![0, 0, 1536] ![1, 1, 256] (by decide)) (rd arg2 harg2 x1 ![0, 0, 0] ![1, 1536, 64] (by decide)) (rd arg3 harg3 x2 ![0, 0, 0] ![1, 1536, 64] (by decide)) (rd arg6 harg6 x5 ![0, 0, 0] ![1, 1, 1536] (by decide))
abbrev qs6 := qScaled span256 (rd arg1 harg1 x0 ![0, 1536, 0] ![1, 256, 64] (by decide))
abbrev do6 := (shapeCast ⟨2, ![256, 64]⟩ (rd arg4 harg4 x3 ![0, 1536, 0] ![1, 256, 64] (by decide)) span256.keys : M2 F 256 64 .bf16)

abbrev p7 := pDiag span256 (rd arg1 harg1 x0 ![0, 1792, 0] ![1, 256, 64] (by decide)) (rd arg5 harg5 x4 ![0, 1792, 0] ![1, 256, 1] (by decide)) (rd arg2 harg2 x1 ![0, 1792, 0] ![1, 256, 64] (by decide)) (rd arg6 harg6 x5 ![0, 0, 1792] ![1, 1, 256] (by decide))
abbrev p7r := pRest span256 span1792 (rd arg1 harg1 x0 ![0, 1792, 0] ![1, 256, 64] (by decide)) (rd arg5 harg5 x4 ![0, 1792, 0] ![1, 256, 1] (by decide)) (rd arg2 harg2 x1 ![0, 0, 0] ![1, 1792, 64] (by decide)) (rd arg6 harg6 x5 ![0, 0, 0] ![1, 1, 1792] (by decide))
abbrev ds7 := dsDiag span256 span1792 (rd arg1 harg1 x0 ![0, 1792, 0] ![1, 256, 64] (by decide)) (rd arg4 harg4 x3 ![0, 1792, 0] ![1, 256, 64] (by decide)) (rd arg5 harg5 x4 ![0, 1792, 0] ![1, 256, 1] (by decide)) (rd arg2 harg2 x1 ![0, 1792, 0] ![1, 256, 64] (by decide)) (rd arg3 harg3 x2 ![0, 1792, 0] ![1, 256, 64] (by decide)) (rd arg6 harg6 x5 ![0, 0, 1792] ![1, 1, 256] (by decide)) (rd arg2 harg2 x1 ![0, 0, 0] ![1, 1792, 64] (by decide)) (rd arg3 harg3 x2 ![0, 0, 0] ![1, 1792, 64] (by decide)) (rd arg6 harg6 x5 ![0, 0, 0] ![1, 1, 1792] (by decide))
abbrev ds7r := dsRest span256 span1792 (rd arg1 harg1 x0 ![0, 1792, 0] ![1, 256, 64] (by decide)) (rd arg4 harg4 x3 ![0, 1792, 0] ![1, 256, 64] (by decide)) (rd arg5 harg5 x4 ![0, 1792, 0] ![1, 256, 1] (by decide)) (rd arg2 harg2 x1 ![0, 1792, 0] ![1, 256, 64] (by decide)) (rd arg3 harg3 x2 ![0, 1792, 0] ![1, 256, 64] (by decide)) (rd arg6 harg6 x5 ![0, 0, 1792] ![1, 1, 256] (by decide)) (rd arg2 harg2 x1 ![0, 0, 0] ![1, 1792, 64] (by decide)) (rd arg3 harg3 x2 ![0, 0, 0] ![1, 1792, 64] (by decide)) (rd arg6 harg6 x5 ![0, 0, 0] ![1, 1, 1792] (by decide))
abbrev qs7 := qScaled span256 (rd arg1 harg1 x0 ![0, 1792, 0] ![1, 256, 64] (by decide))
abbrev do7 := (shapeCast ⟨2, ![256, 64]⟩ (rd arg4 harg4 x3 ![0, 1792, 0] ![1, 256, 64] (by decide)) span256.keys : M2 F 256 64 .bf16)

theorem H7_2 : (sl.H7_2 (F := F) c arg1 harg1 arg2 harg2 arg3 harg3 arg4 harg4 arg5 harg5 arg6 harg6 arg8 x0 x1 x2 x3 x4 x5) =
    ⟨(Rect.unit (s := S1x2048x64) ![0, 0, 0] ![1, 256, 64] (by decide)), addRows span256 (ds0 arg1 harg1 arg2 harg2 arg3 harg3 arg4 harg4 arg5 harg5 arg6 harg6 x0 x1 x2 x3 x4 x5) (qs0 arg1 harg1 x0) (arg8.view.readCov (sl.H7_1 (F := F)) (Rect.unit (s := S1x2048x64) ![0, 0, 0] ![1, 256, 64] (by decide)).toLoadRect)⟩ :: (sl.H7_1 (F := F)) := by
  chain_rfl
theorem H8_2 : (sl.H8_2 (F := F) c arg1 harg1 arg2 harg2 arg4 harg4 arg5 harg5 arg6 harg6 arg9 x0 x1 x3 x4 x5) =
    ⟨(Rect.unit (s := S1x2048x64) ![0, 0, 0] ![1, 256, 64] (by decide)), addRows span256 (p0 arg1 harg1 arg2 harg2 arg5 harg5 arg6 harg6 x0 x1 x4 x5) (do0 arg4 harg4 x3) (arg9.view.readCov (sl.H7_1 (F := F)) (Rect.unit (s := S1x2048x64) ![0, 0, 0] ![1, 256, 64] (by decide)).toLoadRect)⟩ :: (sl.H7_1 (F := F)) := by
  chain_rfl
theorem H9_2 : (sl.H9_2 (F := F) c arg1 harg1 arg2 harg2 arg3 harg3 arg4 harg4 arg5 harg5 arg6 harg6 arg10 x0 x1 x2 x3 x4 x5) =
    ⟨(Rect.unit (s := S1x1x2048) ![0, 0, 0] ![1, 1, 256] (by decide)), subRows span256 (ds0 arg1 harg1 arg2 harg2 arg3 harg3 arg4 harg4 arg5 harg5 arg6 harg6 x0 x1 x2 x3 x4 x5) (arg10.view.readCov (sl.H9_1 (F := F)) (Rect.unit (s := S1x1x2048) ![0, 0, 0] ![1, 1, 256] (by decide)).toLoadRect)⟩ :: (sl.H9_1 (F := F)) := by
  chain_rfl
theorem H7_3 : (sl.H7_3 (F := F) c arg1 harg1 arg2 harg2 arg3 harg3 arg4 harg4 arg5 harg5 arg6 harg6 arg8 x0 x1 x2 x3 x4 x5) =
    ⟨(Rect.unit (s := S1x2048x64) ![0, 256, 0] ![1, 256, 64] (by decide)), addRows span256 (ds1 arg1 harg1 arg2 harg2 arg3 harg3 arg4 harg4 arg5 harg5 arg6 harg6 x0 x1 x2 x3 x4 x5) (qs1 arg1 harg1 x0) (arg8.view.readCov (sl.H7_2 (F := F) c arg1 harg1 arg2 harg2 arg3 harg3 arg4 harg4 arg5 harg5 arg6 harg6 arg8 x0 x1 x2 x3 x4 x5) (Rect.unit (s := S1x2048x64) ![0, 256, 0] ![1, 256, 64] (by decide)).toLoadRect)⟩ :: (sl.H7_2 (F := F) c arg1 harg1 arg2 harg2 arg3 harg3 arg4 harg4 arg5 harg5 arg6 harg6 arg8 x0 x1 x2 x3 x4 x5) := by
  chain_rfl
theorem H8_3 : (sl.H8_3 (F := F) c arg1 harg1 arg2 harg2 arg4 harg4 arg5 harg5 arg6 harg6 arg9 x0 x1 x3 x4 x5) =
    ⟨(Rect.unit (s := S1x2048x64) ![0, 256, 0] ![1, 256, 64] (by decide)), addRows span256 (p1 arg1 harg1 arg2 harg2 arg5 harg5 arg6 harg6 x0 x1 x4 x5) (do1 arg4 harg4 x3) (arg9.view.readCov (sl.H8_2 (F := F) c arg1 harg1 arg2 harg2 arg4 harg4 arg5 harg5 arg6 harg6 arg9 x0 x1 x3 x4 x5) (Rect.unit (s := S1x2048x64) ![0, 256, 0] ![1, 256, 64] (by decide)).toLoadRect)⟩ :: (sl.H8_2 (F := F) c arg1 harg1 arg2 harg2 arg4 harg4 arg5 harg5 arg6 harg6 arg9 x0 x1 x3 x4 x5) := by
  chain_rfl
theorem H9_3 : (sl.H9_3 (F := F) c arg1 harg1 arg2 harg2 arg3 harg3 arg4 harg4 arg5 harg5 arg6 harg6 arg10 x0 x1 x2 x3 x4 x5) =
    ⟨(Rect.unit (s := S1x1x2048) ![0, 0, 256] ![1, 1, 256] (by decide)), subRows span256 (ds1 arg1 harg1 arg2 harg2 arg3 harg3 arg4 harg4 arg5 harg5 arg6 harg6 x0 x1 x2 x3 x4 x5) (arg10.view.readCov (sl.H9_2 (F := F) c arg1 harg1 arg2 harg2 arg3 harg3 arg4 harg4 arg5 harg5 arg6 harg6 arg10 x0 x1 x2 x3 x4 x5) (Rect.unit (s := S1x1x2048) ![0, 0, 256] ![1, 1, 256] (by decide)).toLoadRect)⟩ :: (sl.H9_2 (F := F) c arg1 harg1 arg2 harg2 arg3 harg3 arg4 harg4 arg5 harg5 arg6 harg6 arg10 x0 x1 x2 x3 x4 x5) := by
  chain_rfl
theorem H7_4 : (sl.H7_4 (F := F) c arg1 harg1 arg2 harg2 arg3 harg3 arg4 harg4 arg5 harg5 arg6 harg6 arg8 x0 x1 x2 x3 x4 x5) =
    ⟨(Rect.unit (s := S1x2048x64) ![0, 0, 0] ![1, 256, 64] (by decide)), addRows span256 (ds1r arg1 harg1 arg2 harg2 arg3 harg3 arg4 harg4 arg5 harg5 arg6 harg6 x0 x1 x2 x3 x4 x5) (qs1 arg1 harg1 x0) (arg8.view.readCov (sl.H7_3 (F := F) c arg1 harg1 arg2 harg2 arg3 harg3 arg4 harg4 arg5 harg5 arg6 harg6 arg8 x0 x1 x2 x3 x4 x5) (Rect.unit (s := S1x2048x64) ![0, 0, 0] ![1, 256, 64] (by decide)).toLoadRect)⟩ :: (sl.H7_3 (F := F) c arg1 harg1 arg2 harg2 arg3 harg3 arg4 harg4 arg5 harg5 arg6 harg6 arg8 x0 x1 x2 x3 x4 x5) := by
  chain_rfl
theorem H8_4 : (sl.H8_4 (F := F) c arg1 harg1 arg2 harg2 arg4 harg4 arg5 harg5 arg6 harg6 arg9 x0 x1 x3 x4 x5) =
    ⟨(Rect.unit (s := S1x2048x64) ![0, 0, 0] ![1, 256, 64] (by decide)), addRows span256 (p1r arg1 harg1 arg2 harg2 arg5 harg5 arg6 harg6 x0 x1 x4 x5) (do1 arg4 harg4 x3) (arg9.view.readCov (sl.H8_3 (F := F) c arg1 harg1 arg2 harg2 arg4 harg4 arg5 harg5 arg6 harg6 arg9 x0 x1 x3 x4 x5) (Rect.unit (s := S1x2048x64) ![0, 0, 0] ![1, 256, 64] (by decide)).toLoadRect)⟩ :: (sl.H8_3 (F := F) c arg1 harg1 arg2 harg2 arg4 harg4 arg5 harg5 arg6 harg6 arg9 x0 x1 x3 x4 x5) := by
  chain_rfl
theorem H9_4 : (sl.H9_4 (F := F) c arg1 harg1 arg2 harg2 arg3 harg3 arg4 harg4 arg5 harg5 arg6 harg6 arg10 x0 x1 x2 x3 x4 x5) =
    ⟨(Rect.unit (s := S1x1x2048) ![0, 0, 0] ![1, 1, 256] (by decide)), subRows span256 (ds1r arg1 harg1 arg2 harg2 arg3 harg3 arg4 harg4 arg5 harg5 arg6 harg6 x0 x1 x2 x3 x4 x5) (arg10.view.readCov (sl.H9_3 (F := F) c arg1 harg1 arg2 harg2 arg3 harg3 arg4 harg4 arg5 harg5 arg6 harg6 arg10 x0 x1 x2 x3 x4 x5) (Rect.unit (s := S1x1x2048) ![0, 0, 0] ![1, 1, 256] (by decide)).toLoadRect)⟩ :: (sl.H9_3 (F := F) c arg1 harg1 arg2 harg2 arg3 harg3 arg4 harg4 arg5 harg5 arg6 harg6 arg10 x0 x1 x2 x3 x4 x5) := by
  chain_rfl
theorem H7_5 : (sl.H7_5 (F := F) c arg1 harg1 arg2 harg2 arg3 harg3 arg4 harg4 arg5 harg5 arg6 harg6 arg8 x0 x1 x2 x3 x4 x5) =
    ⟨(Rect.unit (s := S1x2048x64) ![0, 512, 0] ![1, 256, 64] (by decide)), addRows span256 (ds2 arg1 harg1 arg2 harg2 arg3 harg3 arg4 harg4 arg5 harg5 arg6 harg6 x0 x1 x2 x3 x4 x5) (qs2 arg1 harg1 x0) (arg8.view.readCov (sl.H7_4 (F := F) c arg1 harg1 arg2 harg2 arg3 harg3 arg4 harg4 arg5 harg5 arg6 harg6 arg8 x0 x1 x2 x3 x4 x5) (Rect.unit (s := S1x2048x64) ![0, 512, 0] ![1, 256, 64] (by decide)).toLoadRect)⟩ :: (sl.H7_4 (F := F) c arg1 harg1 arg2 harg2 arg3 harg3 arg4 harg4 arg5 harg5 arg6 harg6 arg8 x0 x1 x2 x3 x4 x5) := by
  chain_rfl
theorem H8_5 : (sl.H8_5 (F := F) c arg1 harg1 arg2 harg2 arg4 harg4 arg5 harg5 arg6 harg6 arg9 x0 x1 x3 x4 x5) =
    ⟨(Rect.unit (s := S1x2048x64) ![0, 512, 0] ![1, 256, 64] (by decide)), addRows span256 (p2 arg1 harg1 arg2 harg2 arg5 harg5 arg6 harg6 x0 x1 x4 x5) (do2 arg4 harg4 x3) (arg9.view.readCov (sl.H8_4 (F := F) c arg1 harg1 arg2 harg2 arg4 harg4 arg5 harg5 arg6 harg6 arg9 x0 x1 x3 x4 x5) (Rect.unit (s := S1x2048x64) ![0, 512, 0] ![1, 256, 64] (by decide)).toLoadRect)⟩ :: (sl.H8_4 (F := F) c arg1 harg1 arg2 harg2 arg4 harg4 arg5 harg5 arg6 harg6 arg9 x0 x1 x3 x4 x5) := by
  chain_rfl
theorem H9_5 : (sl.H9_5 (F := F) c arg1 harg1 arg2 harg2 arg3 harg3 arg4 harg4 arg5 harg5 arg6 harg6 arg10 x0 x1 x2 x3 x4 x5) =
    ⟨(Rect.unit (s := S1x1x2048) ![0, 0, 512] ![1, 1, 256] (by decide)), subRows span256 (ds2 arg1 harg1 arg2 harg2 arg3 harg3 arg4 harg4 arg5 harg5 arg6 harg6 x0 x1 x2 x3 x4 x5) (arg10.view.readCov (sl.H9_4 (F := F) c arg1 harg1 arg2 harg2 arg3 harg3 arg4 harg4 arg5 harg5 arg6 harg6 arg10 x0 x1 x2 x3 x4 x5) (Rect.unit (s := S1x1x2048) ![0, 0, 512] ![1, 1, 256] (by decide)).toLoadRect)⟩ :: (sl.H9_4 (F := F) c arg1 harg1 arg2 harg2 arg3 harg3 arg4 harg4 arg5 harg5 arg6 harg6 arg10 x0 x1 x2 x3 x4 x5) := by
  chain_rfl
theorem H7_6 : (sl.H7_6 (F := F) c arg1 harg1 arg2 harg2 arg3 harg3 arg4 harg4 arg5 harg5 arg6 harg6 arg8 x0 x1 x2 x3 x4 x5) =
    ⟨(Rect.unit (s := S1x2048x64) ![0, 0, 0] ![1, 512, 64] (by decide)), addRows span512 (ds2r arg1 harg1 arg2 harg2 arg3 harg3 arg4 harg4 arg5 harg5 arg6 harg6 x0 x1 x2 x3 x4 x5) (qs2 arg1 harg1 x0) (arg8.view.readCov (sl.H7_5 (F := F) c arg1 harg1 arg2 harg2 arg3 harg3 arg4 harg4 arg5 harg5 arg6 harg6 arg8 x0 x1 x2 x3 x4 x5) (Rect.unit (s := S1x2048x64) ![0, 0, 0] ![1, 512, 64] (by decide)).toLoadRect)⟩ :: (sl.H7_5 (F := F) c arg1 harg1 arg2 harg2 arg3 harg3 arg4 harg4 arg5 harg5 arg6 harg6 arg8 x0 x1 x2 x3 x4 x5) := by
  chain_rfl
theorem H8_6 : (sl.H8_6 (F := F) c arg1 harg1 arg2 harg2 arg4 harg4 arg5 harg5 arg6 harg6 arg9 x0 x1 x3 x4 x5) =
    ⟨(Rect.unit (s := S1x2048x64) ![0, 0, 0] ![1, 512, 64] (by decide)), addRows span512 (p2r arg1 harg1 arg2 harg2 arg5 harg5 arg6 harg6 x0 x1 x4 x5) (do2 arg4 harg4 x3) (arg9.view.readCov (sl.H8_5 (F := F) c arg1 harg1 arg2 harg2 arg4 harg4 arg5 harg5 arg6 harg6 arg9 x0 x1 x3 x4 x5) (Rect.unit (s := S1x2048x64) ![0, 0, 0] ![1, 512, 64] (by decide)).toLoadRect)⟩ :: (sl.H8_5 (F := F) c arg1 harg1 arg2 harg2 arg4 harg4 arg5 harg5 arg6 harg6 arg9 x0 x1 x3 x4 x5) := by
  chain_rfl
theorem H9_6 : (sl.H9_6 (F := F) c arg1 harg1 arg2 harg2 arg3 harg3 arg4 harg4 arg5 harg5 arg6 harg6 arg10 x0 x1 x2 x3 x4 x5) =
    ⟨(Rect.unit (s := S1x1x2048) ![0, 0, 0] ![1, 1, 512] (by decide)), subRows span512 (ds2r arg1 harg1 arg2 harg2 arg3 harg3 arg4 harg4 arg5 harg5 arg6 harg6 x0 x1 x2 x3 x4 x5) (arg10.view.readCov (sl.H9_5 (F := F) c arg1 harg1 arg2 harg2 arg3 harg3 arg4 harg4 arg5 harg5 arg6 harg6 arg10 x0 x1 x2 x3 x4 x5) (Rect.unit (s := S1x1x2048) ![0, 0, 0] ![1, 1, 512] (by decide)).toLoadRect)⟩ :: (sl.H9_5 (F := F) c arg1 harg1 arg2 harg2 arg3 harg3 arg4 harg4 arg5 harg5 arg6 harg6 arg10 x0 x1 x2 x3 x4 x5) := by
  chain_rfl
theorem H7_7 : (sl.H7_7 (F := F) c arg1 harg1 arg2 harg2 arg3 harg3 arg4 harg4 arg5 harg5 arg6 harg6 arg8 x0 x1 x2 x3 x4 x5) =
    ⟨(Rect.unit (s := S1x2048x64) ![0, 768, 0] ![1, 256, 64] (by decide)), addRows span256 (ds3 arg1 harg1 arg2 harg2 arg3 harg3 arg4 harg4 arg5 harg5 arg6 harg6 x0 x1 x2 x3 x4 x5) (qs3 arg1 harg1 x0) (arg8.view.readCov (sl.H7_6 (F := F) c arg1 harg1 arg2 harg2 arg3 harg3 arg4 harg4 arg5 harg5 arg6 harg6 arg8 x0 x1 x2 x3 x4 x5) (Rect.unit (s := S1x2048x64) ![0, 768, 0] ![1, 256, 64] (by decide)).toLoadRect)⟩ :: (sl.H7_6 (F := F) c arg1 harg1 arg2 harg2 arg3 harg3 arg4 harg4 arg5 harg5 arg6 harg6 arg8 x0 x1 x2 x3 x4 x5) := by
  chain_rfl
theorem H8_7 : (sl.H8_7 (F := F) c arg1 harg1 arg2 harg2 arg4 harg4 arg5 harg5 arg6 harg6 arg9 x0 x1 x3 x4 x5) =
    ⟨(Rect.unit (s := S1x2048x64) ![0, 768, 0] ![1, 256, 64] (by decide)), addRows span256 (p3 arg1 harg1 arg2 harg2 arg5 harg5 arg6 harg6 x0 x1 x4 x5) (do3 arg4 harg4 x3) (arg9.view.readCov (sl.H8_6 (F := F) c arg1 harg1 arg2 harg2 arg4 harg4 arg5 harg5 arg6 harg6 arg9 x0 x1 x3 x4 x5) (Rect.unit (s := S1x2048x64) ![0, 768, 0] ![1, 256, 64] (by decide)).toLoadRect)⟩ :: (sl.H8_6 (F := F) c arg1 harg1 arg2 harg2 arg4 harg4 arg5 harg5 arg6 harg6 arg9 x0 x1 x3 x4 x5) := by
  chain_rfl
theorem H9_7 : (sl.H9_7 (F := F) c arg1 harg1 arg2 harg2 arg3 harg3 arg4 harg4 arg5 harg5 arg6 harg6 arg10 x0 x1 x2 x3 x4 x5) =
    ⟨(Rect.unit (s := S1x1x2048) ![0, 0, 768] ![1, 1, 256] (by decide)), subRows span256 (ds3 arg1 harg1 arg2 harg2 arg3 harg3 arg4 harg4 arg5 harg5 arg6 harg6 x0 x1 x2 x3 x4 x5) (arg10.view.readCov (sl.H9_6 (F := F) c arg1 harg1 arg2 harg2 arg3 harg3 arg4 harg4 arg5 harg5 arg6 harg6 arg10 x0 x1 x2 x3 x4 x5) (Rect.unit (s := S1x1x2048) ![0, 0, 768] ![1, 1, 256] (by decide)).toLoadRect)⟩ :: (sl.H9_6 (F := F) c arg1 harg1 arg2 harg2 arg3 harg3 arg4 harg4 arg5 harg5 arg6 harg6 arg10 x0 x1 x2 x3 x4 x5) := by
  chain_rfl
theorem H7_8 : (sl.H7_8 (F := F) c arg1 harg1 arg2 harg2 arg3 harg3 arg4 harg4 arg5 harg5 arg6 harg6 arg8 x0 x1 x2 x3 x4 x5) =
    ⟨(Rect.unit (s := S1x2048x64) ![0, 0, 0] ![1, 768, 64] (by decide)), addRows span768 (ds3r arg1 harg1 arg2 harg2 arg3 harg3 arg4 harg4 arg5 harg5 arg6 harg6 x0 x1 x2 x3 x4 x5) (qs3 arg1 harg1 x0) (arg8.view.readCov (sl.H7_7 (F := F) c arg1 harg1 arg2 harg2 arg3 harg3 arg4 harg4 arg5 harg5 arg6 harg6 arg8 x0 x1 x2 x3 x4 x5) (Rect.unit (s := S1x2048x64) ![0, 0, 0] ![1, 768, 64] (by decide)).toLoadRect)⟩ :: (sl.H7_7 (F := F) c arg1 harg1 arg2 harg2 arg3 harg3 arg4 harg4 arg5 harg5 arg6 harg6 arg8 x0 x1 x2 x3 x4 x5) := by
  chain_rfl
theorem H8_8 : (sl.H8_8 (F := F) c arg1 harg1 arg2 harg2 arg4 harg4 arg5 harg5 arg6 harg6 arg9 x0 x1 x3 x4 x5) =
    ⟨(Rect.unit (s := S1x2048x64) ![0, 0, 0] ![1, 768, 64] (by decide)), addRows span768 (p3r arg1 harg1 arg2 harg2 arg5 harg5 arg6 harg6 x0 x1 x4 x5) (do3 arg4 harg4 x3) (arg9.view.readCov (sl.H8_7 (F := F) c arg1 harg1 arg2 harg2 arg4 harg4 arg5 harg5 arg6 harg6 arg9 x0 x1 x3 x4 x5) (Rect.unit (s := S1x2048x64) ![0, 0, 0] ![1, 768, 64] (by decide)).toLoadRect)⟩ :: (sl.H8_7 (F := F) c arg1 harg1 arg2 harg2 arg4 harg4 arg5 harg5 arg6 harg6 arg9 x0 x1 x3 x4 x5) := by
  chain_rfl
theorem H9_8 : (sl.H9_8 (F := F) c arg1 harg1 arg2 harg2 arg3 harg3 arg4 harg4 arg5 harg5 arg6 harg6 arg10 x0 x1 x2 x3 x4 x5) =
    ⟨(Rect.unit (s := S1x1x2048) ![0, 0, 0] ![1, 1, 768] (by decide)), subRows span768 (ds3r arg1 harg1 arg2 harg2 arg3 harg3 arg4 harg4 arg5 harg5 arg6 harg6 x0 x1 x2 x3 x4 x5) (arg10.view.readCov (sl.H9_7 (F := F) c arg1 harg1 arg2 harg2 arg3 harg3 arg4 harg4 arg5 harg5 arg6 harg6 arg10 x0 x1 x2 x3 x4 x5) (Rect.unit (s := S1x1x2048) ![0, 0, 0] ![1, 1, 768] (by decide)).toLoadRect)⟩ :: (sl.H9_7 (F := F) c arg1 harg1 arg2 harg2 arg3 harg3 arg4 harg4 arg5 harg5 arg6 harg6 arg10 x0 x1 x2 x3 x4 x5) := by
  chain_rfl
theorem H7_9 : (sl.H7_9 (F := F) c arg1 harg1 arg2 harg2 arg3 harg3 arg4 harg4 arg5 harg5 arg6 harg6 arg8 x0 x1 x2 x3 x4 x5) =
    ⟨(Rect.unit (s := S1x2048x64) ![0, 1024, 0] ![1, 256, 64] (by decide)), addRows span256 (ds4 arg1 harg1 arg2 harg2 arg3 harg3 arg4 harg4 arg5 harg5 arg6 harg6 x0 x1 x2 x3 x4 x5) (qs4 arg1 harg1 x0) (arg8.view.readCov (sl.H7_8 (F := F) c arg1 harg1 arg2 harg2 arg3 harg3 arg4 harg4 arg5 harg5 arg6 harg6 arg8 x0 x1 x2 x3 x4 x5) (Rect.unit (s := S1x2048x64) ![0, 1024, 0] ![1, 256, 64] (by decide)).toLoadRect)⟩ :: (sl.H7_8 (F := F) c arg1 harg1 arg2 harg2 arg3 harg3 arg4 harg4 arg5 harg5 arg6 harg6 arg8 x0 x1 x2 x3 x4 x5) := by
  chain_rfl
theorem H8_9 : (sl.H8_9 (F := F) c arg1 harg1 arg2 harg2 arg4 harg4 arg5 harg5 arg6 harg6 arg9 x0 x1 x3 x4 x5) =
    ⟨(Rect.unit (s := S1x2048x64) ![0, 1024, 0] ![1, 256, 64] (by decide)), addRows span256 (p4 arg1 harg1 arg2 harg2 arg5 harg5 arg6 harg6 x0 x1 x4 x5) (do4 arg4 harg4 x3) (arg9.view.readCov (sl.H8_8 (F := F) c arg1 harg1 arg2 harg2 arg4 harg4 arg5 harg5 arg6 harg6 arg9 x0 x1 x3 x4 x5) (Rect.unit (s := S1x2048x64) ![0, 1024, 0] ![1, 256, 64] (by decide)).toLoadRect)⟩ :: (sl.H8_8 (F := F) c arg1 harg1 arg2 harg2 arg4 harg4 arg5 harg5 arg6 harg6 arg9 x0 x1 x3 x4 x5) := by
  chain_rfl
theorem H9_9 : (sl.H9_9 (F := F) c arg1 harg1 arg2 harg2 arg3 harg3 arg4 harg4 arg5 harg5 arg6 harg6 arg10 x0 x1 x2 x3 x4 x5) =
    ⟨(Rect.unit (s := S1x1x2048) ![0, 0, 1024] ![1, 1, 256] (by decide)), subRows span256 (ds4 arg1 harg1 arg2 harg2 arg3 harg3 arg4 harg4 arg5 harg5 arg6 harg6 x0 x1 x2 x3 x4 x5) (arg10.view.readCov (sl.H9_8 (F := F) c arg1 harg1 arg2 harg2 arg3 harg3 arg4 harg4 arg5 harg5 arg6 harg6 arg10 x0 x1 x2 x3 x4 x5) (Rect.unit (s := S1x1x2048) ![0, 0, 1024] ![1, 1, 256] (by decide)).toLoadRect)⟩ :: (sl.H9_8 (F := F) c arg1 harg1 arg2 harg2 arg3 harg3 arg4 harg4 arg5 harg5 arg6 harg6 arg10 x0 x1 x2 x3 x4 x5) := by
  chain_rfl
theorem H7_10 : (sl.H7_10 (F := F) c arg1 harg1 arg2 harg2 arg3 harg3 arg4 harg4 arg5 harg5 arg6 harg6 arg8 x0 x1 x2 x3 x4 x5) =
    ⟨(Rect.unit (s := S1x2048x64) ![0, 0, 0] ![1, 1024, 64] (by decide)), addRows span1024 (ds4r arg1 harg1 arg2 harg2 arg3 harg3 arg4 harg4 arg5 harg5 arg6 harg6 x0 x1 x2 x3 x4 x5) (qs4 arg1 harg1 x0) (arg8.view.readCov (sl.H7_9 (F := F) c arg1 harg1 arg2 harg2 arg3 harg3 arg4 harg4 arg5 harg5 arg6 harg6 arg8 x0 x1 x2 x3 x4 x5) (Rect.unit (s := S1x2048x64) ![0, 0, 0] ![1, 1024, 64] (by decide)).toLoadRect)⟩ :: (sl.H7_9 (F := F) c arg1 harg1 arg2 harg2 arg3 harg3 arg4 harg4 arg5 harg5 arg6 harg6 arg8 x0 x1 x2 x3 x4 x5) := by
  chain_rfl
theorem H8_10 : (sl.H8_10 (F := F) c arg1 harg1 arg2 harg2 arg4 harg4 arg5 harg5 arg6 harg6 arg9 x0 x1 x3 x4 x5) =
    ⟨(Rect.unit (s := S1x2048x64) ![0, 0, 0] ![1, 1024, 64] (by decide)), addRows span1024 (p4r arg1 harg1 arg2 harg2 arg5 harg5 arg6 harg6 x0 x1 x4 x5) (do4 arg4 harg4 x3) (arg9.view.readCov (sl.H8_9 (F := F) c arg1 harg1 arg2 harg2 arg4 harg4 arg5 harg5 arg6 harg6 arg9 x0 x1 x3 x4 x5) (Rect.unit (s := S1x2048x64) ![0, 0, 0] ![1, 1024, 64] (by decide)).toLoadRect)⟩ :: (sl.H8_9 (F := F) c arg1 harg1 arg2 harg2 arg4 harg4 arg5 harg5 arg6 harg6 arg9 x0 x1 x3 x4 x5) := by
  chain_rfl
theorem H9_10 : (sl.H9_10 (F := F) c arg1 harg1 arg2 harg2 arg3 harg3 arg4 harg4 arg5 harg5 arg6 harg6 arg10 x0 x1 x2 x3 x4 x5) =
    ⟨(Rect.unit (s := S1x1x2048) ![0, 0, 0] ![1, 1, 1024] (by decide)), subRows span1024 (ds4r arg1 harg1 arg2 harg2 arg3 harg3 arg4 harg4 arg5 harg5 arg6 harg6 x0 x1 x2 x3 x4 x5) (arg10.view.readCov (sl.H9_9 (F := F) c arg1 harg1 arg2 harg2 arg3 harg3 arg4 harg4 arg5 harg5 arg6 harg6 arg10 x0 x1 x2 x3 x4 x5) (Rect.unit (s := S1x1x2048) ![0, 0, 0] ![1, 1, 1024] (by decide)).toLoadRect)⟩ :: (sl.H9_9 (F := F) c arg1 harg1 arg2 harg2 arg3 harg3 arg4 harg4 arg5 harg5 arg6 harg6 arg10 x0 x1 x2 x3 x4 x5) := by
  chain_rfl
theorem H7_11 : (sl.H7_11 (F := F) c arg1 harg1 arg2 harg2 arg3 harg3 arg4 harg4 arg5 harg5 arg6 harg6 arg8 x0 x1 x2 x3 x4 x5) =
    ⟨(Rect.unit (s := S1x2048x64) ![0, 1280, 0] ![1, 256, 64] (by decide)), addRows span256 (ds5 arg1 harg1 arg2 harg2 arg3 harg3 arg4 harg4 arg5 harg5 arg6 harg6 x0 x1 x2 x3 x4 x5) (qs5 arg1 harg1 x0) (arg8.view.readCov (sl.H7_10 (F := F) c arg1 harg1 arg2 harg2 arg3 harg3 arg4 harg4 arg5 harg5 arg6 harg6 arg8 x0 x1 x2 x3 x4 x5) (Rect.unit (s := S1x2048x64) ![0, 1280, 0] ![1, 256, 64] (by decide)).toLoadRect)⟩ :: (sl.H7_10 (F := F) c arg1 harg1 arg2 harg2 arg3 harg3 arg4 harg4 arg5 harg5 arg6 harg6 arg8 x0 x1 x2 x3 x4 x5) := by
  chain_rfl
theorem H8_11 : (sl.H8_11 (F := F) c arg1 harg1 arg2 harg2 arg4 harg4 arg5 harg5 arg6 harg6 arg9 x0 x1 x3 x4 x5) =
    ⟨(Rect.unit (s := S1x2048x64) ![0, 1280, 0] ![1, 256, 64] (by decide)), addRows span256 (p5 arg1 harg1 arg2 harg2 arg5 harg5 arg6 harg6 x0 x1 x4 x5) (do5 arg4 harg4 x3) (arg9.view.readCov (sl.H8_10 (F := F) c arg1 harg1 arg2 harg2 arg4 harg4 arg5 harg5 arg6 harg6 arg9 x0 x1 x3 x4 x5) (Rect.unit (s := S1x2048x64) ![0, 1280, 0] ![1, 256, 64] (by decide)).toLoadRect)⟩ :: (sl.H8_10 (F := F) c arg1 harg1 arg2 harg2 arg4 harg4 arg5 harg5 arg6 harg6 arg9 x0 x1 x3 x4 x5) := by
  chain_rfl
theorem H9_11 : (sl.H9_11 (F := F) c arg1 harg1 arg2 harg2 arg3 harg3 arg4 harg4 arg5 harg5 arg6 harg6 arg10 x0 x1 x2 x3 x4 x5) =
    ⟨(Rect.unit (s := S1x1x2048) ![0, 0, 1280] ![1, 1, 256] (by decide)), subRows span256 (ds5 arg1 harg1 arg2 harg2 arg3 harg3 arg4 harg4 arg5 harg5 arg6 harg6 x0 x1 x2 x3 x4 x5) (arg10.view.readCov (sl.H9_10 (F := F) c arg1 harg1 arg2 harg2 arg3 harg3 arg4 harg4 arg5 harg5 arg6 harg6 arg10 x0 x1 x2 x3 x4 x5) (Rect.unit (s := S1x1x2048) ![0, 0, 1280] ![1, 1, 256] (by decide)).toLoadRect)⟩ :: (sl.H9_10 (F := F) c arg1 harg1 arg2 harg2 arg3 harg3 arg4 harg4 arg5 harg5 arg6 harg6 arg10 x0 x1 x2 x3 x4 x5) := by
  chain_rfl
theorem H7_12 : (sl.H7_12 (F := F) c arg1 harg1 arg2 harg2 arg3 harg3 arg4 harg4 arg5 harg5 arg6 harg6 arg8 x0 x1 x2 x3 x4 x5) =
    ⟨(Rect.unit (s := S1x2048x64) ![0, 0, 0] ![1, 1280, 64] (by decide)), addRows span1280 (ds5r arg1 harg1 arg2 harg2 arg3 harg3 arg4 harg4 arg5 harg5 arg6 harg6 x0 x1 x2 x3 x4 x5) (qs5 arg1 harg1 x0) (arg8.view.readCov (sl.H7_11 (F := F) c arg1 harg1 arg2 harg2 arg3 harg3 arg4 harg4 arg5 harg5 arg6 harg6 arg8 x0 x1 x2 x3 x4 x5) (Rect.unit (s := S1x2048x64) ![0, 0, 0] ![1, 1280, 64] (by decide)).toLoadRect)⟩ :: (sl.H7_11 (F := F) c arg1 harg1 arg2 harg2 arg3 harg3 arg4 harg4 arg5 harg5 arg6 harg6 arg8 x0 x1 x2 x3 x4 x5) := by
  chain_rfl
theorem H8_12 : (sl.H8_12 (F := F) c arg1 harg1 arg2 harg2 arg4 harg4 arg5 harg5 arg6 harg6 arg9 x0 x1 x3 x4 x5) =
    ⟨(Rect.unit (s := S1x2048x64) ![0, 0, 0] ![1, 1280, 64] (by decide)), addRows span1280 (p5r arg1 harg1 arg2 harg2 arg5 harg5 arg6 harg6 x0 x1 x4 x5) (do5 arg4 harg4 x3) (arg9.view.readCov (sl.H8_11 (F := F) c arg1 harg1 arg2 harg2 arg4 harg4 arg5 harg5 arg6 harg6 arg9 x0 x1 x3 x4 x5) (Rect.unit (s := S1x2048x64) ![0, 0, 0] ![1, 1280, 64] (by decide)).toLoadRect)⟩ :: (sl.H8_11 (F := F) c arg1 harg1 arg2 harg2 arg4 harg4 arg5 harg5 arg6 harg6 arg9 x0 x1 x3 x4 x5) := by
  chain_rfl
theorem H9_12 : (sl.H9_12 (F := F) c arg1 harg1 arg2 harg2 arg3 harg3 arg4 harg4 arg5 harg5 arg6 harg6 arg10 x0 x1 x2 x3 x4 x5) =
    ⟨(Rect.unit (s := S1x1x2048) ![0, 0, 0] ![1, 1, 1280] (by decide)), subRows span1280 (ds5r arg1 harg1 arg2 harg2 arg3 harg3 arg4 harg4 arg5 harg5 arg6 harg6 x0 x1 x2 x3 x4 x5) (arg10.view.readCov (sl.H9_11 (F := F) c arg1 harg1 arg2 harg2 arg3 harg3 arg4 harg4 arg5 harg5 arg6 harg6 arg10 x0 x1 x2 x3 x4 x5) (Rect.unit (s := S1x1x2048) ![0, 0, 0] ![1, 1, 1280] (by decide)).toLoadRect)⟩ :: (sl.H9_11 (F := F) c arg1 harg1 arg2 harg2 arg3 harg3 arg4 harg4 arg5 harg5 arg6 harg6 arg10 x0 x1 x2 x3 x4 x5) := by
  chain_rfl
theorem H7_13 : (sl.H7_13 (F := F) c arg1 harg1 arg2 harg2 arg3 harg3 arg4 harg4 arg5 harg5 arg6 harg6 arg8 x0 x1 x2 x3 x4 x5) =
    ⟨(Rect.unit (s := S1x2048x64) ![0, 1536, 0] ![1, 256, 64] (by decide)), addRows span256 (ds6 arg1 harg1 arg2 harg2 arg3 harg3 arg4 harg4 arg5 harg5 arg6 harg6 x0 x1 x2 x3 x4 x5) (qs6 arg1 harg1 x0) (arg8.view.readCov (sl.H7_12 (F := F) c arg1 harg1 arg2 harg2 arg3 harg3 arg4 harg4 arg5 harg5 arg6 harg6 arg8 x0 x1 x2 x3 x4 x5) (Rect.unit (s := S1x2048x64) ![0, 1536, 0] ![1, 256, 64] (by decide)).toLoadRect)⟩ :: (sl.H7_12 (F := F) c arg1 harg1 arg2 harg2 arg3 harg3 arg4 harg4 arg5 harg5 arg6 harg6 arg8 x0 x1 x2 x3 x4 x5) := by
  chain_rfl
theorem H8_13 : (sl.H8_13 (F := F) c arg1 harg1 arg2 harg2 arg4 harg4 arg5 harg5 arg6 harg6 arg9 x0 x1 x3 x4 x5) =
    ⟨(Rect.unit (s := S1x2048x64) ![0, 1536, 0] ![1, 256, 64] (by decide)), addRows span256 (p6 arg1 harg1 arg2 harg2 arg5 harg5 arg6 harg6 x0 x1 x4 x5) (do6 arg4 harg4 x3) (arg9.view.readCov (sl.H8_12 (F := F) c arg1 harg1 arg2 harg2 arg4 harg4 arg5 harg5 arg6 harg6 arg9 x0 x1 x3 x4 x5) (Rect.unit (s := S1x2048x64) ![0, 1536, 0] ![1, 256, 64] (by decide)).toLoadRect)⟩ :: (sl.H8_12 (F := F) c arg1 harg1 arg2 harg2 arg4 harg4 arg5 harg5 arg6 harg6 arg9 x0 x1 x3 x4 x5) := by
  chain_rfl
theorem H9_13 : (sl.H9_13 (F := F) c arg1 harg1 arg2 harg2 arg3 harg3 arg4 harg4 arg5 harg5 arg6 harg6 arg10 x0 x1 x2 x3 x4 x5) =
    ⟨(Rect.unit (s := S1x1x2048) ![0, 0, 1536] ![1, 1, 256] (by decide)), subRows span256 (ds6 arg1 harg1 arg2 harg2 arg3 harg3 arg4 harg4 arg5 harg5 arg6 harg6 x0 x1 x2 x3 x4 x5) (arg10.view.readCov (sl.H9_12 (F := F) c arg1 harg1 arg2 harg2 arg3 harg3 arg4 harg4 arg5 harg5 arg6 harg6 arg10 x0 x1 x2 x3 x4 x5) (Rect.unit (s := S1x1x2048) ![0, 0, 1536] ![1, 1, 256] (by decide)).toLoadRect)⟩ :: (sl.H9_12 (F := F) c arg1 harg1 arg2 harg2 arg3 harg3 arg4 harg4 arg5 harg5 arg6 harg6 arg10 x0 x1 x2 x3 x4 x5) := by
  chain_rfl
theorem H7_14 : (sl.H7_14 (F := F) c arg1 harg1 arg2 harg2 arg3 harg3 arg4 harg4 arg5 harg5 arg6 harg6 arg8 x0 x1 x2 x3 x4 x5) =
    ⟨(Rect.unit (s := S1x2048x64) ![0, 0, 0] ![1, 1536, 64] (by decide)), addRows span1536 (ds6r arg1 harg1 arg2 harg2 arg3 harg3 arg4 harg4 arg5 harg5 arg6 harg6 x0 x1 x2 x3 x4 x5) (qs6 arg1 harg1 x0) (arg8.view.readCov (sl.H7_13 (F := F) c arg1 harg1 arg2 harg2 arg3 harg3 arg4 harg4 arg5 harg5 arg6 harg6 arg8 x0 x1 x2 x3 x4 x5) (Rect.unit (s := S1x2048x64) ![0, 0, 0] ![1, 1536, 64] (by decide)).toLoadRect)⟩ :: (sl.H7_13 (F := F) c arg1 harg1 arg2 harg2 arg3 harg3 arg4 harg4 arg5 harg5 arg6 harg6 arg8 x0 x1 x2 x3 x4 x5) := by
  chain_rfl
theorem H8_14 : (sl.H8_14 (F := F) c arg1 harg1 arg2 harg2 arg4 harg4 arg5 harg5 arg6 harg6 arg9 x0 x1 x3 x4 x5) =
    ⟨(Rect.unit (s := S1x2048x64) ![0, 0, 0] ![1, 1536, 64] (by decide)), addRows span1536 (p6r arg1 harg1 arg2 harg2 arg5 harg5 arg6 harg6 x0 x1 x4 x5) (do6 arg4 harg4 x3) (arg9.view.readCov (sl.H8_13 (F := F) c arg1 harg1 arg2 harg2 arg4 harg4 arg5 harg5 arg6 harg6 arg9 x0 x1 x3 x4 x5) (Rect.unit (s := S1x2048x64) ![0, 0, 0] ![1, 1536, 64] (by decide)).toLoadRect)⟩ :: (sl.H8_13 (F := F) c arg1 harg1 arg2 harg2 arg4 harg4 arg5 harg5 arg6 harg6 arg9 x0 x1 x3 x4 x5) := by
  chain_rfl
theorem H9_14 : (sl.H9_14 (F := F) c arg1 harg1 arg2 harg2 arg3 harg3 arg4 harg4 arg5 harg5 arg6 harg6 arg10 x0 x1 x2 x3 x4 x5) =
    ⟨(Rect.unit (s := S1x1x2048) ![0, 0, 0] ![1, 1, 1536] (by decide)), subRows span1536 (ds6r arg1 harg1 arg2 harg2 arg3 harg3 arg4 harg4 arg5 harg5 arg6 harg6 x0 x1 x2 x3 x4 x5) (arg10.view.readCov (sl.H9_13 (F := F) c arg1 harg1 arg2 harg2 arg3 harg3 arg4 harg4 arg5 harg5 arg6 harg6 arg10 x0 x1 x2 x3 x4 x5) (Rect.unit (s := S1x1x2048) ![0, 0, 0] ![1, 1, 1536] (by decide)).toLoadRect)⟩ :: (sl.H9_13 (F := F) c arg1 harg1 arg2 harg2 arg3 harg3 arg4 harg4 arg5 harg5 arg6 harg6 arg10 x0 x1 x2 x3 x4 x5) := by
  chain_rfl
theorem H7_15 : (sl.H7_15 (F := F) c arg1 harg1 arg2 harg2 arg3 harg3 arg4 harg4 arg5 harg5 arg6 harg6 arg8 x0 x1 x2 x3 x4 x5) =
    ⟨(Rect.unit (s := S1x2048x64) ![0, 1792, 0] ![1, 256, 64] (by decide)), addRows span256 (ds7 arg1 harg1 arg2 harg2 arg3 harg3 arg4 harg4 arg5 harg5 arg6 harg6 x0 x1 x2 x3 x4 x5) (qs7 arg1 harg1 x0) (arg8.view.readCov (sl.H7_14 (F := F) c arg1 harg1 arg2 harg2 arg3 harg3 arg4 harg4 arg5 harg5 arg6 harg6 arg8 x0 x1 x2 x3 x4 x5) (Rect.unit (s := S1x2048x64) ![0, 1792, 0] ![1, 256, 64] (by decide)).toLoadRect)⟩ :: (sl.H7_14 (F := F) c arg1 harg1 arg2 harg2 arg3 harg3 arg4 harg4 arg5 harg5 arg6 harg6 arg8 x0 x1 x2 x3 x4 x5) := by
  chain_rfl
theorem H8_15 : (sl.H8_15 (F := F) c arg1 harg1 arg2 harg2 arg4 harg4 arg5 harg5 arg6 harg6 arg9 x0 x1 x3 x4 x5) =
    ⟨(Rect.unit (s := S1x2048x64) ![0, 1792, 0] ![1, 256, 64] (by decide)), addRows span256 (p7 arg1 harg1 arg2 harg2 arg5 harg5 arg6 harg6 x0 x1 x4 x5) (do7 arg4 harg4 x3) (arg9.view.readCov (sl.H8_14 (F := F) c arg1 harg1 arg2 harg2 arg4 harg4 arg5 harg5 arg6 harg6 arg9 x0 x1 x3 x4 x5) (Rect.unit (s := S1x2048x64) ![0, 1792, 0] ![1, 256, 64] (by decide)).toLoadRect)⟩ :: (sl.H8_14 (F := F) c arg1 harg1 arg2 harg2 arg4 harg4 arg5 harg5 arg6 harg6 arg9 x0 x1 x3 x4 x5) := by
  chain_rfl
theorem H9_15 : (sl.H9_15 (F := F) c arg1 harg1 arg2 harg2 arg3 harg3 arg4 harg4 arg5 harg5 arg6 harg6 arg10 x0 x1 x2 x3 x4 x5) =
    ⟨(Rect.unit (s := S1x1x2048) ![0, 0, 1792] ![1, 1, 256] (by decide)), subRows span256 (ds7 arg1 harg1 arg2 harg2 arg3 harg3 arg4 harg4 arg5 harg5 arg6 harg6 x0 x1 x2 x3 x4 x5) (arg10.view.readCov (sl.H9_14 (F := F) c arg1 harg1 arg2 harg2 arg3 harg3 arg4 harg4 arg5 harg5 arg6 harg6 arg10 x0 x1 x2 x3 x4 x5) (Rect.unit (s := S1x1x2048) ![0, 0, 1792] ![1, 1, 256] (by decide)).toLoadRect)⟩ :: (sl.H9_14 (F := F) c arg1 harg1 arg2 harg2 arg3 harg3 arg4 harg4 arg5 harg5 arg6 harg6 arg10 x0 x1 x2 x3 x4 x5) := by
  chain_rfl
theorem H7_16 : (kernelRun0_A c i arg1 harg1 arg2 harg2 arg3 harg3 arg4 harg4 arg5 harg5 arg6 harg6 arg7 harg7 arg8 harg8 arg9 harg9 arg10 harg10 x0 x1 x2 x3 x4 x5).2.1 =
    ⟨(Rect.unit (s := S1x2048x64) ![0, 0, 0] ![1, 1792, 64] (by decide)), addRows span1792 (ds7r arg1 harg1 arg2 harg2 arg3 harg3 arg4 harg4 arg5 harg5 arg6 harg6 x0 x1 x2 x3 x4 x5) (qs7 arg1 harg1 x0) (arg8.view.readCov (sl.H7_15 (F := F) c arg1 harg1 arg2 harg2 arg3 harg3 arg4 harg4 arg5 harg5 arg6 harg6 arg8 x0 x1 x2 x3 x4 x5) (Rect.unit (s := S1x2048x64) ![0, 0, 0] ![1, 1792, 64] (by decide)).toLoadRect)⟩ :: (sl.H7_15 (F := F) c arg1 harg1 arg2 harg2 arg3 harg3 arg4 harg4 arg5 harg5 arg6 harg6 arg8 x0 x1 x2 x3 x4 x5) := by
  chain_rfl
theorem H8_16 : (kernelRun0_A c i arg1 harg1 arg2 harg2 arg3 harg3 arg4 harg4 arg5 harg5 arg6 harg6 arg7 harg7 arg8 harg8 arg9 harg9 arg10 harg10 x0 x1 x2 x3 x4 x5).2.2.1 =
    ⟨(Rect.unit (s := S1x2048x64) ![0, 0, 0] ![1, 1792, 64] (by decide)), addRows span1792 (p7r arg1 harg1 arg2 harg2 arg5 harg5 arg6 harg6 x0 x1 x4 x5) (do7 arg4 harg4 x3) (arg9.view.readCov (sl.H8_15 (F := F) c arg1 harg1 arg2 harg2 arg4 harg4 arg5 harg5 arg6 harg6 arg9 x0 x1 x3 x4 x5) (Rect.unit (s := S1x2048x64) ![0, 0, 0] ![1, 1792, 64] (by decide)).toLoadRect)⟩ :: (sl.H8_15 (F := F) c arg1 harg1 arg2 harg2 arg4 harg4 arg5 harg5 arg6 harg6 arg9 x0 x1 x3 x4 x5) := by
  chain_rfl
theorem H9_16 : (kernelRun0_A c i arg1 harg1 arg2 harg2 arg3 harg3 arg4 harg4 arg5 harg5 arg6 harg6 arg7 harg7 arg8 harg8 arg9 harg9 arg10 harg10 x0 x1 x2 x3 x4 x5).2.2.2.1 =
    ⟨(Rect.unit (s := S1x1x2048) ![0, 0, 0] ![1, 1, 1792] (by decide)), subRows span1792 (ds7r arg1 harg1 arg2 harg2 arg3 harg3 arg4 harg4 arg5 harg5 arg6 harg6 x0 x1 x2 x3 x4 x5) (arg10.view.readCov (sl.H9_15 (F := F) c arg1 harg1 arg2 harg2 arg3 harg3 arg4 harg4 arg5 harg5 arg6 harg6 arg10 x0 x1 x2 x3 x4 x5) (Rect.unit (s := S1x1x2048) ![0, 0, 0] ![1, 1, 1792] (by decide)).toLoadRect)⟩ :: (sl.H9_15 (F := F) c arg1 harg1 arg2 harg2 arg3 harg3 arg4 harg4 arg5 harg5 arg6 harg6 arg10 x0 x1 x2 x3 x4 x5) := by
  chain_rfl
theorem H7_1 : sl.H7_1 (F := F) = [⟨Rect.unit (s := S1x2048x64) ![0, 0, 0] ![1, 2048, 64] (by decide), broadcast ⟨3, ![1, 2048, 64]⟩ (Scalar.ofBits .f32 0x00000000#32)⟩] := by
  chain_rfl
theorem H9_1 : sl.H9_1 (F := F) = [⟨Rect.unit (s := S1x1x2048) ![0, 0, 0] ![1, 1, 2048] (by decide), broadcast ⟨3, ![1, 1, 2048]⟩ (Scalar.ofBits .f32 0x00000000#32)⟩] := by
  chain_rfl
theorem H6 : (kernelRun0_A c i arg1 harg1 arg2 harg2 arg3 harg3 arg4 harg4 arg5 harg5 arg6 harg6 arg7 harg7 arg8 harg8 arg9 harg9 arg10 harg10 x0 x1 x2 x3 x4 x5).1 =
    [⟨Rect.unit (s := S1x2048x64) ![0, 1792, 0] ![1, 256, 64] (by decide), outQ span256 (sumQ2 (partQ span256 (ds7 arg1 harg1 arg2 harg2 arg3 harg3 arg4 harg4 arg5 harg5 arg6 harg6 x0 x1 x2 x3 x4 x5) (rd arg2 harg2 x1 ![0, 1792, 0] ![1, 256, 64] (by decide))) (partQ span1792 (ds7r arg1 harg1 arg2 harg2 arg3 harg3 arg4 harg4 arg5 harg5 arg6 harg6 x0 x1 x2 x3 x4 x5) (rd arg2 harg2 x1 ![0, 0, 0] ![1, 1792, 64] (by decide))))⟩,
      ⟨Rect.unit (s := S1x2048x64) ![0, 1536, 0] ![1, 256, 64] (by decide), outQ span256 (sumQ2 (partQ span256 (ds6 arg1 harg1 arg2 harg2 arg3 harg3 arg4 harg4 arg5 harg5 arg6 harg6 x0 x1 x2 x3 x4 x5) (rd arg2 harg2 x1 ![0, 1536, 0] ![1, 256, 64] (by decide))) (partQ span1536 (ds6r arg1 harg1 arg2 harg2 arg3 harg3 arg4 harg4 arg5 harg5 arg6 harg6 x0 x1 x2 x3 x4 x5) (rd arg2 harg2 x1 ![0, 0, 0] ![1, 1536, 64] (by decide))))⟩,
      ⟨Rect.unit (s := S1x2048x64) ![0, 1280, 0] ![1, 256, 64] (by decide), outQ span256 (sumQ2 (partQ span256 (ds5 arg1 harg1 arg2 harg2 arg3 harg3 arg4 harg4 arg5 harg5 arg6 harg6 x0 x1 x2 x3 x4 x5) (rd arg2 harg2 x1 ![0, 1280, 0] ![1, 256, 64] (by decide))) (partQ span1280 (ds5r arg1 harg1 arg2 harg2 arg3 harg3 arg4 harg4 arg5 harg5 arg6 harg6 x0 x1 x2 x3 x4 x5) (rd arg2 harg2 x1 ![0, 0, 0] ![1, 1280, 64] (by decide))))⟩,
      ⟨Rect.unit (s := S1x2048x64) ![0, 1024, 0] ![1, 256, 64] (by decide), outQ span256 (sumQ2 (partQ span256 (ds4 arg1 harg1 arg2 harg2 arg3 harg3 arg4 harg4 arg5 harg5 arg6 harg6 x0 x1 x2 x3 x4 x5) (rd arg2 harg2 x1 ![0, 1024, 0] ![1, 256, 64] (by decide))) (partQ span1024 (ds4r arg1 harg1 arg2 harg2 arg3 harg3 arg4 harg4 arg5 harg5 arg6 harg6 x0 x1 x2 x3 x4 x5) (rd arg2 harg2 x1 ![0, 0, 0] ![1, 1024, 64] (by decide))))⟩,
      ⟨Rect.unit (s := S1x2048x64) ![0, 768, 0] ![1, 256, 64] (by decide), outQ span256 (sumQ2 (partQ span256 (ds3 arg1 harg1 arg2 harg2 arg3 harg3 arg4 harg4 arg5 harg5 arg6 harg6 x0 x1 x2 x3 x4 x5) (rd arg2 harg2 x1 ![0, 768, 0] ![1, 256, 64] (by decide))) (partQ span768 (ds3r arg1 harg1 arg2 harg2 arg3 harg3 arg4 harg4 arg5 harg5 arg6 harg6 x0 x1 x2 x3 x4 x5) (rd arg2 harg2 x1 ![0, 0, 0] ![1, 768, 64] (by decide))))⟩,
      ⟨Rect.unit (s := S1x2048x64) ![0, 512, 0] ![1, 256, 64] (by decide), outQ span256 (sumQ2 (partQ span256 (ds2 arg1 harg1 arg2 harg2 arg3 harg3 arg4 harg4 arg5 harg5 arg6 harg6 x0 x1 x2 x3 x4 x5) (rd arg2 harg2 x1 ![0, 512, 0] ![1, 256, 64] (by decide))) (partQ span512 (ds2r arg1 harg1 arg2 harg2 arg3 harg3 arg4 harg4 arg5 harg5 arg6 harg6 x0 x1 x2 x3 x4 x5) (rd arg2 harg2 x1 ![0, 0, 0] ![1, 512, 64] (by decide))))⟩,
      ⟨Rect.unit (s := S1x2048x64) ![0, 256, 0] ![1, 256, 64] (by decide), outQ span256 (sumQ2 (partQ span256 (ds1 arg1 harg1 arg2 harg2 arg3 harg3 arg4 harg4 arg5 harg5 arg6 harg6 x0 x1 x2 x3 x4 x5) (rd arg2 harg2 x1 ![0, 256, 0] ![1, 256, 64] (by decide))) (partQ span256 (ds1r arg1 harg1 arg2 harg2 arg3 harg3 arg4 harg4 arg5 harg5 arg6 harg6 x0 x1 x2 x3 x4 x5) (rd arg2 harg2 x1 ![0, 0, 0] ![1, 256, 64] (by decide))))⟩,
      ⟨Rect.unit (s := S1x2048x64) ![0, 0, 0] ![1, 256, 64] (by decide), outQ span256 (sumQ1 (partQ span256 (ds0 arg1 harg1 arg2 harg2 arg3 harg3 arg4 harg4 arg5 harg5 arg6 harg6 x0 x1 x2 x3 x4 x5) (rd arg2 harg2 x1 ![0, 0, 0] ![1, 256, 64] (by decide))))⟩] := by
  chain_rfl

end Fox

end
-- ==== Proof.Grad.lean ====
/- The gradient of the forgetting attention of one head, over the real numbers.

   `Q`, `K`, `V`, `D` are the rows of the queries, the keys, the values and the cotangent of the output (`Q t d`: position `t`,
   feature `d` of 64), `C` the running sum of the log forget gates and `L` the log-sum of each row's exponentials. Arrays are functions of
   natural numbers, so that a block of rows is a shift of the argument; every sum is over a `Finset.range`.

   A row's scores leave out its own `C t`: it is the same at every key, so neither the weights nor their gradient sees it. -/
module

public import Idealize.ShloMosaic.PureOps.Ideal

@[expose] public section

noncomputable section

namespace Fox

open Finset

variable (Q K V D : ℕ → ℕ → ℝ) (C L : ℕ → ℝ)

/-- The score of key `u` for query `t`, without the query's own gate sum. -/
def score (t u : ℕ) : ℝ := (∑ d ∈ range 64, (Q t d * (1 / 8)) * K u d) - C u

/-- The attention weight: zero above the diagonal. -/
def prob (t u : ℕ) : ℝ := if u ≤ t then Real.exp (score Q K C t u - L t) else 0

/-- The cotangent of the weight. -/
def dprob (t u : ℕ) : ℝ := ∑ d ∈ range 64, D t d * V u d

/-- The row sum that the softmax's gradient subtracts. -/
def rowdot (t : ℕ) : ℝ := ∑ u ∈ range 2048, dprob V D t u * prob Q K C L t u

/-- The cotangent of the score. -/
def dscore (t u : ℕ) : ℝ := prob Q K C L t u * (dprob V D t u - rowdot Q K V D C L t)

/-- The gradient of the queries, keys, values and gate sums. -/
def gq (t d : ℕ) : ℝ := (∑ u ∈ range 2048, dscore Q K V D C L t u * K u d) * (1 / 8)
def gk (u d : ℕ) : ℝ := ∑ t ∈ range 2048, dscore Q K V D C L t u * (Q t d * (1 / 8))
def gv (u d : ℕ) : ℝ := ∑ t ∈ range 2048, prob Q K C L t u * D t d
def gc (u : ℕ) : ℝ := - ∑ t ∈ range 2048, dscore Q K V D C L t u

variable {Q K V D C L}

theorem prob_of_le {t u : ℕ} (h : u ≤ t) : prob Q K C L t u = Real.exp (score Q K C t u - L t) := if_pos h
theorem prob_of_lt {t u : ℕ} (h : t < u) : prob Q K C L t u = 0 := if_neg (by omega)
theorem dscore_of_lt {t u : ℕ} (h : t < u) : dscore Q K V D C L t u = 0 := by rw [dscore, prob_of_lt h, zero_mul]

/-- A sum over all positions of a summand that vanishes from `m` on is the sum over the first `m`. -/
theorem sum_range_cut {f : ℕ → ℝ} {m n : ℕ} (hmn : m ≤ n) (h : ∀ k, m ≤ k → f k = 0) :
    ∑ k ∈ range n, f k = ∑ k ∈ range m, f k :=
  (sum_subset (range_subset_range.2 hmn) fun k _ hk => h k (by simpa using hk)).symm

/-- Row sums of a block of 256 queries that starts at `a`: the keys before the block and those of the block. -/
theorem sum_split (f : ℕ → ℝ) (a : ℕ) :
    ∑ k ∈ range (a + 256), f k = (∑ k ∈ range a, f k) + ∑ k ∈ range 256, f (a + k) := sum_range_add f a 256

end Fox

end
-- ==== Proof.BlockValue.lean ====
/- What the tensor terms of Proof/Block.lean are over the extended reals, when the block's operands are real numbers. -/
module

public import proofs.«01_k».proof.Proof.Grad
public import proofs.«01_k».proof.Proof.Block
public import Idealize.ShloMosaic.Lib.ValueIdx
public import Idealize.ShloMosaic.Lib.ValueIdxCoords
public import Idealize.ShloMosaic.Lib.ValueLayoutCasts
public import Idealize.ShloMosaic.Lib.MatmulPlain
public import Idealize.ShloMosaic.Lib.IdealHost
public import Idealize.ShloMosaic.PureOps.IdealRules

@[expose] public section

noncomputable section

namespace Fox

open Idealize.ShloMosaic Idealize.ShloMosaic.ValueIdx Cert.KernelIdeal Finset

/-- The array `x` holds the real numbers `f`. -/
def Is2 {a b : ℕ} (x : (⟨2, ![a, b]⟩ : Shape).Idx → EReal) (f : ℕ → ℕ → ℝ) : Prop := ∀ (i : Fin a) (j : Fin b), x (ix2 i j) = ((f i j : ℝ) : EReal)
def Is3 {b c : ℕ} (x : (⟨3, ![1, b, c]⟩ : Shape).Idx → EReal) (f : ℕ → ℕ → ℝ) : Prop :=
  ∀ (u : Fin 1) (i : Fin b) (j : Fin c), x (ix3 u i j) = ((f i j : ℝ) : EReal)

theorem Is2.congr {a b : ℕ} {x : (⟨2, ![a, b]⟩ : Shape).Idx → EReal} {f g : ℕ → ℕ → ℝ} (h : Is2 x f) (e : ∀ i < a, ∀ j < b, f i j = g i j) : Is2 x g :=
  fun i j => (h i j).trans (by rw [e i i.isLt j j.isLt])

theorem Is3.congr {b c : ℕ} {x : (⟨3, ![1, b, c]⟩ : Shape).Idx → EReal} {f g : ℕ → ℕ → ℝ} (h : Is3 x f) (e : ∀ i < b, ∀ j < c, f i j = g i j) : Is3 x g :=
  fun u i j => (h u i j).trans (by rw [e i i.isLt j j.isLt])

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

/-- A sum of products of real numbers over one coordinate. -/
theorem sum_prod (n : ℕ) (f g : ℕ → ℝ) :
    ∑ k : Fin n, ((f k : ℝ) : EReal) * ((g k : ℝ) : EReal) = ((∑ k ∈ range n, f k * g k : ℝ) : EReal) := by
  rw [sum_range (fun k => f k * g k), ← coe_sum]
  exact sum_congr rfl fun k _ => (EReal.coe_mul _ _).symm

theorem sum_one (n : ℕ) (f : ℕ → ℝ) : ∑ k : Fin n, ((f k : ℝ) : EReal) = ((∑ k ∈ range n, f k : ℝ) : EReal) := by
  rw [sum_range f, ← coe_sum]

theorem eighth_bf16 : Ideal.ofBits .bf16 0x3E00#16 = (((1 : ℝ) / 8 : ℝ) : EReal) := by
  simp [Ideal.ofBits, Ideal.ieee, -EReal.coe_mul]; norm_num

theorem eighth_f32 : Ideal.ofBits .f32 0x3E000000#32 = (((1 : ℝ) / 8 : ℝ) : EReal) := by
  simp [Ideal.ofBits, Ideal.ieee, -EReal.coe_mul]; norm_num

theorem zero_f32 : Ideal.ofBits .f32 0x00000000#32 = ((0 : ℝ) : EReal) := Ideal.ofBits_zero_f32

/-! ## Casts between a block's shapes -/

theorem Is3.flat {b c : ℕ} {x : (⟨3, ![1, b, c]⟩ : Shape).Idx → EReal} {f : ℕ → ℕ → ℝ} (hx : Is3 x f) (h : (⟨3, ![1, b, c]⟩ : Shape).ShapeCasts ⟨2, ![b, c]⟩) :
    Is2 (shapeCast ⟨2, ![b, c]⟩ x h) f := fun i j => (shapeCast_1ab_ab_apply x h i j).trans (hx 0 i j)

theorem Is2.stack {b c : ℕ} {x : (⟨2, ![b, c]⟩ : Shape).Idx → EReal} {f : ℕ → ℕ → ℝ} (hx : Is2 x f) (h : (⟨2, ![b, c]⟩ : Shape).ShapeCasts ⟨3, ![1, b, c]⟩) :
    Is3 (shapeCast ⟨3, ![1, b, c]⟩ x h) f := fun u i j => (shapeCast_ab_1ab_apply x h u i j).trans (hx i j)

theorem overRows_apply {n : ℕ} {α : Type} (v : (⟨2, ![1, n]⟩ : Shape).Idx → α) (h : (⟨2, ![1, n]⟩ : Shape).Broadcasts ⟨2, ![256, n]⟩) (i : Fin 256) (j : Fin n) :
    broadcastTo ⟨2, ![256, n]⟩ v h (ix2 i j) = v (ix2 (0 : Fin 1) j) := broadcastTo_1b_ab_apply v h i j

theorem overKeys_apply {n : ℕ} {α : Type} (v : (⟨2, ![256, 1]⟩ : Shape).Idx → α) (h : (⟨2, ![256, 1]⟩ : Shape).Broadcasts ⟨2, ![256, n]⟩) (i : Fin 256) (j : Fin n) :
    broadcastTo ⟨2, ![256, n]⟩ v h (ix2 i j) = v (ix2 i (0 : Fin 1)) :=
  broadcastTo_apply v h _ _ fun a => by
    match a with
    | ⟨0, _⟩ => rfl
    | ⟨1, _⟩ => rfl

/-! ## The two row sums -/

theorem sumKeys_apply {n : ℕ} {x : FVec Ideal ⟨2, ![256, n]⟩ .f32} {f : ℕ → ℕ → ℝ} (hx : Is2 x f)
    (h : (⟨2, ![256, n]⟩ : Shape).Reduces [1] ⟨1, ![256]⟩) (hf : FKind.Formats .f32) (ha : 0x00000000#32 = FKind.add.neutral .f32 hf) (i : Fin 256) :
    multiReduction .add [1] ⟨1, ![256]⟩ x 0x00000000#32 h hf ha (ix1 i) = ((∑ k ∈ range n, f i k : ℝ) : EReal) := by
  rw [Ideal.multiReduction_add_single x 0x00000000#32 h hf ha (ix1 i), ← sum_one n (f i)]
  refine sum_congr rfl fun (k : Fin n) _ => ?_
  have e : h.lift (ix1 i) k = ix2 i k := by
    funext a; apply Fin.ext
    match a with
    | ⟨0, _⟩ => rfl
    | ⟨1, _⟩ => rfl
  exact (congrArg x e).trans (hx i k)

theorem sumRows_apply {n : ℕ} {x : FVec Ideal ⟨2, ![256, n]⟩ .f32} {f : ℕ → ℕ → ℝ} (hx : Is2 x f)
    (h : (⟨2, ![256, n]⟩ : Shape).Reduces [0] ⟨1, ![n]⟩) (hf : FKind.Formats .f32) (ha : 0x00000000#32 = FKind.add.neutral .f32 hf) (j : Fin n) :
    multiReduction .add [0] ⟨1, ![n]⟩ x 0x00000000#32 h hf ha (ix1 j) = ((∑ k ∈ range 256, f k j : ℝ) : EReal) := by
  rw [Ideal.multiReduction_add_single x 0x00000000#32 h hf ha (ix1 j), ← sum_one 256 (fun k => f k j)]
  refine sum_congr rfl fun (k : Fin 256) _ => ?_
  have e : h.lift (ix1 j) k = ix2 k j := by
    funext a; apply Fin.ext
    match a with
    | ⟨0, _⟩ => rfl
    | ⟨1, _⟩ => rfl
  exact (congrArg x e).trans (hx k j)

/-! ## The three products -/

theorem zeros_apply {a b : ℕ} (i : Fin a) (j : Fin b) : (zeros a b : M2 Ideal a b .f32) (ix2 i j) = 0 := Ideal.ofBits_zero_f32

/-- Rows against rows. -/
theorem nt_apply {m n c : ℕ} {φ ψ : FTy} {x : M2 Ideal m c φ} {y : M2 Ideal n c ψ} {f g : ℕ → ℕ → ℝ} (hx : Is2 x f) (hy : Is2 y g) :
    Is2 (FloatOps.matmul (DotDims.transposedRhs m c n) none x y (zeros m n)) fun i j => ∑ k ∈ range c, f i k * g j k := fun i j => by
  rw [Ideal.matmul_transposedRhs_apply, zeros_apply, zero_add, ← sum_prod c (f i) (g j)]
  exact sum_congr rfl fun k _ => by rw [hx i k, hy j k]

/-- Rows against columns. -/
theorem nn_apply {m n c : ℕ} {φ ψ : FTy} {x : M2 Ideal m c φ} {y : M2 Ideal c n ψ} {f g : ℕ → ℕ → ℝ} (hx : Is2 x f) (hy : Is2 y g) :
    Is2 (FloatOps.matmul (DotDims.plain m c n) none x y (zeros m n)) fun i j => ∑ k ∈ range c, f i k * g k j := fun i j => by
  rw [Ideal.matmul_plain_apply, zeros_apply, zero_add, ← sum_prod c (f i) (fun k => g k j)]
  exact sum_congr rfl fun k _ => by rw [hx i k, hy k j]

/-- Columns against columns. -/
theorem tn_apply {n : ℕ} (h : Span n) {φ ψ : FTy} {x : M2 Ideal 256 n φ} {y : M2 Ideal 256 64 ψ} {f g : ℕ → ℕ → ℝ} (hx : Is2 x f) (hy : Is2 y g) :
    Is2 (FloatOps.matmul (rowsDims h) none x y (zeros n 64)) fun i j => ∑ k ∈ range 256, f k i * g k j := fun i j => by
  rw [Ideal.matmul_apply, ← Equiv.sum_comp (contrEquiv1 (rowsDims h) 256 rfl rfl).symm, zeros_apply, zero_add,
    ← sum_prod 256 (fun k => f k i) (fun k => g k j)]
  refine sum_congr rfl fun k _ => ?_
  have hk := contrEquiv1_symm_val (rowsDims h) 256 rfl rfl k
  have el : (rowsDims h).lhsIdx (ix2 i j) ((contrEquiv1 (rowsDims h) 256 rfl rfl).symm k) = ix2 k i := by
    funext a; apply Fin.ext
    match a with
    | ⟨0, _⟩ => exact hk
    | ⟨1, _⟩ => rfl
  have er : (rowsDims h).rhsIdx (ix2 i j) ((contrEquiv1 (rowsDims h) 256 rfl rfl).symm k) = ix2 k j := by
    funext a; apply Fin.ext
    match a with
    | ⟨0, _⟩ => exact hk
    | ⟨1, _⟩ => rfl
  rw [el, er, hx k i, hy k j]

/-! ## The block's terms -/

variable {Q K V D : ℕ → ℕ → ℝ} {C L : ℕ → ℝ} {a o n : ℕ} (h : Span n) (h1 : Span 256)

theorem qScaled_is {q : M3 Ideal 256 64 .bf16} (hq : Is3 q fun r d => Q (a + r) d) :
    Is2 (qScaled h1 q) fun r d => Q (a + r) d * (1 / 8) := fun i j => by
  show shapeCast ⟨2, ![256, 64]⟩ q h1.keys (ix2 i j) * Ideal.ofBits .bf16 0x3E00#16 = _
  rw [hq.flat h1.keys i j, eighth_bf16, ← EReal.coe_mul]

theorem logits_is {qs : M2 Ideal 256 64 .bf16} {k : M3 Ideal n 64 .bf16} {c : M3 Ideal 1 n .f32} (hq : Is2 qs fun r d => Q (a + r) d * (1 / 8))
    (hk : Is3 k fun s d => K (o + s) d) (hc : Is3 c fun _ s => C (o + s)) :
    Is2 (logits h qs k c) fun r s => score Q K C (a + r) (o + s) := fun i j => by
  have e1 := nt_apply (x := qs) (y := shapeCast ⟨2, ![n, 64]⟩ k h.keys) hq (hk.flat h.keys) i j
  have e2 : broadcastTo ⟨2, ![256, n]⟩ (shapeCast ⟨2, ![1, n]⟩ c h.gate) h.overRows (ix2 i j) = ((C (o + j) : ℝ) : EReal) :=
    (overRows_apply _ _ i j).trans (hc.flat h.gate 0 j)
  show _ - _ = _
  rw [e1, e2, ← EReal.coe_sub]
  rfl

theorem causal_apply (i j : Fin 256) : cmpi .sge (iota .tc ⟨2, ![256, 256]⟩ 32 [0] iotaRows) (iota .tc ⟨2, ![256, 256]⟩ 32 [1] iotaCols) (ix2 i j)
    = if j.val ≤ i.val then 1#1 else 0#1 := by
  show BitVec.ofBool ((BitVec.ofNat 32 (0 + j.val)).sle (BitVec.ofNat 32 (0 + i.val))) = _
  have hi := i.isLt
  have hj := j.isLt
  have ti : (BitVec.ofNat 32 (0 + i.val)).toInt = i.val := by
    rw [BitVec.toInt_ofNat', Nat.zero_add]; exact Int.bmod_eq_of_le (by omega) (by omega)
  have tj : (BitVec.ofNat 32 (0 + j.val)).toInt = j.val := by
    rw [BitVec.toInt_ofNat', Nat.zero_add]; exact Int.bmod_eq_of_le (by omega) (by omega)
  rw [BitVec.sle, ti, tj]
  by_cases hij : j.val ≤ i.val
  · rw [if_pos hij, decide_eq_true (by omega)]; rfl
  · rw [if_neg hij, decide_eq_false (by omega)]; rfl

theorem masked_apply (s : M2 Ideal 256 256 .f32) (i j : Fin 256) :
    masked s (ix2 i j) = if j.val ≤ i.val then s (ix2 i j) else (⊥ : EReal) := by
  show Scalar.select (cmpi .sge (iota .tc ⟨2, ![256, 256]⟩ 32 [0] iotaRows) (iota .tc ⟨2, ![256, 256]⟩ 32 [1] iotaCols) (ix2 i j)) (s (ix2 i j))
    (Named.named (F := Ideal) (φ := .f32) κ "mask" 0xF149F2CA#32) = _
  have hm : Named.named (F := Ideal) (φ := .f32) κ "mask" 0xF149F2CA#32 = (⊥ : EReal) := IdealRules.named_const.ideal_named_scalar _ _ _ _ rfl
  rw [causal_apply, hm]
  by_cases hij : j.val ≤ i.val
  · rw [if_pos hij, if_pos hij]; rfl
  · rw [if_neg hij, if_neg hij]; rfl

theorem weights_apply (s : M2 Ideal 256 n .f32) {l : M3 Ideal 256 1 .f32} (hl : Is3 l fun r _ => L (a + r)) (i : Fin 256) (j : Fin n) :
    weights h s l (ix2 i j) = Ideal.exp (s (ix2 i j) - ((L (a + i) : ℝ) : EReal)) := by
  have e : broadcastTo ⟨2, ![256, n]⟩ (shapeCast ⟨2, ![256, 1]⟩ l rowCast) h.overKeys (ix2 i j) = ((L (a + i) : ℝ) : EReal) :=
    (overKeys_apply _ _ i j).trans (hl.flat rowCast i 0)
  show Ideal.exp (_ - _) = _
  rw [e]

/-- The weights of the keys before the block. -/
theorem weights_rest {s : M2 Ideal 256 n .f32} {l : M3 Ideal 256 1 .f32} (hs : Is2 s fun r u => score Q K C (a + r) (o + u))
    (hl : Is3 l fun r _ => L (a + r)) (hn : o + n ≤ a + 1) : Is2 (weights h s l) fun r u => prob Q K C L (a + r) (o + u) := fun i j => by
  have := j.isLt
  rw [weights_apply h s hl, hs i j, ← EReal.coe_sub, Ideal.exp_coe]
  exact congrArg _ (prob_of_le (by omega)).symm

/-- The weights of the block's own keys. -/
theorem weights_diag {s : M2 Ideal 256 256 .f32} {l : M3 Ideal 256 1 .f32} (hs : Is2 s fun r u => score Q K C (a + r) (a + u))
    (hl : Is3 l fun r _ => L (a + r)) : Is2 (weights h1 (masked s) l) fun r u => prob Q K C L (a + r) (a + u) := fun i j => by
  rw [weights_apply h1 _ hl, masked_apply, hs i j]
  by_cases hij : j.val ≤ i.val
  · rw [if_pos hij, ← EReal.coe_sub, Ideal.exp_coe]
    exact congrArg _ (prob_of_le (by omega)).symm
  · rw [if_neg hij, EReal.bot_sub, Ideal.exp_bot, ← EReal.coe_zero]
    exact congrArg _ (prob_of_lt (by omega)).symm

theorem dweights_is {d : M3 Ideal 256 64 .bf16} {v : M3 Ideal n 64 .bf16} (hd : Is3 d fun r e => D (a + r) e) (hv : Is3 v fun s e => V (o + s) e) :
    Is2 (dweights h h1 d v) fun r s => dprob V D (a + r) (o + s) := nt_apply (hd.flat h1.keys) (hv.flat h.keys)

theorem partDot_is {dp p : M2 Ideal 256 n .f32} {f g : ℕ → ℕ → ℝ} (hf : Is2 dp f) (hg : Is2 p g) :
    Is2 (partDot h dp p) fun r _ => ∑ s ∈ range n, f r s * g r s := fun i j => by
  have hm : Is2 (mulf dp p) fun r s => f r s * g r s := fun i j => by
    show dp (ix2 i j) * p (ix2 i j) = _
    rw [hf i j, hg i j, ← EReal.coe_mul]
  exact (shapeCast_a_a1_apply _ colCast i j).trans (sumKeys_apply hm _ _ _ i)

theorem dot1_is {x : M2 Ideal 256 1 .f32} {f : ℕ → ℕ → ℝ} (hf : Is2 x f) : Is2 (dot1 x) f := fun i j => by
  show Ideal.ofBits .f32 0x00000000#32 + x (ix2 i j) = _
  rw [Ideal.ofBits_zero_f32, zero_add, hf i j]

theorem dot2_is {x y : M2 Ideal 256 1 .f32} {f g : ℕ → ℕ → ℝ} (hf : Is2 x f) (hg : Is2 y g) : Is2 (dot2 x y) fun r u => f r u + g r u := fun i j => by
  show dot1 x (ix2 i j) + y (ix2 i j) = _
  rw [dot1_is hf i j, hg i j, ← EReal.coe_add]

theorem dlogits_is {p dp : M2 Ideal 256 n .f32} {r : M2 Ideal 256 1 .f32} (hp : Is2 p fun r s => prob Q K C L (a + r) (o + s))
    (hd : Is2 dp fun r s => dprob V D (a + r) (o + s)) (hr : Is2 r fun r _ => rowdot Q K V D C L (a + r)) :
    Is2 (dlogits h p dp r) fun r s => dscore Q K V D C L (a + r) (o + s) := fun i j => by
  show p (ix2 i j) * (dp (ix2 i j) - broadcastTo ⟨2, ![256, n]⟩ r h.overKeys (ix2 i j)) = _
  rw [hp i j, hd i j, overKeys_apply, hr i 0, ← EReal.coe_sub, ← EReal.coe_mul]
  rfl

theorem partQ_is {ds : M2 Ideal 256 n .f32} {k : M3 Ideal n 64 .bf16} {f g : ℕ → ℕ → ℝ} (hf : Is2 ds f) (hg : Is3 k g) :
    Is2 (partQ h ds k) fun r d => ∑ s ∈ range n, f r s * g s d :=
  nn_apply (x := truncf .bf16 ds narrow) (fun i j => hf i j) (hg.flat h.keys)

theorem sumQ1_is {x : M2 Ideal 256 64 .f32} {f : ℕ → ℕ → ℝ} (hf : Is2 x f) : Is2 (sumQ1 x) f := fun i j => by
  show Ideal.ofBits .f32 0x00000000#32 + x (ix2 i j) = _
  rw [Ideal.ofBits_zero_f32, zero_add, hf i j]

theorem sumQ2_is {x y : M2 Ideal 256 64 .f32} {f g : ℕ → ℕ → ℝ} (hf : Is2 x f) (hg : Is2 y g) : Is2 (sumQ2 x y) fun r u => f r u + g r u := fun i j => by
  show sumQ1 x (ix2 i j) + y (ix2 i j) = _
  rw [sumQ1_is hf i j, hg i j, ← EReal.coe_add]

theorem outQ_is {x : M2 Ideal 256 64 .f32} {f : ℕ → ℕ → ℝ} (hf : Is2 x f) : Is3 (outQ h1 x) fun r d => f r d * (1 / 8) := by
  refine Is2.stack (fun i j => ?_) h1.keys'
  show x (ix2 i j) * Ideal.ofBits .f32 0x3E000000#32 = _
  rw [hf i j, eighth_f32, ← EReal.coe_mul]

theorem addRows_is {w : M2 Ideal 256 n .f32} {x : M2 Ideal 256 64 .bf16} {old : M3 Ideal n 64 .f32} {f g e : ℕ → ℕ → ℝ} (ho : Is3 old f)
    (hw : Is2 w g) (hx : Is2 x e) : Is3 (addRows h w x old) fun s d => f s d + ∑ r ∈ range 256, g r s * e r d := by
  refine Is2.stack (fun i j => ?_) h.keys'
  show shapeCast ⟨2, ![n, 64]⟩ old h.keys (ix2 i j) + FloatOps.matmul (rowsDims h) none (truncf .bf16 w narrow) x (zeros n 64) (ix2 i j) = _
  rw [ho.flat h.keys i j, tn_apply h (x := truncf .bf16 w narrow) (f := g) (fun i j => hw i j) hx i j, ← EReal.coe_add]

theorem subRows_is {ds : M2 Ideal 256 n .f32} {old : M3 Ideal 1 n .f32} {f g : ℕ → ℕ → ℝ} (ho : Is3 old f) (hd : Is2 ds g) :
    Is3 (subRows h ds old) fun u s => f u s - ∑ r ∈ range 256, g r s := by
  refine Is2.stack (fun i j => ?_) h.gate'
  show shapeCast ⟨2, ![1, n]⟩ old h.gate (ix2 i j) - shapeCast ⟨2, ![1, n]⟩ (multiReduction .add [0] ⟨1, ![n]⟩ ds 0x00000000#32 h.sumRows (.inl rfl) rfl) h.asRow (ix2 i j) = _
  have e := (shapeCast_a_1a_apply (multiReduction .add [0] ⟨1, ![n]⟩ ds 0x00000000#32 h.sumRows (.inl rfl) rfl) h.asRow i j).trans (sumRows_apply hd h.sumRows (.inl rfl) rfl j)
  rw [ho.flat h.gate i j, e, ← EReal.coe_sub]

end Fox

end
-- ==== Proof.PairValue.lean ====
/- A block's weights, scores' cotangents and queries' gradient are the real ones at the block's rows. -/
module

public import proofs.«01_k».proof.Proof.Pair
public import proofs.«01_k».proof.Proof.BlockValue

@[expose] public section

noncomputable section

namespace Fox

open Idealize.ShloMosaic Idealize.ShloMosaic.ValueIdx Cert.KernelIdeal Finset

variable {Q K V D : ℕ → ℕ → ℝ} {C L : ℕ → ℝ} {a : ℕ} {h1 : Span 256} {h : Span a}
  {q d k v : M3 Ideal 256 64 .bf16} {l : M3 Ideal 256 1 .f32} {c : M3 Ideal 1 256 .f32} {k' v' : M3 Ideal a 64 .bf16} {c' : M3 Ideal 1 a .f32}

theorem pDiag_is (hq : Is3 q fun r e => Q (a + r) e) (hl : Is3 l fun r _ => L (a + r)) (hk : Is3 k fun s e => K (a + s) e)
    (hc : Is3 c fun _ s => C (a + s)) : Is2 (pDiag h1 q l k c) fun r s => prob Q K C L (a + r) (a + s) :=
  weights_diag h1 (logits_is h1 (qScaled_is h1 hq) hk hc) hl

theorem pRest_is (hq : Is3 q fun r e => Q (a + r) e) (hl : Is3 l fun r _ => L (a + r)) (hk : Is3 k' fun s e => K (0 + s) e)
    (hc : Is3 c' fun _ s => C (0 + s)) : Is2 (pRest h1 h q l k' c') fun r s => prob Q K C L (a + r) (0 + s) :=
  weights_rest h (logits_is h (qScaled_is h1 hq) hk hc) hl (by omega)

/-- A row's sum stops at the end of its block. -/
theorem rowdot_eq (ha : a + 256 ≤ 2048) (r : ℕ) (hr : r < 256) : rowdot Q K V D C L (a + r) =
    (∑ s ∈ range 256, dprob V D (a + r) (a + s) * prob Q K C L (a + r) (a + s))
      + ∑ s ∈ range a, dprob V D (a + r) (0 + s) * prob Q K C L (a + r) (0 + s) := by
  simp only [Nat.zero_add]
  rw [rowdot, sum_range_cut ha fun s hs => by rw [prob_of_lt (by omega), mul_zero], sum_split, add_comm]

theorem dots_is (ha : a + 256 ≤ 2048) (hq : Is3 q fun r e => Q (a + r) e) (hd : Is3 d fun r e => D (a + r) e) (hl : Is3 l fun r _ => L (a + r))
    (hk : Is3 k fun s e => K (a + s) e) (hv : Is3 v fun s e => V (a + s) e) (hc : Is3 c fun _ s => C (a + s))
    (hk' : Is3 k' fun s e => K (0 + s) e) (hv' : Is3 v' fun s e => V (0 + s) e) (hc' : Is3 c' fun _ s => C (0 + s)) :
    Is2 (dots h1 h q d l k v c k' v' c') fun r _ => rowdot Q K V D C L (a + r) :=
  (dot2_is (partDot_is h1 (dweights_is h1 h1 hd hv) (pDiag_is hq hl hk hc))
    (partDot_is h (dweights_is h h1 hd hv') (pRest_is hq hl hk' hc'))).congr fun r hr _ _ => (rowdot_eq ha r hr).symm

theorem dsDiag_is (ha : a + 256 ≤ 2048) (hq : Is3 q fun r e => Q (a + r) e) (hd : Is3 d fun r e => D (a + r) e) (hl : Is3 l fun r _ => L (a + r))
    (hk : Is3 k fun s e => K (a + s) e) (hv : Is3 v fun s e => V (a + s) e) (hc : Is3 c fun _ s => C (a + s))
    (hk' : Is3 k' fun s e => K (0 + s) e) (hv' : Is3 v' fun s e => V (0 + s) e) (hc' : Is3 c' fun _ s => C (0 + s)) :
    Is2 (dsDiag h1 h q d l k v c k' v' c') fun r s => dscore Q K V D C L (a + r) (a + s) :=
  dlogits_is h1 (pDiag_is hq hl hk hc) (dweights_is h1 h1 hd hv) (dots_is ha hq hd hl hk hv hc hk' hv' hc')

theorem dsRest_is (ha : a + 256 ≤ 2048) (hq : Is3 q fun r e => Q (a + r) e) (hd : Is3 d fun r e => D (a + r) e) (hl : Is3 l fun r _ => L (a + r))
    (hk : Is3 k fun s e => K (a + s) e) (hv : Is3 v fun s e => V (a + s) e) (hc : Is3 c fun _ s => C (a + s))
    (hk' : Is3 k' fun s e => K (0 + s) e) (hv' : Is3 v' fun s e => V (0 + s) e) (hc' : Is3 c' fun _ s => C (0 + s)) :
    Is2 (dsRest h1 h q d l k v c k' v' c') fun r s => dscore Q K V D C L (a + r) (0 + s) :=
  dlogits_is h (pRest_is hq hl hk' hc') (dweights_is h h1 hd hv') (dots_is ha hq hd hl hk hv hc hk' hv' hc')

theorem dsFirst_is (hq : Is3 q fun r e => Q (0 + r) e) (hd : Is3 d fun r e => D (0 + r) e) (hl : Is3 l fun r _ => L (0 + r))
    (hk : Is3 k fun s e => K (0 + s) e) (hv : Is3 v fun s e => V (0 + s) e) (hc : Is3 c fun _ s => C (0 + s)) :
    Is2 (dsFirst h1 q d l k v c) fun r s => dscore Q K V D C L (0 + r) (0 + s) :=
  dlogits_is h1 (pDiag_is hq hl hk hc) (dweights_is h1 h1 hd hv)
    ((dot1_is (partDot_is h1 (dweights_is h1 h1 hd hv) (pDiag_is hq hl hk hc))).congr fun r hr _ _ => by
      rw [rowdot_eq (a := 0) (by omega) r hr, sum_range_zero, add_zero])

/-- The queries' gradient of the first block, and of a later one, from the scores' cotangents. -/
theorem outFirst_is {ds : M2 Ideal 256 256 .f32} (hd : Is2 ds fun r s => dscore Q K V D C L (0 + r) (0 + s)) (hk : Is3 k fun s e => K (0 + s) e) :
    Is3 (outQ h1 (sumQ1 (partQ h1 ds k))) fun r e => gq Q K V D C L (0 + r) e :=
  (outQ_is h1 (sumQ1_is (partQ_is h1 hd hk))).congr fun r hr e _ => by
    simp only [Nat.zero_add]
    rw [gq, sum_range_cut (f := fun s => dscore Q K V D C L r s * K s e) (m := 256) (n := 2048) (by omega) fun s hs => by
      rw [dscore_of_lt (by omega), zero_mul]]

theorem outLater_is (ha : a + 256 ≤ 2048) {ds : M2 Ideal 256 256 .f32} {ds' : M2 Ideal 256 a .f32}
    (hd : Is2 ds fun r s => dscore Q K V D C L (a + r) (a + s)) (hd' : Is2 ds' fun r s => dscore Q K V D C L (a + r) (0 + s))
    (hk : Is3 k fun s e => K (a + s) e) (hk' : Is3 k' fun s e => K (0 + s) e) :
    Is3 (outQ h1 (sumQ2 (partQ h1 ds k) (partQ h ds' k'))) fun r e => gq Q K V D C L (a + r) e :=
  (outQ_is h1 (sumQ2_is (partQ_is h1 hd hk) (partQ_is h hd' hk'))).congr fun r hr e _ => by
    simp only [Nat.zero_add]
    rw [gq, sum_range_cut (f := fun s => dscore Q K V D C L (a + r) s * K s e) ha fun s hs => by rw [dscore_of_lt (by omega), zero_mul],
      sum_split (fun s => dscore Q K V D C L (a + r) s * K s e) a, add_comm]

end Fox

end
-- ==== Proof.Held.lean ====
/- What a list of stores leaves in a window, as real numbers: one store, a load of what the stores before left, and the two stores of a
   block of queries. -/
module

public import proofs.«01_k».proof.Proof.BlockValue
public import Idealize.ShloMosaic.Lib.Pipeline.FrameBody

@[expose] public section

noncomputable section

namespace Fox

open Idealize.ShloMosaic Idealize.ShloMosaic.ValueIdx Cert.KernelIdeal Finset

variable {b w n m : ℕ}

abbrev Stores (b w : ℕ) := List (View.Piece (Elt Ideal) ⟨3, ![1, b, w]⟩ .f32)

/-- The index of a box's entry in the array. -/
theorem unit_idx (o p : ℕ) (hb : ∀ ax, (![0, o, p] : Fin 3 → ℕ) ax + (![1, n, m] : Fin 3 → ℕ) ax ≤ (⟨3, ![1, b, w]⟩ : Shape).size ax)
    (u : Fin 1) (i : Fin n) (j : Fin m) (hi : o + i < b) (hj : p + j < w) :
    (Rect.unit (s := ⟨3, ![1, b, w]⟩) ![0, o, p] ![1, n, m] hb).emb (ix3 u i j) = ix3 u ⟨o + i, hi⟩ ⟨p + j, hj⟩ := by
  funext a; apply Fin.ext
  match a with
  | ⟨0, _⟩ => show 0 + 1 * u.val = u.val; omega
  | ⟨1, _⟩ => show o + 1 * i.val = o + i.val; omega
  | ⟨2, _⟩ => show p + 1 * j.val = p + j.val; omega

/-- A box of an array that holds `f`. -/
theorem Is3.box {x : (⟨3, ![1, b, w]⟩ : Shape).Idx → EReal} {f : ℕ → ℕ → ℝ} (hx : Is3 x f) (o p : ℕ)
    (hb : ∀ ax, (![0, o, p] : Fin 3 → ℕ) ax + (![1, n, m] : Fin 3 → ℕ) ax ≤ (⟨3, ![1, b, w]⟩ : Shape).size ax) :
    Is3 (fun j : (⟨3, ![1, n, m]⟩ : Shape).Idx => x ((Rect.unit (s := ⟨3, ![1, b, w]⟩) ![0, o, p] ![1, n, m] hb).emb j)) fun s e => f (o + s) (p + e) :=
  fun u i j => by
    have h1 : o + n ≤ b := hb 1
    have h2 : p + m ≤ w := hb 2
    show x ((Rect.unit (s := ⟨3, ![1, b, w]⟩) ![0, o, p] ![1, n, m] hb).emb (ix3 u i j)) = _
    rw [unit_idx o p hb u i j (by omega) (by omega), hx]

/-- A store over what the list before left. -/
theorem held_cons {L : Stores b w} {f g : ℕ → ℕ → ℝ} (hL : Is3 (View.canon L) f) (o p : ℕ)
    (hb : ∀ ax, (![0, o, p] : Fin 3 → ℕ) ax + (![1, n, m] : Fin 3 → ℕ) ax ≤ (⟨3, ![1, b, w]⟩ : Shape).size ax)
    {pay : (⟨3, ![1, n, m]⟩ : Shape).Idx → EReal} (hp : Is3 pay g) :
    Is3 (View.canon (⟨Rect.unit (s := ⟨3, ![1, b, w]⟩) ![0, o, p] ![1, n, m] hb, pay⟩ :: L : Stores b w))
      fun s e => if (o ≤ s ∧ s < o + n) ∧ (p ≤ e ∧ e < p + m) then g (s - o) (e - p) else f s e := fun u i j => by
  have h1 : o + n ≤ b := hb 1
  have h2 : p + m ≤ w := hb 2
  by_cases hs : (o ≤ i.val ∧ i.val < o + n) ∧ (p ≤ j.val ∧ j.val < p + m)
  · have e := unit_idx (b := b) (w := w) o p hb u ⟨i - o, by omega⟩ ⟨j - p, by omega⟩ (by show o + (i.val - o) < b; omega) (by show p + (j.val - p) < w; omega)
    have e' : ix3 u i j = (Rect.unit (s := ⟨3, ![1, b, w]⟩) ![0, o, p] ![1, n, m] hb).emb (ix3 u ⟨i - o, by omega⟩ ⟨j - p, by omega⟩) := by
      rw [e]
      congr 1 <;> exact Fin.ext (by simp only []; omega)
    rw [e', View.canon_cons_emb]
    exact (hp u _ _).trans (congrArg _ (if_pos hs).symm)
  · refine Eq.trans ?_ (congrArg _ (if_neg hs).symm)
    rw [View.canon_cons_of_not_mem]
    · exact hL u i j
    · intro hm
      have hm := (Rect.mem_set_unit (inb := hb)).1 hm
      exact hs ⟨⟨(hm 1).1, (hm 1).2⟩, (hm 2).1, (hm 2).2⟩

/-- A load of what the stores before left. -/
theorem held_load {L : Stores b w} {f : ℕ → ℕ → ℝ} (hL : Is3 (View.canon L) f) (arg : Memref sig .tc .vmem ⟨3, ![1, b, w]⟩ .f32) (o p : ℕ)
    (hb : ∀ ax, (![0, o, p] : Fin 3 → ℕ) ax + (![1, n, m] : Fin 3 → ℕ) ax ≤ (⟨3, ![1, b, w]⟩ : Shape).size ax) :
    Is3 (b := n) (c := m) (arg.view.readCov L (Rect.unit (s := ⟨3, ![1, b, w]⟩) ![0, o, p] ![1, n, m] hb).toLoadRect) fun s e => f (o + s) (p + e) := by
  rw [View.readCov_eq_canon']
  exact hL.box o p hb

/-! ## The two stores of a block of queries

`X t s e` is query `t`'s part of entry `s, e`, zero for the keys after the query. -/

variable {X : ℕ → ℕ → ℕ → ℝ} (hX : ∀ t s e, t < s → X t s e = 0)

include hX

/-- The parts of the queries before `a + 256`, from those before `a`. -/
theorem parts_add (a s e : ℕ) :
    (∑ t ∈ range a, X t s e) + (if s < a + 256 then ∑ r ∈ range 256, X (a + r) s e else 0) = ∑ t ∈ range (a + 256), X t s e := by
  rw [sum_split (fun t => X t s e) a]
  split
  · rfl
  · rw [sum_eq_zero fun r hr => hX (a + r) s e (by have := mem_range.1 hr; omega)]

/-- Accumulated along the rows: the keys' and the values' gradient. -/
theorem held_first {L : Stores b w} (hL : Is3 (View.canon L) fun _ _ => 0)
    (hb : ∀ ax, (![0, 0, 0] : Fin 3 → ℕ) ax + (![1, 256, w] : Fin 3 → ℕ) ax ≤ (⟨3, ![1, b, w]⟩ : Shape).size ax)
    {pay : (⟨3, ![1, 256, w]⟩ : Shape).Idx → EReal} (hp : Is3 pay fun s e => 0 + ∑ r ∈ range 256, X (0 + r) (0 + s) e) :
    Is3 (View.canon (⟨Rect.unit (s := ⟨3, ![1, b, w]⟩) ![0, 0, 0] ![1, 256, w] hb, pay⟩ :: L : Stores b w))
      fun s e => ∑ t ∈ range (0 + 256), X t s e :=
  (held_cons hL 0 0 hb hp).congr fun s _ e he => by
    rw [← parts_add hX 0 s e]
    by_cases hs : s < 0 + 256
    · rw [if_pos ⟨⟨by omega, by omega⟩, by omega, by omega⟩, if_pos hs]
      simp
    · rw [if_neg (by omega), if_neg hs]
      simp

theorem held_block {L : Stores b w} {a : ℕ} (hL : Is3 (View.canon L) fun s e => ∑ t ∈ range a, X t s e)
    (hb : ∀ ax, (![0, a, 0] : Fin 3 → ℕ) ax + (![1, 256, w] : Fin 3 → ℕ) ax ≤ (⟨3, ![1, b, w]⟩ : Shape).size ax)
    (hb' : ∀ ax, (![0, 0, 0] : Fin 3 → ℕ) ax + (![1, a, w] : Fin 3 → ℕ) ax ≤ (⟨3, ![1, b, w]⟩ : Shape).size ax)
    {pay : (⟨3, ![1, 256, w]⟩ : Shape).Idx → EReal} {pay' : (⟨3, ![1, a, w]⟩ : Shape).Idx → EReal}
    {L' : Stores b w} (hL' : L' = ⟨Rect.unit (s := ⟨3, ![1, b, w]⟩) ![0, a, 0] ![1, 256, w] hb, pay⟩ :: L)
    (hp : ∀ f, Is3 (View.canon L) f → Is3 pay fun s e => f (a + s) (0 + e) + ∑ r ∈ range 256, X (a + r) (a + s) e)
    (hp' : ∀ f, Is3 (View.canon L') f → Is3 pay' fun s e => f (0 + s) (0 + e) + ∑ r ∈ range 256, X (a + r) (0 + s) e) :
    Is3 (View.canon (⟨Rect.unit (s := ⟨3, ![1, b, w]⟩) ![0, 0, 0] ![1, a, w] hb', pay'⟩ :: L' : Stores b w))
      fun s e => ∑ t ∈ range (a + 256), X t s e := by
  have h1 := held_cons hL a 0 hb (hp _ hL)
  rw [← hL'] at h1
  refine (held_cons h1 0 0 hb' (hp' _ h1)).congr fun s _ e he => ?_
  rw [← parts_add hX a s e]
  by_cases hs : s < a
  · rw [if_pos ⟨⟨by omega, by omega⟩, by omega, by omega⟩, if_neg (by omega), if_pos (by omega)]
    simp
  · rw [if_neg (by omega)]
    by_cases hs' : s < a + 256
    · have e1 : a + (s - a) = s := by omega
      rw [if_pos ⟨⟨by omega, by omega⟩, by omega, by omega⟩, if_pos hs', e1]
      simp
    · rw [if_neg (by omega), if_neg hs', add_zero]

omit hX in
/-- The same along the columns, where a store takes its parts away: the gate sums' gradient. -/
theorem parts_sub {Y : ℕ → ℕ → ℝ} (hY : ∀ t s, t < s → Y t s = 0) (a s : ℕ) :
    (- ∑ t ∈ range a, Y t s) - (if s < a + 256 then ∑ r ∈ range 256, Y (a + r) s else 0) = - ∑ t ∈ range (a + 256), Y t s := by
  rw [sum_split (fun t => Y t s) a]
  split
  · ring
  · rw [sum_eq_zero fun r hr => hY (a + r) s (by have := mem_range.1 hr; omega)]
    ring

omit hX in
theorem held_first_c {Y : ℕ → ℕ → ℝ} (hY : ∀ t s, t < s → Y t s = 0) {L : Stores 1 w} (hL : Is3 (View.canon L) fun _ _ => 0)
    (hb : ∀ ax, (![0, 0, 0] : Fin 3 → ℕ) ax + (![1, 1, 256] : Fin 3 → ℕ) ax ≤ (⟨3, ![1, 1, w]⟩ : Shape).size ax)
    {pay : (⟨3, ![1, 1, 256]⟩ : Shape).Idx → EReal} (hp : Is3 pay fun _ s => 0 - ∑ r ∈ range 256, Y (0 + r) (0 + s)) :
    Is3 (View.canon (⟨Rect.unit (s := ⟨3, ![1, 1, w]⟩) ![0, 0, 0] ![1, 1, 256] hb, pay⟩ :: L : Stores 1 w))
      fun _ s => - ∑ t ∈ range (0 + 256), Y t s :=
  (held_cons hL 0 0 hb hp).congr fun u hu s _ => by
    rw [← parts_sub hY 0 s]
    by_cases hs : s < 0 + 256
    · rw [if_pos ⟨⟨by omega, by omega⟩, by omega, by omega⟩, if_pos hs]
      simp
    · rw [if_neg (by omega), if_neg hs]
      simp

omit hX in
theorem held_block_c {Y : ℕ → ℕ → ℝ} (hY : ∀ t s, t < s → Y t s = 0) {L : Stores 1 w} {a : ℕ}
    (hL : Is3 (View.canon L) fun _ s => - ∑ t ∈ range a, Y t s)
    (hb : ∀ ax, (![0, 0, a] : Fin 3 → ℕ) ax + (![1, 1, 256] : Fin 3 → ℕ) ax ≤ (⟨3, ![1, 1, w]⟩ : Shape).size ax)
    (hb' : ∀ ax, (![0, 0, 0] : Fin 3 → ℕ) ax + (![1, 1, a] : Fin 3 → ℕ) ax ≤ (⟨3, ![1, 1, w]⟩ : Shape).size ax)
    {pay : (⟨3, ![1, 1, 256]⟩ : Shape).Idx → EReal} {pay' : (⟨3, ![1, 1, a]⟩ : Shape).Idx → EReal}
    {L' : Stores 1 w} (hL' : L' = ⟨Rect.unit (s := ⟨3, ![1, 1, w]⟩) ![0, 0, a] ![1, 1, 256] hb, pay⟩ :: L)
    (hp : ∀ f, Is3 (View.canon L) f → Is3 pay fun u s => f (0 + u) (a + s) - ∑ r ∈ range 256, Y (a + r) (a + s))
    (hp' : ∀ f, Is3 (View.canon L') f → Is3 pay' fun u s => f (0 + u) (0 + s) - ∑ r ∈ range 256, Y (a + r) (0 + s)) :
    Is3 (View.canon (⟨Rect.unit (s := ⟨3, ![1, 1, w]⟩) ![0, 0, 0] ![1, 1, a] hb', pay'⟩ :: L' : Stores 1 w))
      fun _ s => - ∑ t ∈ range (a + 256), Y t s := by
  have h1 := held_cons hL 0 a hb (hp _ hL)
  rw [← hL'] at h1
  refine (held_cons h1 0 0 hb' (hp' _ h1)).congr fun u hu s _ => ?_
  rw [← parts_sub hY a s]
  by_cases hs : s < a
  · rw [if_pos ⟨⟨by omega, by omega⟩, by omega, by omega⟩, if_neg (by omega), if_pos (by omega)]
    simp
  · rw [if_neg (by omega)]
    by_cases hs' : s < a + 256
    · have e1 : a + (s - a) = s := by omega
      rw [if_pos ⟨⟨by omega, by omega⟩, by omega, by omega⟩, if_pos hs', e1]
    · rw [if_neg (by omega), if_neg hs', sub_zero]

end Fox

end
-- ==== Proof.RunValue.lean ====
/- What the kernel's body leaves in its four output windows, when its six input windows hold real numbers: block by block of queries,
   every entry of the keys', values' and gate sums' gradients holds the parts of the queries so far. -/
module

public import proofs.«01_k».proof.Proof.Run
public import proofs.«01_k».proof.Proof.PairValue
public import proofs.«01_k».proof.Proof.Held
public import Idealize.ShloMosaic.Lib.Pipeline.Value

@[expose] public section

set_option maxRecDepth 16384

noncomputable section

namespace Fox

open Idealize.ShloMosaic Idealize.ShloMosaic.ValueIdx Cert.KernelIdeal Cert.KernelIdeal.Gen Cert.KernelIdeal.Gen.kernelRun0_A Finset

/-! ## Loads of a window that holds real numbers -/

theorem rd_is {b w n m : ℕ} {x : (⟨3, ![1, b, w]⟩ : Shape).Idx → EReal} {f : ℕ → ℕ → ℝ} (hx : Is3 x f) (a : Memref sig .tc .vmem ⟨3, ![1, b, w]⟩ .f32)
    (ha : a.IsWhole) (o p : ℕ) (hb : ∀ ax, (![0, o, p] : Fin 3 → ℕ) ax + (![1, n, m] : Fin 3 → ℕ) ax ≤ (⟨3, ![1, b, w]⟩ : Shape).size ax) :
    Is3 (b := n) (c := m) (rd (F := Ideal) a ha x ![0, o, p] ![1, n, m] hb) fun s e => f (o + s) (p + e) := by
  unfold rd
  rw [View.readAt_eq_ld, ha.read_unread]
  exact hx.box o p hb

theorem rdRows_is {b w n : ℕ} {x : (⟨3, ![1, b, w]⟩ : Shape).Idx → EReal} {f : ℕ → ℕ → ℝ} (hx : Is3 x f) (a : Memref sig .tc .vmem ⟨3, ![1, b, w]⟩ .bf16)
    (ha : a.IsWhole) (o : ℕ) (hb : ∀ ax, (![0, o, 0] : Fin 3 → ℕ) ax + (![1, n, w] : Fin 3 → ℕ) ax ≤ (⟨3, ![1, b, w]⟩ : Shape).size ax) :
    Is3 (b := n) (c := w) (rd (F := Ideal) a ha x ![0, o, 0] ![1, n, w] hb) fun s e => f (o + s) e := by
  unfold rd
  rw [View.readAt_eq_ld, ha.read_unread]
  exact (hx.box o 0 hb).congr fun s _ e _ => by rw [Nat.zero_add]

variable (c : Dev nD) (i : grid0.Coords)
  (arg1 : Memref sig .tc .vmem S1x2048x64 .bf16) (harg1 : arg1.IsWhole) (arg2 : Memref sig .tc .vmem S1x2048x64 .bf16) (harg2 : arg2.IsWhole)
  (arg3 : Memref sig .tc .vmem S1x2048x64 .bf16) (harg3 : arg3.IsWhole) (arg4 : Memref sig .tc .vmem S1x2048x64 .bf16) (harg4 : arg4.IsWhole)
  (arg5 : Memref sig .tc .vmem S1x2048x1 .f32) (harg5 : arg5.IsWhole) (arg6 : Memref sig .tc .vmem S1x1x2048 .f32) (harg6 : arg6.IsWhole)
  (arg7 : Memref sig .tc .vmem S1x2048x64 .bf16) (harg7 : arg7.IsWhole) (arg8 : Memref sig .tc .vmem S1x2048x64 .f32) (harg8 : arg8.IsWhole)
  (arg9 : Memref sig .tc .vmem S1x2048x64 .f32) (harg9 : arg9.IsWhole) (arg10 : Memref sig .tc .vmem S1x1x2048 .f32) (harg10 : arg10.IsWhole)
  (x0 x1 x2 x3 : Vec Ideal S1x2048x64 .bf16) (x4 : Vec Ideal S1x2048x1 .f32) (x5 : Vec Ideal S1x1x2048 .f32)
  (Q K V D : ℕ → ℕ → ℝ) (C L : ℕ → ℝ)

/-- The windows' contents. -/
structure Holds : Prop where
  q : Is3 x0 Q
  k : Is3 x1 K
  v : Is3 x2 V
  d : Is3 x3 D
  l : Is3 x4 fun t _ => L t
  c : Is3 x5 fun _ u => C u

/-- The parts of query `t` in the keys' gradient and in the values'. -/
abbrev partK (t s e : ℕ) : ℝ := dscore Q K V D C L t s * (Q t e * (1 / 8))
abbrev partV (t s e : ℕ) : ℝ := prob Q K C L t s * D t e

theorem partK_zero (t s e : ℕ) (h : t < s) : partK Q K V D C L t s e = 0 := by rw [partK, dscore_of_lt h, zero_mul]
theorem partV_zero (t s e : ℕ) (h : t < s) : partV Q K D C L t s e = 0 := by rw [partV, prob_of_lt h, zero_mul]

variable {x0 x1 x2 x3 x4 x5 Q K V D C L} (H : Holds x0 x1 x2 x3 x4 x5 Q K V D C L)

include H

theorem qs0_is : Is2 (qs0 (F := Ideal) arg1 harg1 x0) fun r e => Q (0 + r) e * (1 / 8) := qScaled_is span256 (rdRows_is H.q arg1 harg1 0 _)
theorem do0_is : Is2 (do0 (F := Ideal) arg4 harg4 x3) fun r e => D (0 + r) e := Is3.flat (rdRows_is H.d arg4 harg4 0 _) span256.keys
theorem p0_is : Is2 (p0 (F := Ideal) arg1 harg1 arg2 harg2 arg5 harg5 arg6 harg6 x0 x1 x4 x5) fun r s => prob Q K C L (0 + r) (0 + s) := pDiag_is (rdRows_is H.q arg1 harg1 0 _) (rd_is H.l arg5 harg5 0 0 _) (rdRows_is H.k arg2 harg2 0 _) (rd_is H.c arg6 harg6 0 0 _)
theorem ds0_is : Is2 (ds0 (F := Ideal) arg1 harg1 arg2 harg2 arg3 harg3 arg4 harg4 arg5 harg5 arg6 harg6 x0 x1 x2 x3 x4 x5) fun r s => dscore Q K V D C L (0 + r) (0 + s) := dsFirst_is (rdRows_is H.q arg1 harg1 0 _) (rdRows_is H.d arg4 harg4 0 _) (rd_is H.l arg5 harg5 0 0 _) (rdRows_is H.k arg2 harg2 0 _) (rdRows_is H.v arg3 harg3 0 _) (rd_is H.c arg6 harg6 0 0 _)
theorem qs1_is : Is2 (qs1 (F := Ideal) arg1 harg1 x0) fun r e => Q (256 + r) e * (1 / 8) := qScaled_is span256 (rdRows_is H.q arg1 harg1 256 _)
theorem do1_is : Is2 (do1 (F := Ideal) arg4 harg4 x3) fun r e => D (256 + r) e := Is3.flat (rdRows_is H.d arg4 harg4 256 _) span256.keys
theorem p1_is : Is2 (p1 (F := Ideal) arg1 harg1 arg2 harg2 arg5 harg5 arg6 harg6 x0 x1 x4 x5) fun r s => prob Q K C L (256 + r) (256 + s) := pDiag_is (rdRows_is H.q arg1 harg1 256 _) (rd_is H.l arg5 harg5 256 0 _) (rdRows_is H.k arg2 harg2 256 _) (rd_is H.c arg6 harg6 0 256 _)
theorem p1r_is : Is2 (p1r (F := Ideal) arg1 harg1 arg2 harg2 arg5 harg5 arg6 harg6 x0 x1 x4 x5) fun r s => prob Q K C L (256 + r) (0 + s) := pRest_is (rdRows_is H.q arg1 harg1 256 _) (rd_is H.l arg5 harg5 256 0 _) (rdRows_is H.k arg2 harg2 0 _) (rd_is H.c arg6 harg6 0 0 _)
theorem ds1_is : Is2 (ds1 (F := Ideal) arg1 harg1 arg2 harg2 arg3 harg3 arg4 harg4 arg5 harg5 arg6 harg6 x0 x1 x2 x3 x4 x5) fun r s => dscore Q K V D C L (256 + r) (256 + s) :=
  dsDiag_is (by omega) (rdRows_is H.q arg1 harg1 256 _) (rdRows_is H.d arg4 harg4 256 _) (rd_is H.l arg5 harg5 256 0 _) (rdRows_is H.k arg2 harg2 256 _) (rdRows_is H.v arg3 harg3 256 _) (rd_is H.c arg6 harg6 0 256 _) (rdRows_is H.k arg2 harg2 0 _) (rdRows_is H.v arg3 harg3 0 _) (rd_is H.c arg6 harg6 0 0 _)
theorem ds1r_is : Is2 (ds1r (F := Ideal) arg1 harg1 arg2 harg2 arg3 harg3 arg4 harg4 arg5 harg5 arg6 harg6 x0 x1 x2 x3 x4 x5) fun r s => dscore Q K V D C L (256 + r) (0 + s) :=
  dsRest_is (by omega) (rdRows_is H.q arg1 harg1 256 _) (rdRows_is H.d arg4 harg4 256 _) (rd_is H.l arg5 harg5 256 0 _) (rdRows_is H.k arg2 harg2 256 _) (rdRows_is H.v arg3 harg3 256 _) (rd_is H.c arg6 harg6 0 256 _) (rdRows_is H.k arg2 harg2 0 _) (rdRows_is H.v arg3 harg3 0 _) (rd_is H.c arg6 harg6 0 0 _)
theorem qs2_is : Is2 (qs2 (F := Ideal) arg1 harg1 x0) fun r e => Q (512 + r) e * (1 / 8) := qScaled_is span256 (rdRows_is H.q arg1 harg1 512 _)
theorem do2_is : Is2 (do2 (F := Ideal) arg4 harg4 x3) fun r e => D (512 + r) e := Is3.flat (rdRows_is H.d arg4 harg4 512 _) span256.keys
theorem p2_is : Is2 (p2 (F := Ideal) arg1 harg1 arg2 harg2 arg5 harg5 arg6 harg6 x0 x1 x4 x5) fun r s => prob Q K C L (512 + r) (512 + s) := pDiag_is (rdRows_is H.q arg1 harg1 512 _) (rd_is H.l arg5 harg5 512 0 _) (rdRows_is H.k arg2 harg2 512 _) (rd_is H.c arg6 harg6 0 512 _)
theorem p2r_is : Is2 (p2r (F := Ideal) arg1 harg1 arg2 harg2 arg5 harg5 arg6 harg6 x0 x1 x4 x5) fun r s => prob Q K C L (512 + r) (0 + s) := pRest_is (rdRows_is H.q arg1 harg1 512 _) (rd_is H.l arg5 harg5 512 0 _) (rdRows_is H.k arg2 harg2 0 _) (rd_is H.c arg6 harg6 0 0 _)
theorem ds2_is : Is2 (ds2 (F := Ideal) arg1 harg1 arg2 harg2 arg3 harg3 arg4 harg4 arg5 harg5 arg6 harg6 x0 x1 x2 x3 x4 x5) fun r s => dscore Q K V D C L (512 + r) (512 + s) :=
  dsDiag_is (by omega) (rdRows_is H.q arg1 harg1 512 _) (rdRows_is H.d arg4 harg4 512 _) (rd_is H.l arg5 harg5 512 0 _) (rdRows_is H.k arg2 harg2 512 _) (rdRows_is H.v arg3 harg3 512 _) (rd_is H.c arg6 harg6 0 512 _) (rdRows_is H.k arg2 harg2 0 _) (rdRows_is H.v arg3 harg3 0 _) (rd_is H.c arg6 harg6 0 0 _)
theorem ds2r_is : Is2 (ds2r (F := Ideal) arg1 harg1 arg2 harg2 arg3 harg3 arg4 harg4 arg5 harg5 arg6 harg6 x0 x1 x2 x3 x4 x5) fun r s => dscore Q K V D C L (512 + r) (0 + s) :=
  dsRest_is (by omega) (rdRows_is H.q arg1 harg1 512 _) (rdRows_is H.d arg4 harg4 512 _) (rd_is H.l arg5 harg5 512 0 _) (rdRows_is H.k arg2 harg2 512 _) (rdRows_is H.v arg3 harg3 512 _) (rd_is H.c arg6 harg6 0 512 _) (rdRows_is H.k arg2 harg2 0 _) (rdRows_is H.v arg3 harg3 0 _) (rd_is H.c arg6 harg6 0 0 _)
theorem qs3_is : Is2 (qs3 (F := Ideal) arg1 harg1 x0) fun r e => Q (768 + r) e * (1 / 8) := qScaled_is span256 (rdRows_is H.q arg1 harg1 768 _)
theorem do3_is : Is2 (do3 (F := Ideal) arg4 harg4 x3) fun r e => D (768 + r) e := Is3.flat (rdRows_is H.d arg4 harg4 768 _) span256.keys
theorem p3_is : Is2 (p3 (F := Ideal) arg1 harg1 arg2 harg2 arg5 harg5 arg6 harg6 x0 x1 x4 x5) fun r s => prob Q K C L (768 + r) (768 + s) := pDiag_is (rdRows_is H.q arg1 harg1 768 _) (rd_is H.l arg5 harg5 768 0 _) (rdRows_is H.k arg2 harg2 768 _) (rd_is H.c arg6 harg6 0 768 _)
theorem p3r_is : Is2 (p3r (F := Ideal) arg1 harg1 arg2 harg2 arg5 harg5 arg6 harg6 x0 x1 x4 x5) fun r s => prob Q K C L (768 + r) (0 + s) := pRest_is (rdRows_is H.q arg1 harg1 768 _) (rd_is H.l arg5 harg5 768 0 _) (rdRows_is H.k arg2 harg2 0 _) (rd_is H.c arg6 harg6 0 0 _)
theorem ds3_is : Is2 (ds3 (F := Ideal) arg1 harg1 arg2 harg2 arg3 harg3 arg4 harg4 arg5 harg5 arg6 harg6 x0 x1 x2 x3 x4 x5) fun r s => dscore Q K V D C L (768 + r) (768 + s) :=
  dsDiag_is (by omega) (rdRows_is H.q arg1 harg1 768 _) (rdRows_is H.d arg4 harg4 768 _) (rd_is H.l arg5 harg5 768 0 _) (rdRows_is H.k arg2 harg2 768 _) (rdRows_is H.v arg3 harg3 768 _) (rd_is H.c arg6 harg6 0 768 _) (rdRows_is H.k arg2 harg2 0 _) (rdRows_is H.v arg3 harg3 0 _) (rd_is H.c arg6 harg6 0 0 _)
theorem ds3r_is : Is2 (ds3r (F := Ideal) arg1 harg1 arg2 harg2 arg3 harg3 arg4 harg4 arg5 harg5 arg6 harg6 x0 x1 x2 x3 x4 x5) fun r s => dscore Q K V D C L (768 + r) (0 + s) :=
  dsRest_is (by omega) (rdRows_is H.q arg1 harg1 768 _) (rdRows_is H.d arg4 harg4 768 _) (rd_is H.l arg5 harg5 768 0 _) (rdRows_is H.k arg2 harg2 768 _) (rdRows_is H.v arg3 harg3 768 _) (rd_is H.c arg6 harg6 0 768 _) (rdRows_is H.k arg2 harg2 0 _) (rdRows_is H.v arg3 harg3 0 _) (rd_is H.c arg6 harg6 0 0 _)
theorem qs4_is : Is2 (qs4 (F := Ideal) arg1 harg1 x0) fun r e => Q (1024 + r) e * (1 / 8) := qScaled_is span256 (rdRows_is H.q arg1 harg1 1024 _)
theorem do4_is : Is2 (do4 (F := Ideal) arg4 harg4 x3) fun r e => D (1024 + r) e := Is3.flat (rdRows_is H.d arg4 harg4 1024 _) span256.keys
theorem p4_is : Is2 (p4 (F := Ideal) arg1 harg1 arg2 harg2 arg5 harg5 arg6 harg6 x0 x1 x4 x5) fun r s => prob Q K C L (1024 + r) (1024 + s) := pDiag_is (rdRows_is H.q arg1 harg1 1024 _) (rd_is H.l arg5 harg5 1024 0 _) (rdRows_is H.k arg2 harg2 1024 _) (rd_is H.c arg6 harg6 0 1024 _)
theorem p4r_is : Is2 (p4r (F := Ideal) arg1 harg1 arg2 harg2 arg5 harg5 arg6 harg6 x0 x1 x4 x5) fun r s => prob Q K C L (1024 + r) (0 + s) := pRest_is (rdRows_is H.q arg1 harg1 1024 _) (rd_is H.l arg5 harg5 1024 0 _) (rdRows_is H.k arg2 harg2 0 _) (rd_is H.c arg6 harg6 0 0 _)
theorem ds4_is : Is2 (ds4 (F := Ideal) arg1 harg1 arg2 harg2 arg3 harg3 arg4 harg4 arg5 harg5 arg6 harg6 x0 x1 x2 x3 x4 x5) fun r s => dscore Q K V D C L (1024 + r) (1024 + s) :=
  dsDiag_is (by omega) (rdRows_is H.q arg1 harg1 1024 _) (rdRows_is H.d arg4 harg4 1024 _) (rd_is H.l arg5 harg5 1024 0 _) (rdRows_is H.k arg2 harg2 1024 _) (rdRows_is H.v arg3 harg3 1024 _) (rd_is H.c arg6 harg6 0 1024 _) (rdRows_is H.k arg2 harg2 0 _) (rdRows_is H.v arg3 harg3 0 _) (rd_is H.c arg6 harg6 0 0 _)
theorem ds4r_is : Is2 (ds4r (F := Ideal) arg1 harg1 arg2 harg2 arg3 harg3 arg4 harg4 arg5 harg5 arg6 harg6 x0 x1 x2 x3 x4 x5) fun r s => dscore Q K V D C L (1024 + r) (0 + s) :=
  dsRest_is (by omega) (rdRows_is H.q arg1 harg1 1024 _) (rdRows_is H.d arg4 harg4 1024 _) (rd_is H.l arg5 harg5 1024 0 _) (rdRows_is H.k arg2 harg2 1024 _) (rdRows_is H.v arg3 harg3 1024 _) (rd_is H.c arg6 harg6 0 1024 _) (rdRows_is H.k arg2 harg2 0 _) (rdRows_is H.v arg3 harg3 0 _) (rd_is H.c arg6 harg6 0 0 _)
theorem qs5_is : Is2 (qs5 (F := Ideal) arg1 harg1 x0) fun r e => Q (1280 + r) e * (1 / 8) := qScaled_is span256 (rdRows_is H.q arg1 harg1 1280 _)
theorem do5_is : Is2 (do5 (F := Ideal) arg4 harg4 x3) fun r e => D (1280 + r) e := Is3.flat (rdRows_is H.d arg4 harg4 1280 _) span256.keys
theorem p5_is : Is2 (p5 (F := Ideal) arg1 harg1 arg2 harg2 arg5 harg5 arg6 harg6 x0 x1 x4 x5) fun r s => prob Q K C L (1280 + r) (1280 + s) := pDiag_is (rdRows_is H.q arg1 harg1 1280 _) (rd_is H.l arg5 harg5 1280 0 _) (rdRows_is H.k arg2 harg2 1280 _) (rd_is H.c arg6 harg6 0 1280 _)
theorem p5r_is : Is2 (p5r (F := Ideal) arg1 harg1 arg2 harg2 arg5 harg5 arg6 harg6 x0 x1 x4 x5) fun r s => prob Q K C L (1280 + r) (0 + s) := pRest_is (rdRows_is H.q arg1 harg1 1280 _) (rd_is H.l arg5 harg5 1280 0 _) (rdRows_is H.k arg2 harg2 0 _) (rd_is H.c arg6 harg6 0 0 _)
theorem ds5_is : Is2 (ds5 (F := Ideal) arg1 harg1 arg2 harg2 arg3 harg3 arg4 harg4 arg5 harg5 arg6 harg6 x0 x1 x2 x3 x4 x5) fun r s => dscore Q K V D C L (1280 + r) (1280 + s) :=
  dsDiag_is (by omega) (rdRows_is H.q arg1 harg1 1280 _) (rdRows_is H.d arg4 harg4 1280 _) (rd_is H.l arg5 harg5 1280 0 _) (rdRows_is H.k arg2 harg2 1280 _) (rdRows_is H.v arg3 harg3 1280 _) (rd_is H.c arg6 harg6 0 1280 _) (rdRows_is H.k arg2 harg2 0 _) (rdRows_is H.v arg3 harg3 0 _) (rd_is H.c arg6 harg6 0 0 _)
theorem ds5r_is : Is2 (ds5r (F := Ideal) arg1 harg1 arg2 harg2 arg3 harg3 arg4 harg4 arg5 harg5 arg6 harg6 x0 x1 x2 x3 x4 x5) fun r s => dscore Q K V D C L (1280 + r) (0 + s) :=
  dsRest_is (by omega) (rdRows_is H.q arg1 harg1 1280 _) (rdRows_is H.d arg4 harg4 1280 _) (rd_is H.l arg5 harg5 1280 0 _) (rdRows_is H.k arg2 harg2 1280 _) (rdRows_is H.v arg3 harg3 1280 _) (rd_is H.c arg6 harg6 0 1280 _) (rdRows_is H.k arg2 harg2 0 _) (rdRows_is H.v arg3 harg3 0 _) (rd_is H.c arg6 harg6 0 0 _)
theorem qs6_is : Is2 (qs6 (F := Ideal) arg1 harg1 x0) fun r e => Q (1536 + r) e * (1 / 8) := qScaled_is span256 (rdRows_is H.q arg1 harg1 1536 _)
theorem do6_is : Is2 (do6 (F := Ideal) arg4 harg4 x3) fun r e => D (1536 + r) e := Is3.flat (rdRows_is H.d arg4 harg4 1536 _) span256.keys
theorem p6_is : Is2 (p6 (F := Ideal) arg1 harg1 arg2 harg2 arg5 harg5 arg6 harg6 x0 x1 x4 x5) fun r s => prob Q K C L (1536 + r) (1536 + s) := pDiag_is (rdRows_is H.q arg1 harg1 1536 _) (rd_is H.l arg5 harg5 1536 0 _) (rdRows_is H.k arg2 harg2 1536 _) (rd_is H.c arg6 harg6 0 1536 _)
theorem p6r_is : Is2 (p6r (F := Ideal) arg1 harg1 arg2 harg2 arg5 harg5 arg6 harg6 x0 x1 x4 x5) fun r s => prob Q K C L (1536 + r) (0 + s) := pRest_is (rdRows_is H.q arg1 harg1 1536 _) (rd_is H.l arg5 harg5 1536 0 _) (rdRows_is H.k arg2 harg2 0 _) (rd_is H.c arg6 harg6 0 0 _)
theorem ds6_is : Is2 (ds6 (F := Ideal) arg1 harg1 arg2 harg2 arg3 harg3 arg4 harg4 arg5 harg5 arg6 harg6 x0 x1 x2 x3 x4 x5) fun r s => dscore Q K V D C L (1536 + r) (1536 + s) :=
  dsDiag_is (by omega) (rdRows_is H.q arg1 harg1 1536 _) (rdRows_is H.d arg4 harg4 1536 _) (rd_is H.l arg5 harg5 1536 0 _) (rdRows_is H.k arg2 harg2 1536 _) (rdRows_is H.v arg3 harg3 1536 _) (rd_is H.c arg6 harg6 0 1536 _) (rdRows_is H.k arg2 harg2 0 _) (rdRows_is H.v arg3 harg3 0 _) (rd_is H.c arg6 harg6 0 0 _)
theorem ds6r_is : Is2 (ds6r (F := Ideal) arg1 harg1 arg2 harg2 arg3 harg3 arg4 harg4 arg5 harg5 arg6 harg6 x0 x1 x2 x3 x4 x5) fun r s => dscore Q K V D C L (1536 + r) (0 + s) :=
  dsRest_is (by omega) (rdRows_is H.q arg1 harg1 1536 _) (rdRows_is H.d arg4 harg4 1536 _) (rd_is H.l arg5 harg5 1536 0 _) (rdRows_is H.k arg2 harg2 1536 _) (rdRows_is H.v arg3 harg3 1536 _) (rd_is H.c arg6 harg6 0 1536 _) (rdRows_is H.k arg2 harg2 0 _) (rdRows_is H.v arg3 harg3 0 _) (rd_is H.c arg6 harg6 0 0 _)
theorem qs7_is : Is2 (qs7 (F := Ideal) arg1 harg1 x0) fun r e => Q (1792 + r) e * (1 / 8) := qScaled_is span256 (rdRows_is H.q arg1 harg1 1792 _)
theorem do7_is : Is2 (do7 (F := Ideal) arg4 harg4 x3) fun r e => D (1792 + r) e := Is3.flat (rdRows_is H.d arg4 harg4 1792 _) span256.keys
theorem p7_is : Is2 (p7 (F := Ideal) arg1 harg1 arg2 harg2 arg5 harg5 arg6 harg6 x0 x1 x4 x5) fun r s => prob Q K C L (1792 + r) (1792 + s) := pDiag_is (rdRows_is H.q arg1 harg1 1792 _) (rd_is H.l arg5 harg5 1792 0 _) (rdRows_is H.k arg2 harg2 1792 _) (rd_is H.c arg6 harg6 0 1792 _)
theorem p7r_is : Is2 (p7r (F := Ideal) arg1 harg1 arg2 harg2 arg5 harg5 arg6 harg6 x0 x1 x4 x5) fun r s => prob Q K C L (1792 + r) (0 + s) := pRest_is (rdRows_is H.q arg1 harg1 1792 _) (rd_is H.l arg5 harg5 1792 0 _) (rdRows_is H.k arg2 harg2 0 _) (rd_is H.c arg6 harg6 0 0 _)
theorem ds7_is : Is2 (ds7 (F := Ideal) arg1 harg1 arg2 harg2 arg3 harg3 arg4 harg4 arg5 harg5 arg6 harg6 x0 x1 x2 x3 x4 x5) fun r s => dscore Q K V D C L (1792 + r) (1792 + s) :=
  dsDiag_is (by omega) (rdRows_is H.q arg1 harg1 1792 _) (rdRows_is H.d arg4 harg4 1792 _) (rd_is H.l arg5 harg5 1792 0 _) (rdRows_is H.k arg2 harg2 1792 _) (rdRows_is H.v arg3 harg3 1792 _) (rd_is H.c arg6 harg6 0 1792 _) (rdRows_is H.k arg2 harg2 0 _) (rdRows_is H.v arg3 harg3 0 _) (rd_is H.c arg6 harg6 0 0 _)
theorem ds7r_is : Is2 (ds7r (F := Ideal) arg1 harg1 arg2 harg2 arg3 harg3 arg4 harg4 arg5 harg5 arg6 harg6 x0 x1 x2 x3 x4 x5) fun r s => dscore Q K V D C L (1792 + r) (0 + s) :=
  dsRest_is (by omega) (rdRows_is H.q arg1 harg1 1792 _) (rdRows_is H.d arg4 harg4 1792 _) (rd_is H.l arg5 harg5 1792 0 _) (rdRows_is H.k arg2 harg2 1792 _) (rdRows_is H.v arg3 harg3 1792 _) (rd_is H.c arg6 harg6 0 1792 _) (rdRows_is H.k arg2 harg2 0 _) (rdRows_is H.v arg3 harg3 0 _) (rd_is H.c arg6 harg6 0 0 _)

/-! ## The accumulated outputs -/

omit H in
theorem z7_is : Is3 (View.canon (sl.H7_1 (F := Ideal))) fun _ _ => 0 := by
  rw [H7_1]
  refine fun u s e => ?_
  rw [show ix3 u s e = (Rect.unit (s := S1x2048x64) ![0, 0, 0] ![1, 2048, 64] (by decide)).emb (ix3 u s e) from
    (by rw [unit_idx 0 0 _ u s e (by omega) (by omega)]; congr 1 <;> exact Fin.ext (Nat.zero_add _).symm), View.canon_cons_emb]
  exact zero_f32

omit H in
theorem z9_is : Is3 (View.canon (sl.H9_1 (F := Ideal))) fun _ _ => 0 := by
  rw [H9_1]
  refine fun u s e => ?_
  rw [show ix3 u s e = (Rect.unit (s := S1x1x2048) ![0, 0, 0] ![1, 1, 2048] (by decide)).emb (ix3 u s e) from
    (by rw [unit_idx 0 0 _ u s e (by omega) (by omega)]; congr 1 <;> exact Fin.ext (Nat.zero_add _).symm), View.canon_cons_emb]
  exact zero_f32

theorem A7_0 : Is3 (View.canon (sl.H7_2 (F := Ideal) c arg1 harg1 arg2 harg2 arg3 harg3 arg4 harg4 arg5 harg5 arg6 harg6 arg8 x0 x1 x2 x3 x4 x5)) (fun s e => ∑ t ∈ range 256, partK Q K V D C L t s e) := by
  rw [H7_2]
  exact held_first (X := partK Q K V D C L) (partK_zero Q K V D C L) z7_is _ (addRows_is span256 (held_load z7_is arg8 0 0 _) (ds0_is arg1 harg1 arg2 harg2 arg3 harg3 arg4 harg4 arg5 harg5 arg6 harg6 H) (qs0_is arg1 harg1 H))
theorem A8_0 : Is3 (View.canon (sl.H8_2 (F := Ideal) c arg1 harg1 arg2 harg2 arg4 harg4 arg5 harg5 arg6 harg6 arg9 x0 x1 x3 x4 x5)) (fun s e => ∑ t ∈ range 256, partV Q K D C L t s e) := by
  rw [H8_2]
  exact held_first (X := partV Q K D C L) (partV_zero Q K D C L) z7_is _ (addRows_is span256 (held_load z7_is arg9 0 0 _) (p0_is arg1 harg1 arg2 harg2 arg5 harg5 arg6 harg6 H) (do0_is arg4 harg4 H))
theorem A9_0 : Is3 (View.canon (sl.H9_2 (F := Ideal) c arg1 harg1 arg2 harg2 arg3 harg3 arg4 harg4 arg5 harg5 arg6 harg6 arg10 x0 x1 x2 x3 x4 x5)) (fun _ s => - ∑ t ∈ range 256, dscore Q K V D C L t s) := by
  rw [H9_2]
  exact held_first_c (Y := dscore Q K V D C L) (fun t s h => dscore_of_lt h) z9_is _ (subRows_is span256 (held_load z9_is arg10 0 0 _) (ds0_is arg1 harg1 arg2 harg2 arg3 harg3 arg4 harg4 arg5 harg5 arg6 harg6 H))
theorem A7_1 : Is3 (View.canon (sl.H7_4 (F := Ideal) c arg1 harg1 arg2 harg2 arg3 harg3 arg4 harg4 arg5 harg5 arg6 harg6 arg8 x0 x1 x2 x3 x4 x5)) (fun s e => ∑ t ∈ range 512, partK Q K V D C L t s e) := by
  rw [H7_4]
  exact held_block (X := partK Q K V D C L) (partK_zero Q K V D C L) (A7_0 c arg1 harg1 arg2 harg2 arg3 harg3 arg4 harg4 arg5 harg5 arg6 harg6 arg8 H) _ _ (H7_3 c arg1 harg1 arg2 harg2 arg3 harg3 arg4 harg4 arg5 harg5 arg6 harg6 arg8 x0 x1 x2 x3 x4 x5) (fun f hf => addRows_is span256 (held_load hf arg8 256 0 _) (ds1_is arg1 harg1 arg2 harg2 arg3 harg3 arg4 harg4 arg5 harg5 arg6 harg6 H) (qs1_is arg1 harg1 H))
    (fun f hf => addRows_is span256 (held_load hf arg8 0 0 _) (ds1r_is arg1 harg1 arg2 harg2 arg3 harg3 arg4 harg4 arg5 harg5 arg6 harg6 H) (qs1_is arg1 harg1 H))
theorem A8_1 : Is3 (View.canon (sl.H8_4 (F := Ideal) c arg1 harg1 arg2 harg2 arg4 harg4 arg5 harg5 arg6 harg6 arg9 x0 x1 x3 x4 x5)) (fun s e => ∑ t ∈ range 512, partV Q K D C L t s e) := by
  rw [H8_4]
  exact held_block (X := partV Q K D C L) (partV_zero Q K D C L) (A8_0 c arg1 harg1 arg2 harg2 arg4 harg4 arg5 harg5 arg6 harg6 arg9 H) _ _ (H8_3 c arg1 harg1 arg2 harg2 arg4 harg4 arg5 harg5 arg6 harg6 arg9 x0 x1 x3 x4 x5) (fun f hf => addRows_is span256 (held_load hf arg9 256 0 _) (p1_is arg1 harg1 arg2 harg2 arg5 harg5 arg6 harg6 H) (do1_is arg4 harg4 H))
    (fun f hf => addRows_is span256 (held_load hf arg9 0 0 _) (p1r_is arg1 harg1 arg2 harg2 arg5 harg5 arg6 harg6 H) (do1_is arg4 harg4 H))
theorem A9_1 : Is3 (View.canon (sl.H9_4 (F := Ideal) c arg1 harg1 arg2 harg2 arg3 harg3 arg4 harg4 arg5 harg5 arg6 harg6 arg10 x0 x1 x2 x3 x4 x5)) (fun _ s => - ∑ t ∈ range 512, dscore Q K V D C L t s) := by
  rw [H9_4]
  exact held_block_c (Y := dscore Q K V D C L) (fun t s h => dscore_of_lt h) (A9_0 c arg1 harg1 arg2 harg2 arg3 harg3 arg4 harg4 arg5 harg5 arg6 harg6 arg10 H) _ _ (H9_3 c arg1 harg1 arg2 harg2 arg3 harg3 arg4 harg4 arg5 harg5 arg6 harg6 arg10 x0 x1 x2 x3 x4 x5) (fun f hf => subRows_is span256 (held_load hf arg10 0 256 _) (ds1_is arg1 harg1 arg2 harg2 arg3 harg3 arg4 harg4 arg5 harg5 arg6 harg6 H))
    (fun f hf => subRows_is span256 (held_load hf arg10 0 0 _) (ds1r_is arg1 harg1 arg2 harg2 arg3 harg3 arg4 harg4 arg5 harg5 arg6 harg6 H))
theorem A7_2 : Is3 (View.canon (sl.H7_6 (F := Ideal) c arg1 harg1 arg2 harg2 arg3 harg3 arg4 harg4 arg5 harg5 arg6 harg6 arg8 x0 x1 x2 x3 x4 x5)) (fun s e => ∑ t ∈ range 768, partK Q K V D C L t s e) := by
  rw [H7_6]
  exact held_block (X := partK Q K V D C L) (partK_zero Q K V D C L) (A7_1 c arg1 harg1 arg2 harg2 arg3 harg3 arg4 harg4 arg5 harg5 arg6 harg6 arg8 H) _ _ (H7_5 c arg1 harg1 arg2 harg2 arg3 harg3 arg4 harg4 arg5 harg5 arg6 harg6 arg8 x0 x1 x2 x3 x4 x5) (fun f hf => addRows_is span256 (held_load hf arg8 512 0 _) (ds2_is arg1 harg1 arg2 harg2 arg3 harg3 arg4 harg4 arg5 harg5 arg6 harg6 H) (qs2_is arg1 harg1 H))
    (fun f hf => addRows_is span512 (held_load hf arg8 0 0 _) (ds2r_is arg1 harg1 arg2 harg2 arg3 harg3 arg4 harg4 arg5 harg5 arg6 harg6 H) (qs2_is arg1 harg1 H))
theorem A8_2 : Is3 (View.canon (sl.H8_6 (F := Ideal) c arg1 harg1 arg2 harg2 arg4 harg4 arg5 harg5 arg6 harg6 arg9 x0 x1 x3 x4 x5)) (fun s e => ∑ t ∈ range 768, partV Q K D C L t s e) := by
  rw [H8_6]
  exact held_block (X := partV Q K D C L) (partV_zero Q K D C L) (A8_1 c arg1 harg1 arg2 harg2 arg4 harg4 arg5 harg5 arg6 harg6 arg9 H) _ _ (H8_5 c arg1 harg1 arg2 harg2 arg4 harg4 arg5 harg5 arg6 harg6 arg9 x0 x1 x3 x4 x5) (fun f hf => addRows_is span256 (held_load hf arg9 512 0 _) (p2_is arg1 harg1 arg2 harg2 arg5 harg5 arg6 harg6 H) (do2_is arg4 harg4 H))
    (fun f hf => addRows_is span512 (held_load hf arg9 0 0 _) (p2r_is arg1 harg1 arg2 harg2 arg5 harg5 arg6 harg6 H) (do2_is arg4 harg4 H))
theorem A9_2 : Is3 (View.canon (sl.H9_6 (F := Ideal) c arg1 harg1 arg2 harg2 arg3 harg3 arg4 harg4 arg5 harg5 arg6 harg6 arg10 x0 x1 x2 x3 x4 x5)) (fun _ s => - ∑ t ∈ range 768, dscore Q K V D C L t s) := by
  rw [H9_6]
  exact held_block_c (Y := dscore Q K V D C L) (fun t s h => dscore_of_lt h) (A9_1 c arg1 harg1 arg2 harg2 arg3 harg3 arg4 harg4 arg5 harg5 arg6 harg6 arg10 H) _ _ (H9_5 c arg1 harg1 arg2 harg2 arg3 harg3 arg4 harg4 arg5 harg5 arg6 harg6 arg10 x0 x1 x2 x3 x4 x5) (fun f hf => subRows_is span256 (held_load hf arg10 0 512 _) (ds2_is arg1 harg1 arg2 harg2 arg3 harg3 arg4 harg4 arg5 harg5 arg6 harg6 H))
    (fun f hf => subRows_is span512 (held_load hf arg10 0 0 _) (ds2r_is arg1 harg1 arg2 harg2 arg3 harg3 arg4 harg4 arg5 harg5 arg6 harg6 H))
theorem A7_3 : Is3 (View.canon (sl.H7_8 (F := Ideal) c arg1 harg1 arg2 harg2 arg3 harg3 arg4 harg4 arg5 harg5 arg6 harg6 arg8 x0 x1 x2 x3 x4 x5)) (fun s e => ∑ t ∈ range 1024, partK Q K V D C L t s e) := by
  rw [H7_8]
  exact held_block (X := partK Q K V D C L) (partK_zero Q K V D C L) (A7_2 c arg1 harg1 arg2 harg2 arg3 harg3 arg4 harg4 arg5 harg5 arg6 harg6 arg8 H) _ _ (H7_7 c arg1 harg1 arg2 harg2 arg3 harg3 arg4 harg4 arg5 harg5 arg6 harg6 arg8 x0 x1 x2 x3 x4 x5) (fun f hf => addRows_is span256 (held_load hf arg8 768 0 _) (ds3_is arg1 harg1 arg2 harg2 arg3 harg3 arg4 harg4 arg5 harg5 arg6 harg6 H) (qs3_is arg1 harg1 H))
    (fun f hf => addRows_is span768 (held_load hf arg8 0 0 _) (ds3r_is arg1 harg1 arg2 harg2 arg3 harg3 arg4 harg4 arg5 harg5 arg6 harg6 H) (qs3_is arg1 harg1 H))
theorem A8_3 : Is3 (View.canon (sl.H8_8 (F := Ideal) c arg1 harg1 arg2 harg2 arg4 harg4 arg5 harg5 arg6 harg6 arg9 x0 x1 x3 x4 x5)) (fun s e => ∑ t ∈ range 1024, partV Q K D C L t s e) := by
  rw [H8_8]
  exact held_block (X := partV Q K D C L) (partV_zero Q K D C L) (A8_2 c arg1 harg1 arg2 harg2 arg4 harg4 arg5 harg5 arg6 harg6 arg9 H) _ _ (H8_7 c arg1 harg1 arg2 harg2 arg4 harg4 arg5 harg5 arg6 harg6 arg9 x0 x1 x3 x4 x5) (fun f hf => addRows_is span256 (held_load hf arg9 768 0 _) (p3_is arg1 harg1 arg2 harg2 arg5 harg5 arg6 harg6 H) (do3_is arg4 harg4 H))
    (fun f hf => addRows_is span768 (held_load hf arg9 0 0 _) (p3r_is arg1 harg1 arg2 harg2 arg5 harg5 arg6 harg6 H) (do3_is arg4 harg4 H))
theorem A9_3 : Is3 (View.canon (sl.H9_8 (F := Ideal) c arg1 harg1 arg2 harg2 arg3 harg3 arg4 harg4 arg5 harg5 arg6 harg6 arg10 x0 x1 x2 x3 x4 x5)) (fun _ s => - ∑ t ∈ range 1024, dscore Q K V D C L t s) := by
  rw [H9_8]
  exact held_block_c (Y := dscore Q K V D C L) (fun t s h => dscore_of_lt h) (A9_2 c arg1 harg1 arg2 harg2 arg3 harg3 arg4 harg4 arg5 harg5 arg6 harg6 arg10 H) _ _ (H9_7 c arg1 harg1 arg2 harg2 arg3 harg3 arg4 harg4 arg5 harg5 arg6 harg6 arg10 x0 x1 x2 x3 x4 x5) (fun f hf => subRows_is span256 (held_load hf arg10 0 768 _) (ds3_is arg1 harg1 arg2 harg2 arg3 harg3 arg4 harg4 arg5 harg5 arg6 harg6 H))
    (fun f hf => subRows_is span768 (held_load hf arg10 0 0 _) (ds3r_is arg1 harg1 arg2 harg2 arg3 harg3 arg4 harg4 arg5 harg5 arg6 harg6 H))
theorem A7_4 : Is3 (View.canon (sl.H7_10 (F := Ideal) c arg1 harg1 arg2 harg2 arg3 harg3 arg4 harg4 arg5 harg5 arg6 harg6 arg8 x0 x1 x2 x3 x4 x5)) (fun s e => ∑ t ∈ range 1280, partK Q K V D C L t s e) := by
  rw [H7_10]
  exact held_block (X := partK Q K V D C L) (partK_zero Q K V D C L) (A7_3 c arg1 harg1 arg2 harg2 arg3 harg3 arg4 harg4 arg5 harg5 arg6 harg6 arg8 H) _ _ (H7_9 c arg1 harg1 arg2 harg2 arg3 harg3 arg4 harg4 arg5 harg5 arg6 harg6 arg8 x0 x1 x2 x3 x4 x5) (fun f hf => addRows_is span256 (held_load hf arg8 1024 0 _) (ds4_is arg1 harg1 arg2 harg2 arg3 harg3 arg4 harg4 arg5 harg5 arg6 harg6 H) (qs4_is arg1 harg1 H))
    (fun f hf => addRows_is span1024 (held_load hf arg8 0 0 _) (ds4r_is arg1 harg1 arg2 harg2 arg3 harg3 arg4 harg4 arg5 harg5 arg6 harg6 H) (qs4_is arg1 harg1 H))
theorem A8_4 : Is3 (View.canon (sl.H8_10 (F := Ideal) c arg1 harg1 arg2 harg2 arg4 harg4 arg5 harg5 arg6 harg6 arg9 x0 x1 x3 x4 x5)) (fun s e => ∑ t ∈ range 1280, partV Q K D C L t s e) := by
  rw [H8_10]
  exact held_block (X := partV Q K D C L) (partV_zero Q K D C L) (A8_3 c arg1 harg1 arg2 harg2 arg4 harg4 arg5 harg5 arg6 harg6 arg9 H) _ _ (H8_9 c arg1 harg1 arg2 harg2 arg4 harg4 arg5 harg5 arg6 harg6 arg9 x0 x1 x3 x4 x5) (fun f hf => addRows_is span256 (held_load hf arg9 1024 0 _) (p4_is arg1 harg1 arg2 harg2 arg5 harg5 arg6 harg6 H) (do4_is arg4 harg4 H))
    (fun f hf => addRows_is span1024 (held_load hf arg9 0 0 _) (p4r_is arg1 harg1 arg2 harg2 arg5 harg5 arg6 harg6 H) (do4_is arg4 harg4 H))
theorem A9_4 : Is3 (View.canon (sl.H9_10 (F := Ideal) c arg1 harg1 arg2 harg2 arg3 harg3 arg4 harg4 arg5 harg5 arg6 harg6 arg10 x0 x1 x2 x3 x4 x5)) (fun _ s => - ∑ t ∈ range 1280, dscore Q K V D C L t s) := by
  rw [H9_10]
  exact held_block_c (Y := dscore Q K V D C L) (fun t s h => dscore_of_lt h) (A9_3 c arg1 harg1 arg2 harg2 arg3 harg3 arg4 harg4 arg5 harg5 arg6 harg6 arg10 H) _ _ (H9_9 c arg1 harg1 arg2 harg2 arg3 harg3 arg4 harg4 arg5 harg5 arg6 harg6 arg10 x0 x1 x2 x3 x4 x5) (fun f hf => subRows_is span256 (held_load hf arg10 0 1024 _) (ds4_is arg1 harg1 arg2 harg2 arg3 harg3 arg4 harg4 arg5 harg5 arg6 harg6 H))
    (fun f hf => subRows_is span1024 (held_load hf arg10 0 0 _) (ds4r_is arg1 harg1 arg2 harg2 arg3 harg3 arg4 harg4 arg5 harg5 arg6 harg6 H))
theorem A7_5 : Is3 (View.canon (sl.H7_12 (F := Ideal) c arg1 harg1 arg2 harg2 arg3 harg3 arg4 harg4 arg5 harg5 arg6 harg6 arg8 x0 x1 x2 x3 x4 x5)) (fun s e => ∑ t ∈ range 1536, partK Q K V D C L t s e) := by
  rw [H7_12]
  exact held_block (X := partK Q K V D C L) (partK_zero Q K V D C L) (A7_4 c arg1 harg1 arg2 harg2 arg3 harg3 arg4 harg4 arg5 harg5 arg6 harg6 arg8 H) _ _ (H7_11 c arg1 harg1 arg2 harg2 arg3 harg3 arg4 harg4 arg5 harg5 arg6 harg6 arg8 x0 x1 x2 x3 x4 x5) (fun f hf => addRows_is span256 (held_load hf arg8 1280 0 _) (ds5_is arg1 harg1 arg2 harg2 arg3 harg3 arg4 harg4 arg5 harg5 arg6 harg6 H) (qs5_is arg1 harg1 H))
    (fun f hf => addRows_is span1280 (held_load hf arg8 0 0 _) (ds5r_is arg1 harg1 arg2 harg2 arg3 harg3 arg4 harg4 arg5 harg5 arg6 harg6 H) (qs5_is arg1 harg1 H))
theorem A8_5 : Is3 (View.canon (sl.H8_12 (F := Ideal) c arg1 harg1 arg2 harg2 arg4 harg4 arg5 harg5 arg6 harg6 arg9 x0 x1 x3 x4 x5)) (fun s e => ∑ t ∈ range 1536, partV Q K D C L t s e) := by
  rw [H8_12]
  exact held_block (X := partV Q K D C L) (partV_zero Q K D C L) (A8_4 c arg1 harg1 arg2 harg2 arg4 harg4 arg5 harg5 arg6 harg6 arg9 H) _ _ (H8_11 c arg1 harg1 arg2 harg2 arg4 harg4 arg5 harg5 arg6 harg6 arg9 x0 x1 x3 x4 x5) (fun f hf => addRows_is span256 (held_load hf arg9 1280 0 _) (p5_is arg1 harg1 arg2 harg2 arg5 harg5 arg6 harg6 H) (do5_is arg4 harg4 H))
    (fun f hf => addRows_is span1280 (held_load hf arg9 0 0 _) (p5r_is arg1 harg1 arg2 harg2 arg5 harg5 arg6 harg6 H) (do5_is arg4 harg4 H))
theorem A9_5 : Is3 (View.canon (sl.H9_12 (F := Ideal) c arg1 harg1 arg2 harg2 arg3 harg3 arg4 harg4 arg5 harg5 arg6 harg6 arg10 x0 x1 x2 x3 x4 x5)) (fun _ s => - ∑ t ∈ range 1536, dscore Q K V D C L t s) := by
  rw [H9_12]
  exact held_block_c (Y := dscore Q K V D C L) (fun t s h => dscore_of_lt h) (A9_4 c arg1 harg1 arg2 harg2 arg3 harg3 arg4 harg4 arg5 harg5 arg6 harg6 arg10 H) _ _ (H9_11 c arg1 harg1 arg2 harg2 arg3 harg3 arg4 harg4 arg5 harg5 arg6 harg6 arg10 x0 x1 x2 x3 x4 x5) (fun f hf => subRows_is span256 (held_load hf arg10 0 1280 _) (ds5_is arg1 harg1 arg2 harg2 arg3 harg3 arg4 harg4 arg5 harg5 arg6 harg6 H))
    (fun f hf => subRows_is span1280 (held_load hf arg10 0 0 _) (ds5r_is arg1 harg1 arg2 harg2 arg3 harg3 arg4 harg4 arg5 harg5 arg6 harg6 H))
theorem A7_6 : Is3 (View.canon (sl.H7_14 (F := Ideal) c arg1 harg1 arg2 harg2 arg3 harg3 arg4 harg4 arg5 harg5 arg6 harg6 arg8 x0 x1 x2 x3 x4 x5)) (fun s e => ∑ t ∈ range 1792, partK Q K V D C L t s e) := by
  rw [H7_14]
  exact held_block (X := partK Q K V D C L) (partK_zero Q K V D C L) (A7_5 c arg1 harg1 arg2 harg2 arg3 harg3 arg4 harg4 arg5 harg5 arg6 harg6 arg8 H) _ _ (H7_13 c arg1 harg1 arg2 harg2 arg3 harg3 arg4 harg4 arg5 harg5 arg6 harg6 arg8 x0 x1 x2 x3 x4 x5) (fun f hf => addRows_is span256 (held_load hf arg8 1536 0 _) (ds6_is arg1 harg1 arg2 harg2 arg3 harg3 arg4 harg4 arg5 harg5 arg6 harg6 H) (qs6_is arg1 harg1 H))
    (fun f hf => addRows_is span1536 (held_load hf arg8 0 0 _) (ds6r_is arg1 harg1 arg2 harg2 arg3 harg3 arg4 harg4 arg5 harg5 arg6 harg6 H) (qs6_is arg1 harg1 H))
theorem A8_6 : Is3 (View.canon (sl.H8_14 (F := Ideal) c arg1 harg1 arg2 harg2 arg4 harg4 arg5 harg5 arg6 harg6 arg9 x0 x1 x3 x4 x5)) (fun s e => ∑ t ∈ range 1792, partV Q K D C L t s e) := by
  rw [H8_14]
  exact held_block (X := partV Q K D C L) (partV_zero Q K D C L) (A8_5 c arg1 harg1 arg2 harg2 arg4 harg4 arg5 harg5 arg6 harg6 arg9 H) _ _ (H8_13 c arg1 harg1 arg2 harg2 arg4 harg4 arg5 harg5 arg6 harg6 arg9 x0 x1 x3 x4 x5) (fun f hf => addRows_is span256 (held_load hf arg9 1536 0 _) (p6_is arg1 harg1 arg2 harg2 arg5 harg5 arg6 harg6 H) (do6_is arg4 harg4 H))
    (fun f hf => addRows_is span1536 (held_load hf arg9 0 0 _) (p6r_is arg1 harg1 arg2 harg2 arg5 harg5 arg6 harg6 H) (do6_is arg4 harg4 H))
theorem A9_6 : Is3 (View.canon (sl.H9_14 (F := Ideal) c arg1 harg1 arg2 harg2 arg3 harg3 arg4 harg4 arg5 harg5 arg6 harg6 arg10 x0 x1 x2 x3 x4 x5)) (fun _ s => - ∑ t ∈ range 1792, dscore Q K V D C L t s) := by
  rw [H9_14]
  exact held_block_c (Y := dscore Q K V D C L) (fun t s h => dscore_of_lt h) (A9_5 c arg1 harg1 arg2 harg2 arg3 harg3 arg4 harg4 arg5 harg5 arg6 harg6 arg10 H) _ _ (H9_13 c arg1 harg1 arg2 harg2 arg3 harg3 arg4 harg4 arg5 harg5 arg6 harg6 arg10 x0 x1 x2 x3 x4 x5) (fun f hf => subRows_is span256 (held_load hf arg10 0 1536 _) (ds6_is arg1 harg1 arg2 harg2 arg3 harg3 arg4 harg4 arg5 harg5 arg6 harg6 H))
    (fun f hf => subRows_is span1536 (held_load hf arg10 0 0 _) (ds6r_is arg1 harg1 arg2 harg2 arg3 harg3 arg4 harg4 arg5 harg5 arg6 harg6 H))
theorem A7_7 : Is3 (View.canon ((kernelRun0_A (F := Ideal) c i arg1 harg1 arg2 harg2 arg3 harg3 arg4 harg4 arg5 harg5 arg6 harg6 arg7 harg7 arg8 harg8 arg9 harg9 arg10 harg10 x0 x1 x2 x3 x4 x5).2.1)) (fun s e => ∑ t ∈ range 2048, partK Q K V D C L t s e) := by
  rw [H7_16]
  exact held_block (X := partK Q K V D C L) (partK_zero Q K V D C L) (A7_6 c arg1 harg1 arg2 harg2 arg3 harg3 arg4 harg4 arg5 harg5 arg6 harg6 arg8 H) _ _ (H7_15 c arg1 harg1 arg2 harg2 arg3 harg3 arg4 harg4 arg5 harg5 arg6 harg6 arg8 x0 x1 x2 x3 x4 x5) (fun f hf => addRows_is span256 (held_load hf arg8 1792 0 _) (ds7_is arg1 harg1 arg2 harg2 arg3 harg3 arg4 harg4 arg5 harg5 arg6 harg6 H) (qs7_is arg1 harg1 H))
    (fun f hf => addRows_is span1792 (held_load hf arg8 0 0 _) (ds7r_is arg1 harg1 arg2 harg2 arg3 harg3 arg4 harg4 arg5 harg5 arg6 harg6 H) (qs7_is arg1 harg1 H))
theorem A8_7 : Is3 (View.canon ((kernelRun0_A (F := Ideal) c i arg1 harg1 arg2 harg2 arg3 harg3 arg4 harg4 arg5 harg5 arg6 harg6 arg7 harg7 arg8 harg8 arg9 harg9 arg10 harg10 x0 x1 x2 x3 x4 x5).2.2.1)) (fun s e => ∑ t ∈ range 2048, partV Q K D C L t s e) := by
  rw [H8_16]
  exact held_block (X := partV Q K D C L) (partV_zero Q K D C L) (A8_6 c arg1 harg1 arg2 harg2 arg4 harg4 arg5 harg5 arg6 harg6 arg9 H) _ _ (H8_15 c arg1 harg1 arg2 harg2 arg4 harg4 arg5 harg5 arg6 harg6 arg9 x0 x1 x3 x4 x5) (fun f hf => addRows_is span256 (held_load hf arg9 1792 0 _) (p7_is arg1 harg1 arg2 harg2 arg5 harg5 arg6 harg6 H) (do7_is arg4 harg4 H))
    (fun f hf => addRows_is span1792 (held_load hf arg9 0 0 _) (p7r_is arg1 harg1 arg2 harg2 arg5 harg5 arg6 harg6 H) (do7_is arg4 harg4 H))
theorem A9_7 : Is3 (View.canon ((kernelRun0_A (F := Ideal) c i arg1 harg1 arg2 harg2 arg3 harg3 arg4 harg4 arg5 harg5 arg6 harg6 arg7 harg7 arg8 harg8 arg9 harg9 arg10 harg10 x0 x1 x2 x3 x4 x5).2.2.2.1)) (fun _ s => - ∑ t ∈ range 2048, dscore Q K V D C L t s) := by
  rw [H9_16]
  exact held_block_c (Y := dscore Q K V D C L) (fun t s h => dscore_of_lt h) (A9_6 c arg1 harg1 arg2 harg2 arg3 harg3 arg4 harg4 arg5 harg5 arg6 harg6 arg10 H) _ _ (H9_15 c arg1 harg1 arg2 harg2 arg3 harg3 arg4 harg4 arg5 harg5 arg6 harg6 arg10 x0 x1 x2 x3 x4 x5) (fun f hf => subRows_is span256 (held_load hf arg10 0 1792 _) (ds7_is arg1 harg1 arg2 harg2 arg3 harg3 arg4 harg4 arg5 harg5 arg6 harg6 H))
    (fun f hf => subRows_is span1792 (held_load hf arg10 0 0 _) (ds7r_is arg1 harg1 arg2 harg2 arg3 harg3 arg4 harg4 arg5 harg5 arg6 harg6 H))

/-! ## The queries' gradient -/

omit H in
/-- A store of a block of rows agrees with the gradient at the places it goes to. -/
theorem rows_agree {a : ℕ} (hb : ∀ ax, (![0, a, 0] : Fin 3 → ℕ) ax + (![1, 256, 64] : Fin 3 → ℕ) ax ≤ S1x2048x64.size ax)
    {pay : (⟨3, ![1, 256, 64]⟩ : Shape).Idx → EReal} (hp : Is3 pay fun r e => gq Q K V D C L (a + r) e) (x : (⟨3, ![1, 256, 64]⟩ : Shape).Idx) :
    pay x = ((gq Q K V D C L ((Rect.unit (s := S1x2048x64) ![0, a, 0] ![1, 256, 64] hb).emb x 1).val
      ((Rect.unit (s := S1x2048x64) ![0, a, 0] ![1, 256, 64] hb).emb x 2).val : ℝ) : EReal) := by
  obtain ⟨u, r, e, rfl⟩ : ∃ u r e, x = ix3 u r e := ⟨x 0, x 1, x 2, eq_ix3 x⟩
  have h1 : a + 256 ≤ 2048 := hb 1
  rw [unit_idx a 0 hb u r e (by omega) (by omega), hp]
  show _ = ((gq Q K V D C L (a + r) (0 + e) : ℝ) : EReal)
  rw [Nat.zero_add]

theorem A6 : Is3 (View.canon (kernelRun0_A (F := Ideal) c i arg1 harg1 arg2 harg2 arg3 harg3 arg4 harg4 arg5 harg5 arg6 harg6 arg7 harg7 arg8 harg8 arg9 harg9 arg10 harg10 x0 x1 x2 x3 x4 x5).1) (gq Q K V D C L) := fun u s e => by
  refine View.canon_apply_of_pieces (fun y => ((gq Q K V D C L (y 1).val (y 2).val : ℝ) : EReal)) _ (fun p hp => ?_) (ix3 u s e)
    (cover0_A_6 c i arg1 harg1 arg2 harg2 arg3 harg3 arg4 harg4 arg5 harg5 arg6 harg6 arg7 harg7 arg8 harg8 arg9 harg9 arg10 harg10 x0 x1 x2 x3 x4 x5 _)
  rw [H6] at hp
  simp only [List.mem_cons, List.mem_nil_iff, or_false] at hp
  rcases hp with rfl | rfl | rfl | rfl | rfl | rfl | rfl | rfl
  · exact rows_agree (a := 1792) (by decide) (outLater_is (by omega) (ds7_is arg1 harg1 arg2 harg2 arg3 harg3 arg4 harg4 arg5 harg5 arg6 harg6 H) (ds7r_is arg1 harg1 arg2 harg2 arg3 harg3 arg4 harg4 arg5 harg5 arg6 harg6 H) (rdRows_is H.k arg2 harg2 1792 _) (rdRows_is H.k arg2 harg2 0 _))
  · exact rows_agree (a := 1536) (by decide) (outLater_is (by omega) (ds6_is arg1 harg1 arg2 harg2 arg3 harg3 arg4 harg4 arg5 harg5 arg6 harg6 H) (ds6r_is arg1 harg1 arg2 harg2 arg3 harg3 arg4 harg4 arg5 harg5 arg6 harg6 H) (rdRows_is H.k arg2 harg2 1536 _) (rdRows_is H.k arg2 harg2 0 _))
  · exact rows_agree (a := 1280) (by decide) (outLater_is (by omega) (ds5_is arg1 harg1 arg2 harg2 arg3 harg3 arg4 harg4 arg5 harg5 arg6 harg6 H) (ds5r_is arg1 harg1 arg2 harg2 arg3 harg3 arg4 harg4 arg5 harg5 arg6 harg6 H) (rdRows_is H.k arg2 harg2 1280 _) (rdRows_is H.k arg2 harg2 0 _))
  · exact rows_agree (a := 1024) (by decide) (outLater_is (by omega) (ds4_is arg1 harg1 arg2 harg2 arg3 harg3 arg4 harg4 arg5 harg5 arg6 harg6 H) (ds4r_is arg1 harg1 arg2 harg2 arg3 harg3 arg4 harg4 arg5 harg5 arg6 harg6 H) (rdRows_is H.k arg2 harg2 1024 _) (rdRows_is H.k arg2 harg2 0 _))
  · exact rows_agree (a := 768) (by decide) (outLater_is (by omega) (ds3_is arg1 harg1 arg2 harg2 arg3 harg3 arg4 harg4 arg5 harg5 arg6 harg6 H) (ds3r_is arg1 harg1 arg2 harg2 arg3 harg3 arg4 harg4 arg5 harg5 arg6 harg6 H) (rdRows_is H.k arg2 harg2 768 _) (rdRows_is H.k arg2 harg2 0 _))
  · exact rows_agree (a := 512) (by decide) (outLater_is (by omega) (ds2_is arg1 harg1 arg2 harg2 arg3 harg3 arg4 harg4 arg5 harg5 arg6 harg6 H) (ds2r_is arg1 harg1 arg2 harg2 arg3 harg3 arg4 harg4 arg5 harg5 arg6 harg6 H) (rdRows_is H.k arg2 harg2 512 _) (rdRows_is H.k arg2 harg2 0 _))
  · exact rows_agree (a := 256) (by decide) (outLater_is (by omega) (ds1_is arg1 harg1 arg2 harg2 arg3 harg3 arg4 harg4 arg5 harg5 arg6 harg6 H) (ds1r_is arg1 harg1 arg2 harg2 arg3 harg3 arg4 harg4 arg5 harg5 arg6 harg6 H) (rdRows_is H.k arg2 harg2 256 _) (rdRows_is H.k arg2 harg2 0 _))
  · exact rows_agree (a := 0) (by decide) (outFirst_is (ds0_is arg1 harg1 arg2 harg2 arg3 harg3 arg4 harg4 arg5 harg5 arg6 harg6 H) (rdRows_is H.k arg2 harg2 0 _))

end Fox

end
-- ==== Proof.HostValue.lean ====
/- What the host's operations on arrays of eight heads are over the extended reals, when their operands hold real numbers. -/
module

public import proofs.«01_k».proof.Proof.BlockValue
public import Idealize.ShloMosaic.Lib.ValueLayout

@[expose] public section

noncomputable section

namespace Fox

open Idealize.ShloMosaic Idealize.ShloMosaic.ValueIdx Finset

/-- An array of eight heads holds the real numbers `f`. -/
def Heads {b w : ℕ} (x : (⟨3, ![8, b, w]⟩ : Shape).Idx → EReal) (f : ℕ → ℕ → ℕ → ℝ) : Prop :=
  ∀ (h : Fin 8) (i : Fin b) (j : Fin w), x (ix3 h i j) = ((f h i j : ℝ) : EReal)

/-- One row for each of the eight heads holds the real numbers `f`. -/
def Rows {n : ℕ} (x : (⟨2, ![8, n]⟩ : Shape).Idx → EReal) (f : ℕ → ℕ → ℝ) : Prop :=
  ∀ (h : Fin 8) (i : Fin n), x (ix2 h i) = ((f h i : ℝ) : EReal)

/-- On and below the diagonal the array holds the real numbers `f`; above it, `-∞`. -/
def Masked {n : ℕ} (x : (⟨3, ![8, n, n]⟩ : Shape).Idx → EReal) (f : ℕ → ℕ → ℕ → ℝ) : Prop :=
  ∀ (h : Fin 8) (i j : Fin n), x (ix3 h i j) = if j.val ≤ i.val then ((f h i j : ℝ) : EReal) else ⊥

/-- The bit of an entry is set on and below the diagonal. -/
def Causal {n : ℕ} (x : (⟨3, ![8, n, n]⟩ : Shape).Idx → BitVec 1) : Prop :=
  ∀ (h : Fin 8) (i j : Fin n), x (ix3 h i j) = if j.val ≤ i.val then 1#1 else 0#1

variable {b w n : ℕ} {f g : ℕ → ℕ → ℕ → ℝ}

theorem Heads.congr {x : (⟨3, ![8, b, w]⟩ : Shape).Idx → EReal} (h : Heads x f) (e : ∀ a < 8, ∀ i < b, ∀ j < w, f a i j = g a i j) : Heads x g :=
  fun a i j => (h a i j).trans (by rw [e a a.isLt i i.isLt j j.isLt])

theorem Rows.congr {x : (⟨2, ![8, n]⟩ : Shape).Idx → EReal} {p q : ℕ → ℕ → ℝ} (h : Rows x p) (e : ∀ a < 8, ∀ i < n, p a i = q a i) : Rows x q :=
  fun a i => (h a i).trans (by rw [e a a.isLt i i.isLt])

/-- Two arrays that hold the same real numbers are equal. -/
theorem Heads.eq {x y : (⟨3, ![8, b, w]⟩ : Shape).Idx → EReal} (hx : Heads x f) (hy : Heads y f) : x = y := by
  funext i
  rw [eq_ix3 i]
  exact (hx _ _ _).trans (hy _ _ _).symm

theorem Heads.of_eq {x y : (⟨3, ![8, b, w]⟩ : Shape).Idx → EReal} (e : x = y) (h : Heads y f) : Heads x f := e ▸ h
theorem Rows.of_eq {x y : (⟨2, ![8, n]⟩ : Shape).Idx → EReal} {p : ℕ → ℕ → ℝ} (e : x = y) (h : Rows y p) : Rows x p := e ▸ h
theorem Masked.of_eq {x y : (⟨3, ![8, n, n]⟩ : Shape).Idx → EReal} (e : x = y) (h : Masked y f) : Masked x f := e ▸ h
theorem Causal.of_eq {x y : (⟨3, ![8, n, n]⟩ : Shape).Idx → BitVec 1} (e : x = y) (h : Causal y) : Causal x := e ▸ h

/-! ## Entry by entry -/

/-- A change of format keeps the number. -/
theorem Heads.wide {φ ψ : FTy} {x : FVec Ideal ⟨3, ![8, b, w]⟩ φ} (hx : Heads x f) (d : φ.bits < ψ.bits) : Heads (extf ψ x d) f := fun h i j => hx h i j
theorem Heads.narrow {φ ψ : FTy} {x : FVec Ideal ⟨3, ![8, b, w]⟩ φ} (hx : Heads x f) (d : ψ.bits < φ.bits) : Heads (truncf ψ x d) f := fun h i j => hx h i j

/-- The larger of `-∞` and a real number. -/
theorem Rows.max {φ : FTy} {x y : FVec Ideal ⟨2, ![8, n]⟩ φ} {p : ℕ → ℕ → ℝ} (hx : ∀ i, x i = ⊥) (hy : Rows y p) : Rows (maximumf x y) p := fun h i => by
  show Max.max (x _) (y _) = _
  rw [hx, hy, bot_sup_eq]

theorem Heads.mul {φ : FTy} {x y : FVec Ideal ⟨3, ![8, b, w]⟩ φ} (hx : Heads x f) (hy : Heads y g) : Heads (mulf x y) fun h i j => f h i j * g h i j := fun h i j => by
  show x _ * y _ = _
  rw [hx, hy, EReal.coe_mul]

theorem Heads.add {φ : FTy} {x y : FVec Ideal ⟨3, ![8, b, w]⟩ φ} (hx : Heads x f) (hy : Heads y g) : Heads (addf x y) fun h i j => f h i j + g h i j := fun h i j => by
  show x _ + y _ = _
  rw [hx, hy, EReal.coe_add]

theorem Heads.sub {φ : FTy} {x y : FVec Ideal ⟨3, ![8, b, w]⟩ φ} (hx : Heads x f) (hy : Heads y g) : Heads (subf x y) fun h i j => f h i j - g h i j := fun h i j => by
  show x _ - y _ = _
  rw [hx, hy, EReal.coe_sub]

theorem Heads.neg {φ : FTy} {x : FVec Ideal ⟨3, ![8, b, w]⟩ φ} (hx : Heads x f) : Heads (Host.negf x) fun h i j => - f h i j := fun h i j => by
  show - x _ = _
  rw [hx, EReal.coe_neg]

theorem Heads.div {φ : FTy} {x y : FVec Ideal ⟨3, ![8, b, w]⟩ φ} (hx : Heads x f) (hy : Heads y g) (h0 : ∀ h i j, g h i j ≠ 0) :
    Heads (Host.divf x y) fun h i j => f h i j / g h i j := fun h i j => by
  show Ideal.div (x _) (y _) = _
  rw [hx, hy, Ideal.div_coe (h0 _ _ _), ← EReal.coe_mul, mul_one_div]

theorem Heads.log {φ : FTy} {x : FVec Ideal ⟨3, ![8, b, w]⟩ φ} (hx : Heads x f) (h0 : ∀ h i j, 0 < f h i j) :
    Heads (Host.log x) fun h i j => Real.log (f h i j) := fun h i j => by
  show Ideal.log (x _) = _
  rw [hx, Ideal.log_coe, if_neg (not_le.2 (h0 _ _ _))]

theorem Rows.add {φ : FTy} {x y : FVec Ideal ⟨2, ![8, n]⟩ φ} {p q : ℕ → ℕ → ℝ} (hx : Rows x p) (hy : Rows y q) : Rows (addf x y) fun h i => p h i + q h i := fun h i => by
  show x _ + y _ = _
  rw [hx, hy, EReal.coe_add]

theorem Masked.sub {φ : FTy} {x y : FVec Ideal ⟨3, ![8, n, n]⟩ φ} (hx : Masked x f) (hy : Heads y g) : Masked (subf x y) fun h i j => f h i j - g h i j := fun h i j => by
  show x _ - y _ = _
  rw [hx, hy]
  split
  · rw [EReal.coe_sub]
  · exact EReal.bot_sub _

theorem Masked.exp {φ : FTy} {x : FVec Ideal ⟨3, ![8, n, n]⟩ φ} (hx : Masked x f) : Heads (Host.exp x) fun h i j => if j ≤ i then Real.exp (f h i j) else 0 := fun h i j => by
  show Ideal.exp (x _) = ((if j.val ≤ i.val then Real.exp (f h i j) else 0 : ℝ) : EReal)
  rw [hx]
  split <;> rfl

theorem Causal.mask {c : (⟨3, ![8, n, n]⟩ : Shape).Idx → BitVec 1} {x y : (⟨3, ![8, n, n]⟩ : Shape).Idx → EReal} (hc : Causal c) (hx : Heads x f)
    (hy : ∀ i, y i = ⊥) : Masked (select c x y) f := fun h i j => by
  show Scalar.select (c _) (x _) (y _) = _
  rw [hc, hx, hy]
  split <;> rfl

theorem Causal.cut {c : (⟨3, ![8, n, n]⟩ : Shape).Idx → BitVec 1} {x y : (⟨3, ![8, n, n]⟩ : Shape).Idx → EReal} (hc : Causal c) (hx : Heads x f)
    (hy : Heads y fun _ _ _ => 0) : Heads (select c x y) fun h i j => if j ≤ i then f h i j else 0 := fun h i j => by
  show Scalar.select (c _) (x _) (y _) = ((if j.val ≤ i.val then f h i j else 0 : ℝ) : EReal)
  rw [hc, hx, hy]
  split <;> rfl

/-! ## Constants and broadcasts -/

theorem bottom_f32 : Ideal.ofBits .f32 0xFF800000#32 = (⊥ : EReal) := by
  simp [Ideal.ofBits, Ideal.ieee]

theorem one_f32 : Ideal.ofBits .f32 0x3F800000#32 = ((1 : ℝ) : EReal) := by
  simp [Ideal.ofBits, Ideal.ieee, -EReal.coe_mul]; norm_num

theorem heads_scalar {x : (⟨0, ![]⟩ : Shape).Idx → EReal} {r : ℝ} (hx : ∀ i, x i = ((r : ℝ) : EReal)) (d : (⟨0, ![]⟩ : Shape).BroadcastsInDim ⟨3, ![8, b, w]⟩ ![]) :
    Heads (broadcastInDim ⟨3, ![8, b, w]⟩ ![] d x) fun _ _ _ => r := fun _ _ _ => (broadcastInDim_scalar_apply d x _).trans (hx _)

theorem bottom_scalar {T : Shape} {x : (⟨0, ![]⟩ : Shape).Idx → EReal} (hx : ∀ i, x i = ⊥) (d : (⟨0, ![]⟩ : Shape).BroadcastsInDim T ![]) (j : T.Idx) :
    broadcastInDim T ![] d x j = ⊥ := (broadcastInDim_scalar_apply d x j).trans (hx _)

/-- A row becomes a column. -/
theorem Rows.column {x : (⟨2, ![8, n]⟩ : Shape).Idx → EReal} {p : ℕ → ℕ → ℝ} (hx : Rows x p) (d : (⟨2, ![8, n]⟩ : Shape).BroadcastsInDim ⟨3, ![8, n, 1]⟩ ![0, 1]) (hn : n ≠ 1) :
    Heads (broadcastInDim ⟨3, ![8, n, 1]⟩ ![0, 1] d x) fun h i _ => p h i := fun h i j =>
  (broadcastInDim_apply _ d x _ (ix2 h i) fun a => by
    match a with
    | ⟨0, _⟩ => rfl
    | ⟨1, _⟩ => exact (if_neg hn).symm).trans (hx h i)

theorem Rows.line {x : (⟨2, ![8, n]⟩ : Shape).Idx → EReal} {p : ℕ → ℕ → ℝ} (hx : Rows x p) (d : (⟨2, ![8, n]⟩ : Shape).BroadcastsInDim ⟨3, ![8, 1, n]⟩ ![0, 2]) (hn : n ≠ 1) :
    Heads (broadcastInDim ⟨3, ![8, 1, n]⟩ ![0, 2] d x) fun h _ j => p h j := fun h i j =>
  (broadcastInDim_apply _ d x _ (ix2 h j) fun a => by
    match a with
    | ⟨0, _⟩ => rfl
    | ⟨1, _⟩ => exact (if_neg hn).symm).trans (hx h j)

theorem Rows.spread {x : (⟨2, ![8, n]⟩ : Shape).Idx → EReal} {p : ℕ → ℕ → ℝ} (hx : Rows x p) (d : (⟨2, ![8, n]⟩ : Shape).BroadcastsInDim ⟨3, ![8, n, w]⟩ ![0, 1]) (hn : n ≠ 1) :
    Heads (broadcastInDim ⟨3, ![8, n, w]⟩ ![0, 1] d x) fun h i _ => p h i := fun h i j =>
  (broadcastInDim_apply _ d x _ (ix2 h i) fun a => by
    match a with
    | ⟨0, _⟩ => rfl
    | ⟨1, _⟩ => exact (if_neg hn).symm).trans (hx h i)

theorem Heads.overKeys {x : (⟨3, ![8, n, 1]⟩ : Shape).Idx → EReal} {p : ℕ → ℕ → ℝ} (hx : Heads x fun h i _ => p h i)
    (d : (⟨3, ![8, n, 1]⟩ : Shape).BroadcastsInDim ⟨3, ![8, n, w]⟩ ![0, 1, 2]) (hn : n ≠ 1) :
    Heads (broadcastInDim ⟨3, ![8, n, w]⟩ ![0, 1, 2] d x) fun h i _ => p h i := fun h i j =>
  (broadcastInDim_apply _ d x _ (ix3 h i (0 : Fin 1)) fun a => by
    match a with
    | ⟨0, _⟩ => rfl
    | ⟨1, _⟩ => exact (if_neg hn).symm
    | ⟨2, _⟩ => rfl).trans (hx h i 0)

theorem Heads.overRows {x : (⟨3, ![8, 1, n]⟩ : Shape).Idx → EReal} {p : ℕ → ℕ → ℝ} (hx : Heads x fun h _ j => p h j)
    (d : (⟨3, ![8, 1, n]⟩ : Shape).BroadcastsInDim ⟨3, ![8, w, n]⟩ ![0, 1, 2]) (hn : n ≠ 1) :
    Heads (broadcastInDim ⟨3, ![8, w, n]⟩ ![0, 1, 2] d x) fun h _ j => p h j := fun h i j =>
  (broadcastInDim_apply _ d x _ (ix3 h (0 : Fin 1) j) fun a => by
    match a with
    | ⟨0, _⟩ => rfl
    | ⟨1, _⟩ => rfl
    | ⟨2, _⟩ => exact (if_neg hn).symm).trans (hx h 0 j)

/-! ## Casts and a transposition -/

theorem Rows.castColumn {x : (⟨2, ![8, n]⟩ : Shape).Idx → EReal} {p : ℕ → ℕ → ℝ} (hx : Rows x p) (d : (⟨2, ![8, n]⟩ : Shape).ShapeCasts ⟨3, ![8, n, 1]⟩) :
    Heads (shapeCast ⟨3, ![8, n, 1]⟩ x d) fun h i _ => p h i := fun h i j =>
  (shapeCast_apply x d _ (ix2 h i) (by
    rw [Shape.rowMajor_val_two, Shape.rowMajor_val_three]
    have := j.isLt
    simp)).trans (hx h i)

theorem Rows.castLine {x : (⟨2, ![8, n]⟩ : Shape).Idx → EReal} {p : ℕ → ℕ → ℝ} (hx : Rows x p) (d : (⟨2, ![8, n]⟩ : Shape).ShapeCasts ⟨3, ![8, 1, n]⟩) :
    Heads (shapeCast ⟨3, ![8, 1, n]⟩ x d) fun h _ j => p h j := fun h i j =>
  (shapeCast_apply x d _ (ix2 h j) (by
    rw [Shape.rowMajor_val_two, Shape.rowMajor_val_three]
    have := i.isLt
    simp)).trans (hx h j)

theorem Heads.transposed {x : (⟨3, ![8, b, w]⟩ : Shape).Idx → EReal} (hx : Heads x f) (d : (⟨3, ![8, b, w]⟩ : Shape).Transposes [0, 2, 1] ⟨3, ![8, w, b]⟩) :
    Heads (transpose ⟨3, ![8, w, b]⟩ [0, 2, 1] x d) fun h i j => f h j i := fun h i j =>
  (transpose_ix3_021_apply x d h i j).trans (hx h j i)

/-! ## Sums along an axis -/

theorem Heads.sumKeys {u : Shape} {x : FVec Ideal ⟨3, ![8, b, w]⟩ .f32} (hx : Heads x f) {z : FVec Ideal u .f32} (d : (⟨3, ![8, b, w]⟩ : Shape).ReducesTo [2] ⟨2, ![8, b]⟩)
    (hu : 0 < u.numel) (hz : ∀ i, z i = ((0 : ℝ) : EReal)) (r : (⟨3, ![8, b, w]⟩ : Shape).Reduces [2] ⟨2, ![8, b]⟩) :
    Rows (Host.reduceAdd x z d hu) fun h i => ∑ k ∈ range w, f h i k := fun h i => by
  rw [hostReduceAdd_apply, Ideal.hostReduceAdd_single d r, hz, EReal.coe_zero, zero_add, ← sum_one w (f h i)]
  refine sum_congr rfl fun (k : Fin w) _ => ?_
  have e : r.lift (ix2 h i) k = ix3 h i k := by
    funext a; apply Fin.ext
    match a with
    | ⟨0, _⟩ => rfl
    | ⟨1, _⟩ => rfl
    | ⟨2, _⟩ => rfl
  exact (congrArg x e).trans (hx h i k)

theorem Heads.sumRows {u : Shape} {x : FVec Ideal ⟨3, ![8, b, w]⟩ .f32} (hx : Heads x f) {z : FVec Ideal u .f32} (d : (⟨3, ![8, b, w]⟩ : Shape).ReducesTo [1] ⟨2, ![8, w]⟩)
    (hu : 0 < u.numel) (hz : ∀ i, z i = ((0 : ℝ) : EReal)) (r : (⟨3, ![8, b, w]⟩ : Shape).Reduces [1] ⟨2, ![8, w]⟩) :
    Rows (Host.reduceAdd x z d hu) fun h j => ∑ k ∈ range b, f h k j := fun h j => by
  rw [hostReduceAdd_apply, Ideal.hostReduceAdd_single d r, hz, EReal.coe_zero, zero_add, ← sum_one b (fun k => f h k j)]
  refine sum_congr rfl fun (k : Fin b) _ => ?_
  have e : r.lift (ix2 h j) k = ix3 h k j := by
    funext a; apply Fin.ext
    match a with
    | ⟨0, _⟩ => rfl
    | ⟨1, _⟩ => rfl
    | ⟨2, _⟩ => rfl
  exact (congrArg x e).trans (hx h k j)

/-! ## Products, head by head -/

theorem heads_nt {m c : ℕ} {φ ψ : FTy} (d : DotDims.WF ⟨3, ![8, m, c]⟩ ⟨3, ![8, n, c]⟩ ⟨3, ![8, m, n]⟩ [2] [2] [1] [1] [0] [0])
    {x : FVec Ideal ⟨3, ![8, m, c]⟩ φ} {y : FVec Ideal ⟨3, ![8, n, c]⟩ ψ} (hx : Heads x f) (hy : Heads y g) :
    Heads (Host.dotGeneral (⟨[2], [2], [1], [1], [0], [0], d⟩ : DotDims _ _ _) none x y) fun h i j => ∑ k ∈ range c, f h i k * g h j k := fun h i j => by
  show FloatOps.dotGeneral _ _ _ x y (ix3 h i j) = _
  rw [Ideal.dotGeneral_apply, ← Equiv.sum_comp (contrEquiv1 (⟨[2], [2], [1], [1], [0], [0], d⟩ : DotDims _ _ _) c rfl rfl).symm, ← sum_prod c (f h i) (g h j)]
  refine sum_congr rfl fun k _ => ?_
  have c3 := contrEquiv1_symm_val (⟨[2], [2], [1], [1], [0], [0], d⟩ : DotDims ⟨3, ![8, m, c]⟩ ⟨3, ![8, n, c]⟩ ⟨3, ![8, m, n]⟩) c rfl rfl k
  have el : (⟨[2], [2], [1], [1], [0], [0], d⟩ : DotDims ⟨3, ![8, m, c]⟩ ⟨3, ![8, n, c]⟩ ⟨3, ![8, m, n]⟩).lhsIdx (ix3 h i j) ((contrEquiv1 _ c rfl rfl).symm k) = ix3 h i k := by
    funext a; apply Fin.ext
    match a with
    | ⟨0, _⟩ => rfl
    | ⟨1, _⟩ => rfl
    | ⟨2, _⟩ => exact c3
  have er : (⟨[2], [2], [1], [1], [0], [0], d⟩ : DotDims ⟨3, ![8, m, c]⟩ ⟨3, ![8, n, c]⟩ ⟨3, ![8, m, n]⟩).rhsIdx (ix3 h i j) ((contrEquiv1 _ c rfl rfl).symm k) = ix3 h j k := by
    funext a; apply Fin.ext
    match a with
    | ⟨0, _⟩ => rfl
    | ⟨1, _⟩ => rfl
    | ⟨2, _⟩ => exact c3
  rw [el, er, hx h i k, hy h j k]

theorem heads_nn {m c : ℕ} {φ ψ : FTy} (d : DotDims.WF ⟨3, ![8, m, c]⟩ ⟨3, ![8, c, n]⟩ ⟨3, ![8, m, n]⟩ [2] [1] [1] [2] [0] [0])
    {x : FVec Ideal ⟨3, ![8, m, c]⟩ φ} {y : FVec Ideal ⟨3, ![8, c, n]⟩ ψ} (hx : Heads x f) (hy : Heads y g) :
    Heads (Host.dotGeneral (⟨[2], [1], [1], [2], [0], [0], d⟩ : DotDims _ _ _) none x y) fun h i j => ∑ k ∈ range c, f h i k * g h k j := fun h i j => by
  show FloatOps.dotGeneral _ _ _ x y (ix3 h i j) = _
  rw [Ideal.dotGeneral_apply, ← Equiv.sum_comp (contrEquiv1 (⟨[2], [1], [1], [2], [0], [0], d⟩ : DotDims _ _ _) c rfl rfl).symm, ← sum_prod c (f h i) (fun k => g h k j)]
  refine sum_congr rfl fun k _ => ?_
  have c3 := contrEquiv1_symm_val (⟨[2], [1], [1], [2], [0], [0], d⟩ : DotDims ⟨3, ![8, m, c]⟩ ⟨3, ![8, c, n]⟩ ⟨3, ![8, m, n]⟩) c rfl rfl k
  have el : (⟨[2], [1], [1], [2], [0], [0], d⟩ : DotDims ⟨3, ![8, m, c]⟩ ⟨3, ![8, c, n]⟩ ⟨3, ![8, m, n]⟩).lhsIdx (ix3 h i j) ((contrEquiv1 _ c rfl rfl).symm k) = ix3 h i k := by
    funext a; apply Fin.ext
    match a with
    | ⟨0, _⟩ => rfl
    | ⟨1, _⟩ => rfl
    | ⟨2, _⟩ => exact c3
  have er : (⟨[2], [1], [1], [2], [0], [0], d⟩ : DotDims ⟨3, ![8, m, c]⟩ ⟨3, ![8, c, n]⟩ ⟨3, ![8, m, n]⟩).rhsIdx (ix3 h i j) ((contrEquiv1 _ c rfl rfl).symm k) = ix3 h k j := by
    funext a; apply Fin.ext
    match a with
    | ⟨0, _⟩ => rfl
    | ⟨1, _⟩ => exact c3
    | ⟨2, _⟩ => rfl
  rw [el, er, hx h i k, hy h k j]

theorem heads_tn {m c : ℕ} {φ ψ : FTy} (d : DotDims.WF ⟨3, ![8, c, m]⟩ ⟨3, ![8, c, n]⟩ ⟨3, ![8, m, n]⟩ [1] [1] [2] [2] [0] [0])
    {x : FVec Ideal ⟨3, ![8, c, m]⟩ φ} {y : FVec Ideal ⟨3, ![8, c, n]⟩ ψ} (hx : Heads x f) (hy : Heads y g) :
    Heads (Host.dotGeneral (⟨[1], [1], [2], [2], [0], [0], d⟩ : DotDims _ _ _) none x y) fun h i j => ∑ k ∈ range c, f h k i * g h k j := fun h i j => by
  show FloatOps.dotGeneral _ _ _ x y (ix3 h i j) = _
  rw [Ideal.dotGeneral_apply, ← Equiv.sum_comp (contrEquiv1 (⟨[1], [1], [2], [2], [0], [0], d⟩ : DotDims _ _ _) c rfl rfl).symm, ← sum_prod c (fun k => f h k i) (fun k => g h k j)]
  refine sum_congr rfl fun k _ => ?_
  have c3 := contrEquiv1_symm_val (⟨[1], [1], [2], [2], [0], [0], d⟩ : DotDims ⟨3, ![8, c, m]⟩ ⟨3, ![8, c, n]⟩ ⟨3, ![8, m, n]⟩) c rfl rfl k
  have el : (⟨[1], [1], [2], [2], [0], [0], d⟩ : DotDims ⟨3, ![8, c, m]⟩ ⟨3, ![8, c, n]⟩ ⟨3, ![8, m, n]⟩).lhsIdx (ix3 h i j) ((contrEquiv1 _ c rfl rfl).symm k) = ix3 h k i := by
    funext a; apply Fin.ext
    match a with
    | ⟨0, _⟩ => rfl
    | ⟨1, _⟩ => exact c3
    | ⟨2, _⟩ => rfl
  have er : (⟨[1], [1], [2], [2], [0], [0], d⟩ : DotDims ⟨3, ![8, c, m]⟩ ⟨3, ![8, c, n]⟩ ⟨3, ![8, m, n]⟩).rhsIdx (ix3 h i j) ((contrEquiv1 _ c rfl rfl).symm k) = ix3 h k j := by
    funext a; apply Fin.ext
    match a with
    | ⟨0, _⟩ => rfl
    | ⟨1, _⟩ => exact c3
    | ⟨2, _⟩ => rfl
  rw [el, er, hx h k i, hy h k j]

/-! ## The causal mask and the largest score of a row -/

/-- Comparing the row's number with the column's, spread over the heads. -/
theorem causal_is {w : ℕ} (hw : w ≤ 2048) (h1 : w ≠ 1) (dr : (⟨1, ![w]⟩ : Shape).BroadcastsInDim ⟨2, ![w, 1]⟩ ![0]) (dc : (⟨1, ![w]⟩ : Shape).BroadcastsInDim ⟨2, ![1, w]⟩ ![1])
    (er : (⟨2, ![w, 1]⟩ : Shape).BroadcastsInDim ⟨2, ![w, w]⟩ ![0, 1]) (ec : (⟨2, ![1, w]⟩ : Shape).BroadcastsInDim ⟨2, ![w, w]⟩ ![0, 1])
    (e : (⟨2, ![w, w]⟩ : Shape).BroadcastsInDim ⟨3, ![8, w, w]⟩ ![1, 2]) :
    Causal (broadcastInDim ⟨3, ![8, w, w]⟩ ![1, 2] e (cmpi .sge
      (broadcastInDim ⟨2, ![w, w]⟩ ![0, 1] er (broadcastInDim ⟨2, ![w, 1]⟩ ![0] dr (iotaInDim ⟨1, ![w]⟩ 32 0)))
      (broadcastInDim ⟨2, ![w, w]⟩ ![0, 1] ec (broadcastInDim ⟨2, ![1, w]⟩ ![1] dc (iotaInDim ⟨1, ![w]⟩ 32 0))))) := fun h i j => by
  have k3 := fun (y : (⟨2, ![w, w]⟩ : Shape).Idx → BitVec 1) => broadcastInDim_apply _ e y (ix3 h i j) (ix2 i j) fun a => by
    match a with
    | ⟨0, _⟩ => exact (if_neg h1).symm
    | ⟨1, _⟩ => exact (if_neg h1).symm
  have kc := fun (y : (⟨2, ![1, w]⟩ : Shape).Idx → BitVec 32) => broadcastInDim_apply _ ec y (ix2 i j) (ix2 (0 : Fin 1) j) fun a => by
    match a with
    | ⟨0, _⟩ => rfl
    | ⟨1, _⟩ => exact (if_neg h1).symm
  have kr := fun (y : (⟨2, ![w, 1]⟩ : Shape).Idx → BitVec 32) => broadcastInDim_apply _ er y (ix2 i j) (ix2 i (0 : Fin 1)) fun a => by
    match a with
    | ⟨0, _⟩ => exact (if_neg h1).symm
    | ⟨1, _⟩ => rfl
  have lc := fun (y : (⟨1, ![w]⟩ : Shape).Idx → BitVec 32) => broadcastInDim_apply _ dc y (ix2 (0 : Fin 1) j) (ix1 j) fun a => by
    match a with
    | ⟨0, _⟩ => exact (if_neg h1).symm
  have lr := fun (y : (⟨1, ![w]⟩ : Shape).Idx → BitVec 32) => broadcastInDim_apply _ dr y (ix2 i (0 : Fin 1)) (ix1 i) fun a => by
    match a with
    | ⟨0, _⟩ => exact (if_neg h1).symm
  refine (k3 _).trans ?_
  refine (congrArg₂ (IntOp.cmpi .sge) ((kr _).trans (lr _)) ((kc _).trans (lc _))).trans ?_
  show BitVec.ofBool ((BitVec.ofNat 32 j.val).sle (BitVec.ofNat 32 i.val)) = _
  have hi := i.isLt
  have hj := j.isLt
  have ti : (BitVec.ofNat 32 i.val).toInt = i.val := by
    rw [BitVec.toInt_ofNat']; exact Int.bmod_eq_of_le (by omega) (by omega)
  have tj : (BitVec.ofNat 32 j.val).toInt = j.val := by
    rw [BitVec.toInt_ofNat']; exact Int.bmod_eq_of_le (by omega) (by omega)
  rw [BitVec.sle, ti, tj]
  by_cases hij : j.val ≤ i.val
  · rw [if_pos hij, decide_eq_true (by omega)]; rfl
  · rw [if_neg hij, decide_eq_false (by omega)]; rfl

theorem foldl_max_ne_top {α : Type} (l : List α) (v : α → EReal) (z : EReal) (hz : z ≠ ⊤) (hv : ∀ a, v a ≠ ⊤) :
    l.foldl (fun r a => max r (v a)) z ≠ ⊤ := by
  induction l generalizing z with
  | nil => exact hz
  | cons a l ih => exact ih _ (max_lt (lt_top_iff_ne_top.2 hz) (lt_top_iff_ne_top.2 (hv a))).ne

theorem le_foldl_max {α : Type} (l : List α) (v : α → EReal) (z : EReal) : z ≤ l.foldl (fun r a => max r (v a)) z := by
  induction l generalizing z with
  | nil => exact le_rfl
  | cons a l ih => exact (le_max_left _ _).trans (ih _)

theorem mem_le_foldl_max {α : Type} (l : List α) (v : α → EReal) (z : EReal) (a : α) (ha : a ∈ l) : v a ≤ l.foldl (fun r a => max r (v a)) z := by
  induction l generalizing z with
  | nil => cases ha
  | cons c l ih =>
    rcases List.mem_cons.1 ha with e | e
    · subst e; exact (le_max_right _ _).trans (le_foldl_max l v _)
    · exact ih _ e

/-- The largest entry of each row is a real number: each row has an entry on the diagonal, and no entry is `+∞`. -/
theorem Masked.rowMax {u : Shape} {x : FVec Ideal ⟨3, ![8, n, n]⟩ .f32} (hx : Masked x f) {z : FVec Ideal u .f32} (d : (⟨3, ![8, n, n]⟩ : Shape).ReducesTo [2] ⟨2, ![8, n]⟩)
    (hu : 0 < u.numel) (hz : ∀ i, z i = ⊥) (r : (⟨3, ![8, n, n]⟩ : Shape).Reduces [2] ⟨2, ![8, n]⟩) :
    ∃ M : ℕ → ℕ → ℝ, Rows (Host.reduce (α := Ideal .f32) FloatOps.maximumf x z d hu) M := by
  have fin : ∀ (h : Fin 8) (i : Fin n), ∃ m : ℝ, Host.reduce (α := Ideal .f32) FloatOps.maximumf x z d hu (ix2 h i) = ((m : ℝ) : EReal) := fun h i => by
    have top : Host.reduce (α := Ideal .f32) FloatOps.maximumf x z d hu (ix2 h i) ≠ ⊤ :=
      foldl_max_ne_top _ (fun k => x ((⟨3, ![8, n, n]⟩ : Shape).rowMajor.symm k)) _ (by rw [hz]; exact bot_ne_top) fun k => by
        have e := (congrArg x (eq_ix3 ((⟨3, ![8, n, n]⟩ : Shape).rowMajor.symm k))).trans (hx _ _ _)
        show x ((⟨3, ![8, n, n]⟩ : Shape).rowMajor.symm k) ≠ ⊤
        rw [e]
        split
        · exact EReal.coe_ne_top _
        · exact bot_ne_top
    have bot : Host.reduce (α := Ideal .f32) FloatOps.maximumf x z d hu (ix2 h i) ≠ ⊥ := fun e => by
      have le := mem_le_foldl_max ((List.finRange (⟨3, ![8, n, n]⟩ : Shape).numel).filter fun k => d.drop ((⟨3, ![8, n, n]⟩ : Shape).rowMajor.symm k) = ix2 h i)
        (fun k => x ((⟨3, ![8, n, n]⟩ : Shape).rowMajor.symm k)) (z (Shape.Idx.first hu)) ((⟨3, ![8, n, n]⟩ : Shape).rowMajor (ix3 h i i)) (by
          rw [List.mem_filter]
          refine ⟨List.mem_finRange _, decide_eq_true ?_⟩
          rw [Equiv.symm_apply_apply]
          funext a; apply Fin.ext
          match a with
          | ⟨0, _⟩ => rfl
          | ⟨1, _⟩ => rfl)
      have le' : x (ix3 h i i) ≤ Host.reduce (α := Ideal .f32) FloatOps.maximumf x z d hu (ix2 h i) := by
        refine le_trans (le_of_eq ?_) le
        show _ = x _
        rw [Equiv.symm_apply_apply]
      rw [e, hx, if_pos le_rfl, le_bot_iff] at le'
      exact EReal.coe_ne_bot _ le'
    exact ⟨_, (EReal.coe_toReal top bot).symm⟩
  choose m hm using fin
  exact ⟨fun a i => if ha : a < 8 ∧ i < n then m ⟨a, ha.1⟩ ⟨i, ha.2⟩ else 0, fun h i => by
    have e : (if ha : h.val < 8 ∧ i.val < n then m ⟨h.val, ha.1⟩ ⟨i.val, ha.2⟩ else 0) = m h i := dif_pos ⟨h.isLt, i.isLt⟩
    exact (hm h i).trans (congrArg _ e.symm)⟩

end Fox

end
-- ==== Proof.Array.lean ====
/- The kernel's four result arrays, head by head, when the arrays it stages hold real numbers. -/
module

public import proofs.«01_k».proof.Proof.RunValue
public import proofs.«01_k».proof.Proof.HostValue
public import proofs.«01_k».proof.Proof.Gen.KernelIdeal.Value

@[expose] public section

set_option maxRecDepth 16384

noncomputable section

namespace Fox

open Idealize.ShloMosaic Idealize.ShloMosaic.TcCoe Idealize.ShloMosaic.ValueIdx Cert.KernelIdeal Cert.KernelIdeal.Gen

theorem points : cfg0.N = 8 := by decide +kernel

/-- The head a grid point works on. -/
abbrev head (t : Fin cfg0.N) : Fin 8 := ⟨t.val, points ▸ t.isLt⟩

theorem index0 : ∀ (t : Fin cfg0.N) (a : Fin 3), (cfg0.win 0).index t a = (![t.val, 0, 0] : Fin 3 → ℕ) a := by decide +kernel
theorem place0 (t : Fin cfg0.N) (u : Fin 1) (i : Fin 2048) (j : Fin 64) :
    ((cfg0.win 0).blk t).view.emb (ix3 u i j : (⟨3, ![1, 2048, 64]⟩ : Shape).Idx) = (ix3 (head t) i j : (⟨3, ![8, 2048, 64]⟩ : Shape).Idx) := by
  funext a; apply Fin.ext
  refine (Pipeline.Window.rect_emb_val (cfg0.win 0) t _ a rfl).trans ?_
  rw [index0 t a]
  have hu := u.isLt
  match a with
  | ⟨0, _⟩ => show t.val * 1 + u.val = t.val; omega
  | ⟨1, _⟩ => show 0 * 2048 + i.val = i.val; omega
  | ⟨2, _⟩ => show 0 * 64 + j.val = j.val; omega
theorem index1 : ∀ (t : Fin cfg0.N) (a : Fin 3), (cfg0.win 1).index t a = (![t.val, 0, 0] : Fin 3 → ℕ) a := by decide +kernel
theorem place1 (t : Fin cfg0.N) (u : Fin 1) (i : Fin 2048) (j : Fin 64) :
    ((cfg0.win 1).blk t).view.emb (ix3 u i j : (⟨3, ![1, 2048, 64]⟩ : Shape).Idx) = (ix3 (head t) i j : (⟨3, ![8, 2048, 64]⟩ : Shape).Idx) := by
  funext a; apply Fin.ext
  refine (Pipeline.Window.rect_emb_val (cfg0.win 1) t _ a rfl).trans ?_
  rw [index1 t a]
  have hu := u.isLt
  match a with
  | ⟨0, _⟩ => show t.val * 1 + u.val = t.val; omega
  | ⟨1, _⟩ => show 0 * 2048 + i.val = i.val; omega
  | ⟨2, _⟩ => show 0 * 64 + j.val = j.val; omega
theorem index2 : ∀ (t : Fin cfg0.N) (a : Fin 3), (cfg0.win 2).index t a = (![t.val, 0, 0] : Fin 3 → ℕ) a := by decide +kernel
theorem place2 (t : Fin cfg0.N) (u : Fin 1) (i : Fin 2048) (j : Fin 64) :
    ((cfg0.win 2).blk t).view.emb (ix3 u i j : (⟨3, ![1, 2048, 64]⟩ : Shape).Idx) = (ix3 (head t) i j : (⟨3, ![8, 2048, 64]⟩ : Shape).Idx) := by
  funext a; apply Fin.ext
  refine (Pipeline.Window.rect_emb_val (cfg0.win 2) t _ a rfl).trans ?_
  rw [index2 t a]
  have hu := u.isLt
  match a with
  | ⟨0, _⟩ => show t.val * 1 + u.val = t.val; omega
  | ⟨1, _⟩ => show 0 * 2048 + i.val = i.val; omega
  | ⟨2, _⟩ => show 0 * 64 + j.val = j.val; omega
theorem index3 : ∀ (t : Fin cfg0.N) (a : Fin 3), (cfg0.win 3).index t a = (![t.val, 0, 0] : Fin 3 → ℕ) a := by decide +kernel
theorem place3 (t : Fin cfg0.N) (u : Fin 1) (i : Fin 2048) (j : Fin 64) :
    ((cfg0.win 3).blk t).view.emb (ix3 u i j : (⟨3, ![1, 2048, 64]⟩ : Shape).Idx) = (ix3 (head t) i j : (⟨3, ![8, 2048, 64]⟩ : Shape).Idx) := by
  funext a; apply Fin.ext
  refine (Pipeline.Window.rect_emb_val (cfg0.win 3) t _ a rfl).trans ?_
  rw [index3 t a]
  have hu := u.isLt
  match a with
  | ⟨0, _⟩ => show t.val * 1 + u.val = t.val; omega
  | ⟨1, _⟩ => show 0 * 2048 + i.val = i.val; omega
  | ⟨2, _⟩ => show 0 * 64 + j.val = j.val; omega
theorem index4 : ∀ (t : Fin cfg0.N) (a : Fin 3), (cfg0.win 4).index t a = (![t.val, 0, 0] : Fin 3 → ℕ) a := by decide +kernel
theorem place4 (t : Fin cfg0.N) (u : Fin 1) (i : Fin 2048) (j : Fin 1) :
    ((cfg0.win 4).blk t).view.emb (ix3 u i j : (⟨3, ![1, 2048, 1]⟩ : Shape).Idx) = (ix3 (head t) i j : (⟨3, ![8, 2048, 1]⟩ : Shape).Idx) := by
  funext a; apply Fin.ext
  refine (Pipeline.Window.rect_emb_val (cfg0.win 4) t _ a rfl).trans ?_
  rw [index4 t a]
  have hu := u.isLt
  match a with
  | ⟨0, _⟩ => show t.val * 1 + u.val = t.val; omega
  | ⟨1, _⟩ => show 0 * 2048 + i.val = i.val; omega
  | ⟨2, _⟩ => show 0 * 1 + j.val = j.val; omega
theorem index5 : ∀ (t : Fin cfg0.N) (a : Fin 3), (cfg0.win 5).index t a = (![t.val, 0, 0] : Fin 3 → ℕ) a := by decide +kernel
theorem place5 (t : Fin cfg0.N) (u : Fin 1) (i : Fin 1) (j : Fin 2048) :
    ((cfg0.win 5).blk t).view.emb (ix3 u i j : (⟨3, ![1, 1, 2048]⟩ : Shape).Idx) = (ix3 (head t) i j : (⟨3, ![8, 1, 2048]⟩ : Shape).Idx) := by
  funext a; apply Fin.ext
  refine (Pipeline.Window.rect_emb_val (cfg0.win 5) t _ a rfl).trans ?_
  rw [index5 t a]
  have hu := u.isLt
  match a with
  | ⟨0, _⟩ => show t.val * 1 + u.val = t.val; omega
  | ⟨1, _⟩ => show 0 * 1 + i.val = i.val; omega
  | ⟨2, _⟩ => show 0 * 2048 + j.val = j.val; omega
theorem index6 : ∀ (t : Fin cfg0.N) (a : Fin 3), (cfg0.win 6).index t a = (![t.val, 0, 0] : Fin 3 → ℕ) a := by decide +kernel
theorem place6 (t : Fin cfg0.N) (u : Fin 1) (i : Fin 2048) (j : Fin 64) :
    ((cfg0.win 6).blk t).view.emb (ix3 u i j : (⟨3, ![1, 2048, 64]⟩ : Shape).Idx) = (ix3 (head t) i j : (⟨3, ![8, 2048, 64]⟩ : Shape).Idx) := by
  funext a; apply Fin.ext
  refine (Pipeline.Window.rect_emb_val (cfg0.win 6) t _ a rfl).trans ?_
  rw [index6 t a]
  have hu := u.isLt
  match a with
  | ⟨0, _⟩ => show t.val * 1 + u.val = t.val; omega
  | ⟨1, _⟩ => show 0 * 2048 + i.val = i.val; omega
  | ⟨2, _⟩ => show 0 * 64 + j.val = j.val; omega
theorem index7 : ∀ (t : Fin cfg0.N) (a : Fin 3), (cfg0.win 7).index t a = (![t.val, 0, 0] : Fin 3 → ℕ) a := by decide +kernel
theorem place7 (t : Fin cfg0.N) (u : Fin 1) (i : Fin 2048) (j : Fin 64) :
    ((cfg0.win 7).blk t).view.emb (ix3 u i j : (⟨3, ![1, 2048, 64]⟩ : Shape).Idx) = (ix3 (head t) i j : (⟨3, ![8, 2048, 64]⟩ : Shape).Idx) := by
  funext a; apply Fin.ext
  refine (Pipeline.Window.rect_emb_val (cfg0.win 7) t _ a rfl).trans ?_
  rw [index7 t a]
  have hu := u.isLt
  match a with
  | ⟨0, _⟩ => show t.val * 1 + u.val = t.val; omega
  | ⟨1, _⟩ => show 0 * 2048 + i.val = i.val; omega
  | ⟨2, _⟩ => show 0 * 64 + j.val = j.val; omega
theorem index8 : ∀ (t : Fin cfg0.N) (a : Fin 3), (cfg0.win 8).index t a = (![t.val, 0, 0] : Fin 3 → ℕ) a := by decide +kernel
theorem place8 (t : Fin cfg0.N) (u : Fin 1) (i : Fin 2048) (j : Fin 64) :
    ((cfg0.win 8).blk t).view.emb (ix3 u i j : (⟨3, ![1, 2048, 64]⟩ : Shape).Idx) = (ix3 (head t) i j : (⟨3, ![8, 2048, 64]⟩ : Shape).Idx) := by
  funext a; apply Fin.ext
  refine (Pipeline.Window.rect_emb_val (cfg0.win 8) t _ a rfl).trans ?_
  rw [index8 t a]
  have hu := u.isLt
  match a with
  | ⟨0, _⟩ => show t.val * 1 + u.val = t.val; omega
  | ⟨1, _⟩ => show 0 * 2048 + i.val = i.val; omega
  | ⟨2, _⟩ => show 0 * 64 + j.val = j.val; omega
theorem index9 : ∀ (t : Fin cfg0.N) (a : Fin 3), (cfg0.win 9).index t a = (![t.val, 0, 0] : Fin 3 → ℕ) a := by decide +kernel
theorem place9 (t : Fin cfg0.N) (u : Fin 1) (i : Fin 1) (j : Fin 2048) :
    ((cfg0.win 9).blk t).view.emb (ix3 u i j : (⟨3, ![1, 1, 2048]⟩ : Shape).Idx) = (ix3 (head t) i j : (⟨3, ![8, 1, 2048]⟩ : Shape).Idx) := by
  funext a; apply Fin.ext
  refine (Pipeline.Window.rect_emb_val (cfg0.win 9) t _ a rfl).trans ?_
  rw [index9 t a]
  have hu := u.isLt
  match a with
  | ⟨0, _⟩ => show t.val * 1 + u.val = t.val; omega
  | ⟨1, _⟩ => show 0 * 1 + i.val = i.val; omega
  | ⟨2, _⟩ => show 0 * 2048 + j.val = j.val; omega

theorem read0 {A : (⟨3, ![8, 2048, 64]⟩ : Shape).Idx → EReal} {f : ℕ → ℕ → ℕ → ℝ} (hA : Heads A f) (t : Fin cfg0.N) :
    Is3 (b := 2048) (c := 64) (((cfg0.win 0).blk t).view.read (Elt Ideal) A) (f t.val) := fun u i j =>
  (congrArg A (place0 t u i j)).trans (hA (head t) i j)

theorem read1 {A : (⟨3, ![8, 2048, 64]⟩ : Shape).Idx → EReal} {f : ℕ → ℕ → ℕ → ℝ} (hA : Heads A f) (t : Fin cfg0.N) :
    Is3 (b := 2048) (c := 64) (((cfg0.win 1).blk t).view.read (Elt Ideal) A) (f t.val) := fun u i j =>
  (congrArg A (place1 t u i j)).trans (hA (head t) i j)

theorem read2 {A : (⟨3, ![8, 2048, 64]⟩ : Shape).Idx → EReal} {f : ℕ → ℕ → ℕ → ℝ} (hA : Heads A f) (t : Fin cfg0.N) :
    Is3 (b := 2048) (c := 64) (((cfg0.win 2).blk t).view.read (Elt Ideal) A) (f t.val) := fun u i j =>
  (congrArg A (place2 t u i j)).trans (hA (head t) i j)

theorem read3 {A : (⟨3, ![8, 2048, 64]⟩ : Shape).Idx → EReal} {f : ℕ → ℕ → ℕ → ℝ} (hA : Heads A f) (t : Fin cfg0.N) :
    Is3 (b := 2048) (c := 64) (((cfg0.win 3).blk t).view.read (Elt Ideal) A) (f t.val) := fun u i j =>
  (congrArg A (place3 t u i j)).trans (hA (head t) i j)

theorem read4 {A : (⟨3, ![8, 2048, 1]⟩ : Shape).Idx → EReal} {f : ℕ → ℕ → ℕ → ℝ} (hA : Heads A f) (t : Fin cfg0.N) :
    Is3 (b := 2048) (c := 1) (((cfg0.win 4).blk t).view.read (Elt Ideal) A) (f t.val) := fun u i j =>
  (congrArg A (place4 t u i j)).trans (hA (head t) i j)

theorem read5 {A : (⟨3, ![8, 1, 2048]⟩ : Shape).Idx → EReal} {f : ℕ → ℕ → ℕ → ℝ} (hA : Heads A f) (t : Fin cfg0.N) :
    Is3 (b := 1) (c := 2048) (((cfg0.win 5).blk t).view.read (Elt Ideal) A) (f t.val) := fun u i j =>
  (congrArg A (place5 t u i j)).trans (hA (head t) i j)

theorem whole6 {A : (⟨3, ![8, 2048, 64]⟩ : Shape).Idx → EReal} {f : ℕ → ℕ → ℕ → ℝ}
    (hA : ∀ t : Fin cfg0.N, Is3 (b := 2048) (c := 64) (((cfg0.win 6).blk t).view.read (Elt Ideal) A) (f t.val)) : Heads A f := fun h i j => by
  obtain ⟨t, rfl⟩ : ∃ t : Fin cfg0.N, h = head t := ⟨⟨h.val, points.symm ▸ h.isLt⟩, rfl⟩
  exact (congrArg A (place6 t 0 i j)).symm.trans (hA t 0 i j)

theorem flush6 : ∀ t : Fin cfg0.N, (cfg0.win 6).flush t = true := by decide +kernel

theorem whole7 {A : (⟨3, ![8, 2048, 64]⟩ : Shape).Idx → EReal} {f : ℕ → ℕ → ℕ → ℝ}
    (hA : ∀ t : Fin cfg0.N, Is3 (b := 2048) (c := 64) (((cfg0.win 7).blk t).view.read (Elt Ideal) A) (f t.val)) : Heads A f := fun h i j => by
  obtain ⟨t, rfl⟩ : ∃ t : Fin cfg0.N, h = head t := ⟨⟨h.val, points.symm ▸ h.isLt⟩, rfl⟩
  exact (congrArg A (place7 t 0 i j)).symm.trans (hA t 0 i j)

theorem flush7 : ∀ t : Fin cfg0.N, (cfg0.win 7).flush t = true := by decide +kernel

theorem whole8 {A : (⟨3, ![8, 2048, 64]⟩ : Shape).Idx → EReal} {f : ℕ → ℕ → ℕ → ℝ}
    (hA : ∀ t : Fin cfg0.N, Is3 (b := 2048) (c := 64) (((cfg0.win 8).blk t).view.read (Elt Ideal) A) (f t.val)) : Heads A f := fun h i j => by
  obtain ⟨t, rfl⟩ : ∃ t : Fin cfg0.N, h = head t := ⟨⟨h.val, points.symm ▸ h.isLt⟩, rfl⟩
  exact (congrArg A (place8 t 0 i j)).symm.trans (hA t 0 i j)

theorem flush8 : ∀ t : Fin cfg0.N, (cfg0.win 8).flush t = true := by decide +kernel

theorem whole9 {A : (⟨3, ![8, 1, 2048]⟩ : Shape).Idx → EReal} {f : ℕ → ℕ → ℕ → ℝ}
    (hA : ∀ t : Fin cfg0.N, Is3 (b := 1) (c := 2048) (((cfg0.win 9).blk t).view.read (Elt Ideal) A) (f t.val)) : Heads A f := fun h i j => by
  obtain ⟨t, rfl⟩ : ∃ t : Fin cfg0.N, h = head t := ⟨⟨h.val, points.symm ▸ h.isLt⟩, rfl⟩
  exact (congrArg A (place9 t 0 i j)).symm.trans (hA t 0 i j)

theorem flush9 : ∀ t : Fin cfg0.N, (cfg0.win 9).flush t = true := by decide +kernel

variable (m : (ℓ : Loc nD τ sig) → Buf (Elt Ideal) ℓ) (c : Dev nD) (Q K V' D : ℕ → ℕ → ℕ → ℝ) (C L : ℕ → ℕ → ℝ)

/-- What the arrays that the kernel stages hold. -/
structure Staged : Prop where
  q : Heads (b := 2048) (w := 64) (V m c main_arg0) Q
  k : Heads (b := 2048) (w := 64) (V m c main_arg1) K
  v : Heads (b := 2048) (w := 64) (V m c main_arg2) V'
  d : Heads (b := 2048) (w := 64) (V m c main_arg4) D
  l : Heads (b := 2048) (w := 1) (V m c main_v22) fun h t _ => L h t
  c : Heads (b := 1) (w := 2048) (V m c main_v23) fun h _ u => C h u

variable {m c Q K V' D C L} (S : Staged m c Q K V' D C L)

include S

theorem holds (t : Fin cfg0.N) : Holds (iblk m c 0 t) (iblk m c 1 t) (iblk m c 2 t) (iblk m c 3 t) (iblk m c 4 t) (iblk m c 5 t)
    (Q t) (K t) (V' t) (D t) (C t) (L t) where
  q := read0 S.q t
  k := read1 S.k t
  v := read2 S.v t
  d := read3 S.d t
  l := read4 S.l t
  c := read5 S.c t

/-- The queries' gradient. -/
theorem out6 (t : Fin cfg0.N) : Is3 (b := 2048) (c := 64) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t))
    fun i j => (fun h => gq (Q h) (K h) (V' h) (D h) (C h) (L h) i j) t.val := by
  unfold out0_A_6
  rw [View.read_writes_junk_eq_canon]
  exact A6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (holds S t)

theorem array6 : Heads (b := 2048) (w := 64) ((Gen.dats m 0 c).arrAt 6 cfg0.N) fun h i j => gq (Q h) (K h) (V' h) (D h) (C h) (L h) i j := by
  refine whole6 fun t => ?_
  rw [Value.blocks6 m c t (flush6 t), Value.flushed6_A]
  exact out6 S t

/-- The keys' gradient. -/
theorem out7 (t : Fin cfg0.N) : Is3 (b := 2048) (c := 64) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t))
    fun i j => (fun h => gk (Q h) (K h) (V' h) (D h) (C h) (L h) i j) t.val := by
  unfold out0_A_7
  rw [View.read_writes_junk_eq_canon]
  exact A7_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (holds S t)

theorem array7 : Heads (b := 2048) (w := 64) ((Gen.dats m 0 c).arrAt 7 cfg0.N) fun h i j => gk (Q h) (K h) (V' h) (D h) (C h) (L h) i j := by
  refine whole7 fun t => ?_
  rw [Value.blocks7 m c t (flush7 t), Value.flushed7_A]
  exact out7 S t

/-- The values' gradient. -/
theorem out8 (t : Fin cfg0.N) : Is3 (b := 2048) (c := 64) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t))
    fun i j => (fun h => gv (Q h) (K h) (D h) (C h) (L h) i j) t.val := by
  unfold out0_A_8
  rw [View.read_writes_junk_eq_canon]
  exact A8_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (holds S t)

theorem array8 : Heads (b := 2048) (w := 64) ((Gen.dats m 0 c).arrAt 8 cfg0.N) fun h i j => gv (Q h) (K h) (D h) (C h) (L h) i j := by
  refine whole8 fun t => ?_
  rw [Value.blocks8 m c t (flush8 t), Value.flushed8_A]
  exact out8 S t

/-- The gate sums' gradient. -/
theorem out9 (t : Fin cfg0.N) : Is3 (b := 1) (c := 2048) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (iblk m c 1 t) (iblk m c 2 t) (iblk m c 3 t) (iblk m c 4 t) (iblk m c 5 t))
    fun i j => (fun h => gc (Q h) (K h) (V' h) (D h) (C h) (L h) j) t.val := by
  unfold out0_A_9
  rw [View.read_writes_junk_eq_canon]
  exact A9_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (holds S t)

theorem array9 : Heads (b := 1) (w := 2048) ((Gen.dats m 0 c).arrAt 9 cfg0.N) fun h i j => gc (Q h) (K h) (V' h) (D h) (C h) (L h) j := by
  refine whole9 fun t => ?_
  rw [Value.blocks9 m c t (flush9 t), Value.flushed9_A]
  exact out9 S t

end Fox

end
-- ==== Proof.Line.lean ====
/- A line of host operations each of which writes a buffer of its own: at the end of the line every buffer holds its operation's
   function of what its operands hold at the end. -/
module

public import Idealize.ShloMosaic.Lib.StableHlo.RunRead

@[expose] public section

noncomputable section

namespace Fox

open Idealize.ShloMosaic Idealize.ShloMosaic.StableHlo Idealize.SL.Sem

variable {τ : Topo} {sig : RefSig} {Val : EltTy → Type}

/-- The contents of an array, from its shape and its entries' type. -/
abbrev Arr (F : FTy → Type) (s : Shape) (e : EltTy) : Type := (⟨s, e⟩ : BufTy).Contents (Elt F)

/-- The line `ops` writes the buffers `ws`, in order. -/
def Writes (ops : List (HloOp τ sig Val)) (ws : List (Ref sig .tc)) : Prop :=
  ops.map HloOp.writes = ws.map fun w => {Proc.devRef (τ := τ) .tc w}

/-- The buffer `r` is written before position `i`, or by no operation. -/
def Before (ws : List (Ref sig .tc)) (i : ℕ) (r : Ref sig .tc) : Prop := r ∉ ws.drop i

/-- In a line that writes no buffer twice, the `j`-th buffer is written before every later position. -/
theorem before_of_lt {ws : List (Ref sig .tc)} {l : List ℕ} (e : (ws.map fun w => w.idx.val) = l) (h : l.Nodup) {i : ℕ} (j : ℕ)
    {r : Ref sig .tc} (hj : ws[j]? = some r) (hji : j < i) : Before ws i r := by
  subst e
  obtain ⟨hl, rfl⟩ := List.getElem?_eq_some_iff.1 hj
  have hn : ws.Nodup := List.Nodup.of_map _ h
  intro hr
  obtain ⟨k, hk, e⟩ := List.mem_iff_getElem.1 hr
  rw [List.getElem_drop] at e
  have := (List.Nodup.getElem_inj_iff hn).1 e
  omega

/-- A buffer of a list `us` whose numbers are all below the line's. -/
theorem before_of_small {ws us : List (Ref sig .tc)} {l la : List ℕ} (n : ℕ) (e : (ws.map fun w => w.idx.val) = l)
    (ea : (us.map fun w => w.idx.val) = la) (h : ∀ k ∈ l, n ≤ k) (ha : ∀ k ∈ la, k < n) (j : ℕ) {r : Ref sig .tc} (hr : us[j]? = some r)
    (i : ℕ) : Before ws i r := fun hm => by
  subst e ea
  exact absurd (h _ (List.mem_map_of_mem (List.mem_of_mem_drop hm)))
    (by have := ha _ (List.mem_map_of_mem (List.mem_of_getElem? hr)); omega)

theorem Writes.nil : Writes ([] : List (HloOp τ sig Val)) [] := rfl

theorem Writes.cons {op : HloOp τ sig Val} {w : Ref sig .tc} {ops : List (HloOp τ sig Val)} {ws : List (Ref sig .tc)}
    (h : op.writes = {Proc.devRef (τ := τ) .tc w}) (t : Writes ops ws) : Writes (op :: ops) (w :: ws) := by
  rw [Writes, List.map_cons, List.map_cons, h, show ops.map HloOp.writes = _ from t]

/-- What a buffer holds at the end of the line. -/
abbrev fin (ops : List (HloOp τ sig Val)) (V : Valuation τ sig Val) (r : Ref sig .tc) : r.ty.Contents Val := after ops V (Proc.devRef .tc r)

variable {ops : List (HloOp τ sig Val)} {ws : List (Ref sig .tc)}

theorem fin_unwritten (h : Writes ops ws) {r : Ref sig .tc} (hr : Before ws 0 r) (V : Valuation τ sig Val) :
    fin ops V r = V (Proc.devRef .tc r) := after_unwritten ws h hr V

theorem drop_eq (i : ℕ) {op : HloOp τ sig Val} (hop : ops[i]? = some op) : ops.drop i = op :: ops.drop (i + 1) := by
  obtain ⟨hi, rfl⟩ := List.getElem?_eq_some_iff.1 hop
  exact List.drop_eq_getElem_cons hi

theorem fin_op (h : Writes ops ws) (i : ℕ) {op : HloOp τ sig Val} (hop : ops[i]? = some op) {r : Ref sig .tc}
    (hr : Before ws (i + 1) r) (V : Valuation τ sig Val) : fin ops V r = op.result (upto ops V i) (Proc.devRef .tc r) :=
  after_last_write (ws.drop (i + 1)) (drop_eq i hop) (by rw [List.map_drop, List.map_drop, show ops.map HloOp.writes = _ from h]) hr V

/-- A buffer that no operation from position `i` on writes holds at position `i` what it holds at the end. -/
theorem upto_eq (h : Writes ops ws) (i : ℕ) {r : Ref sig .tc} (hr : Before ws i r) (V : Valuation τ sig Val) :
    upto ops V i (Proc.devRef .tc r) = fin ops V r := by
  have e : ∀ (l l' : List (HloOp τ sig Val)) (V : Valuation τ sig Val), after (l ++ l') V = after l' (after l V) := by
    intro l l'
    induction l with
    | nil => intro V; rfl
    | cons op l ih => intro V; exact ih _
  have e' := e (ops.take i) (ops.drop i) V
  rw [List.take_append_drop] at e'
  rw [fin, e', after_unwritten (ws.drop i) (by rw [List.map_drop, List.map_drop, show ops.map HloOp.writes = _ from h]) hr]
  rfl

theorem fin_nullary (h : Writes ops ws) (i : ℕ) {y : Ref sig .tc} {v : y.ty.Contents Val} {hy}
    (hop : ops[i]? = some (nullary (τ := τ) y v hy)) (hr : Before ws (i + 1) y) (V : Valuation τ sig Val) : fin ops V y = v :=
  (fin_op h i hop hr V).trans (nullary_result' _ _ _)

theorem fin_unary (h : Writes ops ws) (i : ℕ) {x y : Ref sig .tc} {f : x.ty.Contents Val → y.ty.Contents Val} {hx hy}
    (hop : ops[i]? = some (unary (τ := τ) x y f hx hy)) (hr : Before ws (i + 1) y) (h1 : Before ws i x) (V : Valuation τ sig Val) :
    fin ops V y = f (fin ops V x) := by
  rw [fin_op h i hop hr V, unary_result', upto_eq h i h1]

theorem fin_binary (h : Writes ops ws) (i : ℕ) {a b y : Ref sig .tc} {f : a.ty.Contents Val → b.ty.Contents Val → y.ty.Contents Val}
    {ha hb hy} (hop : ops[i]? = some (binary (τ := τ) a b y f ha hb hy)) (hr : Before ws (i + 1) y) (h1 : Before ws i a)
    (h2 : Before ws i b) (V : Valuation τ sig Val) : fin ops V y = f (fin ops V a) (fin ops V b) := by
  rw [fin_op h i hop hr V, binary_result', upto_eq h i h1, upto_eq h i h2]

theorem fin_ternary (h : Writes ops ws) (i : ℕ) {c a b y : Ref sig .tc}
    {f : c.ty.Contents Val → a.ty.Contents Val → b.ty.Contents Val → y.ty.Contents Val} {hc ha hb hy}
    (hop : ops[i]? = some (ternary (τ := τ) c a b y f hc ha hb hy)) (hr : Before ws (i + 1) y) (h0 : Before ws i c)
    (h1 : Before ws i a) (h2 : Before ws i b) (V : Valuation τ sig Val) :
    fin ops V y = f (fin ops V c) (fin ops V a) (fin ops V b) := by
  rw [fin_op h i hop hr V, ternary_result', upto_eq h i h0, upto_eq h i h1, upto_eq h i h2]

theorem fin_reshape (h : Writes ops ws) (i : ℕ) {x y : Ref sig .tc} {he hn hx hy}
    (hop : ops[i]? = some (reshape (τ := τ) (Val := Val) x y he hn hx hy)) (hr : Before ws (i + 1) y) (h1 : Before ws i x)
    (V : Valuation τ sig Val) : fin ops V y = fun j => he ▸ shapeCast y.ty.shape (fin ops V x) hn j := by
  rw [fin_op h i hop hr V, reshape_result', upto_eq h i h1]

end Fox

end
-- ==== Proof.KerLine.lean ====
/- The host operations that stand before the kernel's launch, as one line, and the equation of every buffer they write. -/
module

public import proofs.«01_k».proof.Proof.Gen.KernelIdeal.Value
public import proofs.«01_k».proof.Proof.Line

@[expose] public section

noncomputable section

namespace Fox.Ker

open Cert.KernelIdeal Cert.KernelIdeal.Gen Idealize.ShloMosaic Idealize.ShloMosaic.TcCoe Idealize.SL.Sem Idealize.ShloMosaic.StableHlo

variable {F : FTy → Type} [FloatOps F]

/-- The operations, in order. -/
abbrev ops : List (HloOp τ sig (Elt F)) :=
  [ binary main_arg0 main_arg1 main_v0 ((fun l r => Host.dotGeneral dot_S8x2048x64_S8x2048x64_S8x2048x2048_2_2_1_1_0_0 none l r) : (⟨S8x2048x64, .bf16⟩ : BufTy).Contents (Elt F) → (⟨S8x2048x64, .bf16⟩ : BufTy).Contents (Elt F) → (⟨S8x2048x2048, .f32⟩ : BufTy).Contents (Elt F)),
    nullary main_cst (constant S_ .f32 0x3E000000#32),
    unary main_cst main_v1 (broadcastInDim S8x2048x2048 ![] bcast_S_S8x2048x2048 : (⟨S_, .f32⟩ : BufTy).Contents (Elt F) → (⟨S8x2048x2048, .f32⟩ : BufTy).Contents (Elt F)),
    binary main_v0 main_v1 main_v2 (mulf : (⟨S8x2048x2048, .f32⟩ : BufTy).Contents (Elt F) → (⟨S8x2048x2048, .f32⟩ : BufTy).Contents (Elt F) → (⟨S8x2048x2048, .f32⟩ : BufTy).Contents (Elt F)),
    unary main_arg3 main_v3 (broadcastInDim S8x1x2048 ![0, 2] bcast_S8x2048_S8x1x2048_0_2 : (⟨S8x2048, .f32⟩ : BufTy).Contents (Elt F) → (⟨S8x1x2048, .f32⟩ : BufTy).Contents (Elt F)),
    unary main_v3 main_v4 (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)),
    binary main_v2 main_v4 main_v5 (subf : (⟨S8x2048x2048, .f32⟩ : BufTy).Contents (Elt F) → (⟨S8x2048x2048, .f32⟩ : BufTy).Contents (Elt F) → (⟨S8x2048x2048, .f32⟩ : BufTy).Contents (Elt F)),
    nullary main_v6 (iotaInDim S2048 32 0),
    unary main_v6 main_v7 (broadcastInDim S2048x1 ![0] bcast_S2048_S2048x1_0 : (⟨S2048, .i32⟩ : BufTy).Contents (Elt F) → (⟨S2048x1, .i32⟩ : BufTy).Contents (Elt F)),
    nullary main_v8 (iotaInDim S2048 32 0),
    unary main_v8 main_v9 (broadcastInDim S1x2048 ![1] bcast_S2048_S1x2048_1 : (⟨S2048, .i32⟩ : BufTy).Contents (Elt F) → (⟨S1x2048, .i32⟩ : BufTy).Contents (Elt F)),
    unary main_v7 main_v10 (broadcastInDim S2048x2048 ![0, 1] bcast_S2048x1_S2048x2048_0_1 : (⟨S2048x1, .i32⟩ : BufTy).Contents (Elt F) → (⟨S2048x2048, .i32⟩ : BufTy).Contents (Elt F)),
    unary main_v9 main_v11 (broadcastInDim S2048x2048 ![0, 1] bcast_S1x2048_S2048x2048_0_1 : (⟨S1x2048, .i32⟩ : BufTy).Contents (Elt F) → (⟨S2048x2048, .i32⟩ : BufTy).Contents (Elt F)),
    binary main_v10 main_v11 main_v12 (cmpi .sge : (⟨S2048x2048, .i32⟩ : BufTy).Contents (Elt F) → (⟨S2048x2048, .i32⟩ : BufTy).Contents (Elt F) → (⟨S2048x2048, .i1⟩ : BufTy).Contents (Elt F)),
    nullary main_cst_0 (constant S_ .f32 0xFF800000#32),
    unary main_cst_0 main_call0_v0 (id : (⟨S_, .f32⟩ : BufTy).Contents (Elt F) → (⟨S_, .f32⟩ : BufTy).Contents (Elt F)),
    unary main_v12 main_call0_v1 ((broadcastInDim S8x2048x2048 ![1, 2] bcast_S2048x2048_S8x2048x2048_1_2) : (⟨S2048x2048, .i1⟩ : BufTy).Contents (Elt F) → (⟨S8x2048x2048, .i1⟩ : BufTy).Contents (Elt F)),
    unary main_call0_v0 main_call0_v2 ((broadcastInDim S8x2048x2048 ![] bcast_S_S8x2048x2048) : (⟨S_, .f32⟩ : BufTy).Contents (Elt F) → (⟨S8x2048x2048, .f32⟩ : BufTy).Contents (Elt F)),
    ternary main_call0_v1 main_v5 main_call0_v2 main_v13 (select : (⟨S8x2048x2048, .i1⟩ : BufTy).Contents (Elt F) → (⟨S8x2048x2048, .f32⟩ : BufTy).Contents (Elt F) → (⟨S8x2048x2048, .f32⟩ : BufTy).Contents (Elt F) → (⟨S8x2048x2048, .f32⟩ : BufTy).Contents (Elt F)),
    nullary main_cst_1 (constant S_ .f32 0xFF800000#32),
    binary main_v13 main_cst_1 main_v14 ((fun x v => Host.reduce FloatOps.maximumf x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    unary main_v14 main_v15 (broadcastInDim S8x2048x1 ![0, 1] bcast_S8x2048_S8x2048x1_0_1 : (⟨S8x2048, .f32⟩ : BufTy).Contents (Elt F) → (⟨S8x2048x1, .f32⟩ : BufTy).Contents (Elt F)),
    unary main_v15 main_v16 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v13 main_v16 main_v17 (subf : (⟨S8x2048x2048, .f32⟩ : BufTy).Contents (Elt F) → (⟨S8x2048x2048, .f32⟩ : BufTy).Contents (Elt F) → (⟨S8x2048x2048, .f32⟩ : BufTy).Contents (Elt F)),
    unary main_v17 main_v18 (Host.exp : (⟨S8x2048x2048, .f32⟩ : BufTy).Contents (Elt F) → (⟨S8x2048x2048, .f32⟩ : BufTy).Contents (Elt F)),
    nullary main_cst_2 (constant S_ .f32 0x00000000#32),
    binary main_v18 main_cst_2 main_v19 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    unary main_v19 main_v20 (broadcastInDim S8x2048x1 ![0, 1] bcast_S8x2048_S8x2048x1_0_1 : (⟨S8x2048, .f32⟩ : BufTy).Contents (Elt F) → (⟨S8x2048x1, .f32⟩ : BufTy).Contents (Elt F)),
    unary main_v20 main_v21 (Host.log : (⟨S8x2048x1, .f32⟩ : BufTy).Contents (Elt F) → (⟨S8x2048x1, .f32⟩ : BufTy).Contents (Elt F)),
    binary main_v15 main_v21 main_v22 (addf : (⟨S8x2048x1, .f32⟩ : BufTy).Contents (Elt F) → (⟨S8x2048x1, .f32⟩ : BufTy).Contents (Elt F) → (⟨S8x2048x1, .f32⟩ : BufTy).Contents (Elt F)),
    unary main_arg3 main_v23 (broadcastInDim S8x1x2048 ![0, 2] bcast_S8x2048_S8x1x2048_0_2 : (⟨S8x2048, .f32⟩ : BufTy).Contents (Elt F) → (⟨S8x1x2048, .f32⟩ : BufTy).Contents (Elt F))]

/-- The buffers they write, in order. -/
abbrev outs : List (Ref sig .tc) :=
  [main_v0, main_cst, main_v1, main_v2, main_v3, main_v4, main_v5, main_v6, main_v7, main_v8, main_v9, main_v10, main_v11, main_v12, main_cst_0, main_call0_v0, main_call0_v1, main_call0_v2, main_v13, main_cst_1, main_v14, main_v15, main_v16, main_v17, main_v18, main_cst_2, main_v19, main_v20, main_v21, main_v22, main_v23]

theorem flatten_eq : List.flatten [hostOps0, hostOps0_1, hostOps0_2] = (ops : List (HloOp τ sig (Elt F))) := rfl

/-- What the launch is given is what the line leaves. -/
theorem V_eq (m : (ℓ : Loc nD τ sig) → Buf (Elt F) ℓ) (c : Dev nD) (r : Ref sig .tc) : V m c r = fin ops (fun b => m (c, b)) r :=
  congrArg (fun l => after l (fun b => m (c, b)) (Proc.devRef .tc r)) flatten_eq

set_option maxRecDepth 8192 in
theorem writes : Writes (ops (F := F)) outs :=
  .cons (binary_writes ..) <| .cons (nullary_writes ..) <| .cons (unary_writes ..) <| .cons (binary_writes ..) <| .cons (unary_writes ..) <| .cons (unary_writes ..) <| .cons (binary_writes ..) <| .cons (nullary_writes ..) <| .cons (unary_writes ..) <| .cons (nullary_writes ..) <| .cons (unary_writes ..) <| .cons (unary_writes ..) <| .cons (unary_writes ..) <| .cons (binary_writes ..) <| .cons (nullary_writes ..) <| .cons (unary_writes ..) <| .cons (unary_writes ..) <| .cons (unary_writes ..) <| .cons (ternary_writes ..) <| .cons (nullary_writes ..) <| .cons (binary_writes ..) <| .cons (unary_writes ..) <| .cons (unary_writes ..) <| .cons (binary_writes ..) <| .cons (unary_writes ..) <| .cons (nullary_writes ..) <| .cons (binary_writes ..) <| .cons (unary_writes ..) <| .cons (unary_writes ..) <| .cons (binary_writes ..) <| .cons (unary_writes ..) <| .nil

/-- The buffers' numbers. -/
theorem numbers : (outs.map fun w => w.idx.val) = List.range' 5 31 := by decide +kernel
theorem once : (List.range' 5 31).Nodup := by decide +kernel
theorem last (i : ℕ) {r : Ref sig .tc} (h : outs[i]? = some r) : Before outs (i + 1) r := before_of_lt numbers once i h (Nat.lt_succ_self _)
theorem old (j : ℕ) {i : ℕ} {r : Ref sig .tc} (h : outs[j]? = some r) (hi : j < i := by decide) : Before outs i r := before_of_lt numbers once j h hi
theorem argNumbers : (([main_arg0, main_arg1, main_arg2, main_arg3, main_arg4] : List (Ref sig .tc)).map fun w => w.idx.val) = [0, 1, 2, 3, 4] := by decide +kernel

variable (V : Valuation τ sig (Elt F))

set_option maxRecDepth 8192

theorem b_arg0 (i : ℕ) : Before outs i main_arg0 := before_of_small 5 numbers argNumbers (by decide +kernel) (by decide) 0 rfl i
theorem e_arg0 : fin ops V main_arg0 = V (Proc.devRef .tc main_arg0) := fin_unwritten writes (b_arg0 0) V
theorem b_arg1 (i : ℕ) : Before outs i main_arg1 := before_of_small 5 numbers argNumbers (by decide +kernel) (by decide) 1 rfl i
theorem e_arg1 : fin ops V main_arg1 = V (Proc.devRef .tc main_arg1) := fin_unwritten writes (b_arg1 0) V
theorem b_arg2 (i : ℕ) : Before outs i main_arg2 := before_of_small 5 numbers argNumbers (by decide +kernel) (by decide) 2 rfl i
theorem e_arg2 : fin ops V main_arg2 = V (Proc.devRef .tc main_arg2) := fin_unwritten writes (b_arg2 0) V
theorem b_arg3 (i : ℕ) : Before outs i main_arg3 := before_of_small 5 numbers argNumbers (by decide +kernel) (by decide) 3 rfl i
theorem e_arg3 : fin ops V main_arg3 = V (Proc.devRef .tc main_arg3) := fin_unwritten writes (b_arg3 0) V
theorem b_arg4 (i : ℕ) : Before outs i main_arg4 := before_of_small 5 numbers argNumbers (by decide +kernel) (by decide) 4 rfl i
theorem e_arg4 : fin ops V main_arg4 = V (Proc.devRef .tc main_arg4) := fin_unwritten writes (b_arg4 0) V

theorem e_v0 : fin ops V main_v0 = ((fun l r => Host.dotGeneral dot_S8x2048x64_S8x2048x64_S8x2048x2048_2_2_1_1_0_0 none l r) : (⟨S8x2048x64, .bf16⟩ : BufTy).Contents (Elt F) → (⟨S8x2048x64, .bf16⟩ : BufTy).Contents (Elt F) → (⟨S8x2048x2048, .f32⟩ : BufTy).Contents (Elt F)) (fin ops V main_arg0 :) (fin ops V main_arg1 :) :=
  fin_binary (y := main_v0) writes 0 rfl (last 0 rfl) (b_arg0 _) (b_arg1 _) V
theorem e_cst : fin ops V main_cst = (constant S_ .f32 0x3E000000#32) :=
  fin_nullary (y := main_cst) writes 1 rfl (last 1 rfl) V
theorem e_v1 : fin ops V main_v1 = (broadcastInDim S8x2048x2048 ![] bcast_S_S8x2048x2048 : (⟨S_, .f32⟩ : BufTy).Contents (Elt F) → (⟨S8x2048x2048, .f32⟩ : BufTy).Contents (Elt F)) (fin ops V main_cst :) :=
  fin_unary (y := main_v1) writes 2 rfl (last 2 rfl) (old 1 rfl) V
theorem e_v2 : fin ops V main_v2 = (mulf : (⟨S8x2048x2048, .f32⟩ : BufTy).Contents (Elt F) → (⟨S8x2048x2048, .f32⟩ : BufTy).Contents (Elt F) → (⟨S8x2048x2048, .f32⟩ : BufTy).Contents (Elt F)) (fin ops V main_v0 :) (fin ops V main_v1 :) :=
  fin_binary (y := main_v2) writes 3 rfl (last 3 rfl) (old 0 rfl) (old 2 rfl) V
theorem e_v3 : fin ops V main_v3 = (broadcastInDim S8x1x2048 ![0, 2] bcast_S8x2048_S8x1x2048_0_2 : (⟨S8x2048, .f32⟩ : BufTy).Contents (Elt F) → (⟨S8x1x2048, .f32⟩ : BufTy).Contents (Elt F)) (fin ops V main_arg3 :) :=
  fin_unary (y := main_v3) writes 4 rfl (last 4 rfl) (b_arg3 _) V
theorem e_v4 : fin ops V main_v4 = (broadcastInDim S8x2048x2048 ![0, 1, 2] bcast_S8x1x2048_S8x2048x2048_0_1_2 : (⟨S8x1x2048, .f32⟩ : BufTy).Contents (Elt F) → (⟨S8x2048x2048, .f32⟩ : BufTy).Contents (Elt F)) (fin ops V main_v3 :) :=
  fin_unary (y := main_v4) writes 5 rfl (last 5 rfl) (old 4 rfl) V
theorem e_v5 : fin ops V main_v5 = (subf : (⟨S8x2048x2048, .f32⟩ : BufTy).Contents (Elt F) → (⟨S8x2048x2048, .f32⟩ : BufTy).Contents (Elt F) → (⟨S8x2048x2048, .f32⟩ : BufTy).Contents (Elt F)) (fin ops V main_v2 :) (fin ops V main_v4 :) :=
  fin_binary (y := main_v5) writes 6 rfl (last 6 rfl) (old 3 rfl) (old 5 rfl) V
theorem e_v6 : fin ops V main_v6 = (iotaInDim S2048 32 0) :=
  fin_nullary (y := main_v6) writes 7 rfl (last 7 rfl) V
theorem e_v7 : fin ops V main_v7 = (broadcastInDim S2048x1 ![0] bcast_S2048_S2048x1_0 : (⟨S2048, .i32⟩ : BufTy).Contents (Elt F) → (⟨S2048x1, .i32⟩ : BufTy).Contents (Elt F)) (fin ops V main_v6 :) :=
  fin_unary (y := main_v7) writes 8 rfl (last 8 rfl) (old 7 rfl) V
theorem e_v8 : fin ops V main_v8 = (iotaInDim S2048 32 0) :=
  fin_nullary (y := main_v8) writes 9 rfl (last 9 rfl) V
theorem e_v9 : fin ops V main_v9 = (broadcastInDim S1x2048 ![1] bcast_S2048_S1x2048_1 : (⟨S2048, .i32⟩ : BufTy).Contents (Elt F) → (⟨S1x2048, .i32⟩ : BufTy).Contents (Elt F)) (fin ops V main_v8 :) :=
  fin_unary (y := main_v9) writes 10 rfl (last 10 rfl) (old 9 rfl) V
theorem e_v10 : fin ops V main_v10 = (broadcastInDim S2048x2048 ![0, 1] bcast_S2048x1_S2048x2048_0_1 : (⟨S2048x1, .i32⟩ : BufTy).Contents (Elt F) → (⟨S2048x2048, .i32⟩ : BufTy).Contents (Elt F)) (fin ops V main_v7 :) :=
  fin_unary (y := main_v10) writes 11 rfl (last 11 rfl) (old 8 rfl) V
theorem e_v11 : fin ops V main_v11 = (broadcastInDim S2048x2048 ![0, 1] bcast_S1x2048_S2048x2048_0_1 : (⟨S1x2048, .i32⟩ : BufTy).Contents (Elt F) → (⟨S2048x2048, .i32⟩ : BufTy).Contents (Elt F)) (fin ops V main_v9 :) :=
  fin_unary (y := main_v11) writes 12 rfl (last 12 rfl) (old 10 rfl) V
theorem e_v12 : fin ops V main_v12 = (cmpi .sge : (⟨S2048x2048, .i32⟩ : BufTy).Contents (Elt F) → (⟨S2048x2048, .i32⟩ : BufTy).Contents (Elt F) → (⟨S2048x2048, .i1⟩ : BufTy).Contents (Elt F)) (fin ops V main_v10 :) (fin ops V main_v11 :) :=
  fin_binary (y := main_v12) writes 13 rfl (last 13 rfl) (old 11 rfl) (old 12 rfl) V
theorem e_cst_0 : fin ops V main_cst_0 = (constant S_ .f32 0xFF800000#32) :=
  fin_nullary (y := main_cst_0) writes 14 rfl (last 14 rfl) V
theorem e_call0_v0 : fin ops V main_call0_v0 = (id : (⟨S_, .f32⟩ : BufTy).Contents (Elt F) → (⟨S_, .f32⟩ : BufTy).Contents (Elt F)) (fin ops V main_cst_0 :) :=
  fin_unary (y := main_call0_v0) writes 15 rfl (last 15 rfl) (old 14 rfl) V
theorem e_call0_v1 : fin ops V main_call0_v1 = ((broadcastInDim S8x2048x2048 ![1, 2] bcast_S2048x2048_S8x2048x2048_1_2) : (⟨S2048x2048, .i1⟩ : BufTy).Contents (Elt F) → (⟨S8x2048x2048, .i1⟩ : BufTy).Contents (Elt F)) (fin ops V main_v12 :) :=
  fin_unary (y := main_call0_v1) writes 16 rfl (last 16 rfl) (old 13 rfl) V
theorem e_call0_v2 : fin ops V main_call0_v2 = ((broadcastInDim S8x2048x2048 ![] bcast_S_S8x2048x2048) : (⟨S_, .f32⟩ : BufTy).Contents (Elt F) → (⟨S8x2048x2048, .f32⟩ : BufTy).Contents (Elt F)) (fin ops V main_call0_v0 :) :=
  fin_unary (y := main_call0_v2) writes 17 rfl (last 17 rfl) (old 15 rfl) V
theorem e_v13 : fin ops V main_v13 = (select : (⟨S8x2048x2048, .i1⟩ : BufTy).Contents (Elt F) → (⟨S8x2048x2048, .f32⟩ : BufTy).Contents (Elt F) → (⟨S8x2048x2048, .f32⟩ : BufTy).Contents (Elt F) → (⟨S8x2048x2048, .f32⟩ : BufTy).Contents (Elt F)) (fin ops V main_call0_v1 :) (fin ops V main_v5 :) (fin ops V main_call0_v2 :) :=
  fin_ternary (y := main_v13) writes 18 rfl (last 18 rfl) (old 16 rfl) (old 6 rfl) (old 17 rfl) V
theorem e_cst_1 : fin ops V main_cst_1 = (constant S_ .f32 0xFF800000#32) :=
  fin_nullary (y := main_cst_1) writes 19 rfl (last 19 rfl) V
theorem e_v14 : fin ops V main_v14 = ((fun x v => Host.reduce FloatOps.maximumf x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)) (fin ops V main_v13 :) (fin ops V main_cst_1 :) :=
  fin_binary (y := main_v14) writes 20 rfl (last 20 rfl) (old 18 rfl) (old 19 rfl) V
theorem e_v15 : fin ops V main_v15 = (broadcastInDim S8x2048x1 ![0, 1] bcast_S8x2048_S8x2048x1_0_1 : (⟨S8x2048, .f32⟩ : BufTy).Contents (Elt F) → (⟨S8x2048x1, .f32⟩ : BufTy).Contents (Elt F)) (fin ops V main_v14 :) :=
  fin_unary (y := main_v15) writes 21 rfl (last 21 rfl) (old 20 rfl) V
theorem e_v16 : fin ops V main_v16 = (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)) (fin ops V main_v15 :) :=
  fin_unary (y := main_v16) writes 22 rfl (last 22 rfl) (old 21 rfl) V
theorem e_v17 : fin ops V main_v17 = (subf : (⟨S8x2048x2048, .f32⟩ : BufTy).Contents (Elt F) → (⟨S8x2048x2048, .f32⟩ : BufTy).Contents (Elt F) → (⟨S8x2048x2048, .f32⟩ : BufTy).Contents (Elt F)) (fin ops V main_v13 :) (fin ops V main_v16 :) :=
  fin_binary (y := main_v17) writes 23 rfl (last 23 rfl) (old 18 rfl) (old 22 rfl) V
theorem e_v18 : fin ops V main_v18 = (Host.exp : (⟨S8x2048x2048, .f32⟩ : BufTy).Contents (Elt F) → (⟨S8x2048x2048, .f32⟩ : BufTy).Contents (Elt F)) (fin ops V main_v17 :) :=
  fin_unary (y := main_v18) writes 24 rfl (last 24 rfl) (old 23 rfl) V
theorem e_cst_2 : fin ops V main_cst_2 = (constant S_ .f32 0x00000000#32) :=
  fin_nullary (y := main_cst_2) writes 25 rfl (last 25 rfl) V
theorem e_v19 : fin ops V main_v19 = ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)) (fin ops V main_v18 :) (fin ops V main_cst_2 :) :=
  fin_binary (y := main_v19) writes 26 rfl (last 26 rfl) (old 24 rfl) (old 25 rfl) V
theorem e_v20 : fin ops V main_v20 = (broadcastInDim S8x2048x1 ![0, 1] bcast_S8x2048_S8x2048x1_0_1 : (⟨S8x2048, .f32⟩ : BufTy).Contents (Elt F) → (⟨S8x2048x1, .f32⟩ : BufTy).Contents (Elt F)) (fin ops V main_v19 :) :=
  fin_unary (y := main_v20) writes 27 rfl (last 27 rfl) (old 26 rfl) V
theorem e_v21 : fin ops V main_v21 = (Host.log : (⟨S8x2048x1, .f32⟩ : BufTy).Contents (Elt F) → (⟨S8x2048x1, .f32⟩ : BufTy).Contents (Elt F)) (fin ops V main_v20 :) :=
  fin_unary (y := main_v21) writes 28 rfl (last 28 rfl) (old 27 rfl) V
theorem e_v22 : fin ops V main_v22 = (addf : (⟨S8x2048x1, .f32⟩ : BufTy).Contents (Elt F) → (⟨S8x2048x1, .f32⟩ : BufTy).Contents (Elt F) → (⟨S8x2048x1, .f32⟩ : BufTy).Contents (Elt F)) (fin ops V main_v15 :) (fin ops V main_v21 :) :=
  fin_binary (y := main_v22) writes 29 rfl (last 29 rfl) (old 21 rfl) (old 28 rfl) V
theorem e_v23 : fin ops V main_v23 = (broadcastInDim S8x1x2048 ![0, 2] bcast_S8x2048_S8x1x2048_0_2 : (⟨S8x2048, .f32⟩ : BufTy).Contents (Elt F) → (⟨S8x1x2048, .f32⟩ : BufTy).Contents (Elt F)) (fin ops V main_arg3 :) :=
  fin_unary (y := main_v23) writes 30 rfl (last 30 rfl) (b_arg3 _) V

end Fox.Ker

end
-- ==== Proof.Soft.lean ====
/- The normaliser of a row's weights, and the gradient of the score in the form in which the reference takes it, over the real numbers. -/
module

public import proofs.«01_k».proof.Proof.Grad

@[expose] public section

noncomputable section

namespace Fox

open Finset

variable (Q K V D : ℕ → ℕ → ℝ) (C : ℕ → ℝ)

/-- The exponential of a score that is shifted by `a`: zero above the diagonal. -/
def ex (a : ℝ) (t u : ℕ) : ℝ := if u ≤ t then Real.exp (score Q K C t u + a) else 0

/-- The row's sum of them. -/
def total (a : ℝ) (t : ℕ) : ℝ := ∑ u ∈ range 2048, ex Q K C a t u

/-- The log-sum of the row's exponentials. -/
def lse (t : ℕ) : ℝ := Real.log (total Q K C 0 t)

variable {Q K V D C}

theorem ex_nonneg (a : ℝ) (t u : ℕ) : 0 ≤ ex Q K C a t u := by
  unfold ex
  split
  · exact (Real.exp_pos _).le
  · exact le_rfl

/-- The first key is seen by every query. -/
theorem total_pos (a : ℝ) (t : ℕ) : 0 < total Q K C a t :=
  sum_pos' (fun u _ => ex_nonneg a t u) ⟨0, mem_range.2 (by decide), by rw [ex, if_pos (Nat.zero_le t)]; exact Real.exp_pos _⟩

/-- A shift of the scores is a common factor. -/
theorem ex_shift (a : ℝ) (t u : ℕ) : ex Q K C a t u = Real.exp a * ex Q K C 0 t u := by
  unfold ex
  split
  · rw [← Real.exp_add]; congr 1; ring
  · rw [mul_zero]

theorem total_shift (a : ℝ) (t : ℕ) : total Q K C a t = Real.exp a * total Q K C 0 t := by
  unfold total
  rw [mul_sum]
  exact sum_congr rfl fun u _ => ex_shift a t u

/-- The log-sum may be taken from scores that are shifted down by any number, which is then added back. -/
theorem lse_shift (m : ℝ) (t : ℕ) : m + Real.log (total Q K C (-m) t) = lse Q K C t := by
  rw [total_shift, Real.log_mul (Real.exp_pos _).ne' (total_pos 0 t).ne', Real.log_exp, lse]; ring

/-- The weight is the exponential over the row's sum, whatever the shift. -/
theorem prob_eq (a : ℝ) (t u : ℕ) : prob Q K C (lse Q K C) t u = ex Q K C a t u / total Q K C a t := by
  rw [ex_shift a, total_shift a, mul_div_mul_left _ _ (Real.exp_pos a).ne']
  by_cases h : u ≤ t
  · rw [prob_of_le h, ex, if_pos h, Real.exp_sub, add_zero, lse, Real.exp_log (total_pos 0 t)]
  · rw [prob_of_lt (by omega), ex, if_neg h, zero_div]

/-- The weights of a row sum to one, -/
theorem prob_sum (t : ℕ) : ∑ u ∈ range 2048, prob Q K C (lse Q K C) t u = 1 := by
  rw [sum_congr rfl fun u _ => prob_eq 0 t u, ← sum_div]
  exact div_self (total_pos 0 t).ne'

/-- so the gradients of a row's scores sum to zero. -/
theorem dscore_sum (t : ℕ) : ∑ u ∈ range 2048, dscore Q K V D C (lse Q K C) t u = 0 := by
  unfold dscore
  rw [sum_congr rfl fun u _ => mul_sub _ _ _, sum_sub_distrib, ← sum_mul, prob_sum, one_mul, rowdot,
    sum_congr rfl fun u _ => mul_comm (prob Q K C (lse Q K C) t u) _, sub_self]

/-- The gradient of the score from that of the quotient: through the numerator and through the row's sum. -/
theorem dscore_eq (a : ℝ) (t u : ℕ) :
    (dprob V D t u / total Q K C a t + (- ∑ k ∈ range 2048, dprob V D t k * (1 / (total Q K C a t * total Q K C a t)) * ex Q K C a t k)) * ex Q K C a t u
      = dscore Q K V D C (lse Q K C) t u := by
  have z := (total_pos (Q := Q) (K := K) (C := C) a t).ne'
  have r : rowdot Q K V D C (lse Q K C) t = (∑ k ∈ range 2048, dprob V D t k * ex Q K C a t k) / total Q K C a t := by
    rw [rowdot, sum_div]
    exact sum_congr rfl fun k _ => by rw [prob_eq a, mul_div_assoc]
  have s : ∑ k ∈ range 2048, dprob V D t k * (1 / (total Q K C a t * total Q K C a t)) * ex Q K C a t k
      = (∑ k ∈ range 2048, dprob V D t k * ex Q K C a t k) * (1 / (total Q K C a t * total Q K C a t)) := by
    rw [sum_mul]
    exact sum_congr rfl fun k _ => by ring
  rw [dscore, prob_eq a, r, s]
  field_simp
  ring

/-- The score as a product that is scaled afterwards. -/
theorem score_eq (t u : ℕ) : (∑ d ∈ range 64, Q t d * K u d) * (1 / 8) - C u = score Q K C t u := by
  rw [score, sum_mul]
  congr 1
  exact sum_congr rfl fun d _ => by ring

end Fox

end
-- ==== Proof.KerValue.lean ====
/- What the host lines before the launch compute: the log-sum of each row's exponentials. -/
module

public import proofs.«01_k».proof.Proof.KerLine
public import proofs.«01_k».proof.Proof.Array
public import proofs.«01_k».proof.Proof.Soft

@[expose] public section

noncomputable section

namespace Fox.Ker

open Cert.KernelIdeal Cert.KernelIdeal.Gen Idealize.ShloMosaic Idealize.ShloMosaic.TcCoe Idealize.ShloMosaic.ValueIdx Finset

/-- The arguments hold real numbers. -/
structure Given (V : Valuation τ sig (Elt Ideal)) (Q K V' D : ℕ → ℕ → ℕ → ℝ) (C : ℕ → ℕ → ℝ) : Prop where
  q : Heads (b := 2048) (w := 64) (V (Proc.devRef .tc main_arg0)) Q
  k : Heads (b := 2048) (w := 64) (V (Proc.devRef .tc main_arg1)) K
  v : Heads (b := 2048) (w := 64) (V (Proc.devRef .tc main_arg2)) V'
  c : Rows (n := 2048) (V (Proc.devRef .tc main_arg3)) C
  d : Heads (b := 2048) (w := 64) (V (Proc.devRef .tc main_arg4)) D

variable {V : Valuation τ sig (Elt Ideal)} {Q K V' D : ℕ → ℕ → ℕ → ℝ} {C M : ℕ → ℕ → ℝ} (G : Given V Q K V' D C)

include G in
theorem q_is : Heads (b := 2048) (w := 64) (fin ops V main_arg0) Q := .of_eq (e_arg0 V) G.q
include G in
theorem k_is : Heads (b := 2048) (w := 64) (fin ops V main_arg1) K := .of_eq (e_arg1 V) G.k
include G in
theorem v_is : Heads (b := 2048) (w := 64) (fin ops V main_arg2) V' := .of_eq (e_arg2 V) G.v
include G in
theorem c_is : Rows (n := 2048) (fin ops V main_arg3) C := .of_eq (e_arg3 V) G.c
include G in
theorem d_is : Heads (b := 2048) (w := 64) (fin ops V main_arg4) D := .of_eq (e_arg4 V) G.d
include G in
theorem gate_is : Heads (b := 1) (w := 2048) (fin ops V main_v23) fun h _ u => C h u := .of_eq (e_v23 V) ((c_is G).line _ (by decide))

include G in
theorem v5_is : Heads (b := 2048) (w := 2048) (fin ops V main_v5) fun h i j => score (Q h) (K h) (C h) i j :=
  .congr (.of_eq (e_v5 V) <| .sub
      (.of_eq (e_v2 V) <| .mul (.of_eq (e_v0 V) (heads_nt _ (q_is G) (k_is G)))
        (.of_eq (e_v1 V) (heads_scalar (fun i => (congrFun (e_cst V) i).trans eighth_f32) _)))
      (.of_eq (e_v4 V) <| .overRows (.of_eq (e_v3 V) ((c_is G).line _ (by decide))) _ (by decide)))
    fun _ _ _ _ _ _ => score_eq _ _

theorem causal : Causal (n := 2048) (fin ops V main_call0_v1) := by
  refine .of_eq (e_call0_v1 V) ?_
  rw [e_v12, e_v10, e_v11, e_v7, e_v9, e_v6, e_v8]
  exact causal_is le_rfl (by decide) _ _ _ _ _

include G in
theorem masked : Masked (n := 2048) (fin ops V main_v13) fun h i j => score (Q h) (K h) (C h) i j :=
  .of_eq (e_v13 V) <| causal.mask (v5_is G) fun i =>
    (congrFun (e_call0_v2 V) i).trans (bottom_scalar (fun j => (congrFun (e_call0_v0 V) j).trans ((congrFun (e_cst_0 V) j).trans bottom_f32)) _ i)

include G in
theorem rowMax : ∃ M : ℕ → ℕ → ℝ, Rows (n := 2048) (fin ops V main_v14) M := by
  obtain ⟨M, h⟩ := (masked G).rowMax (z := fin ops V main_cst_1) reducesTo_S8x2048x2048_S8x2048_d2 h_S_
    (fun i => (congrFun (e_cst_1 V) i).trans bottom_f32) (by decide)
  exact ⟨M, .of_eq (e_v14 V) h⟩

variable (hM : Rows (n := 2048) (fin ops V main_v14) M)

include hM in
theorem v15_is : Heads (b := 2048) (w := 1) (fin ops V main_v15) fun h i _ => M h i := .of_eq (e_v15 V) <| hM.column _ (by decide)

include G hM in
theorem v18_is : Heads (b := 2048) (w := 2048) (fin ops V main_v18) fun h i j => ex (Q h) (K h) (C h) (- M h i) i j :=
  .congr (.of_eq (e_v18 V) <| Masked.exp <| .of_eq (e_v17 V) <| .sub (masked G) <| .of_eq (e_v16 V) <| (v15_is hM).overKeys _ (by decide))
    fun _ _ _ _ _ _ => by rw [sub_eq_add_neg]; rfl

include G hM in
theorem lse_of_max : Heads (b := 2048) (w := 1) (fin ops V main_v22) fun h i _ => lse (Q h) (K h) (C h) i :=
  .congr (.of_eq (e_v22 V) <| (v15_is hM).add <| .of_eq (e_v21 V) <| .log (.of_eq (e_v20 V) <| Rows.column (.of_eq (e_v19 V) <|
      (v18_is G hM).sumKeys _ _ (fun i => (congrFun (e_cst_2 V) i).trans zero_f32) (by decide)) _ (by decide)) fun _ _ _ => total_pos _ _)
    fun _ _ _ _ _ _ => lse_shift _ _

include G in
/-- The third operand that the host prepares is the log-sum of each row's exponentials. -/
theorem lse_is : Heads (b := 2048) (w := 1) (fin ops V main_v22) fun h i _ => lse (Q h) (K h) (C h) i :=
  (rowMax G).elim fun _ hM => lse_of_max G hM

/-- What the launch stages. -/
theorem staged {m : (ℓ : Loc nD τ sig) → Buf (Elt Ideal) ℓ} {c : Dev nD} (G : Given (fun b => m (c, b)) Q K V' D C) :
    Staged m c Q K V' D C fun h => lse (Q h) (K h) (C h) where
  q := .of_eq (V_eq m c main_arg0) (q_is G)
  k := .of_eq (V_eq m c main_arg1) (k_is G)
  v := .of_eq (V_eq m c main_arg2) (v_is G)
  d := .of_eq (V_eq m c main_arg4) (d_is G)
  l := .of_eq (V_eq m c main_v22) (lse_is G)
  c := .of_eq (V_eq m c main_v23) (gate_is G)

end Fox.Ker

end
-- ==== Proof.RefLine.lean ====
/- The reference's host program as a line of operations, its run, and the equation of every buffer that a result needs. -/
module

public import proofs.«01_k».proof.Proof.Gen.ReferenceIdeal
public import proofs.«01_k».proof.Proof.Line
public import Idealize.ShloMosaic.Lib.StableHlo.Run
public import Idealize.ShloMosaic.Lib.Pipeline.Regions

@[expose] public section

noncomputable section

namespace Fox.Ref

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ unary main_arg1 main_v0 ((extf .f32 · bitsLt_bf16_f32) : Arr F S8x2048x64 .bf16 → Arr F S8x2048x64 .f32),
    unary main_arg2 main_v1 ((extf .f32 · bitsLt_bf16_f32) : Arr F S8x2048x64 .bf16 → Arr F S8x2048x64 .f32),
    unary main_v0 main_v2 ((truncf .bf16 · bitsLt_bf16_f32) : Arr F S8x2048x64 .f32 → Arr F S8x2048x64 .bf16),
    unary main_v1 main_v3 ((truncf .bf16 · bitsLt_bf16_f32) : Arr F S8x2048x64 .f32 → Arr F S8x2048x64 .bf16),
    binary main_arg0 main_v2 main_v4 ((fun l r => Host.dotGeneral dot_S8x2048x64_S8x2048x64_S8x2048x2048_2_2_1_1_0_0 none l r) : Arr F S8x2048x64 .bf16 → Arr F S8x2048x64 .bf16 → Arr F S8x2048x2048 .f32),
    nullary main_cst (constant S_ .f32 0x3E000000#32),
    unary main_cst main_v5 (broadcastInDim S8x2048x2048 ![] bcast_S_S8x2048x2048 : Arr F S_ .f32 → Arr F S8x2048x2048 .f32),
    binary main_v4 main_v5 main_v6 (mulf : Arr F S8x2048x2048 .f32 → Arr F S8x2048x2048 .f32 → Arr F S8x2048x2048 .f32),
    unary main_arg3 main_v7 (broadcastInDim S8x2048x1 ![0, 1] bcast_S8x2048_S8x2048x1_0_1 : Arr F S8x2048 .f32 → Arr F S8x2048x1 .f32),
    unary main_v7 main_v8 (broadcastInDim S8x2048x2048 ![0, 1, 2] bcast_S8x2048x1_S8x2048x2048_0_1_2 : Arr F S8x2048x1 .f32 → Arr F S8x2048x2048 .f32),
    binary main_v6 main_v8 main_v9 (addf : Arr F S8x2048x2048 .f32 → Arr F S8x2048x2048 .f32 → Arr F S8x2048x2048 .f32),
    unary main_arg3 main_v10 (broadcastInDim S8x1x2048 ![0, 2] bcast_S8x2048_S8x1x2048_0_2 : Arr F S8x2048 .f32 → Arr F S8x1x2048 .f32),
    unary main_v10 main_v11 (broadcastInDim S8x2048x2048 ![0, 1, 2] bcast_S8x1x2048_S8x2048x2048_0_1_2 : Arr F S8x1x2048 .f32 → Arr F S8x2048x2048 .f32),
    binary main_v9 main_v11 main_v12 (subf : Arr F S8x2048x2048 .f32 → Arr F S8x2048x2048 .f32 → Arr F S8x2048x2048 .f32),
    nullary main_v13 (iotaInDim S2048 32 0),
    unary main_v13 main_v14 (broadcastInDim S2048x1 ![0] bcast_S2048_S2048x1_0 : Arr F S2048 .i32 → Arr F S2048x1 .i32),
    nullary main_v15 (iotaInDim S2048 32 0),
    unary main_v15 main_v16 (broadcastInDim S1x2048 ![1] bcast_S2048_S1x2048_1 : Arr F S2048 .i32 → Arr F S1x2048 .i32),
    unary main_v14 main_v17 (broadcastInDim S2048x2048 ![0, 1] bcast_S2048x1_S2048x2048_0_1 : Arr F S2048x1 .i32 → Arr F S2048x2048 .i32),
    unary main_v16 main_v18 (broadcastInDim S2048x2048 ![0, 1] bcast_S1x2048_S2048x2048_0_1 : Arr F S1x2048 .i32 → Arr F S2048x2048 .i32),
    binary main_v17 main_v18 main_v19 (cmpi .sge : Arr F S2048x2048 .i32 → Arr F S2048x2048 .i32 → Arr F S2048x2048 .i1),
    nullary main_cst_0 (constant S_ .f32 0xFF800000#32),
    unary main_cst_0 main_call0_v0 (id : Arr F S_ .f32 → Arr F S_ .f32),
    unary main_v19 main_v20_1 ((broadcastInDim S8x2048x2048 ![1, 2] bcast_S2048x2048_S8x2048x2048_1_2) : Arr F S2048x2048 .i1 → Arr F S8x2048x2048 .i1),
    unary main_call0_v0 main_call0_v2 ((broadcastInDim S8x2048x2048 ![] bcast_S_S8x2048x2048) : Arr F S_ .f32 → Arr F S8x2048x2048 .f32),
    ternary main_v20_1 main_v12 main_call0_v2 main_v20_0 (select : Arr F S8x2048x2048 .i1 → Arr F S8x2048x2048 .f32 → Arr F S8x2048x2048 .f32 → Arr F S8x2048x2048 .f32),
    nullary main_call0_cst ((constant S_ .f32 0x00000000#32) : Arr F S_ .f32),
    unary main_call0_cst main_v20_2 ((broadcastInDim S8x2048x2048 ![] bcast_S_S8x2048x2048) : Arr F S_ .f32 → Arr F S8x2048x2048 .f32),
    nullary main_cst_1 (constant S_ .f32 0xFF800000#32),
    binary main_v20_0 main_cst_1 main_v21 ((fun x v => Host.reduce FloatOps.maximumf x v reducesTo_S8x2048x2048_S8x2048_d2 h_S_) : Arr F S8x2048x2048 .f32 → Arr F S_ .f32 → Arr F S8x2048 .f32),
    reshape main_v21 main_v22 (rfl : (.f32 : EltTy) = .f32) shapeCasts_S8x2048_S8x2048x1,
    unary main_v22 main_v23 (broadcastInDim S8x2048x2048 ![0, 1, 2] bcast_S8x2048x1_S8x2048x2048_0_1_2 : Arr F S8x2048x1 .f32 → Arr F S8x2048x2048 .f32),
    binary main_v20_0 main_v23 main_v24 (cmpf .oeq : Arr F S8x2048x2048 .f32 → Arr F S8x2048x2048 .f32 → Arr F S8x2048x2048 .i1),
    unary main_v24 main_v25 (uitofp .f32 : Arr F S8x2048x2048 .i1 → Arr F S8x2048x2048 .f32),
    nullary main_cst_2 (constant S_ .f32 0x00000000#32),
    binary main_v25 main_cst_2 main_v26 ((fun x v => Host.reduceAdd x v reducesTo_S8x2048x2048_S8x2048_d2 h_S_) : Arr F S8x2048x2048 .f32 → Arr F S_ .f32 → Arr F S8x2048 .f32),
    nullary main_cst_3 (constant S_ .f32 0xFF800000#32),
    unary main_cst_3 main_v27 (broadcastInDim S8x2048 ![] bcast_S_S8x2048 : Arr F S_ .f32 → Arr F S8x2048 .f32),
    binary main_v27 main_v21 main_v28 (maximumf : Arr F S8x2048 .f32 → Arr F S8x2048 .f32 → Arr F S8x2048 .f32),
    nullary main_cst_4 (constant S_ .f32 0xFF800000#32),
    unary main_cst_4 main_v29 (broadcastInDim S8x2048 ![] bcast_S_S8x2048 : Arr F S_ .f32 → Arr F S8x2048 .f32),
    binary main_v21 main_v29 main_v30 (cmpf .ogt : Arr F S8x2048 .f32 → Arr F S8x2048 .f32 → Arr F S8x2048 .i1),
    nullary main_cst_5 (constant S_ .f32 0xFF800000#32),
    unary main_cst_5 main_v31 (broadcastInDim S8x2048 ![] bcast_S_S8x2048 : Arr F S_ .f32 → Arr F S8x2048 .f32),
    binary main_v21 main_v31 main_v32 (cmpf .oeq : Arr F S8x2048 .f32 → Arr F S8x2048 .f32 → Arr F S8x2048 .i1),
    nullary main_cst_6 (constant S_ .f32 0x3F800000#32),
    unary main_cst_6 main_v33 (broadcastInDim S8x2048 ![] bcast_S_S8x2048 : Arr F S_ .f32 → Arr F S8x2048 .f32),
    nullary main_cst_7 (constant S_ .f32 0x00000000#32),
    unary main_cst_7 main_v34 (broadcastInDim S8x2048 ![] bcast_S_S8x2048 : Arr F S_ .f32 → Arr F S8x2048 .f32),
    nullary main_cst_8 (constant S_ .f32 0x3F000000#32),
    unary main_cst_8 main_v35 (broadcastInDim S8x2048 ![] bcast_S_S8x2048 : Arr F S_ .f32 → Arr F S8x2048 .f32),
    ternary main_v32 main_v35 main_v34 main_v36 (select : Arr F S8x2048 .i1 → Arr F S8x2048 .f32 → Arr F S8x2048 .f32 → Arr F S8x2048 .f32),
    ternary main_v30 main_v33 main_v36 main_v37 (select : Arr F S8x2048 .i1 → Arr F S8x2048 .f32 → Arr F S8x2048 .f32 → Arr F S8x2048 .f32),
    unary main_v28 main_v38 (broadcastInDim S8x2048x1 ![0, 1] bcast_S8x2048_S8x2048x1_0_1 : Arr F S8x2048 .f32 → Arr F S8x2048x1 .f32),
    unary main_v38 main_v39 (broadcastInDim S8x2048x2048 ![0, 1, 2] bcast_S8x2048x1_S8x2048x2048_0_1_2 : Arr F S8x2048x1 .f32 → Arr F S8x2048x2048 .f32),
    binary main_v20_0 main_v39 main_v40 (subf : Arr F S8x2048x2048 .f32 → Arr F S8x2048x2048 .f32 → Arr F S8x2048x2048 .f32),
    unary main_v40 main_v41 (Host.exp : Arr F S8x2048x2048 .f32 → Arr F S8x2048x2048 .f32),
    nullary main_cst_9 (constant S_ .f32 0x00000000#32),
    binary main_v41 main_cst_9 main_v42 ((fun x v => Host.reduceAdd x v reducesTo_S8x2048x2048_S8x2048_d2 h_S_) : Arr F S8x2048x2048 .f32 → Arr F S_ .f32 → Arr F S8x2048 .f32),
    unary main_v42 main_v43 (broadcastInDim S8x2048x1 ![0, 1] bcast_S8x2048_S8x2048x1_0_1 : Arr F S8x2048 .f32 → Arr F S8x2048x1 .f32),
    unary main_v43 main_v44 (broadcastInDim S8x2048x2048 ![0, 1, 2] bcast_S8x2048x1_S8x2048x2048_0_1_2 : Arr F S8x2048x1 .f32 → Arr F S8x2048x2048 .f32),
    binary main_v41 main_v44 main_v45 (Host.divf : Arr F S8x2048x2048 .f32 → Arr F S8x2048x2048 .f32 → Arr F S8x2048x2048 .f32),
    binary main_v43 main_v43 main_v46 (mulf : Arr F S8x2048x1 .f32 → Arr F S8x2048x1 .f32 → Arr F S8x2048x1 .f32),
    nullary main_cst_10 (constant S_ .f32 0x3F800000#32),
    unary main_cst_10 main_v47 (broadcastInDim S8x2048x1 ![] bcast_S_S8x2048x1 : Arr F S_ .f32 → Arr F S8x2048x1 .f32),
    binary main_v47 main_v46 main_v48 (Host.divf : Arr F S8x2048x1 .f32 → Arr F S8x2048x1 .f32 → Arr F S8x2048x1 .f32),
    unary main_v45 main_v49 ((truncf .bf16 · bitsLt_bf16_f32) : Arr F S8x2048x2048 .f32 → Arr F S8x2048x2048 .bf16),
    binary main_v49 main_v3 main_v50 ((fun l r => Host.dotGeneral dot_S8x2048x2048_S8x2048x64_S8x2048x64_2_1_1_2_0_0 none l r) : Arr F S8x2048x2048 .bf16 → Arr F S8x2048x64 .bf16 → Arr F S8x2048x64 .f32),
    unary main_v50 main_v51 ((truncf .bf16 · bitsLt_bf16_f32) : Arr F S8x2048x64 .f32 → Arr F S8x2048x64 .bf16),
    unary main_arg4 main_v52 ((extf .f32 · bitsLt_bf16_f32) : Arr F S8x2048x64 .bf16 → Arr F S8x2048x64 .f32),
    binary main_v52 main_v49 main_v53 ((fun l r => Host.dotGeneral dot_S8x2048x64_S8x2048x2048_S8x64x2048_1_1_2_2_0_0 none l r) : Arr F S8x2048x64 .f32 → Arr F S8x2048x2048 .bf16 → Arr F S8x64x2048 .f32),
    unary main_v53 main_v54 ((transpose S8x2048x64 [0, 2, 1] · transposes_S8x64x2048_S8x2048x64_0_2_1) : Arr F S8x64x2048 .f32 → Arr F S8x2048x64 .f32),
    unary main_v54 main_v55 ((truncf .bf16 · bitsLt_bf16_f32) : Arr F S8x2048x64 .f32 → Arr F S8x2048x64 .bf16),
    binary main_v52 main_v3 main_v56 ((fun l r => Host.dotGeneral dot_S8x2048x64_S8x2048x64_S8x2048x2048_2_2_1_1_0_0 none l r) : Arr F S8x2048x64 .f32 → Arr F S8x2048x64 .bf16 → Arr F S8x2048x2048 .f32),
    unary main_v56 main_v57 ((truncf .bf16 · bitsLt_bf16_f32) : Arr F S8x2048x2048 .f32 → Arr F S8x2048x2048 .bf16),
    unary main_v57 main_v58 ((extf .f32 · bitsLt_bf16_f32) : Arr F S8x2048x2048 .bf16 → Arr F S8x2048x2048 .f32),
    unary main_v48 main_v59 (broadcastInDim S8x2048x2048 ![0, 1, 2] bcast_S8x2048x1_S8x2048x2048_0_1_2 : Arr F S8x2048x1 .f32 → Arr F S8x2048x2048 .f32),
    binary main_v58 main_v59 main_v60 (mulf : Arr F S8x2048x2048 .f32 → Arr F S8x2048x2048 .f32 → Arr F S8x2048x2048 .f32),
    binary main_v60 main_v41 main_v61 (mulf : Arr F S8x2048x2048 .f32 → Arr F S8x2048x2048 .f32 → Arr F S8x2048x2048 .f32),
    nullary main_cst_11 (constant S_ .f32 0x00000000#32),
    binary main_v61 main_cst_11 main_v62 ((fun x v => Host.reduceAdd x v reducesTo_S8x2048x2048_S8x2048_d2 h_S_) : Arr F S8x2048x2048 .f32 → Arr F S_ .f32 → Arr F S8x2048 .f32),
    reshape main_v62 main_v63 (rfl : (.f32 : EltTy) = .f32) shapeCasts_S8x2048_S8x2048x1,
    unary main_v63 main_v64 (Host.negf : Arr F S8x2048x1 .f32 → Arr F S8x2048x1 .f32),
    unary main_v43 main_v65 (broadcastInDim S8x2048x2048 ![0, 1, 2] bcast_S8x2048x1_S8x2048x2048_0_1_2 : Arr F S8x2048x1 .f32 → Arr F S8x2048x2048 .f32),
    binary main_v58 main_v65 main_v66 (Host.divf : Arr F S8x2048x2048 .f32 → Arr F S8x2048x2048 .f32 → Arr F S8x2048x2048 .f32),
    nullary main_cst_12 (constant S_ .f32 0x00000000#32),
    binary main_v64 main_cst_12 main_v67 ((fun x v => Host.reduceAdd x v reducesTo_S8x2048x1_S8x2048_d2 h_S_) : Arr F S8x2048x1 .f32 → Arr F S_ .f32 → Arr F S8x2048 .f32),
    unary main_v67 main_v68 (broadcastInDim S8x2048x2048 ![0, 1] bcast_S8x2048_S8x2048x2048_0_1 : Arr F S8x2048 .f32 → Arr F S8x2048x2048 .f32),
    binary main_v66 main_v68 main_v69 (addf : Arr F S8x2048x2048 .f32 → Arr F S8x2048x2048 .f32 → Arr F S8x2048x2048 .f32),
    binary main_v69 main_v41 main_v70 (mulf : Arr F S8x2048x2048 .f32 → Arr F S8x2048x2048 .f32 → Arr F S8x2048x2048 .f32),
    nullary main_call1_cst ((constant S_ .f32 0x00000000#32) : Arr F S_ .f32),
    unary main_call1_cst main_call1_v0 ((broadcastInDim S8x2048x2048 ![] bcast_S_S8x2048x2048) : Arr F S_ .f32 → Arr F S8x2048x2048 .f32),
    ternary main_v20_1 main_v70 main_call1_v0 main_v71 (select : Arr F S8x2048x2048 .i1 → Arr F S8x2048x2048 .f32 → Arr F S8x2048x2048 .f32 → Arr F S8x2048x2048 .f32),
    unary main_v71 main_v72 (Host.negf : Arr F S8x2048x2048 .f32 → Arr F S8x2048x2048 .f32),
    nullary main_cst_13 (constant S_ .f32 0x00000000#32),
    binary main_v72 main_cst_13 main_v73 ((fun x v => Host.reduceAdd x v reducesTo_S8x2048x2048_S8x2048_d1 h_S_) : Arr F S8x2048x2048 .f32 → Arr F S_ .f32 → Arr F S8x2048 .f32),
    reshape main_v73 main_v74 (rfl : (.f32 : EltTy) = .f32) shapeCasts_S8x2048_S8x1x2048,
    nullary main_cst_14 (constant S_ .f32 0x00000000#32),
    binary main_v74 main_cst_14 main_v75 ((fun x v => Host.reduceAdd x v reducesTo_S8x1x2048_S8x2048_d1 h_S_) : Arr F S8x1x2048 .f32 → Arr F S_ .f32 → Arr F S8x2048 .f32),
    nullary main_cst_15 (constant S_ .f32 0x00000000#32),
    binary main_v71 main_cst_15 main_v76 ((fun x v => Host.reduceAdd x v reducesTo_S8x2048x2048_S8x2048_d2 h_S_) : Arr F S8x2048x2048 .f32 → Arr F S_ .f32 → Arr F S8x2048 .f32),
    reshape main_v76 main_v77 (rfl : (.f32 : EltTy) = .f32) shapeCasts_S8x2048_S8x2048x1,
    nullary main_cst_16 (constant S_ .f32 0x00000000#32),
    binary main_v77 main_cst_16 main_v78 ((fun x v => Host.reduceAdd x v reducesTo_S8x2048x1_S8x2048_d2 h_S_) : Arr F S8x2048x1 .f32 → Arr F S_ .f32 → Arr F S8x2048 .f32),
    binary main_v75 main_v78 main_v79 (addf : Arr F S8x2048 .f32 → Arr F S8x2048 .f32 → Arr F S8x2048 .f32),
    nullary main_cst_17 (constant S_ .f32 0x3E000000#32),
    unary main_cst_17 main_v80 (broadcastInDim S8x2048x2048 ![] bcast_S_S8x2048x2048 : Arr F S_ .f32 → Arr F S8x2048x2048 .f32),
    binary main_v71 main_v80 main_v81 (mulf : Arr F S8x2048x2048 .f32 → Arr F S8x2048x2048 .f32 → Arr F S8x2048x2048 .f32),
    binary main_v81 main_arg0 main_v82 ((fun l r => Host.dotGeneral dot_S8x2048x2048_S8x2048x64_S8x2048x64_1_1_2_2_0_0 none l r) : Arr F S8x2048x2048 .f32 → Arr F S8x2048x64 .bf16 → Arr F S8x2048x64 .f32),
    unary main_v82 main_v83 ((truncf .bf16 · bitsLt_bf16_f32) : Arr F S8x2048x64 .f32 → Arr F S8x2048x64 .bf16),
    binary main_v81 main_v2 main_v84 ((fun l r => Host.dotGeneral dot_S8x2048x2048_S8x2048x64_S8x2048x64_2_1_1_2_0_0 none l r) : Arr F S8x2048x2048 .f32 → Arr F S8x2048x64 .bf16 → Arr F S8x2048x64 .f32),
    unary main_v84 main_v85 ((truncf .bf16 · bitsLt_bf16_f32) : Arr F S8x2048x64 .f32 → Arr F S8x2048x64 .bf16),
    unary main_v55 main_v86 ((extf .f32 · bitsLt_bf16_f32) : Arr F S8x2048x64 .bf16 → Arr F S8x2048x64 .f32),
    unary main_v83 main_v87 ((extf .f32 · bitsLt_bf16_f32) : Arr F S8x2048x64 .bf16 → Arr F S8x2048x64 .f32),
    reshape main_v79 main_v88 (rfl : (.f32 : EltTy) = .f32) shapeCasts_S8x2048_S8x1x2048]

/-- The buffers they write, in order. -/
abbrev outs : List (Ref sig .tc) :=
  [main_v0, main_v1, main_v2, main_v3, main_v4, main_cst, main_v5, main_v6, main_v7, main_v8, main_v9, main_v10, main_v11, main_v12, main_v13, main_v14, main_v15, main_v16, main_v17, main_v18, main_v19, main_cst_0, main_call0_v0, main_v20_1, main_call0_v2, main_v20_0, main_call0_cst, main_v20_2, main_cst_1, main_v21, main_v22, main_v23, main_v24, main_v25, main_cst_2, main_v26, main_cst_3, main_v27, main_v28, main_cst_4, main_v29, main_v30, main_cst_5, main_v31, main_v32, main_cst_6, main_v33, main_cst_7, main_v34, main_cst_8, main_v35, main_v36, main_v37, main_v38, main_v39, main_v40, main_v41, main_cst_9, main_v42, main_v43, main_v44, main_v45, main_v46, main_cst_10, main_v47, main_v48, main_v49, main_v50, main_v51, main_v52, main_v53, main_v54, main_v55, main_v56, main_v57, main_v58, main_v59, main_v60, main_v61, main_cst_11, main_v62, main_v63, main_v64, main_v65, main_v66, main_cst_12, main_v67, main_v68, main_v69, main_v70, main_call1_cst, main_call1_v0, main_v71, main_v72, main_cst_13, main_v73, main_v74, main_cst_14, main_v75, main_cst_15, main_v76, main_v77, main_cst_16, main_v78, main_v79, main_cst_17, main_v80, main_v81, main_v82, main_v83, main_v84, main_v85, main_v86, main_v87, main_v88]

abbrev ops0 : List (HloOp τ sig (Elt F)) :=
  [ unary main_arg1 main_v0 ((extf .f32 · bitsLt_bf16_f32) : Arr F S8x2048x64 .bf16 → Arr F S8x2048x64 .f32),
    unary main_arg2 main_v1 ((extf .f32 · bitsLt_bf16_f32) : Arr F S8x2048x64 .bf16 → Arr F S8x2048x64 .f32),
    unary main_v0 main_v2 ((truncf .bf16 · bitsLt_bf16_f32) : Arr F S8x2048x64 .f32 → Arr F S8x2048x64 .bf16),
    unary main_v1 main_v3 ((truncf .bf16 · bitsLt_bf16_f32) : Arr F S8x2048x64 .f32 → Arr F S8x2048x64 .bf16),
    binary main_arg0 main_v2 main_v4 ((fun l r => Host.dotGeneral dot_S8x2048x64_S8x2048x64_S8x2048x2048_2_2_1_1_0_0 none l r) : Arr F S8x2048x64 .bf16 → Arr F S8x2048x64 .bf16 → Arr F S8x2048x2048 .f32),
    nullary main_cst (constant S_ .f32 0x3E000000#32),
    unary main_cst main_v5 (broadcastInDim S8x2048x2048 ![] bcast_S_S8x2048x2048 : Arr F S_ .f32 → Arr F S8x2048x2048 .f32),
    binary main_v4 main_v5 main_v6 (mulf : Arr F S8x2048x2048 .f32 → Arr F S8x2048x2048 .f32 → Arr F S8x2048x2048 .f32),
    unary main_arg3 main_v7 (broadcastInDim S8x2048x1 ![0, 1] bcast_S8x2048_S8x2048x1_0_1 : Arr F S8x2048 .f32 → Arr F S8x2048x1 .f32),
    unary main_v7 main_v8 (broadcastInDim S8x2048x2048 ![0, 1, 2] bcast_S8x2048x1_S8x2048x2048_0_1_2 : Arr F S8x2048x1 .f32 → Arr F S8x2048x2048 .f32),
    binary main_v6 main_v8 main_v9 (addf : Arr F S8x2048x2048 .f32 → Arr F S8x2048x2048 .f32 → Arr F S8x2048x2048 .f32),
    unary main_arg3 main_v10 (broadcastInDim S8x1x2048 ![0, 2] bcast_S8x2048_S8x1x2048_0_2 : Arr F S8x2048 .f32 → Arr F S8x1x2048 .f32),
    unary main_v10 main_v11 (broadcastInDim S8x2048x2048 ![0, 1, 2] bcast_S8x1x2048_S8x2048x2048_0_1_2 : Arr F S8x1x2048 .f32 → Arr F S8x2048x2048 .f32),
    binary main_v9 main_v11 main_v12 (subf : Arr F S8x2048x2048 .f32 → Arr F S8x2048x2048 .f32 → Arr F S8x2048x2048 .f32),
    nullary main_v13 (iotaInDim S2048 32 0),
    unary main_v13 main_v14 (broadcastInDim S2048x1 ![0] bcast_S2048_S2048x1_0 : Arr F S2048 .i32 → Arr F S2048x1 .i32),
    nullary main_v15 (iotaInDim S2048 32 0),
    unary main_v15 main_v16 (broadcastInDim S1x2048 ![1] bcast_S2048_S1x2048_1 : Arr F S2048 .i32 → Arr F S1x2048 .i32),
    unary main_v14 main_v17 (broadcastInDim S2048x2048 ![0, 1] bcast_S2048x1_S2048x2048_0_1 : Arr F S2048x1 .i32 → Arr F S2048x2048 .i32),
    unary main_v16 main_v18 (broadcastInDim S2048x2048 ![0, 1] bcast_S1x2048_S2048x2048_0_1 : Arr F S1x2048 .i32 → Arr F S2048x2048 .i32),
    binary main_v17 main_v18 main_v19 (cmpi .sge : Arr F S2048x2048 .i32 → Arr F S2048x2048 .i32 → Arr F S2048x2048 .i1),
    nullary main_cst_0 (constant S_ .f32 0xFF800000#32) ]

abbrev ops1 : List (HloOp τ sig (Elt F)) :=
  [ unary main_cst_0 main_call0_v0 (id : Arr F S_ .f32 → Arr F S_ .f32),
    unary main_v19 main_v20_1 ((broadcastInDim S8x2048x2048 ![1, 2] bcast_S2048x2048_S8x2048x2048_1_2) : Arr F S2048x2048 .i1 → Arr F S8x2048x2048 .i1),
    unary main_call0_v0 main_call0_v2 ((broadcastInDim S8x2048x2048 ![] bcast_S_S8x2048x2048) : Arr F S_ .f32 → Arr F S8x2048x2048 .f32),
    ternary main_v20_1 main_v12 main_call0_v2 main_v20_0 (select : Arr F S8x2048x2048 .i1 → Arr F S8x2048x2048 .f32 → Arr F S8x2048x2048 .f32 → Arr F S8x2048x2048 .f32),
    nullary main_call0_cst ((constant S_ .f32 0x00000000#32) : Arr F S_ .f32),
    unary main_call0_cst main_v20_2 ((broadcastInDim S8x2048x2048 ![] bcast_S_S8x2048x2048) : Arr F S_ .f32 → Arr F S8x2048x2048 .f32) ]

abbrev ops2 : List (HloOp τ sig (Elt F)) :=
  [ nullary main_cst_1 (constant S_ .f32 0xFF800000#32),
    binary main_v20_0 main_cst_1 main_v21 ((fun x v => Host.reduce FloatOps.maximumf x v reducesTo_S8x2048x2048_S8x2048_d2 h_S_) : Arr F S8x2048x2048 .f32 → Arr F S_ .f32 → Arr F S8x2048 .f32),
    reshape main_v21 main_v22 (rfl : (.f32 : EltTy) = .f32) shapeCasts_S8x2048_S8x2048x1,
    unary main_v22 main_v23 (broadcastInDim S8x2048x2048 ![0, 1, 2] bcast_S8x2048x1_S8x2048x2048_0_1_2 : Arr F S8x2048x1 .f32 → Arr F S8x2048x2048 .f32),
    binary main_v20_0 main_v23 main_v24 (cmpf .oeq : Arr F S8x2048x2048 .f32 → Arr F S8x2048x2048 .f32 → Arr F S8x2048x2048 .i1),
    unary main_v24 main_v25 (uitofp .f32 : Arr F S8x2048x2048 .i1 → Arr F S8x2048x2048 .f32),
    nullary main_cst_2 (constant S_ .f32 0x00000000#32),
    binary main_v25 main_cst_2 main_v26 ((fun x v => Host.reduceAdd x v reducesTo_S8x2048x2048_S8x2048_d2 h_S_) : Arr F S8x2048x2048 .f32 → Arr F S_ .f32 → Arr F S8x2048 .f32),
    nullary main_cst_3 (constant S_ .f32 0xFF800000#32),
    unary main_cst_3 main_v27 (broadcastInDim S8x2048 ![] bcast_S_S8x2048 : Arr F S_ .f32 → Arr F S8x2048 .f32),
    binary main_v27 main_v21 main_v28 (maximumf : Arr F S8x2048 .f32 → Arr F S8x2048 .f32 → Arr F S8x2048 .f32),
    nullary main_cst_4 (constant S_ .f32 0xFF800000#32),
    unary main_cst_4 main_v29 (broadcastInDim S8x2048 ![] bcast_S_S8x2048 : Arr F S_ .f32 → Arr F S8x2048 .f32),
    binary main_v21 main_v29 main_v30 (cmpf .ogt : Arr F S8x2048 .f32 → Arr F S8x2048 .f32 → Arr F S8x2048 .i1),
    nullary main_cst_5 (constant S_ .f32 0xFF800000#32),
    unary main_cst_5 main_v31 (broadcastInDim S8x2048 ![] bcast_S_S8x2048 : Arr F S_ .f32 → Arr F S8x2048 .f32),
    binary main_v21 main_v31 main_v32 (cmpf .oeq : Arr F S8x2048 .f32 → Arr F S8x2048 .f32 → Arr F S8x2048 .i1),
    nullary main_cst_6 (constant S_ .f32 0x3F800000#32),
    unary main_cst_6 main_v33 (broadcastInDim S8x2048 ![] bcast_S_S8x2048 : Arr F S_ .f32 → Arr F S8x2048 .f32),
    nullary main_cst_7 (constant S_ .f32 0x00000000#32),
    unary main_cst_7 main_v34 (broadcastInDim S8x2048 ![] bcast_S_S8x2048 : Arr F S_ .f32 → Arr F S8x2048 .f32),
    nullary main_cst_8 (constant S_ .f32 0x3F000000#32),
    unary main_cst_8 main_v35 (broadcastInDim S8x2048 ![] bcast_S_S8x2048 : Arr F S_ .f32 → Arr F S8x2048 .f32),
    ternary main_v32 main_v35 main_v34 main_v36 (select : Arr F S8x2048 .i1 → Arr F S8x2048 .f32 → Arr F S8x2048 .f32 → Arr F S8x2048 .f32),
    ternary main_v30 main_v33 main_v36 main_v37 (select : Arr F S8x2048 .i1 → Arr F S8x2048 .f32 → Arr F S8x2048 .f32 → Arr F S8x2048 .f32),
    unary main_v28 main_v38 (broadcastInDim S8x2048x1 ![0, 1] bcast_S8x2048_S8x2048x1_0_1 : Arr F S8x2048 .f32 → Arr F S8x2048x1 .f32),
    unary main_v38 main_v39 (broadcastInDim S8x2048x2048 ![0, 1, 2] bcast_S8x2048x1_S8x2048x2048_0_1_2 : Arr F S8x2048x1 .f32 → Arr F S8x2048x2048 .f32),
    binary main_v20_0 main_v39 main_v40 (subf : Arr F S8x2048x2048 .f32 → Arr F S8x2048x2048 .f32 → Arr F S8x2048x2048 .f32),
    unary main_v40 main_v41 (Host.exp : Arr F S8x2048x2048 .f32 → Arr F S8x2048x2048 .f32),
    nullary main_cst_9 (constant S_ .f32 0x00000000#32),
    binary main_v41 main_cst_9 main_v42 ((fun x v => Host.reduceAdd x v reducesTo_S8x2048x2048_S8x2048_d2 h_S_) : Arr F S8x2048x2048 .f32 → Arr F S_ .f32 → Arr F S8x2048 .f32),
    unary main_v42 main_v43 (broadcastInDim S8x2048x1 ![0, 1] bcast_S8x2048_S8x2048x1_0_1 : Arr F S8x2048 .f32 → Arr F S8x2048x1 .f32),
    unary main_v43 main_v44 (broadcastInDim S8x2048x2048 ![0, 1, 2] bcast_S8x2048x1_S8x2048x2048_0_1_2 : Arr F S8x2048x1 .f32 → Arr F S8x2048x2048 .f32),
    binary main_v41 main_v44 main_v45 (Host.divf : Arr F S8x2048x2048 .f32 → Arr F S8x2048x2048 .f32 → Arr F S8x2048x2048 .f32),
    binary main_v43 main_v43 main_v46 (mulf : Arr F S8x2048x1 .f32 → Arr F S8x2048x1 .f32 → Arr F S8x2048x1 .f32),
    nullary main_cst_10 (constant S_ .f32 0x3F800000#32),
    unary main_cst_10 main_v47 (broadcastInDim S8x2048x1 ![] bcast_S_S8x2048x1 : Arr F S_ .f32 → Arr F S8x2048x1 .f32) ]

abbrev ops3 : List (HloOp τ sig (Elt F)) :=
  [ binary main_v47 main_v46 main_v48 (Host.divf : Arr F S8x2048x1 .f32 → Arr F S8x2048x1 .f32 → Arr F S8x2048x1 .f32),
    unary main_v45 main_v49 ((truncf .bf16 · bitsLt_bf16_f32) : Arr F S8x2048x2048 .f32 → Arr F S8x2048x2048 .bf16),
    binary main_v49 main_v3 main_v50 ((fun l r => Host.dotGeneral dot_S8x2048x2048_S8x2048x64_S8x2048x64_2_1_1_2_0_0 none l r) : Arr F S8x2048x2048 .bf16 → Arr F S8x2048x64 .bf16 → Arr F S8x2048x64 .f32),
    unary main_v50 main_v51 ((truncf .bf16 · bitsLt_bf16_f32) : Arr F S8x2048x64 .f32 → Arr F S8x2048x64 .bf16),
    unary main_arg4 main_v52 ((extf .f32 · bitsLt_bf16_f32) : Arr F S8x2048x64 .bf16 → Arr F S8x2048x64 .f32),
    binary main_v52 main_v49 main_v53 ((fun l r => Host.dotGeneral dot_S8x2048x64_S8x2048x2048_S8x64x2048_1_1_2_2_0_0 none l r) : Arr F S8x2048x64 .f32 → Arr F S8x2048x2048 .bf16 → Arr F S8x64x2048 .f32),
    unary main_v53 main_v54 ((transpose S8x2048x64 [0, 2, 1] · transposes_S8x64x2048_S8x2048x64_0_2_1) : Arr F S8x64x2048 .f32 → Arr F S8x2048x64 .f32),
    unary main_v54 main_v55 ((truncf .bf16 · bitsLt_bf16_f32) : Arr F S8x2048x64 .f32 → Arr F S8x2048x64 .bf16),
    binary main_v52 main_v3 main_v56 ((fun l r => Host.dotGeneral dot_S8x2048x64_S8x2048x64_S8x2048x2048_2_2_1_1_0_0 none l r) : Arr F S8x2048x64 .f32 → Arr F S8x2048x64 .bf16 → Arr F S8x2048x2048 .f32),
    unary main_v56 main_v57 ((truncf .bf16 · bitsLt_bf16_f32) : Arr F S8x2048x2048 .f32 → Arr F S8x2048x2048 .bf16),
    unary main_v57 main_v58 ((extf .f32 · bitsLt_bf16_f32) : Arr F S8x2048x2048 .bf16 → Arr F S8x2048x2048 .f32),
    unary main_v48 main_v59 (broadcastInDim S8x2048x2048 ![0, 1, 2] bcast_S8x2048x1_S8x2048x2048_0_1_2 : Arr F S8x2048x1 .f32 → Arr F S8x2048x2048 .f32),
    binary main_v58 main_v59 main_v60 (mulf : Arr F S8x2048x2048 .f32 → Arr F S8x2048x2048 .f32 → Arr F S8x2048x2048 .f32),
    binary main_v60 main_v41 main_v61 (mulf : Arr F S8x2048x2048 .f32 → Arr F S8x2048x2048 .f32 → Arr F S8x2048x2048 .f32),
    nullary main_cst_11 (constant S_ .f32 0x00000000#32),
    binary main_v61 main_cst_11 main_v62 ((fun x v => Host.reduceAdd x v reducesTo_S8x2048x2048_S8x2048_d2 h_S_) : Arr F S8x2048x2048 .f32 → Arr F S_ .f32 → Arr F S8x2048 .f32),
    reshape main_v62 main_v63 (rfl : (.f32 : EltTy) = .f32) shapeCasts_S8x2048_S8x2048x1,
    unary main_v63 main_v64 (Host.negf : Arr F S8x2048x1 .f32 → Arr F S8x2048x1 .f32),
    unary main_v43 main_v65 (broadcastInDim S8x2048x2048 ![0, 1, 2] bcast_S8x2048x1_S8x2048x2048_0_1_2 : Arr F S8x2048x1 .f32 → Arr F S8x2048x2048 .f32),
    binary main_v58 main_v65 main_v66 (Host.divf : Arr F S8x2048x2048 .f32 → Arr F S8x2048x2048 .f32 → Arr F S8x2048x2048 .f32),
    nullary main_cst_12 (constant S_ .f32 0x00000000#32),
    binary main_v64 main_cst_12 main_v67 ((fun x v => Host.reduceAdd x v reducesTo_S8x2048x1_S8x2048_d2 h_S_) : Arr F S8x2048x1 .f32 → Arr F S_ .f32 → Arr F S8x2048 .f32),
    unary main_v67 main_v68 (broadcastInDim S8x2048x2048 ![0, 1] bcast_S8x2048_S8x2048x2048_0_1 : Arr F S8x2048 .f32 → Arr F S8x2048x2048 .f32),
    binary main_v66 main_v68 main_v69 (addf : Arr F S8x2048x2048 .f32 → Arr F S8x2048x2048 .f32 → Arr F S8x2048x2048 .f32),
    binary main_v69 main_v41 main_v70 (mulf : Arr F S8x2048x2048 .f32 → Arr F S8x2048x2048 .f32 → Arr F S8x2048x2048 .f32) ]

abbrev ops4 : List (HloOp τ sig (Elt F)) :=
  [ nullary main_call1_cst ((constant S_ .f32 0x00000000#32) : Arr F S_ .f32),
    unary main_call1_cst main_call1_v0 ((broadcastInDim S8x2048x2048 ![] bcast_S_S8x2048x2048) : Arr F S_ .f32 → Arr F S8x2048x2048 .f32),
    ternary main_v20_1 main_v70 main_call1_v0 main_v71 (select : Arr F S8x2048x2048 .i1 → Arr F S8x2048x2048 .f32 → Arr F S8x2048x2048 .f32 → Arr F S8x2048x2048 .f32) ]

abbrev ops5 : List (HloOp τ sig (Elt F)) :=
  [ unary main_v71 main_v72 (Host.negf : Arr F S8x2048x2048 .f32 → Arr F S8x2048x2048 .f32),
    nullary main_cst_13 (constant S_ .f32 0x00000000#32),
    binary main_v72 main_cst_13 main_v73 ((fun x v => Host.reduceAdd x v reducesTo_S8x2048x2048_S8x2048_d1 h_S_) : Arr F S8x2048x2048 .f32 → Arr F S_ .f32 → Arr F S8x2048 .f32),
    reshape main_v73 main_v74 (rfl : (.f32 : EltTy) = .f32) shapeCasts_S8x2048_S8x1x2048,
    nullary main_cst_14 (constant S_ .f32 0x00000000#32),
    binary main_v74 main_cst_14 main_v75 ((fun x v => Host.reduceAdd x v reducesTo_S8x1x2048_S8x2048_d1 h_S_) : Arr F S8x1x2048 .f32 → Arr F S_ .f32 → Arr F S8x2048 .f32),
    nullary main_cst_15 (constant S_ .f32 0x00000000#32),
    binary main_v71 main_cst_15 main_v76 ((fun x v => Host.reduceAdd x v reducesTo_S8x2048x2048_S8x2048_d2 h_S_) : Arr F S8x2048x2048 .f32 → Arr F S_ .f32 → Arr F S8x2048 .f32),
    reshape main_v76 main_v77 (rfl : (.f32 : EltTy) = .f32) shapeCasts_S8x2048_S8x2048x1,
    nullary main_cst_16 (constant S_ .f32 0x00000000#32),
    binary main_v77 main_cst_16 main_v78 ((fun x v => Host.reduceAdd x v reducesTo_S8x2048x1_S8x2048_d2 h_S_) : Arr F S8x2048x1 .f32 → Arr F S_ .f32 → Arr F S8x2048 .f32),
    binary main_v75 main_v78 main_v79 (addf : Arr F S8x2048 .f32 → Arr F S8x2048 .f32 → Arr F S8x2048 .f32),
    nullary main_cst_17 (constant S_ .f32 0x3E000000#32),
    unary main_cst_17 main_v80 (broadcastInDim S8x2048x2048 ![] bcast_S_S8x2048x2048 : Arr F S_ .f32 → Arr F S8x2048x2048 .f32),
    binary main_v71 main_v80 main_v81 (mulf : Arr F S8x2048x2048 .f32 → Arr F S8x2048x2048 .f32 → Arr F S8x2048x2048 .f32),
    binary main_v81 main_arg0 main_v82 ((fun l r => Host.dotGeneral dot_S8x2048x2048_S8x2048x64_S8x2048x64_1_1_2_2_0_0 none l r) : Arr F S8x2048x2048 .f32 → Arr F S8x2048x64 .bf16 → Arr F S8x2048x64 .f32),
    unary main_v82 main_v83 ((truncf .bf16 · bitsLt_bf16_f32) : Arr F S8x2048x64 .f32 → Arr F S8x2048x64 .bf16),
    binary main_v81 main_v2 main_v84 ((fun l r => Host.dotGeneral dot_S8x2048x2048_S8x2048x64_S8x2048x64_2_1_1_2_0_0 none l r) : Arr F S8x2048x2048 .f32 → Arr F S8x2048x64 .bf16 → Arr F S8x2048x64 .f32),
    unary main_v84 main_v85 ((truncf .bf16 · bitsLt_bf16_f32) : Arr F S8x2048x64 .f32 → Arr F S8x2048x64 .bf16),
    unary main_v55 main_v86 ((extf .f32 · bitsLt_bf16_f32) : Arr F S8x2048x64 .bf16 → Arr F S8x2048x64 .f32),
    unary main_v83 main_v87 ((extf .f32 · bitsLt_bf16_f32) : Arr F S8x2048x64 .bf16 → Arr F S8x2048x64 .f32),
    reshape main_v79 main_v88 (rfl : (.f32 : EltTy) = .f32) shapeCasts_S8x2048_S8x1x2048 ]

/-- The two halves of the program as chains of these lines. -/
theorem part0_eq (c : Dev nD) : main_part0 (F := F) c = Pipeline.chain [seq ops0, seq ops1, seq ops2] := by
  rewrite [StableHlo.chain_seq_cons, Pipeline.chain_cons, StableHlo.chain_seq_cons]
  chain_rfl

theorem part1_eq (c : Dev nD) : main_part1 (F := F) c = Pipeline.chain [seq ops3, seq ops4, seq ops5] := by
  rewrite [StableHlo.chain_seq_cons, Pipeline.chain_cons, StableHlo.chain_seq_cons]
  chain_rfl

theorem chain_seq (ls : List (List (HloOp τ sig (Elt F)))) :
    (Pipeline.chain (ls.map seq) : Prog (TpuEff nD τ sig (Elt F) (Pipeline.Sig Λ₀ (Fin 0) fun p => (pcfgs (F := F) p).Adm) .tc) PUnit)
      = seq ls.flatten := by
  have h := StableHlo.chain_map_seq_append (nD := nD) (Λ := Pipeline.Sig Λ₀ (Fin 0) fun p => (pcfgs (F := F) p).Adm) ls []
  rw [List.append_nil] at h
  rw [h]
  exact bind_pure _

theorem flatten_eq : List.flatten [ops0, ops1, ops2] ++ List.flatten [ops3, ops4, ops5] = (ops : List (HloOp τ sig (Elt F))) := rfl

theorem main_eq (c : Dev nD) : main (F := F) c = seq ops := by
  have h : main (F := F) c = (main_part0 c >>= fun _ => main_part1 c) := rfl
  rw [h, part0_eq, part1_eq, show [seq ops0, seq ops1, seq ops2] = [ops0, ops1, ops2].map seq from rfl, chain_seq,
    show [seq ops3, seq ops4, seq ops5] = [ops3, ops4, ops5].map seq from rfl, chain_seq,
    ← seq_append]
  exact congrArg seq flatten_eq

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., nullary_bufs_sub .., unary_bufs_sub .., unary_bufs_sub .., unary_bufs_sub .., binary_bufs_sub .., nullary_bufs_sub .., unary_bufs_sub .., unary_bufs_sub .., unary_bufs_sub .., ternary_bufs_sub .., nullary_bufs_sub .., unary_bufs_sub .., nullary_bufs_sub .., binary_bufs_sub .., reshape_bufs_sub .., unary_bufs_sub .., binary_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., nullary_bufs_sub .., unary_bufs_sub .., nullary_bufs_sub .., unary_bufs_sub .., ternary_bufs_sub .., ternary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., unary_bufs_sub .., unary_bufs_sub .., binary_bufs_sub .., unary_bufs_sub .., unary_bufs_sub .., unary_bufs_sub .., binary_bufs_sub .., binary_bufs_sub .., nullary_bufs_sub .., binary_bufs_sub .., reshape_bufs_sub .., unary_bufs_sub .., unary_bufs_sub .., binary_bufs_sub .., nullary_bufs_sub .., binary_bufs_sub .., unary_bufs_sub .., binary_bufs_sub .., binary_bufs_sub .., nullary_bufs_sub .., unary_bufs_sub .., ternary_bufs_sub .., unary_bufs_sub .., nullary_bufs_sub .., binary_bufs_sub .., reshape_bufs_sub .., nullary_bufs_sub .., binary_bufs_sub .., nullary_bufs_sub .., binary_bufs_sub .., reshape_bufs_sub .., nullary_bufs_sub .., binary_bufs_sub .., binary_bufs_sub .., nullary_bufs_sub .., unary_bufs_sub .., binary_bufs_sub .., binary_bufs_sub .., unary_bufs_sub .., binary_bufs_sub .., unary_bufs_sub .., unary_bufs_sub .., unary_bufs_sub .., reshape_bufs_sub ..⟩

set_option maxRecDepth 8192 in
theorem writes : Writes (ops (F := F)) outs :=
  .cons (unary_writes ..) <| .cons (unary_writes ..) <| .cons (unary_writes ..) <| .cons (unary_writes ..) <| .cons (binary_writes ..) <| .cons (nullary_writes ..) <| .cons (unary_writes ..) <| .cons (binary_writes ..) <| .cons (unary_writes ..) <| .cons (unary_writes ..) <| .cons (binary_writes ..) <| .cons (unary_writes ..) <| .cons (unary_writes ..) <| .cons (binary_writes ..) <| .cons (nullary_writes ..) <| .cons (unary_writes ..) <| .cons (nullary_writes ..) <| .cons (unary_writes ..) <| .cons (unary_writes ..) <| .cons (unary_writes ..) <| .cons (binary_writes ..) <| .cons (nullary_writes ..) <| .cons (unary_writes ..) <| .cons (unary_writes ..) <| .cons (unary_writes ..) <| .cons (ternary_writes ..) <| .cons (nullary_writes ..) <| .cons (unary_writes ..) <| .cons (nullary_writes ..) <| .cons (binary_writes ..) <| .cons (reshape_writes ..) <| .cons (unary_writes ..) <| .cons (binary_writes ..) <| .cons (unary_writes ..) <| .cons (nullary_writes ..) <| .cons (binary_writes ..) <| .cons (nullary_writes ..) <| .cons (unary_writes ..) <| .cons (binary_writes ..) <| .cons (nullary_writes ..) <| .cons (unary_writes ..) <| .cons (binary_writes ..) <| .cons (nullary_writes ..) <| .cons (unary_writes ..) <| .cons (binary_writes ..) <| .cons (nullary_writes ..) <| .cons (unary_writes ..) <| .cons (nullary_writes ..) <| .cons (unary_writes ..) <| .cons (nullary_writes ..) <| .cons (unary_writes ..) <| .cons (ternary_writes ..) <| .cons (ternary_writes ..) <| .cons (unary_writes ..) <| .cons (unary_writes ..) <| .cons (binary_writes ..) <| .cons (unary_writes ..) <| .cons (nullary_writes ..) <| .cons (binary_writes ..) <| .cons (unary_writes ..) <| .cons (unary_writes ..) <| .cons (binary_writes ..) <| .cons (binary_writes ..) <| .cons (nullary_writes ..) <| .cons (unary_writes ..) <| .cons (binary_writes ..) <| .cons (unary_writes ..) <| .cons (binary_writes ..) <| .cons (unary_writes ..) <| .cons (unary_writes ..) <| .cons (binary_writes ..) <| .cons (unary_writes ..) <| .cons (unary_writes ..) <| .cons (binary_writes ..) <| .cons (unary_writes ..) <| .cons (unary_writes ..) <| .cons (unary_writes ..) <| .cons (binary_writes ..) <| .cons (binary_writes ..) <| .cons (nullary_writes ..) <| .cons (binary_writes ..) <| .cons (reshape_writes ..) <| .cons (unary_writes ..) <| .cons (unary_writes ..) <| .cons (binary_writes ..) <| .cons (nullary_writes ..) <| .cons (binary_writes ..) <| .cons (unary_writes ..) <| .cons (binary_writes ..) <| .cons (binary_writes ..) <| .cons (nullary_writes ..) <| .cons (unary_writes ..) <| .cons (ternary_writes ..) <| .cons (unary_writes ..) <| .cons (nullary_writes ..) <| .cons (binary_writes ..) <| .cons (reshape_writes ..) <| .cons (nullary_writes ..) <| .cons (binary_writes ..) <| .cons (nullary_writes ..) <| .cons (binary_writes ..) <| .cons (reshape_writes ..) <| .cons (nullary_writes ..) <| .cons (binary_writes ..) <| .cons (binary_writes ..) <| .cons (nullary_writes ..) <| .cons (unary_writes ..) <| .cons (binary_writes ..) <| .cons (binary_writes ..) <| .cons (unary_writes ..) <| .cons (binary_writes ..) <| .cons (unary_writes ..) <| .cons (unary_writes ..) <| .cons (unary_writes ..) <| .cons (reshape_writes ..) <| .nil

/-- Every run ends with each buffer at what the line leaves in it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = fin ops (launchContents m d) b :=
  run_seq scopedRefs_eq scopedSems_eq defs main (fun _ => ops) main_eq (fun _ => ops_sub) m ρ

/-- The buffers' numbers. -/
theorem numbers : (outs.map fun w => w.idx.val) = List.range' 5 115 := by decide +kernel
theorem once : (List.range' 5 115).Nodup := by decide +kernel
theorem last (i : ℕ) {r : Ref sig .tc} (h : outs[i]? = some r) : Before outs (i + 1) r := before_of_lt numbers once i h (Nat.lt_succ_self _)
theorem old (j : ℕ) {i : ℕ} {r : Ref sig .tc} (h : outs[j]? = some r) (hi : j < i := by decide) : Before outs i r := before_of_lt numbers once j h hi
theorem argNumbers : (([main_arg0, main_arg1, main_arg2, main_arg3, main_arg4] : List (Ref sig .tc)).map fun w => w.idx.val) = [0, 1, 2, 3, 4] := by decide +kernel

variable (V : Valuation τ sig (Elt F))

set_option maxRecDepth 8192

theorem b_arg0 (i : ℕ) : Before outs i main_arg0 := before_of_small 5 numbers argNumbers (by decide +kernel) (by decide) 0 rfl i
theorem e_arg0 : fin ops V main_arg0 = V (Proc.devRef .tc main_arg0) := fin_unwritten writes (b_arg0 0) V
theorem b_arg1 (i : ℕ) : Before outs i main_arg1 := before_of_small 5 numbers argNumbers (by decide +kernel) (by decide) 1 rfl i
theorem e_arg1 : fin ops V main_arg1 = V (Proc.devRef .tc main_arg1) := fin_unwritten writes (b_arg1 0) V
theorem b_arg2 (i : ℕ) : Before outs i main_arg2 := before_of_small 5 numbers argNumbers (by decide +kernel) (by decide) 2 rfl i
theorem e_arg2 : fin ops V main_arg2 = V (Proc.devRef .tc main_arg2) := fin_unwritten writes (b_arg2 0) V
theorem b_arg3 (i : ℕ) : Before outs i main_arg3 := before_of_small 5 numbers argNumbers (by decide +kernel) (by decide) 3 rfl i
theorem e_arg3 : fin ops V main_arg3 = V (Proc.devRef .tc main_arg3) := fin_unwritten writes (b_arg3 0) V
theorem b_arg4 (i : ℕ) : Before outs i main_arg4 := before_of_small 5 numbers argNumbers (by decide +kernel) (by decide) 4 rfl i
theorem e_arg4 : fin ops V main_arg4 = V (Proc.devRef .tc main_arg4) := fin_unwritten writes (b_arg4 0) V

theorem e_v0 : fin ops V main_v0 = ((extf .f32 · bitsLt_bf16_f32) : Arr F S8x2048x64 .bf16 → Arr F S8x2048x64 .f32) (fin ops V main_arg1 :) :=
  fin_unary (y := main_v0) writes 0 rfl (last 0 rfl) (b_arg1 _) V
theorem e_v1 : fin ops V main_v1 = ((extf .f32 · bitsLt_bf16_f32) : Arr F S8x2048x64 .bf16 → Arr F S8x2048x64 .f32) (fin ops V main_arg2 :) :=
  fin_unary (y := main_v1) writes 1 rfl (last 1 rfl) (b_arg2 _) V
theorem e_v2 : fin ops V main_v2 = ((truncf .bf16 · bitsLt_bf16_f32) : Arr F S8x2048x64 .f32 → Arr F S8x2048x64 .bf16) (fin ops V main_v0 :) :=
  fin_unary (y := main_v2) writes 2 rfl (last 2 rfl) (old 0 rfl) V
theorem e_v3 : fin ops V main_v3 = ((truncf .bf16 · bitsLt_bf16_f32) : Arr F S8x2048x64 .f32 → Arr F S8x2048x64 .bf16) (fin ops V main_v1 :) :=
  fin_unary (y := main_v3) writes 3 rfl (last 3 rfl) (old 1 rfl) V
theorem e_v4 : fin ops V main_v4 = ((fun l r => Host.dotGeneral dot_S8x2048x64_S8x2048x64_S8x2048x2048_2_2_1_1_0_0 none l r) : Arr F S8x2048x64 .bf16 → Arr F S8x2048x64 .bf16 → Arr F S8x2048x2048 .f32) (fin ops V main_arg0 :) (fin ops V main_v2 :) :=
  fin_binary (y := main_v4) writes 4 rfl (last 4 rfl) (b_arg0 _) (old 2 rfl) V
theorem e_cst : fin ops V main_cst = (constant S_ .f32 0x3E000000#32) :=
  fin_nullary (y := main_cst) writes 5 rfl (last 5 rfl) V
theorem e_v5 : fin ops V main_v5 = (broadcastInDim S8x2048x2048 ![] bcast_S_S8x2048x2048 : Arr F S_ .f32 → Arr F S8x2048x2048 .f32) (fin ops V main_cst :) :=
  fin_unary (y := main_v5) writes 6 rfl (last 6 rfl) (old 5 rfl) V
theorem e_v6 : fin ops V main_v6 = (mulf : Arr F S8x2048x2048 .f32 → Arr F S8x2048x2048 .f32 → Arr F S8x2048x2048 .f32) (fin ops V main_v4 :) (fin ops V main_v5 :) :=
  fin_binary (y := main_v6) writes 7 rfl (last 7 rfl) (old 4 rfl) (old 6 rfl) V
theorem e_v7 : fin ops V main_v7 = (broadcastInDim S8x2048x1 ![0, 1] bcast_S8x2048_S8x2048x1_0_1 : Arr F S8x2048 .f32 → Arr F S8x2048x1 .f32) (fin ops V main_arg3 :) :=
  fin_unary (y := main_v7) writes 8 rfl (last 8 rfl) (b_arg3 _) V
theorem e_v8 : fin ops V main_v8 = (broadcastInDim S8x2048x2048 ![0, 1, 2] bcast_S8x2048x1_S8x2048x2048_0_1_2 : Arr F S8x2048x1 .f32 → Arr F S8x2048x2048 .f32) (fin ops V main_v7 :) :=
  fin_unary (y := main_v8) writes 9 rfl (last 9 rfl) (old 8 rfl) V
theorem e_v9 : fin ops V main_v9 = (addf : Arr F S8x2048x2048 .f32 → Arr F S8x2048x2048 .f32 → Arr F S8x2048x2048 .f32) (fin ops V main_v6 :) (fin ops V main_v8 :) :=
  fin_binary (y := main_v9) writes 10 rfl (last 10 rfl) (old 7 rfl) (old 9 rfl) V
theorem e_v10 : fin ops V main_v10 = (broadcastInDim S8x1x2048 ![0, 2] bcast_S8x2048_S8x1x2048_0_2 : Arr F S8x2048 .f32 → Arr F S8x1x2048 .f32) (fin ops V main_arg3 :) :=
  fin_unary (y := main_v10) writes 11 rfl (last 11 rfl) (b_arg3 _) V
theorem e_v11 : fin ops V main_v11 = (broadcastInDim S8x2048x2048 ![0, 1, 2] bcast_S8x1x2048_S8x2048x2048_0_1_2 : Arr F S8x1x2048 .f32 → Arr F S8x2048x2048 .f32) (fin ops V main_v10 :) :=
  fin_unary (y := main_v11) writes 12 rfl (last 12 rfl) (old 11 rfl) V
theorem e_v12 : fin ops V main_v12 = (subf : Arr F S8x2048x2048 .f32 → Arr F S8x2048x2048 .f32 → Arr F S8x2048x2048 .f32) (fin ops V main_v9 :) (fin ops V main_v11 :) :=
  fin_binary (y := main_v12) writes 13 rfl (last 13 rfl) (old 10 rfl) (old 12 rfl) V
theorem e_v13 : fin ops V main_v13 = (iotaInDim S2048 32 0) :=
  fin_nullary (y := main_v13) writes 14 rfl (last 14 rfl) V
theorem e_v14 : fin ops V main_v14 = (broadcastInDim S2048x1 ![0] bcast_S2048_S2048x1_0 : Arr F S2048 .i32 → Arr F S2048x1 .i32) (fin ops V main_v13 :) :=
  fin_unary (y := main_v14) writes 15 rfl (last 15 rfl) (old 14 rfl) V
theorem e_v15 : fin ops V main_v15 = (iotaInDim S2048 32 0) :=
  fin_nullary (y := main_v15) writes 16 rfl (last 16 rfl) V
theorem e_v16 : fin ops V main_v16 = (broadcastInDim S1x2048 ![1] bcast_S2048_S1x2048_1 : Arr F S2048 .i32 → Arr F S1x2048 .i32) (fin ops V main_v15 :) :=
  fin_unary (y := main_v16) writes 17 rfl (last 17 rfl) (old 16 rfl) V
theorem e_v17 : fin ops V main_v17 = (broadcastInDim S2048x2048 ![0, 1] bcast_S2048x1_S2048x2048_0_1 : Arr F S2048x1 .i32 → Arr F S2048x2048 .i32) (fin ops V main_v14 :) :=
  fin_unary (y := main_v17) writes 18 rfl (last 18 rfl) (old 15 rfl) V
theorem e_v18 : fin ops V main_v18 = (broadcastInDim S2048x2048 ![0, 1] bcast_S1x2048_S2048x2048_0_1 : Arr F S1x2048 .i32 → Arr F S2048x2048 .i32) (fin ops V main_v16 :) :=
  fin_unary (y := main_v18) writes 19 rfl (last 19 rfl) (old 17 rfl) V
theorem e_v19 : fin ops V main_v19 = (cmpi .sge : Arr F S2048x2048 .i32 → Arr F S2048x2048 .i32 → Arr F S2048x2048 .i1) (fin ops V main_v17 :) (fin ops V main_v18 :) :=
  fin_binary (y := main_v19) writes 20 rfl (last 20 rfl) (old 18 rfl) (old 19 rfl) V
theorem e_cst_0 : fin ops V main_cst_0 = (constant S_ .f32 0xFF800000#32) :=
  fin_nullary (y := main_cst_0) writes 21 rfl (last 21 rfl) V
theorem e_call0_v0 : fin ops V main_call0_v0 = (id : Arr F S_ .f32 → Arr F S_ .f32) (fin ops V main_cst_0 :) :=
  fin_unary (y := main_call0_v0) writes 22 rfl (last 22 rfl) (old 21 rfl) V
theorem e_v20_1 : fin ops V main_v20_1 = ((broadcastInDim S8x2048x2048 ![1, 2] bcast_S2048x2048_S8x2048x2048_1_2) : Arr F S2048x2048 .i1 → Arr F S8x2048x2048 .i1) (fin ops V main_v19 :) :=
  fin_unary (y := main_v20_1) writes 23 rfl (last 23 rfl) (old 20 rfl) V
theorem e_call0_v2 : fin ops V main_call0_v2 = ((broadcastInDim S8x2048x2048 ![] bcast_S_S8x2048x2048) : Arr F S_ .f32 → Arr F S8x2048x2048 .f32) (fin ops V main_call0_v0 :) :=
  fin_unary (y := main_call0_v2) writes 24 rfl (last 24 rfl) (old 22 rfl) V
theorem e_v20_0 : fin ops V main_v20_0 = (select : Arr F S8x2048x2048 .i1 → Arr F S8x2048x2048 .f32 → Arr F S8x2048x2048 .f32 → Arr F S8x2048x2048 .f32) (fin ops V main_v20_1 :) (fin ops V main_v12 :) (fin ops V main_call0_v2 :) :=
  fin_ternary (y := main_v20_0) writes 25 rfl (last 25 rfl) (old 23 rfl) (old 13 rfl) (old 24 rfl) V
theorem e_cst_1 : fin ops V main_cst_1 = (constant S_ .f32 0xFF800000#32) :=
  fin_nullary (y := main_cst_1) writes 28 rfl (last 28 rfl) V
theorem e_v21 : fin ops V main_v21 = ((fun x v => Host.reduce FloatOps.maximumf x v reducesTo_S8x2048x2048_S8x2048_d2 h_S_) : Arr F S8x2048x2048 .f32 → Arr F S_ .f32 → Arr F S8x2048 .f32) (fin ops V main_v20_0 :) (fin ops V main_cst_1 :) :=
  fin_binary (y := main_v21) writes 29 rfl (last 29 rfl) (old 25 rfl) (old 28 rfl) V
theorem e_cst_3 : fin ops V main_cst_3 = (constant S_ .f32 0xFF800000#32) :=
  fin_nullary (y := main_cst_3) writes 36 rfl (last 36 rfl) V
theorem e_v27 : fin ops V main_v27 = (broadcastInDim S8x2048 ![] bcast_S_S8x2048 : Arr F S_ .f32 → Arr F S8x2048 .f32) (fin ops V main_cst_3 :) :=
  fin_unary (y := main_v27) writes 37 rfl (last 37 rfl) (old 36 rfl) V
theorem e_v28 : fin ops V main_v28 = (maximumf : Arr F S8x2048 .f32 → Arr F S8x2048 .f32 → Arr F S8x2048 .f32) (fin ops V main_v27 :) (fin ops V main_v21 :) :=
  fin_binary (y := main_v28) writes 38 rfl (last 38 rfl) (old 37 rfl) (old 29 rfl) V
theorem e_v38 : fin ops V main_v38 = (broadcastInDim S8x2048x1 ![0, 1] bcast_S8x2048_S8x2048x1_0_1 : Arr F S8x2048 .f32 → Arr F S8x2048x1 .f32) (fin ops V main_v28 :) :=
  fin_unary (y := main_v38) writes 53 rfl (last 53 rfl) (old 38 rfl) V
theorem e_v39 : fin ops V main_v39 = (broadcastInDim S8x2048x2048 ![0, 1, 2] bcast_S8x2048x1_S8x2048x2048_0_1_2 : Arr F S8x2048x1 .f32 → Arr F S8x2048x2048 .f32) (fin ops V main_v38 :) :=
  fin_unary (y := main_v39) writes 54 rfl (last 54 rfl) (old 53 rfl) V
theorem e_v40 : fin ops V main_v40 = (subf : Arr F S8x2048x2048 .f32 → Arr F S8x2048x2048 .f32 → Arr F S8x2048x2048 .f32) (fin ops V main_v20_0 :) (fin ops V main_v39 :) :=
  fin_binary (y := main_v40) writes 55 rfl (last 55 rfl) (old 25 rfl) (old 54 rfl) V
theorem e_v41 : fin ops V main_v41 = (Host.exp : Arr F S8x2048x2048 .f32 → Arr F S8x2048x2048 .f32) (fin ops V main_v40 :) :=
  fin_unary (y := main_v41) writes 56 rfl (last 56 rfl) (old 55 rfl) V
theorem e_cst_9 : fin ops V main_cst_9 = (constant S_ .f32 0x00000000#32) :=
  fin_nullary (y := main_cst_9) writes 57 rfl (last 57 rfl) V
theorem e_v42 : fin ops V main_v42 = ((fun x v => Host.reduceAdd x v reducesTo_S8x2048x2048_S8x2048_d2 h_S_) : Arr F S8x2048x2048 .f32 → Arr F S_ .f32 → Arr F S8x2048 .f32) (fin ops V main_v41 :) (fin ops V main_cst_9 :) :=
  fin_binary (y := main_v42) writes 58 rfl (last 58 rfl) (old 56 rfl) (old 57 rfl) V
theorem e_v43 : fin ops V main_v43 = (broadcastInDim S8x2048x1 ![0, 1] bcast_S8x2048_S8x2048x1_0_1 : Arr F S8x2048 .f32 → Arr F S8x2048x1 .f32) (fin ops V main_v42 :) :=
  fin_unary (y := main_v43) writes 59 rfl (last 59 rfl) (old 58 rfl) V
theorem e_v44 : fin ops V main_v44 = (broadcastInDim S8x2048x2048 ![0, 1, 2] bcast_S8x2048x1_S8x2048x2048_0_1_2 : Arr F S8x2048x1 .f32 → Arr F S8x2048x2048 .f32) (fin ops V main_v43 :) :=
  fin_unary (y := main_v44) writes 60 rfl (last 60 rfl) (old 59 rfl) V
theorem e_v45 : fin ops V main_v45 = (Host.divf : Arr F S8x2048x2048 .f32 → Arr F S8x2048x2048 .f32 → Arr F S8x2048x2048 .f32) (fin ops V main_v41 :) (fin ops V main_v44 :) :=
  fin_binary (y := main_v45) writes 61 rfl (last 61 rfl) (old 56 rfl) (old 60 rfl) V
theorem e_v46 : fin ops V main_v46 = (mulf : Arr F S8x2048x1 .f32 → Arr F S8x2048x1 .f32 → Arr F S8x2048x1 .f32) (fin ops V main_v43 :) (fin ops V main_v43 :) :=
  fin_binary (y := main_v46) writes 62 rfl (last 62 rfl) (old 59 rfl) (old 59 rfl) V
theorem e_cst_10 : fin ops V main_cst_10 = (constant S_ .f32 0x3F800000#32) :=
  fin_nullary (y := main_cst_10) writes 63 rfl (last 63 rfl) V
theorem e_v47 : fin ops V main_v47 = (broadcastInDim S8x2048x1 ![] bcast_S_S8x2048x1 : Arr F S_ .f32 → Arr F S8x2048x1 .f32) (fin ops V main_cst_10 :) :=
  fin_unary (y := main_v47) writes 64 rfl (last 64 rfl) (old 63 rfl) V
theorem e_v48 : fin ops V main_v48 = (Host.divf : Arr F S8x2048x1 .f32 → Arr F S8x2048x1 .f32 → Arr F S8x2048x1 .f32) (fin ops V main_v47 :) (fin ops V main_v46 :) :=
  fin_binary (y := main_v48) writes 65 rfl (last 65 rfl) (old 64 rfl) (old 62 rfl) V
theorem e_v49 : fin ops V main_v49 = ((truncf .bf16 · bitsLt_bf16_f32) : Arr F S8x2048x2048 .f32 → Arr F S8x2048x2048 .bf16) (fin ops V main_v45 :) :=
  fin_unary (y := main_v49) writes 66 rfl (last 66 rfl) (old 61 rfl) V
theorem e_v52 : fin ops V main_v52 = ((extf .f32 · bitsLt_bf16_f32) : Arr F S8x2048x64 .bf16 → Arr F S8x2048x64 .f32) (fin ops V main_arg4 :) :=
  fin_unary (y := main_v52) writes 69 rfl (last 69 rfl) (b_arg4 _) V
theorem e_v53 : fin ops V main_v53 = ((fun l r => Host.dotGeneral dot_S8x2048x64_S8x2048x2048_S8x64x2048_1_1_2_2_0_0 none l r) : Arr F S8x2048x64 .f32 → Arr F S8x2048x2048 .bf16 → Arr F S8x64x2048 .f32) (fin ops V main_v52 :) (fin ops V main_v49 :) :=
  fin_binary (y := main_v53) writes 70 rfl (last 70 rfl) (old 69 rfl) (old 66 rfl) V
theorem e_v54 : fin ops V main_v54 = ((transpose S8x2048x64 [0, 2, 1] · transposes_S8x64x2048_S8x2048x64_0_2_1) : Arr F S8x64x2048 .f32 → Arr F S8x2048x64 .f32) (fin ops V main_v53 :) :=
  fin_unary (y := main_v54) writes 71 rfl (last 71 rfl) (old 70 rfl) V
theorem e_v55 : fin ops V main_v55 = ((truncf .bf16 · bitsLt_bf16_f32) : Arr F S8x2048x64 .f32 → Arr F S8x2048x64 .bf16) (fin ops V main_v54 :) :=
  fin_unary (y := main_v55) writes 72 rfl (last 72 rfl) (old 71 rfl) V
theorem e_v56 : fin ops V main_v56 = ((fun l r => Host.dotGeneral dot_S8x2048x64_S8x2048x64_S8x2048x2048_2_2_1_1_0_0 none l r) : Arr F S8x2048x64 .f32 → Arr F S8x2048x64 .bf16 → Arr F S8x2048x2048 .f32) (fin ops V main_v52 :) (fin ops V main_v3 :) :=
  fin_binary (y := main_v56) writes 73 rfl (last 73 rfl) (old 69 rfl) (old 3 rfl) V
theorem e_v57 : fin ops V main_v57 = ((truncf .bf16 · bitsLt_bf16_f32) : Arr F S8x2048x2048 .f32 → Arr F S8x2048x2048 .bf16) (fin ops V main_v56 :) :=
  fin_unary (y := main_v57) writes 74 rfl (last 74 rfl) (old 73 rfl) V
theorem e_v58 : fin ops V main_v58 = ((extf .f32 · bitsLt_bf16_f32) : Arr F S8x2048x2048 .bf16 → Arr F S8x2048x2048 .f32) (fin ops V main_v57 :) :=
  fin_unary (y := main_v58) writes 75 rfl (last 75 rfl) (old 74 rfl) V
theorem e_v59 : fin ops V main_v59 = (broadcastInDim S8x2048x2048 ![0, 1, 2] bcast_S8x2048x1_S8x2048x2048_0_1_2 : Arr F S8x2048x1 .f32 → Arr F S8x2048x2048 .f32) (fin ops V main_v48 :) :=
  fin_unary (y := main_v59) writes 76 rfl (last 76 rfl) (old 65 rfl) V
theorem e_v60 : fin ops V main_v60 = (mulf : Arr F S8x2048x2048 .f32 → Arr F S8x2048x2048 .f32 → Arr F S8x2048x2048 .f32) (fin ops V main_v58 :) (fin ops V main_v59 :) :=
  fin_binary (y := main_v60) writes 77 rfl (last 77 rfl) (old 75 rfl) (old 76 rfl) V
theorem e_v61 : fin ops V main_v61 = (mulf : Arr F S8x2048x2048 .f32 → Arr F S8x2048x2048 .f32 → Arr F S8x2048x2048 .f32) (fin ops V main_v60 :) (fin ops V main_v41 :) :=
  fin_binary (y := main_v61) writes 78 rfl (last 78 rfl) (old 77 rfl) (old 56 rfl) V
theorem e_cst_11 : fin ops V main_cst_11 = (constant S_ .f32 0x00000000#32) :=
  fin_nullary (y := main_cst_11) writes 79 rfl (last 79 rfl) V
theorem e_v62 : fin ops V main_v62 = ((fun x v => Host.reduceAdd x v reducesTo_S8x2048x2048_S8x2048_d2 h_S_) : Arr F S8x2048x2048 .f32 → Arr F S_ .f32 → Arr F S8x2048 .f32) (fin ops V main_v61 :) (fin ops V main_cst_11 :) :=
  fin_binary (y := main_v62) writes 80 rfl (last 80 rfl) (old 78 rfl) (old 79 rfl) V
theorem e_v63 : fin ops V main_v63 = shapeCast _ (fin ops V main_v62 :) shapeCasts_S8x2048_S8x2048x1 :=
  fin_reshape (y := main_v63) writes 81 rfl (last 81 rfl) (old 80 rfl) V
theorem e_v64 : fin ops V main_v64 = (Host.negf : Arr F S8x2048x1 .f32 → Arr F S8x2048x1 .f32) (fin ops V main_v63 :) :=
  fin_unary (y := main_v64) writes 82 rfl (last 82 rfl) (old 81 rfl) V
theorem e_v65 : fin ops V main_v65 = (broadcastInDim S8x2048x2048 ![0, 1, 2] bcast_S8x2048x1_S8x2048x2048_0_1_2 : Arr F S8x2048x1 .f32 → Arr F S8x2048x2048 .f32) (fin ops V main_v43 :) :=
  fin_unary (y := main_v65) writes 83 rfl (last 83 rfl) (old 59 rfl) V
theorem e_v66 : fin ops V main_v66 = (Host.divf : Arr F S8x2048x2048 .f32 → Arr F S8x2048x2048 .f32 → Arr F S8x2048x2048 .f32) (fin ops V main_v58 :) (fin ops V main_v65 :) :=
  fin_binary (y := main_v66) writes 84 rfl (last 84 rfl) (old 75 rfl) (old 83 rfl) V
theorem e_cst_12 : fin ops V main_cst_12 = (constant S_ .f32 0x00000000#32) :=
  fin_nullary (y := main_cst_12) writes 85 rfl (last 85 rfl) V
theorem e_v67 : fin ops V main_v67 = ((fun x v => Host.reduceAdd x v reducesTo_S8x2048x1_S8x2048_d2 h_S_) : Arr F S8x2048x1 .f32 → Arr F S_ .f32 → Arr F S8x2048 .f32) (fin ops V main_v64 :) (fin ops V main_cst_12 :) :=
  fin_binary (y := main_v67) writes 86 rfl (last 86 rfl) (old 82 rfl) (old 85 rfl) V
theorem e_v68 : fin ops V main_v68 = (broadcastInDim S8x2048x2048 ![0, 1] bcast_S8x2048_S8x2048x2048_0_1 : Arr F S8x2048 .f32 → Arr F S8x2048x2048 .f32) (fin ops V main_v67 :) :=
  fin_unary (y := main_v68) writes 87 rfl (last 87 rfl) (old 86 rfl) V
theorem e_v69 : fin ops V main_v69 = (addf : Arr F S8x2048x2048 .f32 → Arr F S8x2048x2048 .f32 → Arr F S8x2048x2048 .f32) (fin ops V main_v66 :) (fin ops V main_v68 :) :=
  fin_binary (y := main_v69) writes 88 rfl (last 88 rfl) (old 84 rfl) (old 87 rfl) V
theorem e_v70 : fin ops V main_v70 = (mulf : Arr F S8x2048x2048 .f32 → Arr F S8x2048x2048 .f32 → Arr F S8x2048x2048 .f32) (fin ops V main_v69 :) (fin ops V main_v41 :) :=
  fin_binary (y := main_v70) writes 89 rfl (last 89 rfl) (old 88 rfl) (old 56 rfl) V
theorem e_call1_cst : fin ops V main_call1_cst = ((constant S_ .f32 0x00000000#32) : Arr F S_ .f32) :=
  fin_nullary (y := main_call1_cst) writes 90 rfl (last 90 rfl) V
theorem e_call1_v0 : fin ops V main_call1_v0 = ((broadcastInDim S8x2048x2048 ![] bcast_S_S8x2048x2048) : Arr F S_ .f32 → Arr F S8x2048x2048 .f32) (fin ops V main_call1_cst :) :=
  fin_unary (y := main_call1_v0) writes 91 rfl (last 91 rfl) (old 90 rfl) V
theorem e_v71 : fin ops V main_v71 = (select : Arr F S8x2048x2048 .i1 → Arr F S8x2048x2048 .f32 → Arr F S8x2048x2048 .f32 → Arr F S8x2048x2048 .f32) (fin ops V main_v20_1 :) (fin ops V main_v70 :) (fin ops V main_call1_v0 :) :=
  fin_ternary (y := main_v71) writes 92 rfl (last 92 rfl) (old 23 rfl) (old 89 rfl) (old 91 rfl) V
theorem e_v72 : fin ops V main_v72 = (Host.negf : Arr F S8x2048x2048 .f32 → Arr F S8x2048x2048 .f32) (fin ops V main_v71 :) :=
  fin_unary (y := main_v72) writes 93 rfl (last 93 rfl) (old 92 rfl) V
theorem e_cst_13 : fin ops V main_cst_13 = (constant S_ .f32 0x00000000#32) :=
  fin_nullary (y := main_cst_13) writes 94 rfl (last 94 rfl) V
theorem e_v73 : fin ops V main_v73 = ((fun x v => Host.reduceAdd x v reducesTo_S8x2048x2048_S8x2048_d1 h_S_) : Arr F S8x2048x2048 .f32 → Arr F S_ .f32 → Arr F S8x2048 .f32) (fin ops V main_v72 :) (fin ops V main_cst_13 :) :=
  fin_binary (y := main_v73) writes 95 rfl (last 95 rfl) (old 93 rfl) (old 94 rfl) V
theorem e_v74 : fin ops V main_v74 = shapeCast _ (fin ops V main_v73 :) shapeCasts_S8x2048_S8x1x2048 :=
  fin_reshape (y := main_v74) writes 96 rfl (last 96 rfl) (old 95 rfl) V
theorem e_cst_14 : fin ops V main_cst_14 = (constant S_ .f32 0x00000000#32) :=
  fin_nullary (y := main_cst_14) writes 97 rfl (last 97 rfl) V
theorem e_v75 : fin ops V main_v75 = ((fun x v => Host.reduceAdd x v reducesTo_S8x1x2048_S8x2048_d1 h_S_) : Arr F S8x1x2048 .f32 → Arr F S_ .f32 → Arr F S8x2048 .f32) (fin ops V main_v74 :) (fin ops V main_cst_14 :) :=
  fin_binary (y := main_v75) writes 98 rfl (last 98 rfl) (old 96 rfl) (old 97 rfl) V
theorem e_cst_15 : fin ops V main_cst_15 = (constant S_ .f32 0x00000000#32) :=
  fin_nullary (y := main_cst_15) writes 99 rfl (last 99 rfl) V
theorem e_v76 : fin ops V main_v76 = ((fun x v => Host.reduceAdd x v reducesTo_S8x2048x2048_S8x2048_d2 h_S_) : Arr F S8x2048x2048 .f32 → Arr F S_ .f32 → Arr F S8x2048 .f32) (fin ops V main_v71 :) (fin ops V main_cst_15 :) :=
  fin_binary (y := main_v76) writes 100 rfl (last 100 rfl) (old 92 rfl) (old 99 rfl) V
theorem e_v77 : fin ops V main_v77 = shapeCast _ (fin ops V main_v76 :) shapeCasts_S8x2048_S8x2048x1 :=
  fin_reshape (y := main_v77) writes 101 rfl (last 101 rfl) (old 100 rfl) V
theorem e_cst_16 : fin ops V main_cst_16 = (constant S_ .f32 0x00000000#32) :=
  fin_nullary (y := main_cst_16) writes 102 rfl (last 102 rfl) V
theorem e_v78 : fin ops V main_v78 = ((fun x v => Host.reduceAdd x v reducesTo_S8x2048x1_S8x2048_d2 h_S_) : Arr F S8x2048x1 .f32 → Arr F S_ .f32 → Arr F S8x2048 .f32) (fin ops V main_v77 :) (fin ops V main_cst_16 :) :=
  fin_binary (y := main_v78) writes 103 rfl (last 103 rfl) (old 101 rfl) (old 102 rfl) V
theorem e_v79 : fin ops V main_v79 = (addf : Arr F S8x2048 .f32 → Arr F S8x2048 .f32 → Arr F S8x2048 .f32) (fin ops V main_v75 :) (fin ops V main_v78 :) :=
  fin_binary (y := main_v79) writes 104 rfl (last 104 rfl) (old 98 rfl) (old 103 rfl) V
theorem e_cst_17 : fin ops V main_cst_17 = (constant S_ .f32 0x3E000000#32) :=
  fin_nullary (y := main_cst_17) writes 105 rfl (last 105 rfl) V
theorem e_v80 : fin ops V main_v80 = (broadcastInDim S8x2048x2048 ![] bcast_S_S8x2048x2048 : Arr F S_ .f32 → Arr F S8x2048x2048 .f32) (fin ops V main_cst_17 :) :=
  fin_unary (y := main_v80) writes 106 rfl (last 106 rfl) (old 105 rfl) V
theorem e_v81 : fin ops V main_v81 = (mulf : Arr F S8x2048x2048 .f32 → Arr F S8x2048x2048 .f32 → Arr F S8x2048x2048 .f32) (fin ops V main_v71 :) (fin ops V main_v80 :) :=
  fin_binary (y := main_v81) writes 107 rfl (last 107 rfl) (old 92 rfl) (old 106 rfl) V
theorem e_v82 : fin ops V main_v82 = ((fun l r => Host.dotGeneral dot_S8x2048x2048_S8x2048x64_S8x2048x64_1_1_2_2_0_0 none l r) : Arr F S8x2048x2048 .f32 → Arr F S8x2048x64 .bf16 → Arr F S8x2048x64 .f32) (fin ops V main_v81 :) (fin ops V main_arg0 :) :=
  fin_binary (y := main_v82) writes 108 rfl (last 108 rfl) (old 107 rfl) (b_arg0 _) V
theorem e_v83 : fin ops V main_v83 = ((truncf .bf16 · bitsLt_bf16_f32) : Arr F S8x2048x64 .f32 → Arr F S8x2048x64 .bf16) (fin ops V main_v82 :) :=
  fin_unary (y := main_v83) writes 109 rfl (last 109 rfl) (old 108 rfl) V
theorem e_v84 : fin ops V main_v84 = ((fun l r => Host.dotGeneral dot_S8x2048x2048_S8x2048x64_S8x2048x64_2_1_1_2_0_0 none l r) : Arr F S8x2048x2048 .f32 → Arr F S8x2048x64 .bf16 → Arr F S8x2048x64 .f32) (fin ops V main_v81 :) (fin ops V main_v2 :) :=
  fin_binary (y := main_v84) writes 110 rfl (last 110 rfl) (old 107 rfl) (old 2 rfl) V
theorem e_v85 : fin ops V main_v85 = ((truncf .bf16 · bitsLt_bf16_f32) : Arr F S8x2048x64 .f32 → Arr F S8x2048x64 .bf16) (fin ops V main_v84 :) :=
  fin_unary (y := main_v85) writes 111 rfl (last 111 rfl) (old 110 rfl) V
theorem e_v86 : fin ops V main_v86 = ((extf .f32 · bitsLt_bf16_f32) : Arr F S8x2048x64 .bf16 → Arr F S8x2048x64 .f32) (fin ops V main_v55 :) :=
  fin_unary (y := main_v86) writes 112 rfl (last 112 rfl) (old 72 rfl) V
theorem e_v87 : fin ops V main_v87 = ((extf .f32 · bitsLt_bf16_f32) : Arr F S8x2048x64 .bf16 → Arr F S8x2048x64 .f32) (fin ops V main_v83 :) :=
  fin_unary (y := main_v87) writes 113 rfl (last 113 rfl) (old 109 rfl) V
theorem e_v88 : fin ops V main_v88 = shapeCast _ (fin ops V main_v79 :) shapeCasts_S8x2048_S8x1x2048 :=
  fin_reshape (y := main_v88) writes 114 rfl (last 114 rfl) (old 104 rfl) V

end Fox.Ref

end
-- ==== Proof.RefValue.lean ====
/- What the reference's four results are over the extended reals, when its arguments hold real numbers. -/
module

public import proofs.«01_k».proof.Proof.RefLine
public import proofs.«01_k».proof.Proof.HostValue
public import proofs.«01_k».proof.Proof.Soft

@[expose] public section

noncomputable section

namespace Fox.Ref

open Cert.ReferenceIdeal Cert.ReferenceIdeal.Gen Idealize.ShloMosaic Idealize.ShloMosaic.TcCoe Idealize.ShloMosaic.ValueIdx Finset

/-- The arguments hold real numbers. -/
structure Given (V : Valuation τ sig (Elt Ideal)) (Q K V' D : ℕ → ℕ → ℕ → ℝ) (C : ℕ → ℕ → ℝ) : Prop where
  q : Heads (b := 2048) (w := 64) (V (Proc.devRef .tc main_arg0)) Q
  k : Heads (b := 2048) (w := 64) (V (Proc.devRef .tc main_arg1)) K
  v : Heads (b := 2048) (w := 64) (V (Proc.devRef .tc main_arg2)) V'
  c : Rows (n := 2048) (V (Proc.devRef .tc main_arg3)) C
  d : Heads (b := 2048) (w := 64) (V (Proc.devRef .tc main_arg4)) D

variable {V : Valuation τ sig (Elt Ideal)} {Q K V' D : ℕ → ℕ → ℕ → ℝ} {C M : ℕ → ℕ → ℝ} (G : Given V Q K V' D C)

/-! ## The arguments and the constants -/

include G in
theorem q_is : Heads (b := 2048) (w := 64) (fin ops V main_arg0) Q := .of_eq (e_arg0 V) G.q
include G in
theorem k_is : Heads (b := 2048) (w := 64) (fin ops V main_arg1) K := .of_eq (e_arg1 V) G.k
include G in
theorem v_is : Heads (b := 2048) (w := 64) (fin ops V main_arg2) V' := .of_eq (e_arg2 V) G.v
include G in
theorem c_is : Rows (n := 2048) (fin ops V main_arg3) C := .of_eq (e_arg3 V) G.c
include G in
theorem d_is : Heads (b := 2048) (w := 64) (fin ops V main_arg4) D := .of_eq (e_arg4 V) G.d

include G in
theorem v2_is : Heads (b := 2048) (w := 64) (fin ops V main_v2) K :=
  .of_eq (e_v2 V) (.narrow (.of_eq (e_v0 V) (.wide (k_is G) _)) _)
include G in
theorem v3_is : Heads (b := 2048) (w := 64) (fin ops V main_v3) V' :=
  .of_eq (e_v3 V) (.narrow (.of_eq (e_v1 V) (.wide (v_is G) _)) _)
include G in
theorem v52_is : Heads (b := 2048) (w := 64) (fin ops V main_v52) D := .of_eq (e_v52 V) (.wide (d_is G) _)

/-! ## The scores and the weights -/

include G in
theorem v12_is : Heads (b := 2048) (w := 2048) (fin ops V main_v12)
    fun h i j => (∑ d ∈ range 64, Q h i d * K h j d) * (1 / 8) + C h i - C h j :=
  .of_eq (e_v12 V) <| .sub
    (.of_eq (e_v9 V) <| .add
      (.of_eq (e_v6 V) <| .mul (.of_eq (e_v4 V) (heads_nt _ (q_is G) (v2_is G)))
        (.of_eq (e_v5 V) (heads_scalar (fun i => (congrFun (e_cst V) i).trans eighth_f32) _)))
      (.of_eq (e_v8 V) <| .overKeys (.of_eq (e_v7 V) ((c_is G).column _ (by decide))) _ (by decide)))
    (.of_eq (e_v11 V) <| .overRows (.of_eq (e_v10 V) ((c_is G).line _ (by decide))) _ (by decide))

theorem causal : Causal (n := 2048) (fin ops V main_v20_1) := by
  refine .of_eq (e_v20_1 V) ?_
  rw [e_v19, e_v17, e_v18, e_v14, e_v16, e_v13, e_v15]
  exact causal_is le_rfl (by decide) _ _ _ _ _

include G in
theorem masked : Masked (n := 2048) (fin ops V main_v20_0)
    fun h i j => (∑ d ∈ range 64, Q h i d * K h j d) * (1 / 8) + C h i - C h j :=
  .of_eq (e_v20_0 V) <| causal.mask (v12_is G) fun i =>
    (congrFun (e_call0_v2 V) i).trans (bottom_scalar (fun j => (congrFun (e_call0_v0 V) j).trans ((congrFun (e_cst_0 V) j).trans bottom_f32)) _ i)

include G in
/-- Each row has a largest score. -/
theorem rowMax : ∃ M : ℕ → ℕ → ℝ, Rows (n := 2048) (fin ops V main_v21) M := by
  obtain ⟨M, h⟩ := (masked G).rowMax (z := fin ops V main_cst_1) reducesTo_S8x2048x2048_S8x2048_d2 h_S_
    (fun i => (congrFun (e_cst_1 V) i).trans bottom_f32) (by decide)
  exact ⟨M, .of_eq (e_v21 V) h⟩

end Fox.Ref

end
-- ==== Proof.RefGrad.lean ====
/- The reference's four results, when its arguments hold real numbers: the gradients of Proof/Grad.lean. -/
module

public import proofs.«01_k».proof.Proof.RefValue

@[expose] public section

noncomputable section

namespace Fox.Ref

open Cert.ReferenceIdeal Cert.ReferenceIdeal.Gen Idealize.ShloMosaic Idealize.ShloMosaic.TcCoe Idealize.ShloMosaic.ValueIdx Finset

variable {V : Valuation τ sig (Elt Ideal)} {Q K V' D : ℕ → ℕ → ℕ → ℝ} {C M : ℕ → ℕ → ℝ} (G : Given V Q K V' D C)
  (hM : Rows (n := 2048) (fin ops V main_v21) M)

/-- The shift of a head's scores in a row: the row's own gate sum less the row's largest score. -/
abbrev shift (C M : ℕ → ℕ → ℝ) (h i : ℕ) : ℝ := C h i - M h i

/-- The row sums of a head's exponentials. -/
abbrev tot (Q K : ℕ → ℕ → ℕ → ℝ) (C M : ℕ → ℕ → ℝ) (h i : ℕ) : ℝ := total (Q h) (K h) (C h) (shift C M h i) i

theorem tot_ne (h i : ℕ) : tot Q K C M h i ≠ 0 := (total_pos _ _).ne'

/-! ## The exponentials and the weights -/

include G hM in
theorem v41_is : Heads (b := 2048) (w := 2048) (fin ops V main_v41) fun h i j => ex (Q h) (K h) (C h) (shift C M h i) i j := by
  refine .congr (.of_eq (e_v41 V) <| Masked.exp <| .of_eq (e_v40 V) <| .sub (masked G) <| .of_eq (e_v39 V) <| .overKeys (.of_eq (e_v38 V) <|
    Rows.column (.of_eq (e_v28 V) <| .max (fun i => (congrFun (e_v27 V) i).trans
      (bottom_scalar (fun j => (congrFun (e_cst_3 V) j).trans bottom_f32) _ i)) hM) _ (by decide)) _ (by decide)) fun h _ i _ j _ => ?_
  show (if j ≤ i then _ else _) = (if j ≤ i then _ else _)
  rw [← score_eq]
  congr 2
  ring

include G hM in
theorem v42_is : Rows (n := 2048) (fin ops V main_v42) (tot Q K C M) :=
  .of_eq (e_v42 V) <| (v41_is G hM).sumKeys _ _ (fun i => (congrFun (e_cst_9 V) i).trans zero_f32) (by decide)

include G hM in
theorem v43_is : Heads (b := 2048) (w := 1) (fin ops V main_v43) fun h i _ => tot Q K C M h i :=
  .of_eq (e_v43 V) <| (v42_is G hM).column _ (by decide)

include G hM in
theorem v49_is : Heads (b := 2048) (w := 2048) (fin ops V main_v49) fun h i j => prob (Q h) (K h) (C h) (lse (Q h) (K h) (C h)) i j :=
  .congr (.of_eq (e_v49 V) <| .narrow (.of_eq (e_v45 V) <| .div (v41_is G hM) (.of_eq (e_v44 V) <| (v43_is G hM).overKeys _ (by decide))
    fun h i _ => tot_ne h i) _) fun _ _ _ _ _ _ => (prob_eq _ _ _).symm

/-! ## The gradient of the values -/

include G hM in
theorem dv_is : Heads (b := 2048) (w := 64) (fin ops V main_v86) fun h i j => gv (Q h) (K h) (D h) (C h) (lse (Q h) (K h) (C h)) i j :=
  .congr (.of_eq (e_v86 V) <| .wide (.of_eq (e_v55 V) <| .narrow (.of_eq (e_v54 V) <| .transposed (.of_eq (e_v53 V) <|
    heads_tn _ (v52_is G) (v49_is G hM)) _) _) _) fun _ _ _ _ _ _ => sum_congr rfl fun _ _ => mul_comm _ _

/-! ## The gradient of the scores -/

include G in
theorem v58_is : Heads (b := 2048) (w := 2048) (fin ops V main_v58) fun h i j => dprob (V' h) (D h) i j :=
  .of_eq (e_v58 V) <| .wide (.of_eq (e_v57 V) <| .narrow (.of_eq (e_v56 V) <| heads_nt _ (v52_is G) (v3_is G)) _) _

include G hM in
theorem v48_is : Heads (b := 2048) (w := 1) (fin ops V main_v48) fun h i _ => 1 / (tot Q K C M h i * tot Q K C M h i) :=
  .of_eq (e_v48 V) <| .div (.of_eq (e_v47 V) <| heads_scalar (fun i => (congrFun (e_cst_10 V) i).trans one_f32) _)
    (.of_eq (e_v46 V) <| (v43_is G hM).mul (v43_is G hM)) fun h i _ => mul_ne_zero (tot_ne h i) (tot_ne h i)

include G hM in
theorem v67_is : Rows (n := 2048) (fin ops V main_v67)
    fun h i => - ∑ k ∈ range 2048, dprob (V' h) (D h) i k * (1 / (tot Q K C M h i * tot Q K C M h i)) * ex (Q h) (K h) (C h) (shift C M h i) i k :=
  .congr (.of_eq (e_v67 V) <| Heads.sumKeys (.of_eq (e_v64 V) <| .neg <| .of_eq (e_v63 V) <| Rows.castColumn (.of_eq (e_v62 V) <| Heads.sumKeys
      (.of_eq (e_v61 V) <| .mul (.of_eq (e_v60 V) <| (v58_is G).mul <| .of_eq (e_v59 V) <| (v48_is G hM).overKeys _ (by decide)) (v41_is G hM)) _ _
        (fun i => (congrFun (e_cst_11 V) i).trans zero_f32) (by decide)) _) _ _ (fun i => (congrFun (e_cst_12 V) i).trans zero_f32) (by decide))
    fun _ _ _ _ => sum_range_one _

include G hM in
theorem v70_is : Heads (b := 2048) (w := 2048) (fin ops V main_v70) fun h i j => dscore (Q h) (K h) (V' h) (D h) (C h) (lse (Q h) (K h) (C h)) i j :=
  .congr (.of_eq (e_v70 V) <| .mul (.of_eq (e_v69 V) <| .add
      (.of_eq (e_v66 V) <| (v58_is G).div (.of_eq (e_v65 V) <| (v43_is G hM).overKeys _ (by decide)) fun h i _ => tot_ne h i)
      (.of_eq (e_v68 V) <| (v67_is G hM).spread _ (by decide))) (v41_is G hM)) fun _ _ _ _ _ _ => dscore_eq _ _ _

include G hM in
theorem v71_is : Heads (b := 2048) (w := 2048) (fin ops V main_v71) fun h i j => dscore (Q h) (K h) (V' h) (D h) (C h) (lse (Q h) (K h) (C h)) i j :=
  .congr (.of_eq (e_v71 V) <| causal.cut (v70_is G hM) <| .of_eq (e_call1_v0 V) <|
      heads_scalar (fun i => (congrFun (e_call1_cst V) i).trans zero_f32) _) fun _ _ i _ j _ => by
    by_cases h : j ≤ i
    · exact if_pos h
    · exact (if_neg h).trans (dscore_of_lt (by omega)).symm

/-! ## The gradients of the queries, the keys and the gate sums -/

include G hM in
theorem v81_is : Heads (b := 2048) (w := 2048) (fin ops V main_v81)
    fun h i j => dscore (Q h) (K h) (V' h) (D h) (C h) (lse (Q h) (K h) (C h)) i j * (1 / 8) :=
  .of_eq (e_v81 V) <| (v71_is G hM).mul <| .of_eq (e_v80 V) <| heads_scalar (fun i => (congrFun (e_cst_17 V) i).trans eighth_f32) _

include G hM in
theorem dq_is : Heads (b := 2048) (w := 64) (fin ops V main_v85) fun h i j => gq (Q h) (K h) (V' h) (D h) (C h) (lse (Q h) (K h) (C h)) i j :=
  .congr (.of_eq (e_v85 V) <| .narrow (.of_eq (e_v84 V) <| heads_nn _ (v81_is G hM) (v2_is G)) _) fun _ _ _ _ _ _ => by
    rw [gq, sum_mul]
    exact sum_congr rfl fun _ _ => by ring

include G hM in
theorem dk_is : Heads (b := 2048) (w := 64) (fin ops V main_v87) fun h i j => gk (Q h) (K h) (V' h) (D h) (C h) (lse (Q h) (K h) (C h)) i j :=
  .congr (.of_eq (e_v87 V) <| .wide (.of_eq (e_v83 V) <| .narrow (.of_eq (e_v82 V) <| heads_tn _ (v81_is G hM) (q_is G)) _) _)
    fun _ _ _ _ _ _ => sum_congr rfl fun _ _ => by ring

include G hM in
theorem dc_is : Heads (b := 1) (w := 2048) (fin ops V main_v88) fun h _ j => gc (Q h) (K h) (V' h) (D h) (C h) (lse (Q h) (K h) (C h)) j :=
  .of_eq (e_v88 V) <| Rows.castLine (.congr (.of_eq (e_v79 V) <| .add
      (.of_eq (e_v75 V) <| Heads.sumRows (.of_eq (e_v74 V) <| Rows.castLine (.of_eq (e_v73 V) <| Heads.sumRows (.of_eq (e_v72 V) <| (v71_is G hM).neg) _ _
        (fun i => (congrFun (e_cst_13 V) i).trans zero_f32) (by decide)) _) _ _ (fun i => (congrFun (e_cst_14 V) i).trans zero_f32) (by decide))
      (.of_eq (e_v78 V) <| Heads.sumKeys (.of_eq (e_v77 V) <| Rows.castColumn (.of_eq (e_v76 V) <| (v71_is G hM).sumKeys _ _
        (fun i => (congrFun (e_cst_15 V) i).trans zero_f32) (by decide)) _) _ _ (fun i => (congrFun (e_cst_16 V) i).trans zero_f32) (by decide)))
    fun h _ i _ => by rw [sum_range_one, sum_range_one, dscore_sum, add_zero, gc, sum_neg_distrib]) _

end Fox.Ref

end
-- ==== Proof.Finite.lean ====
/- The precondition: every entry of the five arguments is a real number. -/
module

public import proofs.«01_k».proof.Defs
public import proofs.«01_k».proof.Proof.HostValue
public import Idealize.ShloMosaic.Lib.ReduceAll
public import Idealize.ShloMosaic.Lib.Affine

@[expose] public section

noncomputable section

namespace Fox

open Idealize.ShloMosaic Idealize.ShloMosaic.TcCoe Idealize.ShloMosaic.ValueIdx

/-- The side conditions that the precondition's operations state. -/
theorem finiteFacts : Cert.Pre_finite.Facts where
  bcast_S_S8x2048x64 := by decide
  reducesTo_S8x2048x64_S_d0_1_2 := by decide
  h_S_ := by decide
  bcast_S_S8x2048 := by decide
  reducesTo_S8x2048_S_d0_1 := by decide

/-- An extended real that differs from itself by nothing is a real number. -/
theorem real_of_sub {x : EReal} (h : x - x = 0) : x = ((x.toReal : ℝ) : EReal) := by
  induction x using EReal.rec with
  | bot => rw [EReal.bot_sub] at h; exact absurd h (by decide)
  | coe r => rw [EReal.toReal_coe]
  | top => exact absurd h (by decide)

instance : Subsingleton (⟨0, ![]⟩ : Shape).Idx := ⟨fun _ _ => funext fun a => a.elim0⟩

/-- Where the test of every entry comes out one, every entry is a real number. -/
theorem entry_real {s : Shape} {φ : FTy} {x : FVec Ideal s φ} {z : FVec Ideal ⟨0, ![]⟩ φ} {axes : List (Fin s.rank)} {v : IVec ⟨0, ![]⟩ 1} (hz : ∀ i, z i = 0)
    (b : (⟨0, ![]⟩ : Shape).BroadcastsInDim s ![]) (d : s.ReducesTo axes ⟨0, ![]⟩) (hu : 0 < (⟨0, ![]⟩ : Shape).numel) (j : (⟨0, ![]⟩ : Shape).Idx)
    (h : Host.reduce IntOp.andi (cmpf .oeq (subf x x) (broadcastInDim s ![] b z)) v d hu j = 1#1) (i : s.Idx) : x i = (((x i).toReal : ℝ) : EReal) := by
  have e := Host.reduce_andi_all _ _ d hu j h i
  have e' : BitVec.ofBool (decide ((x i - x i : EReal) = broadcastInDim s ![] b z i)) = 1#1 := e
  rw [broadcastInDim_scalar_apply, hz] at e'
  refine real_of_sub ?_
  by_contra hn
  rw [decide_eq_false hn] at e'
  exact absurd e' (by decide)

/-- Eight heads of matrices of real entries hold real numbers. -/
theorem heads_of_real {b w : ℕ} {x : (⟨3, ![8, b, w]⟩ : Shape).Idx → EReal} (h : ∀ i, x i = (((x i).toReal : ℝ) : EReal)) : ∃ f, Heads x f :=
  ⟨fun a i j => if ha : a < 8 ∧ i < b ∧ j < w then (x (ix3 ⟨a, ha.1⟩ ⟨i, ha.2.1⟩ ⟨j, ha.2.2⟩)).toReal else 0, fun a i j => by
    have e : (if ha : a.val < 8 ∧ i.val < b ∧ j.val < w then (x (ix3 ⟨a.val, ha.1⟩ ⟨i.val, ha.2.1⟩ ⟨j.val, ha.2.2⟩)).toReal else 0) = (x (ix3 a i j)).toReal :=
      dif_pos ⟨a.isLt, i.isLt, j.isLt⟩
    exact (h _).trans (congrArg _ e.symm)⟩

/-- Eight rows of real entries hold real numbers. -/
theorem rows_of_real {n : ℕ} {x : (⟨2, ![8, n]⟩ : Shape).Idx → EReal} (h : ∀ i, x i = (((x i).toReal : ℝ) : EReal)) : ∃ f, Rows x f :=
  ⟨fun a i => if ha : a < 8 ∧ i < n then (x (ix2 ⟨a, ha.1⟩ ⟨i, ha.2⟩)).toReal else 0, fun a i => by
    have e : (if ha : a.val < 8 ∧ i.val < n then (x (ix2 ⟨a.val, ha.1⟩ ⟨i.val, ha.2⟩)).toReal else 0) = (x (ix2 a i)).toReal :=
      dif_pos ⟨a.isLt, i.isLt⟩
    exact (h _).trans (congrArg _ e.symm)⟩

/-- Where the precondition comes out one, the five arrays hold real numbers. -/
theorem reals [Cert.Pre_finite.Facts] {q k v d : FVec Ideal ⟨3, ![8, 2048, 64]⟩ .bf16} {c : FVec Ideal ⟨2, ![8, 2048]⟩ .f32}
    (h : Cert.Pre_finite.fn (F := Ideal) q k v c d = fun _ => 1#1) :
    ∃ (Q K V' D : ℕ → ℕ → ℕ → ℝ) (C : ℕ → ℕ → ℝ), Heads q Q ∧ Heads k K ∧ Heads v V' ∧ Rows c C ∧ Heads d D := by
  have e := congrFun h (fun a => a.elim0)
  obtain ⟨e, hd⟩ := IntOp.andi_eq_one.1 e
  obtain ⟨e, hc⟩ := IntOp.andi_eq_one.1 e
  obtain ⟨e, hv⟩ := IntOp.andi_eq_one.1 e
  obtain ⟨hq, hk⟩ := IntOp.andi_eq_one.1 e
  have z16 : ∀ i, (constant ⟨0, ![]⟩ .bf16 0x0000#16 : FVec Ideal ⟨0, ![]⟩ .bf16) i = 0 := fun _ => Ideal.ofBits_zero_bf16
  have z32 : ∀ i, (constant ⟨0, ![]⟩ .f32 0x00000000#32 : FVec Ideal ⟨0, ![]⟩ .f32) i = 0 := fun _ => Ideal.ofBits_zero_f32
  obtain ⟨Q, hQ⟩ := heads_of_real (entry_real z16 _ _ _ _ hq)
  obtain ⟨K, hK⟩ := heads_of_real (entry_real z16 _ _ _ _ hk)
  obtain ⟨V', hV⟩ := heads_of_real (entry_real z16 _ _ _ _ hv)
  obtain ⟨C, hC⟩ := rows_of_real (entry_real z32 _ _ _ _ hc)
  obtain ⟨D, hD⟩ := heads_of_real (entry_real z16 _ _ _ _ hd)
  exact ⟨Q, K, V', D, C, hQ, hK, hV, hC, hD⟩

end Fox

end
-- ==== Proof.FfnRun.lean ====
/- The run of the feed-forward program: every buffer ends at what the fold over the eight calls leaves in it. -/
module

public import proofs.«01_k».proof.Proof.Gen.FfnKernelIdeal.Frame

@[expose] public section

noncomputable section

namespace Ffn.Ker

open Cert.FfnKernelIdeal Cert.FfnKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

set_option backward.isDefEq.respectTransparency.types false in
/-- Every run ends with each buffer that outlives the calls at its contents after the eighth. -/
theorem run : θ_run defs (onTc (τ := τ) (main (F := F))) ⟨m, fun _ => 0, ρ⟩ fun r =>
    ∀ (c : Dev nD) (b : Ref sig .tc), ¬ (Proc.devRef .tc b : DevRef τ sig).isScoped →
      r.2.mem ((c.tc : Thread nD τ).loc b) = W8 m ρ c (Proc.devRef .tc b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ c b hb => h c _ (mem_uc b hb))

end Ffn.Ker

end
-- ==== Proof.MatValue.lean ====
/- What operations on matrices are over the extended reals, when their operands hold real numbers, and how a matrix that is
   staged block by block is read from its blocks. -/
module

public import proofs.«01_k».proof.Proof.HostValue
public import Idealize.ShloMosaic.Lib.Pipeline.Value

@[expose] public section

noncomputable section

namespace Fox

open Idealize.ShloMosaic Idealize.ShloMosaic.ValueIdx Finset

/-- An array of four axes holds the real numbers `f`. -/
def Is4 {a b c d : ℕ} (x : (⟨4, ![a, b, c, d]⟩ : Shape).Idx → EReal) (f : ℕ → ℕ → ℕ → ℕ → ℝ) : Prop :=
  ∀ (i : Fin a) (j : Fin b) (k : Fin c) (l : Fin d), x (ix4 i j k l) = ((f i j k l : ℝ) : EReal)

variable {a b c d m n : ℕ} {f g : ℕ → ℕ → ℝ}

theorem Is2.of_eq {x y : (⟨2, ![a, b]⟩ : Shape).Idx → EReal} (e : x = y) (h : Is2 y f) : Is2 x f := e ▸ h
theorem Is4.of_eq {x y : (⟨4, ![a, b, c, d]⟩ : Shape).Idx → EReal} {f : ℕ → ℕ → ℕ → ℕ → ℝ} (e : x = y) (h : Is4 y f) : Is4 x f := e ▸ h

/-- Two matrices that hold the same real numbers are equal. -/
theorem Is2.eq {x y : (⟨2, ![a, b]⟩ : Shape).Idx → EReal} (hx : Is2 x f) (hy : Is2 y f) : x = y := by
  funext i
  rw [eq_ix2 i]
  exact (hx _ _).trans (hy _ _).symm

theorem Is4.eq {x y : (⟨4, ![a, b, c, d]⟩ : Shape).Idx → EReal} {f : ℕ → ℕ → ℕ → ℕ → ℝ} (hx : Is4 x f) (hy : Is4 y f) : x = y := by
  funext i
  rw [eq_ix4 i]
  exact (hx _ _ _ _).trans (hy _ _ _ _).symm

/-! ## Entry by entry -/

section Entries

variable {φ ψ : FTy} {x y : FVec Ideal ⟨2, ![a, b]⟩ φ}

/-- A change of format keeps the number. -/
theorem Is2.wide (hx : Is2 x f) (h : φ.bits < ψ.bits) : Is2 (extf ψ x h) f := fun i j => hx i j
theorem Is2.narrow (hx : Is2 x f) (h : ψ.bits < φ.bits) : Is2 (truncf ψ x h) f := fun i j => hx i j
theorem Is4.narrow {z : FVec Ideal ⟨4, ![a, b, c, d]⟩ φ} {f : ℕ → ℕ → ℕ → ℕ → ℝ} (hz : Is4 z f) (h : ψ.bits < φ.bits) : Is4 (truncf ψ z h) f := fun i j k l => hz i j k l

theorem Is2.mul (hx : Is2 x f) (hy : Is2 y g) : Is2 (mulf x y) fun i j => f i j * g i j := fun i j => by
  show x _ * y _ = _
  rw [hx, hy, EReal.coe_mul]

theorem Is2.add (hx : Is2 x f) (hy : Is2 y g) : Is2 (addf x y) fun i j => f i j + g i j := fun i j => by
  show x _ + y _ = _
  rw [hx, hy, EReal.coe_add]

theorem Is2.sub (hx : Is2 x f) (hy : Is2 y g) : Is2 (subf x y) fun i j => f i j - g i j := fun i j => by
  show x _ - y _ = _
  rw [hx, hy, EReal.coe_sub]

theorem Is2.neg (hx : Is2 x f) : Is2 (Host.negf x) fun i j => - f i j := fun i j => by
  show - x _ = _
  rw [hx, EReal.coe_neg]

theorem Is2.divide (hx : Is2 x f) (hy : Is2 y g) (h0 : ∀ i j, g i j ≠ 0) : Is2 (divf x y) fun i j => f i j / g i j := fun i j => by
  show Ideal.div (x _) (y _) = _
  rw [hx, hy, Ideal.div_coe (h0 _ _), ← EReal.coe_mul, mul_one_div]

theorem Is2.hostDivide (hx : Is2 x f) (hy : Is2 y g) (h0 : ∀ i j, g i j ≠ 0) : Is2 (Host.divf x y) fun i j => f i j / g i j := hx.divide hy h0

theorem Is2.expo (hx : Is2 x f) : Is2 (exp x) fun i j => Real.exp (f i j) := fun i j => by
  show Ideal.exp (x _) = _
  rw [hx, Ideal.exp_coe]

theorem Is2.hostExp (hx : Is2 x f) : Is2 (Host.exp x) fun i j => Real.exp (f i j) := hx.expo

end Entries

/-! ## Constants -/

theorem zeros_is : Is2 (broadcast ⟨2, ![a, b]⟩ (Scalar.ofBits (F := Ideal) .f32 0x00000000#32)) fun _ _ => 0 := fun _ _ => zero_f32
theorem ones_is : Is2 (broadcast ⟨2, ![a, b]⟩ (Scalar.ofBits (F := Ideal) .f32 0x3F800000#32)) fun _ _ => 1 := fun _ _ => one_f32

theorem spread_is {x : (⟨0, ![]⟩ : Shape).Idx → EReal} {r : ℝ} (hx : ∀ i, x i = ((r : ℝ) : EReal)) (h : (⟨0, ![]⟩ : Shape).BroadcastsInDim ⟨2, ![a, b]⟩ ![]) :
    Is2 (broadcastInDim ⟨2, ![a, b]⟩ ![] h x) fun _ _ => r := fun _ _ => (broadcastInDim_scalar_apply h x _).trans (hx _)

/-! ## Layout -/

/-- Columns `o` to `o + b` of a wider matrix. -/
theorem Is2.columns {B o : ℕ} {x : (⟨2, ![a, B]⟩ : Shape).Idx → EReal} (hx : Is2 x f) (h : (⟨2, ![a, B]⟩ : Shape).Slices ![0, o] ⟨2, ![a, b]⟩) (hB : o + b ≤ B) :
    Is2 (extractStridedSlice ⟨2, ![a, b]⟩ ![0, o] x h) fun i j => f i (o + j) := fun i j =>
  (extractStridedSlice_apply ![0, o] x h (ix2 i j) (ix2 i ⟨o + j, by have := j.isLt; omega⟩) fun k => by
    match k with
    | ⟨0, _⟩ => exact (Nat.zero_add _).symm
    | ⟨1, _⟩ => rfl).trans (hx _ _)

theorem Is2.turn {x : (⟨2, ![a, b]⟩ : Shape).Idx → EReal} (hx : Is2 x f) (h : (⟨2, ![a, b]⟩ : Shape).Transposes [1, 0] ⟨2, ![b, a]⟩) :
    Is2 (transpose ⟨2, ![b, a]⟩ [1, 0] x h) fun i j => f j i := fun i j => (transpose_ix2_apply x h i j).trans (hx j i)

/-- A cast to the same shape keeps the matrix. -/
theorem Is2.same {x : (⟨2, ![a, b]⟩ : Shape).Idx → EReal} (hx : Is2 x f) (h : (⟨2, ![a, b]⟩ : Shape).ShapeCasts ⟨2, ![a, b]⟩) :
    Is2 (shapeCast ⟨2, ![a, b]⟩ x h) f := fun i j => (shapeCast_apply x h (ix2 i j) (ix2 i j) rfl).trans (hx i j)

/-- Two matrices side by side. -/
theorem Is2.beside {b' B : ℕ} {x : (⟨2, ![a, b]⟩ : Shape).Idx → EReal} {y : (⟨2, ![a, b']⟩ : Shape).Idx → EReal} (hx : Is2 x f) (hy : Is2 y g)
    (h : Shape.Concatenates [(⟨2, ![a, b]⟩ : Shape), ⟨2, ![a, b']⟩] ⟨2, ![a, B]⟩ 1) (hB : B = b + b') :
    Is2 (concatenate ⟨2, ![a, B]⟩ 1 [⟨⟨2, ![a, b]⟩, x⟩, ⟨⟨2, ![a, b']⟩, y⟩] h) fun i j => if j < b then f i j else g i (j - b) := fun i j => by
  by_cases hj : j.val < b
  · refine (concatenate_pair_apply_left 1 x y h (ix2 i j) rfl (ix2 i ⟨j, hj⟩) fun k => ?_).trans ((hx _ _).trans ?_)
    · match k with
      | ⟨0, _⟩ => rfl
      | ⟨1, _⟩ => rfl
    · exact congrArg _ (if_pos hj).symm
  · have hj' := j.isLt
    refine (concatenate_pair_apply_right 1 x y h (ix2 i j) rfl rfl (ix2 i ⟨j - b, by omega⟩) (fun k hk => ?_) ?_).trans ((hy _ _).trans ?_)
    · match k with
      | ⟨0, _⟩ => rfl
      | ⟨1, _⟩ => exact absurd rfl hk
    · show j.val - b + b = j.val
      omega
    · exact congrArg _ (if_neg hj).symm

/-- A matrix cut into blocks of rows and columns, the blocks of columns leading. -/
theorem Is2.split {A B p q : ℕ} {x : (⟨2, ![A, B]⟩ : Shape).Idx → EReal} (hx : Is2 x f) (h : (⟨2, ![A, B]⟩ : Shape).ShapeCasts ⟨4, ![p, a, q, b]⟩)
    (hA : A = p * a) (hB : B = q * b) (ht : (⟨4, ![p, a, q, b]⟩ : Shape).Transposes [2, 0, 1, 3] ⟨4, ![q, p, a, b]⟩) :
    Is4 (transpose ⟨4, ![q, p, a, b]⟩ [2, 0, 1, 3] (shapeCast ⟨4, ![p, a, q, b]⟩ x h) ht) fun j i r s => f (i * a + r) (j * b + s) := fun j i r s => by
  have hr : i.val * a + r.val < A := by
    have h1 : (i.val + 1) * a ≤ p * a := Nat.mul_le_mul_right a i.isLt
    have h2 := r.isLt
    rw [Nat.add_mul, one_mul] at h1
    omega
  have hs : j.val * b + s.val < B := by
    have h1 : (j.val + 1) * b ≤ q * b := Nat.mul_le_mul_right b j.isLt
    have h2 := s.isLt
    rw [Nat.add_mul, one_mul] at h1
    omega
  refine (transpose_apply [2, 0, 1, 3] _ ht (ix4 j i r s) (ix4 i r j s) fun k => ?_).trans
    ((shapeCast_apply x h (ix4 i r j s) (ix2 ⟨_, hr⟩ ⟨_, hs⟩) ?_).trans (hx _ _))
  · match k with
    | ⟨0, _⟩ => rfl
    | ⟨1, _⟩ => rfl
    | ⟨2, _⟩ => rfl
    | ⟨3, _⟩ => rfl
  · rw [Shape.rowMajor_val_two, Shape.rowMajor_val_four]
    show (i.val * a + r.val) * B + (j.val * b + s.val) = ((i.val * a + r.val) * q + j.val) * b + s.val
    rw [hB]
    ring

/-- A matrix as the one block of an array of four axes. -/
theorem Is2.lift {x : (⟨2, ![a, b]⟩ : Shape).Idx → EReal} (hx : Is2 x f) (h : (⟨2, ![a, b]⟩ : Shape).ShapeCasts ⟨4, ![1, 1, a, b]⟩) :
    Is4 (shapeCast ⟨4, ![1, 1, a, b]⟩ x h) fun _ _ r s => f r s := fun u v r s =>
  (shapeCast_apply x h (ix4 u v r s) (ix2 r s) (by
    rw [Shape.rowMajor_val_two, Shape.rowMajor_val_four]
    show r.val * b + s.val = ((u.val * 1 + v.val) * a + r.val) * b + s.val
    have hu : u.val = 0 := by omega
    have hv : v.val = 0 := by omega
    rw [hu, hv]
    ring)).trans (hx r s)

/-! ## Products -/

section Products

variable {φ ψ : FTy}

/-- Rows against columns. -/
theorem rowsColumns (h : DotDims.WF ⟨2, ![m, c]⟩ ⟨2, ![c, n]⟩ ⟨2, ![m, n]⟩ [1] [0] [0] [1] [] [])
    {x : FVec Ideal ⟨2, ![m, c]⟩ φ} {y : FVec Ideal ⟨2, ![c, n]⟩ ψ} (hx : Is2 x f) (hy : Is2 y g) (i : Fin m) (j : Fin n) :
    ∑ k : (⟨[1], [0], [0], [1], [], [], h⟩ : DotDims ⟨2, ![m, c]⟩ ⟨2, ![c, n]⟩ ⟨2, ![m, n]⟩).contr.Idx,
      x ((⟨[1], [0], [0], [1], [], [], h⟩ : DotDims _ _ _).lhsIdx (ix2 i j) k) * y ((⟨[1], [0], [0], [1], [], [], h⟩ : DotDims _ _ _).rhsIdx (ix2 i j) k)
      = ((∑ k ∈ range c, f i k * g k j : ℝ) : EReal) := by
  rw [← Equiv.sum_comp (contrEquiv1 (⟨[1], [0], [0], [1], [], [], h⟩ : DotDims _ _ _) c rfl rfl).symm, ← sum_prod c (f i) (fun k => g k j)]
  refine sum_congr rfl fun k _ => ?_
  have hk := contrEquiv1_symm_val (⟨[1], [0], [0], [1], [], [], h⟩ : DotDims ⟨2, ![m, c]⟩ ⟨2, ![c, n]⟩ ⟨2, ![m, n]⟩) c rfl rfl k
  have el : (⟨[1], [0], [0], [1], [], [], h⟩ : DotDims ⟨2, ![m, c]⟩ ⟨2, ![c, n]⟩ ⟨2, ![m, n]⟩).lhsIdx (ix2 i j) ((contrEquiv1 _ c rfl rfl).symm k) = ix2 i k := by
    funext e; apply Fin.ext
    match e with
    | ⟨0, _⟩ => rfl
    | ⟨1, _⟩ => exact hk
  have er : (⟨[1], [0], [0], [1], [], [], h⟩ : DotDims ⟨2, ![m, c]⟩ ⟨2, ![c, n]⟩ ⟨2, ![m, n]⟩).rhsIdx (ix2 i j) ((contrEquiv1 _ c rfl rfl).symm k) = ix2 k j := by
    funext e; apply Fin.ext
    match e with
    | ⟨0, _⟩ => exact hk
    | ⟨1, _⟩ => rfl
  rw [el, er, hx i k, hy k j]

/-- Rows against rows. -/
theorem rowsRows (h : DotDims.WF ⟨2, ![m, c]⟩ ⟨2, ![n, c]⟩ ⟨2, ![m, n]⟩ [1] [1] [0] [0] [] [])
    {x : FVec Ideal ⟨2, ![m, c]⟩ φ} {y : FVec Ideal ⟨2, ![n, c]⟩ ψ} (hx : Is2 x f) (hy : Is2 y g) (i : Fin m) (j : Fin n) :
    ∑ k : (⟨[1], [1], [0], [0], [], [], h⟩ : DotDims ⟨2, ![m, c]⟩ ⟨2, ![n, c]⟩ ⟨2, ![m, n]⟩).contr.Idx,
      x ((⟨[1], [1], [0], [0], [], [], h⟩ : DotDims _ _ _).lhsIdx (ix2 i j) k) * y ((⟨[1], [1], [0], [0], [], [], h⟩ : DotDims _ _ _).rhsIdx (ix2 i j) k)
      = ((∑ k ∈ range c, f i k * g j k : ℝ) : EReal) := by
  rw [← Equiv.sum_comp (contrEquiv1 (⟨[1], [1], [0], [0], [], [], h⟩ : DotDims _ _ _) c rfl rfl).symm, ← sum_prod c (f i) (g j)]
  refine sum_congr rfl fun k _ => ?_
  have hk := contrEquiv1_symm_val (⟨[1], [1], [0], [0], [], [], h⟩ : DotDims ⟨2, ![m, c]⟩ ⟨2, ![n, c]⟩ ⟨2, ![m, n]⟩) c rfl rfl k
  have el : (⟨[1], [1], [0], [0], [], [], h⟩ : DotDims ⟨2, ![m, c]⟩ ⟨2, ![n, c]⟩ ⟨2, ![m, n]⟩).lhsIdx (ix2 i j) ((contrEquiv1 _ c rfl rfl).symm k) = ix2 i k := by
    funext e; apply Fin.ext
    match e with
    | ⟨0, _⟩ => rfl
    | ⟨1, _⟩ => exact hk
  have er : (⟨[1], [1], [0], [0], [], [], h⟩ : DotDims ⟨2, ![m, c]⟩ ⟨2, ![n, c]⟩ ⟨2, ![m, n]⟩).rhsIdx (ix2 i j) ((contrEquiv1 _ c rfl rfl).symm k) = ix2 j k := by
    funext e; apply Fin.ext
    match e with
    | ⟨0, _⟩ => rfl
    | ⟨1, _⟩ => exact hk
  rw [el, er, hx i k, hy j k]

/-- Columns against columns. -/
theorem columnsColumns (h : DotDims.WF ⟨2, ![c, m]⟩ ⟨2, ![c, n]⟩ ⟨2, ![m, n]⟩ [0] [0] [1] [1] [] [])
    {x : FVec Ideal ⟨2, ![c, m]⟩ φ} {y : FVec Ideal ⟨2, ![c, n]⟩ ψ} (hx : Is2 x f) (hy : Is2 y g) (i : Fin m) (j : Fin n) :
    ∑ k : (⟨[0], [0], [1], [1], [], [], h⟩ : DotDims ⟨2, ![c, m]⟩ ⟨2, ![c, n]⟩ ⟨2, ![m, n]⟩).contr.Idx,
      x ((⟨[0], [0], [1], [1], [], [], h⟩ : DotDims _ _ _).lhsIdx (ix2 i j) k) * y ((⟨[0], [0], [1], [1], [], [], h⟩ : DotDims _ _ _).rhsIdx (ix2 i j) k)
      = ((∑ k ∈ range c, f k i * g k j : ℝ) : EReal) := by
  rw [← Equiv.sum_comp (contrEquiv1 (⟨[0], [0], [1], [1], [], [], h⟩ : DotDims _ _ _) c rfl rfl).symm, ← sum_prod c (fun k => f k i) (fun k => g k j)]
  refine sum_congr rfl fun k _ => ?_
  have hk := contrEquiv1_symm_val (⟨[0], [0], [1], [1], [], [], h⟩ : DotDims ⟨2, ![c, m]⟩ ⟨2, ![c, n]⟩ ⟨2, ![m, n]⟩) c rfl rfl k
  have el : (⟨[0], [0], [1], [1], [], [], h⟩ : DotDims ⟨2, ![c, m]⟩ ⟨2, ![c, n]⟩ ⟨2, ![m, n]⟩).lhsIdx (ix2 i j) ((contrEquiv1 _ c rfl rfl).symm k) = ix2 k i := by
    funext e; apply Fin.ext
    match e with
    | ⟨0, _⟩ => exact hk
    | ⟨1, _⟩ => rfl
  have er : (⟨[0], [0], [1], [1], [], [], h⟩ : DotDims ⟨2, ![c, m]⟩ ⟨2, ![c, n]⟩ ⟨2, ![m, n]⟩).rhsIdx (ix2 i j) ((contrEquiv1 _ c rfl rfl).symm k) = ix2 k j := by
    funext e; apply Fin.ext
    match e with
    | ⟨0, _⟩ => exact hk
    | ⟨1, _⟩ => rfl
  rw [el, er, hx k i, hy k j]

variable {h : DotDims.WF ⟨2, ![m, c]⟩ ⟨2, ![c, n]⟩ ⟨2, ![m, n]⟩ [1] [0] [0] [1] [] []}
  {h' : DotDims.WF ⟨2, ![m, c]⟩ ⟨2, ![n, c]⟩ ⟨2, ![m, n]⟩ [1] [1] [0] [0] [] []}
  {h'' : DotDims.WF ⟨2, ![c, m]⟩ ⟨2, ![c, n]⟩ ⟨2, ![m, n]⟩ [0] [0] [1] [1] [] []}

theorem nn_is {x : FVec Ideal ⟨2, ![m, c]⟩ φ} {y : FVec Ideal ⟨2, ![c, n]⟩ ψ} (hx : Is2 x f) (hy : Is2 y g) :
    Is2 (FloatOps.matmul (⟨[1], [0], [0], [1], [], [], h⟩ : DotDims _ _ _) none x y (zeros m n)) fun i j => ∑ k ∈ range c, f i k * g k j := fun i j => by
  rw [Ideal.matmul_apply, zeros_apply, zero_add]
  exact rowsColumns h hx hy i j

theorem nt_is {x : FVec Ideal ⟨2, ![m, c]⟩ φ} {y : FVec Ideal ⟨2, ![n, c]⟩ ψ} (hx : Is2 x f) (hy : Is2 y g) :
    Is2 (FloatOps.matmul (⟨[1], [1], [0], [0], [], [], h'⟩ : DotDims _ _ _) none x y (zeros m n)) fun i j => ∑ k ∈ range c, f i k * g j k := fun i j => by
  rw [Ideal.matmul_apply, zeros_apply, zero_add]
  exact rowsRows h' hx hy i j

theorem tn_is {x : FVec Ideal ⟨2, ![c, m]⟩ φ} {y : FVec Ideal ⟨2, ![c, n]⟩ ψ} (hx : Is2 x f) (hy : Is2 y g) :
    Is2 (FloatOps.matmul (⟨[0], [0], [1], [1], [], [], h''⟩ : DotDims _ _ _) none x y (zeros m n)) fun i j => ∑ k ∈ range c, f k i * g k j := fun i j => by
  rw [Ideal.matmul_apply, zeros_apply, zero_add]
  exact columnsColumns h'' hx hy i j

theorem host_nn {x : FVec Ideal ⟨2, ![m, c]⟩ φ} {y : FVec Ideal ⟨2, ![c, n]⟩ ψ} (hx : Is2 x f) (hy : Is2 y g) :
    Is2 (Host.dotGeneral (⟨[1], [0], [0], [1], [], [], h⟩ : DotDims _ _ _) none x y) fun i j => ∑ k ∈ range c, f i k * g k j := fun i j => by
  show FloatOps.dotGeneral _ _ _ x y (ix2 i j) = _
  rw [Ideal.dotGeneral_apply]
  exact rowsColumns h hx hy i j

theorem host_nt {x : FVec Ideal ⟨2, ![m, c]⟩ φ} {y : FVec Ideal ⟨2, ![n, c]⟩ ψ} (hx : Is2 x f) (hy : Is2 y g) :
    Is2 (Host.dotGeneral (⟨[1], [1], [0], [0], [], [], h'⟩ : DotDims _ _ _) none x y) fun i j => ∑ k ∈ range c, f i k * g j k := fun i j => by
  show FloatOps.dotGeneral _ _ _ x y (ix2 i j) = _
  rw [Ideal.dotGeneral_apply]
  exact rowsRows h' hx hy i j

theorem host_tn {x : FVec Ideal ⟨2, ![c, m]⟩ φ} {y : FVec Ideal ⟨2, ![c, n]⟩ ψ} (hx : Is2 x f) (hy : Is2 y g) :
    Is2 (Host.dotGeneral (⟨[0], [0], [1], [1], [], [], h''⟩ : DotDims _ _ _) none x y) fun i j => ∑ k ∈ range c, f k i * g k j := fun i j => by
  show FloatOps.dotGeneral _ _ _ x y (ix2 i j) = _
  rw [Ideal.dotGeneral_apply]
  exact columnsColumns h'' hx hy i j

end Products

/-! ## Blocks -/

/-- A block of a matrix, from the place `e` of its entries in it. -/
theorem Is2.part {A B p q : ℕ} {X : (⟨2, ![A, B]⟩ : Shape).Idx → EReal} (hX : Is2 X f) (e : (⟨2, ![a, b]⟩ : Shape).Idx → (⟨2, ![A, B]⟩ : Shape).Idx)
    (h : ∀ x k, (e x k).val = (![p, q] : Fin 2 → ℕ) k + (x k).val) : Is2 (fun x => X (e x)) fun i j => f (p + i) (q + j) := fun i j => by
  have h0 : (e (ix2 i j) 0).val = p + i.val := h (ix2 i j) 0
  have h1 : (e (ix2 i j) 1).val = q + j.val := h (ix2 i j) 1
  refine (congrArg X (eq_ix2 _)).trans ((hX _ _).trans ?_)
  rw [h0, h1]

/-- A matrix of `m` by `n` blocks, from its blocks. -/
theorem Is2.ofParts {A B N : ℕ} {Y : (⟨2, ![A, B]⟩ : Shape).Idx → EReal} (m n a b : ℕ) (hA : A = m * a) (hB : B = n * b) (hN : N = m * n)
    (e : Fin N → (⟨2, ![a, b]⟩ : Shape).Idx → (⟨2, ![A, B]⟩ : Shape).Idx)
    (h : ∀ t x k, (e t x k).val = (![t.val / n * a, t.val % n * b] : Fin 2 → ℕ) k + (x k).val)
    (hY : ∀ t, Is2 (fun x => Y (e t x)) fun i j => f (t.val / n * a + i) (t.val % n * b + j)) : Is2 Y f := fun i j => by
  have hi := i.isLt
  have hj := j.isLt
  have ha : 0 < a := Nat.pos_of_ne_zero fun h => by subst h; omega
  have hb : 0 < b := Nat.pos_of_ne_zero fun h => by subst h; omega
  have hp : i.val / a < m := Nat.div_lt_of_lt_mul (by rw [Nat.mul_comm]; omega)
  have hq : j.val / b < n := Nat.div_lt_of_lt_mul (by rw [Nat.mul_comm]; omega)
  have ht : i.val / a * n + j.val / b < N := by
    have h1 : (i.val / a + 1) * n ≤ m * n := Nat.mul_le_mul_right n hp
    rw [Nat.add_mul, one_mul] at h1
    omega
  have e1 : (i.val / a * n + j.val / b) / n = i.val / a := by
    rw [Nat.mul_comm, Nat.mul_add_div (Nat.zero_lt_of_lt hq), Nat.div_eq_of_lt hq, Nat.add_zero]
  have e2 : (i.val / a * n + j.val / b) % n = j.val / b := by
    rw [Nat.mul_comm, Nat.mul_add_mod, Nat.mod_eq_of_lt hq]
  have r1 : i.val / a * a + i.val % a = i.val := by rw [Nat.mul_comm]; exact Nat.div_add_mod _ _
  have r2 : j.val / b * b + j.val % b = j.val := by rw [Nat.mul_comm]; exact Nat.div_add_mod _ _
  have key : e ⟨_, ht⟩ (ix2 ⟨i.val % a, Nat.mod_lt _ ha⟩ ⟨j.val % b, Nat.mod_lt _ hb⟩) = ix2 i j := by
    funext k; apply Fin.ext
    rw [h]
    match k with
    | ⟨0, _⟩ =>
      show (i.val / a * n + j.val / b) / n * a + i.val % a = i.val
      rw [e1, r1]
    | ⟨1, _⟩ =>
      show (i.val / a * n + j.val / b) % n * b + j.val % b = j.val
      rw [e2, r2]
  have hv := hY ⟨_, ht⟩ ⟨i.val % a, Nat.mod_lt _ ha⟩ ⟨j.val % b, Nat.mod_lt _ hb⟩
  refine (congrArg Y key).symm.trans (hv.trans ?_)
  show ((f ((i.val / a * n + j.val / b) / n * a + i.val % a) ((i.val / a * n + j.val / b) % n * b + j.val % b) : ℝ) : EReal) = _
  rw [e1, e2, r1, r2]

/-- An array of `n` by `m` matrices, from its matrices; matrix `(t % n, t / n)` is the one of point `t`. -/
theorem Is4.ofParts {N : ℕ} {f : ℕ → ℕ → ℕ → ℕ → ℝ} (m n a b : ℕ) {Y : (⟨4, ![n, m, a, b]⟩ : Shape).Idx → EReal} (hN : N = m * n)
    (e : Fin N → (⟨4, ![1, 1, a, b]⟩ : Shape).Idx → (⟨4, ![n, m, a, b]⟩ : Shape).Idx)
    (h : ∀ t x k, (e t x k).val = (![t.val % n, t.val / n, 0, 0] : Fin 4 → ℕ) k + (x k).val)
    (hY : ∀ t, Is4 (fun x => Y (e t x)) fun _ _ r s => f (t.val % n) (t.val / n) r s) : Is4 Y f := fun j i r s => by
  have hi := i.isLt
  have hj := j.isLt
  have ht : i.val * n + j.val < N := by
    have h1 : (i.val + 1) * n ≤ m * n := Nat.mul_le_mul_right n hi
    rw [Nat.add_mul, one_mul] at h1
    omega
  have e1 : (i.val * n + j.val) / n = i.val := by
    rw [Nat.mul_comm, Nat.mul_add_div (by omega), Nat.div_eq_of_lt hj, Nat.add_zero]
  have e2 : (i.val * n + j.val) % n = j.val := by
    rw [Nat.mul_comm, Nat.mul_add_mod, Nat.mod_eq_of_lt hj]
  have key : e ⟨_, ht⟩ (ix4 0 0 r s) = ix4 j i r s := by
    funext k; apply Fin.ext
    rw [h]
    match k with
    | ⟨0, _⟩ => exact e2
    | ⟨1, _⟩ => exact e1
    | ⟨2, _⟩ => exact Nat.zero_add _
    | ⟨3, _⟩ => exact Nat.zero_add _
  have hv := hY ⟨_, ht⟩ 0 0 r s
  refine (congrArg Y key).symm.trans (hv.trans ?_)
  show ((f ((i.val * n + j.val) % n) ((i.val * n + j.val) / n) r s : ℝ) : EReal) = _
  rw [e1, e2]

end Fox

end
-- ==== Proof.FfnGrad.lean ====
/- The gated feed-forward layer and its gradients, over the real numbers. `H` is the input, `G` the first weights (the gate's
   2816 columns, then the value's), `W` the last weights, `D` the cotangent of the output. -/
module

public import proofs.«01_k».proof.Proof.MatValue

@[expose] public section

noncomputable section

namespace Ffn

open Finset

/-- The logistic function. -/
def logistic (x : ℝ) : ℝ := 1 / (1 + Real.exp (-x))

theorem logistic_den (x : ℝ) : 1 + Real.exp (-x) ≠ 0 := (add_pos one_pos (Real.exp_pos _)).ne'

variable (H G W D : ℕ → ℕ → ℝ)

/-- The first product. -/
def pre (i j : ℕ) : ℝ := ∑ k ∈ range 1024, H i k * G k j

/-- The gate and the value that it multiplies. -/
def gate (i j : ℕ) : ℝ := pre H G i j
def value (i j : ℕ) : ℝ := pre H G i (2816 + j)

/-- The gated product. -/
def act (i j : ℕ) : ℝ := gate H G i j * logistic (gate H G i j) * value H G i j

/-- The layer's output. -/
def out (i j : ℕ) : ℝ := ∑ k ∈ range 2816, act H G i k * W k j

/-- The cotangent of the gated product. -/
def dact (i j : ℕ) : ℝ := ∑ k ∈ range 1024, D i k * W j k

/-- The gradient of the last weights. -/
def dlast (i j : ℕ) : ℝ := ∑ k ∈ range 2048, act H G k i * D k j

/-- The cotangents of the gate and of the value. -/
def dgate (i j : ℕ) : ℝ :=
  dact W D i j * value H G i j * logistic (gate H G i j) * (1 + gate H G i j * (1 - logistic (gate H G i j)))
def dvalue (i j : ℕ) : ℝ := dact W D i j * gate H G i j * logistic (gate H G i j)

/-- The cotangent of the first product. -/
def dpre (i j : ℕ) : ℝ := if j < 2816 then dgate H G W D i j else dvalue H G W D i (j - 2816)

/-- The gradient of the input. -/
def dinput (i j : ℕ) : ℝ := ∑ k ∈ range 5632, dpre H G W D i k * G j k

/-- The gradient of the first weights. -/
def dfirst (i j : ℕ) : ℝ := ∑ k ∈ range 2048, H k i * dpre H G W D k j

end Ffn

end
-- ==== Proof.FfnBlocks.lean ====
/- What each call of the feed-forward program leaves in the array it writes, when the arrays it reads hold real numbers. -/
module

public import proofs.«01_k».proof.Proof.FfnGrad
public import proofs.«01_k».proof.Proof.Gen.FfnKernelIdeal.Frame

@[expose] public section

set_option maxRecDepth 16384

noncomputable section

namespace Ffn.Ker

open Idealize.ShloMosaic Idealize.ShloMosaic.TcCoe Idealize.ShloMosaic.ValueIdx Cert.FfnKernelIdeal Cert.FfnKernelIdeal.Gen Fox Finset

variable (V : (c : Dev nD) → (b : Ref sig .tc) → Buf (Elt Ideal) ((c : Thread nD τ).loc b)) (c : Dev nD) {X Y : ℕ → ℕ → ℝ}

theorem off2 : (![0, 0] : Fin 2 → ℕ) = fun _ => 0 := by decide
theorem off4 : (![0, 0, 0, 0] : Fin 4 → ℕ) = fun _ => 0 := by decide

/-- Where an entry of a block lies in the array, from the number of the block. -/
theorem corner {a b p q : ℕ} {u : Fin 2 → ℕ} {x : (⟨2, ![a, b]⟩ : Shape).Idx} (hu : ∀ k, u k = (![p, q] : Fin 2 → ℕ) k) (k : Fin 2) :
    u k * (![a, b] : Fin 2 → ℕ) k + (x k).val = (![p * a, q * b] : Fin 2 → ℕ) k + (x k).val := by
  rw [hu k]
  match k with
  | ⟨0, _⟩ => rfl
  | ⟨1, _⟩ => rfl

/-- A block `w` columns wide that starts at column `o` of a block. -/
theorem Is2.load {a b w o : ℕ} {x : (⟨2, ![a, b]⟩ : Shape).Idx → EReal} {f : ℕ → ℕ → ℝ} (hx : Is2 x f)
    (inb : ∀ k : Fin 2, (![0, o] : Fin 2 → ℕ) k + (![a, w] : Fin 2 → ℕ) k ≤ (![a, b] : Fin 2 → ℕ) k) :
    Is2 (a := a) (b := w) (View.ld (Val := Elt Ideal) (e' := .bf16) x (Rect.unit (s := ⟨2, ![a, b]⟩) ![0, o] ![a, w] inb)) fun i j => f i (o + j) := fun i j => by
  refine (congrArg x (eq_ix2 _)).trans ((hx _ _).trans ?_)
  show ((f (0 + 1 * i.val) (o + 1 * j.val) : ℝ) : EReal) = _
  rw [Nat.zero_add, Nat.one_mul, Nat.one_mul]

/-- Two blocks stored side by side. -/
theorem Is2.stores {a w : ℕ} {x y : (⟨2, ![a, w]⟩ : Shape).Idx → EReal} {f g : ℕ → ℕ → ℝ} (hx : Is2 x f) (hy : Is2 y g)
    (inb : ∀ k : Fin 2, (![0, 0] : Fin 2 → ℕ) k + (![a, w] : Fin 2 → ℕ) k ≤ (![a, w + w] : Fin 2 → ℕ) k)
    (inb' : ∀ k : Fin 2, (![0, w] : Fin 2 → ℕ) k + (![a, w] : Fin 2 → ℕ) k ≤ (![a, w + w] : Fin 2 → ℕ) k) :
    Is2 (a := a) (b := w + w) (View.canon (Val := Elt Ideal) (e := .bf16) [⟨Rect.unit (s := ⟨2, ![a, w + w]⟩) ![0, w] ![a, w] inb', y⟩,
      ⟨Rect.unit (s := ⟨2, ![a, w + w]⟩) ![0, 0] ![a, w] inb, x⟩]) fun i j => if j < w then f i j else g i (j - w) := fun i j => by
  have hj := j.isLt
  by_cases h : j.val < w
  · have e : (ix2 i j : (⟨2, ![a, w + w]⟩ : Shape).Idx) = (Rect.unit (s := ⟨2, ![a, w + w]⟩) ![0, 0] ![a, w] inb).emb (ix2 i ⟨j, h⟩ : (⟨2, ![a, w]⟩ : Shape).Idx) := by
      funext k; apply Fin.ext
      match k with
      | ⟨0, _⟩ => show i.val = 0 + 1 * i.val; omega
      | ⟨1, _⟩ => show j.val = 0 + 1 * j.val; omega
    have out : (ix2 i j : (⟨2, ![a, w + w]⟩ : Shape).Idx) ∉ (Rect.unit (s := ⟨2, ![a, w + w]⟩) ![0, w] ![a, w] inb').set := fun hm => by
      have hw : w ≤ j.val := (Rect.mem_set_unit.1 hm (1 : Fin 2)).1
      omega
    exact (View.canon_cons_of_not_mem _ _ out).trans ((congrArg _ e).trans ((View.canon_cons_emb (Val := Elt Ideal) (e := .bf16) (Rect.unit (s := ⟨2, ![a, w + w]⟩) ![0, 0] ![a, w] inb) x []
        (ix2 i ⟨j, h⟩ : (⟨2, ![a, w]⟩ : Shape).Idx)).trans
      ((hx i ⟨j, h⟩).trans (congrArg Real.toEReal (if_pos h).symm))))
  · have e : (ix2 i j : (⟨2, ![a, w + w]⟩ : Shape).Idx) = (Rect.unit (s := ⟨2, ![a, w + w]⟩) ![0, w] ![a, w] inb').emb (ix2 i ⟨j - w, by omega⟩ : (⟨2, ![a, w]⟩ : Shape).Idx) := by
      funext k; apply Fin.ext
      match k with
      | ⟨0, _⟩ => show i.val = 0 + 1 * i.val; omega
      | ⟨1, _⟩ => show j.val = w + 1 * (j.val - w); omega
    exact (congrArg _ e).trans ((View.canon_cons_emb (Val := Elt Ideal) (e := .bf16) (Rect.unit (s := ⟨2, ![a, w + w]⟩) ![0, w] ![a, w] inb') y _
      (ix2 i ⟨j - w, by omega⟩ : (⟨2, ![a, w]⟩ : Shape).Idx)).trans
      ((hy i ⟨j - w, by omega⟩).trans (congrArg Real.toEReal (if_neg h).symm)))

/-! ## The gate -/

theorem sig_is {a b : ℕ} {x : FVec Ideal ⟨2, ![a, b]⟩ .f32} (hx : Is2 x X) :
    Is2 (divf (broadcast ⟨2, ![a, b]⟩ (Scalar.ofBits .f32 0x3F800000#32)) (addf (broadcast ⟨2, ![a, b]⟩ (Scalar.ofBits .f32 0x3F800000#32))
      (exp (subf (broadcast ⟨2, ![a, b]⟩ (Scalar.ofBits .f32 0x00000000#32)) x)))) fun i j => logistic (X i j) :=
  Is2.congr (ones_is.divide (ones_is.add (zeros_is.sub hx).expo) fun i j => by rw [zero_sub]; exact logistic_den _) fun i _ j _ => by
    rw [zero_sub, logistic]

/-- The gated product of the halves of a block's columns. -/
theorem gated_is {x y : FVec Ideal S256x2816 .bf16} (hx : Is2 (a := 256) (b := 2816) x X) (hy : Is2 (a := 256) (b := 2816) y Y) :
    Is2 (a := 256) (b := 2816) (k1_pay1 (F := Ideal) x y) fun i j => X i j * logistic (X i j) * Y i j :=
  Is2.narrow (Is2.mul (Is2.mul (Is2.wide (ψ := .f32) (hx.same shapeCasts_S256x2816_S256x2816) bitsLt_bf16_f32)
    (sig_is (Is2.wide (hx.same shapeCasts_S256x2816_S256x2816) bitsLt_bf16_f32))) (Is2.wide (hy.same shapeCasts_S256x2816_S256x2816) bitsLt_bf16_f32)) bitsLt_bf16_f32

section Back

variable {x y z : FVec Ideal S256x2816 .bf16} {Z : ℕ → ℕ → ℝ} (hx : Is2 (a := 256) (b := 2816) x X) (hy : Is2 (a := 256) (b := 2816) y Y) (hz : Is2 (a := 256) (b := 2816) z Z)

include hx

theorem gate_is : Is2 (a := 256) (b := 2816) (k5_pay1 (F := Ideal) x) X := Is2.wide (hx.same shapeCasts_S256x2816_S256x2816) bitsLt_bf16_f32
theorem cotangent_is : Is2 (a := 256) (b := 2816) (k5_pay2 (F := Ideal) x) X := Is2.wide (hx.same shapeCasts_S256x2816_S256x2816) bitsLt_bf16_f32
theorem sigma_is : Is2 (a := 256) (b := 2816) (k5_pay3 (F := Ideal) x) fun i j => logistic (X i j) := sig_is (gate_is hx)

include hz

/-- The gradient in the gate. -/
theorem dgate_is (hy : Is2 (a := 256) (b := 2816) y Y) :
    Is2 (a := 256) (b := 2816) (k5_pay4 (F := Ideal) x y z) fun i j => Z i j * Y i j * logistic (X i j) * (1 + X i j * (1 - logistic (X i j))) :=
  Is2.narrow (Is2.mul (Is2.mul (Is2.mul (cotangent_is hz) (Is2.wide (hy.same shapeCasts_S256x2816_S256x2816) bitsLt_bf16_f32)) (sigma_is hx))
    (Is2.add ones_is (Is2.mul (gate_is hx) (Is2.sub ones_is (sigma_is hx))))) bitsLt_bf16_f32

/-- The gradient in the value that the gate multiplies. -/
theorem dvalue_is : Is2 (a := 256) (b := 2816) (k5_pay5 (F := Ideal) x z) fun i j => Z i j * X i j * logistic (X i j) :=
  Is2.narrow (Is2.mul (Is2.mul (cotangent_is hz) (gate_is hx)) (sigma_is hx)) bitsLt_bf16_f32

end Back

/-! ## The product that opens the forward pass -/

theorem index0_0 : ∀ (t : Fin cfg0.N) (k : Fin 2), (cfg0.win 0).index t k = (![t.val / 11, 0] : Fin 2 → ℕ) k := by decide +kernel
theorem index0_1 : ∀ (t : Fin cfg0.N) (k : Fin 2), (cfg0.win 1).index t k = (![0, t.val % 11] : Fin 2 → ℕ) k := by decide +kernel
theorem index0_2 : ∀ (t : Fin cfg0.N) (k : Fin 2), (cfg0.win 2).index t k = (![t.val / 11, t.val % 11] : Fin 2 → ℕ) k := by decide +kernel
theorem place0_0 (t : Fin cfg0.N) (x : S2048x1024.Idx) (k : Fin 2) : ((((cfg0.win 0).blk t).view.emb x : S2048x1024.Idx) k).val = (![t.val / 11 * 2048, 0 * 1024] : Fin 2 → ℕ) k + (x k).val :=
  (Pipeline.Window.rect_emb_val (cfg0.win 0) t x k rfl).trans (corner (index0_0 t) k)
theorem place0_1 (t : Fin cfg0.N) (x : S1024x512.Idx) (k : Fin 2) : ((((cfg0.win 1).blk t).view.emb x : S1024x5632.Idx) k).val = (![0 * 1024, t.val % 11 * 512] : Fin 2 → ℕ) k + (x k).val :=
  (Pipeline.Window.rect_emb_val (cfg0.win 1) t x k rfl).trans (corner (index0_1 t) k)
theorem place0_2 (t : Fin cfg0.N) (x : S2048x512.Idx) (k : Fin 2) : ((((cfg0.win 2).blk t).view.emb x : S2048x5632.Idx) k).val = (![t.val / 11 * 2048, t.val % 11 * 512] : Fin 2 → ℕ) k + (x k).val :=
  (Pipeline.Window.rect_emb_val (cfg0.win 2) t x k rfl).trans (corner (index0_2 t) k)
theorem once0 : ∀ t t' : Fin cfg0.N, (cfg0.win 2).index t = (cfg0.win 2).index t' → t = t' := by decide +kernel

theorem gu_is (hX : Is2 (a := 2048) (b := 1024) (V c (Pipeline.arrRef spec0 0)) X) (hY : Is2 (a := 1024) (b := 5632) (V c (Pipeline.arrRef spec0 1)) Y) :
    Is2 (a := 2048) (b := 5632) ((dat0 V c).arrAt 2 cfg0.N) fun i j => ∑ k ∈ range 1024, X i k * Y k j := by
  refine Is2.ofParts 1 11 2048 512 rfl rfl (by decide +kernel) (fun t => ((cfg0.win 2).blk t).view.emb) place0_2 fun t => ?_
  refine Is2.of_eq ((dat0 V c).read_blk_arrAt_eq_flushed 2 (fun t t' _ _ hne => (cfg0.win 2).disjoint_blk fun h => hne (once0 t t' h)) cfg0.N t t.isLt (flush0_2 t)) ?_
  refine Is2.of_eq (show _ = out0_2 (iblk0 V c 0 t) (iblk0 V c 1 t) from ?_) ?_
  · show (cfg0.win 2).cut (grid0.coords t) ((dat0 V c).after 2 t) = _
    rw [after0_2]
    rfl
  · rw [out0_2, View.canon_unit_zero off2, View.ld_unit_zero off2, View.ld_unit_zero off2]
    refine Is2.congr (nn_is (φ := .bf16) (ψ := .bf16) (x := iblk0 V c 0 t) (y := iblk0 V c 1 t) (hX.part _ (place0_0 t)) (hY.part _ (place0_1 t))) fun i _ j _ => ?_
    simp only [Nat.zero_mul, Nat.zero_add]

/-! ## The gated product -/

theorem index1_0 : ∀ (t : Fin cfg1.N) (k : Fin 2), (cfg1.win 0).index t k = (![t.val / 1, 0] : Fin 2 → ℕ) k := by decide +kernel
theorem index1_1 : ∀ (t : Fin cfg1.N) (k : Fin 2), (cfg1.win 1).index t k = (![t.val / 1, t.val % 1] : Fin 2 → ℕ) k := by decide +kernel
theorem place1_0 (t : Fin cfg1.N) (x : S256x5632.Idx) (k : Fin 2) : ((((cfg1.win 0).blk t).view.emb x : S2048x5632.Idx) k).val = (![t.val / 1 * 256, 0 * 5632] : Fin 2 → ℕ) k + (x k).val :=
  (Pipeline.Window.rect_emb_val (cfg1.win 0) t x k rfl).trans (corner (index1_0 t) k)
theorem place1_1 (t : Fin cfg1.N) (x : S256x2816.Idx) (k : Fin 2) : ((((cfg1.win 1).blk t).view.emb x : S2048x2816.Idx) k).val = (![t.val / 1 * 256, t.val % 1 * 2816] : Fin 2 → ℕ) k + (x k).val :=
  (Pipeline.Window.rect_emb_val (cfg1.win 1) t x k rfl).trans (corner (index1_1 t) k)
theorem once1 : ∀ t t' : Fin cfg1.N, (cfg1.win 1).index t = (cfg1.win 1).index t' → t = t' := by decide +kernel

theorem act_is (hX : Is2 (a := 2048) (b := 5632) (V c (Pipeline.arrRef spec1 0)) X) :
    Is2 (a := 2048) (b := 2816) ((dat1 V c).arrAt 1 cfg1.N) fun i j => X i j * logistic (X i j) * X i (2816 + j) := by
  refine Is2.ofParts 8 1 256 2816 rfl rfl (by decide +kernel) (fun t => ((cfg1.win 1).blk t).view.emb) place1_1 fun t => ?_
  refine Is2.of_eq ((dat1 V c).read_blk_arrAt_eq_flushed 1 (fun t t' _ _ hne => (cfg1.win 1).disjoint_blk fun h => hne (once1 t t' h)) cfg1.N t t.isLt (flush1_1 t)) ?_
  refine Is2.of_eq (show _ = out1_1 (iblk1 V c 0 t) from ?_) ?_
  · show (cfg1.win 1).cut (grid1.coords t) ((dat1 V c).after 1 t) = _
    rw [after1_1]
    rfl
  · rw [out1_1, View.canon_unit_zero off2]
    have hb := hX.part (a := 256) (b := 5632) _ (place1_0 t)
    refine Is2.congr (gated_is (Is2.load hb inb_S256x5632_S256x2816_0_0) (Is2.load hb inb_S256x5632_S256x2816_0_2816)) fun i _ j _ => ?_
    simp only [Nat.zero_mul, Nat.zero_add, Nat.mod_one]

/-! ## The product that closes the forward pass -/

theorem index2_0 : ∀ (t : Fin cfg2.N) (k : Fin 2), (cfg2.win 0).index t k = (![t.val / 2, 0] : Fin 2 → ℕ) k := by decide +kernel
theorem index2_1 : ∀ (t : Fin cfg2.N) (k : Fin 2), (cfg2.win 1).index t k = (![0, t.val % 2] : Fin 2 → ℕ) k := by decide +kernel
theorem index2_2 : ∀ (t : Fin cfg2.N) (k : Fin 2), (cfg2.win 2).index t k = (![t.val / 2, t.val % 2] : Fin 2 → ℕ) k := by decide +kernel
theorem place2_0 (t : Fin cfg2.N) (x : S1024x2816.Idx) (k : Fin 2) : ((((cfg2.win 0).blk t).view.emb x : S2048x2816.Idx) k).val = (![t.val / 2 * 1024, 0 * 2816] : Fin 2 → ℕ) k + (x k).val :=
  (Pipeline.Window.rect_emb_val (cfg2.win 0) t x k rfl).trans (corner (index2_0 t) k)
theorem place2_1 (t : Fin cfg2.N) (x : S2816x512.Idx) (k : Fin 2) : ((((cfg2.win 1).blk t).view.emb x : S2816x1024.Idx) k).val = (![0 * 2816, t.val % 2 * 512] : Fin 2 → ℕ) k + (x k).val :=
  (Pipeline.Window.rect_emb_val (cfg2.win 1) t x k rfl).trans (corner (index2_1 t) k)
theorem place2_2 (t : Fin cfg2.N) (x : S1024x512.Idx) (k : Fin 2) : ((((cfg2.win 2).blk t).view.emb x : S2048x1024.Idx) k).val = (![t.val / 2 * 1024, t.val % 2 * 512] : Fin 2 → ℕ) k + (x k).val :=
  (Pipeline.Window.rect_emb_val (cfg2.win 2) t x k rfl).trans (corner (index2_2 t) k)
theorem once2 : ∀ t t' : Fin cfg2.N, (cfg2.win 2).index t = (cfg2.win 2).index t' → t = t' := by decide +kernel

theorem down_is (hX : Is2 (a := 2048) (b := 2816) (V c (Pipeline.arrRef spec2 0)) X) (hY : Is2 (a := 2816) (b := 1024) (V c (Pipeline.arrRef spec2 1)) Y) :
    Is2 (a := 2048) (b := 1024) ((dat2 V c).arrAt 2 cfg2.N) fun i j => ∑ k ∈ range 2816, X i k * Y k j := by
  refine Is2.ofParts 2 2 1024 512 rfl rfl (by decide +kernel) (fun t => ((cfg2.win 2).blk t).view.emb) place2_2 fun t => ?_
  refine Is2.of_eq ((dat2 V c).read_blk_arrAt_eq_flushed 2 (fun t t' _ _ hne => (cfg2.win 2).disjoint_blk fun h => hne (once2 t t' h)) cfg2.N t t.isLt (flush2_2 t)) ?_
  refine Is2.of_eq (show _ = out2_2 (iblk2 V c 0 t) (iblk2 V c 1 t) from ?_) ?_
  · show (cfg2.win 2).cut (grid2.coords t) ((dat2 V c).after 2 t) = _
    rw [after2_2]
    rfl
  · rw [out2_2, View.canon_unit_zero off2, View.ld_unit_zero off2, View.ld_unit_zero off2]
    refine Is2.congr (nn_is (φ := .bf16) (ψ := .bf16) (x := shapeCast _ (iblk2 V c 0 t) shapeCasts_S1024x2816_S1024x2816) (y := iblk2 V c 1 t) ((hX.part _ (place2_0 t)).same shapeCasts_S1024x2816_S1024x2816) (hY.part _ (place2_1 t))) fun i _ j _ => ?_
    simp only [Nat.zero_mul, Nat.zero_add]

/-! ## The cotangent of the gated product -/

theorem index3_0 : ∀ (t : Fin cfg3.N) (k : Fin 2), (cfg3.win 0).index t k = (![t.val / 11, 0] : Fin 2 → ℕ) k := by decide +kernel
theorem index3_1 : ∀ (t : Fin cfg3.N) (k : Fin 2), (cfg3.win 1).index t k = (![t.val % 11, 0] : Fin 2 → ℕ) k := by decide +kernel
theorem index3_2 : ∀ (t : Fin cfg3.N) (k : Fin 2), (cfg3.win 2).index t k = (![t.val / 11, t.val % 11] : Fin 2 → ℕ) k := by decide +kernel
theorem place3_0 (t : Fin cfg3.N) (x : S2048x1024.Idx) (k : Fin 2) : ((((cfg3.win 0).blk t).view.emb x : S2048x1024.Idx) k).val = (![t.val / 11 * 2048, 0 * 1024] : Fin 2 → ℕ) k + (x k).val :=
  (Pipeline.Window.rect_emb_val (cfg3.win 0) t x k rfl).trans (corner (index3_0 t) k)
theorem place3_1 (t : Fin cfg3.N) (x : S256x1024.Idx) (k : Fin 2) : ((((cfg3.win 1).blk t).view.emb x : S2816x1024.Idx) k).val = (![t.val % 11 * 256, 0 * 1024] : Fin 2 → ℕ) k + (x k).val :=
  (Pipeline.Window.rect_emb_val (cfg3.win 1) t x k rfl).trans (corner (index3_1 t) k)
theorem place3_2 (t : Fin cfg3.N) (x : S2048x256.Idx) (k : Fin 2) : ((((cfg3.win 2).blk t).view.emb x : S2048x2816.Idx) k).val = (![t.val / 11 * 2048, t.val % 11 * 256] : Fin 2 → ℕ) k + (x k).val :=
  (Pipeline.Window.rect_emb_val (cfg3.win 2) t x k rfl).trans (corner (index3_2 t) k)
theorem once3 : ∀ t t' : Fin cfg3.N, (cfg3.win 2).index t = (cfg3.win 2).index t' → t = t' := by decide +kernel

theorem dact_is (hX : Is2 (a := 2048) (b := 1024) (V c (Pipeline.arrRef spec3 0)) X) (hY : Is2 (a := 2816) (b := 1024) (V c (Pipeline.arrRef spec3 1)) Y) :
    Is2 (a := 2048) (b := 2816) ((dat3 V c).arrAt 2 cfg3.N) fun i j => ∑ k ∈ range 1024, X i k * Y j k := by
  refine Is2.ofParts 1 11 2048 256 rfl rfl (by decide +kernel) (fun t => ((cfg3.win 2).blk t).view.emb) place3_2 fun t => ?_
  refine Is2.of_eq ((dat3 V c).read_blk_arrAt_eq_flushed 2 (fun t t' _ _ hne => (cfg3.win 2).disjoint_blk fun h => hne (once3 t t' h)) cfg3.N t t.isLt (flush3_2 t)) ?_
  refine Is2.of_eq (show _ = out3_2 (iblk3 V c 0 t) (iblk3 V c 1 t) from ?_) ?_
  · show (cfg3.win 2).cut (grid3.coords t) ((dat3 V c).after 2 t) = _
    rw [after3_2]
    rfl
  · rw [out3_2, View.canon_unit_zero off2, View.ld_unit_zero off2, View.ld_unit_zero off2]
    refine Is2.congr (nt_is (φ := .bf16) (ψ := .bf16) (x := iblk3 V c 0 t) (y := iblk3 V c 1 t) (hX.part _ (place3_0 t)) (hY.part _ (place3_1 t))) fun i _ j _ => ?_
    simp only [Nat.zero_mul, Nat.zero_add]

/-! ## The gradient of the last weights -/

theorem index4_0 : ∀ (t : Fin cfg4.N) (k : Fin 2), (cfg4.win 0).index t k = (![0, t.val / 1] : Fin 2 → ℕ) k := by decide +kernel
theorem index4_1 : ∀ (t : Fin cfg4.N) (k : Fin 2), (cfg4.win 1).index t k = (![0, t.val % 1] : Fin 2 → ℕ) k := by decide +kernel
theorem index4_2 : ∀ (t : Fin cfg4.N) (k : Fin 2), (cfg4.win 2).index t k = (![t.val / 1, t.val % 1] : Fin 2 → ℕ) k := by decide +kernel
theorem place4_0 (t : Fin cfg4.N) (x : S2048x256.Idx) (k : Fin 2) : ((((cfg4.win 0).blk t).view.emb x : S2048x2816.Idx) k).val = (![0 * 2048, t.val / 1 * 256] : Fin 2 → ℕ) k + (x k).val :=
  (Pipeline.Window.rect_emb_val (cfg4.win 0) t x k rfl).trans (corner (index4_0 t) k)
theorem place4_1 (t : Fin cfg4.N) (x : S2048x1024.Idx) (k : Fin 2) : ((((cfg4.win 1).blk t).view.emb x : S2048x1024.Idx) k).val = (![0 * 2048, t.val % 1 * 1024] : Fin 2 → ℕ) k + (x k).val :=
  (Pipeline.Window.rect_emb_val (cfg4.win 1) t x k rfl).trans (corner (index4_1 t) k)
theorem place4_2 (t : Fin cfg4.N) (x : S256x1024.Idx) (k : Fin 2) : ((((cfg4.win 2).blk t).view.emb x : S2816x1024.Idx) k).val = (![t.val / 1 * 256, t.val % 1 * 1024] : Fin 2 → ℕ) k + (x k).val :=
  (Pipeline.Window.rect_emb_val (cfg4.win 2) t x k rfl).trans (corner (index4_2 t) k)
theorem once4 : ∀ t t' : Fin cfg4.N, (cfg4.win 2).index t = (cfg4.win 2).index t' → t = t' := by decide +kernel

theorem dwDown_is (hX : Is2 (a := 2048) (b := 2816) (V c (Pipeline.arrRef spec4 0)) X) (hY : Is2 (a := 2048) (b := 1024) (V c (Pipeline.arrRef spec4 1)) Y) :
    Is2 (a := 2816) (b := 1024) ((dat4 V c).arrAt 2 cfg4.N) fun i j => ∑ k ∈ range 2048, X k i * Y k j := by
  refine Is2.ofParts 11 1 256 1024 rfl rfl (by decide +kernel) (fun t => ((cfg4.win 2).blk t).view.emb) place4_2 fun t => ?_
  refine Is2.of_eq ((dat4 V c).read_blk_arrAt_eq_flushed 2 (fun t t' _ _ hne => (cfg4.win 2).disjoint_blk fun h => hne (once4 t t' h)) cfg4.N t t.isLt (flush4_2 t)) ?_
  refine Is2.of_eq (show _ = out4_2 (iblk4 V c 0 t) (iblk4 V c 1 t) from ?_) ?_
  · show (cfg4.win 2).cut (grid4.coords t) ((dat4 V c).after 2 t) = _
    rw [after4_2]
    rfl
  · rw [out4_2, View.canon_unit_zero off2, View.ld_unit_zero off2, View.ld_unit_zero off2]
    refine Is2.congr (tn_is (φ := .bf16) (ψ := .bf16) (x := shapeCast _ (iblk4 V c 0 t) shapeCasts_S2048x256_S2048x256) (y := iblk4 V c 1 t) ((hX.part _ (place4_0 t)).same shapeCasts_S2048x256_S2048x256) (hY.part _ (place4_1 t))) fun i _ j _ => ?_
    simp only [Nat.zero_mul, Nat.zero_add]

/-! ## The cotangent of the first product -/

theorem index5_0 : ∀ (t : Fin cfg5.N) (k : Fin 2), (cfg5.win 0).index t k = (![t.val / 1, 0] : Fin 2 → ℕ) k := by decide +kernel
theorem index5_1 : ∀ (t : Fin cfg5.N) (k : Fin 2), (cfg5.win 1).index t k = (![t.val / 1, 0] : Fin 2 → ℕ) k := by decide +kernel
theorem index5_2 : ∀ (t : Fin cfg5.N) (k : Fin 2), (cfg5.win 2).index t k = (![t.val / 1, t.val % 1] : Fin 2 → ℕ) k := by decide +kernel
theorem place5_0 (t : Fin cfg5.N) (x : S256x5632.Idx) (k : Fin 2) : ((((cfg5.win 0).blk t).view.emb x : S2048x5632.Idx) k).val = (![t.val / 1 * 256, 0 * 5632] : Fin 2 → ℕ) k + (x k).val :=
  (Pipeline.Window.rect_emb_val (cfg5.win 0) t x k rfl).trans (corner (index5_0 t) k)
theorem place5_1 (t : Fin cfg5.N) (x : S256x2816.Idx) (k : Fin 2) : ((((cfg5.win 1).blk t).view.emb x : S2048x2816.Idx) k).val = (![t.val / 1 * 256, 0 * 2816] : Fin 2 → ℕ) k + (x k).val :=
  (Pipeline.Window.rect_emb_val (cfg5.win 1) t x k rfl).trans (corner (index5_1 t) k)
theorem place5_2 (t : Fin cfg5.N) (x : S256x5632.Idx) (k : Fin 2) : ((((cfg5.win 2).blk t).view.emb x : S2048x5632.Idx) k).val = (![t.val / 1 * 256, t.val % 1 * 5632] : Fin 2 → ℕ) k + (x k).val :=
  (Pipeline.Window.rect_emb_val (cfg5.win 2) t x k rfl).trans (corner (index5_2 t) k)
theorem once5 : ∀ t t' : Fin cfg5.N, (cfg5.win 2).index t = (cfg5.win 2).index t' → t = t' := by decide +kernel

theorem dgu_is (hX : Is2 (a := 2048) (b := 5632) (V c (Pipeline.arrRef spec5 0)) X) (hY : Is2 (a := 2048) (b := 2816) (V c (Pipeline.arrRef spec5 1)) Y) :
    Is2 (a := 2048) (b := 5632) ((dat5 V c).arrAt 2 cfg5.N) fun i j => if j < 2816 then Y i j * X i (2816 + j) * logistic (X i j) * (1 + X i j * (1 - logistic (X i j)))
      else Y i (j - 2816) * X i (j - 2816) * logistic (X i (j - 2816)) := by
  refine Is2.ofParts 8 1 256 5632 rfl rfl (by decide +kernel) (fun t => ((cfg5.win 2).blk t).view.emb) place5_2 fun t => ?_
  refine Is2.of_eq ((dat5 V c).read_blk_arrAt_eq_flushed 2 (fun t t' _ _ hne => (cfg5.win 2).disjoint_blk fun h => hne (once5 t t' h)) cfg5.N t t.isLt (flush5_2 t)) ?_
  refine Is2.of_eq (show _ = out5_2 (iblk5 V c 0 t) (iblk5 V c 1 t) from ?_) ?_
  · show (cfg5.win 2).cut (grid5.coords t) ((dat5 V c).after 2 t) = _
    rw [after5_2]
    rfl
  · rw [out5_2, View.ld_unit_zero off2]
    have hb := hX.part (a := 256) (b := 5632) _ (place5_0 t)
    have hc := hY.part (a := 256) (b := 2816) _ (place5_1 t)
    have hg := Is2.load hb inb_S256x5632_S256x2816_0_0
    refine Is2.congr (Is2.stores (a := 256) (w := 2816) (dgate_is hg hc (Is2.load hb inb_S256x5632_S256x2816_0_2816)) (dvalue_is hg hc)
      inb_S256x5632_S256x2816_0_0 inb_S256x5632_S256x2816_0_2816) fun i _ j _ => ?_
    simp only [Nat.zero_mul, Nat.zero_add, Nat.mod_one]

/-! ## The cotangent of the input -/

theorem index6_0 : ∀ (t : Fin cfg6.N) (k : Fin 2), (cfg6.win 0).index t k = (![t.val / 2, 0] : Fin 2 → ℕ) k := by decide +kernel
theorem index6_1 : ∀ (t : Fin cfg6.N) (k : Fin 2), (cfg6.win 1).index t k = (![t.val % 2, 0] : Fin 2 → ℕ) k := by decide +kernel
theorem index6_2 : ∀ (t : Fin cfg6.N) (k : Fin 2), (cfg6.win 2).index t k = (![t.val / 2, t.val % 2] : Fin 2 → ℕ) k := by decide +kernel
theorem place6_0 (t : Fin cfg6.N) (x : S512x5632.Idx) (k : Fin 2) : ((((cfg6.win 0).blk t).view.emb x : S2048x5632.Idx) k).val = (![t.val / 2 * 512, 0 * 5632] : Fin 2 → ℕ) k + (x k).val :=
  (Pipeline.Window.rect_emb_val (cfg6.win 0) t x k rfl).trans (corner (index6_0 t) k)
theorem place6_1 (t : Fin cfg6.N) (x : S512x5632.Idx) (k : Fin 2) : ((((cfg6.win 1).blk t).view.emb x : S1024x5632.Idx) k).val = (![t.val % 2 * 512, 0 * 5632] : Fin 2 → ℕ) k + (x k).val :=
  (Pipeline.Window.rect_emb_val (cfg6.win 1) t x k rfl).trans (corner (index6_1 t) k)
theorem place6_2 (t : Fin cfg6.N) (x : S512x512.Idx) (k : Fin 2) : ((((cfg6.win 2).blk t).view.emb x : S2048x1024.Idx) k).val = (![t.val / 2 * 512, t.val % 2 * 512] : Fin 2 → ℕ) k + (x k).val :=
  (Pipeline.Window.rect_emb_val (cfg6.win 2) t x k rfl).trans (corner (index6_2 t) k)
theorem once6 : ∀ t t' : Fin cfg6.N, (cfg6.win 2).index t = (cfg6.win 2).index t' → t = t' := by decide +kernel

theorem dh_is (hX : Is2 (a := 2048) (b := 5632) (V c (Pipeline.arrRef spec6 0)) X) (hY : Is2 (a := 1024) (b := 5632) (V c (Pipeline.arrRef spec6 1)) Y) :
    Is2 (a := 2048) (b := 1024) ((dat6 V c).arrAt 2 cfg6.N) fun i j => ∑ k ∈ range 5632, X i k * Y j k := by
  refine Is2.ofParts 4 2 512 512 rfl rfl (by decide +kernel) (fun t => ((cfg6.win 2).blk t).view.emb) place6_2 fun t => ?_
  refine Is2.of_eq ((dat6 V c).read_blk_arrAt_eq_flushed 2 (fun t t' _ _ hne => (cfg6.win 2).disjoint_blk fun h => hne (once6 t t' h)) cfg6.N t t.isLt (flush6_2 t)) ?_
  refine Is2.of_eq (show _ = out6_2 (iblk6 V c 0 t) (iblk6 V c 1 t) from ?_) ?_
  · show (cfg6.win 2).cut (grid6.coords t) ((dat6 V c).after 2 t) = _
    rw [after6_2]
    rfl
  · rw [out6_2, View.canon_unit_zero off2, View.ld_unit_zero off2, View.ld_unit_zero off2]
    refine Is2.congr (nt_is (φ := .bf16) (ψ := .bf16) (x := shapeCast _ (iblk6 V c 0 t) shapeCasts_S512x5632_S512x5632) (y := iblk6 V c 1 t) ((hX.part _ (place6_0 t)).same shapeCasts_S512x5632_S512x5632) (hY.part _ (place6_1 t))) fun i _ j _ => ?_
    simp only [Nat.zero_mul, Nat.zero_add]

/-! ## The gradient of the first weights -/

theorem index7_0 : ∀ (t : Fin cfg7.N) (k : Fin 2), (cfg7.win 0).index t k = (![0, t.val / 4] : Fin 2 → ℕ) k := by decide +kernel
theorem index7_1 : ∀ (t : Fin cfg7.N) (k : Fin 2), (cfg7.win 1).index t k = (![0, t.val % 4] : Fin 2 → ℕ) k := by decide +kernel
theorem index7_2 : ∀ (t : Fin cfg7.N) (k : Fin 4), (cfg7.win 2).index t k = (![t.val % 4, t.val / 4, 0, 0] : Fin 4 → ℕ) k := by decide +kernel
theorem place7_0 (t : Fin cfg7.N) (x : S2048x512.Idx) (k : Fin 2) : ((((cfg7.win 0).blk t).view.emb x : S2048x1024.Idx) k).val = (![0 * 2048, t.val / 4 * 512] : Fin 2 → ℕ) k + (x k).val :=
  (Pipeline.Window.rect_emb_val (cfg7.win 0) t x k rfl).trans (corner (index7_0 t) k)
theorem place7_1 (t : Fin cfg7.N) (x : S2048x1408.Idx) (k : Fin 2) : ((((cfg7.win 1).blk t).view.emb x : S2048x5632.Idx) k).val = (![0 * 2048, t.val % 4 * 1408] : Fin 2 → ℕ) k + (x k).val :=
  (Pipeline.Window.rect_emb_val (cfg7.win 1) t x k rfl).trans (corner (index7_1 t) k)
theorem place7_2 (t : Fin cfg7.N) (x : S1x1x512x1408.Idx) (k : Fin 4) : ((((cfg7.win 2).blk t).view.emb x : S4x2x512x1408.Idx) k).val = (![t.val % 4, t.val / 4, 0, 0] : Fin 4 → ℕ) k + (x k).val := by
  refine (Pipeline.Window.rect_emb_val (cfg7.win 2) t x k rfl).trans ?_
  rw [index7_2 t k]
  match k with
  | ⟨0, _⟩ => show t.val % 4 * 1 + _ = t.val % 4 + _; rw [Nat.mul_one]
  | ⟨1, _⟩ => show t.val / 4 * 1 + _ = t.val / 4 + _; rw [Nat.mul_one]
  | ⟨2, _⟩ => show 0 * 512 + _ = 0 + _; rw [Nat.zero_mul]
  | ⟨3, _⟩ => show 0 * 1408 + _ = 0 + _; rw [Nat.zero_mul]
theorem once7 : ∀ t t' : Fin cfg7.N, (cfg7.win 2).index t = (cfg7.win 2).index t' → t = t' := by decide +kernel

theorem dwGu_is (hX : Is2 (a := 2048) (b := 1024) (V c (Pipeline.arrRef spec7 0)) X) (hY : Is2 (a := 2048) (b := 5632) (V c (Pipeline.arrRef spec7 1)) Y) :
    Is4 (a := 4) (b := 2) (c := 512) (d := 1408) ((dat7 V c).arrAt 2 cfg7.N) fun j i r s => ∑ k ∈ range 2048, X k (i * 512 + r) * Y k (j * 1408 + s) := by
  refine Is4.ofParts 2 4 512 1408 (by decide +kernel) (fun t => ((cfg7.win 2).blk t).view.emb) place7_2 fun t => ?_
  refine Is4.of_eq ((dat7 V c).read_blk_arrAt_eq_flushed 2 (fun t t' _ _ hne => (cfg7.win 2).disjoint_blk fun h => hne (once7 t t' h)) cfg7.N t t.isLt (flush7_2 t)) ?_
  refine Is4.of_eq (show _ = out7_2 (iblk7 V c 0 t) (iblk7 V c 1 t) from ?_) ?_
  · show (cfg7.win 2).cut (grid7.coords t) ((dat7 V c).after 2 t) = _
    rw [after7_2]
    rfl
  · rw [out7_2, View.canon_unit_zero off4, View.ld_unit_zero off2, View.ld_unit_zero off2]
    have h := tn_is (φ := .bf16) (ψ := .bf16) (h'' := dot_S2048x512_S2048x1408_S512x1408_0_0_1_1_n_n_wf) (x := iblk7 V c 0 t)
      (y := shapeCast _ (iblk7 V c 1 t) shapeCasts_S2048x1408_S2048x1408) (hX.part _ (place7_0 t)) ((hY.part _ (place7_1 t)).same shapeCasts_S2048x1408_S2048x1408)
    refine Is2.lift (Is2.narrow (ψ := .bf16) (Is2.congr h fun r _ s _ => ?_) bitsLt_bf16_f32) shapeCasts_S512x1408_S1x1x512x1408
    simp only [Nat.zero_mul, Nat.zero_add]

end Ffn.Ker

end
-- ==== Proof.FfnKerValue.lean ====
/- The feed-forward program's four results, when its arguments hold real numbers: each call's result from the calls before it. -/
module

public import proofs.«01_k».proof.Proof.FfnBlocks

@[expose] public section

noncomputable section

namespace Ffn.Ker

open Idealize.ShloMosaic Idealize.ShloMosaic.TcCoe Idealize.ShloMosaic.ValueIdx Cert.FfnKernelIdeal Cert.FfnKernelIdeal.Gen Fox Finset

/-- The arguments hold real numbers. -/
structure Given (m : (ℓ : Loc nD τ sig) → Buf (Elt Ideal) ℓ) (c : Dev nD) (H G W D : ℕ → ℕ → ℝ) : Prop where
  h : Is2 (a := 2048) (b := 1024) (m ((c.tc : Thread nD τ).loc main_arg0)) H
  g : Is2 (a := 1024) (b := 5632) (m ((c.tc : Thread nD τ).loc main_arg1)) G
  w : Is2 (a := 2816) (b := 1024) (m ((c.tc : Thread nD τ).loc main_arg2)) W
  d : Is2 (a := 2048) (b := 1024) (m ((c.tc : Thread nD τ).loc main_arg3)) D

variable {m : (ℓ : Loc nD τ sig) → Buf (Elt Ideal) ℓ} {c : Dev nD} {H G W D : ℕ → ℕ → ℝ} (A : Given m c H G W D) (ρ : Dev nD → PrngReg)

include A

theorem first1 : Is2 (a := 2048) (b := 5632) (W1 m ρ c (Proc.devRef .tc main_v0)) (pre H G) :=
  .of_eq (W1_arr m ρ c 2) (gu_is (V0 m ρ) c A.h A.g)

theorem first5 : Is2 (a := 2048) (b := 5632) (W5 m ρ c (Proc.devRef .tc main_v0)) (pre H G) :=
  .of_eq (W5_of m ρ c main_v0 (by decide)) <| .of_eq (W4_of m ρ c main_v0 (by decide)) <| .of_eq (W3_of m ρ c main_v0 (by decide)) <|
    .of_eq (W2_of m ρ c main_v0 (by decide)) (first1 A ρ)

theorem act2 : Is2 (a := 2048) (b := 2816) (W2 m ρ c (Proc.devRef .tc main_v1)) (act H G) :=
  .of_eq (W2_arr m ρ c 1) (act_is (V1 m ρ) c (first1 A ρ))

theorem act4 : Is2 (a := 2048) (b := 2816) (W4 m ρ c (Proc.devRef .tc main_v1)) (act H G) :=
  .of_eq (W4_of m ρ c main_v1 (by decide)) <| .of_eq (W3_of m ρ c main_v1 (by decide)) (act2 A ρ)

theorem out3 : Is2 (a := 2048) (b := 1024) (W3 m ρ c (Proc.devRef .tc main_v2)) (out H G W) :=
  .of_eq (W3_arr m ρ c 2) (down_is (V2 m ρ) c (act2 A ρ) (.of_eq (W2_args m ρ c main_arg2 (by decide)) A.w))

theorem dact4 : Is2 (a := 2048) (b := 2816) (W4 m ρ c (Proc.devRef .tc main_v3)) (dact W D) :=
  .of_eq (W4_arr m ρ c 2) (dact_is (V3 m ρ) c (.of_eq (W3_args m ρ c main_arg3 (by decide)) A.d) (.of_eq (W3_args m ρ c main_arg2 (by decide)) A.w))

theorem dlast5 : Is2 (a := 2816) (b := 1024) (W5 m ρ c (Proc.devRef .tc main_v4)) (dlast H G D) :=
  .of_eq (W5_arr m ρ c 2) (dwDown_is (V4 m ρ) c (act4 A ρ) (.of_eq (W4_args m ρ c main_arg3 (by decide)) A.d))

theorem dpre6 : Is2 (a := 2048) (b := 5632) (W6 m ρ c (Proc.devRef .tc main_v5)) (dpre H G W D) :=
  .of_eq (W6_arr m ρ c 2) (dgu_is (V5 m ρ) c (first5 A ρ) (.of_eq (W5_of m ρ c main_v3 (by decide)) (dact4 A ρ)))

theorem dinput7 : Is2 (a := 2048) (b := 1024) (W7 m ρ c (Proc.devRef .tc main_v6)) (dinput H G W D) :=
  .of_eq (W7_arr m ρ c 2) (dh_is (V6 m ρ) c (dpre6 A ρ) (.of_eq (W6_args m ρ c main_arg1 (by decide)) A.g))

/-! ## The results, at the end of the run -/

theorem out_is : Is2 (a := 2048) (b := 1024) (W8 m ρ c (Proc.devRef .tc main_v2)) (out H G W) :=
  .of_eq (W8_of m ρ c main_v2 (by decide)) <| .of_eq (W7_of m ρ c main_v2 (by decide)) <| .of_eq (W6_of m ρ c main_v2 (by decide)) <|
    .of_eq (W5_of m ρ c main_v2 (by decide)) <| .of_eq (W4_of m ρ c main_v2 (by decide)) (out3 A ρ)

theorem dinput_is : Is2 (a := 2048) (b := 1024) (W8 m ρ c (Proc.devRef .tc main_v6)) (dinput H G W D) :=
  .of_eq (W8_of m ρ c main_v6 (by decide)) (dinput7 A ρ)

theorem dlast_is : Is2 (a := 2816) (b := 1024) (W8 m ρ c (Proc.devRef .tc main_v4)) (dlast H G D) :=
  .of_eq (W8_of m ρ c main_v4 (by decide)) <| .of_eq (W7_of m ρ c main_v4 (by decide)) <| .of_eq (W6_of m ρ c main_v4 (by decide)) (dlast5 A ρ)

theorem dfirst_is : Is4 (a := 4) (b := 2) (c := 512) (d := 1408) (W8 m ρ c (Proc.devRef .tc main_v7)) fun j i r s => dfirst H G W D (i * 512 + r) (j * 1408 + s) :=
  .of_eq (W8_arr m ρ c 2) (dwGu_is (V7 m ρ) c (.of_eq (W7_args m ρ c main_arg0 (by decide)) A.h)
    (.of_eq (W7_of m ρ c main_v5 (by decide)) (dpre6 A ρ)))

end Ffn.Ker

end
-- ==== Proof.FfnRefLine.lean ====
/- The feed-forward reference's host program as a line of operations, its run, and the equation of every buffer. -/
module

public import proofs.«01_k».proof.Proof.Gen.FfnReferenceIdeal
public import proofs.«01_k».proof.Proof.Line
public import Idealize.ShloMosaic.Lib.StableHlo.Run
public import Idealize.ShloMosaic.Lib.Pipeline.Regions

@[expose] public section

noncomputable section

namespace Ffn.Ref

open Cert.FfnReferenceIdeal Cert.FfnReferenceIdeal.Gen Idealize.ShloMosaic Idealize.ShloMosaic.TcCoe Idealize.SL.Sem Idealize.ShloMosaic.StableHlo Fox

variable {F : FTy → Type} [FloatOps F]

/-! The operations between one call and the next, and each call's. -/

abbrev ops0 : List (HloOp τ sig (Elt F)) :=
  [ unary main_arg0 main_v0 ((extf .f32 · bitsLt_bf16_f32) : Arr F S2048x1024 .bf16 → Arr F S2048x1024 .f32),
    unary main_arg1 main_v1 ((extf .f32 · bitsLt_bf16_f32) : Arr F S1024x5632 .bf16 → Arr F S1024x5632 .f32),
    unary main_arg2 main_v2 ((extf .f32 · bitsLt_bf16_f32) : Arr F S2816x1024 .bf16 → Arr F S2816x1024 .f32),
    unary main_arg3 main_v3 ((extf .f32 · bitsLt_bf16_f32) : Arr F S2048x1024 .bf16 → Arr F S2048x1024 .f32),
    binary main_v0 main_v1 main_v4 ((fun l r => Host.dotGeneral dot_S2048x1024_S1024x5632_S2048x5632_1_0_0_1_n_n none l r) : Arr F S2048x1024 .f32 → Arr F S1024x5632 .f32 → Arr F S2048x5632 .f32),
    unary main_v4 main_v5 ((extractStridedSlice S2048x2816 ![0, 0] · slices_S2048x5632_S2048x2816_0_0) : Arr F S2048x5632 .f32 → Arr F S2048x2816 .f32),
    unary main_v4 main_v6 ((extractStridedSlice S2048x2816 ![0, 2816] · slices_S2048x5632_S2048x2816_0_2816) : Arr F S2048x5632 .f32 → Arr F S2048x2816 .f32) ]

abbrev ops1 : List (HloOp τ sig (Elt F)) :=
  [ unary main_v5 main_call0_v0 (Host.negf : Arr F S2048x2816 .f32 → Arr F S2048x2816 .f32),
    unary main_call0_v0 main_call0_v1 (Host.exp : Arr F S2048x2816 .f32 → Arr F S2048x2816 .f32),
    nullary main_call0_cst ((constant S_ .f32 0x3F800000#32) : Arr F S_ .f32),
    unary main_call0_cst main_call0_v2 ((broadcastInDim S2048x2816 ![] bcast_S_S2048x2816) : Arr F S_ .f32 → Arr F S2048x2816 .f32),
    binary main_call0_v2 main_call0_v1 main_call0_v3 (addf : Arr F S2048x2816 .f32 → Arr F S2048x2816 .f32 → Arr F S2048x2816 .f32),
    nullary main_call0_cst_0 ((constant S_ .f32 0x3F800000#32) : Arr F S_ .f32),
    unary main_call0_cst_0 main_call0_v4 ((broadcastInDim S2048x2816 ![] bcast_S_S2048x2816) : Arr F S_ .f32 → Arr F S2048x2816 .f32),
    binary main_call0_v4 main_call0_v3 main_v7_2 (Host.divf : Arr F S2048x2816 .f32 → Arr F S2048x2816 .f32 → Arr F S2048x2816 .f32),
    nullary main_call0_cst_1 ((constant S_ .f32 0x3F800000#32) : Arr F S_ .f32),
    unary main_call0_cst_1 main_call0_v6 ((broadcastInDim S2048x2816 ![] bcast_S_S2048x2816) : Arr F S_ .f32 → Arr F S2048x2816 .f32),
    binary main_call0_v6 main_v7_2 main_call0_v7 (subf : Arr F S2048x2816 .f32 → Arr F S2048x2816 .f32 → Arr F S2048x2816 .f32),
    binary main_v7_2 main_call0_v7 main_v7_1 (mulf : Arr F S2048x2816 .f32 → Arr F S2048x2816 .f32 → Arr F S2048x2816 .f32),
    binary main_v5 main_v7_2 main_v7_0 (mulf : Arr F S2048x2816 .f32 → Arr F S2048x2816 .f32 → Arr F S2048x2816 .f32) ]

abbrev ops2 : List (HloOp τ sig (Elt F)) :=
  [ binary main_v7_0 main_v6 main_v8 (mulf : Arr F S2048x2816 .f32 → Arr F S2048x2816 .f32 → Arr F S2048x2816 .f32),
    binary main_v8 main_v2 main_v9 ((fun l r => Host.dotGeneral dot_S2048x2816_S2816x1024_S2048x1024_1_0_0_1_n_n none l r) : Arr F S2048x2816 .f32 → Arr F S2816x1024 .f32 → Arr F S2048x1024 .f32),
    binary main_v3 main_v8 main_v10 ((fun l r => Host.dotGeneral dot_S2048x1024_S2048x2816_S1024x2816_0_0_1_1_n_n none l r) : Arr F S2048x1024 .f32 → Arr F S2048x2816 .f32 → Arr F S1024x2816 .f32),
    unary main_v10 main_v11 ((transpose S2816x1024 [1, 0] · transposes_S1024x2816_S2816x1024_1_0) : Arr F S1024x2816 .f32 → Arr F S2816x1024 .f32),
    binary main_v3 main_v2 main_v12 ((fun l r => Host.dotGeneral dot_S2048x1024_S2816x1024_S2048x2816_1_1_0_0_n_n none l r) : Arr F S2048x1024 .f32 → Arr F S2816x1024 .f32 → Arr F S2048x2816 .f32),
    binary main_v7_0 main_v12 main_v13 (mulf : Arr F S2048x2816 .f32 → Arr F S2048x2816 .f32 → Arr F S2048x2816 .f32),
    binary main_v12 main_v6 main_v14 (mulf : Arr F S2048x2816 .f32 → Arr F S2048x2816 .f32 → Arr F S2048x2816 .f32) ]

abbrev ops3 : List (HloOp τ sig (Elt F)) :=
  [ binary main_v5 main_v14 main_call1_v0 (mulf : Arr F S2048x2816 .f32 → Arr F S2048x2816 .f32 → Arr F S2048x2816 .f32),
    binary main_v14 main_v7_2 main_call1_v1 (mulf : Arr F S2048x2816 .f32 → Arr F S2048x2816 .f32 → Arr F S2048x2816 .f32),
    binary main_call1_v0 main_v7_1 main_call1_v2 (mulf : Arr F S2048x2816 .f32 → Arr F S2048x2816 .f32 → Arr F S2048x2816 .f32),
    binary main_call1_v1 main_call1_v2 main_v15 (addf : Arr F S2048x2816 .f32 → Arr F S2048x2816 .f32 → Arr F S2048x2816 .f32) ]

abbrev ops4 : List (HloOp τ sig (Elt F)) :=
  [ binary main_v15 main_v13 main_v16 ((fun a b => concatenate S2048x5632 1 [⟨S2048x2816, a⟩, ⟨S2048x2816, b⟩] concatenates_S2048x2816_S2048x2816_S2048x5632_d1) : Arr F S2048x2816 .f32 → Arr F S2048x2816 .f32 → Arr F S2048x5632 .f32),
    binary main_v16 main_v0 main_v17 ((fun l r => Host.dotGeneral dot_S2048x5632_S2048x1024_S5632x1024_0_0_1_1_n_n none l r) : Arr F S2048x5632 .f32 → Arr F S2048x1024 .f32 → Arr F S5632x1024 .f32),
    unary main_v17 main_v18 ((transpose S1024x5632 [1, 0] · transposes_S5632x1024_S1024x5632_1_0) : Arr F S5632x1024 .f32 → Arr F S1024x5632 .f32),
    binary main_v16 main_v1 main_v19 ((fun l r => Host.dotGeneral dot_S2048x5632_S1024x5632_S2048x1024_1_1_0_0_n_n none l r) : Arr F S2048x5632 .f32 → Arr F S1024x5632 .f32 → Arr F S2048x1024 .f32),
    reshape main_v18 main_v20 (rfl : (.f32 : EltTy) = .f32) shapeCasts_S1024x5632_S2x512x4x1408,
    unary main_v20 main_v21 ((transpose S4x2x512x1408 [2, 0, 1, 3] · transposes_S2x512x4x1408_S4x2x512x1408_2_0_1_3) : Arr F S2x512x4x1408 .f32 → Arr F S4x2x512x1408 .f32),
    unary main_v9 main_v22 ((truncf .bf16 · bitsLt_bf16_f32) : Arr F S2048x1024 .f32 → Arr F S2048x1024 .bf16),
    unary main_v19 main_v23 ((truncf .bf16 · bitsLt_bf16_f32) : Arr F S2048x1024 .f32 → Arr F S2048x1024 .bf16),
    unary main_v11 main_v24 ((truncf .bf16 · bitsLt_bf16_f32) : Arr F S2816x1024 .f32 → Arr F S2816x1024 .bf16),
    unary main_v21 main_v25 ((truncf .bf16 · bitsLt_bf16_f32) : Arr F S4x2x512x1408 .f32 → Arr F S4x2x512x1408 .bf16) ]

/-- The program's operations, in order. -/
abbrev ops : List (HloOp τ sig (Elt F)) := List.flatten [ops0, ops1, ops2, ops3, ops4]

/-- The buffers they write, in order. -/
abbrev outs : List (Ref sig .tc) :=
  [main_v0, main_v1, main_v2, main_v3, main_v4, main_v5, main_v6, main_call0_v0, main_call0_v1, main_call0_cst, main_call0_v2, main_call0_v3, main_call0_cst_0, main_call0_v4, main_v7_2, main_call0_cst_1, main_call0_v6, main_call0_v7, main_v7_1, main_v7_0, main_v8, main_v9, main_v10, main_v11, main_v12, main_v13, main_v14, main_call1_v0, main_call1_v1, main_call1_v2, main_v15, main_v16, main_v17, main_v18, main_v19, main_v20, main_v21, main_v22, main_v23, main_v24, main_v25]

theorem chain_eq (c : Dev nD) : main (F := F) c = Pipeline.chain [seq ops0, seq ops1, seq ops2, seq ops3, seq ops4] := by
  rewrite [StableHlo.chain_seq_cons, Pipeline.chain_cons, StableHlo.chain_seq_cons, Pipeline.chain_cons, StableHlo.chain_seq_cons]
  chain_rfl

theorem main_eq (c : Dev nD) : main (F := F) c = seq ops := by
  have h := StableHlo.chain_map_seq_append (nD := nD) (Λ := Pipeline.Sig Λ₀ (Fin 0) fun p => (pcfgs (F := F) p).Adm) [(ops0 : List (HloOp τ sig (Elt F))), ops1, ops2, ops3, ops4] []
  rw [List.append_nil] at h
  rw [chain_eq]
  exact h.trans (bind_pure _)

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., unary_bufs_sub .., unary_bufs_sub .., binary_bufs_sub .., unary_bufs_sub .., unary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., unary_bufs_sub .., binary_bufs_sub .., binary_bufs_sub .., binary_bufs_sub .., binary_bufs_sub .., binary_bufs_sub .., binary_bufs_sub .., binary_bufs_sub .., binary_bufs_sub .., binary_bufs_sub .., unary_bufs_sub .., binary_bufs_sub .., reshape_bufs_sub .., unary_bufs_sub .., unary_bufs_sub .., unary_bufs_sub .., unary_bufs_sub .., unary_bufs_sub ..⟩

set_option maxRecDepth 8192 in
theorem writes : Writes (ops (F := F)) outs :=
  .cons (unary_writes ..) <| .cons (unary_writes ..) <| .cons (unary_writes ..) <| .cons (unary_writes ..) <| .cons (binary_writes ..) <| .cons (unary_writes ..) <| .cons (unary_writes ..) <| .cons (unary_writes ..) <| .cons (unary_writes ..) <| .cons (nullary_writes ..) <| .cons (unary_writes ..) <| .cons (binary_writes ..) <| .cons (nullary_writes ..) <| .cons (unary_writes ..) <| .cons (binary_writes ..) <| .cons (nullary_writes ..) <| .cons (unary_writes ..) <| .cons (binary_writes ..) <| .cons (binary_writes ..) <| .cons (binary_writes ..) <| .cons (binary_writes ..) <| .cons (binary_writes ..) <| .cons (binary_writes ..) <| .cons (unary_writes ..) <| .cons (binary_writes ..) <| .cons (binary_writes ..) <| .cons (binary_writes ..) <| .cons (binary_writes ..) <| .cons (binary_writes ..) <| .cons (binary_writes ..) <| .cons (binary_writes ..) <| .cons (binary_writes ..) <| .cons (binary_writes ..) <| .cons (unary_writes ..) <| .cons (binary_writes ..) <| .cons (reshape_writes ..) <| .cons (unary_writes ..) <| .cons (unary_writes ..) <| .cons (unary_writes ..) <| .cons (unary_writes ..) <| .cons (unary_writes ..) <| .nil

/-- Every run ends with each buffer at what the line leaves in it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = fin ops (launchContents m d) b :=
  run_seq scopedRefs_eq scopedSems_eq defs main (fun _ => ops) main_eq (fun _ => ops_sub) m ρ

/-- The buffers' numbers. -/
theorem numbers : (outs.map fun w => w.idx.val) = List.range' 4 41 := by decide +kernel
theorem once : (List.range' 4 41).Nodup := by decide +kernel
theorem last (i : ℕ) {r : Ref sig .tc} (h : outs[i]? = some r) : Before outs (i + 1) r := before_of_lt numbers once i h (Nat.lt_succ_self _)
theorem old (j : ℕ) {i : ℕ} {r : Ref sig .tc} (h : outs[j]? = some r) (hi : j < i := by decide) : Before outs i r := before_of_lt numbers once j h hi
theorem argNumbers : (([main_arg0, main_arg1, main_arg2, main_arg3] : List (Ref sig .tc)).map fun w => w.idx.val) = [0, 1, 2, 3] := by decide +kernel

variable (V : Valuation τ sig (Elt F))

set_option maxRecDepth 8192

theorem b_arg0 (i : ℕ) : Before outs i main_arg0 := before_of_small 4 numbers argNumbers (by decide +kernel) (by decide) 0 rfl i
theorem e_arg0 : fin ops V main_arg0 = V (Proc.devRef .tc main_arg0) := fin_unwritten writes (b_arg0 0) V
theorem b_arg1 (i : ℕ) : Before outs i main_arg1 := before_of_small 4 numbers argNumbers (by decide +kernel) (by decide) 1 rfl i
theorem e_arg1 : fin ops V main_arg1 = V (Proc.devRef .tc main_arg1) := fin_unwritten writes (b_arg1 0) V
theorem b_arg2 (i : ℕ) : Before outs i main_arg2 := before_of_small 4 numbers argNumbers (by decide +kernel) (by decide) 2 rfl i
theorem e_arg2 : fin ops V main_arg2 = V (Proc.devRef .tc main_arg2) := fin_unwritten writes (b_arg2 0) V
theorem b_arg3 (i : ℕ) : Before outs i main_arg3 := before_of_small 4 numbers argNumbers (by decide +kernel) (by decide) 3 rfl i
theorem e_arg3 : fin ops V main_arg3 = V (Proc.devRef .tc main_arg3) := fin_unwritten writes (b_arg3 0) V

theorem e_v0 : fin ops V main_v0 = ((extf .f32 · bitsLt_bf16_f32) : Arr F S2048x1024 .bf16 → Arr F S2048x1024 .f32) (fin ops V main_arg0 :) :=
  fin_unary (y := main_v0) writes 0 rfl (last 0 rfl) (b_arg0 _) V
theorem e_v1 : fin ops V main_v1 = ((extf .f32 · bitsLt_bf16_f32) : Arr F S1024x5632 .bf16 → Arr F S1024x5632 .f32) (fin ops V main_arg1 :) :=
  fin_unary (y := main_v1) writes 1 rfl (last 1 rfl) (b_arg1 _) V
theorem e_v2 : fin ops V main_v2 = ((extf .f32 · bitsLt_bf16_f32) : Arr F S2816x1024 .bf16 → Arr F S2816x1024 .f32) (fin ops V main_arg2 :) :=
  fin_unary (y := main_v2) writes 2 rfl (last 2 rfl) (b_arg2 _) V
theorem e_v3 : fin ops V main_v3 = ((extf .f32 · bitsLt_bf16_f32) : Arr F S2048x1024 .bf16 → Arr F S2048x1024 .f32) (fin ops V main_arg3 :) :=
  fin_unary (y := main_v3) writes 3 rfl (last 3 rfl) (b_arg3 _) V
theorem e_v4 : fin ops V main_v4 = ((fun l r => Host.dotGeneral dot_S2048x1024_S1024x5632_S2048x5632_1_0_0_1_n_n none l r) : Arr F S2048x1024 .f32 → Arr F S1024x5632 .f32 → Arr F S2048x5632 .f32) (fin ops V main_v0 :) (fin ops V main_v1 :) :=
  fin_binary (y := main_v4) writes 4 rfl (last 4 rfl) (old 0 rfl) (old 1 rfl) V
theorem e_v5 : fin ops V main_v5 = ((extractStridedSlice S2048x2816 ![0, 0] · slices_S2048x5632_S2048x2816_0_0) : Arr F S2048x5632 .f32 → Arr F S2048x2816 .f32) (fin ops V main_v4 :) :=
  fin_unary (y := main_v5) writes 5 rfl (last 5 rfl) (old 4 rfl) V
theorem e_v6 : fin ops V main_v6 = ((extractStridedSlice S2048x2816 ![0, 2816] · slices_S2048x5632_S2048x2816_0_2816) : Arr F S2048x5632 .f32 → Arr F S2048x2816 .f32) (fin ops V main_v4 :) :=
  fin_unary (y := main_v6) writes 6 rfl (last 6 rfl) (old 4 rfl) V
theorem e_call0_v0 : fin ops V main_call0_v0 = (Host.negf : Arr F S2048x2816 .f32 → Arr F S2048x2816 .f32) (fin ops V main_v5 :) :=
  fin_unary (y := main_call0_v0) writes 7 rfl (last 7 rfl) (old 5 rfl) V
theorem e_call0_v1 : fin ops V main_call0_v1 = (Host.exp : Arr F S2048x2816 .f32 → Arr F S2048x2816 .f32) (fin ops V main_call0_v0 :) :=
  fin_unary (y := main_call0_v1) writes 8 rfl (last 8 rfl) (old 7 rfl) V
theorem e_call0_cst : fin ops V main_call0_cst = ((constant S_ .f32 0x3F800000#32) : Arr F S_ .f32) :=
  fin_nullary (y := main_call0_cst) writes 9 rfl (last 9 rfl) V
theorem e_call0_v2 : fin ops V main_call0_v2 = ((broadcastInDim S2048x2816 ![] bcast_S_S2048x2816) : Arr F S_ .f32 → Arr F S2048x2816 .f32) (fin ops V main_call0_cst :) :=
  fin_unary (y := main_call0_v2) writes 10 rfl (last 10 rfl) (old 9 rfl) V
theorem e_call0_v3 : fin ops V main_call0_v3 = (addf : Arr F S2048x2816 .f32 → Arr F S2048x2816 .f32 → Arr F S2048x2816 .f32) (fin ops V main_call0_v2 :) (fin ops V main_call0_v1 :) :=
  fin_binary (y := main_call0_v3) writes 11 rfl (last 11 rfl) (old 10 rfl) (old 8 rfl) V
theorem e_call0_cst_0 : fin ops V main_call0_cst_0 = ((constant S_ .f32 0x3F800000#32) : Arr F S_ .f32) :=
  fin_nullary (y := main_call0_cst_0) writes 12 rfl (last 12 rfl) V
theorem e_call0_v4 : fin ops V main_call0_v4 = ((broadcastInDim S2048x2816 ![] bcast_S_S2048x2816) : Arr F S_ .f32 → Arr F S2048x2816 .f32) (fin ops V main_call0_cst_0 :) :=
  fin_unary (y := main_call0_v4) writes 13 rfl (last 13 rfl) (old 12 rfl) V
theorem e_v7_2 : fin ops V main_v7_2 = (Host.divf : Arr F S2048x2816 .f32 → Arr F S2048x2816 .f32 → Arr F S2048x2816 .f32) (fin ops V main_call0_v4 :) (fin ops V main_call0_v3 :) :=
  fin_binary (y := main_v7_2) writes 14 rfl (last 14 rfl) (old 13 rfl) (old 11 rfl) V
theorem e_call0_cst_1 : fin ops V main_call0_cst_1 = ((constant S_ .f32 0x3F800000#32) : Arr F S_ .f32) :=
  fin_nullary (y := main_call0_cst_1) writes 15 rfl (last 15 rfl) V
theorem e_call0_v6 : fin ops V main_call0_v6 = ((broadcastInDim S2048x2816 ![] bcast_S_S2048x2816) : Arr F S_ .f32 → Arr F S2048x2816 .f32) (fin ops V main_call0_cst_1 :) :=
  fin_unary (y := main_call0_v6) writes 16 rfl (last 16 rfl) (old 15 rfl) V
theorem e_call0_v7 : fin ops V main_call0_v7 = (subf : Arr F S2048x2816 .f32 → Arr F S2048x2816 .f32 → Arr F S2048x2816 .f32) (fin ops V main_call0_v6 :) (fin ops V main_v7_2 :) :=
  fin_binary (y := main_call0_v7) writes 17 rfl (last 17 rfl) (old 16 rfl) (old 14 rfl) V
theorem e_v7_1 : fin ops V main_v7_1 = (mulf : Arr F S2048x2816 .f32 → Arr F S2048x2816 .f32 → Arr F S2048x2816 .f32) (fin ops V main_v7_2 :) (fin ops V main_call0_v7 :) :=
  fin_binary (y := main_v7_1) writes 18 rfl (last 18 rfl) (old 14 rfl) (old 17 rfl) V
theorem e_v7_0 : fin ops V main_v7_0 = (mulf : Arr F S2048x2816 .f32 → Arr F S2048x2816 .f32 → Arr F S2048x2816 .f32) (fin ops V main_v5 :) (fin ops V main_v7_2 :) :=
  fin_binary (y := main_v7_0) writes 19 rfl (last 19 rfl) (old 5 rfl) (old 14 rfl) V
theorem e_v8 : fin ops V main_v8 = (mulf : Arr F S2048x2816 .f32 → Arr F S2048x2816 .f32 → Arr F S2048x2816 .f32) (fin ops V main_v7_0 :) (fin ops V main_v6 :) :=
  fin_binary (y := main_v8) writes 20 rfl (last 20 rfl) (old 19 rfl) (old 6 rfl) V
theorem e_v9 : fin ops V main_v9 = ((fun l r => Host.dotGeneral dot_S2048x2816_S2816x1024_S2048x1024_1_0_0_1_n_n none l r) : Arr F S2048x2816 .f32 → Arr F S2816x1024 .f32 → Arr F S2048x1024 .f32) (fin ops V main_v8 :) (fin ops V main_v2 :) :=
  fin_binary (y := main_v9) writes 21 rfl (last 21 rfl) (old 20 rfl) (old 2 rfl) V
theorem e_v10 : fin ops V main_v10 = ((fun l r => Host.dotGeneral dot_S2048x1024_S2048x2816_S1024x2816_0_0_1_1_n_n none l r) : Arr F S2048x1024 .f32 → Arr F S2048x2816 .f32 → Arr F S1024x2816 .f32) (fin ops V main_v3 :) (fin ops V main_v8 :) :=
  fin_binary (y := main_v10) writes 22 rfl (last 22 rfl) (old 3 rfl) (old 20 rfl) V
theorem e_v11 : fin ops V main_v11 = ((transpose S2816x1024 [1, 0] · transposes_S1024x2816_S2816x1024_1_0) : Arr F S1024x2816 .f32 → Arr F S2816x1024 .f32) (fin ops V main_v10 :) :=
  fin_unary (y := main_v11) writes 23 rfl (last 23 rfl) (old 22 rfl) V
theorem e_v12 : fin ops V main_v12 = ((fun l r => Host.dotGeneral dot_S2048x1024_S2816x1024_S2048x2816_1_1_0_0_n_n none l r) : Arr F S2048x1024 .f32 → Arr F S2816x1024 .f32 → Arr F S2048x2816 .f32) (fin ops V main_v3 :) (fin ops V main_v2 :) :=
  fin_binary (y := main_v12) writes 24 rfl (last 24 rfl) (old 3 rfl) (old 2 rfl) V
theorem e_v13 : fin ops V main_v13 = (mulf : Arr F S2048x2816 .f32 → Arr F S2048x2816 .f32 → Arr F S2048x2816 .f32) (fin ops V main_v7_0 :) (fin ops V main_v12 :) :=
  fin_binary (y := main_v13) writes 25 rfl (last 25 rfl) (old 19 rfl) (old 24 rfl) V
theorem e_v14 : fin ops V main_v14 = (mulf : Arr F S2048x2816 .f32 → Arr F S2048x2816 .f32 → Arr F S2048x2816 .f32) (fin ops V main_v12 :) (fin ops V main_v6 :) :=
  fin_binary (y := main_v14) writes 26 rfl (last 26 rfl) (old 24 rfl) (old 6 rfl) V
theorem e_call1_v0 : fin ops V main_call1_v0 = (mulf : Arr F S2048x2816 .f32 → Arr F S2048x2816 .f32 → Arr F S2048x2816 .f32) (fin ops V main_v5 :) (fin ops V main_v14 :) :=
  fin_binary (y := main_call1_v0) writes 27 rfl (last 27 rfl) (old 5 rfl) (old 26 rfl) V
theorem e_call1_v1 : fin ops V main_call1_v1 = (mulf : Arr F S2048x2816 .f32 → Arr F S2048x2816 .f32 → Arr F S2048x2816 .f32) (fin ops V main_v14 :) (fin ops V main_v7_2 :) :=
  fin_binary (y := main_call1_v1) writes 28 rfl (last 28 rfl) (old 26 rfl) (old 14 rfl) V
theorem e_call1_v2 : fin ops V main_call1_v2 = (mulf : Arr F S2048x2816 .f32 → Arr F S2048x2816 .f32 → Arr F S2048x2816 .f32) (fin ops V main_call1_v0 :) (fin ops V main_v7_1 :) :=
  fin_binary (y := main_call1_v2) writes 29 rfl (last 29 rfl) (old 27 rfl) (old 18 rfl) V
theorem e_v15 : fin ops V main_v15 = (addf : Arr F S2048x2816 .f32 → Arr F S2048x2816 .f32 → Arr F S2048x2816 .f32) (fin ops V main_call1_v1 :) (fin ops V main_call1_v2 :) :=
  fin_binary (y := main_v15) writes 30 rfl (last 30 rfl) (old 28 rfl) (old 29 rfl) V
theorem e_v16 : fin ops V main_v16 = ((fun a b => concatenate S2048x5632 1 [⟨S2048x2816, a⟩, ⟨S2048x2816, b⟩] concatenates_S2048x2816_S2048x2816_S2048x5632_d1) : Arr F S2048x2816 .f32 → Arr F S2048x2816 .f32 → Arr F S2048x5632 .f32) (fin ops V main_v15 :) (fin ops V main_v13 :) :=
  fin_binary (y := main_v16) writes 31 rfl (last 31 rfl) (old 30 rfl) (old 25 rfl) V
theorem e_v17 : fin ops V main_v17 = ((fun l r => Host.dotGeneral dot_S2048x5632_S2048x1024_S5632x1024_0_0_1_1_n_n none l r) : Arr F S2048x5632 .f32 → Arr F S2048x1024 .f32 → Arr F S5632x1024 .f32) (fin ops V main_v16 :) (fin ops V main_v0 :) :=
  fin_binary (y := main_v17) writes 32 rfl (last 32 rfl) (old 31 rfl) (old 0 rfl) V
theorem e_v18 : fin ops V main_v18 = ((transpose S1024x5632 [1, 0] · transposes_S5632x1024_S1024x5632_1_0) : Arr F S5632x1024 .f32 → Arr F S1024x5632 .f32) (fin ops V main_v17 :) :=
  fin_unary (y := main_v18) writes 33 rfl (last 33 rfl) (old 32 rfl) V
theorem e_v19 : fin ops V main_v19 = ((fun l r => Host.dotGeneral dot_S2048x5632_S1024x5632_S2048x1024_1_1_0_0_n_n none l r) : Arr F S2048x5632 .f32 → Arr F S1024x5632 .f32 → Arr F S2048x1024 .f32) (fin ops V main_v16 :) (fin ops V main_v1 :) :=
  fin_binary (y := main_v19) writes 34 rfl (last 34 rfl) (old 31 rfl) (old 1 rfl) V
theorem e_v20 : fin ops V main_v20 = shapeCast _ (fin ops V main_v18 :) shapeCasts_S1024x5632_S2x512x4x1408 :=
  fin_reshape (y := main_v20) writes 35 rfl (last 35 rfl) (old 33 rfl) V
theorem e_v21 : fin ops V main_v21 = ((transpose S4x2x512x1408 [2, 0, 1, 3] · transposes_S2x512x4x1408_S4x2x512x1408_2_0_1_3) : Arr F S2x512x4x1408 .f32 → Arr F S4x2x512x1408 .f32) (fin ops V main_v20 :) :=
  fin_unary (y := main_v21) writes 36 rfl (last 36 rfl) (old 35 rfl) V
theorem e_v22 : fin ops V main_v22 = ((truncf .bf16 · bitsLt_bf16_f32) : Arr F S2048x1024 .f32 → Arr F S2048x1024 .bf16) (fin ops V main_v9 :) :=
  fin_unary (y := main_v22) writes 37 rfl (last 37 rfl) (old 21 rfl) V
theorem e_v23 : fin ops V main_v23 = ((truncf .bf16 · bitsLt_bf16_f32) : Arr F S2048x1024 .f32 → Arr F S2048x1024 .bf16) (fin ops V main_v19 :) :=
  fin_unary (y := main_v23) writes 38 rfl (last 38 rfl) (old 34 rfl) V
theorem e_v24 : fin ops V main_v24 = ((truncf .bf16 · bitsLt_bf16_f32) : Arr F S2816x1024 .f32 → Arr F S2816x1024 .bf16) (fin ops V main_v11 :) :=
  fin_unary (y := main_v24) writes 39 rfl (last 39 rfl) (old 23 rfl) V
theorem e_v25 : fin ops V main_v25 = ((truncf .bf16 · bitsLt_bf16_f32) : Arr F S4x2x512x1408 .f32 → Arr F S4x2x512x1408 .bf16) (fin ops V main_v21 :) :=
  fin_unary (y := main_v25) writes 40 rfl (last 40 rfl) (old 36 rfl) V

end Ffn.Ref

end
-- ==== Proof.FfnRefValue.lean ====
/- The reference layer's four results, when its arguments hold real numbers. -/
module

public import proofs.«01_k».proof.Proof.FfnRefLine
public import proofs.«01_k».proof.Proof.FfnGrad

@[expose] public section

noncomputable section

namespace Ffn.Ref

open Cert.FfnReferenceIdeal Cert.FfnReferenceIdeal.Gen Idealize.ShloMosaic Idealize.ShloMosaic.TcCoe Idealize.ShloMosaic.ValueIdx Fox Finset

/-- The arguments hold real numbers. -/
structure Given (V : Valuation τ sig (Elt Ideal)) (H G W D : ℕ → ℕ → ℝ) : Prop where
  h : Is2 (a := 2048) (b := 1024) (V (Proc.devRef .tc main_arg0)) H
  g : Is2 (a := 1024) (b := 5632) (V (Proc.devRef .tc main_arg1)) G
  w : Is2 (a := 2816) (b := 1024) (V (Proc.devRef .tc main_arg2)) W
  d : Is2 (a := 2048) (b := 1024) (V (Proc.devRef .tc main_arg3)) D

variable {V : Valuation τ sig (Elt Ideal)} {H G W D : ℕ → ℕ → ℝ} (A : Given V H G W D)

theorem one_is {x : (⟨0, ![]⟩ : Shape).Idx → EReal} (e : x = (constant ⟨0, ![]⟩ .f32 0x3F800000#32 : FVec Ideal ⟨0, ![]⟩ .f32)) (i) : x i = ((1 : ℝ) : EReal) :=
  (congrFun e i).trans one_f32

include A

/-! ## Forward -/

theorem v0_is : Is2 (a := 2048) (b := 1024) (fin ops V main_v0) H := .of_eq (e_v0 V) (.wide (.of_eq (e_arg0 V) A.h) _)
theorem v1_is : Is2 (a := 1024) (b := 5632) (fin ops V main_v1) G := .of_eq (e_v1 V) (.wide (.of_eq (e_arg1 V) A.g) _)
theorem v2_is : Is2 (a := 2816) (b := 1024) (fin ops V main_v2) W := .of_eq (e_v2 V) (.wide (.of_eq (e_arg2 V) A.w) _)
theorem v3_is : Is2 (a := 2048) (b := 1024) (fin ops V main_v3) D := .of_eq (e_v3 V) (.wide (.of_eq (e_arg3 V) A.d) _)

theorem v4_is : Is2 (a := 2048) (b := 5632) (fin ops V main_v4) (pre H G) := .of_eq (e_v4 V) (host_nn (v0_is A) (v1_is A))

theorem v5_is : Is2 (a := 2048) (b := 2816) (fin ops V main_v5) (gate H G) :=
  .congr (.of_eq (e_v5 V) ((v4_is A).columns _ (by decide))) fun i _ j _ => by rw [Nat.zero_add, gate]

theorem v6_is : Is2 (a := 2048) (b := 2816) (fin ops V main_v6) (value H G) := .of_eq (e_v6 V) ((v4_is A).columns _ (by decide))

theorem sig_is : Is2 (a := 2048) (b := 2816) (fin ops V main_v7_2) fun i j => logistic (gate H G i j) :=
  .of_eq (e_v7_2 V) <| .hostDivide (.of_eq (e_call0_v4 V) (spread_is (one_is (e_call0_cst_0 V)) _))
    (.of_eq (e_call0_v3 V) <| .add (.of_eq (e_call0_v2 V) (spread_is (one_is (e_call0_cst V)) _))
      (.of_eq (e_call0_v1 V) <| .hostExp <| .of_eq (e_call0_v0 V) <| .neg (v5_is A))) fun _ _ => logistic_den _

theorem slope_is : Is2 (a := 2048) (b := 2816) (fin ops V main_v7_1) fun i j => logistic (gate H G i j) * (1 - logistic (gate H G i j)) :=
  .of_eq (e_v7_1 V) <| .mul (sig_is A) <| .of_eq (e_call0_v7 V) <| .sub (.of_eq (e_call0_v6 V) (spread_is (one_is (e_call0_cst_1 V)) _)) (sig_is A)

theorem silu_is : Is2 (a := 2048) (b := 2816) (fin ops V main_v7_0) fun i j => gate H G i j * logistic (gate H G i j) :=
  .of_eq (e_v7_0 V) <| .mul (v5_is A) (sig_is A)

theorem v8_is : Is2 (a := 2048) (b := 2816) (fin ops V main_v8) (act H G) := .of_eq (e_v8 V) <| .mul (silu_is A) (v6_is A)

theorem out_is : Is2 (a := 2048) (b := 1024) (fin ops V main_v22) (out H G W) :=
  .of_eq (e_v22 V) <| .narrow (.of_eq (e_v9 V) (host_nn (v8_is A) (v2_is A))) _

/-! ## Backward -/

theorem dlast_is : Is2 (a := 2816) (b := 1024) (fin ops V main_v24) (dlast H G D) :=
  .congr (.of_eq (e_v24 V) <| .narrow (.of_eq (e_v11 V) <| .turn (.of_eq (e_v10 V) (host_tn (v3_is A) (v8_is A))) _) _) fun _ _ _ _ =>
    sum_congr rfl fun _ _ => mul_comm _ _

theorem v12_is : Is2 (a := 2048) (b := 2816) (fin ops V main_v12) (dact W D) := .of_eq (e_v12 V) (host_nt (v3_is A) (v2_is A))

theorem v13_is : Is2 (a := 2048) (b := 2816) (fin ops V main_v13) (dvalue H G W D) :=
  .congr (.of_eq (e_v13 V) <| .mul (silu_is A) (v12_is A)) fun _ _ _ _ => by rw [dvalue]; ring

theorem v14_is : Is2 (a := 2048) (b := 2816) (fin ops V main_v14) fun i j => dact W D i j * value H G i j := .of_eq (e_v14 V) <| .mul (v12_is A) (v6_is A)

/-- The two terms of the gate's cotangent, one through the gate and one through its logistic function. -/
theorem v15_is : Is2 (a := 2048) (b := 2816) (fin ops V main_v15) (dgate H G W D) :=
  .congr (.of_eq (e_v15 V) <| .add (.of_eq (e_call1_v1 V) <| .mul (v14_is A) (sig_is A))
    (.of_eq (e_call1_v2 V) <| .mul (.of_eq (e_call1_v0 V) <| .mul (v5_is A) (v14_is A)) (slope_is A))) fun _ _ _ _ => by rw [dgate]; ring

theorem v16_is : Is2 (a := 2048) (b := 5632) (fin ops V main_v16) (dpre H G W D) :=
  .of_eq (e_v16 V) ((v15_is A).beside (v13_is A) _ rfl)

theorem dinput_is : Is2 (a := 2048) (b := 1024) (fin ops V main_v23) (dinput H G W D) :=
  .of_eq (e_v23 V) <| .narrow (.of_eq (e_v19 V) (host_nt (v16_is A) (v1_is A))) _

theorem v18_is : Is2 (a := 1024) (b := 5632) (fin ops V main_v18) (dfirst H G W D) :=
  .congr (.of_eq (e_v18 V) <| .turn (.of_eq (e_v17 V) (host_tn (v16_is A) (v0_is A))) _) fun _ _ _ _ => sum_congr rfl fun _ _ => mul_comm _ _

theorem dfirst_is : Is4 (a := 4) (b := 2) (c := 512) (d := 1408) (fin ops V main_v25) fun j i r s => dfirst H G W D (i * 512 + r) (j * 1408 + s) := by
  refine .of_eq (e_v25 V) <| .narrow (.of_eq (e_v21 V) ?_) _
  rw [e_v20]
  exact (v18_is A).split shapeCasts_S1024x5632_S2x512x4x1408 rfl rfl _

end Ffn.Ref

end
-- ==== Proof.FfnFinite.lean ====
/- The feed-forward precondition: every entry of the four arguments is a real number. -/
module

public import proofs.«01_k».proof.Proof.Finite
public import proofs.«01_k».proof.Proof.MatValue

@[expose] public section

noncomputable section

namespace Ffn

open Idealize.ShloMosaic Idealize.ShloMosaic.TcCoe Idealize.ShloMosaic.ValueIdx Fox

/-- The side conditions that the precondition's operations state. -/
theorem finiteFacts : Cert.Pre_finite2.Facts where
  bcast_S_S2048x1024 := by decide
  reducesTo_S2048x1024_S_d0_1 := by decide
  h_S_ := by decide
  bcast_S_S1024x5632 := by decide
  reducesTo_S1024x5632_S_d0_1 := by decide
  bcast_S_S2816x1024 := by decide
  reducesTo_S2816x1024_S_d0_1 := by decide

/-- A matrix of real entries holds real numbers. -/
theorem is2_of_real {a b : ℕ} {x : (⟨2, ![a, b]⟩ : Shape).Idx → EReal} (h : ∀ i, x i = (((x i).toReal : ℝ) : EReal)) : ∃ f, Is2 x f :=
  ⟨fun i j => if p : i < a ∧ j < b then (x (ix2 ⟨i, p.1⟩ ⟨j, p.2⟩)).toReal else 0, fun i j => by
    have e : (if p : i.val < a ∧ j.val < b then (x (ix2 ⟨i.val, p.1⟩ ⟨j.val, p.2⟩)).toReal else 0) = (x (ix2 i j)).toReal := dif_pos ⟨i.isLt, j.isLt⟩
    exact (h _).trans (congrArg _ e.symm)⟩

/-- Where the precondition comes out one, the four arrays hold real numbers. -/
theorem reals [Cert.Pre_finite2.Facts] {h d : FVec Ideal ⟨2, ![2048, 1024]⟩ .bf16} {g : FVec Ideal ⟨2, ![1024, 5632]⟩ .bf16}
    {w : FVec Ideal ⟨2, ![2816, 1024]⟩ .bf16} (e : Cert.Pre_finite2.fn (F := Ideal) h g w d = fun _ => 1#1) :
    ∃ H G W D : ℕ → ℕ → ℝ, Is2 h H ∧ Is2 g G ∧ Is2 w W ∧ Is2 d D := by
  have e := congrFun e (fun a => a.elim0)
  obtain ⟨e, hd⟩ := IntOp.andi_eq_one.1 e
  obtain ⟨e, hw⟩ := IntOp.andi_eq_one.1 e
  obtain ⟨hh, hg⟩ := IntOp.andi_eq_one.1 e
  have z : ∀ i, (constant ⟨0, ![]⟩ .bf16 0x0000#16 : FVec Ideal ⟨0, ![]⟩ .bf16) i = 0 := fun _ => Ideal.ofBits_zero_bf16
  obtain ⟨H, hH⟩ := is2_of_real (entry_real z _ _ _ _ hh)
  obtain ⟨G, hG⟩ := is2_of_real (entry_real z _ _ _ _ hg)
  obtain ⟨W, hW⟩ := is2_of_real (entry_real z _ _ _ _ hw)
  obtain ⟨D, hD⟩ := is2_of_real (entry_real z _ _ _ _ hd)
  exact ⟨H, G, W, D, hH, hG, hW, hD⟩

end Ffn

end
-- ==== Proof.LinRun.lean ====
/- The run of the program of products: every buffer ends at what the fold over the twelve calls leaves in it. -/
module

public import proofs.«01_k».proof.Proof.Gen.LinKernelIdeal.Frame

@[expose] public section

noncomputable section

namespace Lin.Ker

open Cert.LinKernelIdeal Cert.LinKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

set_option backward.isDefEq.respectTransparency.types false in
/-- Every run ends with each buffer that outlives the calls at its contents after the twelfth. -/
theorem run : θ_run defs (onTc (τ := τ) (main (F := F))) ⟨m, fun _ => 0, ρ⟩ fun r =>
    ∀ (c : Dev nD) (b : Ref sig .tc), ¬ (Proc.devRef .tc b : DevRef τ sig).isScoped →
      r.2.mem ((c.tc : Thread nD τ).loc b) = W12 m ρ c (Proc.devRef .tc b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun _ h _ c b hb => h c _ (mem_uc b hb))

end Lin.Ker

end
-- ==== Proof.ExtValue.lean ====
/- What operations on matrices are over the extended reals, whatever their operands hold, and how a matrix that is staged
   block by block is read from its blocks. -/
module

public import proofs.«01_k».proof.Proof.HostValue
public import Idealize.ShloMosaic.Lib.Pipeline.Value

@[expose] public section

noncomputable section

namespace Lin

open Idealize.ShloMosaic Idealize.ShloMosaic.ValueIdx Finset Fox

/-- A matrix has the entries `f`. -/
def E2 {a b : ℕ} (x : (⟨2, ![a, b]⟩ : Shape).Idx → EReal) (f : ℕ → ℕ → EReal) : Prop := ∀ (i : Fin a) (j : Fin b), x (ix2 i j) = f i j

/-- An array of four axes has the entries `f`. -/
def E4 {a b c d : ℕ} (x : (⟨4, ![a, b, c, d]⟩ : Shape).Idx → EReal) (f : ℕ → ℕ → ℕ → ℕ → EReal) : Prop :=
  ∀ (i : Fin a) (j : Fin b) (k : Fin c) (l : Fin d), x (ix4 i j k l) = f i j k l

/-- The entries of a matrix, nothing outside it. -/
def entries {a b : ℕ} (x : (⟨2, ![a, b]⟩ : Shape).Idx → EReal) (i j : ℕ) : EReal := if h : i < a ∧ j < b then x (ix2 ⟨i, h.1⟩ ⟨j, h.2⟩) else 0

theorem entries_is {a b : ℕ} (x : (⟨2, ![a, b]⟩ : Shape).Idx → EReal) : E2 x (entries x) := fun i j => by
  rw [entries, dif_pos ⟨i.isLt, j.isLt⟩]

variable {a b c d m n : ℕ} {f g : ℕ → ℕ → EReal}

theorem E2.congr {x : (⟨2, ![a, b]⟩ : Shape).Idx → EReal} (h : E2 x f) (e : ∀ i < a, ∀ j < b, f i j = g i j) : E2 x g := fun i j => (h i j).trans (e i i.isLt j j.isLt)

theorem E2.of_eq {x y : (⟨2, ![a, b]⟩ : Shape).Idx → EReal} (e : x = y) (h : E2 y f) : E2 x f := e ▸ h
theorem E4.of_eq {x y : (⟨4, ![a, b, c, d]⟩ : Shape).Idx → EReal} {f : ℕ → ℕ → ℕ → ℕ → EReal} (e : x = y) (h : E4 y f) : E4 x f := e ▸ h

/-- Two matrices that hold the same real numbers are equal. -/
theorem E2.eq {x y : (⟨2, ![a, b]⟩ : Shape).Idx → EReal} (hx : E2 x f) (hy : E2 y f) : x = y := by
  funext i
  rw [eq_ix2 i]
  exact (hx _ _).trans (hy _ _).symm

theorem E4.eq {x y : (⟨4, ![a, b, c, d]⟩ : Shape).Idx → EReal} {f : ℕ → ℕ → ℕ → ℕ → EReal} (hx : E4 x f) (hy : E4 y f) : x = y := by
  funext i
  rw [eq_ix4 i]
  exact (hx _ _ _ _).trans (hy _ _ _ _).symm

/-! ## Formats and layout -/

theorem E2.wide {φ ψ : FTy} {x : FVec Ideal ⟨2, ![a, b]⟩ φ} (hx : E2 x f) (h : φ.bits < ψ.bits) : E2 (extf ψ x h) f := fun i j => hx i j
theorem E2.narrow {φ ψ : FTy} {x : FVec Ideal ⟨2, ![a, b]⟩ φ} (hx : E2 x f) (h : ψ.bits < φ.bits) : E2 (truncf ψ x h) f := fun i j => hx i j
theorem E4.narrow {φ ψ : FTy} {z : FVec Ideal ⟨4, ![a, b, c, d]⟩ φ} {f : ℕ → ℕ → ℕ → ℕ → EReal} (hz : E4 z f) (h : ψ.bits < φ.bits) : E4 (truncf ψ z h) f :=
  fun i j k l => hz i j k l

theorem E2.turn {x : (⟨2, ![a, b]⟩ : Shape).Idx → EReal} (hx : E2 x f) (h : (⟨2, ![a, b]⟩ : Shape).Transposes [1, 0] ⟨2, ![b, a]⟩) :
    E2 (transpose ⟨2, ![b, a]⟩ [1, 0] x h) fun i j => f j i := fun i j => (transpose_ix2_apply x h i j).trans (hx j i)

/-- A cast to the same shape keeps the matrix. -/
theorem E2.same {x : (⟨2, ![a, b]⟩ : Shape).Idx → EReal} (hx : E2 x f) (h : (⟨2, ![a, b]⟩ : Shape).ShapeCasts ⟨2, ![a, b]⟩) :
    E2 (shapeCast ⟨2, ![a, b]⟩ x h) f := fun i j => (shapeCast_apply x h (ix2 i j) (ix2 i j) rfl).trans (hx i j)

/-- A matrix cut into blocks of rows and columns, the blocks of columns leading. -/
theorem E2.split {A B p q : ℕ} {x : (⟨2, ![A, B]⟩ : Shape).Idx → EReal} (hx : E2 x f) (h : (⟨2, ![A, B]⟩ : Shape).ShapeCasts ⟨4, ![p, a, q, b]⟩)
    (hA : A = p * a) (hB : B = q * b) (ht : (⟨4, ![p, a, q, b]⟩ : Shape).Transposes [2, 0, 1, 3] ⟨4, ![q, p, a, b]⟩) :
    E4 (transpose ⟨4, ![q, p, a, b]⟩ [2, 0, 1, 3] (shapeCast ⟨4, ![p, a, q, b]⟩ x h) ht) fun j i r s => f (i * a + r) (j * b + s) := fun j i r s => by
  have hr : i.val * a + r.val < A := by
    have h1 : (i.val + 1) * a ≤ p * a := Nat.mul_le_mul_right a i.isLt
    have h2 := r.isLt
    rw [Nat.add_mul, one_mul] at h1
    omega
  have hs : j.val * b + s.val < B := by
    have h1 : (j.val + 1) * b ≤ q * b := Nat.mul_le_mul_right b j.isLt
    have h2 := s.isLt
    rw [Nat.add_mul, one_mul] at h1
    omega
  refine (transpose_apply [2, 0, 1, 3] _ ht (ix4 j i r s) (ix4 i r j s) fun k => ?_).trans
    ((shapeCast_apply x h (ix4 i r j s) (ix2 ⟨_, hr⟩ ⟨_, hs⟩) ?_).trans (hx _ _))
  · match k with
    | ⟨0, _⟩ => rfl
    | ⟨1, _⟩ => rfl
    | ⟨2, _⟩ => rfl
    | ⟨3, _⟩ => rfl
  · rw [Shape.rowMajor_val_two, Shape.rowMajor_val_four]
    show (i.val * a + r.val) * B + (j.val * b + s.val) = ((i.val * a + r.val) * q + j.val) * b + s.val
    rw [hB]
    ring

/-- A matrix as the one block of an array of four axes. -/
theorem E2.lift {x : (⟨2, ![a, b]⟩ : Shape).Idx → EReal} (hx : E2 x f) (h : (⟨2, ![a, b]⟩ : Shape).ShapeCasts ⟨4, ![1, 1, a, b]⟩) :
    E4 (shapeCast ⟨4, ![1, 1, a, b]⟩ x h) fun _ _ r s => f r s := fun u v r s =>
  (shapeCast_apply x h (ix4 u v r s) (ix2 r s) (by
    rw [Shape.rowMajor_val_two, Shape.rowMajor_val_four]
    show r.val * b + s.val = ((u.val * 1 + v.val) * a + r.val) * b + s.val
    have hu : u.val = 0 := by omega
    have hv : v.val = 0 := by omega
    rw [hu, hv]
    ring)).trans (hx r s)

/-! ## Products -/

section Products

variable {φ ψ : FTy}

/-- Rows against columns. -/
theorem rowsColumns (h : DotDims.WF ⟨2, ![m, c]⟩ ⟨2, ![c, n]⟩ ⟨2, ![m, n]⟩ [1] [0] [0] [1] [] [])
    {x : FVec Ideal ⟨2, ![m, c]⟩ φ} {y : FVec Ideal ⟨2, ![c, n]⟩ ψ} (hx : E2 x f) (hy : E2 y g) (i : Fin m) (j : Fin n) :
    ∑ k : (⟨[1], [0], [0], [1], [], [], h⟩ : DotDims ⟨2, ![m, c]⟩ ⟨2, ![c, n]⟩ ⟨2, ![m, n]⟩).contr.Idx,
      x ((⟨[1], [0], [0], [1], [], [], h⟩ : DotDims _ _ _).lhsIdx (ix2 i j) k) * y ((⟨[1], [0], [0], [1], [], [], h⟩ : DotDims _ _ _).rhsIdx (ix2 i j) k)
      = ∑ k ∈ range c, f i k * g k j := by
  rw [← Equiv.sum_comp (contrEquiv1 (⟨[1], [0], [0], [1], [], [], h⟩ : DotDims _ _ _) c rfl rfl).symm, sum_range fun k => f i k * g k j]
  refine sum_congr rfl fun k _ => ?_
  have hk := contrEquiv1_symm_val (⟨[1], [0], [0], [1], [], [], h⟩ : DotDims ⟨2, ![m, c]⟩ ⟨2, ![c, n]⟩ ⟨2, ![m, n]⟩) c rfl rfl k
  have el : (⟨[1], [0], [0], [1], [], [], h⟩ : DotDims ⟨2, ![m, c]⟩ ⟨2, ![c, n]⟩ ⟨2, ![m, n]⟩).lhsIdx (ix2 i j) ((contrEquiv1 _ c rfl rfl).symm k) = ix2 i k := by
    funext e; apply Fin.ext
    match e with
    | ⟨0, _⟩ => rfl
    | ⟨1, _⟩ => exact hk
  have er : (⟨[1], [0], [0], [1], [], [], h⟩ : DotDims ⟨2, ![m, c]⟩ ⟨2, ![c, n]⟩ ⟨2, ![m, n]⟩).rhsIdx (ix2 i j) ((contrEquiv1 _ c rfl rfl).symm k) = ix2 k j := by
    funext e; apply Fin.ext
    match e with
    | ⟨0, _⟩ => exact hk
    | ⟨1, _⟩ => rfl
  rw [el, er, hx i k, hy k j]

/-- Rows against rows. -/
theorem rowsRows (h : DotDims.WF ⟨2, ![m, c]⟩ ⟨2, ![n, c]⟩ ⟨2, ![m, n]⟩ [1] [1] [0] [0] [] [])
    {x : FVec Ideal ⟨2, ![m, c]⟩ φ} {y : FVec Ideal ⟨2, ![n, c]⟩ ψ} (hx : E2 x f) (hy : E2 y g) (i : Fin m) (j : Fin n) :
    ∑ k : (⟨[1], [1], [0], [0], [], [], h⟩ : DotDims ⟨2, ![m, c]⟩ ⟨2, ![n, c]⟩ ⟨2, ![m, n]⟩).contr.Idx,
      x ((⟨[1], [1], [0], [0], [], [], h⟩ : DotDims _ _ _).lhsIdx (ix2 i j) k) * y ((⟨[1], [1], [0], [0], [], [], h⟩ : DotDims _ _ _).rhsIdx (ix2 i j) k)
      = ∑ k ∈ range c, f i k * g j k := by
  rw [← Equiv.sum_comp (contrEquiv1 (⟨[1], [1], [0], [0], [], [], h⟩ : DotDims _ _ _) c rfl rfl).symm, sum_range fun k => f i k * g j k]
  refine sum_congr rfl fun k _ => ?_
  have hk := contrEquiv1_symm_val (⟨[1], [1], [0], [0], [], [], h⟩ : DotDims ⟨2, ![m, c]⟩ ⟨2, ![n, c]⟩ ⟨2, ![m, n]⟩) c rfl rfl k
  have el : (⟨[1], [1], [0], [0], [], [], h⟩ : DotDims ⟨2, ![m, c]⟩ ⟨2, ![n, c]⟩ ⟨2, ![m, n]⟩).lhsIdx (ix2 i j) ((contrEquiv1 _ c rfl rfl).symm k) = ix2 i k := by
    funext e; apply Fin.ext
    match e with
    | ⟨0, _⟩ => rfl
    | ⟨1, _⟩ => exact hk
  have er : (⟨[1], [1], [0], [0], [], [], h⟩ : DotDims ⟨2, ![m, c]⟩ ⟨2, ![n, c]⟩ ⟨2, ![m, n]⟩).rhsIdx (ix2 i j) ((contrEquiv1 _ c rfl rfl).symm k) = ix2 j k := by
    funext e; apply Fin.ext
    match e with
    | ⟨0, _⟩ => rfl
    | ⟨1, _⟩ => exact hk
  rw [el, er, hx i k, hy j k]

/-- Columns against columns. -/
theorem columnsColumns (h : DotDims.WF ⟨2, ![c, m]⟩ ⟨2, ![c, n]⟩ ⟨2, ![m, n]⟩ [0] [0] [1] [1] [] [])
    {x : FVec Ideal ⟨2, ![c, m]⟩ φ} {y : FVec Ideal ⟨2, ![c, n]⟩ ψ} (hx : E2 x f) (hy : E2 y g) (i : Fin m) (j : Fin n) :
    ∑ k : (⟨[0], [0], [1], [1], [], [], h⟩ : DotDims ⟨2, ![c, m]⟩ ⟨2, ![c, n]⟩ ⟨2, ![m, n]⟩).contr.Idx,
      x ((⟨[0], [0], [1], [1], [], [], h⟩ : DotDims _ _ _).lhsIdx (ix2 i j) k) * y ((⟨[0], [0], [1], [1], [], [], h⟩ : DotDims _ _ _).rhsIdx (ix2 i j) k)
      = ∑ k ∈ range c, f k i * g k j := by
  rw [← Equiv.sum_comp (contrEquiv1 (⟨[0], [0], [1], [1], [], [], h⟩ : DotDims _ _ _) c rfl rfl).symm, sum_range fun k => f k i * g k j]
  refine sum_congr rfl fun k _ => ?_
  have hk := contrEquiv1_symm_val (⟨[0], [0], [1], [1], [], [], h⟩ : DotDims ⟨2, ![c, m]⟩ ⟨2, ![c, n]⟩ ⟨2, ![m, n]⟩) c rfl rfl k
  have el : (⟨[0], [0], [1], [1], [], [], h⟩ : DotDims ⟨2, ![c, m]⟩ ⟨2, ![c, n]⟩ ⟨2, ![m, n]⟩).lhsIdx (ix2 i j) ((contrEquiv1 _ c rfl rfl).symm k) = ix2 k i := by
    funext e; apply Fin.ext
    match e with
    | ⟨0, _⟩ => exact hk
    | ⟨1, _⟩ => rfl
  have er : (⟨[0], [0], [1], [1], [], [], h⟩ : DotDims ⟨2, ![c, m]⟩ ⟨2, ![c, n]⟩ ⟨2, ![m, n]⟩).rhsIdx (ix2 i j) ((contrEquiv1 _ c rfl rfl).symm k) = ix2 k j := by
    funext e; apply Fin.ext
    match e with
    | ⟨0, _⟩ => exact hk
    | ⟨1, _⟩ => rfl
  rw [el, er, hx k i, hy k j]

variable {h : DotDims.WF ⟨2, ![m, c]⟩ ⟨2, ![c, n]⟩ ⟨2, ![m, n]⟩ [1] [0] [0] [1] [] []}
  {h' : DotDims.WF ⟨2, ![m, c]⟩ ⟨2, ![n, c]⟩ ⟨2, ![m, n]⟩ [1] [1] [0] [0] [] []}
  {h'' : DotDims.WF ⟨2, ![c, m]⟩ ⟨2, ![c, n]⟩ ⟨2, ![m, n]⟩ [0] [0] [1] [1] [] []}

theorem nn_is {x : FVec Ideal ⟨2, ![m, c]⟩ φ} {y : FVec Ideal ⟨2, ![c, n]⟩ ψ} (hx : E2 x f) (hy : E2 y g) :
    E2 (FloatOps.matmul (⟨[1], [0], [0], [1], [], [], h⟩ : DotDims _ _ _) none x y (zeros m n)) fun i j => ∑ k ∈ range c, f i k * g k j := fun i j => by
  rw [Ideal.matmul_apply, zeros_apply, zero_add]
  exact rowsColumns h hx hy i j

theorem nt_is {x : FVec Ideal ⟨2, ![m, c]⟩ φ} {y : FVec Ideal ⟨2, ![n, c]⟩ ψ} (hx : E2 x f) (hy : E2 y g) :
    E2 (FloatOps.matmul (⟨[1], [1], [0], [0], [], [], h'⟩ : DotDims _ _ _) none x y (zeros m n)) fun i j => ∑ k ∈ range c, f i k * g j k := fun i j => by
  rw [Ideal.matmul_apply, zeros_apply, zero_add]
  exact rowsRows h' hx hy i j

theorem tn_is {x : FVec Ideal ⟨2, ![c, m]⟩ φ} {y : FVec Ideal ⟨2, ![c, n]⟩ ψ} (hx : E2 x f) (hy : E2 y g) :
    E2 (FloatOps.matmul (⟨[0], [0], [1], [1], [], [], h''⟩ : DotDims _ _ _) none x y (zeros m n)) fun i j => ∑ k ∈ range c, f k i * g k j := fun i j => by
  rw [Ideal.matmul_apply, zeros_apply, zero_add]
  exact columnsColumns h'' hx hy i j

theorem host_nn {x : FVec Ideal ⟨2, ![m, c]⟩ φ} {y : FVec Ideal ⟨2, ![c, n]⟩ ψ} (hx : E2 x f) (hy : E2 y g) :
    E2 (Host.dotGeneral (⟨[1], [0], [0], [1], [], [], h⟩ : DotDims _ _ _) none x y) fun i j => ∑ k ∈ range c, f i k * g k j := fun i j => by
  show FloatOps.dotGeneral _ _ _ x y (ix2 i j) = _
  rw [Ideal.dotGeneral_apply]
  exact rowsColumns h hx hy i j

theorem host_nt {x : FVec Ideal ⟨2, ![m, c]⟩ φ} {y : FVec Ideal ⟨2, ![n, c]⟩ ψ} (hx : E2 x f) (hy : E2 y g) :
    E2 (Host.dotGeneral (⟨[1], [1], [0], [0], [], [], h'⟩ : DotDims _ _ _) none x y) fun i j => ∑ k ∈ range c, f i k * g j k := fun i j => by
  show FloatOps.dotGeneral _ _ _ x y (ix2 i j) = _
  rw [Ideal.dotGeneral_apply]
  exact rowsRows h' hx hy i j

theorem host_tn {x : FVec Ideal ⟨2, ![c, m]⟩ φ} {y : FVec Ideal ⟨2, ![c, n]⟩ ψ} (hx : E2 x f) (hy : E2 y g) :
    E2 (Host.dotGeneral (⟨[0], [0], [1], [1], [], [], h''⟩ : DotDims _ _ _) none x y) fun i j => ∑ k ∈ range c, f k i * g k j := fun i j => by
  show FloatOps.dotGeneral _ _ _ x y (ix2 i j) = _
  rw [Ideal.dotGeneral_apply]
  exact columnsColumns h'' hx hy i j

end Products

/-! ## Blocks -/

/-- A block of a matrix, from the place `e` of its entries in it. -/
theorem E2.part {A B p q : ℕ} {X : (⟨2, ![A, B]⟩ : Shape).Idx → EReal} (hX : E2 X f) (e : (⟨2, ![a, b]⟩ : Shape).Idx → (⟨2, ![A, B]⟩ : Shape).Idx)
    (h : ∀ x k, (e x k).val = (![p, q] : Fin 2 → ℕ) k + (x k).val) : E2 (fun x => X (e x)) fun i j => f (p + i) (q + j) := fun i j => by
  have h0 : (e (ix2 i j) 0).val = p + i.val := h (ix2 i j) 0
  have h1 : (e (ix2 i j) 1).val = q + j.val := h (ix2 i j) 1
  refine (congrArg X (eq_ix2 _)).trans ((hX _ _).trans ?_)
  rw [h0, h1]

/-- A matrix of `m` by `n` blocks, from its blocks. -/
theorem E2.ofParts {A B N : ℕ} {Y : (⟨2, ![A, B]⟩ : Shape).Idx → EReal} (m n a b : ℕ) (hA : A = m * a) (hB : B = n * b) (hN : N = m * n)
    (e : Fin N → (⟨2, ![a, b]⟩ : Shape).Idx → (⟨2, ![A, B]⟩ : Shape).Idx)
    (h : ∀ t x k, (e t x k).val = (![t.val / n * a, t.val % n * b] : Fin 2 → ℕ) k + (x k).val)
    (hY : ∀ t, E2 (fun x => Y (e t x)) fun i j => f (t.val / n * a + i) (t.val % n * b + j)) : E2 Y f := fun i j => by
  have hi := i.isLt
  have hj := j.isLt
  have ha : 0 < a := Nat.pos_of_ne_zero fun h => by subst h; omega
  have hb : 0 < b := Nat.pos_of_ne_zero fun h => by subst h; omega
  have hp : i.val / a < m := Nat.div_lt_of_lt_mul (by rw [Nat.mul_comm]; omega)
  have hq : j.val / b < n := Nat.div_lt_of_lt_mul (by rw [Nat.mul_comm]; omega)
  have ht : i.val / a * n + j.val / b < N := by
    have h1 : (i.val / a + 1) * n ≤ m * n := Nat.mul_le_mul_right n hp
    rw [Nat.add_mul, one_mul] at h1
    omega
  have e1 : (i.val / a * n + j.val / b) / n = i.val / a := by
    rw [Nat.mul_comm, Nat.mul_add_div (Nat.zero_lt_of_lt hq), Nat.div_eq_of_lt hq, Nat.add_zero]
  have e2 : (i.val / a * n + j.val / b) % n = j.val / b := by
    rw [Nat.mul_comm, Nat.mul_add_mod, Nat.mod_eq_of_lt hq]
  have r1 : i.val / a * a + i.val % a = i.val := by rw [Nat.mul_comm]; exact Nat.div_add_mod _ _
  have r2 : j.val / b * b + j.val % b = j.val := by rw [Nat.mul_comm]; exact Nat.div_add_mod _ _
  have key : e ⟨_, ht⟩ (ix2 ⟨i.val % a, Nat.mod_lt _ ha⟩ ⟨j.val % b, Nat.mod_lt _ hb⟩) = ix2 i j := by
    funext k; apply Fin.ext
    rw [h]
    match k with
    | ⟨0, _⟩ =>
      show (i.val / a * n + j.val / b) / n * a + i.val % a = i.val
      rw [e1, r1]
    | ⟨1, _⟩ =>
      show (i.val / a * n + j.val / b) % n * b + j.val % b = j.val
      rw [e2, r2]
  have hv := hY ⟨_, ht⟩ ⟨i.val % a, Nat.mod_lt _ ha⟩ ⟨j.val % b, Nat.mod_lt _ hb⟩
  refine (congrArg Y key).symm.trans (hv.trans ?_)
  show f ((i.val / a * n + j.val / b) / n * a + i.val % a) ((i.val / a * n + j.val / b) % n * b + j.val % b) = _
  rw [e1, e2, r1, r2]

/-- An array of `n` by `m` matrices, from its matrices; matrix `(t % n, t / n)` is the one of point `t`. -/
theorem E4.ofParts {N : ℕ} {f : ℕ → ℕ → ℕ → ℕ → EReal} (m n a b : ℕ) {Y : (⟨4, ![n, m, a, b]⟩ : Shape).Idx → EReal} (hN : N = m * n)
    (e : Fin N → (⟨4, ![1, 1, a, b]⟩ : Shape).Idx → (⟨4, ![n, m, a, b]⟩ : Shape).Idx)
    (h : ∀ t x k, (e t x k).val = (![t.val % n, t.val / n, 0, 0] : Fin 4 → ℕ) k + (x k).val)
    (hY : ∀ t, E4 (fun x => Y (e t x)) fun _ _ r s => f (t.val % n) (t.val / n) r s) : E4 Y f := fun j i r s => by
  have hi := i.isLt
  have hj := j.isLt
  have ht : i.val * n + j.val < N := by
    have h1 : (i.val + 1) * n ≤ m * n := Nat.mul_le_mul_right n hi
    rw [Nat.add_mul, one_mul] at h1
    omega
  have e1 : (i.val * n + j.val) / n = i.val := by
    rw [Nat.mul_comm, Nat.mul_add_div (by omega), Nat.div_eq_of_lt hj, Nat.add_zero]
  have e2 : (i.val * n + j.val) % n = j.val := by
    rw [Nat.mul_comm, Nat.mul_add_mod, Nat.mod_eq_of_lt hj]
  have key : e ⟨_, ht⟩ (ix4 0 0 r s) = ix4 j i r s := by
    funext k; apply Fin.ext
    rw [h]
    match k with
    | ⟨0, _⟩ => exact e2
    | ⟨1, _⟩ => exact e1
    | ⟨2, _⟩ => exact Nat.zero_add _
    | ⟨3, _⟩ => exact Nat.zero_add _
  have hv := hY ⟨_, ht⟩ 0 0 r s
  refine (congrArg Y key).symm.trans (hv.trans ?_)
  show f ((i.val * n + j.val) % n) ((i.val * n + j.val) / n) r s = _
  rw [e1, e2]

end Lin

end
-- ==== Proof.LinBlocks.lean ====
/- What each call of the program of products leaves in the array it writes: the product of the two arrays it reads,
   whatever they hold. -/
module

public import proofs.«01_k».proof.Proof.ExtValue
public import proofs.«01_k».proof.Proof.Gen.LinKernelIdeal.Frame

@[expose] public section

set_option maxRecDepth 16384

noncomputable section

namespace Lin

open Idealize.ShloMosaic Idealize.ShloMosaic.TcCoe Idealize.ShloMosaic.ValueIdx Finset

/-! ## A product staged block by block -/

/-- Where an entry of a block lies in the array, from the number of the block. -/
theorem corner {a b p q : ℕ} {u : Fin 2 → ℕ} {x : (⟨2, ![a, b]⟩ : Shape).Idx} (hu : ∀ k, u k = (![p, q] : Fin 2 → ℕ) k) (k : Fin 2) :
    u k * (![a, b] : Fin 2 → ℕ) k + (x k).val = (![p * a, q * b] : Fin 2 → ℕ) k + (x k).val := by
  rw [hu k]
  match k with
  | ⟨0, _⟩ => rfl
  | ⟨1, _⟩ => rfl

/-- The same in an array of matrices whose blocks are the matrices. -/
theorem corner4 {a b p q : ℕ} {u : Fin 4 → ℕ} {x : (⟨4, ![1, 1, a, b]⟩ : Shape).Idx} (hu : ∀ k, u k = (![p, q, 0, 0] : Fin 4 → ℕ) k) (k : Fin 4) :
    u k * (![1, 1, a, b] : Fin 4 → ℕ) k + (x k).val = (![p, q, 0, 0] : Fin 4 → ℕ) k + (x k).val := by
  rw [hu k]
  match k with
  | ⟨0, _⟩ => show p * 1 + _ = p + _; rw [Nat.mul_one]
  | ⟨1, _⟩ => show q * 1 + _ = q + _; rw [Nat.mul_one]
  | ⟨2, _⟩ => show 0 * a + _ = 0 + _; rw [Nat.zero_mul]
  | ⟨3, _⟩ => show 0 * b + _ = 0 + _; rw [Nat.zero_mul]

section Blocks

variable {A B C N : ℕ} (m n a b : ℕ) (hA : A = m * a) (hB : B = n * b) (hN : N = m * n) {f g : ℕ → ℕ → EReal}
  {Z : (⟨2, ![A, B]⟩ : Shape).Idx → EReal} (eZ : Fin N → (⟨2, ![a, b]⟩ : Shape).Idx → (⟨2, ![A, B]⟩ : Shape).Idx)
  (pZ : ∀ t x k, (eZ t x k).val = (![t.val / n * a, t.val % n * b] : Fin 2 → ℕ) k + (x k).val)

include hA hB hN pZ

/-- A product, when each block is the product of a block of rows and a block of columns. -/
theorem nn_blocks {X : (⟨2, ![A, C]⟩ : Shape).Idx → EReal} {Y : (⟨2, ![C, B]⟩ : Shape).Idx → EReal}
    (eX : Fin N → (⟨2, ![a, C]⟩ : Shape).Idx → (⟨2, ![A, C]⟩ : Shape).Idx) (eY : Fin N → (⟨2, ![C, b]⟩ : Shape).Idx → (⟨2, ![C, B]⟩ : Shape).Idx)
    (pX : ∀ t x k, (eX t x k).val = (![t.val / n * a, 0 * C] : Fin 2 → ℕ) k + (x k).val)
    (pY : ∀ t x k, (eY t x k).val = (![0 * C, t.val % n * b] : Fin 2 → ℕ) k + (x k).val) (hX : E2 X f) (hY : E2 Y g)
    (hZ : ∀ t f g, E2 (fun x => X (eX t x)) f → E2 (fun x => Y (eY t x)) g → E2 (fun x => Z (eZ t x)) fun i j => ∑ k ∈ range C, f i k * g k j) :
    E2 Z fun i j => ∑ k ∈ range C, f i k * g k j :=
  E2.ofParts m n a b hA hB hN eZ pZ fun t => (hZ t _ _ (hX.part _ (pX t)) (hY.part _ (pY t))).congr fun i _ j _ => by
    simp only [Nat.zero_mul, Nat.zero_add]

/-- A product with a transpose, when each block is the product of two blocks of rows. -/
theorem nt_blocks {X : (⟨2, ![A, C]⟩ : Shape).Idx → EReal} {Y : (⟨2, ![B, C]⟩ : Shape).Idx → EReal}
    (eX : Fin N → (⟨2, ![a, C]⟩ : Shape).Idx → (⟨2, ![A, C]⟩ : Shape).Idx) (eY : Fin N → (⟨2, ![b, C]⟩ : Shape).Idx → (⟨2, ![B, C]⟩ : Shape).Idx)
    (pX : ∀ t x k, (eX t x k).val = (![t.val / n * a, 0 * C] : Fin 2 → ℕ) k + (x k).val)
    (pY : ∀ t x k, (eY t x k).val = (![t.val % n * b, 0 * C] : Fin 2 → ℕ) k + (x k).val) (hX : E2 X f) (hY : E2 Y g)
    (hZ : ∀ t f g, E2 (fun x => X (eX t x)) f → E2 (fun x => Y (eY t x)) g → E2 (fun x => Z (eZ t x)) fun i j => ∑ k ∈ range C, f i k * g j k) :
    E2 Z fun i j => ∑ k ∈ range C, f i k * g j k :=
  E2.ofParts m n a b hA hB hN eZ pZ fun t => (hZ t _ _ (hX.part _ (pX t)) (hY.part _ (pY t))).congr fun i _ j _ => by
    simp only [Nat.zero_mul, Nat.zero_add]

/-- A product of a transpose, when each block is the product of two blocks of columns. -/
theorem tn_blocks {X : (⟨2, ![C, A]⟩ : Shape).Idx → EReal} {Y : (⟨2, ![C, B]⟩ : Shape).Idx → EReal}
    (eX : Fin N → (⟨2, ![C, a]⟩ : Shape).Idx → (⟨2, ![C, A]⟩ : Shape).Idx) (eY : Fin N → (⟨2, ![C, b]⟩ : Shape).Idx → (⟨2, ![C, B]⟩ : Shape).Idx)
    (pX : ∀ t x k, (eX t x k).val = (![0 * C, t.val / n * a] : Fin 2 → ℕ) k + (x k).val)
    (pY : ∀ t x k, (eY t x k).val = (![0 * C, t.val % n * b] : Fin 2 → ℕ) k + (x k).val) (hX : E2 X f) (hY : E2 Y g)
    (hZ : ∀ t f g, E2 (fun x => X (eX t x)) f → E2 (fun x => Y (eY t x)) g → E2 (fun x => Z (eZ t x)) fun i j => ∑ k ∈ range C, f k i * g k j) :
    E2 Z fun i j => ∑ k ∈ range C, f k i * g k j :=
  E2.ofParts m n a b hA hB hN eZ pZ fun t => (hZ t _ _ (hX.part _ (pX t)) (hY.part _ (pY t))).congr fun i _ j _ => by
    simp only [Nat.zero_mul, Nat.zero_add]

end Blocks

/-- A product of a transpose that is left as an array of its blocks. -/
theorem tn_parts {A B C N : ℕ} (m n a b : ℕ) (hN : N = m * n) {f g : ℕ → ℕ → EReal} {Z : (⟨4, ![n, m, a, b]⟩ : Shape).Idx → EReal}
    (eZ : Fin N → (⟨4, ![1, 1, a, b]⟩ : Shape).Idx → (⟨4, ![n, m, a, b]⟩ : Shape).Idx)
    (pZ : ∀ t x k, (eZ t x k).val = (![t.val % n, t.val / n, 0, 0] : Fin 4 → ℕ) k + (x k).val)
    {X : (⟨2, ![C, A]⟩ : Shape).Idx → EReal} {Y : (⟨2, ![C, B]⟩ : Shape).Idx → EReal}
    (eX : Fin N → (⟨2, ![C, a]⟩ : Shape).Idx → (⟨2, ![C, A]⟩ : Shape).Idx) (eY : Fin N → (⟨2, ![C, b]⟩ : Shape).Idx → (⟨2, ![C, B]⟩ : Shape).Idx)
    (pX : ∀ t x k, (eX t x k).val = (![0 * C, t.val / n * a] : Fin 2 → ℕ) k + (x k).val)
    (pY : ∀ t x k, (eY t x k).val = (![0 * C, t.val % n * b] : Fin 2 → ℕ) k + (x k).val) (hX : E2 X f) (hY : E2 Y g)
    (hZ : ∀ t f g, E2 (fun x => X (eX t x)) f → E2 (fun x => Y (eY t x)) g → E4 (fun x => Z (eZ t x)) fun _ _ r s => ∑ k ∈ range C, f k r * g k s) :
    E4 Z fun j i r s => ∑ k ∈ range C, f k (i * a + r) * g k (j * b + s) :=
  E4.ofParts m n a b hN eZ pZ fun t u v r s => (hZ t _ _ (hX.part _ (pX t)) (hY.part _ (pY t)) u v r s).trans (by
    simp only [Nat.zero_mul, Nat.zero_add])

namespace Ker

open Cert.LinKernelIdeal Cert.LinKernelIdeal.Gen

variable (V : (c : Dev nD) → (b : Ref sig .tc) → Buf (Elt Ideal) ((c : Thread nD τ).loc b)) (c : Dev nD) {f g : ℕ → ℕ → EReal}

theorem off2 : (![0, 0] : Fin 2 → ℕ) = fun _ => 0 := by decide
theorem off4 : (![0, 0, 0, 0] : Fin 4 → ℕ) = fun _ => 0 := by decide

/-! ## The square product -/

theorem index0_0 : ∀ (t : Fin cfg0.N) (k : Fin 2), (cfg0.win 0).index t k = (![t.val / 2, 0] : Fin 2 → ℕ) k := by decide +kernel
theorem index0_1 : ∀ (t : Fin cfg0.N) (k : Fin 2), (cfg0.win 1).index t k = (![0, t.val % 2] : Fin 2 → ℕ) k := by decide +kernel
theorem index0_2 : ∀ (t : Fin cfg0.N) (k : Fin 2), (cfg0.win 2).index t k = (![t.val / 2, t.val % 2] : Fin 2 → ℕ) k := by decide +kernel
theorem once0 : ∀ t t' : Fin cfg0.N, (cfg0.win 2).index t = (cfg0.win 2).index t' → t = t' := by decide +kernel

theorem left0 (t : Fin cfg0.N) : ((cfg0.win 2).blk t).view.read (Elt Ideal) ((dat0 V c).arrAt 2 cfg0.N) = k0_pay1 (F := Ideal) (iblk0 V c 0 t) (iblk0 V c 1 t) := by
  refine ((dat0 V c).read_blk_arrAt_eq_flushed 2 (fun t t' _ _ hne => (cfg0.win 2).disjoint_blk fun h => hne (once0 t t' h)) cfg0.N t t.isLt (flush0_2 t)).trans
    (Eq.trans (b := out0_2 (iblk0 V c 0 t) (iblk0 V c 1 t)) ?_ ?_)
  · show (cfg0.win 2).cut (grid0.coords t) ((dat0 V c).after 2 t) = _
    rw [after0_2]
    rfl
  · rw [out0_2, View.canon_unit_zero off2, View.ld_unit_zero off2, View.ld_unit_zero off2]

theorem xq_is (hX : E2 (a := 2048) (b := 1024) (V c (Pipeline.arrRef spec0 0)) f)
    (hY : E2 (a := 1024) (b := 1024) (V c (Pipeline.arrRef spec0 1)) g) :
    E2 (a := 2048) (b := 1024) ((dat0 V c).arrAt 2 cfg0.N) fun i j => ∑ k ∈ range 1024, f i k * g k j :=
  nn_blocks 1 2 2048 512 rfl rfl (by decide +kernel) (fun t => ((cfg0.win 2).blk t).view.emb) (fun t x k => (Pipeline.Window.rect_emb_val (cfg0.win 2) t x k rfl).trans (corner (index0_2 t) k))
    (fun t => ((cfg0.win 0).blk t).view.emb) (fun t => ((cfg0.win 1).blk t).view.emb)
    (fun t x k => (Pipeline.Window.rect_emb_val (cfg0.win 0) t x k rfl).trans (corner (index0_0 t) k))
    (fun t x k => (Pipeline.Window.rect_emb_val (cfg0.win 1) t x k rfl).trans (corner (index0_1 t) k)) hX hY
    fun t _ _ hx hy => .of_eq (left0 V c t) (nn_is (φ := .bf16) (ψ := .bf16) (x := iblk0 V c 0 t) (y := iblk0 V c 1 t) hx hy)

/-! ## The cotangent of the square product's input -/

theorem index1_0 : ∀ (t : Fin cfg1.N) (k : Fin 2), (cfg1.win 0).index t k = (![t.val / 2, 0] : Fin 2 → ℕ) k := by decide +kernel
theorem index1_1 : ∀ (t : Fin cfg1.N) (k : Fin 2), (cfg1.win 1).index t k = (![t.val % 2, 0] : Fin 2 → ℕ) k := by decide +kernel
theorem index1_2 : ∀ (t : Fin cfg1.N) (k : Fin 2), (cfg1.win 2).index t k = (![t.val / 2, t.val % 2] : Fin 2 → ℕ) k := by decide +kernel
theorem once1 : ∀ t t' : Fin cfg1.N, (cfg1.win 2).index t = (cfg1.win 2).index t' → t = t' := by decide +kernel

theorem left1 (t : Fin cfg1.N) : ((cfg1.win 2).blk t).view.read (Elt Ideal) ((dat1 V c).arrAt 2 cfg1.N) = k1_pay1 (F := Ideal) (iblk1 V c 0 t) (iblk1 V c 1 t) := by
  refine ((dat1 V c).read_blk_arrAt_eq_flushed 2 (fun t t' _ _ hne => (cfg1.win 2).disjoint_blk fun h => hne (once1 t t' h)) cfg1.N t t.isLt (flush1_2 t)).trans
    (Eq.trans (b := out1_2 (iblk1 V c 0 t) (iblk1 V c 1 t)) ?_ ?_)
  · show (cfg1.win 2).cut (grid1.coords t) ((dat1 V c).after 2 t) = _
    rw [after1_2]
    rfl
  · rw [out1_2, View.canon_unit_zero off2, View.ld_unit_zero off2, View.ld_unit_zero off2]

theorem xq_dx_is (hX : E2 (a := 2048) (b := 1024) (V c (Pipeline.arrRef spec1 0)) f)
    (hY : E2 (a := 1024) (b := 1024) (V c (Pipeline.arrRef spec1 1)) g) :
    E2 (a := 2048) (b := 1024) ((dat1 V c).arrAt 2 cfg1.N) fun i j => ∑ k ∈ range 1024, f i k * g j k :=
  nt_blocks 1 2 2048 512 rfl rfl (by decide +kernel) (fun t => ((cfg1.win 2).blk t).view.emb) (fun t x k => (Pipeline.Window.rect_emb_val (cfg1.win 2) t x k rfl).trans (corner (index1_2 t) k))
    (fun t => ((cfg1.win 0).blk t).view.emb) (fun t => ((cfg1.win 1).blk t).view.emb)
    (fun t x k => (Pipeline.Window.rect_emb_val (cfg1.win 0) t x k rfl).trans (corner (index1_0 t) k))
    (fun t x k => (Pipeline.Window.rect_emb_val (cfg1.win 1) t x k rfl).trans (corner (index1_1 t) k)) hX hY
    fun t _ _ hx hy => .of_eq (left1 V c t) (nt_is (φ := .bf16) (ψ := .bf16) (x := iblk1 V c 0 t) (y := iblk1 V c 1 t) hx hy)

/-! ## The gradient of the square weights -/

theorem index2_0 : ∀ (t : Fin cfg2.N) (k : Fin 2), (cfg2.win 0).index t k = (![0, t.val / 1] : Fin 2 → ℕ) k := by decide +kernel
theorem index2_1 : ∀ (t : Fin cfg2.N) (k : Fin 2), (cfg2.win 1).index t k = (![0, t.val % 1] : Fin 2 → ℕ) k := by decide +kernel
theorem index2_2 : ∀ (t : Fin cfg2.N) (k : Fin 2), (cfg2.win 2).index t k = (![t.val / 1, t.val % 1] : Fin 2 → ℕ) k := by decide +kernel
theorem once2 : ∀ t t' : Fin cfg2.N, (cfg2.win 2).index t = (cfg2.win 2).index t' → t = t' := by decide +kernel

theorem left2 (t : Fin cfg2.N) : ((cfg2.win 2).blk t).view.read (Elt Ideal) ((dat2 V c).arrAt 2 cfg2.N) = k2_pay1 (F := Ideal) (iblk2 V c 0 t) (iblk2 V c 1 t) := by
  refine ((dat2 V c).read_blk_arrAt_eq_flushed 2 (fun t t' _ _ hne => (cfg2.win 2).disjoint_blk fun h => hne (once2 t t' h)) cfg2.N t t.isLt (flush2_2 t)).trans
    (Eq.trans (b := out2_2 (iblk2 V c 0 t) (iblk2 V c 1 t)) ?_ ?_)
  · show (cfg2.win 2).cut (grid2.coords t) ((dat2 V c).after 2 t) = _
    rw [after2_2]
    rfl
  · rw [out2_2, View.canon_unit_zero off2, View.ld_unit_zero off2, View.ld_unit_zero off2]

theorem xq_dw_is (hX : E2 (a := 2048) (b := 1024) (V c (Pipeline.arrRef spec2 0)) f)
    (hY : E2 (a := 2048) (b := 1024) (V c (Pipeline.arrRef spec2 1)) g) :
    E2 (a := 1024) (b := 1024) ((dat2 V c).arrAt 2 cfg2.N) fun i j => ∑ k ∈ range 2048, f k i * g k j :=
  tn_blocks 1 1 1024 1024 rfl rfl (by decide +kernel) (fun t => ((cfg2.win 2).blk t).view.emb) (fun t x k => (Pipeline.Window.rect_emb_val (cfg2.win 2) t x k rfl).trans (corner (index2_2 t) k))
    (fun t => ((cfg2.win 0).blk t).view.emb) (fun t => ((cfg2.win 1).blk t).view.emb)
    (fun t x k => (Pipeline.Window.rect_emb_val (cfg2.win 0) t x k rfl).trans (corner (index2_0 t) k))
    (fun t x k => (Pipeline.Window.rect_emb_val (cfg2.win 1) t x k rfl).trans (corner (index2_1 t) k)) hX hY
    fun t _ _ hx hy => .of_eq (left2 V c t) (tn_is (φ := .bf16) (ψ := .bf16) (x := iblk2 V c 0 t) (y := iblk2 V c 1 t) hx hy)

/-! ## The product with the memory's weights -/

theorem index3_0 : ∀ (t : Fin cfg3.N) (k : Fin 2), (cfg3.win 0).index t k = (![t.val / 4, 0] : Fin 2 → ℕ) k := by decide +kernel
theorem index3_1 : ∀ (t : Fin cfg3.N) (k : Fin 2), (cfg3.win 1).index t k = (![0, t.val % 4] : Fin 2 → ℕ) k := by decide +kernel
theorem index3_2 : ∀ (t : Fin cfg3.N) (k : Fin 2), (cfg3.win 2).index t k = (![t.val / 4, t.val % 4] : Fin 2 → ℕ) k := by decide +kernel
theorem once3 : ∀ t t' : Fin cfg3.N, (cfg3.win 2).index t = (cfg3.win 2).index t' → t = t' := by decide +kernel

theorem left3 (t : Fin cfg3.N) : ((cfg3.win 2).blk t).view.read (Elt Ideal) ((dat3 V c).arrAt 2 cfg3.N) = k3_pay1 (F := Ideal) (iblk3 V c 0 t) (iblk3 V c 1 t) := by
  refine ((dat3 V c).read_blk_arrAt_eq_flushed 2 (fun t t' _ _ hne => (cfg3.win 2).disjoint_blk fun h => hne (once3 t t' h)) cfg3.N t t.isLt (flush3_2 t)).trans
    (Eq.trans (b := out3_2 (iblk3 V c 0 t) (iblk3 V c 1 t)) ?_ ?_)
  · show (cfg3.win 2).cut (grid3.coords t) ((dat3 V c).after 2 t) = _
    rw [after3_2]
    rfl
  · rw [out3_2, View.canon_unit_zero off2, View.ld_unit_zero off2, View.ld_unit_zero off2]

theorem xkv_is (hX : E2 (a := 256) (b := 1024) (V c (Pipeline.arrRef spec3 0)) f)
    (hY : E2 (a := 1024) (b := 2048) (V c (Pipeline.arrRef spec3 1)) g) :
    E2 (a := 256) (b := 2048) ((dat3 V c).arrAt 2 cfg3.N) fun i j => ∑ k ∈ range 1024, f i k * g k j :=
  nn_blocks 1 4 256 512 rfl rfl (by decide +kernel) (fun t => ((cfg3.win 2).blk t).view.emb) (fun t x k => (Pipeline.Window.rect_emb_val (cfg3.win 2) t x k rfl).trans (corner (index3_2 t) k))
    (fun t => ((cfg3.win 0).blk t).view.emb) (fun t => ((cfg3.win 1).blk t).view.emb)
    (fun t x k => (Pipeline.Window.rect_emb_val (cfg3.win 0) t x k rfl).trans (corner (index3_0 t) k))
    (fun t x k => (Pipeline.Window.rect_emb_val (cfg3.win 1) t x k rfl).trans (corner (index3_1 t) k)) hX hY
    fun t _ _ hx hy => .of_eq (left3 V c t) (nn_is (φ := .bf16) (ψ := .bf16) (x := iblk3 V c 0 t) (y := iblk3 V c 1 t) hx hy)

/-! ## The cotangent of the memory -/

theorem index4_0 : ∀ (t : Fin cfg4.N) (k : Fin 2), (cfg4.win 0).index t k = (![t.val / 2, 0] : Fin 2 → ℕ) k := by decide +kernel
theorem index4_1 : ∀ (t : Fin cfg4.N) (k : Fin 2), (cfg4.win 1).index t k = (![t.val % 2, 0] : Fin 2 → ℕ) k := by decide +kernel
theorem index4_2 : ∀ (t : Fin cfg4.N) (k : Fin 2), (cfg4.win 2).index t k = (![t.val / 2, t.val % 2] : Fin 2 → ℕ) k := by decide +kernel
theorem once4 : ∀ t t' : Fin cfg4.N, (cfg4.win 2).index t = (cfg4.win 2).index t' → t = t' := by decide +kernel

theorem left4 (t : Fin cfg4.N) : ((cfg4.win 2).blk t).view.read (Elt Ideal) ((dat4 V c).arrAt 2 cfg4.N) = k4_pay1 (F := Ideal) (iblk4 V c 0 t) (iblk4 V c 1 t) := by
  refine ((dat4 V c).read_blk_arrAt_eq_flushed 2 (fun t t' _ _ hne => (cfg4.win 2).disjoint_blk fun h => hne (once4 t t' h)) cfg4.N t t.isLt (flush4_2 t)).trans
    (Eq.trans (b := out4_2 (iblk4 V c 0 t) (iblk4 V c 1 t)) ?_ ?_)
  · show (cfg4.win 2).cut (grid4.coords t) ((dat4 V c).after 2 t) = _
    rw [after4_2]
    rfl
  · rw [out4_2, View.canon_unit_zero off2, View.ld_unit_zero off2, View.ld_unit_zero off2]

theorem xkv_dx_is (hX : E2 (a := 256) (b := 2048) (V c (Pipeline.arrRef spec4 0)) f)
    (hY : E2 (a := 1024) (b := 2048) (V c (Pipeline.arrRef spec4 1)) g) :
    E2 (a := 256) (b := 1024) ((dat4 V c).arrAt 2 cfg4.N) fun i j => ∑ k ∈ range 2048, f i k * g j k :=
  nt_blocks 1 2 256 512 rfl rfl (by decide +kernel) (fun t => ((cfg4.win 2).blk t).view.emb) (fun t x k => (Pipeline.Window.rect_emb_val (cfg4.win 2) t x k rfl).trans (corner (index4_2 t) k))
    (fun t => ((cfg4.win 0).blk t).view.emb) (fun t => ((cfg4.win 1).blk t).view.emb)
    (fun t x k => (Pipeline.Window.rect_emb_val (cfg4.win 0) t x k rfl).trans (corner (index4_0 t) k))
    (fun t x k => (Pipeline.Window.rect_emb_val (cfg4.win 1) t x k rfl).trans (corner (index4_1 t) k)) hX hY
    fun t _ _ hx hy => .of_eq (left4 V c t) (nt_is (φ := .bf16) (ψ := .bf16) (x := iblk4 V c 0 t) (y := iblk4 V c 1 t) hx hy)

/-! ## The gradient of the memory's weights -/

theorem index5_0 : ∀ (t : Fin cfg5.N) (k : Fin 2), (cfg5.win 0).index t k = (![0, t.val / 4] : Fin 2 → ℕ) k := by decide +kernel
theorem index5_1 : ∀ (t : Fin cfg5.N) (k : Fin 2), (cfg5.win 1).index t k = (![0, t.val % 4] : Fin 2 → ℕ) k := by decide +kernel
theorem index5_2 : ∀ (t : Fin cfg5.N) (k : Fin 4), (cfg5.win 2).index t k = (![t.val % 4, t.val / 4, 0, 0] : Fin 4 → ℕ) k := by decide +kernel
theorem once5 : ∀ t t' : Fin cfg5.N, (cfg5.win 2).index t = (cfg5.win 2).index t' → t = t' := by decide +kernel

theorem left5 (t : Fin cfg5.N) : ((cfg5.win 2).blk t).view.read (Elt Ideal) ((dat5 V c).arrAt 2 cfg5.N) = k5_pay1 (F := Ideal) (iblk5 V c 0 t) (iblk5 V c 1 t) := by
  refine ((dat5 V c).read_blk_arrAt_eq_flushed 2 (fun t t' _ _ hne => (cfg5.win 2).disjoint_blk fun h => hne (once5 t t' h)) cfg5.N t t.isLt (flush5_2 t)).trans
    (Eq.trans (b := out5_2 (iblk5 V c 0 t) (iblk5 V c 1 t)) ?_ ?_)
  · show (cfg5.win 2).cut (grid5.coords t) ((dat5 V c).after 2 t) = _
    rw [after5_2]
    rfl
  · rw [out5_2, View.canon_unit_zero off4, View.ld_unit_zero off2, View.ld_unit_zero off2]

theorem xkv_dw_is (hX : E2 (a := 256) (b := 1024) (V c (Pipeline.arrRef spec5 0)) f)
    (hY : E2 (a := 256) (b := 2048) (V c (Pipeline.arrRef spec5 1)) g) :
    E4 (a := 4) (b := 2) (c := 512) (d := 512) ((dat5 V c).arrAt 2 cfg5.N) fun j i r s => ∑ k ∈ range 256, f k (i * 512 + r) * g k (j * 512 + s) :=
  tn_parts (A := 1024) (B := 2048) 2 4 512 512 (by decide +kernel) (fun t => ((cfg5.win 2).blk t).view.emb) (fun t x k => (Pipeline.Window.rect_emb_val (cfg5.win 2) t x k rfl).trans (corner4 (index5_2 t) k))
    (fun t => ((cfg5.win 0).blk t).view.emb) (fun t => ((cfg5.win 1).blk t).view.emb)
    (fun t x k => (Pipeline.Window.rect_emb_val (cfg5.win 0) t x k rfl).trans (corner (index5_0 t) k))
    (fun t x k => (Pipeline.Window.rect_emb_val (cfg5.win 1) t x k rfl).trans (corner (index5_1 t) k)) hX hY
    fun t _ _ hx hy => .of_eq (left5 V c t) (E2.lift (E2.narrow (ψ := .bf16) (tn_is (φ := .bf16) (ψ := .bf16) (h'' := dot_S256x512_S256x512_S512x512_0_0_1_1_n_n_wf)
      (x := iblk5 V c 0 t) (y := iblk5 V c 1 t) hx hy) bitsLt_bf16_f32) shapeCasts_S512x512_S1x1x512x512)

/-! ## The product that opens a convolution layer -/

theorem index6_0 : ∀ (t : Fin cfg6.N) (k : Fin 2), (cfg6.win 0).index t k = (![t.val / 4, 0] : Fin 2 → ℕ) k := by decide +kernel
theorem index6_1 : ∀ (t : Fin cfg6.N) (k : Fin 2), (cfg6.win 1).index t k = (![0, t.val % 4] : Fin 2 → ℕ) k := by decide +kernel
theorem index6_2 : ∀ (t : Fin cfg6.N) (k : Fin 2), (cfg6.win 2).index t k = (![t.val / 4, t.val % 4] : Fin 2 → ℕ) k := by decide +kernel
theorem once6 : ∀ t t' : Fin cfg6.N, (cfg6.win 2).index t = (cfg6.win 2).index t' → t = t' := by decide +kernel

theorem left6 (t : Fin cfg6.N) : ((cfg6.win 2).blk t).view.read (Elt Ideal) ((dat6 V c).arrAt 2 cfg6.N) = k6_pay1 (F := Ideal) (iblk6 V c 0 t) (iblk6 V c 1 t) := by
  refine ((dat6 V c).read_blk_arrAt_eq_flushed 2 (fun t t' _ _ hne => (cfg6.win 2).disjoint_blk fun h => hne (once6 t t' h)) cfg6.N t t.isLt (flush6_2 t)).trans
    (Eq.trans (b := out6_2 (iblk6 V c 0 t) (iblk6 V c 1 t)) ?_ ?_)
  · show (cfg6.win 2).cut (grid6.coords t) ((dat6 V c).after 2 t) = _
    rw [after6_2]
    rfl
  · rw [out6_2, View.canon_unit_zero off2, View.ld_unit_zero off2, View.ld_unit_zero off2]

theorem c_in_is (hX : E2 (a := 2048) (b := 1024) (V c (Pipeline.arrRef spec6 0)) f)
    (hY : E2 (a := 1024) (b := 2048) (V c (Pipeline.arrRef spec6 1)) g) :
    E2 (a := 2048) (b := 2048) ((dat6 V c).arrAt 2 cfg6.N) fun i j => ∑ k ∈ range 1024, f i k * g k j :=
  nn_blocks 1 4 2048 512 rfl rfl (by decide +kernel) (fun t => ((cfg6.win 2).blk t).view.emb) (fun t x k => (Pipeline.Window.rect_emb_val (cfg6.win 2) t x k rfl).trans (corner (index6_2 t) k))
    (fun t => ((cfg6.win 0).blk t).view.emb) (fun t => ((cfg6.win 1).blk t).view.emb)
    (fun t x k => (Pipeline.Window.rect_emb_val (cfg6.win 0) t x k rfl).trans (corner (index6_0 t) k))
    (fun t x k => (Pipeline.Window.rect_emb_val (cfg6.win 1) t x k rfl).trans (corner (index6_1 t) k)) hX hY
    fun t _ _ hx hy => .of_eq (left6 V c t) (nn_is (φ := .bf16) (ψ := .bf16) (x := iblk6 V c 0 t) (y := iblk6 V c 1 t) hx hy)

/-! ## The cotangent of a convolution layer's input -/

theorem index7_0 : ∀ (t : Fin cfg7.N) (k : Fin 2), (cfg7.win 0).index t k = (![t.val / 2, 0] : Fin 2 → ℕ) k := by decide +kernel
theorem index7_1 : ∀ (t : Fin cfg7.N) (k : Fin 2), (cfg7.win 1).index t k = (![t.val % 2, 0] : Fin 2 → ℕ) k := by decide +kernel
theorem index7_2 : ∀ (t : Fin cfg7.N) (k : Fin 2), (cfg7.win 2).index t k = (![t.val / 2, t.val % 2] : Fin 2 → ℕ) k := by decide +kernel
theorem once7 : ∀ t t' : Fin cfg7.N, (cfg7.win 2).index t = (cfg7.win 2).index t' → t = t' := by decide +kernel

theorem left7 (t : Fin cfg7.N) : ((cfg7.win 2).blk t).view.read (Elt Ideal) ((dat7 V c).arrAt 2 cfg7.N) = k7_pay1 (F := Ideal) (iblk7 V c 0 t) (iblk7 V c 1 t) := by
  refine ((dat7 V c).read_blk_arrAt_eq_flushed 2 (fun t t' _ _ hne => (cfg7.win 2).disjoint_blk fun h => hne (once7 t t' h)) cfg7.N t t.isLt (flush7_2 t)).trans
    (Eq.trans (b := out7_2 (iblk7 V c 0 t) (iblk7 V c 1 t)) ?_ ?_)
  · show (cfg7.win 2).cut (grid7.coords t) ((dat7 V c).after 2 t) = _
    rw [after7_2]
    rfl
  · rw [out7_2, View.canon_unit_zero off2, View.ld_unit_zero off2, View.ld_unit_zero off2]

theorem c_in_dx_is (hX : E2 (a := 2048) (b := 2048) (V c (Pipeline.arrRef spec7 0)) f)
    (hY : E2 (a := 1024) (b := 2048) (V c (Pipeline.arrRef spec7 1)) g) :
    E2 (a := 2048) (b := 1024) ((dat7 V c).arrAt 2 cfg7.N) fun i j => ∑ k ∈ range 2048, f i k * g j k :=
  nt_blocks 2 2 1024 512 rfl rfl (by decide +kernel) (fun t => ((cfg7.win 2).blk t).view.emb) (fun t x k => (Pipeline.Window.rect_emb_val (cfg7.win 2) t x k rfl).trans (corner (index7_2 t) k))
    (fun t => ((cfg7.win 0).blk t).view.emb) (fun t => ((cfg7.win 1).blk t).view.emb)
    (fun t x k => (Pipeline.Window.rect_emb_val (cfg7.win 0) t x k rfl).trans (corner (index7_0 t) k))
    (fun t x k => (Pipeline.Window.rect_emb_val (cfg7.win 1) t x k rfl).trans (corner (index7_1 t) k)) hX hY
    fun t _ _ hx hy => .of_eq (left7 V c t) (nt_is (φ := .bf16) (ψ := .bf16) (x := iblk7 V c 0 t) (y := iblk7 V c 1 t) hx hy)

/-! ## The gradient of a convolution layer's weights -/

theorem index8_0 : ∀ (t : Fin cfg8.N) (k : Fin 2), (cfg8.win 0).index t k = (![0, t.val / 4] : Fin 2 → ℕ) k := by decide +kernel
theorem index8_1 : ∀ (t : Fin cfg8.N) (k : Fin 2), (cfg8.win 1).index t k = (![0, t.val % 4] : Fin 2 → ℕ) k := by decide +kernel
theorem index8_2 : ∀ (t : Fin cfg8.N) (k : Fin 4), (cfg8.win 2).index t k = (![t.val % 4, t.val / 4, 0, 0] : Fin 4 → ℕ) k := by decide +kernel
theorem once8 : ∀ t t' : Fin cfg8.N, (cfg8.win 2).index t = (cfg8.win 2).index t' → t = t' := by decide +kernel

theorem left8 (t : Fin cfg8.N) : ((cfg8.win 2).blk t).view.read (Elt Ideal) ((dat8 V c).arrAt 2 cfg8.N) = k8_pay1 (F := Ideal) (iblk8 V c 0 t) (iblk8 V c 1 t) := by
  refine ((dat8 V c).read_blk_arrAt_eq_flushed 2 (fun t t' _ _ hne => (cfg8.win 2).disjoint_blk fun h => hne (once8 t t' h)) cfg8.N t t.isLt (flush8_2 t)).trans
    (Eq.trans (b := out8_2 (iblk8 V c 0 t) (iblk8 V c 1 t)) ?_ ?_)
  · show (cfg8.win 2).cut (grid8.coords t) ((dat8 V c).after 2 t) = _
    rw [after8_2]
    rfl
  · rw [out8_2, View.canon_unit_zero off4, View.ld_unit_zero off2, View.ld_unit_zero off2]

theorem c_in_dw_is (hX : E2 (a := 2048) (b := 1024) (V c (Pipeline.arrRef spec8 0)) f)
    (hY : E2 (a := 2048) (b := 2048) (V c (Pipeline.arrRef spec8 1)) g) :
    E4 (a := 4) (b := 2) (c := 512) (d := 512) ((dat8 V c).arrAt 2 cfg8.N) fun j i r s => ∑ k ∈ range 2048, f k (i * 512 + r) * g k (j * 512 + s) :=
  tn_parts (A := 1024) (B := 2048) 2 4 512 512 (by decide +kernel) (fun t => ((cfg8.win 2).blk t).view.emb) (fun t x k => (Pipeline.Window.rect_emb_val (cfg8.win 2) t x k rfl).trans (corner4 (index8_2 t) k))
    (fun t => ((cfg8.win 0).blk t).view.emb) (fun t => ((cfg8.win 1).blk t).view.emb)
    (fun t x k => (Pipeline.Window.rect_emb_val (cfg8.win 0) t x k rfl).trans (corner (index8_0 t) k))
    (fun t x k => (Pipeline.Window.rect_emb_val (cfg8.win 1) t x k rfl).trans (corner (index8_1 t) k)) hX hY
    fun t _ _ hx hy => .of_eq (left8 V c t) (E2.lift (E2.narrow (ψ := .bf16) (tn_is (φ := .bf16) (ψ := .bf16) (h'' := dot_S2048x512_S2048x512_S512x512_0_0_1_1_n_n_wf)
      (x := iblk8 V c 0 t) (y := iblk8 V c 1 t) hx hy) bitsLt_bf16_f32) shapeCasts_S512x512_S1x1x512x512)

/-! ## The product that opens an attention layer -/

theorem index9_0 : ∀ (t : Fin cfg9.N) (k : Fin 2), (cfg9.win 0).index t k = (![t.val / 5, 0] : Fin 2 → ℕ) k := by decide +kernel
theorem index9_1 : ∀ (t : Fin cfg9.N) (k : Fin 2), (cfg9.win 1).index t k = (![0, t.val % 5] : Fin 2 → ℕ) k := by decide +kernel
theorem index9_2 : ∀ (t : Fin cfg9.N) (k : Fin 2), (cfg9.win 2).index t k = (![t.val / 5, t.val % 5] : Fin 2 → ℕ) k := by decide +kernel
theorem once9 : ∀ t t' : Fin cfg9.N, (cfg9.win 2).index t = (cfg9.win 2).index t' → t = t' := by decide +kernel

theorem left9 (t : Fin cfg9.N) : ((cfg9.win 2).blk t).view.read (Elt Ideal) ((dat9 V c).arrAt 2 cfg9.N) = k9_pay1 (F := Ideal) (iblk9 V c 0 t) (iblk9 V c 1 t) := by
  refine ((dat9 V c).read_blk_arrAt_eq_flushed 2 (fun t t' _ _ hne => (cfg9.win 2).disjoint_blk fun h => hne (once9 t t' h)) cfg9.N t t.isLt (flush9_2 t)).trans
    (Eq.trans (b := out9_2 (iblk9 V c 0 t) (iblk9 V c 1 t)) ?_ ?_)
  · show (cfg9.win 2).cut (grid9.coords t) ((dat9 V c).after 2 t) = _
    rw [after9_2]
    rfl
  · rw [out9_2, View.canon_unit_zero off2, View.ld_unit_zero off2, View.ld_unit_zero off2]

theorem ab_in_is (hX : E2 (a := 2048) (b := 1024) (V c (Pipeline.arrRef spec9 0)) f)
    (hY : E2 (a := 1024) (b := 3200) (V c (Pipeline.arrRef spec9 1)) g) :
    E2 (a := 2048) (b := 3200) ((dat9 V c).arrAt 2 cfg9.N) fun i j => ∑ k ∈ range 1024, f i k * g k j :=
  nn_blocks 1 5 2048 640 rfl rfl (by decide +kernel) (fun t => ((cfg9.win 2).blk t).view.emb) (fun t x k => (Pipeline.Window.rect_emb_val (cfg9.win 2) t x k rfl).trans (corner (index9_2 t) k))
    (fun t => ((cfg9.win 0).blk t).view.emb) (fun t => ((cfg9.win 1).blk t).view.emb)
    (fun t x k => (Pipeline.Window.rect_emb_val (cfg9.win 0) t x k rfl).trans (corner (index9_0 t) k))
    (fun t x k => (Pipeline.Window.rect_emb_val (cfg9.win 1) t x k rfl).trans (corner (index9_1 t) k)) hX hY
    fun t _ _ hx hy => .of_eq (left9 V c t) (nn_is (φ := .bf16) (ψ := .bf16) (x := iblk9 V c 0 t) (y := iblk9 V c 1 t) hx hy)

/-! ## The cotangent of an attention layer's input -/

theorem index10_0 : ∀ (t : Fin cfg10.N) (k : Fin 2), (cfg10.win 0).index t k = (![t.val / 2, 0] : Fin 2 → ℕ) k := by decide +kernel
theorem index10_1 : ∀ (t : Fin cfg10.N) (k : Fin 2), (cfg10.win 1).index t k = (![t.val % 2, 0] : Fin 2 → ℕ) k := by decide +kernel
theorem index10_2 : ∀ (t : Fin cfg10.N) (k : Fin 2), (cfg10.win 2).index t k = (![t.val / 2, t.val % 2] : Fin 2 → ℕ) k := by decide +kernel
theorem once10 : ∀ t t' : Fin cfg10.N, (cfg10.win 2).index t = (cfg10.win 2).index t' → t = t' := by decide +kernel

theorem left10 (t : Fin cfg10.N) : ((cfg10.win 2).blk t).view.read (Elt Ideal) ((dat10 V c).arrAt 2 cfg10.N) = k10_pay1 (F := Ideal) (iblk10 V c 0 t) (iblk10 V c 1 t) := by
  refine ((dat10 V c).read_blk_arrAt_eq_flushed 2 (fun t t' _ _ hne => (cfg10.win 2).disjoint_blk fun h => hne (once10 t t' h)) cfg10.N t t.isLt (flush10_2 t)).trans
    (Eq.trans (b := out10_2 (iblk10 V c 0 t) (iblk10 V c 1 t)) ?_ ?_)
  · show (cfg10.win 2).cut (grid10.coords t) ((dat10 V c).after 2 t) = _
    rw [after10_2]
    rfl
  · rw [out10_2, View.canon_unit_zero off2, View.ld_unit_zero off2, View.ld_unit_zero off2]

theorem ab_in_dx_is (hX : E2 (a := 2048) (b := 3200) (V c (Pipeline.arrRef spec10 0)) f)
    (hY : E2 (a := 1024) (b := 3200) (V c (Pipeline.arrRef spec10 1)) g) :
    E2 (a := 2048) (b := 1024) ((dat10 V c).arrAt 2 cfg10.N) fun i j => ∑ k ∈ range 3200, f i k * g j k :=
  nt_blocks 2 2 1024 512 rfl rfl (by decide +kernel) (fun t => ((cfg10.win 2).blk t).view.emb) (fun t x k => (Pipeline.Window.rect_emb_val (cfg10.win 2) t x k rfl).trans (corner (index10_2 t) k))
    (fun t => ((cfg10.win 0).blk t).view.emb) (fun t => ((cfg10.win 1).blk t).view.emb)
    (fun t x k => (Pipeline.Window.rect_emb_val (cfg10.win 0) t x k rfl).trans (corner (index10_0 t) k))
    (fun t x k => (Pipeline.Window.rect_emb_val (cfg10.win 1) t x k rfl).trans (corner (index10_1 t) k)) hX hY
    fun t _ _ hx hy => .of_eq (left10 V c t) (nt_is (φ := .bf16) (ψ := .bf16) (x := iblk10 V c 0 t) (y := iblk10 V c 1 t) hx hy)

/-! ## The gradient of an attention layer's weights -/

theorem index11_0 : ∀ (t : Fin cfg11.N) (k : Fin 2), (cfg11.win 0).index t k = (![0, t.val / 5] : Fin 2 → ℕ) k := by decide +kernel
theorem index11_1 : ∀ (t : Fin cfg11.N) (k : Fin 2), (cfg11.win 1).index t k = (![0, t.val % 5] : Fin 2 → ℕ) k := by decide +kernel
theorem index11_2 : ∀ (t : Fin cfg11.N) (k : Fin 2), (cfg11.win 2).index t k = (![t.val / 5, t.val % 5] : Fin 2 → ℕ) k := by decide +kernel
theorem once11 : ∀ t t' : Fin cfg11.N, (cfg11.win 2).index t = (cfg11.win 2).index t' → t = t' := by decide +kernel

theorem left11 (t : Fin cfg11.N) : ((cfg11.win 2).blk t).view.read (Elt Ideal) ((dat11 V c).arrAt 2 cfg11.N) = k11_pay1 (F := Ideal) (iblk11 V c 0 t) (iblk11 V c 1 t) := by
  refine ((dat11 V c).read_blk_arrAt_eq_flushed 2 (fun t t' _ _ hne => (cfg11.win 2).disjoint_blk fun h => hne (once11 t t' h)) cfg11.N t t.isLt (flush11_2 t)).trans
    (Eq.trans (b := out11_2 (iblk11 V c 0 t) (iblk11 V c 1 t)) ?_ ?_)
  · show (cfg11.win 2).cut (grid11.coords t) ((dat11 V c).after 2 t) = _
    rw [after11_2]
    rfl
  · rw [out11_2, View.canon_unit_zero off2, View.ld_unit_zero off2, View.ld_unit_zero off2]

theorem ab_in_dw_is (hX : E2 (a := 2048) (b := 1024) (V c (Pipeline.arrRef spec11 0)) f)
    (hY : E2 (a := 2048) (b := 3200) (V c (Pipeline.arrRef spec11 1)) g) :
    E2 (a := 1024) (b := 3200) ((dat11 V c).arrAt 2 cfg11.N) fun i j => ∑ k ∈ range 2048, f k i * g k j :=
  tn_blocks 1 5 1024 640 rfl rfl (by decide +kernel) (fun t => ((cfg11.win 2).blk t).view.emb) (fun t x k => (Pipeline.Window.rect_emb_val (cfg11.win 2) t x k rfl).trans (corner (index11_2 t) k))
    (fun t => ((cfg11.win 0).blk t).view.emb) (fun t => ((cfg11.win 1).blk t).view.emb)
    (fun t x k => (Pipeline.Window.rect_emb_val (cfg11.win 0) t x k rfl).trans (corner (index11_0 t) k))
    (fun t x k => (Pipeline.Window.rect_emb_val (cfg11.win 1) t x k rfl).trans (corner (index11_1 t) k)) hX hY
    fun t _ _ hx hy => .of_eq (left11 V c t) (tn_is (φ := .bf16) (ψ := .bf16) (x := iblk11 V c 0 t) (y := iblk11 V c 1 t) hx hy)

end Ker

end Lin

end
-- ==== Proof.LinKerValue.lean ====
/- The results of the program of products, from its arguments, whatever they hold: each call's product, which the later calls
   leave as it is. -/
module

public import proofs.«01_k».proof.Proof.LinBlocks

@[expose] public section

noncomputable section

namespace Lin.Ker

open Idealize.ShloMosaic Idealize.ShloMosaic.TcCoe Idealize.ShloMosaic.ValueIdx Cert.LinKernelIdeal Cert.LinKernelIdeal.Gen Finset

/-- The entries of the arguments: a layer's input, its weights and the cotangent of their product, of each of four shapes. -/
structure Given (m : (ℓ : Loc nD τ sig) → Buf (Elt Ideal) ℓ) (c : Dev nD) (xo wo yo xm wm ym xc wc yc xa wa ya : ℕ → ℕ → EReal) : Prop where
  xo : E2 (a := 2048) (b := 1024) (m ((c.tc : Thread nD τ).loc main_arg0)) xo
  wo : E2 (a := 1024) (b := 1024) (m ((c.tc : Thread nD τ).loc main_arg1)) wo
  yo : E2 (a := 2048) (b := 1024) (m ((c.tc : Thread nD τ).loc main_arg2)) yo
  xm : E2 (a := 256) (b := 1024) (m ((c.tc : Thread nD τ).loc main_arg3)) xm
  wm : E2 (a := 1024) (b := 2048) (m ((c.tc : Thread nD τ).loc main_arg4)) wm
  ym : E2 (a := 256) (b := 2048) (m ((c.tc : Thread nD τ).loc main_arg5)) ym
  xc : E2 (a := 2048) (b := 1024) (m ((c.tc : Thread nD τ).loc main_arg6)) xc
  wc : E2 (a := 1024) (b := 2048) (m ((c.tc : Thread nD τ).loc main_arg7)) wc
  yc : E2 (a := 2048) (b := 2048) (m ((c.tc : Thread nD τ).loc main_arg8)) yc
  xa : E2 (a := 2048) (b := 1024) (m ((c.tc : Thread nD τ).loc main_arg9)) xa
  wa : E2 (a := 1024) (b := 3200) (m ((c.tc : Thread nD τ).loc main_arg10)) wa
  ya : E2 (a := 2048) (b := 3200) (m ((c.tc : Thread nD τ).loc main_arg11)) ya

variable {m : (ℓ : Loc nD τ sig) → Buf (Elt Ideal) ℓ} {c : Dev nD} {xo wo yo xm wm ym xc wc yc xa wa ya : ℕ → ℕ → EReal}
  (A : Given m c xo wo yo xm wm ym xc wc yc xa wa ya) (ρ : Dev nD → PrngReg)

include A

theorem xq_end : E2 (a := 2048) (b := 1024) (W12 m ρ c (Proc.devRef .tc main_v0)) fun i j => ∑ k ∈ range 1024, xo i k * wo k j :=
  .of_eq (W12_of m ρ c main_v0 (by decide)) <| .of_eq (W11_of m ρ c main_v0 (by decide)) <| .of_eq (W10_of m ρ c main_v0 (by decide)) <|
    .of_eq (W9_of m ρ c main_v0 (by decide)) <| .of_eq (W8_of m ρ c main_v0 (by decide)) <| .of_eq (W7_of m ρ c main_v0 (by decide)) <|
    .of_eq (W6_of m ρ c main_v0 (by decide)) <| .of_eq (W5_of m ρ c main_v0 (by decide)) <| .of_eq (W4_of m ρ c main_v0 (by decide)) <|
    .of_eq (W3_of m ρ c main_v0 (by decide)) <| .of_eq (W2_of m ρ c main_v0 (by decide)) <|
    .of_eq (W1_arr m ρ c 2) (xq_is (V0 m ρ) c A.xo A.wo)

theorem xq_dx_end : E2 (a := 2048) (b := 1024) (W12 m ρ c (Proc.devRef .tc main_v1)) fun i j => ∑ k ∈ range 1024, yo i k * wo j k :=
  .of_eq (W12_of m ρ c main_v1 (by decide)) <| .of_eq (W11_of m ρ c main_v1 (by decide)) <| .of_eq (W10_of m ρ c main_v1 (by decide)) <|
    .of_eq (W9_of m ρ c main_v1 (by decide)) <| .of_eq (W8_of m ρ c main_v1 (by decide)) <| .of_eq (W7_of m ρ c main_v1 (by decide)) <|
    .of_eq (W6_of m ρ c main_v1 (by decide)) <| .of_eq (W5_of m ρ c main_v1 (by decide)) <| .of_eq (W4_of m ρ c main_v1 (by decide)) <|
    .of_eq (W3_of m ρ c main_v1 (by decide)) <|
    .of_eq (W2_arr m ρ c 2) (xq_dx_is (V1 m ρ) c (.of_eq (W1_args m ρ c main_arg2 (by decide)) A.yo) (.of_eq (W1_args m ρ c main_arg1 (by decide)) A.wo))

theorem xq_dw_end : E2 (a := 1024) (b := 1024) (W12 m ρ c (Proc.devRef .tc main_v2)) fun i j => ∑ k ∈ range 2048, xo k i * yo k j :=
  .of_eq (W12_of m ρ c main_v2 (by decide)) <| .of_eq (W11_of m ρ c main_v2 (by decide)) <| .of_eq (W10_of m ρ c main_v2 (by decide)) <|
    .of_eq (W9_of m ρ c main_v2 (by decide)) <| .of_eq (W8_of m ρ c main_v2 (by decide)) <| .of_eq (W7_of m ρ c main_v2 (by decide)) <|
    .of_eq (W6_of m ρ c main_v2 (by decide)) <| .of_eq (W5_of m ρ c main_v2 (by decide)) <| .of_eq (W4_of m ρ c main_v2 (by decide)) <|
    .of_eq (W3_arr m ρ c 2) (xq_dw_is (V2 m ρ) c (.of_eq (W2_args m ρ c main_arg0 (by decide)) A.xo) (.of_eq (W2_args m ρ c main_arg2 (by decide)) A.yo))

theorem xkv_end : E2 (a := 256) (b := 2048) (W12 m ρ c (Proc.devRef .tc main_v3)) fun i j => ∑ k ∈ range 1024, xm i k * wm k j :=
  .of_eq (W12_of m ρ c main_v3 (by decide)) <| .of_eq (W11_of m ρ c main_v3 (by decide)) <| .of_eq (W10_of m ρ c main_v3 (by decide)) <|
    .of_eq (W9_of m ρ c main_v3 (by decide)) <| .of_eq (W8_of m ρ c main_v3 (by decide)) <| .of_eq (W7_of m ρ c main_v3 (by decide)) <|
    .of_eq (W6_of m ρ c main_v3 (by decide)) <| .of_eq (W5_of m ρ c main_v3 (by decide)) <|
    .of_eq (W4_arr m ρ c 2) (xkv_is (V3 m ρ) c (.of_eq (W3_args m ρ c main_arg3 (by decide)) A.xm) (.of_eq (W3_args m ρ c main_arg4 (by decide)) A.wm))

theorem xkv_dx_end : E2 (a := 256) (b := 1024) (W12 m ρ c (Proc.devRef .tc main_v4)) fun i j => ∑ k ∈ range 2048, ym i k * wm j k :=
  .of_eq (W12_of m ρ c main_v4 (by decide)) <| .of_eq (W11_of m ρ c main_v4 (by decide)) <| .of_eq (W10_of m ρ c main_v4 (by decide)) <|
    .of_eq (W9_of m ρ c main_v4 (by decide)) <| .of_eq (W8_of m ρ c main_v4 (by decide)) <| .of_eq (W7_of m ρ c main_v4 (by decide)) <|
    .of_eq (W6_of m ρ c main_v4 (by decide)) <|
    .of_eq (W5_arr m ρ c 2) (xkv_dx_is (V4 m ρ) c (.of_eq (W4_args m ρ c main_arg5 (by decide)) A.ym) (.of_eq (W4_args m ρ c main_arg4 (by decide)) A.wm))

theorem xkv_dw_end : E4 (a := 4) (b := 2) (c := 512) (d := 512) (W12 m ρ c (Proc.devRef .tc main_v5)) fun j i r s => ∑ k ∈ range 256, xm k (i * 512 + r) * ym k (j * 512 + s) :=
  .of_eq (W12_of m ρ c main_v5 (by decide)) <| .of_eq (W11_of m ρ c main_v5 (by decide)) <| .of_eq (W10_of m ρ c main_v5 (by decide)) <|
    .of_eq (W9_of m ρ c main_v5 (by decide)) <| .of_eq (W8_of m ρ c main_v5 (by decide)) <| .of_eq (W7_of m ρ c main_v5 (by decide)) <|
    .of_eq (W6_arr m ρ c 2) (xkv_dw_is (V5 m ρ) c (.of_eq (W5_args m ρ c main_arg3 (by decide)) A.xm) (.of_eq (W5_args m ρ c main_arg5 (by decide)) A.ym))

theorem c_in_end : E2 (a := 2048) (b := 2048) (W12 m ρ c (Proc.devRef .tc main_v6)) fun i j => ∑ k ∈ range 1024, xc i k * wc k j :=
  .of_eq (W12_of m ρ c main_v6 (by decide)) <| .of_eq (W11_of m ρ c main_v6 (by decide)) <| .of_eq (W10_of m ρ c main_v6 (by decide)) <|
    .of_eq (W9_of m ρ c main_v6 (by decide)) <| .of_eq (W8_of m ρ c main_v6 (by decide)) <|
    .of_eq (W7_arr m ρ c 2) (c_in_is (V6 m ρ) c (.of_eq (W6_args m ρ c main_arg6 (by decide)) A.xc) (.of_eq (W6_args m ρ c main_arg7 (by decide)) A.wc))

theorem c_in_dx_end : E2 (a := 2048) (b := 1024) (W12 m ρ c (Proc.devRef .tc main_v7)) fun i j => ∑ k ∈ range 2048, yc i k * wc j k :=
  .of_eq (W12_of m ρ c main_v7 (by decide)) <| .of_eq (W11_of m ρ c main_v7 (by decide)) <| .of_eq (W10_of m ρ c main_v7 (by decide)) <|
    .of_eq (W9_of m ρ c main_v7 (by decide)) <|
    .of_eq (W8_arr m ρ c 2) (c_in_dx_is (V7 m ρ) c (.of_eq (W7_args m ρ c main_arg8 (by decide)) A.yc) (.of_eq (W7_args m ρ c main_arg7 (by decide)) A.wc))

theorem c_in_dw_end : E4 (a := 4) (b := 2) (c := 512) (d := 512) (W12 m ρ c (Proc.devRef .tc main_v8)) fun j i r s => ∑ k ∈ range 2048, xc k (i * 512 + r) * yc k (j * 512 + s) :=
  .of_eq (W12_of m ρ c main_v8 (by decide)) <| .of_eq (W11_of m ρ c main_v8 (by decide)) <| .of_eq (W10_of m ρ c main_v8 (by decide)) <|
    .of_eq (W9_arr m ρ c 2) (c_in_dw_is (V8 m ρ) c (.of_eq (W8_args m ρ c main_arg6 (by decide)) A.xc) (.of_eq (W8_args m ρ c main_arg8 (by decide)) A.yc))

theorem ab_in_end : E2 (a := 2048) (b := 3200) (W12 m ρ c (Proc.devRef .tc main_v9)) fun i j => ∑ k ∈ range 1024, xa i k * wa k j :=
  .of_eq (W12_of m ρ c main_v9 (by decide)) <| .of_eq (W11_of m ρ c main_v9 (by decide)) <|
    .of_eq (W10_arr m ρ c 2) (ab_in_is (V9 m ρ) c (.of_eq (W9_args m ρ c main_arg9 (by decide)) A.xa) (.of_eq (W9_args m ρ c main_arg10 (by decide)) A.wa))

theorem ab_in_dx_end : E2 (a := 2048) (b := 1024) (W12 m ρ c (Proc.devRef .tc main_v10)) fun i j => ∑ k ∈ range 3200, ya i k * wa j k :=
  .of_eq (W12_of m ρ c main_v10 (by decide)) <|
    .of_eq (W11_arr m ρ c 2) (ab_in_dx_is (V10 m ρ) c (.of_eq (W10_args m ρ c main_arg11 (by decide)) A.ya) (.of_eq (W10_args m ρ c main_arg10 (by decide)) A.wa))

theorem ab_in_dw_end : E2 (a := 1024) (b := 3200) (W12 m ρ c (Proc.devRef .tc main_v11)) fun i j => ∑ k ∈ range 2048, xa k i * ya k j :=
  .of_eq (W12_arr m ρ c 2) (ab_in_dw_is (V11 m ρ) c (.of_eq (W11_args m ρ c main_arg9 (by decide)) A.xa) (.of_eq (W11_args m ρ c main_arg11 (by decide)) A.ya))

end Lin.Ker

end
-- ==== Proof.LinRefLine.lean ====
/- The host program of the products' reference as a line of operations, its run, and the equation of every buffer. -/
module

public import proofs.«01_k».proof.Proof.Gen.LinReferenceIdeal
public import proofs.«01_k».proof.Proof.Line
public import Idealize.ShloMosaic.Lib.StableHlo.Run
public import Idealize.ShloMosaic.Lib.Pipeline.Regions

@[expose] public section

noncomputable section

namespace Lin.Ref

open Cert.LinReferenceIdeal Cert.LinReferenceIdeal.Gen Idealize.ShloMosaic Idealize.ShloMosaic.TcCoe Idealize.SL.Sem Idealize.ShloMosaic.StableHlo Fox

variable {F : FTy → Type} [FloatOps F]

/-- The program's operations, in order. -/
abbrev ops : List (HloOp τ sig (Elt F)) :=
  [ unary main_arg0 main_v0 ((extf .f32 · bitsLt_bf16_f32) : Arr F S2048x1024 .bf16 → Arr F S2048x1024 .f32),
    unary main_arg1 main_v1 ((extf .f32 · bitsLt_bf16_f32) : Arr F S1024x1024 .bf16 → Arr F S1024x1024 .f32),
    binary main_v0 main_v1 main_v2 ((fun l r => Host.dotGeneral dot_S2048x1024_S1024x1024_S2048x1024_1_0_0_1_n_n none l r) : Arr F S2048x1024 .f32 → Arr F S1024x1024 .f32 → Arr F S2048x1024 .f32),
    unary main_arg2 main_v3 ((extf .f32 · bitsLt_bf16_f32) : Arr F S2048x1024 .bf16 → Arr F S2048x1024 .f32),
    binary main_v3 main_v0 main_v4 ((fun l r => Host.dotGeneral dot_S2048x1024_S2048x1024_S1024x1024_0_0_1_1_n_n none l r) : Arr F S2048x1024 .f32 → Arr F S2048x1024 .f32 → Arr F S1024x1024 .f32),
    unary main_v4 main_v5 ((transpose S1024x1024 [1, 0] · transposes_S1024x1024_S1024x1024_1_0) : Arr F S1024x1024 .f32 → Arr F S1024x1024 .f32),
    binary main_v3 main_v1 main_v6 ((fun l r => Host.dotGeneral dot_S2048x1024_S1024x1024_S2048x1024_1_1_0_0_n_n none l r) : Arr F S2048x1024 .f32 → Arr F S1024x1024 .f32 → Arr F S2048x1024 .f32),
    unary main_arg3 main_v7 ((extf .f32 · bitsLt_bf16_f32) : Arr F S256x1024 .bf16 → Arr F S256x1024 .f32),
    unary main_arg4 main_v8 ((extf .f32 · bitsLt_bf16_f32) : Arr F S1024x2048 .bf16 → Arr F S1024x2048 .f32),
    binary main_v7 main_v8 main_v9 ((fun l r => Host.dotGeneral dot_S256x1024_S1024x2048_S256x2048_1_0_0_1_n_n none l r) : Arr F S256x1024 .f32 → Arr F S1024x2048 .f32 → Arr F S256x2048 .f32),
    unary main_arg5 main_v10 ((extf .f32 · bitsLt_bf16_f32) : Arr F S256x2048 .bf16 → Arr F S256x2048 .f32),
    binary main_v10 main_v7 main_v11 ((fun l r => Host.dotGeneral dot_S256x2048_S256x1024_S2048x1024_0_0_1_1_n_n none l r) : Arr F S256x2048 .f32 → Arr F S256x1024 .f32 → Arr F S2048x1024 .f32),
    unary main_v11 main_v12 ((transpose S1024x2048 [1, 0] · transposes_S2048x1024_S1024x2048_1_0) : Arr F S2048x1024 .f32 → Arr F S1024x2048 .f32),
    binary main_v10 main_v8 main_v13 ((fun l r => Host.dotGeneral dot_S256x2048_S1024x2048_S256x1024_1_1_0_0_n_n none l r) : Arr F S256x2048 .f32 → Arr F S1024x2048 .f32 → Arr F S256x1024 .f32),
    unary main_arg6 main_v14 ((extf .f32 · bitsLt_bf16_f32) : Arr F S2048x1024 .bf16 → Arr F S2048x1024 .f32),
    unary main_arg7 main_v15 ((extf .f32 · bitsLt_bf16_f32) : Arr F S1024x2048 .bf16 → Arr F S1024x2048 .f32),
    binary main_v14 main_v15 main_v16 ((fun l r => Host.dotGeneral dot_S2048x1024_S1024x2048_S2048x2048_1_0_0_1_n_n none l r) : Arr F S2048x1024 .f32 → Arr F S1024x2048 .f32 → Arr F S2048x2048 .f32),
    unary main_arg8 main_v17 ((extf .f32 · bitsLt_bf16_f32) : Arr F S2048x2048 .bf16 → Arr F S2048x2048 .f32),
    binary main_v17 main_v14 main_v18 ((fun l r => Host.dotGeneral dot_S2048x2048_S2048x1024_S2048x1024_0_0_1_1_n_n none l r) : Arr F S2048x2048 .f32 → Arr F S2048x1024 .f32 → Arr F S2048x1024 .f32),
    unary main_v18 main_v19 ((transpose S1024x2048 [1, 0] · transposes_S2048x1024_S1024x2048_1_0) : Arr F S2048x1024 .f32 → Arr F S1024x2048 .f32),
    binary main_v17 main_v15 main_v20 ((fun l r => Host.dotGeneral dot_S2048x2048_S1024x2048_S2048x1024_1_1_0_0_n_n none l r) : Arr F S2048x2048 .f32 → Arr F S1024x2048 .f32 → Arr F S2048x1024 .f32),
    unary main_arg9 main_v21 ((extf .f32 · bitsLt_bf16_f32) : Arr F S2048x1024 .bf16 → Arr F S2048x1024 .f32),
    unary main_arg10 main_v22 ((extf .f32 · bitsLt_bf16_f32) : Arr F S1024x3200 .bf16 → Arr F S1024x3200 .f32),
    binary main_v21 main_v22 main_v23 ((fun l r => Host.dotGeneral dot_S2048x1024_S1024x3200_S2048x3200_1_0_0_1_n_n none l r) : Arr F S2048x1024 .f32 → Arr F S1024x3200 .f32 → Arr F S2048x3200 .f32),
    unary main_arg11 main_v24 ((extf .f32 · bitsLt_bf16_f32) : Arr F S2048x3200 .bf16 → Arr F S2048x3200 .f32),
    binary main_v24 main_v21 main_v25 ((fun l r => Host.dotGeneral dot_S2048x3200_S2048x1024_S3200x1024_0_0_1_1_n_n none l r) : Arr F S2048x3200 .f32 → Arr F S2048x1024 .f32 → Arr F S3200x1024 .f32),
    unary main_v25 main_v26 ((transpose S1024x3200 [1, 0] · transposes_S3200x1024_S1024x3200_1_0) : Arr F S3200x1024 .f32 → Arr F S1024x3200 .f32),
    binary main_v24 main_v22 main_v27 ((fun l r => Host.dotGeneral dot_S2048x3200_S1024x3200_S2048x1024_1_1_0_0_n_n none l r) : Arr F S2048x3200 .f32 → Arr F S1024x3200 .f32 → Arr F S2048x1024 .f32),
    reshape main_v12 main_v28 (rfl : (.f32 : EltTy) = .f32) shapeCasts_S1024x2048_S2x512x4x512,
    unary main_v28 main_v29 ((transpose S4x2x512x512 [2, 0, 1, 3] · transposes_S2x512x4x512_S4x2x512x512_2_0_1_3) : Arr F S2x512x4x512 .f32 → Arr F S4x2x512x512 .f32),
    reshape main_v19 main_v30 (rfl : (.f32 : EltTy) = .f32) shapeCasts_S1024x2048_S2x512x4x512,
    unary main_v30 main_v31 ((transpose S4x2x512x512 [2, 0, 1, 3] · transposes_S2x512x4x512_S4x2x512x512_2_0_1_3) : Arr F S2x512x4x512 .f32 → Arr F S4x2x512x512 .f32),
    unary main_v2 main_v32 ((truncf .bf16 · bitsLt_bf16_f32) : Arr F S2048x1024 .f32 → Arr F S2048x1024 .bf16),
    unary main_v6 main_v33 ((truncf .bf16 · bitsLt_bf16_f32) : Arr F S2048x1024 .f32 → Arr F S2048x1024 .bf16),
    unary main_v5 main_v34 ((truncf .bf16 · bitsLt_bf16_f32) : Arr F S1024x1024 .f32 → Arr F S1024x1024 .bf16),
    unary main_v9 main_v35 ((truncf .bf16 · bitsLt_bf16_f32) : Arr F S256x2048 .f32 → Arr F S256x2048 .bf16),
    unary main_v29 main_v36 ((truncf .bf16 · bitsLt_bf16_f32) : Arr F S4x2x512x512 .f32 → Arr F S4x2x512x512 .bf16),
    unary main_v20 main_v37 ((truncf .bf16 · bitsLt_bf16_f32) : Arr F S2048x1024 .f32 → Arr F S2048x1024 .bf16),
    unary main_v31 main_v38 ((truncf .bf16 · bitsLt_bf16_f32) : Arr F S4x2x512x512 .f32 → Arr F S4x2x512x512 .bf16),
    unary main_v27 main_v39 ((truncf .bf16 · bitsLt_bf16_f32) : Arr F S2048x1024 .f32 → Arr F S2048x1024 .bf16) ]

/-- The buffers they write, in order. -/
abbrev outs : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37, main_v38, main_v39]

theorem chain_eq (c : Dev nD) : main (F := F) c = Pipeline.chain [seq ops] := by
  rewrite [StableHlo.chain_seq_cons]
  chain_rfl

theorem main_eq (c : Dev nD) : main (F := F) c = seq ops := by
  rw [chain_eq]
  exact bind_pure _

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., unary_bufs_sub .., binary_bufs_sub .., reshape_bufs_sub .., unary_bufs_sub .., reshape_bufs_sub .., unary_bufs_sub .., unary_bufs_sub .., unary_bufs_sub .., unary_bufs_sub .., unary_bufs_sub .., unary_bufs_sub .., unary_bufs_sub .., unary_bufs_sub .., unary_bufs_sub ..⟩

set_option maxRecDepth 8192 in
theorem writes : Writes (ops (F := F)) outs :=
  .cons (unary_writes ..) <| .cons (unary_writes ..) <| .cons (binary_writes ..) <| .cons (unary_writes ..) <| .cons (binary_writes ..) <| .cons (unary_writes ..) <| .cons (binary_writes ..) <| .cons (unary_writes ..) <| .cons (unary_writes ..) <| .cons (binary_writes ..) <| .cons (unary_writes ..) <| .cons (binary_writes ..) <| .cons (unary_writes ..) <| .cons (binary_writes ..) <| .cons (unary_writes ..) <| .cons (unary_writes ..) <| .cons (binary_writes ..) <| .cons (unary_writes ..) <| .cons (binary_writes ..) <| .cons (unary_writes ..) <| .cons (binary_writes ..) <| .cons (unary_writes ..) <| .cons (unary_writes ..) <| .cons (binary_writes ..) <| .cons (unary_writes ..) <| .cons (binary_writes ..) <| .cons (unary_writes ..) <| .cons (binary_writes ..) <| .cons (reshape_writes ..) <| .cons (unary_writes ..) <| .cons (reshape_writes ..) <| .cons (unary_writes ..) <| .cons (unary_writes ..) <| .cons (unary_writes ..) <| .cons (unary_writes ..) <| .cons (unary_writes ..) <| .cons (unary_writes ..) <| .cons (unary_writes ..) <| .cons (unary_writes ..) <| .cons (unary_writes ..) <| .nil

/-- Every run ends with each buffer at what the line leaves in it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = fin ops (launchContents m d) b :=
  run_seq scopedRefs_eq scopedSems_eq defs main (fun _ => ops) main_eq (fun _ => ops_sub) m ρ

/-- The buffers' numbers. -/
theorem numbers : (outs.map fun w => w.idx.val) = List.range' 12 40 := by decide +kernel
theorem once : (List.range' 12 40).Nodup := by decide +kernel
theorem last (i : ℕ) {r : Ref sig .tc} (h : outs[i]? = some r) : Before outs (i + 1) r := before_of_lt numbers once i h (Nat.lt_succ_self _)
theorem old (j : ℕ) {i : ℕ} {r : Ref sig .tc} (h : outs[j]? = some r) (hi : j < i := by decide) : Before outs i r := before_of_lt numbers once j h hi
theorem argNumbers : (([main_arg0, main_arg1, main_arg2, main_arg3, main_arg4, main_arg5, main_arg6, main_arg7, main_arg8, main_arg9, main_arg10, main_arg11] : List (Ref sig .tc)).map fun w => w.idx.val) = [0, 1, 2, 3, 4, 5, 6, 7, 8, 9, 10, 11] := by decide +kernel

variable (V : Valuation τ sig (Elt F))

set_option maxRecDepth 8192

theorem b_arg0 (i : ℕ) : Before outs i main_arg0 := before_of_small 12 numbers argNumbers (by decide +kernel) (by decide) 0 rfl i
theorem e_arg0 : fin ops V main_arg0 = V (Proc.devRef .tc main_arg0) := fin_unwritten writes (b_arg0 0) V
theorem b_arg1 (i : ℕ) : Before outs i main_arg1 := before_of_small 12 numbers argNumbers (by decide +kernel) (by decide) 1 rfl i
theorem e_arg1 : fin ops V main_arg1 = V (Proc.devRef .tc main_arg1) := fin_unwritten writes (b_arg1 0) V
theorem b_arg2 (i : ℕ) : Before outs i main_arg2 := before_of_small 12 numbers argNumbers (by decide +kernel) (by decide) 2 rfl i
theorem e_arg2 : fin ops V main_arg2 = V (Proc.devRef .tc main_arg2) := fin_unwritten writes (b_arg2 0) V
theorem b_arg3 (i : ℕ) : Before outs i main_arg3 := before_of_small 12 numbers argNumbers (by decide +kernel) (by decide) 3 rfl i
theorem e_arg3 : fin ops V main_arg3 = V (Proc.devRef .tc main_arg3) := fin_unwritten writes (b_arg3 0) V
theorem b_arg4 (i : ℕ) : Before outs i main_arg4 := before_of_small 12 numbers argNumbers (by decide +kernel) (by decide) 4 rfl i
theorem e_arg4 : fin ops V main_arg4 = V (Proc.devRef .tc main_arg4) := fin_unwritten writes (b_arg4 0) V
theorem b_arg5 (i : ℕ) : Before outs i main_arg5 := before_of_small 12 numbers argNumbers (by decide +kernel) (by decide) 5 rfl i
theorem e_arg5 : fin ops V main_arg5 = V (Proc.devRef .tc main_arg5) := fin_unwritten writes (b_arg5 0) V
theorem b_arg6 (i : ℕ) : Before outs i main_arg6 := before_of_small 12 numbers argNumbers (by decide +kernel) (by decide) 6 rfl i
theorem e_arg6 : fin ops V main_arg6 = V (Proc.devRef .tc main_arg6) := fin_unwritten writes (b_arg6 0) V
theorem b_arg7 (i : ℕ) : Before outs i main_arg7 := before_of_small 12 numbers argNumbers (by decide +kernel) (by decide) 7 rfl i
theorem e_arg7 : fin ops V main_arg7 = V (Proc.devRef .tc main_arg7) := fin_unwritten writes (b_arg7 0) V
theorem b_arg8 (i : ℕ) : Before outs i main_arg8 := before_of_small 12 numbers argNumbers (by decide +kernel) (by decide) 8 rfl i
theorem e_arg8 : fin ops V main_arg8 = V (Proc.devRef .tc main_arg8) := fin_unwritten writes (b_arg8 0) V
theorem b_arg9 (i : ℕ) : Before outs i main_arg9 := before_of_small 12 numbers argNumbers (by decide +kernel) (by decide) 9 rfl i
theorem e_arg9 : fin ops V main_arg9 = V (Proc.devRef .tc main_arg9) := fin_unwritten writes (b_arg9 0) V
theorem b_arg10 (i : ℕ) : Before outs i main_arg10 := before_of_small 12 numbers argNumbers (by decide +kernel) (by decide) 10 rfl i
theorem e_arg10 : fin ops V main_arg10 = V (Proc.devRef .tc main_arg10) := fin_unwritten writes (b_arg10 0) V
theorem b_arg11 (i : ℕ) : Before outs i main_arg11 := before_of_small 12 numbers argNumbers (by decide +kernel) (by decide) 11 rfl i
theorem e_arg11 : fin ops V main_arg11 = V (Proc.devRef .tc main_arg11) := fin_unwritten writes (b_arg11 0) V

theorem e_v0 : fin ops V main_v0 = ((extf .f32 · bitsLt_bf16_f32) : Arr F S2048x1024 .bf16 → Arr F S2048x1024 .f32) (fin ops V main_arg0 :) :=
  fin_unary (y := main_v0) writes 0 rfl (last 0 rfl) (b_arg0 _) V
theorem e_v1 : fin ops V main_v1 = ((extf .f32 · bitsLt_bf16_f32) : Arr F S1024x1024 .bf16 → Arr F S1024x1024 .f32) (fin ops V main_arg1 :) :=
  fin_unary (y := main_v1) writes 1 rfl (last 1 rfl) (b_arg1 _) V
theorem e_v2 : fin ops V main_v2 = ((fun l r => Host.dotGeneral dot_S2048x1024_S1024x1024_S2048x1024_1_0_0_1_n_n none l r) : Arr F S2048x1024 .f32 → Arr F S1024x1024 .f32 → Arr F S2048x1024 .f32) (fin ops V main_v0 :) (fin ops V main_v1 :) :=
  fin_binary (y := main_v2) writes 2 rfl (last 2 rfl) (old 0 rfl) (old 1 rfl) V
theorem e_v3 : fin ops V main_v3 = ((extf .f32 · bitsLt_bf16_f32) : Arr F S2048x1024 .bf16 → Arr F S2048x1024 .f32) (fin ops V main_arg2 :) :=
  fin_unary (y := main_v3) writes 3 rfl (last 3 rfl) (b_arg2 _) V
theorem e_v4 : fin ops V main_v4 = ((fun l r => Host.dotGeneral dot_S2048x1024_S2048x1024_S1024x1024_0_0_1_1_n_n none l r) : Arr F S2048x1024 .f32 → Arr F S2048x1024 .f32 → Arr F S1024x1024 .f32) (fin ops V main_v3 :) (fin ops V main_v0 :) :=
  fin_binary (y := main_v4) writes 4 rfl (last 4 rfl) (old 3 rfl) (old 0 rfl) V
theorem e_v5 : fin ops V main_v5 = ((transpose S1024x1024 [1, 0] · transposes_S1024x1024_S1024x1024_1_0) : Arr F S1024x1024 .f32 → Arr F S1024x1024 .f32) (fin ops V main_v4 :) :=
  fin_unary (y := main_v5) writes 5 rfl (last 5 rfl) (old 4 rfl) V
theorem e_v6 : fin ops V main_v6 = ((fun l r => Host.dotGeneral dot_S2048x1024_S1024x1024_S2048x1024_1_1_0_0_n_n none l r) : Arr F S2048x1024 .f32 → Arr F S1024x1024 .f32 → Arr F S2048x1024 .f32) (fin ops V main_v3 :) (fin ops V main_v1 :) :=
  fin_binary (y := main_v6) writes 6 rfl (last 6 rfl) (old 3 rfl) (old 1 rfl) V
theorem e_v7 : fin ops V main_v7 = ((extf .f32 · bitsLt_bf16_f32) : Arr F S256x1024 .bf16 → Arr F S256x1024 .f32) (fin ops V main_arg3 :) :=
  fin_unary (y := main_v7) writes 7 rfl (last 7 rfl) (b_arg3 _) V
theorem e_v8 : fin ops V main_v8 = ((extf .f32 · bitsLt_bf16_f32) : Arr F S1024x2048 .bf16 → Arr F S1024x2048 .f32) (fin ops V main_arg4 :) :=
  fin_unary (y := main_v8) writes 8 rfl (last 8 rfl) (b_arg4 _) V
theorem e_v9 : fin ops V main_v9 = ((fun l r => Host.dotGeneral dot_S256x1024_S1024x2048_S256x2048_1_0_0_1_n_n none l r) : Arr F S256x1024 .f32 → Arr F S1024x2048 .f32 → Arr F S256x2048 .f32) (fin ops V main_v7 :) (fin ops V main_v8 :) :=
  fin_binary (y := main_v9) writes 9 rfl (last 9 rfl) (old 7 rfl) (old 8 rfl) V
theorem e_v10 : fin ops V main_v10 = ((extf .f32 · bitsLt_bf16_f32) : Arr F S256x2048 .bf16 → Arr F S256x2048 .f32) (fin ops V main_arg5 :) :=
  fin_unary (y := main_v10) writes 10 rfl (last 10 rfl) (b_arg5 _) V
theorem e_v11 : fin ops V main_v11 = ((fun l r => Host.dotGeneral dot_S256x2048_S256x1024_S2048x1024_0_0_1_1_n_n none l r) : Arr F S256x2048 .f32 → Arr F S256x1024 .f32 → Arr F S2048x1024 .f32) (fin ops V main_v10 :) (fin ops V main_v7 :) :=
  fin_binary (y := main_v11) writes 11 rfl (last 11 rfl) (old 10 rfl) (old 7 rfl) V
theorem e_v12 : fin ops V main_v12 = ((transpose S1024x2048 [1, 0] · transposes_S2048x1024_S1024x2048_1_0) : Arr F S2048x1024 .f32 → Arr F S1024x2048 .f32) (fin ops V main_v11 :) :=
  fin_unary (y := main_v12) writes 12 rfl (last 12 rfl) (old 11 rfl) V
theorem e_v13 : fin ops V main_v13 = ((fun l r => Host.dotGeneral dot_S256x2048_S1024x2048_S256x1024_1_1_0_0_n_n none l r) : Arr F S256x2048 .f32 → Arr F S1024x2048 .f32 → Arr F S256x1024 .f32) (fin ops V main_v10 :) (fin ops V main_v8 :) :=
  fin_binary (y := main_v13) writes 13 rfl (last 13 rfl) (old 10 rfl) (old 8 rfl) V
theorem e_v14 : fin ops V main_v14 = ((extf .f32 · bitsLt_bf16_f32) : Arr F S2048x1024 .bf16 → Arr F S2048x1024 .f32) (fin ops V main_arg6 :) :=
  fin_unary (y := main_v14) writes 14 rfl (last 14 rfl) (b_arg6 _) V
theorem e_v15 : fin ops V main_v15 = ((extf .f32 · bitsLt_bf16_f32) : Arr F S1024x2048 .bf16 → Arr F S1024x2048 .f32) (fin ops V main_arg7 :) :=
  fin_unary (y := main_v15) writes 15 rfl (last 15 rfl) (b_arg7 _) V
theorem e_v16 : fin ops V main_v16 = ((fun l r => Host.dotGeneral dot_S2048x1024_S1024x2048_S2048x2048_1_0_0_1_n_n none l r) : Arr F S2048x1024 .f32 → Arr F S1024x2048 .f32 → Arr F S2048x2048 .f32) (fin ops V main_v14 :) (fin ops V main_v15 :) :=
  fin_binary (y := main_v16) writes 16 rfl (last 16 rfl) (old 14 rfl) (old 15 rfl) V
theorem e_v17 : fin ops V main_v17 = ((extf .f32 · bitsLt_bf16_f32) : Arr F S2048x2048 .bf16 → Arr F S2048x2048 .f32) (fin ops V main_arg8 :) :=
  fin_unary (y := main_v17) writes 17 rfl (last 17 rfl) (b_arg8 _) V
theorem e_v18 : fin ops V main_v18 = ((fun l r => Host.dotGeneral dot_S2048x2048_S2048x1024_S2048x1024_0_0_1_1_n_n none l r) : Arr F S2048x2048 .f32 → Arr F S2048x1024 .f32 → Arr F S2048x1024 .f32) (fin ops V main_v17 :) (fin ops V main_v14 :) :=
  fin_binary (y := main_v18) writes 18 rfl (last 18 rfl) (old 17 rfl) (old 14 rfl) V
theorem e_v19 : fin ops V main_v19 = ((transpose S1024x2048 [1, 0] · transposes_S2048x1024_S1024x2048_1_0) : Arr F S2048x1024 .f32 → Arr F S1024x2048 .f32) (fin ops V main_v18 :) :=
  fin_unary (y := main_v19) writes 19 rfl (last 19 rfl) (old 18 rfl) V
theorem e_v20 : fin ops V main_v20 = ((fun l r => Host.dotGeneral dot_S2048x2048_S1024x2048_S2048x1024_1_1_0_0_n_n none l r) : Arr F S2048x2048 .f32 → Arr F S1024x2048 .f32 → Arr F S2048x1024 .f32) (fin ops V main_v17 :) (fin ops V main_v15 :) :=
  fin_binary (y := main_v20) writes 20 rfl (last 20 rfl) (old 17 rfl) (old 15 rfl) V
theorem e_v21 : fin ops V main_v21 = ((extf .f32 · bitsLt_bf16_f32) : Arr F S2048x1024 .bf16 → Arr F S2048x1024 .f32) (fin ops V main_arg9 :) :=
  fin_unary (y := main_v21) writes 21 rfl (last 21 rfl) (b_arg9 _) V
theorem e_v22 : fin ops V main_v22 = ((extf .f32 · bitsLt_bf16_f32) : Arr F S1024x3200 .bf16 → Arr F S1024x3200 .f32) (fin ops V main_arg10 :) :=
  fin_unary (y := main_v22) writes 22 rfl (last 22 rfl) (b_arg10 _) V
theorem e_v23 : fin ops V main_v23 = ((fun l r => Host.dotGeneral dot_S2048x1024_S1024x3200_S2048x3200_1_0_0_1_n_n none l r) : Arr F S2048x1024 .f32 → Arr F S1024x3200 .f32 → Arr F S2048x3200 .f32) (fin ops V main_v21 :) (fin ops V main_v22 :) :=
  fin_binary (y := main_v23) writes 23 rfl (last 23 rfl) (old 21 rfl) (old 22 rfl) V
theorem e_v24 : fin ops V main_v24 = ((extf .f32 · bitsLt_bf16_f32) : Arr F S2048x3200 .bf16 → Arr F S2048x3200 .f32) (fin ops V main_arg11 :) :=
  fin_unary (y := main_v24) writes 24 rfl (last 24 rfl) (b_arg11 _) V
theorem e_v25 : fin ops V main_v25 = ((fun l r => Host.dotGeneral dot_S2048x3200_S2048x1024_S3200x1024_0_0_1_1_n_n none l r) : Arr F S2048x3200 .f32 → Arr F S2048x1024 .f32 → Arr F S3200x1024 .f32) (fin ops V main_v24 :) (fin ops V main_v21 :) :=
  fin_binary (y := main_v25) writes 25 rfl (last 25 rfl) (old 24 rfl) (old 21 rfl) V
theorem e_v26 : fin ops V main_v26 = ((transpose S1024x3200 [1, 0] · transposes_S3200x1024_S1024x3200_1_0) : Arr F S3200x1024 .f32 → Arr F S1024x3200 .f32) (fin ops V main_v25 :) :=
  fin_unary (y := main_v26) writes 26 rfl (last 26 rfl) (old 25 rfl) V
theorem e_v27 : fin ops V main_v27 = ((fun l r => Host.dotGeneral dot_S2048x3200_S1024x3200_S2048x1024_1_1_0_0_n_n none l r) : Arr F S2048x3200 .f32 → Arr F S1024x3200 .f32 → Arr F S2048x1024 .f32) (fin ops V main_v24 :) (fin ops V main_v22 :) :=
  fin_binary (y := main_v27) writes 27 rfl (last 27 rfl) (old 24 rfl) (old 22 rfl) V
theorem e_v28 : fin ops V main_v28 = shapeCast _ (fin ops V main_v12 :) shapeCasts_S1024x2048_S2x512x4x512 :=
  fin_reshape (y := main_v28) writes 28 rfl (last 28 rfl) (old 12 rfl) V
theorem e_v29 : fin ops V main_v29 = ((transpose S4x2x512x512 [2, 0, 1, 3] · transposes_S2x512x4x512_S4x2x512x512_2_0_1_3) : Arr F S2x512x4x512 .f32 → Arr F S4x2x512x512 .f32) (fin ops V main_v28 :) :=
  fin_unary (y := main_v29) writes 29 rfl (last 29 rfl) (old 28 rfl) V
theorem e_v30 : fin ops V main_v30 = shapeCast _ (fin ops V main_v19 :) shapeCasts_S1024x2048_S2x512x4x512 :=
  fin_reshape (y := main_v30) writes 30 rfl (last 30 rfl) (old 19 rfl) V
theorem e_v31 : fin ops V main_v31 = ((transpose S4x2x512x512 [2, 0, 1, 3] · transposes_S2x512x4x512_S4x2x512x512_2_0_1_3) : Arr F S2x512x4x512 .f32 → Arr F S4x2x512x512 .f32) (fin ops V main_v30 :) :=
  fin_unary (y := main_v31) writes 31 rfl (last 31 rfl) (old 30 rfl) V
theorem e_v32 : fin ops V main_v32 = ((truncf .bf16 · bitsLt_bf16_f32) : Arr F S2048x1024 .f32 → Arr F S2048x1024 .bf16) (fin ops V main_v2 :) :=
  fin_unary (y := main_v32) writes 32 rfl (last 32 rfl) (old 2 rfl) V
theorem e_v33 : fin ops V main_v33 = ((truncf .bf16 · bitsLt_bf16_f32) : Arr F S2048x1024 .f32 → Arr F S2048x1024 .bf16) (fin ops V main_v6 :) :=
  fin_unary (y := main_v33) writes 33 rfl (last 33 rfl) (old 6 rfl) V
theorem e_v34 : fin ops V main_v34 = ((truncf .bf16 · bitsLt_bf16_f32) : Arr F S1024x1024 .f32 → Arr F S1024x1024 .bf16) (fin ops V main_v5 :) :=
  fin_unary (y := main_v34) writes 34 rfl (last 34 rfl) (old 5 rfl) V
theorem e_v35 : fin ops V main_v35 = ((truncf .bf16 · bitsLt_bf16_f32) : Arr F S256x2048 .f32 → Arr F S256x2048 .bf16) (fin ops V main_v9 :) :=
  fin_unary (y := main_v35) writes 35 rfl (last 35 rfl) (old 9 rfl) V
theorem e_v36 : fin ops V main_v36 = ((truncf .bf16 · bitsLt_bf16_f32) : Arr F S4x2x512x512 .f32 → Arr F S4x2x512x512 .bf16) (fin ops V main_v29 :) :=
  fin_unary (y := main_v36) writes 36 rfl (last 36 rfl) (old 29 rfl) V
theorem e_v37 : fin ops V main_v37 = ((truncf .bf16 · bitsLt_bf16_f32) : Arr F S2048x1024 .f32 → Arr F S2048x1024 .bf16) (fin ops V main_v20 :) :=
  fin_unary (y := main_v37) writes 37 rfl (last 37 rfl) (old 20 rfl) V
theorem e_v38 : fin ops V main_v38 = ((truncf .bf16 · bitsLt_bf16_f32) : Arr F S4x2x512x512 .f32 → Arr F S4x2x512x512 .bf16) (fin ops V main_v31 :) :=
  fin_unary (y := main_v38) writes 38 rfl (last 38 rfl) (old 31 rfl) V
theorem e_v39 : fin ops V main_v39 = ((truncf .bf16 · bitsLt_bf16_f32) : Arr F S2048x1024 .f32 → Arr F S2048x1024 .bf16) (fin ops V main_v27 :) :=
  fin_unary (y := main_v39) writes 39 rfl (last 39 rfl) (old 27 rfl) V

end Lin.Ref

end
-- ==== Proof.LinRefValue.lean ====
/- The results of the products' reference, from its arguments, whatever they hold. -/
module

public import proofs.«01_k».proof.Proof.LinRefLine
public import proofs.«01_k».proof.Proof.ExtValue

@[expose] public section

noncomputable section

namespace Lin.Ref

open Cert.LinReferenceIdeal Cert.LinReferenceIdeal.Gen Idealize.ShloMosaic Idealize.ShloMosaic.TcCoe Idealize.ShloMosaic.ValueIdx Fox Finset

/-- The entries of the arguments: a layer's input, its weights and the cotangent of their product, of each of four shapes. -/
structure Given (V : Valuation τ sig (Elt Ideal)) (xo wo yo xm wm ym xc wc yc xa wa ya : ℕ → ℕ → EReal) : Prop where
  xo : E2 (a := 2048) (b := 1024) (V (Proc.devRef .tc main_arg0)) xo
  wo : E2 (a := 1024) (b := 1024) (V (Proc.devRef .tc main_arg1)) wo
  yo : E2 (a := 2048) (b := 1024) (V (Proc.devRef .tc main_arg2)) yo
  xm : E2 (a := 256) (b := 1024) (V (Proc.devRef .tc main_arg3)) xm
  wm : E2 (a := 1024) (b := 2048) (V (Proc.devRef .tc main_arg4)) wm
  ym : E2 (a := 256) (b := 2048) (V (Proc.devRef .tc main_arg5)) ym
  xc : E2 (a := 2048) (b := 1024) (V (Proc.devRef .tc main_arg6)) xc
  wc : E2 (a := 1024) (b := 2048) (V (Proc.devRef .tc main_arg7)) wc
  yc : E2 (a := 2048) (b := 2048) (V (Proc.devRef .tc main_arg8)) yc
  xa : E2 (a := 2048) (b := 1024) (V (Proc.devRef .tc main_arg9)) xa
  wa : E2 (a := 1024) (b := 3200) (V (Proc.devRef .tc main_arg10)) wa
  ya : E2 (a := 2048) (b := 3200) (V (Proc.devRef .tc main_arg11)) ya

/-- A gradient of weights is the transpose of the cotangent's product with the input; multiplication is commutative. -/
theorem turned {a b c : ℕ} {x : (⟨2, ![a, b]⟩ : Shape).Idx → EReal} {f g : ℕ → ℕ → EReal} (h : E2 x fun i j => ∑ k ∈ range c, g k j * f k i) :
    E2 x fun i j => ∑ k ∈ range c, f k i * g k j := h.congr fun _ _ _ _ => sum_congr rfl fun _ _ => mul_comm _ _

variable {V : Valuation τ sig (Elt Ideal)} {xo wo yo xm wm ym xc wc yc xa wa ya : ℕ → ℕ → EReal} (A : Given V xo wo yo xm wm ym xc wc yc xa wa ya)

include A

/-! ## The square shape -/

theorem v0_is : E2 (a := 2048) (b := 1024) (fin ops V main_v0) xo := .of_eq (e_v0 V) (.wide (.of_eq (e_arg0 V) A.xo) _)
theorem v1_is : E2 (a := 1024) (b := 1024) (fin ops V main_v1) wo := .of_eq (e_v1 V) (.wide (.of_eq (e_arg1 V) A.wo) _)
theorem v3_is : E2 (a := 2048) (b := 1024) (fin ops V main_v3) yo := .of_eq (e_v3 V) (.wide (.of_eq (e_arg2 V) A.yo) _)

theorem xq_is : E2 (a := 2048) (b := 1024) (fin ops V main_v32) fun i j => ∑ k ∈ range 1024, xo i k * wo k j :=
  .of_eq (e_v32 V) <| .narrow (.of_eq (e_v2 V) (host_nn (v0_is A) (v1_is A))) _

theorem xq_dx_is : E2 (a := 2048) (b := 1024) (fin ops V main_v33) fun i j => ∑ k ∈ range 1024, yo i k * wo j k :=
  .of_eq (e_v33 V) <| .narrow (.of_eq (e_v6 V) (host_nt (v3_is A) (v1_is A))) _

theorem xq_dw_is : E2 (a := 1024) (b := 1024) (fin ops V main_v34) fun i j => ∑ k ∈ range 2048, xo k i * yo k j :=
  turned <| .of_eq (e_v34 V) <| .narrow (.of_eq (e_v5 V) <| .turn (.of_eq (e_v4 V) (host_tn (v3_is A) (v0_is A))) _) _

/-! ## The memory's shape -/

theorem v7_is : E2 (a := 256) (b := 1024) (fin ops V main_v7) xm := .of_eq (e_v7 V) (.wide (.of_eq (e_arg3 V) A.xm) _)
theorem v8_is : E2 (a := 1024) (b := 2048) (fin ops V main_v8) wm := .of_eq (e_v8 V) (.wide (.of_eq (e_arg4 V) A.wm) _)
theorem v10_is : E2 (a := 256) (b := 2048) (fin ops V main_v10) ym := .of_eq (e_v10 V) (.wide (.of_eq (e_arg5 V) A.ym) _)

theorem xkv_is : E2 (a := 256) (b := 2048) (fin ops V main_v35) fun i j => ∑ k ∈ range 1024, xm i k * wm k j :=
  .of_eq (e_v35 V) <| .narrow (.of_eq (e_v9 V) (host_nn (v7_is A) (v8_is A))) _

theorem xkv_dx_is : E2 (a := 256) (b := 1024) (fin ops V main_v13) fun i j => ∑ k ∈ range 2048, ym i k * wm j k :=
  .of_eq (e_v13 V) (host_nt (v10_is A) (v8_is A))

theorem v12_is : E2 (a := 1024) (b := 2048) (fin ops V main_v12) fun i j => ∑ k ∈ range 256, xm k i * ym k j :=
  turned <| .of_eq (e_v12 V) <| .turn (.of_eq (e_v11 V) (host_tn (v10_is A) (v7_is A))) _

theorem xkv_dw_is : E4 (a := 4) (b := 2) (c := 512) (d := 512) (fin ops V main_v36) fun j i r s => ∑ k ∈ range 256, xm k (i * 512 + r) * ym k (j * 512 + s) := by
  refine .of_eq (e_v36 V) <| .narrow (.of_eq (e_v29 V) ?_) _
  rw [e_v28]
  exact (v12_is A).split shapeCasts_S1024x2048_S2x512x4x512 rfl rfl _

/-! ## The shape of a convolution layer's first product -/

theorem v14_is : E2 (a := 2048) (b := 1024) (fin ops V main_v14) xc := .of_eq (e_v14 V) (.wide (.of_eq (e_arg6 V) A.xc) _)
theorem v15_is : E2 (a := 1024) (b := 2048) (fin ops V main_v15) wc := .of_eq (e_v15 V) (.wide (.of_eq (e_arg7 V) A.wc) _)
theorem v17_is : E2 (a := 2048) (b := 2048) (fin ops V main_v17) yc := .of_eq (e_v17 V) (.wide (.of_eq (e_arg8 V) A.yc) _)

theorem c_in_is : E2 (a := 2048) (b := 2048) (fin ops V main_v16) fun i j => ∑ k ∈ range 1024, xc i k * wc k j :=
  .of_eq (e_v16 V) (host_nn (v14_is A) (v15_is A))

theorem c_in_dx_is : E2 (a := 2048) (b := 1024) (fin ops V main_v37) fun i j => ∑ k ∈ range 2048, yc i k * wc j k :=
  .of_eq (e_v37 V) <| .narrow (.of_eq (e_v20 V) (host_nt (v17_is A) (v15_is A))) _

theorem v19_is : E2 (a := 1024) (b := 2048) (fin ops V main_v19) fun i j => ∑ k ∈ range 2048, xc k i * yc k j :=
  turned <| .of_eq (e_v19 V) <| .turn (.of_eq (e_v18 V) (host_tn (v17_is A) (v14_is A))) _

theorem c_in_dw_is : E4 (a := 4) (b := 2) (c := 512) (d := 512) (fin ops V main_v38) fun j i r s => ∑ k ∈ range 2048, xc k (i * 512 + r) * yc k (j * 512 + s) := by
  refine .of_eq (e_v38 V) <| .narrow (.of_eq (e_v31 V) ?_) _
  rw [e_v30]
  exact (v19_is A).split shapeCasts_S1024x2048_S2x512x4x512 rfl rfl _

/-! ## The shape of an attention layer's first product -/

theorem v21_is : E2 (a := 2048) (b := 1024) (fin ops V main_v21) xa := .of_eq (e_v21 V) (.wide (.of_eq (e_arg9 V) A.xa) _)
theorem v22_is : E2 (a := 1024) (b := 3200) (fin ops V main_v22) wa := .of_eq (e_v22 V) (.wide (.of_eq (e_arg10 V) A.wa) _)
theorem v24_is : E2 (a := 2048) (b := 3200) (fin ops V main_v24) ya := .of_eq (e_v24 V) (.wide (.of_eq (e_arg11 V) A.ya) _)

theorem ab_in_is : E2 (a := 2048) (b := 3200) (fin ops V main_v23) fun i j => ∑ k ∈ range 1024, xa i k * wa k j :=
  .of_eq (e_v23 V) (host_nn (v21_is A) (v22_is A))

theorem ab_in_dx_is : E2 (a := 2048) (b := 1024) (fin ops V main_v39) fun i j => ∑ k ∈ range 3200, ya i k * wa j k :=
  .of_eq (e_v39 V) <| .narrow (.of_eq (e_v27 V) (host_nt (v24_is A) (v22_is A))) _

theorem ab_in_dw_is : E2 (a := 1024) (b := 3200) (fin ops V main_v26) fun i j => ∑ k ∈ range 2048, xa k i * ya k j :=
  turned <| .of_eq (e_v26 V) <| .turn (.of_eq (e_v25 V) (host_tn (v24_is A) (v21_is A))) _

end Lin.Ref

end
-- ==== Proof.OptRun.lean ====
/- The run of the program of AdamW steps: every buffer ends at what the fold over the six calls leaves in it. -/
module

public import proofs.«01_k».proof.Proof.Gen.OptKernelIdeal.Frame

@[expose] public section

noncomputable section

namespace Opt.Ker

open Cert.OptKernelIdeal Cert.OptKernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

set_option backward.isDefEq.respectTransparency.types false in
/-- Every run ends with each buffer that outlives the calls at its contents after the sixth. -/
theorem run : θ_run defs (onTc (τ := τ) (main (F := F))) ⟨m, fun _ => 0, ρ⟩ fun r =>
    ∀ (c : Dev nD) (b : Ref sig .tc), ¬ (Proc.devRef .tc b : DevRef τ sig).isScoped →
      r.2.mem ((c.tc : Thread nD τ).loc b) = W6 m ρ c (Proc.devRef .tc b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun _ h _ c b hb => h c _ (mem_uc b hb))

end Opt.Ker

end
-- ==== Proof.OptStep.lean ====
/- One AdamW step of one entry of a weight, over the extended reals, and a weight that is stepped block of rows by block of rows. -/
module

public import proofs.«01_k».proof.Proof.ExtValue

@[expose] public section

noncomputable section

namespace Opt

open Idealize.ShloMosaic Idealize.ShloMosaic.ValueIdx Lin

/-- The number a single-precision constant stands for. -/
def num (b : BitVec 32) : EReal := Scalar.ofBits (F := Ideal) .f32 b

/-- The new mean of the gradients: 0.9 of the old one and 0.1 of the gradient. -/
def first (g m : EReal) : EReal := num 0x3F666666#32 * m + num 0x3DCCCCCD#32 * g

/-- The new mean of the gradients' squares: 0.999 of the old one and 0.001 of the gradient's square. -/
def second (g v : EReal) : EReal := num 0x3F7FBE77#32 * v + num 0x3A83126F#32 * (g * g)

/-- The change of the weight: the first mean over the root of the second, both corrected for the tenth step, and the decay of the
    weight, times minus the learning rate. -/
def delta (w g m v : EReal) : EReal :=
  num 0xBA83126F#32 * (Ideal.div (Ideal.div (first g m) (num 0x3F26BD02#32))
    (Ideal.sqrt (Ideal.div (second g v) (num 0x3C231ACC#32)) + num 0x322BCC77#32) + num 0x3C23D70A#32 * w)

/-- The three matrices a step makes of four: the change of the weight, and the two new means. -/
def Stepped {a b : ℕ} (d m' v' : (⟨2, ![a, b]⟩ : Shape).Idx → EReal) (w g m v : ℕ → ℕ → EReal) : Prop :=
  E2 d (fun i j => delta (w i j) (g i j) (m i j) (v i j)) ∧ E2 m' (fun i j => first (g i j) (m i j)) ∧ E2 v' fun i j => second (g i j) (v i j)

/-- Where a block of whole rows lies in its matrix, from the number of the block. -/
theorem rowsAt {a b p : ℕ} {u : Fin 2 → ℕ} {x : (⟨2, ![a, b]⟩ : Shape).Idx} (hu : ∀ k, u k = (![p, 0] : Fin 2 → ℕ) k) (k : Fin 2) :
    u k * (![a, b] : Fin 2 → ℕ) k + (x k).val = (![p / 1 * a, p % 1 * b] : Fin 2 → ℕ) k + (x k).val := by
  rw [hu k]
  match k with
  | ⟨0, _⟩ => show p * a + _ = p / 1 * a + _; rw [Nat.div_one]
  | ⟨1, _⟩ => show 0 * b + _ = p % 1 * b + _; rw [Nat.mod_one]

section Blocks

variable {A B N a : ℕ} {f0 f1 f2 f3 : ℕ → ℕ → EReal} {X0 X1 X2 X3 Z4 Z5 Z6 : (⟨2, ![A, B]⟩ : Shape).Idx → EReal}
  {e0 e1 e2 e3 e4 e5 e6 : Fin N → (⟨2, ![a, B]⟩ : Shape).Idx → (⟨2, ![A, B]⟩ : Shape).Idx}

/-- The blocks of rows of a matrix, by number. -/
abbrev Rows (e : Fin N → (⟨2, ![a, B]⟩ : Shape).Idx → (⟨2, ![A, B]⟩ : Shape).Idx) : Prop :=
  ∀ t x k, (e t x k).val = (![t.val / 1 * a, t.val % 1 * B] : Fin 2 → ℕ) k + (x k).val

/-- A matrix whose entries are a function of four matrices' entries, when each of its blocks of rows is. -/
theorem rows (op : EReal → EReal → EReal → EReal → EReal) {Z : (⟨2, ![A, B]⟩ : Shape).Idx → EReal}
    {e : Fin N → (⟨2, ![a, B]⟩ : Shape).Idx → (⟨2, ![A, B]⟩ : Shape).Idx} (hA : A = N * a) (p : Rows e) (p0 : Rows e0) (p1 : Rows e1) (p2 : Rows e2)
    (p3 : Rows e3) (h0 : E2 X0 f0) (h1 : E2 X1 f1) (h2 : E2 X2 f2) (h3 : E2 X3 f3)
    (hZ : ∀ t x, Z (e t x) = op (X0 (e0 t x)) (X1 (e1 t x)) (X2 (e2 t x)) (X3 (e3 t x))) :
    E2 Z fun i j => op (f0 i j) (f1 i j) (f2 i j) (f3 i j) :=
  E2.ofParts N 1 a B hA (Nat.one_mul B).symm (Nat.mul_one N).symm e p fun t i j => by
    have q0 : X0 (e0 t (ix2 i j)) = _ := h0.part _ (p0 t) i j
    have q1 : X1 (e1 t (ix2 i j)) = _ := h1.part _ (p1 t) i j
    have q2 : X2 (e2 t (ix2 i j)) = _ := h2.part _ (p2 t) i j
    have q3 : X3 (e3 t (ix2 i j)) = _ := h3.part _ (p3 t) i j
    exact (hZ t (ix2 i j)).trans (by rw [q0, q1, q2, q3])

/-- A step, made block of rows by block of rows. -/
theorem blocks (hA : A = N * a) (p0 : Rows e0) (p1 : Rows e1) (p2 : Rows e2) (p3 : Rows e3) (p4 : Rows e4) (p5 : Rows e5) (p6 : Rows e6)
    (h0 : E2 X0 f0) (h1 : E2 X1 f1) (h2 : E2 X2 f2) (h3 : E2 X3 f3)
    (h4 : ∀ t x, Z4 (e4 t x) = delta (X0 (e0 t x)) (X1 (e1 t x)) (X2 (e2 t x)) (X3 (e3 t x)))
    (h5 : ∀ t x, Z5 (e5 t x) = first (X1 (e1 t x)) (X2 (e2 t x))) (h6 : ∀ t x, Z6 (e6 t x) = second (X1 (e1 t x)) (X3 (e3 t x))) :
    Stepped Z4 Z5 Z6 f0 f1 f2 f3 :=
  ⟨rows delta hA p4 p0 p1 p2 p3 h0 h1 h2 h3 h4, rows (fun _ g m _ => first g m) hA p5 p0 p1 p2 p3 h0 h1 h2 h3 h5,
    rows (fun _ g _ v => second g v) hA p6 p0 p1 p2 p3 h0 h1 h2 h3 h6⟩

end Blocks

end Opt

end
-- ==== Proof.OptBlocks.lean ====
/- What each call of the program of AdamW steps leaves in the three arrays it computes: the step of the weight it reads, whatever
   the weight, its gradient and its two means hold. -/
module

public import proofs.«01_k».proof.Proof.OptStep
public import proofs.«01_k».proof.Proof.Gen.OptKernelIdeal.Frame

@[expose] public section

set_option maxRecDepth 16384

noncomputable section

namespace Opt.Ker

open Idealize.ShloMosaic Idealize.ShloMosaic.TcCoe Idealize.ShloMosaic.ValueIdx Cert.OptKernelIdeal Cert.OptKernelIdeal.Gen Lin Pipeline.Window

variable (V : (c : Dev nD) → (b : Ref sig .tc) → Buf (Elt Ideal) ((c : Thread nD τ).loc b)) (c : Dev nD) {w g m v : ℕ → ℕ → EReal}

/-- Where the `t`-th block of whole rows is, in blocks. -/
abbrev row {n : ℕ} (t : Fin n) : Fin 2 → ℕ := ![t.val, 0]

theorem off2 : (![0, 0] : Fin 2 → ℕ) = fun _ => 0 := by decide

/-! ## The step of `w_xq` -/

theorem index0_0 : ∀ (t : Fin cfg0.N) (k : Fin 2), (cfg0.win 0).index t k = row t k := by decide +kernel
theorem index0_1 : ∀ (t : Fin cfg0.N) (k : Fin 2), (cfg0.win 1).index t k = row t k := by decide +kernel
theorem index0_2 : ∀ (t : Fin cfg0.N) (k : Fin 2), (cfg0.win 2).index t k = row t k := by decide +kernel
theorem index0_3 : ∀ (t : Fin cfg0.N) (k : Fin 2), (cfg0.win 3).index t k = row t k := by decide +kernel
theorem index0_4 : ∀ (t : Fin cfg0.N) (k : Fin 2), (cfg0.win 4).index t k = row t k := by decide +kernel
theorem index0_5 : ∀ (t : Fin cfg0.N) (k : Fin 2), (cfg0.win 5).index t k = row t k := by decide +kernel
theorem index0_6 : ∀ (t : Fin cfg0.N) (k : Fin 2), (cfg0.win 6).index t k = row t k := by decide +kernel

theorem left0_4 (t : Fin cfg0.N) : ((cfg0.win 4).blk t).view.read (Elt Ideal) ((dat0 V c).arrAt 4 cfg0.N) = k0_pay3 (F := Ideal) (iblk0 V c 0 t) (iblk0 V c 1 t) (iblk0 V c 2 t) (iblk0 V c 3 t) := by
  refine ((dat0 V c).read_blk_arrAt_eq_flushed 4 (fun t t' _ _ hne => (cfg0.win 4).disjoint_blk fun h => hne (Fin.ext
    ((index0_4 t 0).symm.trans ((congrFun h 0).trans (index0_4 t' 0))))) cfg0.N t t.isLt (flush0_4 t)).trans
      (Eq.trans (b := out0_4 (iblk0 V c 0 t) (iblk0 V c 1 t) (iblk0 V c 2 t) (iblk0 V c 3 t)) ?_ ?_)
  · show (cfg0.win 4).cut (grid0.coords t) ((dat0 V c).after 4 t) = _
    rw [after0_4]
    rfl
  · rw [out0_4, View.canon_unit_zero off2, View.ld_unit_zero off2, View.ld_unit_zero off2, View.ld_unit_zero off2, View.ld_unit_zero off2]

theorem left0_5 (t : Fin cfg0.N) : ((cfg0.win 5).blk t).view.read (Elt Ideal) ((dat0 V c).arrAt 5 cfg0.N) = k0_pay1 (F := Ideal) (iblk0 V c 1 t) (iblk0 V c 2 t) := by
  refine ((dat0 V c).read_blk_arrAt_eq_flushed 5 (fun t t' _ _ hne => (cfg0.win 5).disjoint_blk fun h => hne (Fin.ext
    ((index0_5 t 0).symm.trans ((congrFun h 0).trans (index0_5 t' 0))))) cfg0.N t t.isLt (flush0_5 t)).trans
      (Eq.trans (b := out0_5 (iblk0 V c 0 t) (iblk0 V c 1 t) (iblk0 V c 2 t) (iblk0 V c 3 t)) ?_ ?_)
  · show (cfg0.win 5).cut (grid0.coords t) ((dat0 V c).after 5 t) = _
    rw [after0_5]
    rfl
  · rw [out0_5, View.canon_unit_zero off2, View.ld_unit_zero off2, View.ld_unit_zero off2]

theorem left0_6 (t : Fin cfg0.N) : ((cfg0.win 6).blk t).view.read (Elt Ideal) ((dat0 V c).arrAt 6 cfg0.N) = k0_pay2 (F := Ideal) (iblk0 V c 1 t) (iblk0 V c 3 t) := by
  refine ((dat0 V c).read_blk_arrAt_eq_flushed 6 (fun t t' _ _ hne => (cfg0.win 6).disjoint_blk fun h => hne (Fin.ext
    ((index0_6 t 0).symm.trans ((congrFun h 0).trans (index0_6 t' 0))))) cfg0.N t t.isLt (flush0_6 t)).trans
      (Eq.trans (b := out0_6 (iblk0 V c 0 t) (iblk0 V c 1 t) (iblk0 V c 2 t) (iblk0 V c 3 t)) ?_ ?_)
  · show (cfg0.win 6).cut (grid0.coords t) ((dat0 V c).after 6 t) = _
    rw [after0_6]
    rfl
  · rw [out0_6, View.canon_unit_zero off2, View.ld_unit_zero off2, View.ld_unit_zero off2]

theorem xq_is (h0 : E2 (a := 1024) (b := 1024) (V c (Pipeline.arrRef spec0 0)) w) (h1 : E2 (a := 1024) (b := 1024) (V c (Pipeline.arrRef spec0 1)) g) (h2 : E2 (a := 1024) (b := 1024) (V c (Pipeline.arrRef spec0 2)) m) (h3 : E2 (a := 1024) (b := 1024) (V c (Pipeline.arrRef spec0 3)) v) :
    Stepped (a := 1024) (b := 1024) ((dat0 V c).arrAt 4 cfg0.N) ((dat0 V c).arrAt 5 cfg0.N) ((dat0 V c).arrAt 6 cfg0.N) w g m v :=
  blocks (N := cfg0.N) (a := 256) (e0 := fun t => ((cfg0.win 0).blk t).view.emb) (e1 := fun t => ((cfg0.win 1).blk t).view.emb) (e2 := fun t => ((cfg0.win 2).blk t).view.emb) (e3 := fun t => ((cfg0.win 3).blk t).view.emb) (e4 := fun t => ((cfg0.win 4).blk t).view.emb) (e5 := fun t => ((cfg0.win 5).blk t).view.emb) (e6 := fun t => ((cfg0.win 6).blk t).view.emb) (by decide +kernel)
    (fun t x k => (rect_emb_val (cfg0.win 0) t x k rfl).trans (rowsAt (index0_0 t) k))
    (fun t x k => (rect_emb_val (cfg0.win 1) t x k rfl).trans (rowsAt (index0_1 t) k))
    (fun t x k => (rect_emb_val (cfg0.win 2) t x k rfl).trans (rowsAt (index0_2 t) k))
    (fun t x k => (rect_emb_val (cfg0.win 3) t x k rfl).trans (rowsAt (index0_3 t) k))
    (fun t x k => (rect_emb_val (cfg0.win 4) t x k rfl).trans (rowsAt (index0_4 t) k))
    (fun t x k => (rect_emb_val (cfg0.win 5) t x k rfl).trans (rowsAt (index0_5 t) k))
    (fun t x k => (rect_emb_val (cfg0.win 6) t x k rfl).trans (rowsAt (index0_6 t) k))
    h0 h1 h2 h3 (fun t x => congrFun (left0_4 V c t) x) (fun t x => congrFun (left0_5 V c t) x) fun t x => congrFun (left0_6 V c t) x

/-! ## The step of `w_xkv` -/

theorem index1_0 : ∀ (t : Fin cfg1.N) (k : Fin 2), (cfg1.win 0).index t k = row t k := by decide +kernel
theorem index1_1 : ∀ (t : Fin cfg1.N) (k : Fin 2), (cfg1.win 1).index t k = row t k := by decide +kernel
theorem index1_2 : ∀ (t : Fin cfg1.N) (k : Fin 2), (cfg1.win 2).index t k = row t k := by decide +kernel
theorem index1_3 : ∀ (t : Fin cfg1.N) (k : Fin 2), (cfg1.win 3).index t k = row t k := by decide +kernel
theorem index1_4 : ∀ (t : Fin cfg1.N) (k : Fin 2), (cfg1.win 4).index t k = row t k := by decide +kernel
theorem index1_5 : ∀ (t : Fin cfg1.N) (k : Fin 2), (cfg1.win 5).index t k = row t k := by decide +kernel
theorem index1_6 : ∀ (t : Fin cfg1.N) (k : Fin 2), (cfg1.win 6).index t k = row t k := by decide +kernel

theorem left1_4 (t : Fin cfg1.N) : ((cfg1.win 4).blk t).view.read (Elt Ideal) ((dat1 V c).arrAt 4 cfg1.N) = k1_pay3 (F := Ideal) (iblk1 V c 0 t) (iblk1 V c 1 t) (iblk1 V c 2 t) (iblk1 V c 3 t) := by
  refine ((dat1 V c).read_blk_arrAt_eq_flushed 4 (fun t t' _ _ hne => (cfg1.win 4).disjoint_blk fun h => hne (Fin.ext
    ((index1_4 t 0).symm.trans ((congrFun h 0).trans (index1_4 t' 0))))) cfg1.N t t.isLt (flush1_4 t)).trans
      (Eq.trans (b := out1_4 (iblk1 V c 0 t) (iblk1 V c 1 t) (iblk1 V c 2 t) (iblk1 V c 3 t)) ?_ ?_)
  · show (cfg1.win 4).cut (grid1.coords t) ((dat1 V c).after 4 t) = _
    rw [after1_4]
    rfl
  · rw [out1_4, View.canon_unit_zero off2, View.ld_unit_zero off2, View.ld_unit_zero off2, View.ld_unit_zero off2, View.ld_unit_zero off2]

theorem left1_5 (t : Fin cfg1.N) : ((cfg1.win 5).blk t).view.read (Elt Ideal) ((dat1 V c).arrAt 5 cfg1.N) = k1_pay1 (F := Ideal) (iblk1 V c 1 t) (iblk1 V c 2 t) := by
  refine ((dat1 V c).read_blk_arrAt_eq_flushed 5 (fun t t' _ _ hne => (cfg1.win 5).disjoint_blk fun h => hne (Fin.ext
    ((index1_5 t 0).symm.trans ((congrFun h 0).trans (index1_5 t' 0))))) cfg1.N t t.isLt (flush1_5 t)).trans
      (Eq.trans (b := out1_5 (iblk1 V c 0 t) (iblk1 V c 1 t) (iblk1 V c 2 t) (iblk1 V c 3 t)) ?_ ?_)
  · show (cfg1.win 5).cut (grid1.coords t) ((dat1 V c).after 5 t) = _
    rw [after1_5]
    rfl
  · rw [out1_5, View.canon_unit_zero off2, View.ld_unit_zero off2, View.ld_unit_zero off2]

theorem left1_6 (t : Fin cfg1.N) : ((cfg1.win 6).blk t).view.read (Elt Ideal) ((dat1 V c).arrAt 6 cfg1.N) = k1_pay2 (F := Ideal) (iblk1 V c 1 t) (iblk1 V c 3 t) := by
  refine ((dat1 V c).read_blk_arrAt_eq_flushed 6 (fun t t' _ _ hne => (cfg1.win 6).disjoint_blk fun h => hne (Fin.ext
    ((index1_6 t 0).symm.trans ((congrFun h 0).trans (index1_6 t' 0))))) cfg1.N t t.isLt (flush1_6 t)).trans
      (Eq.trans (b := out1_6 (iblk1 V c 0 t) (iblk1 V c 1 t) (iblk1 V c 2 t) (iblk1 V c 3 t)) ?_ ?_)
  · show (cfg1.win 6).cut (grid1.coords t) ((dat1 V c).after 6 t) = _
    rw [after1_6]
    rfl
  · rw [out1_6, View.canon_unit_zero off2, View.ld_unit_zero off2, View.ld_unit_zero off2]

theorem xkv_is (h0 : E2 (a := 4096) (b := 512) (V c (Pipeline.arrRef spec1 0)) w) (h1 : E2 (a := 4096) (b := 512) (V c (Pipeline.arrRef spec1 1)) g) (h2 : E2 (a := 4096) (b := 512) (V c (Pipeline.arrRef spec1 2)) m) (h3 : E2 (a := 4096) (b := 512) (V c (Pipeline.arrRef spec1 3)) v) :
    Stepped (a := 4096) (b := 512) ((dat1 V c).arrAt 4 cfg1.N) ((dat1 V c).arrAt 5 cfg1.N) ((dat1 V c).arrAt 6 cfg1.N) w g m v :=
  blocks (N := cfg1.N) (a := 256) (e0 := fun t => ((cfg1.win 0).blk t).view.emb) (e1 := fun t => ((cfg1.win 1).blk t).view.emb) (e2 := fun t => ((cfg1.win 2).blk t).view.emb) (e3 := fun t => ((cfg1.win 3).blk t).view.emb) (e4 := fun t => ((cfg1.win 4).blk t).view.emb) (e5 := fun t => ((cfg1.win 5).blk t).view.emb) (e6 := fun t => ((cfg1.win 6).blk t).view.emb) (by decide +kernel)
    (fun t x k => (rect_emb_val (cfg1.win 0) t x k rfl).trans (rowsAt (index1_0 t) k))
    (fun t x k => (rect_emb_val (cfg1.win 1) t x k rfl).trans (rowsAt (index1_1 t) k))
    (fun t x k => (rect_emb_val (cfg1.win 2) t x k rfl).trans (rowsAt (index1_2 t) k))
    (fun t x k => (rect_emb_val (cfg1.win 3) t x k rfl).trans (rowsAt (index1_3 t) k))
    (fun t x k => (rect_emb_val (cfg1.win 4) t x k rfl).trans (rowsAt (index1_4 t) k))
    (fun t x k => (rect_emb_val (cfg1.win 5) t x k rfl).trans (rowsAt (index1_5 t) k))
    (fun t x k => (rect_emb_val (cfg1.win 6) t x k rfl).trans (rowsAt (index1_6 t) k))
    h0 h1 h2 h3 (fun t x => congrFun (left1_4 V c t) x) (fun t x => congrFun (left1_5 V c t) x) fun t x => congrFun (left1_6 V c t) x

/-! ## The step of `w_ffn_gu` -/

theorem index2_0 : ∀ (t : Fin cfg2.N) (k : Fin 2), (cfg2.win 0).index t k = row t k := by decide +kernel
theorem index2_1 : ∀ (t : Fin cfg2.N) (k : Fin 2), (cfg2.win 1).index t k = row t k := by decide +kernel
theorem index2_2 : ∀ (t : Fin cfg2.N) (k : Fin 2), (cfg2.win 2).index t k = row t k := by decide +kernel
theorem index2_3 : ∀ (t : Fin cfg2.N) (k : Fin 2), (cfg2.win 3).index t k = row t k := by decide +kernel
theorem index2_4 : ∀ (t : Fin cfg2.N) (k : Fin 2), (cfg2.win 4).index t k = row t k := by decide +kernel
theorem index2_5 : ∀ (t : Fin cfg2.N) (k : Fin 2), (cfg2.win 5).index t k = row t k := by decide +kernel
theorem index2_6 : ∀ (t : Fin cfg2.N) (k : Fin 2), (cfg2.win 6).index t k = row t k := by decide +kernel

theorem left2_4 (t : Fin cfg2.N) : ((cfg2.win 4).blk t).view.read (Elt Ideal) ((dat2 V c).arrAt 4 cfg2.N) = k2_pay3 (F := Ideal) (iblk2 V c 0 t) (iblk2 V c 1 t) (iblk2 V c 2 t) (iblk2 V c 3 t) := by
  refine ((dat2 V c).read_blk_arrAt_eq_flushed 4 (fun t t' _ _ hne => (cfg2.win 4).disjoint_blk fun h => hne (Fin.ext
    ((index2_4 t 0).symm.trans ((congrFun h 0).trans (index2_4 t' 0))))) cfg2.N t t.isLt (flush2_4 t)).trans
      (Eq.trans (b := out2_4 (iblk2 V c 0 t) (iblk2 V c 1 t) (iblk2 V c 2 t) (iblk2 V c 3 t)) ?_ ?_)
  · show (cfg2.win 4).cut (grid2.coords t) ((dat2 V c).after 4 t) = _
    rw [after2_4]
    rfl
  · rw [out2_4, View.canon_unit_zero off2, View.ld_unit_zero off2, View.ld_unit_zero off2, View.ld_unit_zero off2, View.ld_unit_zero off2]

theorem left2_5 (t : Fin cfg2.N) : ((cfg2.win 5).blk t).view.read (Elt Ideal) ((dat2 V c).arrAt 5 cfg2.N) = k2_pay1 (F := Ideal) (iblk2 V c 1 t) (iblk2 V c 2 t) := by
  refine ((dat2 V c).read_blk_arrAt_eq_flushed 5 (fun t t' _ _ hne => (cfg2.win 5).disjoint_blk fun h => hne (Fin.ext
    ((index2_5 t 0).symm.trans ((congrFun h 0).trans (index2_5 t' 0))))) cfg2.N t t.isLt (flush2_5 t)).trans
      (Eq.trans (b := out2_5 (iblk2 V c 0 t) (iblk2 V c 1 t) (iblk2 V c 2 t) (iblk2 V c 3 t)) ?_ ?_)
  · show (cfg2.win 5).cut (grid2.coords t) ((dat2 V c).after 5 t) = _
    rw [after2_5]
    rfl
  · rw [out2_5, View.canon_unit_zero off2, View.ld_unit_zero off2, View.ld_unit_zero off2]

theorem left2_6 (t : Fin cfg2.N) : ((cfg2.win 6).blk t).view.read (Elt Ideal) ((dat2 V c).arrAt 6 cfg2.N) = k2_pay2 (F := Ideal) (iblk2 V c 1 t) (iblk2 V c 3 t) := by
  refine ((dat2 V c).read_blk_arrAt_eq_flushed 6 (fun t t' _ _ hne => (cfg2.win 6).disjoint_blk fun h => hne (Fin.ext
    ((index2_6 t 0).symm.trans ((congrFun h 0).trans (index2_6 t' 0))))) cfg2.N t t.isLt (flush2_6 t)).trans
      (Eq.trans (b := out2_6 (iblk2 V c 0 t) (iblk2 V c 1 t) (iblk2 V c 2 t) (iblk2 V c 3 t)) ?_ ?_)
  · show (cfg2.win 6).cut (grid2.coords t) ((dat2 V c).after 6 t) = _
    rw [after2_6]
    rfl
  · rw [out2_6, View.canon_unit_zero off2, View.ld_unit_zero off2, View.ld_unit_zero off2]

theorem gu_is (h0 : E2 (a := 4096) (b := 1408) (V c (Pipeline.arrRef spec2 0)) w) (h1 : E2 (a := 4096) (b := 1408) (V c (Pipeline.arrRef spec2 1)) g) (h2 : E2 (a := 4096) (b := 1408) (V c (Pipeline.arrRef spec2 2)) m) (h3 : E2 (a := 4096) (b := 1408) (V c (Pipeline.arrRef spec2 3)) v) :
    Stepped (a := 4096) (b := 1408) ((dat2 V c).arrAt 4 cfg2.N) ((dat2 V c).arrAt 5 cfg2.N) ((dat2 V c).arrAt 6 cfg2.N) w g m v :=
  blocks (N := cfg2.N) (a := 256) (e0 := fun t => ((cfg2.win 0).blk t).view.emb) (e1 := fun t => ((cfg2.win 1).blk t).view.emb) (e2 := fun t => ((cfg2.win 2).blk t).view.emb) (e3 := fun t => ((cfg2.win 3).blk t).view.emb) (e4 := fun t => ((cfg2.win 4).blk t).view.emb) (e5 := fun t => ((cfg2.win 5).blk t).view.emb) (e6 := fun t => ((cfg2.win 6).blk t).view.emb) (by decide +kernel)
    (fun t x k => (rect_emb_val (cfg2.win 0) t x k rfl).trans (rowsAt (index2_0 t) k))
    (fun t x k => (rect_emb_val (cfg2.win 1) t x k rfl).trans (rowsAt (index2_1 t) k))
    (fun t x k => (rect_emb_val (cfg2.win 2) t x k rfl).trans (rowsAt (index2_2 t) k))
    (fun t x k => (rect_emb_val (cfg2.win 3) t x k rfl).trans (rowsAt (index2_3 t) k))
    (fun t x k => (rect_emb_val (cfg2.win 4) t x k rfl).trans (rowsAt (index2_4 t) k))
    (fun t x k => (rect_emb_val (cfg2.win 5) t x k rfl).trans (rowsAt (index2_5 t) k))
    (fun t x k => (rect_emb_val (cfg2.win 6) t x k rfl).trans (rowsAt (index2_6 t) k))
    h0 h1 h2 h3 (fun t x => congrFun (left2_4 V c t) x) (fun t x => congrFun (left2_5 V c t) x) fun t x => congrFun (left2_6 V c t) x

/-! ## The step of `w_ffn_down` -/

theorem index3_0 : ∀ (t : Fin cfg3.N) (k : Fin 2), (cfg3.win 0).index t k = row t k := by decide +kernel
theorem index3_1 : ∀ (t : Fin cfg3.N) (k : Fin 2), (cfg3.win 1).index t k = row t k := by decide +kernel
theorem index3_2 : ∀ (t : Fin cfg3.N) (k : Fin 2), (cfg3.win 2).index t k = row t k := by decide +kernel
theorem index3_3 : ∀ (t : Fin cfg3.N) (k : Fin 2), (cfg3.win 3).index t k = row t k := by decide +kernel
theorem index3_4 : ∀ (t : Fin cfg3.N) (k : Fin 2), (cfg3.win 4).index t k = row t k := by decide +kernel
theorem index3_5 : ∀ (t : Fin cfg3.N) (k : Fin 2), (cfg3.win 5).index t k = row t k := by decide +kernel
theorem index3_6 : ∀ (t : Fin cfg3.N) (k : Fin 2), (cfg3.win 6).index t k = row t k := by decide +kernel

theorem left3_4 (t : Fin cfg3.N) : ((cfg3.win 4).blk t).view.read (Elt Ideal) ((dat3 V c).arrAt 4 cfg3.N) = k3_pay3 (F := Ideal) (iblk3 V c 0 t) (iblk3 V c 1 t) (iblk3 V c 2 t) (iblk3 V c 3 t) := by
  refine ((dat3 V c).read_blk_arrAt_eq_flushed 4 (fun t t' _ _ hne => (cfg3.win 4).disjoint_blk fun h => hne (Fin.ext
    ((index3_4 t 0).symm.trans ((congrFun h 0).trans (index3_4 t' 0))))) cfg3.N t t.isLt (flush3_4 t)).trans
      (Eq.trans (b := out3_4 (iblk3 V c 0 t) (iblk3 V c 1 t) (iblk3 V c 2 t) (iblk3 V c 3 t)) ?_ ?_)
  · show (cfg3.win 4).cut (grid3.coords t) ((dat3 V c).after 4 t) = _
    rw [after3_4]
    rfl
  · rw [out3_4, View.canon_unit_zero off2, View.ld_unit_zero off2, View.ld_unit_zero off2, View.ld_unit_zero off2, View.ld_unit_zero off2]

theorem left3_5 (t : Fin cfg3.N) : ((cfg3.win 5).blk t).view.read (Elt Ideal) ((dat3 V c).arrAt 5 cfg3.N) = k3_pay1 (F := Ideal) (iblk3 V c 1 t) (iblk3 V c 2 t) := by
  refine ((dat3 V c).read_blk_arrAt_eq_flushed 5 (fun t t' _ _ hne => (cfg3.win 5).disjoint_blk fun h => hne (Fin.ext
    ((index3_5 t 0).symm.trans ((congrFun h 0).trans (index3_5 t' 0))))) cfg3.N t t.isLt (flush3_5 t)).trans
      (Eq.trans (b := out3_5 (iblk3 V c 0 t) (iblk3 V c 1 t) (iblk3 V c 2 t) (iblk3 V c 3 t)) ?_ ?_)
  · show (cfg3.win 5).cut (grid3.coords t) ((dat3 V c).after 5 t) = _
    rw [after3_5]
    rfl
  · rw [out3_5, View.canon_unit_zero off2, View.ld_unit_zero off2, View.ld_unit_zero off2]

theorem left3_6 (t : Fin cfg3.N) : ((cfg3.win 6).blk t).view.read (Elt Ideal) ((dat3 V c).arrAt 6 cfg3.N) = k3_pay2 (F := Ideal) (iblk3 V c 1 t) (iblk3 V c 3 t) := by
  refine ((dat3 V c).read_blk_arrAt_eq_flushed 6 (fun t t' _ _ hne => (cfg3.win 6).disjoint_blk fun h => hne (Fin.ext
    ((index3_6 t 0).symm.trans ((congrFun h 0).trans (index3_6 t' 0))))) cfg3.N t t.isLt (flush3_6 t)).trans
      (Eq.trans (b := out3_6 (iblk3 V c 0 t) (iblk3 V c 1 t) (iblk3 V c 2 t) (iblk3 V c 3 t)) ?_ ?_)
  · show (cfg3.win 6).cut (grid3.coords t) ((dat3 V c).after 6 t) = _
    rw [after3_6]
    rfl
  · rw [out3_6, View.canon_unit_zero off2, View.ld_unit_zero off2, View.ld_unit_zero off2]

theorem down_is (h0 : E2 (a := 2816) (b := 1024) (V c (Pipeline.arrRef spec3 0)) w) (h1 : E2 (a := 2816) (b := 1024) (V c (Pipeline.arrRef spec3 1)) g) (h2 : E2 (a := 2816) (b := 1024) (V c (Pipeline.arrRef spec3 2)) m) (h3 : E2 (a := 2816) (b := 1024) (V c (Pipeline.arrRef spec3 3)) v) :
    Stepped (a := 2816) (b := 1024) ((dat3 V c).arrAt 4 cfg3.N) ((dat3 V c).arrAt 5 cfg3.N) ((dat3 V c).arrAt 6 cfg3.N) w g m v :=
  blocks (N := cfg3.N) (a := 256) (e0 := fun t => ((cfg3.win 0).blk t).view.emb) (e1 := fun t => ((cfg3.win 1).blk t).view.emb) (e2 := fun t => ((cfg3.win 2).blk t).view.emb) (e3 := fun t => ((cfg3.win 3).blk t).view.emb) (e4 := fun t => ((cfg3.win 4).blk t).view.emb) (e5 := fun t => ((cfg3.win 5).blk t).view.emb) (e6 := fun t => ((cfg3.win 6).blk t).view.emb) (by decide +kernel)
    (fun t x k => (rect_emb_val (cfg3.win 0) t x k rfl).trans (rowsAt (index3_0 t) k))
    (fun t x k => (rect_emb_val (cfg3.win 1) t x k rfl).trans (rowsAt (index3_1 t) k))
    (fun t x k => (rect_emb_val (cfg3.win 2) t x k rfl).trans (rowsAt (index3_2 t) k))
    (fun t x k => (rect_emb_val (cfg3.win 3) t x k rfl).trans (rowsAt (index3_3 t) k))
    (fun t x k => (rect_emb_val (cfg3.win 4) t x k rfl).trans (rowsAt (index3_4 t) k))
    (fun t x k => (rect_emb_val (cfg3.win 5) t x k rfl).trans (rowsAt (index3_5 t) k))
    (fun t x k => (rect_emb_val (cfg3.win 6) t x k rfl).trans (rowsAt (index3_6 t) k))
    h0 h1 h2 h3 (fun t x => congrFun (left3_4 V c t) x) (fun t x => congrFun (left3_5 V c t) x) fun t x => congrFun (left3_6 V c t) x

/-! ## The step of `ab_w_out` -/

theorem index4_0 : ∀ (t : Fin cfg4.N) (k : Fin 2), (cfg4.win 0).index t k = row t k := by decide +kernel
theorem index4_1 : ∀ (t : Fin cfg4.N) (k : Fin 2), (cfg4.win 1).index t k = row t k := by decide +kernel
theorem index4_2 : ∀ (t : Fin cfg4.N) (k : Fin 2), (cfg4.win 2).index t k = row t k := by decide +kernel
theorem index4_3 : ∀ (t : Fin cfg4.N) (k : Fin 2), (cfg4.win 3).index t k = row t k := by decide +kernel
theorem index4_4 : ∀ (t : Fin cfg4.N) (k : Fin 2), (cfg4.win 4).index t k = row t k := by decide +kernel
theorem index4_5 : ∀ (t : Fin cfg4.N) (k : Fin 2), (cfg4.win 5).index t k = row t k := by decide +kernel
theorem index4_6 : ∀ (t : Fin cfg4.N) (k : Fin 2), (cfg4.win 6).index t k = row t k := by decide +kernel

theorem left4_4 (t : Fin cfg4.N) : ((cfg4.win 4).blk t).view.read (Elt Ideal) ((dat4 V c).arrAt 4 cfg4.N) = k4_pay3 (F := Ideal) (iblk4 V c 0 t) (iblk4 V c 1 t) (iblk4 V c 2 t) (iblk4 V c 3 t) := by
  refine ((dat4 V c).read_blk_arrAt_eq_flushed 4 (fun t t' _ _ hne => (cfg4.win 4).disjoint_blk fun h => hne (Fin.ext
    ((index4_4 t 0).symm.trans ((congrFun h 0).trans (index4_4 t' 0))))) cfg4.N t t.isLt (flush4_4 t)).trans
      (Eq.trans (b := out4_4 (iblk4 V c 0 t) (iblk4 V c 1 t) (iblk4 V c 2 t) (iblk4 V c 3 t)) ?_ ?_)
  · show (cfg4.win 4).cut (grid4.coords t) ((dat4 V c).after 4 t) = _
    rw [after4_4]
    rfl
  · rw [out4_4, View.canon_unit_zero off2, View.ld_unit_zero off2, View.ld_unit_zero off2, View.ld_unit_zero off2, View.ld_unit_zero off2]

theorem left4_5 (t : Fin cfg4.N) : ((cfg4.win 5).blk t).view.read (Elt Ideal) ((dat4 V c).arrAt 5 cfg4.N) = k4_pay1 (F := Ideal) (iblk4 V c 1 t) (iblk4 V c 2 t) := by
  refine ((dat4 V c).read_blk_arrAt_eq_flushed 5 (fun t t' _ _ hne => (cfg4.win 5).disjoint_blk fun h => hne (Fin.ext
    ((index4_5 t 0).symm.trans ((congrFun h 0).trans (index4_5 t' 0))))) cfg4.N t t.isLt (flush4_5 t)).trans
      (Eq.trans (b := out4_5 (iblk4 V c 0 t) (iblk4 V c 1 t) (iblk4 V c 2 t) (iblk4 V c 3 t)) ?_ ?_)
  · show (cfg4.win 5).cut (grid4.coords t) ((dat4 V c).after 5 t) = _
    rw [after4_5]
    rfl
  · rw [out4_5, View.canon_unit_zero off2, View.ld_unit_zero off2, View.ld_unit_zero off2]

theorem left4_6 (t : Fin cfg4.N) : ((cfg4.win 6).blk t).view.read (Elt Ideal) ((dat4 V c).arrAt 6 cfg4.N) = k4_pay2 (F := Ideal) (iblk4 V c 1 t) (iblk4 V c 3 t) := by
  refine ((dat4 V c).read_blk_arrAt_eq_flushed 6 (fun t t' _ _ hne => (cfg4.win 6).disjoint_blk fun h => hne (Fin.ext
    ((index4_6 t 0).symm.trans ((congrFun h 0).trans (index4_6 t' 0))))) cfg4.N t t.isLt (flush4_6 t)).trans
      (Eq.trans (b := out4_6 (iblk4 V c 0 t) (iblk4 V c 1 t) (iblk4 V c 2 t) (iblk4 V c 3 t)) ?_ ?_)
  · show (cfg4.win 6).cut (grid4.coords t) ((dat4 V c).after 6 t) = _
    rw [after4_6]
    rfl
  · rw [out4_6, View.canon_unit_zero off2, View.ld_unit_zero off2, View.ld_unit_zero off2]

theorem out_is (h0 : E2 (a := 512) (b := 1024) (V c (Pipeline.arrRef spec4 0)) w) (h1 : E2 (a := 512) (b := 1024) (V c (Pipeline.arrRef spec4 1)) g) (h2 : E2 (a := 512) (b := 1024) (V c (Pipeline.arrRef spec4 2)) m) (h3 : E2 (a := 512) (b := 1024) (V c (Pipeline.arrRef spec4 3)) v) :
    Stepped (a := 512) (b := 1024) ((dat4 V c).arrAt 4 cfg4.N) ((dat4 V c).arrAt 5 cfg4.N) ((dat4 V c).arrAt 6 cfg4.N) w g m v :=
  blocks (N := cfg4.N) (a := 256) (e0 := fun t => ((cfg4.win 0).blk t).view.emb) (e1 := fun t => ((cfg4.win 1).blk t).view.emb) (e2 := fun t => ((cfg4.win 2).blk t).view.emb) (e3 := fun t => ((cfg4.win 3).blk t).view.emb) (e4 := fun t => ((cfg4.win 4).blk t).view.emb) (e5 := fun t => ((cfg4.win 5).blk t).view.emb) (e6 := fun t => ((cfg4.win 6).blk t).view.emb) (by decide +kernel)
    (fun t x k => (rect_emb_val (cfg4.win 0) t x k rfl).trans (rowsAt (index4_0 t) k))
    (fun t x k => (rect_emb_val (cfg4.win 1) t x k rfl).trans (rowsAt (index4_1 t) k))
    (fun t x k => (rect_emb_val (cfg4.win 2) t x k rfl).trans (rowsAt (index4_2 t) k))
    (fun t x k => (rect_emb_val (cfg4.win 3) t x k rfl).trans (rowsAt (index4_3 t) k))
    (fun t x k => (rect_emb_val (cfg4.win 4) t x k rfl).trans (rowsAt (index4_4 t) k))
    (fun t x k => (rect_emb_val (cfg4.win 5) t x k rfl).trans (rowsAt (index4_5 t) k))
    (fun t x k => (rect_emb_val (cfg4.win 6) t x k rfl).trans (rowsAt (index4_6 t) k))
    h0 h1 h2 h3 (fun t x => congrFun (left4_4 V c t) x) (fun t x => congrFun (left4_5 V c t) x) fun t x => congrFun (left4_6 V c t) x

/-! ## The step of `c_w_a` -/

theorem index5_0 : ∀ (t : Fin cfg5.N) (k : Fin 2), (cfg5.win 0).index t k = row t k := by decide +kernel
theorem index5_1 : ∀ (t : Fin cfg5.N) (k : Fin 2), (cfg5.win 1).index t k = row t k := by decide +kernel
theorem index5_2 : ∀ (t : Fin cfg5.N) (k : Fin 2), (cfg5.win 2).index t k = row t k := by decide +kernel
theorem index5_3 : ∀ (t : Fin cfg5.N) (k : Fin 2), (cfg5.win 3).index t k = row t k := by decide +kernel
theorem index5_4 : ∀ (t : Fin cfg5.N) (k : Fin 2), (cfg5.win 4).index t k = row t k := by decide +kernel
theorem index5_5 : ∀ (t : Fin cfg5.N) (k : Fin 2), (cfg5.win 5).index t k = row t k := by decide +kernel
theorem index5_6 : ∀ (t : Fin cfg5.N) (k : Fin 2), (cfg5.win 6).index t k = row t k := by decide +kernel

theorem left5_4 (t : Fin cfg5.N) : ((cfg5.win 4).blk t).view.read (Elt Ideal) ((dat5 V c).arrAt 4 cfg5.N) = k5_pay3 (F := Ideal) (iblk5 V c 0 t) (iblk5 V c 1 t) (iblk5 V c 2 t) (iblk5 V c 3 t) := by
  refine ((dat5 V c).read_blk_arrAt_eq_flushed 4 (fun t t' _ _ hne => (cfg5.win 4).disjoint_blk fun h => hne (Fin.ext
    ((index5_4 t 0).symm.trans ((congrFun h 0).trans (index5_4 t' 0))))) cfg5.N t t.isLt (flush5_4 t)).trans
      (Eq.trans (b := out5_4 (iblk5 V c 0 t) (iblk5 V c 1 t) (iblk5 V c 2 t) (iblk5 V c 3 t)) ?_ ?_)
  · show (cfg5.win 4).cut (grid5.coords t) ((dat5 V c).after 4 t) = _
    rw [after5_4]
    rfl
  · rw [out5_4, View.canon_unit_zero off2, View.ld_unit_zero off2, View.ld_unit_zero off2, View.ld_unit_zero off2, View.ld_unit_zero off2]

theorem left5_5 (t : Fin cfg5.N) : ((cfg5.win 5).blk t).view.read (Elt Ideal) ((dat5 V c).arrAt 5 cfg5.N) = k5_pay1 (F := Ideal) (iblk5 V c 1 t) (iblk5 V c 2 t) := by
  refine ((dat5 V c).read_blk_arrAt_eq_flushed 5 (fun t t' _ _ hne => (cfg5.win 5).disjoint_blk fun h => hne (Fin.ext
    ((index5_5 t 0).symm.trans ((congrFun h 0).trans (index5_5 t' 0))))) cfg5.N t t.isLt (flush5_5 t)).trans
      (Eq.trans (b := out5_5 (iblk5 V c 0 t) (iblk5 V c 1 t) (iblk5 V c 2 t) (iblk5 V c 3 t)) ?_ ?_)
  · show (cfg5.win 5).cut (grid5.coords t) ((dat5 V c).after 5 t) = _
    rw [after5_5]
    rfl
  · rw [out5_5, View.canon_unit_zero off2, View.ld_unit_zero off2, View.ld_unit_zero off2]

theorem left5_6 (t : Fin cfg5.N) : ((cfg5.win 6).blk t).view.read (Elt Ideal) ((dat5 V c).arrAt 6 cfg5.N) = k5_pay2 (F := Ideal) (iblk5 V c 1 t) (iblk5 V c 3 t) := by
  refine ((dat5 V c).read_blk_arrAt_eq_flushed 6 (fun t t' _ _ hne => (cfg5.win 6).disjoint_blk fun h => hne (Fin.ext
    ((index5_6 t 0).symm.trans ((congrFun h 0).trans (index5_6 t' 0))))) cfg5.N t t.isLt (flush5_6 t)).trans
      (Eq.trans (b := out5_6 (iblk5 V c 0 t) (iblk5 V c 1 t) (iblk5 V c 2 t) (iblk5 V c 3 t)) ?_ ?_)
  · show (cfg5.win 6).cut (grid5.coords t) ((dat5 V c).after 6 t) = _
    rw [after5_6]
    rfl
  · rw [out5_6, View.canon_unit_zero off2, View.ld_unit_zero off2, View.ld_unit_zero off2]

theorem gate_is (h0 : E2 (a := 512) (b := 256) (V c (Pipeline.arrRef spec5 0)) w) (h1 : E2 (a := 512) (b := 256) (V c (Pipeline.arrRef spec5 1)) g) (h2 : E2 (a := 512) (b := 256) (V c (Pipeline.arrRef spec5 2)) m) (h3 : E2 (a := 512) (b := 256) (V c (Pipeline.arrRef spec5 3)) v) :
    Stepped (a := 512) (b := 256) ((dat5 V c).arrAt 4 cfg5.N) ((dat5 V c).arrAt 5 cfg5.N) ((dat5 V c).arrAt 6 cfg5.N) w g m v :=
  blocks (N := cfg5.N) (a := 256) (e0 := fun t => ((cfg5.win 0).blk t).view.emb) (e1 := fun t => ((cfg5.win 1).blk t).view.emb) (e2 := fun t => ((cfg5.win 2).blk t).view.emb) (e3 := fun t => ((cfg5.win 3).blk t).view.emb) (e4 := fun t => ((cfg5.win 4).blk t).view.emb) (e5 := fun t => ((cfg5.win 5).blk t).view.emb) (e6 := fun t => ((cfg5.win 6).blk t).view.emb) (by decide +kernel)
    (fun t x k => (rect_emb_val (cfg5.win 0) t x k rfl).trans (rowsAt (index5_0 t) k))
    (fun t x k => (rect_emb_val (cfg5.win 1) t x k rfl).trans (rowsAt (index5_1 t) k))
    (fun t x k => (rect_emb_val (cfg5.win 2) t x k rfl).trans (rowsAt (index5_2 t) k))
    (fun t x k => (rect_emb_val (cfg5.win 3) t x k rfl).trans (rowsAt (index5_3 t) k))
    (fun t x k => (rect_emb_val (cfg5.win 4) t x k rfl).trans (rowsAt (index5_4 t) k))
    (fun t x k => (rect_emb_val (cfg5.win 5) t x k rfl).trans (rowsAt (index5_5 t) k))
    (fun t x k => (rect_emb_val (cfg5.win 6) t x k rfl).trans (rowsAt (index5_6 t) k))
    h0 h1 h2 h3 (fun t x => congrFun (left5_4 V c t) x) (fun t x => congrFun (left5_5 V c t) x) fun t x => congrFun (left5_6 V c t) x

end Opt.Ker

end
-- ==== Proof.OptKerValue.lean ====
/- The results of the program of AdamW steps, from its arguments, whatever they hold: each call's step, which the later calls
   leave as it is. -/
module

public import proofs.«01_k».proof.Proof.OptBlocks

@[expose] public section

noncomputable section

namespace Opt.Ker

open Idealize.ShloMosaic Idealize.ShloMosaic.TcCoe Idealize.ShloMosaic.ValueIdx Cert.OptKernelIdeal Cert.OptKernelIdeal.Gen Lin

variable (m : (ℓ : Loc nD τ sig) → Buf (Elt Ideal) ℓ) (ρ : Dev nD → PrngReg) (c : Dev nD)

/-- The entries of an argument that is a matrix. -/
abbrev arg (a b : ℕ) (x : (⟨2, ![a, b]⟩ : Shape).Idx → EReal) : ℕ → ℕ → EReal := entries x

theorem xq_end : Stepped (a := 1024) (b := 1024) (W6 m ρ c (Proc.devRef .tc main_v0_0)) (W6 m ρ c (Proc.devRef .tc main_v0_1)) (W6 m ρ c (Proc.devRef .tc main_v0_2))
    (arg 1024 1024 (m ((c.tc : Thread nD τ).loc main_arg0))) (arg 1024 1024 (m ((c.tc : Thread nD τ).loc main_arg1))) (arg 1024 1024 (m ((c.tc : Thread nD τ).loc main_arg2))) (arg 1024 1024 (m ((c.tc : Thread nD τ).loc main_arg3))) :=
  have h := xq_is (V0 m ρ) c (.of_eq (W0_args m ρ c main_arg0 (by decide)) (entries_is _)) (.of_eq (W0_args m ρ c main_arg1 (by decide)) (entries_is _)) (.of_eq (W0_args m ρ c main_arg2 (by decide)) (entries_is _)) (.of_eq (W0_args m ρ c main_arg3 (by decide)) (entries_is _))
  ⟨.of_eq (W6_of m ρ c main_v0_0 (by decide)) <| .of_eq (W5_of m ρ c main_v0_0 (by decide)) <| .of_eq (W4_of m ρ c main_v0_0 (by decide)) <| .of_eq (W3_of m ρ c main_v0_0 (by decide)) <| .of_eq (W2_of m ρ c main_v0_0 (by decide)) <| .of_eq (W1_arr m ρ c 4) h.1,
    .of_eq (W6_of m ρ c main_v0_1 (by decide)) <| .of_eq (W5_of m ρ c main_v0_1 (by decide)) <| .of_eq (W4_of m ρ c main_v0_1 (by decide)) <| .of_eq (W3_of m ρ c main_v0_1 (by decide)) <| .of_eq (W2_of m ρ c main_v0_1 (by decide)) <| .of_eq (W1_arr m ρ c 5) h.2.1,
    .of_eq (W6_of m ρ c main_v0_2 (by decide)) <| .of_eq (W5_of m ρ c main_v0_2 (by decide)) <| .of_eq (W4_of m ρ c main_v0_2 (by decide)) <| .of_eq (W3_of m ρ c main_v0_2 (by decide)) <| .of_eq (W2_of m ρ c main_v0_2 (by decide)) <| .of_eq (W1_arr m ρ c 6) h.2.2⟩

theorem xkv_end : Stepped (a := 4096) (b := 512) (W6 m ρ c (Proc.devRef .tc main_v1_0)) (W6 m ρ c (Proc.devRef .tc main_v1_1)) (W6 m ρ c (Proc.devRef .tc main_v1_2))
    (arg 4096 512 (m ((c.tc : Thread nD τ).loc main_arg4))) (arg 4096 512 (m ((c.tc : Thread nD τ).loc main_arg5))) (arg 4096 512 (m ((c.tc : Thread nD τ).loc main_arg6))) (arg 4096 512 (m ((c.tc : Thread nD τ).loc main_arg7))) :=
  have h := xkv_is (V1 m ρ) c (.of_eq (W1_args m ρ c main_arg4 (by decide)) (entries_is _)) (.of_eq (W1_args m ρ c main_arg5 (by decide)) (entries_is _)) (.of_eq (W1_args m ρ c main_arg6 (by decide)) (entries_is _)) (.of_eq (W1_args m ρ c main_arg7 (by decide)) (entries_is _))
  ⟨.of_eq (W6_of m ρ c main_v1_0 (by decide)) <| .of_eq (W5_of m ρ c main_v1_0 (by decide)) <| .of_eq (W4_of m ρ c main_v1_0 (by decide)) <| .of_eq (W3_of m ρ c main_v1_0 (by decide)) <| .of_eq (W2_arr m ρ c 4) h.1,
    .of_eq (W6_of m ρ c main_v1_1 (by decide)) <| .of_eq (W5_of m ρ c main_v1_1 (by decide)) <| .of_eq (W4_of m ρ c main_v1_1 (by decide)) <| .of_eq (W3_of m ρ c main_v1_1 (by decide)) <| .of_eq (W2_arr m ρ c 5) h.2.1,
    .of_eq (W6_of m ρ c main_v1_2 (by decide)) <| .of_eq (W5_of m ρ c main_v1_2 (by decide)) <| .of_eq (W4_of m ρ c main_v1_2 (by decide)) <| .of_eq (W3_of m ρ c main_v1_2 (by decide)) <| .of_eq (W2_arr m ρ c 6) h.2.2⟩

theorem gu_end : Stepped (a := 4096) (b := 1408) (W6 m ρ c (Proc.devRef .tc main_v2_0)) (W6 m ρ c (Proc.devRef .tc main_v2_1)) (W6 m ρ c (Proc.devRef .tc main_v2_2))
    (arg 4096 1408 (m ((c.tc : Thread nD τ).loc main_arg8))) (arg 4096 1408 (m ((c.tc : Thread nD τ).loc main_arg9))) (arg 4096 1408 (m ((c.tc : Thread nD τ).loc main_arg10))) (arg 4096 1408 (m ((c.tc : Thread nD τ).loc main_arg11))) :=
  have h := gu_is (V2 m ρ) c (.of_eq (W2_args m ρ c main_arg8 (by decide)) (entries_is _)) (.of_eq (W2_args m ρ c main_arg9 (by decide)) (entries_is _)) (.of_eq (W2_args m ρ c main_arg10 (by decide)) (entries_is _)) (.of_eq (W2_args m ρ c main_arg11 (by decide)) (entries_is _))
  ⟨.of_eq (W6_of m ρ c main_v2_0 (by decide)) <| .of_eq (W5_of m ρ c main_v2_0 (by decide)) <| .of_eq (W4_of m ρ c main_v2_0 (by decide)) <| .of_eq (W3_arr m ρ c 4) h.1,
    .of_eq (W6_of m ρ c main_v2_1 (by decide)) <| .of_eq (W5_of m ρ c main_v2_1 (by decide)) <| .of_eq (W4_of m ρ c main_v2_1 (by decide)) <| .of_eq (W3_arr m ρ c 5) h.2.1,
    .of_eq (W6_of m ρ c main_v2_2 (by decide)) <| .of_eq (W5_of m ρ c main_v2_2 (by decide)) <| .of_eq (W4_of m ρ c main_v2_2 (by decide)) <| .of_eq (W3_arr m ρ c 6) h.2.2⟩

theorem down_end : Stepped (a := 2816) (b := 1024) (W6 m ρ c (Proc.devRef .tc main_v3_0)) (W6 m ρ c (Proc.devRef .tc main_v3_1)) (W6 m ρ c (Proc.devRef .tc main_v3_2))
    (arg 2816 1024 (m ((c.tc : Thread nD τ).loc main_arg12))) (arg 2816 1024 (m ((c.tc : Thread nD τ).loc main_arg13))) (arg 2816 1024 (m ((c.tc : Thread nD τ).loc main_arg14))) (arg 2816 1024 (m ((c.tc : Thread nD τ).loc main_arg15))) :=
  have h := down_is (V3 m ρ) c (.of_eq (W3_args m ρ c main_arg12 (by decide)) (entries_is _)) (.of_eq (W3_args m ρ c main_arg13 (by decide)) (entries_is _)) (.of_eq (W3_args m ρ c main_arg14 (by decide)) (entries_is _)) (.of_eq (W3_args m ρ c main_arg15 (by decide)) (entries_is _))
  ⟨.of_eq (W6_of m ρ c main_v3_0 (by decide)) <| .of_eq (W5_of m ρ c main_v3_0 (by decide)) <| .of_eq (W4_arr m ρ c 4) h.1,
    .of_eq (W6_of m ρ c main_v3_1 (by decide)) <| .of_eq (W5_of m ρ c main_v3_1 (by decide)) <| .of_eq (W4_arr m ρ c 5) h.2.1,
    .of_eq (W6_of m ρ c main_v3_2 (by decide)) <| .of_eq (W5_of m ρ c main_v3_2 (by decide)) <| .of_eq (W4_arr m ρ c 6) h.2.2⟩

theorem out_end : Stepped (a := 512) (b := 1024) (W6 m ρ c (Proc.devRef .tc main_v4_0)) (W6 m ρ c (Proc.devRef .tc main_v4_1)) (W6 m ρ c (Proc.devRef .tc main_v4_2))
    (arg 512 1024 (m ((c.tc : Thread nD τ).loc main_arg16))) (arg 512 1024 (m ((c.tc : Thread nD τ).loc main_arg17))) (arg 512 1024 (m ((c.tc : Thread nD τ).loc main_arg18))) (arg 512 1024 (m ((c.tc : Thread nD τ).loc main_arg19))) :=
  have h := out_is (V4 m ρ) c (.of_eq (W4_args m ρ c main_arg16 (by decide)) (entries_is _)) (.of_eq (W4_args m ρ c main_arg17 (by decide)) (entries_is _)) (.of_eq (W4_args m ρ c main_arg18 (by decide)) (entries_is _)) (.of_eq (W4_args m ρ c main_arg19 (by decide)) (entries_is _))
  ⟨.of_eq (W6_of m ρ c main_v4_0 (by decide)) <| .of_eq (W5_arr m ρ c 4) h.1,
    .of_eq (W6_of m ρ c main_v4_1 (by decide)) <| .of_eq (W5_arr m ρ c 5) h.2.1,
    .of_eq (W6_of m ρ c main_v4_2 (by decide)) <| .of_eq (W5_arr m ρ c 6) h.2.2⟩

theorem gate_end : Stepped (a := 512) (b := 256) (W6 m ρ c (Proc.devRef .tc main_v5_0)) (W6 m ρ c (Proc.devRef .tc main_v5_1)) (W6 m ρ c (Proc.devRef .tc main_v5_2))
    (arg 512 256 (m ((c.tc : Thread nD τ).loc main_arg20))) (arg 512 256 (m ((c.tc : Thread nD τ).loc main_arg21))) (arg 512 256 (m ((c.tc : Thread nD τ).loc main_arg22))) (arg 512 256 (m ((c.tc : Thread nD τ).loc main_arg23))) :=
  have h := gate_is (V5 m ρ) c (.of_eq (W5_args m ρ c main_arg20 (by decide)) (entries_is _)) (.of_eq (W5_args m ρ c main_arg21 (by decide)) (entries_is _)) (.of_eq (W5_args m ρ c main_arg22 (by decide)) (entries_is _)) (.of_eq (W5_args m ρ c main_arg23 (by decide)) (entries_is _))
  ⟨.of_eq (W6_arr m ρ c 4) h.1,
    .of_eq (W6_arr m ρ c 5) h.2.1,
    .of_eq (W6_arr m ρ c 6) h.2.2⟩

end Opt.Ker

end
-- ==== Proof.OptRefLine.lean ====
/- The host program of the AdamW step's reference as a line of operations, its run, and the equation of every matrix. -/
module

public import proofs.«01_k».proof.Proof.Gen.OptReferenceIdeal
public import proofs.«01_k».proof.Proof.Line
public import Idealize.ShloMosaic.Lib.StableHlo.Run
public import Idealize.ShloMosaic.Lib.Pipeline.Regions

@[expose] public section

set_option maxRecDepth 16384

noncomputable section

namespace Opt.Ref

open Cert.OptReferenceIdeal Cert.OptReferenceIdeal.Gen Idealize.ShloMosaic Idealize.ShloMosaic.TcCoe Idealize.SL.Sem Idealize.ShloMosaic.StableHlo Fox

variable (F : FTy → Type) [FloatOps F]

/-! The operations of the line, on arrays of single precision. -/

abbrev T (s : Shape) : Type := (⟨s, .f32⟩ : BufTy).Contents (Elt F)
abbrev mul (s : Shape) : T F s → T F s → T F s := mulf
abbrev add (s : Shape) : T F s → T F s → T F s := addf
abbrev quot (s : Shape) : T F s → T F s → T F s := Host.divf
abbrev root (s : Shape) : T F s → T F s := Host.sqrt
abbrev lit (b : BitVec 32) : T F S_ := constant S_ .f32 b
abbrev spread (s : Shape) (h : S_.BroadcastsInDim s (![] : Fin 0 → Fin s.rank)) : T F S_ → T F s := broadcastInDim s ![] h

variable {F}

/-! The operations of the program's four parts, and of the whole. -/

abbrev ops0 : List (HloOp τ sig (Elt F)) :=
  [ nullary main_cst (lit F 0x3F666666#32), unary main_cst main_v0 (spread F S1024x1024 bcast_S_S1024x1024),
    binary main_v0 main_arg2 main_v1 (mul F S1024x1024), nullary main_cst_0 (lit F 0x3DCCCCCD#32),
    unary main_cst_0 main_v2 (spread F S1024x1024 bcast_S_S1024x1024), binary main_v2 main_arg1 main_v3 (mul F S1024x1024),
    binary main_v1 main_v3 main_v4 (add F S1024x1024), nullary main_cst_1 (lit F 0x3F7FBE77#32),
    unary main_cst_1 main_v5 (spread F S1024x1024 bcast_S_S1024x1024), binary main_v5 main_arg3 main_v6 (mul F S1024x1024),
    binary main_arg1 main_arg1 main_v7 (mul F S1024x1024), nullary main_cst_2 (lit F 0x3A83126F#32),
    unary main_cst_2 main_v8 (spread F S1024x1024 bcast_S_S1024x1024), binary main_v8 main_v7 main_v9 (mul F S1024x1024),
    binary main_v6 main_v9 main_v10 (add F S1024x1024), nullary main_cst_3 (lit F 0x3F26BD02#32),
    unary main_cst_3 main_v11 (spread F S1024x1024 bcast_S_S1024x1024), binary main_v4 main_v11 main_v12 (quot F S1024x1024),
    nullary main_cst_4 (lit F 0x3C231ACC#32), unary main_cst_4 main_v13 (spread F S1024x1024 bcast_S_S1024x1024),
    binary main_v10 main_v13 main_v14 (quot F S1024x1024), unary main_v14 main_v15 (root F S1024x1024), nullary main_cst_5 (lit F 0x322BCC77#32),
    unary main_cst_5 main_v16 (spread F S1024x1024 bcast_S_S1024x1024), binary main_v15 main_v16 main_v17 (add F S1024x1024),
    binary main_v12 main_v17 main_v18 (quot F S1024x1024), nullary main_cst_6 (lit F 0x3C23D70A#32),
    unary main_cst_6 main_v19 (spread F S1024x1024 bcast_S_S1024x1024), binary main_v19 main_arg0 main_v20 (mul F S1024x1024),
    binary main_v18 main_v20 main_v21 (add F S1024x1024), nullary main_cst_7 (lit F 0xBA83126F#32),
    unary main_cst_7 main_v22 (spread F S1024x1024 bcast_S_S1024x1024), binary main_v22 main_v21 main_v23 (mul F S1024x1024),
    nullary main_cst_8 (lit F 0x3F666666#32), unary main_cst_8 main_v24 (spread F S4096x512 bcast_S_S4096x512),
    binary main_v24 main_arg6 main_v25 (mul F S4096x512), nullary main_cst_9 (lit F 0x3DCCCCCD#32),
    unary main_cst_9 main_v26 (spread F S4096x512 bcast_S_S4096x512), binary main_v26 main_arg5 main_v27 (mul F S4096x512),
    binary main_v25 main_v27 main_v28 (add F S4096x512), nullary main_cst_10 (lit F 0x3F7FBE77#32),
    unary main_cst_10 main_v29 (spread F S4096x512 bcast_S_S4096x512), binary main_v29 main_arg7 main_v30 (mul F S4096x512),
    binary main_arg5 main_arg5 main_v31 (mul F S4096x512), nullary main_cst_11 (lit F 0x3A83126F#32),
    unary main_cst_11 main_v32 (spread F S4096x512 bcast_S_S4096x512), binary main_v32 main_v31 main_v33 (mul F S4096x512),
    binary main_v30 main_v33 main_v34 (add F S4096x512), nullary main_cst_12 (lit F 0x3F26BD02#32),
    unary main_cst_12 main_v35 (spread F S4096x512 bcast_S_S4096x512), binary main_v28 main_v35 main_v36 (quot F S4096x512),
    nullary main_cst_13 (lit F 0x3C231ACC#32), unary main_cst_13 main_v37 (spread F S4096x512 bcast_S_S4096x512),
    binary main_v34 main_v37 main_v38 (quot F S4096x512), unary main_v38 main_v39 (root F S4096x512), nullary main_cst_14 (lit F 0x322BCC77#32),
    unary main_cst_14 main_v40 (spread F S4096x512 bcast_S_S4096x512), binary main_v39 main_v40 main_v41 (add F S4096x512),
    binary main_v36 main_v41 main_v42 (quot F S4096x512), nullary main_cst_15 (lit F 0x3C23D70A#32) ]

abbrev ops1 : List (HloOp τ sig (Elt F)) :=
  [ unary main_cst_15 main_v43 (spread F S4096x512 bcast_S_S4096x512), binary main_v43 main_arg4 main_v44 (mul F S4096x512),
    binary main_v42 main_v44 main_v45 (add F S4096x512), nullary main_cst_16 (lit F 0xBA83126F#32),
    unary main_cst_16 main_v46 (spread F S4096x512 bcast_S_S4096x512), binary main_v46 main_v45 main_v47 (mul F S4096x512),
    nullary main_cst_17 (lit F 0x3F666666#32), unary main_cst_17 main_v48 (spread F S4096x1408 bcast_S_S4096x1408),
    binary main_v48 main_arg10 main_v49 (mul F S4096x1408), nullary main_cst_18 (lit F 0x3DCCCCCD#32),
    unary main_cst_18 main_v50 (spread F S4096x1408 bcast_S_S4096x1408), binary main_v50 main_arg9 main_v51 (mul F S4096x1408),
    binary main_v49 main_v51 main_v52 (add F S4096x1408), nullary main_cst_19 (lit F 0x3F7FBE77#32),
    unary main_cst_19 main_v53 (spread F S4096x1408 bcast_S_S4096x1408), binary main_v53 main_arg11 main_v54 (mul F S4096x1408),
    binary main_arg9 main_arg9 main_v55 (mul F S4096x1408), nullary main_cst_20 (lit F 0x3A83126F#32),
    unary main_cst_20 main_v56 (spread F S4096x1408 bcast_S_S4096x1408), binary main_v56 main_v55 main_v57 (mul F S4096x1408),
    binary main_v54 main_v57 main_v58 (add F S4096x1408), nullary main_cst_21 (lit F 0x3F26BD02#32),
    unary main_cst_21 main_v59 (spread F S4096x1408 bcast_S_S4096x1408), binary main_v52 main_v59 main_v60 (quot F S4096x1408),
    nullary main_cst_22 (lit F 0x3C231ACC#32), unary main_cst_22 main_v61 (spread F S4096x1408 bcast_S_S4096x1408),
    binary main_v58 main_v61 main_v62 (quot F S4096x1408), unary main_v62 main_v63 (root F S4096x1408), nullary main_cst_23 (lit F 0x322BCC77#32),
    unary main_cst_23 main_v64 (spread F S4096x1408 bcast_S_S4096x1408), binary main_v63 main_v64 main_v65 (add F S4096x1408),
    binary main_v60 main_v65 main_v66 (quot F S4096x1408), nullary main_cst_24 (lit F 0x3C23D70A#32),
    unary main_cst_24 main_v67 (spread F S4096x1408 bcast_S_S4096x1408), binary main_v67 main_arg8 main_v68 (mul F S4096x1408),
    binary main_v66 main_v68 main_v69 (add F S4096x1408), nullary main_cst_25 (lit F 0xBA83126F#32),
    unary main_cst_25 main_v70 (spread F S4096x1408 bcast_S_S4096x1408), binary main_v70 main_v69 main_v71 (mul F S4096x1408),
    nullary main_cst_26 (lit F 0x3F666666#32), unary main_cst_26 main_v72 (spread F S2816x1024 bcast_S_S2816x1024),
    binary main_v72 main_arg14 main_v73 (mul F S2816x1024), nullary main_cst_27 (lit F 0x3DCCCCCD#32),
    unary main_cst_27 main_v74 (spread F S2816x1024 bcast_S_S2816x1024), binary main_v74 main_arg13 main_v75 (mul F S2816x1024),
    binary main_v73 main_v75 main_v76 (add F S2816x1024), nullary main_cst_28 (lit F 0x3F7FBE77#32),
    unary main_cst_28 main_v77 (spread F S2816x1024 bcast_S_S2816x1024), binary main_v77 main_arg15 main_v78 (mul F S2816x1024),
    binary main_arg13 main_arg13 main_v79 (mul F S2816x1024), nullary main_cst_29 (lit F 0x3A83126F#32),
    unary main_cst_29 main_v80 (spread F S2816x1024 bcast_S_S2816x1024), binary main_v80 main_v79 main_v81 (mul F S2816x1024),
    binary main_v78 main_v81 main_v82 (add F S2816x1024), nullary main_cst_30 (lit F 0x3F26BD02#32),
    unary main_cst_30 main_v83 (spread F S2816x1024 bcast_S_S2816x1024), binary main_v76 main_v83 main_v84 (quot F S2816x1024),
    nullary main_cst_31 (lit F 0x3C231ACC#32), unary main_cst_31 main_v85 (spread F S2816x1024 bcast_S_S2816x1024),
    binary main_v82 main_v85 main_v86 (quot F S2816x1024) ]

abbrev ops2 : List (HloOp τ sig (Elt F)) :=
  [ unary main_v86 main_v87 (root F S2816x1024), nullary main_cst_32 (lit F 0x322BCC77#32),
    unary main_cst_32 main_v88 (spread F S2816x1024 bcast_S_S2816x1024), binary main_v87 main_v88 main_v89 (add F S2816x1024),
    binary main_v84 main_v89 main_v90 (quot F S2816x1024), nullary main_cst_33 (lit F 0x3C23D70A#32),
    unary main_cst_33 main_v91 (spread F S2816x1024 bcast_S_S2816x1024), binary main_v91 main_arg12 main_v92 (mul F S2816x1024),
    binary main_v90 main_v92 main_v93 (add F S2816x1024), nullary main_cst_34 (lit F 0xBA83126F#32),
    unary main_cst_34 main_v94 (spread F S2816x1024 bcast_S_S2816x1024), binary main_v94 main_v93 main_v95 (mul F S2816x1024),
    nullary main_cst_35 (lit F 0x3F666666#32), unary main_cst_35 main_v96 (spread F S512x1024 bcast_S_S512x1024),
    binary main_v96 main_arg18 main_v97 (mul F S512x1024), nullary main_cst_36 (lit F 0x3DCCCCCD#32),
    unary main_cst_36 main_v98 (spread F S512x1024 bcast_S_S512x1024), binary main_v98 main_arg17 main_v99 (mul F S512x1024),
    binary main_v97 main_v99 main_v100 (add F S512x1024), nullary main_cst_37 (lit F 0x3F7FBE77#32),
    unary main_cst_37 main_v101 (spread F S512x1024 bcast_S_S512x1024), binary main_v101 main_arg19 main_v102 (mul F S512x1024),
    binary main_arg17 main_arg17 main_v103 (mul F S512x1024), nullary main_cst_38 (lit F 0x3A83126F#32),
    unary main_cst_38 main_v104 (spread F S512x1024 bcast_S_S512x1024), binary main_v104 main_v103 main_v105 (mul F S512x1024),
    binary main_v102 main_v105 main_v106 (add F S512x1024), nullary main_cst_39 (lit F 0x3F26BD02#32),
    unary main_cst_39 main_v107 (spread F S512x1024 bcast_S_S512x1024), binary main_v100 main_v107 main_v108 (quot F S512x1024),
    nullary main_cst_40 (lit F 0x3C231ACC#32), unary main_cst_40 main_v109 (spread F S512x1024 bcast_S_S512x1024),
    binary main_v106 main_v109 main_v110 (quot F S512x1024), unary main_v110 main_v111 (root F S512x1024), nullary main_cst_41 (lit F 0x322BCC77#32),
    unary main_cst_41 main_v112 (spread F S512x1024 bcast_S_S512x1024), binary main_v111 main_v112 main_v113 (add F S512x1024),
    binary main_v108 main_v113 main_v114 (quot F S512x1024), nullary main_cst_42 (lit F 0x3C23D70A#32),
    unary main_cst_42 main_v115 (spread F S512x1024 bcast_S_S512x1024), binary main_v115 main_arg16 main_v116 (mul F S512x1024),
    binary main_v114 main_v116 main_v117 (add F S512x1024), nullary main_cst_43 (lit F 0xBA83126F#32),
    unary main_cst_43 main_v118 (spread F S512x1024 bcast_S_S512x1024), binary main_v118 main_v117 main_v119 (mul F S512x1024),
    nullary main_cst_44 (lit F 0x3F666666#32), unary main_cst_44 main_v120 (spread F S512x256 bcast_S_S512x256),
    binary main_v120 main_arg22 main_v121 (mul F S512x256), nullary main_cst_45 (lit F 0x3DCCCCCD#32),
    unary main_cst_45 main_v122 (spread F S512x256 bcast_S_S512x256), binary main_v122 main_arg21 main_v123 (mul F S512x256),
    binary main_v121 main_v123 main_v124 (add F S512x256), nullary main_cst_46 (lit F 0x3F7FBE77#32),
    unary main_cst_46 main_v125 (spread F S512x256 bcast_S_S512x256), binary main_v125 main_arg23 main_v126 (mul F S512x256),
    binary main_arg21 main_arg21 main_v127 (mul F S512x256), nullary main_cst_47 (lit F 0x3A83126F#32),
    unary main_cst_47 main_v128 (spread F S512x256 bcast_S_S512x256), binary main_v128 main_v127 main_v129 (mul F S512x256),
    binary main_v126 main_v129 main_v130 (add F S512x256) ]

abbrev ops3 : List (HloOp τ sig (Elt F)) :=
  [ nullary main_cst_48 (lit F 0x3F26BD02#32), unary main_cst_48 main_v131 (spread F S512x256 bcast_S_S512x256),
    binary main_v124 main_v131 main_v132 (quot F S512x256), nullary main_cst_49 (lit F 0x3C231ACC#32),
    unary main_cst_49 main_v133 (spread F S512x256 bcast_S_S512x256), binary main_v130 main_v133 main_v134 (quot F S512x256),
    unary main_v134 main_v135 (root F S512x256), nullary main_cst_50 (lit F 0x322BCC77#32),
    unary main_cst_50 main_v136 (spread F S512x256 bcast_S_S512x256), binary main_v135 main_v136 main_v137 (add F S512x256),
    binary main_v132 main_v137 main_v138 (quot F S512x256), nullary main_cst_51 (lit F 0x3C23D70A#32),
    unary main_cst_51 main_v139 (spread F S512x256 bcast_S_S512x256), binary main_v139 main_arg20 main_v140 (mul F S512x256),
    binary main_v138 main_v140 main_v141 (add F S512x256), nullary main_cst_52 (lit F 0xBA83126F#32),
    unary main_cst_52 main_v142 (spread F S512x256 bcast_S_S512x256), binary main_v142 main_v141 main_v143 (mul F S512x256) ]

/-- The program's operations, in order. -/
abbrev ops : List (HloOp τ sig (Elt F)) := ops0 ++ (ops1 ++ (ops2 ++ ops3))

/-- The buffers they write, in order. -/
abbrev outs : List (Ref sig .tc) :=
  [main_cst, main_v0, main_v1, main_cst_0, main_v2, main_v3, main_v4, main_cst_1, main_v5, main_v6, main_v7, main_cst_2, main_v8, main_v9, main_v10,
   main_cst_3, main_v11, main_v12, main_cst_4, main_v13, main_v14, main_v15, main_cst_5, main_v16, main_v17, main_v18, main_cst_6, main_v19, main_v20,
   main_v21, main_cst_7, main_v22, main_v23, main_cst_8, main_v24, main_v25, main_cst_9, main_v26, main_v27, main_v28, main_cst_10, main_v29, main_v30,
   main_v31, main_cst_11, main_v32, main_v33, main_v34, main_cst_12, main_v35, main_v36, main_cst_13, main_v37, main_v38, main_v39, main_cst_14,
   main_v40, main_v41, main_v42, main_cst_15, main_v43, main_v44, main_v45, main_cst_16, main_v46, main_v47, main_cst_17, main_v48, main_v49,
   main_cst_18, main_v50, main_v51, main_v52, main_cst_19, main_v53, main_v54, main_v55, main_cst_20, main_v56, main_v57, main_v58, main_cst_21,
   main_v59, main_v60, main_cst_22, main_v61, main_v62, main_v63, main_cst_23, main_v64, main_v65, main_v66, main_cst_24, main_v67, main_v68, main_v69,
   main_cst_25, main_v70, main_v71, main_cst_26, main_v72, main_v73, main_cst_27, main_v74, main_v75, main_v76, main_cst_28, main_v77, main_v78,
   main_v79, main_cst_29, main_v80, main_v81, main_v82, main_cst_30, main_v83, main_v84, main_cst_31, main_v85, main_v86, main_v87, main_cst_32,
   main_v88, main_v89, main_v90, main_cst_33, main_v91, main_v92, main_v93, main_cst_34, main_v94, main_v95, main_cst_35, main_v96, main_v97,
   main_cst_36, main_v98, main_v99, main_v100, main_cst_37, main_v101, main_v102, main_v103, main_cst_38, main_v104, main_v105, main_v106, main_cst_39,
   main_v107, main_v108, main_cst_40, main_v109, main_v110, main_v111, main_cst_41, main_v112, main_v113, main_v114, main_cst_42, main_v115, main_v116,
   main_v117, main_cst_43, main_v118, main_v119, main_cst_44, main_v120, main_v121, main_cst_45, main_v122, main_v123, main_v124, main_cst_46,
   main_v125, main_v126, main_v127, main_cst_47, main_v128, main_v129, main_v130, main_cst_48, main_v131, main_v132, main_cst_49, main_v133, main_v134,
   main_v135, main_cst_50, main_v136, main_v137, main_v138, main_cst_51, main_v139, main_v140, main_v141, main_cst_52, main_v142, main_v143]

theorem part0_eq (c : Dev nD) : main_part0 (F := F) c = seq ops0 := by
  rw [show main_part0 (F := F) c = Pipeline.chain [seq ops0] from by rewrite [StableHlo.chain_seq_cons]; chain_rfl]
  exact bind_pure _

theorem part1_eq (c : Dev nD) : main_part1 (F := F) c = seq ops1 := by
  rw [show main_part1 (F := F) c = Pipeline.chain [seq ops1] from by rewrite [StableHlo.chain_seq_cons]; chain_rfl]
  exact bind_pure _

theorem part2_eq (c : Dev nD) : main_part2 (F := F) c = seq ops2 := by
  rw [show main_part2 (F := F) c = Pipeline.chain [seq ops2] from by rewrite [StableHlo.chain_seq_cons]; chain_rfl]
  exact bind_pure _

theorem part3_eq (c : Dev nD) : main_part3 (F := F) c = seq ops3 := by
  rw [show main_part3 (F := F) c = Pipeline.chain [seq ops3] from by rewrite [StableHlo.chain_seq_cons]; chain_rfl]
  exact bind_pure _

theorem main_eq (c : Dev nD) : main (F := F) c = seq ops := by
  have h : main (F := F) c = (main_part0 c >>= fun _ => main_part1 c >>= fun _ => main_part2 c >>= fun _ => main_part3 c) := rfl
  rw [h, part0_eq, part1_eq, part2_eq, part3_eq, seq_append, seq_append, seq_append]

theorem scopedRefs_eq : (Finset.univ.filter fun b : Ref sig .tc => b.isScoped) = ∅ := by decide
theorem scopedSems_eq : (Finset.univ.filter fun sm : SemLoc sig => sm.isScoped .tc) = ∅ := by decide

/-! Of the operations of each kind: their buffers, and the one they write. -/

theorem n0 {y : Ref sig .tc} {v : y.ty.Contents (Elt F)} {hy} : (nullary (τ := τ) y v hy).bufs ⊆ tcRefs τ sig := nullary_bufs_sub ..
theorem n1 {x y : Ref sig .tc} {f : x.ty.Contents (Elt F) → y.ty.Contents (Elt F)} {hx hy} : (unary (τ := τ) x y f hx hy).bufs ⊆ tcRefs τ sig :=
  unary_bufs_sub ..
theorem n2 {a b y : Ref sig .tc} {f : a.ty.Contents (Elt F) → b.ty.Contents (Elt F) → y.ty.Contents (Elt F)} {ha hb hy} :
    (binary (τ := τ) a b y f ha hb hy).bufs ⊆ tcRefs τ sig := binary_bufs_sub ..
theorem w0 {y : Ref sig .tc} {v : y.ty.Contents (Elt F)} {hy} : (nullary (τ := τ) y v hy).writes = {Proc.devRef (τ := τ) .tc y} := nullary_writes ..
theorem w1 {x y : Ref sig .tc} {f : x.ty.Contents (Elt F) → y.ty.Contents (Elt F)} {hx hy} :
    (unary (τ := τ) x y f hx hy).writes = {Proc.devRef (τ := τ) .tc y} := unary_writes ..
theorem w2 {a b y : Ref sig .tc} {f : a.ty.Contents (Elt F) → b.ty.Contents (Elt F) → y.ty.Contents (Elt F)} {ha hb hy} :
    (binary (τ := τ) a b y f ha hb hy).writes = {Proc.devRef (τ := τ) .tc y} := binary_writes ..

theorem ops_sub : (ops : List (HloOp τ sig (Elt F))).Forall fun op => op.bufs ⊆ tcRefs τ sig :=
  List.forall_append.2 ⟨⟨n0, n1, n2, n0, n1, n2, n2, n0, n1, n2, n2, n0, n1, n2, n2, n0, n1, n2, n0, n1, n2, n1, n0, n1, n2, n2, n0, n1, n2, n2, n0, n1, n2, n0, n1, n2, n0,
   n1, n2, n2, n0, n1, n2, n2, n0, n1, n2, n2, n0, n1, n2, n0, n1, n2, n1, n0, n1, n2, n2, n0⟩,
    List.forall_append.2 ⟨⟨n1, n2, n2, n0, n1, n2, n0, n1, n2, n0, n1, n2, n2, n0, n1, n2, n2, n0, n1, n2, n2, n0, n1, n2, n0, n1, n2, n1, n0, n1, n2, n2, n0, n1, n2, n2, n0,
   n1, n2, n0, n1, n2, n0, n1, n2, n2, n0, n1, n2, n2, n0, n1, n2, n2, n0, n1, n2, n0, n1, n2⟩,
    List.forall_append.2 ⟨⟨n1, n0, n1, n2, n2, n0, n1, n2, n2, n0, n1, n2, n0, n1, n2, n0, n1, n2, n2, n0, n1, n2, n2, n0, n1, n2, n2, n0, n1, n2, n0, n1, n2, n1, n0, n1, n2,
   n2, n0, n1, n2, n2, n0, n1, n2, n0, n1, n2, n0, n1, n2, n2, n0, n1, n2, n2, n0, n1, n2, n2⟩,
    ⟨n0, n1, n2, n0, n1, n2, n1, n0, n1, n2, n2, n0, n1, n2, n2, n0, n1, n2⟩⟩⟩⟩

theorem writes : Writes (ops (F := F)) outs :=
   .cons w0 <| .cons w1 <| .cons w2 <| .cons w0 <| .cons w1 <| .cons w2 <| .cons w2 <| .cons w0 <| .cons w1 <| .cons w2 <| .cons w2 <| .cons w0 <|
   .cons w1 <| .cons w2 <| .cons w2 <| .cons w0 <| .cons w1 <| .cons w2 <| .cons w0 <| .cons w1 <| .cons w2 <| .cons w1 <| .cons w0 <| .cons w1 <|
   .cons w2 <| .cons w2 <| .cons w0 <| .cons w1 <| .cons w2 <| .cons w2 <| .cons w0 <| .cons w1 <| .cons w2 <| .cons w0 <| .cons w1 <| .cons w2 <|
   .cons w0 <| .cons w1 <| .cons w2 <| .cons w2 <| .cons w0 <| .cons w1 <| .cons w2 <| .cons w2 <| .cons w0 <| .cons w1 <| .cons w2 <| .cons w2 <|
   .cons w0 <| .cons w1 <| .cons w2 <| .cons w0 <| .cons w1 <| .cons w2 <| .cons w1 <| .cons w0 <| .cons w1 <| .cons w2 <| .cons w2 <| .cons w0 <|
   .cons w1 <| .cons w2 <| .cons w2 <| .cons w0 <| .cons w1 <| .cons w2 <| .cons w0 <| .cons w1 <| .cons w2 <| .cons w0 <| .cons w1 <| .cons w2 <|
   .cons w2 <| .cons w0 <| .cons w1 <| .cons w2 <| .cons w2 <| .cons w0 <| .cons w1 <| .cons w2 <| .cons w2 <| .cons w0 <| .cons w1 <| .cons w2 <|
   .cons w0 <| .cons w1 <| .cons w2 <| .cons w1 <| .cons w0 <| .cons w1 <| .cons w2 <| .cons w2 <| .cons w0 <| .cons w1 <| .cons w2 <| .cons w2 <|
   .cons w0 <| .cons w1 <| .cons w2 <| .cons w0 <| .cons w1 <| .cons w2 <| .cons w0 <| .cons w1 <| .cons w2 <| .cons w2 <| .cons w0 <| .cons w1 <|
   .cons w2 <| .cons w2 <| .cons w0 <| .cons w1 <| .cons w2 <| .cons w2 <| .cons w0 <| .cons w1 <| .cons w2 <| .cons w0 <| .cons w1 <| .cons w2 <|
   .cons w1 <| .cons w0 <| .cons w1 <| .cons w2 <| .cons w2 <| .cons w0 <| .cons w1 <| .cons w2 <| .cons w2 <| .cons w0 <| .cons w1 <| .cons w2 <|
   .cons w0 <| .cons w1 <| .cons w2 <| .cons w0 <| .cons w1 <| .cons w2 <| .cons w2 <| .cons w0 <| .cons w1 <| .cons w2 <| .cons w2 <| .cons w0 <|
   .cons w1 <| .cons w2 <| .cons w2 <| .cons w0 <| .cons w1 <| .cons w2 <| .cons w0 <| .cons w1 <| .cons w2 <| .cons w1 <| .cons w0 <| .cons w1 <|
   .cons w2 <| .cons w2 <| .cons w0 <| .cons w1 <| .cons w2 <| .cons w2 <| .cons w0 <| .cons w1 <| .cons w2 <| .cons w0 <| .cons w1 <| .cons w2 <|
   .cons w0 <| .cons w1 <| .cons w2 <| .cons w2 <| .cons w0 <| .cons w1 <| .cons w2 <| .cons w2 <| .cons w0 <| .cons w1 <| .cons w2 <| .cons w2 <|
   .cons w0 <| .cons w1 <| .cons w2 <| .cons w0 <| .cons w1 <| .cons w2 <| .cons w1 <| .cons w0 <| .cons w1 <| .cons w2 <| .cons w2 <| .cons w0 <|
   .cons w1 <| .cons w2 <| .cons w2 <| .cons w0 <| .cons w1 <| .cons w2 <| .nil

/-- Every run ends with each buffer at what the line leaves in it. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = fin ops (launchContents m d) b :=
  run_seq scopedRefs_eq scopedSems_eq defs main (fun _ => ops) main_eq (fun _ => ops_sub) m ρ

/-- The arguments. -/
abbrev args : List (Ref sig .tc) :=
  [main_arg0, main_arg1, main_arg2, main_arg3, main_arg4, main_arg5, main_arg6, main_arg7, main_arg8, main_arg9, main_arg10, main_arg11, main_arg12,
   main_arg13, main_arg14, main_arg15, main_arg16, main_arg17, main_arg18, main_arg19, main_arg20, main_arg21, main_arg22, main_arg23]

/-- The buffers' numbers. -/
theorem numbers : (outs.map fun w => w.idx.val) = List.range' 24 198 := by decide +kernel
theorem once : (List.range' 24 198).Nodup := by decide +kernel
theorem argNumbers : (args.map fun w => w.idx.val) = List.range' 0 24 := by decide +kernel

theorem last (i : ℕ) {r : Ref sig .tc} (h : outs[i]? = some r) : Before outs (i + 1) r := before_of_lt numbers once i h (Nat.lt_succ_self _)
theorem old (j : ℕ) {i : ℕ} {r : Ref sig .tc} (h : outs[j]? = some r) (hi : j < i := by decide) : Before outs i r := before_of_lt numbers once j h hi
theorem given (j : ℕ) {i : ℕ} {r : Ref sig .tc} (h : args[j]? = some r) : Before outs i r :=
  before_of_small 24 numbers argNumbers (by decide +kernel) (by decide +kernel) j h i

variable (V : Valuation τ sig (Elt F))

/-- A constant, spread by the next operation. -/
theorem cst (i : ℕ) {x y : Ref sig .tc} {v : x.ty.Contents (Elt F)} {f : x.ty.Contents (Elt F) → y.ty.Contents (Elt F)} {hv hx hy}
    (h : ops[i]? = some (nullary (τ := τ) x v hv)) (k : ops[i + 1]? = some (unary (τ := τ) x y f hx hy)) (hi : outs[i]? = some x)
    (hk : outs[i + 1]? = some y) (V : Valuation τ sig (Elt F)) : fin ops V y = f v :=
  (fin_unary writes (i + 1) k (last (i + 1) hk) (old i hi (Nat.lt_succ_self i)) V).trans (congrArg f (fin_nullary writes i h (last i hi) V))

/-- The line leaves the arguments as they are. -/
theorem e_arg (j : ℕ) {r : Ref sig .tc} (h : args[j]? = some r) : fin ops V r = V (Proc.devRef .tc r) := fin_unwritten writes (given j h) V

theorem e_v0 : fin ops V main_v0 = spread F S1024x1024 bcast_S_S1024x1024 (lit F 0x3F666666#32) := cst (x := main_cst) (y := main_v0) 0 rfl rfl rfl rfl V
theorem e_v1 : fin ops V main_v1 = mul F S1024x1024 (fin ops V main_v0 :) (fin ops V main_arg2 :) :=
  fin_binary (y := main_v1) writes 2 rfl (last 2 rfl) (old 1 rfl) (given 2 rfl) V
theorem e_v2 : fin ops V main_v2 = spread F S1024x1024 bcast_S_S1024x1024 (lit F 0x3DCCCCCD#32) := cst (x := main_cst_0) (y := main_v2) 3 rfl rfl rfl rfl V
theorem e_v3 : fin ops V main_v3 = mul F S1024x1024 (fin ops V main_v2 :) (fin ops V main_arg1 :) :=
  fin_binary (y := main_v3) writes 5 rfl (last 5 rfl) (old 4 rfl) (given 1 rfl) V
theorem e_v4 : fin ops V main_v4 = add F S1024x1024 (fin ops V main_v1 :) (fin ops V main_v3 :) :=
  fin_binary (y := main_v4) writes 6 rfl (last 6 rfl) (old 2 rfl) (old 5 rfl) V
theorem e_v5 : fin ops V main_v5 = spread F S1024x1024 bcast_S_S1024x1024 (lit F 0x3F7FBE77#32) := cst (x := main_cst_1) (y := main_v5) 7 rfl rfl rfl rfl V
theorem e_v6 : fin ops V main_v6 = mul F S1024x1024 (fin ops V main_v5 :) (fin ops V main_arg3 :) :=
  fin_binary (y := main_v6) writes 9 rfl (last 9 rfl) (old 8 rfl) (given 3 rfl) V
theorem e_v7 : fin ops V main_v7 = mul F S1024x1024 (fin ops V main_arg1 :) (fin ops V main_arg1 :) :=
  fin_binary (y := main_v7) writes 10 rfl (last 10 rfl) (given 1 rfl) (given 1 rfl) V
theorem e_v8 : fin ops V main_v8 = spread F S1024x1024 bcast_S_S1024x1024 (lit F 0x3A83126F#32) := cst (x := main_cst_2) (y := main_v8) 11 rfl rfl rfl rfl V
theorem e_v9 : fin ops V main_v9 = mul F S1024x1024 (fin ops V main_v8 :) (fin ops V main_v7 :) :=
  fin_binary (y := main_v9) writes 13 rfl (last 13 rfl) (old 12 rfl) (old 10 rfl) V
theorem e_v10 : fin ops V main_v10 = add F S1024x1024 (fin ops V main_v6 :) (fin ops V main_v9 :) :=
  fin_binary (y := main_v10) writes 14 rfl (last 14 rfl) (old 9 rfl) (old 13 rfl) V
theorem e_v11 : fin ops V main_v11 = spread F S1024x1024 bcast_S_S1024x1024 (lit F 0x3F26BD02#32) := cst (x := main_cst_3) (y := main_v11) 15 rfl rfl rfl rfl V
theorem e_v12 : fin ops V main_v12 = quot F S1024x1024 (fin ops V main_v4 :) (fin ops V main_v11 :) :=
  fin_binary (y := main_v12) writes 17 rfl (last 17 rfl) (old 6 rfl) (old 16 rfl) V
theorem e_v13 : fin ops V main_v13 = spread F S1024x1024 bcast_S_S1024x1024 (lit F 0x3C231ACC#32) := cst (x := main_cst_4) (y := main_v13) 18 rfl rfl rfl rfl V
theorem e_v14 : fin ops V main_v14 = quot F S1024x1024 (fin ops V main_v10 :) (fin ops V main_v13 :) :=
  fin_binary (y := main_v14) writes 20 rfl (last 20 rfl) (old 14 rfl) (old 19 rfl) V
theorem e_v15 : fin ops V main_v15 = root F S1024x1024 (fin ops V main_v14 :) :=
  fin_unary (y := main_v15) writes 21 rfl (last 21 rfl) (old 20 rfl) V
theorem e_v16 : fin ops V main_v16 = spread F S1024x1024 bcast_S_S1024x1024 (lit F 0x322BCC77#32) := cst (x := main_cst_5) (y := main_v16) 22 rfl rfl rfl rfl V
theorem e_v17 : fin ops V main_v17 = add F S1024x1024 (fin ops V main_v15 :) (fin ops V main_v16 :) :=
  fin_binary (y := main_v17) writes 24 rfl (last 24 rfl) (old 21 rfl) (old 23 rfl) V
theorem e_v18 : fin ops V main_v18 = quot F S1024x1024 (fin ops V main_v12 :) (fin ops V main_v17 :) :=
  fin_binary (y := main_v18) writes 25 rfl (last 25 rfl) (old 17 rfl) (old 24 rfl) V
theorem e_v19 : fin ops V main_v19 = spread F S1024x1024 bcast_S_S1024x1024 (lit F 0x3C23D70A#32) := cst (x := main_cst_6) (y := main_v19) 26 rfl rfl rfl rfl V
theorem e_v20 : fin ops V main_v20 = mul F S1024x1024 (fin ops V main_v19 :) (fin ops V main_arg0 :) :=
  fin_binary (y := main_v20) writes 28 rfl (last 28 rfl) (old 27 rfl) (given 0 rfl) V
theorem e_v21 : fin ops V main_v21 = add F S1024x1024 (fin ops V main_v18 :) (fin ops V main_v20 :) :=
  fin_binary (y := main_v21) writes 29 rfl (last 29 rfl) (old 25 rfl) (old 28 rfl) V
theorem e_v22 : fin ops V main_v22 = spread F S1024x1024 bcast_S_S1024x1024 (lit F 0xBA83126F#32) := cst (x := main_cst_7) (y := main_v22) 30 rfl rfl rfl rfl V
theorem e_v23 : fin ops V main_v23 = mul F S1024x1024 (fin ops V main_v22 :) (fin ops V main_v21 :) :=
  fin_binary (y := main_v23) writes 32 rfl (last 32 rfl) (old 31 rfl) (old 29 rfl) V
theorem e_v24 : fin ops V main_v24 = spread F S4096x512 bcast_S_S4096x512 (lit F 0x3F666666#32) := cst (x := main_cst_8) (y := main_v24) 33 rfl rfl rfl rfl V
theorem e_v25 : fin ops V main_v25 = mul F S4096x512 (fin ops V main_v24 :) (fin ops V main_arg6 :) :=
  fin_binary (y := main_v25) writes 35 rfl (last 35 rfl) (old 34 rfl) (given 6 rfl) V
theorem e_v26 : fin ops V main_v26 = spread F S4096x512 bcast_S_S4096x512 (lit F 0x3DCCCCCD#32) := cst (x := main_cst_9) (y := main_v26) 36 rfl rfl rfl rfl V
theorem e_v27 : fin ops V main_v27 = mul F S4096x512 (fin ops V main_v26 :) (fin ops V main_arg5 :) :=
  fin_binary (y := main_v27) writes 38 rfl (last 38 rfl) (old 37 rfl) (given 5 rfl) V
theorem e_v28 : fin ops V main_v28 = add F S4096x512 (fin ops V main_v25 :) (fin ops V main_v27 :) :=
  fin_binary (y := main_v28) writes 39 rfl (last 39 rfl) (old 35 rfl) (old 38 rfl) V
theorem e_v29 : fin ops V main_v29 = spread F S4096x512 bcast_S_S4096x512 (lit F 0x3F7FBE77#32) := cst (x := main_cst_10) (y := main_v29) 40 rfl rfl rfl rfl V
theorem e_v30 : fin ops V main_v30 = mul F S4096x512 (fin ops V main_v29 :) (fin ops V main_arg7 :) :=
  fin_binary (y := main_v30) writes 42 rfl (last 42 rfl) (old 41 rfl) (given 7 rfl) V
theorem e_v31 : fin ops V main_v31 = mul F S4096x512 (fin ops V main_arg5 :) (fin ops V main_arg5 :) :=
  fin_binary (y := main_v31) writes 43 rfl (last 43 rfl) (given 5 rfl) (given 5 rfl) V
theorem e_v32 : fin ops V main_v32 = spread F S4096x512 bcast_S_S4096x512 (lit F 0x3A83126F#32) := cst (x := main_cst_11) (y := main_v32) 44 rfl rfl rfl rfl V
theorem e_v33 : fin ops V main_v33 = mul F S4096x512 (fin ops V main_v32 :) (fin ops V main_v31 :) :=
  fin_binary (y := main_v33) writes 46 rfl (last 46 rfl) (old 45 rfl) (old 43 rfl) V
theorem e_v34 : fin ops V main_v34 = add F S4096x512 (fin ops V main_v30 :) (fin ops V main_v33 :) :=
  fin_binary (y := main_v34) writes 47 rfl (last 47 rfl) (old 42 rfl) (old 46 rfl) V
theorem e_v35 : fin ops V main_v35 = spread F S4096x512 bcast_S_S4096x512 (lit F 0x3F26BD02#32) := cst (x := main_cst_12) (y := main_v35) 48 rfl rfl rfl rfl V
theorem e_v36 : fin ops V main_v36 = quot F S4096x512 (fin ops V main_v28 :) (fin ops V main_v35 :) :=
  fin_binary (y := main_v36) writes 50 rfl (last 50 rfl) (old 39 rfl) (old 49 rfl) V
theorem e_v37 : fin ops V main_v37 = spread F S4096x512 bcast_S_S4096x512 (lit F 0x3C231ACC#32) := cst (x := main_cst_13) (y := main_v37) 51 rfl rfl rfl rfl V
theorem e_v38 : fin ops V main_v38 = quot F S4096x512 (fin ops V main_v34 :) (fin ops V main_v37 :) :=
  fin_binary (y := main_v38) writes 53 rfl (last 53 rfl) (old 47 rfl) (old 52 rfl) V
theorem e_v39 : fin ops V main_v39 = root F S4096x512 (fin ops V main_v38 :) :=
  fin_unary (y := main_v39) writes 54 rfl (last 54 rfl) (old 53 rfl) V
theorem e_v40 : fin ops V main_v40 = spread F S4096x512 bcast_S_S4096x512 (lit F 0x322BCC77#32) := cst (x := main_cst_14) (y := main_v40) 55 rfl rfl rfl rfl V
theorem e_v41 : fin ops V main_v41 = add F S4096x512 (fin ops V main_v39 :) (fin ops V main_v40 :) :=
  fin_binary (y := main_v41) writes 57 rfl (last 57 rfl) (old 54 rfl) (old 56 rfl) V
theorem e_v42 : fin ops V main_v42 = quot F S4096x512 (fin ops V main_v36 :) (fin ops V main_v41 :) :=
  fin_binary (y := main_v42) writes 58 rfl (last 58 rfl) (old 50 rfl) (old 57 rfl) V
theorem e_v43 : fin ops V main_v43 = spread F S4096x512 bcast_S_S4096x512 (lit F 0x3C23D70A#32) := cst (x := main_cst_15) (y := main_v43) 59 rfl rfl rfl rfl V
theorem e_v44 : fin ops V main_v44 = mul F S4096x512 (fin ops V main_v43 :) (fin ops V main_arg4 :) :=
  fin_binary (y := main_v44) writes 61 rfl (last 61 rfl) (old 60 rfl) (given 4 rfl) V
theorem e_v45 : fin ops V main_v45 = add F S4096x512 (fin ops V main_v42 :) (fin ops V main_v44 :) :=
  fin_binary (y := main_v45) writes 62 rfl (last 62 rfl) (old 58 rfl) (old 61 rfl) V
theorem e_v46 : fin ops V main_v46 = spread F S4096x512 bcast_S_S4096x512 (lit F 0xBA83126F#32) := cst (x := main_cst_16) (y := main_v46) 63 rfl rfl rfl rfl V
theorem e_v47 : fin ops V main_v47 = mul F S4096x512 (fin ops V main_v46 :) (fin ops V main_v45 :) :=
  fin_binary (y := main_v47) writes 65 rfl (last 65 rfl) (old 64 rfl) (old 62 rfl) V
theorem e_v48 : fin ops V main_v48 = spread F S4096x1408 bcast_S_S4096x1408 (lit F 0x3F666666#32) := cst (x := main_cst_17) (y := main_v48) 66 rfl rfl rfl rfl V
theorem e_v49 : fin ops V main_v49 = mul F S4096x1408 (fin ops V main_v48 :) (fin ops V main_arg10 :) :=
  fin_binary (y := main_v49) writes 68 rfl (last 68 rfl) (old 67 rfl) (given 10 rfl) V
theorem e_v50 : fin ops V main_v50 = spread F S4096x1408 bcast_S_S4096x1408 (lit F 0x3DCCCCCD#32) := cst (x := main_cst_18) (y := main_v50) 69 rfl rfl rfl rfl V
theorem e_v51 : fin ops V main_v51 = mul F S4096x1408 (fin ops V main_v50 :) (fin ops V main_arg9 :) :=
  fin_binary (y := main_v51) writes 71 rfl (last 71 rfl) (old 70 rfl) (given 9 rfl) V
theorem e_v52 : fin ops V main_v52 = add F S4096x1408 (fin ops V main_v49 :) (fin ops V main_v51 :) :=
  fin_binary (y := main_v52) writes 72 rfl (last 72 rfl) (old 68 rfl) (old 71 rfl) V
theorem e_v53 : fin ops V main_v53 = spread F S4096x1408 bcast_S_S4096x1408 (lit F 0x3F7FBE77#32) := cst (x := main_cst_19) (y := main_v53) 73 rfl rfl rfl rfl V
theorem e_v54 : fin ops V main_v54 = mul F S4096x1408 (fin ops V main_v53 :) (fin ops V main_arg11 :) :=
  fin_binary (y := main_v54) writes 75 rfl (last 75 rfl) (old 74 rfl) (given 11 rfl) V
theorem e_v55 : fin ops V main_v55 = mul F S4096x1408 (fin ops V main_arg9 :) (fin ops V main_arg9 :) :=
  fin_binary (y := main_v55) writes 76 rfl (last 76 rfl) (given 9 rfl) (given 9 rfl) V
theorem e_v56 : fin ops V main_v56 = spread F S4096x1408 bcast_S_S4096x1408 (lit F 0x3A83126F#32) := cst (x := main_cst_20) (y := main_v56) 77 rfl rfl rfl rfl V
theorem e_v57 : fin ops V main_v57 = mul F S4096x1408 (fin ops V main_v56 :) (fin ops V main_v55 :) :=
  fin_binary (y := main_v57) writes 79 rfl (last 79 rfl) (old 78 rfl) (old 76 rfl) V
theorem e_v58 : fin ops V main_v58 = add F S4096x1408 (fin ops V main_v54 :) (fin ops V main_v57 :) :=
  fin_binary (y := main_v58) writes 80 rfl (last 80 rfl) (old 75 rfl) (old 79 rfl) V
theorem e_v59 : fin ops V main_v59 = spread F S4096x1408 bcast_S_S4096x1408 (lit F 0x3F26BD02#32) := cst (x := main_cst_21) (y := main_v59) 81 rfl rfl rfl rfl V
theorem e_v60 : fin ops V main_v60 = quot F S4096x1408 (fin ops V main_v52 :) (fin ops V main_v59 :) :=
  fin_binary (y := main_v60) writes 83 rfl (last 83 rfl) (old 72 rfl) (old 82 rfl) V
theorem e_v61 : fin ops V main_v61 = spread F S4096x1408 bcast_S_S4096x1408 (lit F 0x3C231ACC#32) := cst (x := main_cst_22) (y := main_v61) 84 rfl rfl rfl rfl V
theorem e_v62 : fin ops V main_v62 = quot F S4096x1408 (fin ops V main_v58 :) (fin ops V main_v61 :) :=
  fin_binary (y := main_v62) writes 86 rfl (last 86 rfl) (old 80 rfl) (old 85 rfl) V
theorem e_v63 : fin ops V main_v63 = root F S4096x1408 (fin ops V main_v62 :) :=
  fin_unary (y := main_v63) writes 87 rfl (last 87 rfl) (old 86 rfl) V
theorem e_v64 : fin ops V main_v64 = spread F S4096x1408 bcast_S_S4096x1408 (lit F 0x322BCC77#32) := cst (x := main_cst_23) (y := main_v64) 88 rfl rfl rfl rfl V
theorem e_v65 : fin ops V main_v65 = add F S4096x1408 (fin ops V main_v63 :) (fin ops V main_v64 :) :=
  fin_binary (y := main_v65) writes 90 rfl (last 90 rfl) (old 87 rfl) (old 89 rfl) V
theorem e_v66 : fin ops V main_v66 = quot F S4096x1408 (fin ops V main_v60 :) (fin ops V main_v65 :) :=
  fin_binary (y := main_v66) writes 91 rfl (last 91 rfl) (old 83 rfl) (old 90 rfl) V
theorem e_v67 : fin ops V main_v67 = spread F S4096x1408 bcast_S_S4096x1408 (lit F 0x3C23D70A#32) := cst (x := main_cst_24) (y := main_v67) 92 rfl rfl rfl rfl V
theorem e_v68 : fin ops V main_v68 = mul F S4096x1408 (fin ops V main_v67 :) (fin ops V main_arg8 :) :=
  fin_binary (y := main_v68) writes 94 rfl (last 94 rfl) (old 93 rfl) (given 8 rfl) V
theorem e_v69 : fin ops V main_v69 = add F S4096x1408 (fin ops V main_v66 :) (fin ops V main_v68 :) :=
  fin_binary (y := main_v69) writes 95 rfl (last 95 rfl) (old 91 rfl) (old 94 rfl) V
theorem e_v70 : fin ops V main_v70 = spread F S4096x1408 bcast_S_S4096x1408 (lit F 0xBA83126F#32) := cst (x := main_cst_25) (y := main_v70) 96 rfl rfl rfl rfl V
theorem e_v71 : fin ops V main_v71 = mul F S4096x1408 (fin ops V main_v70 :) (fin ops V main_v69 :) :=
  fin_binary (y := main_v71) writes 98 rfl (last 98 rfl) (old 97 rfl) (old 95 rfl) V
theorem e_v72 : fin ops V main_v72 = spread F S2816x1024 bcast_S_S2816x1024 (lit F 0x3F666666#32) := cst (x := main_cst_26) (y := main_v72) 99 rfl rfl rfl rfl V
theorem e_v73 : fin ops V main_v73 = mul F S2816x1024 (fin ops V main_v72 :) (fin ops V main_arg14 :) :=
  fin_binary (y := main_v73) writes 101 rfl (last 101 rfl) (old 100 rfl) (given 14 rfl) V
theorem e_v74 : fin ops V main_v74 = spread F S2816x1024 bcast_S_S2816x1024 (lit F 0x3DCCCCCD#32) := cst (x := main_cst_27) (y := main_v74) 102 rfl rfl rfl rfl V
theorem e_v75 : fin ops V main_v75 = mul F S2816x1024 (fin ops V main_v74 :) (fin ops V main_arg13 :) :=
  fin_binary (y := main_v75) writes 104 rfl (last 104 rfl) (old 103 rfl) (given 13 rfl) V
theorem e_v76 : fin ops V main_v76 = add F S2816x1024 (fin ops V main_v73 :) (fin ops V main_v75 :) :=
  fin_binary (y := main_v76) writes 105 rfl (last 105 rfl) (old 101 rfl) (old 104 rfl) V
theorem e_v77 : fin ops V main_v77 = spread F S2816x1024 bcast_S_S2816x1024 (lit F 0x3F7FBE77#32) := cst (x := main_cst_28) (y := main_v77) 106 rfl rfl rfl rfl V
theorem e_v78 : fin ops V main_v78 = mul F S2816x1024 (fin ops V main_v77 :) (fin ops V main_arg15 :) :=
  fin_binary (y := main_v78) writes 108 rfl (last 108 rfl) (old 107 rfl) (given 15 rfl) V
theorem e_v79 : fin ops V main_v79 = mul F S2816x1024 (fin ops V main_arg13 :) (fin ops V main_arg13 :) :=
  fin_binary (y := main_v79) writes 109 rfl (last 109 rfl) (given 13 rfl) (given 13 rfl) V
theorem e_v80 : fin ops V main_v80 = spread F S2816x1024 bcast_S_S2816x1024 (lit F 0x3A83126F#32) := cst (x := main_cst_29) (y := main_v80) 110 rfl rfl rfl rfl V
theorem e_v81 : fin ops V main_v81 = mul F S2816x1024 (fin ops V main_v80 :) (fin ops V main_v79 :) :=
  fin_binary (y := main_v81) writes 112 rfl (last 112 rfl) (old 111 rfl) (old 109 rfl) V
theorem e_v82 : fin ops V main_v82 = add F S2816x1024 (fin ops V main_v78 :) (fin ops V main_v81 :) :=
  fin_binary (y := main_v82) writes 113 rfl (last 113 rfl) (old 108 rfl) (old 112 rfl) V
theorem e_v83 : fin ops V main_v83 = spread F S2816x1024 bcast_S_S2816x1024 (lit F 0x3F26BD02#32) := cst (x := main_cst_30) (y := main_v83) 114 rfl rfl rfl rfl V
theorem e_v84 : fin ops V main_v84 = quot F S2816x1024 (fin ops V main_v76 :) (fin ops V main_v83 :) :=
  fin_binary (y := main_v84) writes 116 rfl (last 116 rfl) (old 105 rfl) (old 115 rfl) V
theorem e_v85 : fin ops V main_v85 = spread F S2816x1024 bcast_S_S2816x1024 (lit F 0x3C231ACC#32) := cst (x := main_cst_31) (y := main_v85) 117 rfl rfl rfl rfl V
theorem e_v86 : fin ops V main_v86 = quot F S2816x1024 (fin ops V main_v82 :) (fin ops V main_v85 :) :=
  fin_binary (y := main_v86) writes 119 rfl (last 119 rfl) (old 113 rfl) (old 118 rfl) V
theorem e_v87 : fin ops V main_v87 = root F S2816x1024 (fin ops V main_v86 :) :=
  fin_unary (y := main_v87) writes 120 rfl (last 120 rfl) (old 119 rfl) V
theorem e_v88 : fin ops V main_v88 = spread F S2816x1024 bcast_S_S2816x1024 (lit F 0x322BCC77#32) := cst (x := main_cst_32) (y := main_v88) 121 rfl rfl rfl rfl V
theorem e_v89 : fin ops V main_v89 = add F S2816x1024 (fin ops V main_v87 :) (fin ops V main_v88 :) :=
  fin_binary (y := main_v89) writes 123 rfl (last 123 rfl) (old 120 rfl) (old 122 rfl) V
theorem e_v90 : fin ops V main_v90 = quot F S2816x1024 (fin ops V main_v84 :) (fin ops V main_v89 :) :=
  fin_binary (y := main_v90) writes 124 rfl (last 124 rfl) (old 116 rfl) (old 123 rfl) V
theorem e_v91 : fin ops V main_v91 = spread F S2816x1024 bcast_S_S2816x1024 (lit F 0x3C23D70A#32) := cst (x := main_cst_33) (y := main_v91) 125 rfl rfl rfl rfl V
theorem e_v92 : fin ops V main_v92 = mul F S2816x1024 (fin ops V main_v91 :) (fin ops V main_arg12 :) :=
  fin_binary (y := main_v92) writes 127 rfl (last 127 rfl) (old 126 rfl) (given 12 rfl) V
theorem e_v93 : fin ops V main_v93 = add F S2816x1024 (fin ops V main_v90 :) (fin ops V main_v92 :) :=
  fin_binary (y := main_v93) writes 128 rfl (last 128 rfl) (old 124 rfl) (old 127 rfl) V
theorem e_v94 : fin ops V main_v94 = spread F S2816x1024 bcast_S_S2816x1024 (lit F 0xBA83126F#32) := cst (x := main_cst_34) (y := main_v94) 129 rfl rfl rfl rfl V
theorem e_v95 : fin ops V main_v95 = mul F S2816x1024 (fin ops V main_v94 :) (fin ops V main_v93 :) :=
  fin_binary (y := main_v95) writes 131 rfl (last 131 rfl) (old 130 rfl) (old 128 rfl) V
theorem e_v96 : fin ops V main_v96 = spread F S512x1024 bcast_S_S512x1024 (lit F 0x3F666666#32) := cst (x := main_cst_35) (y := main_v96) 132 rfl rfl rfl rfl V
theorem e_v97 : fin ops V main_v97 = mul F S512x1024 (fin ops V main_v96 :) (fin ops V main_arg18 :) :=
  fin_binary (y := main_v97) writes 134 rfl (last 134 rfl) (old 133 rfl) (given 18 rfl) V
theorem e_v98 : fin ops V main_v98 = spread F S512x1024 bcast_S_S512x1024 (lit F 0x3DCCCCCD#32) := cst (x := main_cst_36) (y := main_v98) 135 rfl rfl rfl rfl V
theorem e_v99 : fin ops V main_v99 = mul F S512x1024 (fin ops V main_v98 :) (fin ops V main_arg17 :) :=
  fin_binary (y := main_v99) writes 137 rfl (last 137 rfl) (old 136 rfl) (given 17 rfl) V
theorem e_v100 : fin ops V main_v100 = add F S512x1024 (fin ops V main_v97 :) (fin ops V main_v99 :) :=
  fin_binary (y := main_v100) writes 138 rfl (last 138 rfl) (old 134 rfl) (old 137 rfl) V
theorem e_v101 : fin ops V main_v101 = spread F S512x1024 bcast_S_S512x1024 (lit F 0x3F7FBE77#32) := cst (x := main_cst_37) (y := main_v101) 139 rfl rfl rfl rfl V
theorem e_v102 : fin ops V main_v102 = mul F S512x1024 (fin ops V main_v101 :) (fin ops V main_arg19 :) :=
  fin_binary (y := main_v102) writes 141 rfl (last 141 rfl) (old 140 rfl) (given 19 rfl) V
theorem e_v103 : fin ops V main_v103 = mul F S512x1024 (fin ops V main_arg17 :) (fin ops V main_arg17 :) :=
  fin_binary (y := main_v103) writes 142 rfl (last 142 rfl) (given 17 rfl) (given 17 rfl) V
theorem e_v104 : fin ops V main_v104 = spread F S512x1024 bcast_S_S512x1024 (lit F 0x3A83126F#32) := cst (x := main_cst_38) (y := main_v104) 143 rfl rfl rfl rfl V
theorem e_v105 : fin ops V main_v105 = mul F S512x1024 (fin ops V main_v104 :) (fin ops V main_v103 :) :=
  fin_binary (y := main_v105) writes 145 rfl (last 145 rfl) (old 144 rfl) (old 142 rfl) V
theorem e_v106 : fin ops V main_v106 = add F S512x1024 (fin ops V main_v102 :) (fin ops V main_v105 :) :=
  fin_binary (y := main_v106) writes 146 rfl (last 146 rfl) (old 141 rfl) (old 145 rfl) V
theorem e_v107 : fin ops V main_v107 = spread F S512x1024 bcast_S_S512x1024 (lit F 0x3F26BD02#32) := cst (x := main_cst_39) (y := main_v107) 147 rfl rfl rfl rfl V
theorem e_v108 : fin ops V main_v108 = quot F S512x1024 (fin ops V main_v100 :) (fin ops V main_v107 :) :=
  fin_binary (y := main_v108) writes 149 rfl (last 149 rfl) (old 138 rfl) (old 148 rfl) V
theorem e_v109 : fin ops V main_v109 = spread F S512x1024 bcast_S_S512x1024 (lit F 0x3C231ACC#32) := cst (x := main_cst_40) (y := main_v109) 150 rfl rfl rfl rfl V
theorem e_v110 : fin ops V main_v110 = quot F S512x1024 (fin ops V main_v106 :) (fin ops V main_v109 :) :=
  fin_binary (y := main_v110) writes 152 rfl (last 152 rfl) (old 146 rfl) (old 151 rfl) V
theorem e_v111 : fin ops V main_v111 = root F S512x1024 (fin ops V main_v110 :) :=
  fin_unary (y := main_v111) writes 153 rfl (last 153 rfl) (old 152 rfl) V
theorem e_v112 : fin ops V main_v112 = spread F S512x1024 bcast_S_S512x1024 (lit F 0x322BCC77#32) := cst (x := main_cst_41) (y := main_v112) 154 rfl rfl rfl rfl V
theorem e_v113 : fin ops V main_v113 = add F S512x1024 (fin ops V main_v111 :) (fin ops V main_v112 :) :=
  fin_binary (y := main_v113) writes 156 rfl (last 156 rfl) (old 153 rfl) (old 155 rfl) V
theorem e_v114 : fin ops V main_v114 = quot F S512x1024 (fin ops V main_v108 :) (fin ops V main_v113 :) :=
  fin_binary (y := main_v114) writes 157 rfl (last 157 rfl) (old 149 rfl) (old 156 rfl) V
theorem e_v115 : fin ops V main_v115 = spread F S512x1024 bcast_S_S512x1024 (lit F 0x3C23D70A#32) := cst (x := main_cst_42) (y := main_v115) 158 rfl rfl rfl rfl V
theorem e_v116 : fin ops V main_v116 = mul F S512x1024 (fin ops V main_v115 :) (fin ops V main_arg16 :) :=
  fin_binary (y := main_v116) writes 160 rfl (last 160 rfl) (old 159 rfl) (given 16 rfl) V
theorem e_v117 : fin ops V main_v117 = add F S512x1024 (fin ops V main_v114 :) (fin ops V main_v116 :) :=
  fin_binary (y := main_v117) writes 161 rfl (last 161 rfl) (old 157 rfl) (old 160 rfl) V
theorem e_v118 : fin ops V main_v118 = spread F S512x1024 bcast_S_S512x1024 (lit F 0xBA83126F#32) := cst (x := main_cst_43) (y := main_v118) 162 rfl rfl rfl rfl V
theorem e_v119 : fin ops V main_v119 = mul F S512x1024 (fin ops V main_v118 :) (fin ops V main_v117 :) :=
  fin_binary (y := main_v119) writes 164 rfl (last 164 rfl) (old 163 rfl) (old 161 rfl) V
theorem e_v120 : fin ops V main_v120 = spread F S512x256 bcast_S_S512x256 (lit F 0x3F666666#32) := cst (x := main_cst_44) (y := main_v120) 165 rfl rfl rfl rfl V
theorem e_v121 : fin ops V main_v121 = mul F S512x256 (fin ops V main_v120 :) (fin ops V main_arg22 :) :=
  fin_binary (y := main_v121) writes 167 rfl (last 167 rfl) (old 166 rfl) (given 22 rfl) V
theorem e_v122 : fin ops V main_v122 = spread F S512x256 bcast_S_S512x256 (lit F 0x3DCCCCCD#32) := cst (x := main_cst_45) (y := main_v122) 168 rfl rfl rfl rfl V
theorem e_v123 : fin ops V main_v123 = mul F S512x256 (fin ops V main_v122 :) (fin ops V main_arg21 :) :=
  fin_binary (y := main_v123) writes 170 rfl (last 170 rfl) (old 169 rfl) (given 21 rfl) V
theorem e_v124 : fin ops V main_v124 = add F S512x256 (fin ops V main_v121 :) (fin ops V main_v123 :) :=
  fin_binary (y := main_v124) writes 171 rfl (last 171 rfl) (old 167 rfl) (old 170 rfl) V
theorem e_v125 : fin ops V main_v125 = spread F S512x256 bcast_S_S512x256 (lit F 0x3F7FBE77#32) := cst (x := main_cst_46) (y := main_v125) 172 rfl rfl rfl rfl V
theorem e_v126 : fin ops V main_v126 = mul F S512x256 (fin ops V main_v125 :) (fin ops V main_arg23 :) :=
  fin_binary (y := main_v126) writes 174 rfl (last 174 rfl) (old 173 rfl) (given 23 rfl) V
theorem e_v127 : fin ops V main_v127 = mul F S512x256 (fin ops V main_arg21 :) (fin ops V main_arg21 :) :=
  fin_binary (y := main_v127) writes 175 rfl (last 175 rfl) (given 21 rfl) (given 21 rfl) V
theorem e_v128 : fin ops V main_v128 = spread F S512x256 bcast_S_S512x256 (lit F 0x3A83126F#32) := cst (x := main_cst_47) (y := main_v128) 176 rfl rfl rfl rfl V
theorem e_v129 : fin ops V main_v129 = mul F S512x256 (fin ops V main_v128 :) (fin ops V main_v127 :) :=
  fin_binary (y := main_v129) writes 178 rfl (last 178 rfl) (old 177 rfl) (old 175 rfl) V
theorem e_v130 : fin ops V main_v130 = add F S512x256 (fin ops V main_v126 :) (fin ops V main_v129 :) :=
  fin_binary (y := main_v130) writes 179 rfl (last 179 rfl) (old 174 rfl) (old 178 rfl) V
theorem e_v131 : fin ops V main_v131 = spread F S512x256 bcast_S_S512x256 (lit F 0x3F26BD02#32) := cst (x := main_cst_48) (y := main_v131) 180 rfl rfl rfl rfl V
theorem e_v132 : fin ops V main_v132 = quot F S512x256 (fin ops V main_v124 :) (fin ops V main_v131 :) :=
  fin_binary (y := main_v132) writes 182 rfl (last 182 rfl) (old 171 rfl) (old 181 rfl) V
theorem e_v133 : fin ops V main_v133 = spread F S512x256 bcast_S_S512x256 (lit F 0x3C231ACC#32) := cst (x := main_cst_49) (y := main_v133) 183 rfl rfl rfl rfl V
theorem e_v134 : fin ops V main_v134 = quot F S512x256 (fin ops V main_v130 :) (fin ops V main_v133 :) :=
  fin_binary (y := main_v134) writes 185 rfl (last 185 rfl) (old 179 rfl) (old 184 rfl) V
theorem e_v135 : fin ops V main_v135 = root F S512x256 (fin ops V main_v134 :) :=
  fin_unary (y := main_v135) writes 186 rfl (last 186 rfl) (old 185 rfl) V
theorem e_v136 : fin ops V main_v136 = spread F S512x256 bcast_S_S512x256 (lit F 0x322BCC77#32) := cst (x := main_cst_50) (y := main_v136) 187 rfl rfl rfl rfl V
theorem e_v137 : fin ops V main_v137 = add F S512x256 (fin ops V main_v135 :) (fin ops V main_v136 :) :=
  fin_binary (y := main_v137) writes 189 rfl (last 189 rfl) (old 186 rfl) (old 188 rfl) V
theorem e_v138 : fin ops V main_v138 = quot F S512x256 (fin ops V main_v132 :) (fin ops V main_v137 :) :=
  fin_binary (y := main_v138) writes 190 rfl (last 190 rfl) (old 182 rfl) (old 189 rfl) V
theorem e_v139 : fin ops V main_v139 = spread F S512x256 bcast_S_S512x256 (lit F 0x3C23D70A#32) := cst (x := main_cst_51) (y := main_v139) 191 rfl rfl rfl rfl V
theorem e_v140 : fin ops V main_v140 = mul F S512x256 (fin ops V main_v139 :) (fin ops V main_arg20 :) :=
  fin_binary (y := main_v140) writes 193 rfl (last 193 rfl) (old 192 rfl) (given 20 rfl) V
theorem e_v141 : fin ops V main_v141 = add F S512x256 (fin ops V main_v138 :) (fin ops V main_v140 :) :=
  fin_binary (y := main_v141) writes 194 rfl (last 194 rfl) (old 190 rfl) (old 193 rfl) V
theorem e_v142 : fin ops V main_v142 = spread F S512x256 bcast_S_S512x256 (lit F 0xBA83126F#32) := cst (x := main_cst_52) (y := main_v142) 195 rfl rfl rfl rfl V
theorem e_v143 : fin ops V main_v143 = mul F S512x256 (fin ops V main_v142 :) (fin ops V main_v141 :) :=
  fin_binary (y := main_v143) writes 197 rfl (last 197 rfl) (old 196 rfl) (old 194 rfl) V

end Opt.Ref

end
-- ==== Proof.OptRefValue.lean ====
/- The results of the AdamW step's reference, from its arguments, whatever they hold. -/
module

public import proofs.«01_k».proof.Proof.OptRefLine
public import proofs.«01_k».proof.Proof.OptStep

@[expose] public section

noncomputable section

namespace Opt.Ref

open Cert.OptReferenceIdeal Cert.OptReferenceIdeal.Gen Idealize.ShloMosaic Idealize.ShloMosaic.TcCoe Idealize.ShloMosaic.ValueIdx Fox Lin

/-- The operations of one weight's step, in the order in which the program has them. -/
theorem step_is {a b : ℕ} (h : S_.BroadcastsInDim ⟨2, ![a, b]⟩ (![] : Fin 0 → Fin (⟨2, ![a, b]⟩ : Shape).rank)) {w g m v : ℕ → ℕ → EReal}
    {W G M N x0 x1 x2 x3 x4 x5 x6 x7 x8 x9 x10 x11 x12 x13 x14 x15 x16 x17 x18 x19 x20 x21 x22 x23 : T Ideal ⟨2, ![a, b]⟩}
    (e0 : x0 = spread Ideal _ h (lit Ideal 0x3F666666#32)) (e1 : x1 = mul Ideal _ x0 M) (e2 : x2 = spread Ideal _ h (lit Ideal 0x3DCCCCCD#32))
    (e3 : x3 = mul Ideal _ x2 G) (e4 : x4 = add Ideal _ x1 x3) (e5 : x5 = spread Ideal _ h (lit Ideal 0x3F7FBE77#32)) (e6 : x6 = mul Ideal _ x5 N)
    (e7 : x7 = mul Ideal _ G G) (e8 : x8 = spread Ideal _ h (lit Ideal 0x3A83126F#32)) (e9 : x9 = mul Ideal _ x8 x7) (e10 : x10 = add Ideal _ x6 x9)
    (e11 : x11 = spread Ideal _ h (lit Ideal 0x3F26BD02#32)) (e12 : x12 = quot Ideal _ x4 x11) (e13 : x13 = spread Ideal _ h (lit Ideal 0x3C231ACC#32))
    (e14 : x14 = quot Ideal _ x10 x13) (e15 : x15 = root Ideal _ x14) (e16 : x16 = spread Ideal _ h (lit Ideal 0x322BCC77#32))
    (e17 : x17 = add Ideal _ x15 x16) (e18 : x18 = quot Ideal _ x12 x17) (e19 : x19 = spread Ideal _ h (lit Ideal 0x3C23D70A#32))
    (e20 : x20 = mul Ideal _ x19 W) (e21 : x21 = add Ideal _ x18 x20) (e22 : x22 = spread Ideal _ h (lit Ideal 0xBA83126F#32))
    (e23 : x23 = mul Ideal _ x22 x21)
    (hw : E2 W w) (hg : E2 G g) (hm : E2 M m) (hv : E2 N v) : Stepped x23 x4 x10 w g m v := by
  subst e23 e22 e21 e20 e19 e18 e17 e16 e15 e14 e13 e12 e11 e10 e9 e8 e7 e6 e5 e4 e3 e2 e1 e0
  exact ⟨fun i j => by show _ = delta (w i j) (g i j) (m i j) (v i j); rw [← hw i j, ← hg i j, ← hm i j, ← hv i j]; rfl,
    fun i j => by show _ = first (g i j) (m i j); rw [← hg i j, ← hm i j]; rfl,
    fun i j => by show _ = second (g i j) (v i j); rw [← hg i j, ← hv i j]; rfl⟩

variable {V : Valuation τ sig (Elt Ideal)} {w g m v : ℕ → ℕ → EReal}

theorem xq_is (h0 : E2 (a := 1024) (b := 1024) (V (Proc.devRef .tc main_arg0)) w) (h1 : E2 (a := 1024) (b := 1024) (V (Proc.devRef .tc main_arg1)) g) (h2 : E2 (a := 1024) (b := 1024) (V (Proc.devRef .tc main_arg2)) m) (h3 : E2 (a := 1024) (b := 1024) (V (Proc.devRef .tc main_arg3)) v) :
    Stepped (a := 1024) (b := 1024) (fin ops V main_v23) (fin ops V main_v4) (fin ops V main_v10) w g m v :=
  step_is bcast_S_S1024x1024
   (e_v0 V) (e_v1 V) (e_v2 V) (e_v3 V) (e_v4 V) (e_v5 V) (e_v6 V) (e_v7 V) (e_v8 V) (e_v9 V) (e_v10 V) (e_v11 V) (e_v12 V) (e_v13 V)
   (e_v14 V) (e_v15 V) (e_v16 V) (e_v17 V) (e_v18 V) (e_v19 V) (e_v20 V) (e_v21 V) (e_v22 V) (e_v23 V)
    (.of_eq (e_arg V 0 rfl) h0) (.of_eq (e_arg V 1 rfl) h1) (.of_eq (e_arg V 2 rfl) h2) (.of_eq (e_arg V 3 rfl) h3)

theorem xkv_is (h0 : E2 (a := 4096) (b := 512) (V (Proc.devRef .tc main_arg4)) w) (h1 : E2 (a := 4096) (b := 512) (V (Proc.devRef .tc main_arg5)) g) (h2 : E2 (a := 4096) (b := 512) (V (Proc.devRef .tc main_arg6)) m) (h3 : E2 (a := 4096) (b := 512) (V (Proc.devRef .tc main_arg7)) v) :
    Stepped (a := 4096) (b := 512) (fin ops V main_v47) (fin ops V main_v28) (fin ops V main_v34) w g m v :=
  step_is bcast_S_S4096x512
   (e_v24 V) (e_v25 V) (e_v26 V) (e_v27 V) (e_v28 V) (e_v29 V) (e_v30 V) (e_v31 V) (e_v32 V) (e_v33 V) (e_v34 V) (e_v35 V) (e_v36 V)
   (e_v37 V) (e_v38 V) (e_v39 V) (e_v40 V) (e_v41 V) (e_v42 V) (e_v43 V) (e_v44 V) (e_v45 V) (e_v46 V) (e_v47 V)
    (.of_eq (e_arg V 4 rfl) h0) (.of_eq (e_arg V 5 rfl) h1) (.of_eq (e_arg V 6 rfl) h2) (.of_eq (e_arg V 7 rfl) h3)

theorem gu_is (h0 : E2 (a := 4096) (b := 1408) (V (Proc.devRef .tc main_arg8)) w) (h1 : E2 (a := 4096) (b := 1408) (V (Proc.devRef .tc main_arg9)) g) (h2 : E2 (a := 4096) (b := 1408) (V (Proc.devRef .tc main_arg10)) m) (h3 : E2 (a := 4096) (b := 1408) (V (Proc.devRef .tc main_arg11)) v) :
    Stepped (a := 4096) (b := 1408) (fin ops V main_v71) (fin ops V main_v52) (fin ops V main_v58) w g m v :=
  step_is bcast_S_S4096x1408
   (e_v48 V) (e_v49 V) (e_v50 V) (e_v51 V) (e_v52 V) (e_v53 V) (e_v54 V) (e_v55 V) (e_v56 V) (e_v57 V) (e_v58 V) (e_v59 V) (e_v60 V)
   (e_v61 V) (e_v62 V) (e_v63 V) (e_v64 V) (e_v65 V) (e_v66 V) (e_v67 V) (e_v68 V) (e_v69 V) (e_v70 V) (e_v71 V)
    (.of_eq (e_arg V 8 rfl) h0) (.of_eq (e_arg V 9 rfl) h1) (.of_eq (e_arg V 10 rfl) h2) (.of_eq (e_arg V 11 rfl) h3)

theorem down_is (h0 : E2 (a := 2816) (b := 1024) (V (Proc.devRef .tc main_arg12)) w) (h1 : E2 (a := 2816) (b := 1024) (V (Proc.devRef .tc main_arg13)) g) (h2 : E2 (a := 2816) (b := 1024) (V (Proc.devRef .tc main_arg14)) m) (h3 : E2 (a := 2816) (b := 1024) (V (Proc.devRef .tc main_arg15)) v) :
    Stepped (a := 2816) (b := 1024) (fin ops V main_v95) (fin ops V main_v76) (fin ops V main_v82) w g m v :=
  step_is bcast_S_S2816x1024
   (e_v72 V) (e_v73 V) (e_v74 V) (e_v75 V) (e_v76 V) (e_v77 V) (e_v78 V) (e_v79 V) (e_v80 V) (e_v81 V) (e_v82 V) (e_v83 V) (e_v84 V)
   (e_v85 V) (e_v86 V) (e_v87 V) (e_v88 V) (e_v89 V) (e_v90 V) (e_v91 V) (e_v92 V) (e_v93 V) (e_v94 V) (e_v95 V)
    (.of_eq (e_arg V 12 rfl) h0) (.of_eq (e_arg V 13 rfl) h1) (.of_eq (e_arg V 14 rfl) h2) (.of_eq (e_arg V 15 rfl) h3)

theorem out_is (h0 : E2 (a := 512) (b := 1024) (V (Proc.devRef .tc main_arg16)) w) (h1 : E2 (a := 512) (b := 1024) (V (Proc.devRef .tc main_arg17)) g) (h2 : E2 (a := 512) (b := 1024) (V (Proc.devRef .tc main_arg18)) m) (h3 : E2 (a := 512) (b := 1024) (V (Proc.devRef .tc main_arg19)) v) :
    Stepped (a := 512) (b := 1024) (fin ops V main_v119) (fin ops V main_v100) (fin ops V main_v106) w g m v :=
  step_is bcast_S_S512x1024
   (e_v96 V) (e_v97 V) (e_v98 V) (e_v99 V) (e_v100 V) (e_v101 V) (e_v102 V) (e_v103 V) (e_v104 V) (e_v105 V) (e_v106 V) (e_v107 V)
   (e_v108 V) (e_v109 V) (e_v110 V) (e_v111 V) (e_v112 V) (e_v113 V) (e_v114 V) (e_v115 V) (e_v116 V) (e_v117 V) (e_v118 V) (e_v119 V)
    (.of_eq (e_arg V 16 rfl) h0) (.of_eq (e_arg V 17 rfl) h1) (.of_eq (e_arg V 18 rfl) h2) (.of_eq (e_arg V 19 rfl) h3)

theorem gate_is (h0 : E2 (a := 512) (b := 256) (V (Proc.devRef .tc main_arg20)) w) (h1 : E2 (a := 512) (b := 256) (V (Proc.devRef .tc main_arg21)) g) (h2 : E2 (a := 512) (b := 256) (V (Proc.devRef .tc main_arg22)) m) (h3 : E2 (a := 512) (b := 256) (V (Proc.devRef .tc main_arg23)) v) :
    Stepped (a := 512) (b := 256) (fin ops V main_v143) (fin ops V main_v124) (fin ops V main_v130) w g m v :=
  step_is bcast_S_S512x256
   (e_v120 V) (e_v121 V) (e_v122 V) (e_v123 V) (e_v124 V) (e_v125 V) (e_v126 V) (e_v127 V) (e_v128 V) (e_v129 V) (e_v130 V) (e_v131 V)
   (e_v132 V) (e_v133 V) (e_v134 V) (e_v135 V) (e_v136 V) (e_v137 V) (e_v138 V) (e_v139 V) (e_v140 V) (e_v141 V) (e_v142 V) (e_v143 V)
    (.of_eq (e_arg V 20 rfl) h0) (.of_eq (e_arg V 21 rfl) h1) (.of_eq (e_arg V 22 rfl) h2) (.of_eq (e_arg V 23 rfl) h3)

end Opt.Ref

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.FfnKernel
public import proofs.«01_k».proof.Proof.Gen.FfnKernel.Frame
public import proofs.«01_k».proof.Proof.Gen.FfnKernelIdeal
public import proofs.«01_k».proof.Proof.Gen.FfnKernelIdeal.Frame
public import proofs.«01_k».proof.Proof.Gen.FfnReferenceIdeal
public import proofs.«01_k».proof.Proof.Gen.LinKernel
public import proofs.«01_k».proof.Proof.Gen.LinKernel.Frame
public import proofs.«01_k».proof.Proof.Gen.LinKernelIdeal
public import proofs.«01_k».proof.Proof.Gen.LinKernelIdeal.Frame
public import proofs.«01_k».proof.Proof.Gen.LinReferenceIdeal
public import proofs.«01_k».proof.Proof.Gen.OptKernel
public import proofs.«01_k».proof.Proof.Gen.OptKernel.Frame
public import proofs.«01_k».proof.Proof.Gen.OptKernelIdeal
public import proofs.«01_k».proof.Proof.Gen.OptKernelIdeal.Frame
public import proofs.«01_k».proof.Proof.Gen.OptReferenceIdeal
public import proofs.«01_k».proof.Proof.Array
public import proofs.«01_k».proof.Proof.KerValue
public import proofs.«01_k».proof.Proof.RefGrad
public import proofs.«01_k».proof.Proof.Finite
public import proofs.«01_k».proof.Proof.FfnRun
public import proofs.«01_k».proof.Proof.FfnKerValue
public import proofs.«01_k».proof.Proof.FfnRefValue
public import proofs.«01_k».proof.Proof.FfnFinite
public import proofs.«01_k».proof.Proof.LinRun
public import proofs.«01_k».proof.Proof.LinKerValue
public import proofs.«01_k».proof.Proof.LinRefValue
public import proofs.«01_k».proof.Proof.OptRun
public import proofs.«01_k».proof.Proof.OptKerValue
public import proofs.«01_k».proof.Proof.OptRefValue
public import Idealize.ShloMosaic.Lib.Quiescent

@[expose] public section

noncomputable section

namespace Cert.Proof

open Idealize.ShloMosaic Idealize.ShloMosaic.TcCoe Idealize.ShloMosaic.StableHlo Idealize.SL.Sem Fox

/-! ## The reference's run -/

section
open Cert.ReferenceIdeal

/-- The reference's line of operations leaves its arguments as they were. -/
theorem reference_args {m : (ℓ : Loc nD τ sig) → Buf (Elt Ideal) ℓ} {r : PUnit × MemSt nD τ sig (Elt Ideal)}
    (h : ∀ (d : Dev nD) (b : Ref sig .tc), r.2.mem ((d.tc : Thread nD τ).loc b) = fin Fox.Ref.ops (launchContents m d) b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨(h c main_arg0).trans (Fox.Ref.e_arg0 _), (h c main_arg1).trans (Fox.Ref.e_arg1 _), (h c main_arg2).trans (Fox.Ref.e_arg2 _),
    (h c main_arg3).trans (Fox.Ref.e_arg3 _), (h c main_arg4).trans (Fox.Ref.e_arg4 _)⟩

/-- The reference runs to an end, keeps its arguments, and has no semaphore. -/
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨reference_args h, sem_eq_zero_of_no_sems rfl r.2⟩) (Fox.Ref.run m g)

end

/-! ## The four gradients -/

/-- Where the arguments agree and hold real numbers, the kernel's four arrays are the reference's four results. -/
theorem gradients {m : (ℓ : Loc Cert.KernelIdeal.nD Cert.KernelIdeal.τ Cert.KernelIdeal.sig) → Buf (Elt Ideal) ℓ} {c : Dev Cert.KernelIdeal.nD}
    {V : Valuation Cert.ReferenceIdeal.τ Cert.ReferenceIdeal.sig (Elt Ideal)} {Q K V' D : ℕ → ℕ → ℕ → ℝ} {C : ℕ → ℕ → ℝ}
    (G : Fox.Ker.Given (fun b => m (c, b)) Q K V' D C) (G' : Fox.Ref.Given V Q K V' D C) :
    fin Fox.Ref.ops V Cert.ReferenceIdeal.main_v85 = (Cert.KernelIdeal.Gen.dats m 0 c).arrAt 6 Cert.KernelIdeal.cfg0.N
    ∧ fin Fox.Ref.ops V Cert.ReferenceIdeal.main_v87 = (Cert.KernelIdeal.Gen.dats m 0 c).arrAt 7 Cert.KernelIdeal.cfg0.N
    ∧ fin Fox.Ref.ops V Cert.ReferenceIdeal.main_v86 = (Cert.KernelIdeal.Gen.dats m 0 c).arrAt 8 Cert.KernelIdeal.cfg0.N
    ∧ fin Fox.Ref.ops V Cert.ReferenceIdeal.main_v88 = (Cert.KernelIdeal.Gen.dats m 0 c).arrAt 9 Cert.KernelIdeal.cfg0.N := by
  have S := Fox.Ker.staged G
  obtain ⟨M, hM⟩ := Fox.Ref.rowMax G'
  exact ⟨(Fox.Ref.dq_is G' hM).eq (array6 S), (Fox.Ref.dk_is G' hM).eq (array7 S), (Fox.Ref.dv_is G' hM).eq (array8 S), (Fox.Ref.dc_is G' hM).eq (array9 S)⟩

theorem algebraic : algebraic_KernelIdeal_ReferenceIdeal_pre_finite (hKernelIdeal := Cert.KernelIdeal.Gen.facts)
    (hReferenceIdeal := Cert.ReferenceIdeal.Gen.facts) (hPre_finite := finiteFacts) := by
  intro m g m' g' hpre same
  refine ⟨fun c => (Cert.KernelIdeal.Gen.dats m 0 c).arrAt 6 Cert.KernelIdeal.cfg0.N, fun c => (Cert.KernelIdeal.Gen.dats m 0 c).arrAt 7 Cert.KernelIdeal.cfg0.N,
    fun c => (Cert.KernelIdeal.Gen.dats m 0 c).arrAt 8 Cert.KernelIdeal.cfg0.N, fun c => (Cert.KernelIdeal.Gen.dats m 0 c).arrAt 9 Cert.KernelIdeal.cfg0.N,
    Cert.KernelIdeal.Value.run_blocks m g, ?_⟩
  refine (θ_run _ _ _).mono (fun r h c => ?_) (Fox.Ref.run m' g')
  obtain ⟨Q, K, V', D, C, hq, hk, hv, hc, hd⟩ := @reals finiteFacts _ _ _ _ _ (hpre c)
  obtain ⟨s0, s1, s2, s3, s4⟩ := same c
  obtain ⟨k0, k1, k2, k3⟩ := gradients (m := m) (c := c) (V := launchContents m' c) ⟨hq, hk, hv, hc, hd⟩
    ⟨.of_eq s0 hq, .of_eq s1 hk, .of_eq s2 hv, .of_eq s3 hc, .of_eq s4 hd⟩
  exact ⟨(h c _).trans k0, (h c _).trans k1, (h c _).trans k2, (h c _).trans k3, reference_args h c⟩

/-! ## The feed-forward layer's reference -/

section
open Cert.FfnReferenceIdeal

/-- The feed-forward reference's line of operations leaves its arguments as they were. -/
theorem ffn_reference_args {m : (ℓ : Loc nD τ sig) → Buf (Elt Ideal) ℓ} {r : PUnit × MemSt nD τ sig (Elt Ideal)}
    (h : ∀ (d : Dev nD) (b : Ref sig .tc), r.2.mem ((d.tc : Thread nD τ).loc b) = fin Ffn.Ref.ops (launchContents m d) b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c main_arg0).trans (Ffn.Ref.e_arg0 _), (h c main_arg1).trans (Ffn.Ref.e_arg1 _), (h c main_arg2).trans (Ffn.Ref.e_arg2 _),
    (h c main_arg3).trans (Ffn.Ref.e_arg3 _)⟩

/-- The feed-forward reference runs to an end, keeps its arguments, and has no semaphore. -/
theorem ffn_reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run _ _ _).mono (fun r h => ⟨ffn_reference_args h, sem_eq_zero_of_no_sems rfl r.2⟩) (Ffn.Ref.run m g)

end

/-! ## The feed-forward layer's output and gradients -/

section
open Cert.FfnKernelIdeal Cert.FfnKernelIdeal.Gen

/-- Every run of the eight calls ends with the four results at the fold's contents, and the arguments as they were. -/
theorem ffn_kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v2) = W8 m g c (Proc.devRef .tc main_v2)
      ∧ r.2.mem ((c.tc : Thread nD τ).loc main_v6) = W8 m g c (Proc.devRef .tc main_v6)
      ∧ r.2.mem ((c.tc : Thread nD τ).loc main_v4) = W8 m g c (Proc.devRef .tc main_v4)
      ∧ r.2.mem ((c.tc : Thread nD τ).loc main_v7) = W8 m g c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun _ h c => ⟨h c _ (by decide), h c _ (by decide), h c _ (by decide), h c _ (by decide),
    (h c _ (by decide)).trans (W8_main_arg0 m g c), (h c _ (by decide)).trans (W8_main_arg1 m g c),
    (h c _ (by decide)).trans (W8_main_arg2 m g c), (h c _ (by decide)).trans (W8_main_arg3 m g c)⟩) (Ffn.Ker.run m g)

end

/-- Where the arguments agree and hold real numbers, the reference's four results are what the eight calls leave. -/
theorem ffn_results {m : (ℓ : Loc Cert.FfnKernelIdeal.nD Cert.FfnKernelIdeal.τ Cert.FfnKernelIdeal.sig) → Buf (Elt Ideal) ℓ} {c : Dev Cert.FfnKernelIdeal.nD}
    {V : Valuation Cert.FfnReferenceIdeal.τ Cert.FfnReferenceIdeal.sig (Elt Ideal)} {H G W D : ℕ → ℕ → ℝ} (g : Dev Cert.FfnKernelIdeal.nD → PrngReg)
    (A : Ffn.Ker.Given m c H G W D) (B : Ffn.Ref.Given V H G W D) :
    fin Ffn.Ref.ops V Cert.FfnReferenceIdeal.main_v22 = Cert.FfnKernelIdeal.Gen.W8 m g c (Proc.devRef .tc Cert.FfnKernelIdeal.main_v2)
    ∧ fin Ffn.Ref.ops V Cert.FfnReferenceIdeal.main_v23 = Cert.FfnKernelIdeal.Gen.W8 m g c (Proc.devRef .tc Cert.FfnKernelIdeal.main_v6)
    ∧ fin Ffn.Ref.ops V Cert.FfnReferenceIdeal.main_v24 = Cert.FfnKernelIdeal.Gen.W8 m g c (Proc.devRef .tc Cert.FfnKernelIdeal.main_v4)
    ∧ fin Ffn.Ref.ops V Cert.FfnReferenceIdeal.main_v25 = Cert.FfnKernelIdeal.Gen.W8 m g c (Proc.devRef .tc Cert.FfnKernelIdeal.main_v7) :=
  ⟨(Ffn.Ref.out_is B).eq (Ffn.Ker.out_is A g), (Ffn.Ref.dinput_is B).eq (Ffn.Ker.dinput_is A g),
    (Ffn.Ref.dlast_is B).eq (Ffn.Ker.dlast_is A g), (Ffn.Ref.dfirst_is B).eq (Ffn.Ker.dfirst_is A g)⟩

theorem ffn_algebraic : algebraic_FfnKernelIdeal_FfnReferenceIdeal_pre_finite2 (hFfnKernelIdeal := Cert.FfnKernelIdeal.Gen.facts)
    (hFfnReferenceIdeal := Cert.FfnReferenceIdeal.Gen.facts) (hPre_finite2 := Ffn.finiteFacts) := by
  intro m g m' g' hpre same
  refine ⟨fun c => Cert.FfnKernelIdeal.Gen.W8 m g c (Proc.devRef .tc Cert.FfnKernelIdeal.main_v2),
    fun c => Cert.FfnKernelIdeal.Gen.W8 m g c (Proc.devRef .tc Cert.FfnKernelIdeal.main_v6),
    fun c => Cert.FfnKernelIdeal.Gen.W8 m g c (Proc.devRef .tc Cert.FfnKernelIdeal.main_v4),
    fun c => Cert.FfnKernelIdeal.Gen.W8 m g c (Proc.devRef .tc Cert.FfnKernelIdeal.main_v7), ffn_kernel_run m g, ?_⟩
  refine (θ_run _ _ _).mono (fun r h c => ?_) (Ffn.Ref.run m' g')
  obtain ⟨H, G, W, D, hh, hg, hw, hd⟩ := @Ffn.reals Ffn.finiteFacts _ _ _ _ (hpre c)
  obtain ⟨s0, s1, s2, s3⟩ := same c
  obtain ⟨k0, k1, k2, k3⟩ := ffn_results (m := m) (c := c) (V := launchContents m' c) g ⟨hh, hg, hw, hd⟩
    ⟨.of_eq s0 hh, .of_eq s1 hg, .of_eq s2 hw, .of_eq s3 hd⟩
  exact ⟨(h c _).trans k0, (h c _).trans k1, (h c _).trans k2, (h c _).trans k3, ffn_reference_args h c⟩

/-! ## The products' reference -/

section
open Cert.LinReferenceIdeal

/-- The line of operations of the products' reference leaves its arguments as they were. -/
theorem lin_reference_args {m : (ℓ : Loc nD τ sig) → Buf (Elt Ideal) ℓ} {r : PUnit × MemSt nD τ sig (Elt Ideal)}
    (h : ∀ (d : Dev nD) (b : Ref sig .tc), r.2.mem ((d.tc : Thread nD τ).loc b) = fin Lin.Ref.ops (launchContents m d) b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11) :=
  ⟨(h c main_arg0).trans (Lin.Ref.e_arg0 _), (h c main_arg1).trans (Lin.Ref.e_arg1 _), (h c main_arg2).trans (Lin.Ref.e_arg2 _),
    (h c main_arg3).trans (Lin.Ref.e_arg3 _), (h c main_arg4).trans (Lin.Ref.e_arg4 _), (h c main_arg5).trans (Lin.Ref.e_arg5 _),
    (h c main_arg6).trans (Lin.Ref.e_arg6 _), (h c main_arg7).trans (Lin.Ref.e_arg7 _), (h c main_arg8).trans (Lin.Ref.e_arg8 _),
    (h c main_arg9).trans (Lin.Ref.e_arg9 _), (h c main_arg10).trans (Lin.Ref.e_arg10 _), (h c main_arg11).trans (Lin.Ref.e_arg11 _)⟩

/-- The products' reference runs to an end, keeps its arguments, and has no semaphore. -/
theorem lin_reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run _ _ _).mono (fun r h => ⟨lin_reference_args h, sem_eq_zero_of_no_sems rfl r.2⟩) (Lin.Ref.run m g)

end

/-! ## The products -/

section
open Cert.LinKernelIdeal Cert.LinKernelIdeal.Gen

/-- Every run of the twelve calls ends with the twelve results at the fold's contents, and the arguments as they were. -/
theorem lin_kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v0) = W12 m g c (Proc.devRef .tc main_v0)
      ∧ r.2.mem ((c.tc : Thread nD τ).loc main_v1) = W12 m g c (Proc.devRef .tc main_v1)
      ∧ r.2.mem ((c.tc : Thread nD τ).loc main_v2) = W12 m g c (Proc.devRef .tc main_v2)
      ∧ r.2.mem ((c.tc : Thread nD τ).loc main_v3) = W12 m g c (Proc.devRef .tc main_v3)
      ∧ r.2.mem ((c.tc : Thread nD τ).loc main_v4) = W12 m g c (Proc.devRef .tc main_v4)
      ∧ r.2.mem ((c.tc : Thread nD τ).loc main_v5) = W12 m g c (Proc.devRef .tc main_v5)
      ∧ r.2.mem ((c.tc : Thread nD τ).loc main_v6) = W12 m g c (Proc.devRef .tc main_v6)
      ∧ r.2.mem ((c.tc : Thread nD τ).loc main_v7) = W12 m g c (Proc.devRef .tc main_v7)
      ∧ r.2.mem ((c.tc : Thread nD τ).loc main_v8) = W12 m g c (Proc.devRef .tc main_v8)
      ∧ r.2.mem ((c.tc : Thread nD τ).loc main_v9) = W12 m g c (Proc.devRef .tc main_v9)
      ∧ r.2.mem ((c.tc : Thread nD τ).loc main_v10) = W12 m g c (Proc.devRef .tc main_v10)
      ∧ r.2.mem ((c.tc : Thread nD τ).loc main_v11) = W12 m g c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run _ _ _).mono (fun _ h c => ⟨h c _ (by decide), h c _ (by decide), h c _ (by decide), h c _ (by decide), h c _ (by decide), h c _ (by decide),
    h c _ (by decide), h c _ (by decide), h c _ (by decide), h c _ (by decide), h c _ (by decide), h c _ (by decide),
    (h c _ (by decide)).trans (W12_main_arg0 m g c), (h c _ (by decide)).trans (W12_main_arg1 m g c), (h c _ (by decide)).trans (W12_main_arg2 m g c),
    (h c _ (by decide)).trans (W12_main_arg3 m g c), (h c _ (by decide)).trans (W12_main_arg4 m g c), (h c _ (by decide)).trans (W12_main_arg5 m g c),
    (h c _ (by decide)).trans (W12_main_arg6 m g c), (h c _ (by decide)).trans (W12_main_arg7 m g c), (h c _ (by decide)).trans (W12_main_arg8 m g c),
    (h c _ (by decide)).trans (W12_main_arg9 m g c), (h c _ (by decide)).trans (W12_main_arg10 m g c), (h c _ (by decide)).trans (W12_main_arg11 m g c)⟩) (Lin.Ker.run m g)

end

/-- Where the arguments agree, the reference's twelve results are what the twelve calls leave. -/
theorem lin_results {m : (ℓ : Loc Cert.LinKernelIdeal.nD Cert.LinKernelIdeal.τ Cert.LinKernelIdeal.sig) → Buf (Elt Ideal) ℓ} {c : Dev Cert.LinKernelIdeal.nD}
    {V : Valuation Cert.LinReferenceIdeal.τ Cert.LinReferenceIdeal.sig (Elt Ideal)} {xo wo yo xm wm ym xc wc yc xa wa ya : ℕ → ℕ → EReal}
    (g : Dev Cert.LinKernelIdeal.nD → PrngReg) (A : Lin.Ker.Given m c xo wo yo xm wm ym xc wc yc xa wa ya) (B : Lin.Ref.Given V xo wo yo xm wm ym xc wc yc xa wa ya) :
    fin Lin.Ref.ops V Cert.LinReferenceIdeal.main_v32 = Cert.LinKernelIdeal.Gen.W12 m g c (Proc.devRef .tc Cert.LinKernelIdeal.main_v0)
    ∧ fin Lin.Ref.ops V Cert.LinReferenceIdeal.main_v33 = Cert.LinKernelIdeal.Gen.W12 m g c (Proc.devRef .tc Cert.LinKernelIdeal.main_v1)
    ∧ fin Lin.Ref.ops V Cert.LinReferenceIdeal.main_v34 = Cert.LinKernelIdeal.Gen.W12 m g c (Proc.devRef .tc Cert.LinKernelIdeal.main_v2)
    ∧ fin Lin.Ref.ops V Cert.LinReferenceIdeal.main_v35 = Cert.LinKernelIdeal.Gen.W12 m g c (Proc.devRef .tc Cert.LinKernelIdeal.main_v3)
    ∧ fin Lin.Ref.ops V Cert.LinReferenceIdeal.main_v13 = Cert.LinKernelIdeal.Gen.W12 m g c (Proc.devRef .tc Cert.LinKernelIdeal.main_v4)
    ∧ fin Lin.Ref.ops V Cert.LinReferenceIdeal.main_v36 = Cert.LinKernelIdeal.Gen.W12 m g c (Proc.devRef .tc Cert.LinKernelIdeal.main_v5)
    ∧ fin Lin.Ref.ops V Cert.LinReferenceIdeal.main_v16 = Cert.LinKernelIdeal.Gen.W12 m g c (Proc.devRef .tc Cert.LinKernelIdeal.main_v6)
    ∧ fin Lin.Ref.ops V Cert.LinReferenceIdeal.main_v37 = Cert.LinKernelIdeal.Gen.W12 m g c (Proc.devRef .tc Cert.LinKernelIdeal.main_v7)
    ∧ fin Lin.Ref.ops V Cert.LinReferenceIdeal.main_v38 = Cert.LinKernelIdeal.Gen.W12 m g c (Proc.devRef .tc Cert.LinKernelIdeal.main_v8)
    ∧ fin Lin.Ref.ops V Cert.LinReferenceIdeal.main_v23 = Cert.LinKernelIdeal.Gen.W12 m g c (Proc.devRef .tc Cert.LinKernelIdeal.main_v9)
    ∧ fin Lin.Ref.ops V Cert.LinReferenceIdeal.main_v39 = Cert.LinKernelIdeal.Gen.W12 m g c (Proc.devRef .tc Cert.LinKernelIdeal.main_v10)
    ∧ fin Lin.Ref.ops V Cert.LinReferenceIdeal.main_v26 = Cert.LinKernelIdeal.Gen.W12 m g c (Proc.devRef .tc Cert.LinKernelIdeal.main_v11) :=
  ⟨(Lin.Ref.xq_is B).eq (Lin.Ker.xq_end A g), (Lin.Ref.xq_dx_is B).eq (Lin.Ker.xq_dx_end A g), (Lin.Ref.xq_dw_is B).eq (Lin.Ker.xq_dw_end A g),
    (Lin.Ref.xkv_is B).eq (Lin.Ker.xkv_end A g), (Lin.Ref.xkv_dx_is B).eq (Lin.Ker.xkv_dx_end A g), (Lin.Ref.xkv_dw_is B).eq (Lin.Ker.xkv_dw_end A g),
    (Lin.Ref.c_in_is B).eq (Lin.Ker.c_in_end A g), (Lin.Ref.c_in_dx_is B).eq (Lin.Ker.c_in_dx_end A g), (Lin.Ref.c_in_dw_is B).eq (Lin.Ker.c_in_dw_end A g),
    (Lin.Ref.ab_in_is B).eq (Lin.Ker.ab_in_end A g), (Lin.Ref.ab_in_dx_is B).eq (Lin.Ker.ab_in_dx_end A g), (Lin.Ref.ab_in_dw_is B).eq (Lin.Ker.ab_in_dw_end A g)⟩

theorem lin_algebraic : algebraic_LinKernelIdeal_LinReferenceIdeal (hLinKernelIdeal := Cert.LinKernelIdeal.Gen.facts) (hLinReferenceIdeal := Cert.LinReferenceIdeal.Gen.facts) := by
  intro m g m' g' _ same
  refine ⟨fun c => Cert.LinKernelIdeal.Gen.W12 m g c (Proc.devRef .tc Cert.LinKernelIdeal.main_v0),
    fun c => Cert.LinKernelIdeal.Gen.W12 m g c (Proc.devRef .tc Cert.LinKernelIdeal.main_v1),
    fun c => Cert.LinKernelIdeal.Gen.W12 m g c (Proc.devRef .tc Cert.LinKernelIdeal.main_v2),
    fun c => Cert.LinKernelIdeal.Gen.W12 m g c (Proc.devRef .tc Cert.LinKernelIdeal.main_v3),
    fun c => Cert.LinKernelIdeal.Gen.W12 m g c (Proc.devRef .tc Cert.LinKernelIdeal.main_v4),
    fun c => Cert.LinKernelIdeal.Gen.W12 m g c (Proc.devRef .tc Cert.LinKernelIdeal.main_v5),
    fun c => Cert.LinKernelIdeal.Gen.W12 m g c (Proc.devRef .tc Cert.LinKernelIdeal.main_v6),
    fun c => Cert.LinKernelIdeal.Gen.W12 m g c (Proc.devRef .tc Cert.LinKernelIdeal.main_v7),
    fun c => Cert.LinKernelIdeal.Gen.W12 m g c (Proc.devRef .tc Cert.LinKernelIdeal.main_v8),
    fun c => Cert.LinKernelIdeal.Gen.W12 m g c (Proc.devRef .tc Cert.LinKernelIdeal.main_v9),
    fun c => Cert.LinKernelIdeal.Gen.W12 m g c (Proc.devRef .tc Cert.LinKernelIdeal.main_v10),
    fun c => Cert.LinKernelIdeal.Gen.W12 m g c (Proc.devRef .tc Cert.LinKernelIdeal.main_v11),
    lin_kernel_run m g, ?_⟩
  refine (θ_run _ _ _).mono (fun r h c => ?_) (Lin.Ref.run m' g')
  obtain ⟨s0, s1, s2, s3, s4, s5, s6, s7, s8, s9, s10, s11⟩ := same c
  obtain ⟨k0, k1, k2, k3, k4, k5, k6, k7, k8, k9, k10, k11⟩ := lin_results (m := m) (c := c) (V := launchContents m' c) g
    ⟨Lin.entries_is _, Lin.entries_is _, Lin.entries_is _, Lin.entries_is _, Lin.entries_is _, Lin.entries_is _,
      Lin.entries_is _, Lin.entries_is _, Lin.entries_is _, Lin.entries_is _, Lin.entries_is _, Lin.entries_is _⟩
    ⟨.of_eq s0 (Lin.entries_is _), .of_eq s1 (Lin.entries_is _), .of_eq s2 (Lin.entries_is _), .of_eq s3 (Lin.entries_is _),
      .of_eq s4 (Lin.entries_is _), .of_eq s5 (Lin.entries_is _), .of_eq s6 (Lin.entries_is _), .of_eq s7 (Lin.entries_is _),
      .of_eq s8 (Lin.entries_is _), .of_eq s9 (Lin.entries_is _), .of_eq s10 (Lin.entries_is _), .of_eq s11 (Lin.entries_is _)⟩
  exact ⟨(h c _).trans k0, (h c _).trans k1, (h c _).trans k2, (h c _).trans k3, (h c _).trans k4, (h c _).trans k5,
    (h c _).trans k6, (h c _).trans k7, (h c _).trans k8, (h c _).trans k9, (h c _).trans k10, (h c _).trans k11, lin_reference_args h c⟩

/-! ## The AdamW steps -/

section
open Cert.OptReferenceIdeal

/-- At the end of the steps' reference the arguments are what they were. -/
theorem opt_reference_args {m : (ℓ : Loc nD τ sig) → Buf (Elt Ideal) ℓ} {r : PUnit × MemSt nD τ sig (Elt Ideal)}
    (h : ∀ (d : Dev nD) (b : Ref sig .tc), r.2.mem ((d.tc : Thread nD τ).loc b) = fin Opt.Ref.ops (launchContents m d) b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23) :=
  ⟨(h c _).trans (Opt.Ref.e_arg _ 0 rfl), (h c _).trans (Opt.Ref.e_arg _ 1 rfl), (h c _).trans (Opt.Ref.e_arg _ 2 rfl),
    (h c _).trans (Opt.Ref.e_arg _ 3 rfl), (h c _).trans (Opt.Ref.e_arg _ 4 rfl), (h c _).trans (Opt.Ref.e_arg _ 5 rfl),
    (h c _).trans (Opt.Ref.e_arg _ 6 rfl), (h c _).trans (Opt.Ref.e_arg _ 7 rfl), (h c _).trans (Opt.Ref.e_arg _ 8 rfl),
    (h c _).trans (Opt.Ref.e_arg _ 9 rfl), (h c _).trans (Opt.Ref.e_arg _ 10 rfl), (h c _).trans (Opt.Ref.e_arg _ 11 rfl),
    (h c _).trans (Opt.Ref.e_arg _ 12 rfl), (h c _).trans (Opt.Ref.e_arg _ 13 rfl), (h c _).trans (Opt.Ref.e_arg _ 14 rfl),
    (h c _).trans (Opt.Ref.e_arg _ 15 rfl), (h c _).trans (Opt.Ref.e_arg _ 16 rfl), (h c _).trans (Opt.Ref.e_arg _ 17 rfl),
    (h c _).trans (Opt.Ref.e_arg _ 18 rfl), (h c _).trans (Opt.Ref.e_arg _ 19 rfl), (h c _).trans (Opt.Ref.e_arg _ 20 rfl),
    (h c _).trans (Opt.Ref.e_arg _ 21 rfl), (h c _).trans (Opt.Ref.e_arg _ 22 rfl), (h c _).trans (Opt.Ref.e_arg _ 23 rfl)⟩

end

/-- Where the arguments agree, the six calls' eighteen results are the reference's. -/
theorem opt_algebraic : algebraic_OptKernelIdeal_OptReferenceIdeal (hOptKernelIdeal := Cert.OptKernelIdeal.Gen.facts) (hOptReferenceIdeal := Cert.OptReferenceIdeal.Gen.facts) := by
  intro m g m' g' _ same
  refine ⟨fun c => Cert.OptKernelIdeal.Gen.W6 m g c (Proc.devRef .tc Cert.OptKernelIdeal.main_v0_0),
    fun c => Cert.OptKernelIdeal.Gen.W6 m g c (Proc.devRef .tc Cert.OptKernelIdeal.main_v0_1),
    fun c => Cert.OptKernelIdeal.Gen.W6 m g c (Proc.devRef .tc Cert.OptKernelIdeal.main_v0_2),
    fun c => Cert.OptKernelIdeal.Gen.W6 m g c (Proc.devRef .tc Cert.OptKernelIdeal.main_v1_0),
    fun c => Cert.OptKernelIdeal.Gen.W6 m g c (Proc.devRef .tc Cert.OptKernelIdeal.main_v1_1),
    fun c => Cert.OptKernelIdeal.Gen.W6 m g c (Proc.devRef .tc Cert.OptKernelIdeal.main_v1_2),
    fun c => Cert.OptKernelIdeal.Gen.W6 m g c (Proc.devRef .tc Cert.OptKernelIdeal.main_v2_0),
    fun c => Cert.OptKernelIdeal.Gen.W6 m g c (Proc.devRef .tc Cert.OptKernelIdeal.main_v2_1),
    fun c => Cert.OptKernelIdeal.Gen.W6 m g c (Proc.devRef .tc Cert.OptKernelIdeal.main_v2_2),
    fun c => Cert.OptKernelIdeal.Gen.W6 m g c (Proc.devRef .tc Cert.OptKernelIdeal.main_v3_0),
    fun c => Cert.OptKernelIdeal.Gen.W6 m g c (Proc.devRef .tc Cert.OptKernelIdeal.main_v3_1),
    fun c => Cert.OptKernelIdeal.Gen.W6 m g c (Proc.devRef .tc Cert.OptKernelIdeal.main_v3_2),
    fun c => Cert.OptKernelIdeal.Gen.W6 m g c (Proc.devRef .tc Cert.OptKernelIdeal.main_v4_0),
    fun c => Cert.OptKernelIdeal.Gen.W6 m g c (Proc.devRef .tc Cert.OptKernelIdeal.main_v4_1),
    fun c => Cert.OptKernelIdeal.Gen.W6 m g c (Proc.devRef .tc Cert.OptKernelIdeal.main_v4_2),
    fun c => Cert.OptKernelIdeal.Gen.W6 m g c (Proc.devRef .tc Cert.OptKernelIdeal.main_v5_0),
    fun c => Cert.OptKernelIdeal.Gen.W6 m g c (Proc.devRef .tc Cert.OptKernelIdeal.main_v5_1),
    fun c => Cert.OptKernelIdeal.Gen.W6 m g c (Proc.devRef .tc Cert.OptKernelIdeal.main_v5_2),
    (θ_run _ _ _).mono (fun _ h c => ⟨
      h c _ (by decide), h c _ (by decide), h c _ (by decide), h c _ (by decide), h c _ (by decide), h c _ (by decide), h c _ (by decide),
      h c _ (by decide), h c _ (by decide), h c _ (by decide), h c _ (by decide), h c _ (by decide), h c _ (by decide), h c _ (by decide),
      h c _ (by decide), h c _ (by decide), h c _ (by decide), h c _ (by decide),
      (h c _ (by decide)).trans (Cert.OptKernelIdeal.Gen.W6_main_arg0 m g c), (h c _ (by decide)).trans (Cert.OptKernelIdeal.Gen.W6_main_arg1 m g c),
      (h c _ (by decide)).trans (Cert.OptKernelIdeal.Gen.W6_main_arg2 m g c), (h c _ (by decide)).trans (Cert.OptKernelIdeal.Gen.W6_main_arg3 m g c),
      (h c _ (by decide)).trans (Cert.OptKernelIdeal.Gen.W6_main_arg4 m g c), (h c _ (by decide)).trans (Cert.OptKernelIdeal.Gen.W6_main_arg5 m g c),
      (h c _ (by decide)).trans (Cert.OptKernelIdeal.Gen.W6_main_arg6 m g c), (h c _ (by decide)).trans (Cert.OptKernelIdeal.Gen.W6_main_arg7 m g c),
      (h c _ (by decide)).trans (Cert.OptKernelIdeal.Gen.W6_main_arg8 m g c), (h c _ (by decide)).trans (Cert.OptKernelIdeal.Gen.W6_main_arg9 m g c),
      (h c _ (by decide)).trans (Cert.OptKernelIdeal.Gen.W6_main_arg10 m g c),
      (h c _ (by decide)).trans (Cert.OptKernelIdeal.Gen.W6_main_arg11 m g c),
      (h c _ (by decide)).trans (Cert.OptKernelIdeal.Gen.W6_main_arg12 m g c),
      (h c _ (by decide)).trans (Cert.OptKernelIdeal.Gen.W6_main_arg13 m g c),
      (h c _ (by decide)).trans (Cert.OptKernelIdeal.Gen.W6_main_arg14 m g c),
      (h c _ (by decide)).trans (Cert.OptKernelIdeal.Gen.W6_main_arg15 m g c),
      (h c _ (by decide)).trans (Cert.OptKernelIdeal.Gen.W6_main_arg16 m g c),
      (h c _ (by decide)).trans (Cert.OptKernelIdeal.Gen.W6_main_arg17 m g c),
      (h c _ (by decide)).trans (Cert.OptKernelIdeal.Gen.W6_main_arg18 m g c),
      (h c _ (by decide)).trans (Cert.OptKernelIdeal.Gen.W6_main_arg19 m g c),
      (h c _ (by decide)).trans (Cert.OptKernelIdeal.Gen.W6_main_arg20 m g c),
      (h c _ (by decide)).trans (Cert.OptKernelIdeal.Gen.W6_main_arg21 m g c),
      (h c _ (by decide)).trans (Cert.OptKernelIdeal.Gen.W6_main_arg22 m g c), (h c _ (by decide)).trans (Cert.OptKernelIdeal.Gen.W6_main_arg23 m g c)⟩) (Opt.Ker.run m g), ?_⟩
  refine (θ_run _ _ _).mono (fun r h c => ?_) (Opt.Ref.run m' g')
  obtain ⟨s0, s1, s2, s3, s4, s5, s6, s7, s8, s9, s10, s11, s12, s13, s14, s15, s16, s17, s18, s19, s20, s21, s22, s23⟩ := same c
  obtain ⟨a0, b0, d0⟩ := Opt.Ref.xq_is (V := launchContents m' c) (.of_eq s0 (Lin.entries_is _)) (.of_eq s1 (Lin.entries_is _)) (.of_eq s2 (Lin.entries_is _)) (.of_eq s3 (Lin.entries_is _))
  obtain ⟨x0, y0, z0⟩ := Opt.Ker.xq_end m g c
  obtain ⟨a1, b1, d1⟩ := Opt.Ref.xkv_is (V := launchContents m' c) (.of_eq s4 (Lin.entries_is _)) (.of_eq s5 (Lin.entries_is _)) (.of_eq s6 (Lin.entries_is _)) (.of_eq s7 (Lin.entries_is _))
  obtain ⟨x1, y1, z1⟩ := Opt.Ker.xkv_end m g c
  obtain ⟨a2, b2, d2⟩ := Opt.Ref.gu_is (V := launchContents m' c) (.of_eq s8 (Lin.entries_is _)) (.of_eq s9 (Lin.entries_is _)) (.of_eq s10 (Lin.entries_is _)) (.of_eq s11 (Lin.entries_is _))
  obtain ⟨x2, y2, z2⟩ := Opt.Ker.gu_end m g c
  obtain ⟨a3, b3, d3⟩ := Opt.Ref.down_is (V := launchContents m' c) (.of_eq s12 (Lin.entries_is _)) (.of_eq s13 (Lin.entries_is _)) (.of_eq s14 (Lin.entries_is _)) (.of_eq s15 (Lin.entries_is _))
  obtain ⟨x3, y3, z3⟩ := Opt.Ker.down_end m g c
  obtain ⟨a4, b4, d4⟩ := Opt.Ref.out_is (V := launchContents m' c) (.of_eq s16 (Lin.entries_is _)) (.of_eq s17 (Lin.entries_is _)) (.of_eq s18 (Lin.entries_is _)) (.of_eq s19 (Lin.entries_is _))
  obtain ⟨x4, y4, z4⟩ := Opt.Ker.out_end m g c
  obtain ⟨a5, b5, d5⟩ := Opt.Ref.gate_is (V := launchContents m' c) (.of_eq s20 (Lin.entries_is _)) (.of_eq s21 (Lin.entries_is _)) (.of_eq s22 (Lin.entries_is _)) (.of_eq s23 (Lin.entries_is _))
  obtain ⟨x5, y5, z5⟩ := Opt.Ker.gate_end m g c
  exact ⟨(h c _).trans (a0.eq x0), (h c _).trans (b0.eq y0), (h c _).trans (d0.eq z0), (h c _).trans (a1.eq x1), (h c _).trans (b1.eq y1), (h c _).trans (d1.eq z1),
    (h c _).trans (a2.eq x2), (h c _).trans (b2.eq y2), (h c _).trans (d2.eq z2), (h c _).trans (a3.eq x3), (h c _).trans (b3.eq y3), (h c _).trans (d3.eq z3),
    (h c _).trans (a4.eq x4), (h c _).trans (b4.eq y4), (h c _).trans (d4.eq z4), (h c _).trans (a5.eq x5), (h c _).trans (b5.eq y5), (h c _).trans (d5.eq z5),
    opt_reference_args h c⟩

/-! ## The claim -/

theorem claim : Cert.Claim :=
  ⟨Cert.Kernel.Gen.facts, Cert.KernelIdeal.Gen.facts, Cert.ReferenceIdeal.Gen.facts,
    Cert.FfnKernel.Gen.facts, Cert.FfnKernelIdeal.Gen.facts, Cert.FfnReferenceIdeal.Gen.facts,
    Cert.LinKernel.Gen.facts, Cert.LinKernelIdeal.Gen.facts, Cert.LinReferenceIdeal.Gen.facts,
    Cert.OptKernel.Gen.facts, Cert.OptKernelIdeal.Gen.facts, Cert.OptReferenceIdeal.Gen.facts, finiteFacts, Ffn.finiteFacts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    fun m g _ => Cert.FfnKernel.Gen.frame m g,
    fun m g _ => Cert.FfnKernelIdeal.Gen.frame m g,
    fun m g _ => Cert.FfnKernelIdeal.Gen.frame m g,
    fun m g _ => ffn_reference_frame m g,
    fun m g _ => ffn_reference_frame m g,
    fun m g _ => Cert.LinKernel.Gen.frame m g,
    fun m g _ => Cert.LinKernelIdeal.Gen.frame m g,
    fun m g _ => lin_reference_frame m g,
    fun m g _ => Cert.OptKernel.Gen.frame m g,
    fun m g _ => Cert.OptKernelIdeal.Gen.frame m g,
    fun m g _ => (θ_run _ _ _).mono (fun r h => ⟨opt_reference_args h, sem_eq_zero_of_no_sems rfl r.2⟩) (Opt.Ref.run m g),
    IdealRules.named_const.statement Cert.KernelIdeal.κ "mask" .f32 0xF149F2CA#32 _ rfl,
    algebraic, trivial, ffn_algebraic, trivial, lin_algebraic, trivial, opt_algebraic⟩

end Cert.Proof

end
